-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Kernel8Ideal_tame [hPre_tame : Cert.Pre_tame.Facts] (m : (ℓ : Loc Cert.Kernel8Ideal.nD Cert.Kernel8Ideal.τ Cert.Kernel8Ideal.sig) → Buf (Elt Ideal) ℓ) : Prop :=
  ∀ c : Dev Cert.Kernel8Ideal.nD,
    (Cert.Pre_tame.fn (F := Ideal) (m ((c.tc : Thread Cert.Kernel8Ideal.nD Cert.Kernel8Ideal.τ).loc Cert.Kernel8Ideal.main_arg0)) (m ((c.tc : Thread Cert.Kernel8Ideal.nD Cert.Kernel8Ideal.τ).loc Cert.Kernel8Ideal.main_arg1)) (m ((c.tc : Thread Cert.Kernel8Ideal.nD Cert.Kernel8Ideal.τ).loc Cert.Kernel8Ideal.main_arg2)) (m ((c.tc : Thread Cert.Kernel8Ideal.nD Cert.Kernel8Ideal.τ).loc Cert.Kernel8Ideal.main_arg3)) (m ((c.tc : Thread Cert.Kernel8Ideal.nD Cert.Kernel8Ideal.τ).loc Cert.Kernel8Ideal.main_arg4))) = (fun _ => 1#1)

def Pre_Reference8Ideal (m : (ℓ : Loc Cert.Reference8Ideal.nD Cert.Reference8Ideal.τ Cert.Reference8Ideal.sig) → Buf (Elt Ideal) ℓ) : Prop :=
  True

def Pre_Reference8Ideal_tame [hPre_tame : Cert.Pre_tame.Facts] (m : (ℓ : Loc Cert.Reference8Ideal.nD Cert.Reference8Ideal.τ Cert.Reference8Ideal.sig) → Buf (Elt Ideal) ℓ) : Prop :=
  ∀ c : Dev Cert.Reference8Ideal.nD,
    (Cert.Pre_tame.fn (F := Ideal) (m ((c.tc : Thread Cert.Reference8Ideal.nD Cert.Reference8Ideal.τ).loc Cert.Reference8Ideal.main_arg0)) (m ((c.tc : Thread Cert.Reference8Ideal.nD Cert.Reference8Ideal.τ).loc Cert.Reference8Ideal.main_arg1)) (m ((c.tc : Thread Cert.Reference8Ideal.nD Cert.Reference8Ideal.τ).loc Cert.Reference8Ideal.main_arg2)) (m ((c.tc : Thread Cert.Reference8Ideal.nD Cert.Reference8Ideal.τ).loc Cert.Reference8Ideal.main_arg3)) (m ((c.tc : Thread Cert.Reference8Ideal.nD Cert.Reference8Ideal.τ).loc Cert.Reference8Ideal.main_arg4))) = (fun _ => 1#1)

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Kernel7Ideal_plain [hPre_plain : Cert.Pre_plain.Facts] (m : (ℓ : Loc Cert.Kernel7Ideal.nD Cert.Kernel7Ideal.τ Cert.Kernel7Ideal.sig) → Buf (Elt Ideal) ℓ) : Prop :=
  ∀ c : Dev Cert.Kernel7Ideal.nD,
    (Cert.Pre_plain.fn (F := Ideal) (m ((c.tc : Thread Cert.Kernel7Ideal.nD Cert.Kernel7Ideal.τ).loc Cert.Kernel7Ideal.main_arg0)) (m ((c.tc : Thread Cert.Kernel7Ideal.nD Cert.Kernel7Ideal.τ).loc Cert.Kernel7Ideal.main_arg1)) (m ((c.tc : Thread Cert.Kernel7Ideal.nD Cert.Kernel7Ideal.τ).loc Cert.Kernel7Ideal.main_arg2)) (m ((c.tc : Thread Cert.Kernel7Ideal.nD Cert.Kernel7Ideal.τ).loc Cert.Kernel7Ideal.main_arg3)) (m ((c.tc : Thread Cert.Kernel7Ideal.nD Cert.Kernel7Ideal.τ).loc Cert.Kernel7Ideal.main_arg4)) (m ((c.tc : Thread Cert.Kernel7Ideal.nD Cert.Kernel7Ideal.τ).loc Cert.Kernel7Ideal.main_arg5)) (m ((c.tc : Thread Cert.Kernel7Ideal.nD Cert.Kernel7Ideal.τ).loc Cert.Kernel7Ideal.main_arg6)) (m ((c.tc : Thread Cert.Kernel7Ideal.nD Cert.Kernel7Ideal.τ).loc Cert.Kernel7Ideal.main_arg7)) (m ((c.tc : Thread Cert.Kernel7Ideal.nD Cert.Kernel7Ideal.τ).loc Cert.Kernel7Ideal.main_arg8)) (m ((c.tc : Thread Cert.Kernel7Ideal.nD Cert.Kernel7Ideal.τ).loc Cert.Kernel7Ideal.main_arg9)) (m ((c.tc : Thread Cert.Kernel7Ideal.nD Cert.Kernel7Ideal.τ).loc Cert.Kernel7Ideal.main_arg10)) (m ((c.tc : Thread Cert.Kernel7Ideal.nD Cert.Kernel7Ideal.τ).loc Cert.Kernel7Ideal.main_arg11))) = (fun _ => 1#1)

def Pre_Reference7Ideal (m : (ℓ : Loc Cert.Reference7Ideal.nD Cert.Reference7Ideal.τ Cert.Reference7Ideal.sig) → Buf (Elt Ideal) ℓ) : Prop :=
  True

def Pre_Reference7Ideal_plain [hPre_plain : Cert.Pre_plain.Facts] (m : (ℓ : Loc Cert.Reference7Ideal.nD Cert.Reference7Ideal.τ Cert.Reference7Ideal.sig) → Buf (Elt Ideal) ℓ) : Prop :=
  ∀ c : Dev Cert.Reference7Ideal.nD,
    (Cert.Pre_plain.fn (F := Ideal) (m ((c.tc : Thread Cert.Reference7Ideal.nD Cert.Reference7Ideal.τ).loc Cert.Reference7Ideal.main_arg0)) (m ((c.tc : Thread Cert.Reference7Ideal.nD Cert.Reference7Ideal.τ).loc Cert.Reference7Ideal.main_arg1)) (m ((c.tc : Thread Cert.Reference7Ideal.nD Cert.Reference7Ideal.τ).loc Cert.Reference7Ideal.main_arg2)) (m ((c.tc : Thread Cert.Reference7Ideal.nD Cert.Reference7Ideal.τ).loc Cert.Reference7Ideal.main_arg3)) (m ((c.tc : Thread Cert.Reference7Ideal.nD Cert.Reference7Ideal.τ).loc Cert.Reference7Ideal.main_arg4)) (m ((c.tc : Thread Cert.Reference7Ideal.nD Cert.Reference7Ideal.τ).loc Cert.Reference7Ideal.main_arg5)) (m ((c.tc : Thread Cert.Reference7Ideal.nD Cert.Reference7Ideal.τ).loc Cert.Reference7Ideal.main_arg6)) (m ((c.tc : Thread Cert.Reference7Ideal.nD Cert.Reference7Ideal.τ).loc Cert.Reference7Ideal.main_arg7)) (m ((c.tc : Thread Cert.Reference7Ideal.nD Cert.Reference7Ideal.τ).loc Cert.Reference7Ideal.main_arg8)) (m ((c.tc : Thread Cert.Reference7Ideal.nD Cert.Reference7Ideal.τ).loc Cert.Reference7Ideal.main_arg9)) (m ((c.tc : Thread Cert.Reference7Ideal.nD Cert.Reference7Ideal.τ).loc Cert.Reference7Ideal.main_arg10)) (m ((c.tc : Thread Cert.Reference7Ideal.nD Cert.Reference7Ideal.τ).loc Cert.Reference7Ideal.main_arg11))) = (fun _ => 1#1)

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Kernel5Ideal_smooth [hPre_smooth : Cert.Pre_smooth.Facts] (m : (ℓ : Loc Cert.Kernel5Ideal.nD Cert.Kernel5Ideal.τ Cert.Kernel5Ideal.sig) → Buf (Elt Ideal) ℓ) : Prop :=
  ∀ c : Dev Cert.Kernel5Ideal.nD,
    (Cert.Pre_smooth.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4))) = (fun _ => 1#1)

def Pre_Reference5Ideal (m : (ℓ : Loc Cert.Reference5Ideal.nD Cert.Reference5Ideal.τ Cert.Reference5Ideal.sig) → Buf (Elt Ideal) ℓ) : Prop :=
  True

def Pre_Reference5Ideal_smooth [hPre_smooth : Cert.Pre_smooth.Facts] (m : (ℓ : Loc Cert.Reference5Ideal.nD Cert.Reference5Ideal.τ Cert.Reference5Ideal.sig) → Buf (Elt Ideal) ℓ) : Prop :=
  ∀ c : Dev Cert.Reference5Ideal.nD,
    (Cert.Pre_smooth.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4))) = (fun _ => 1#1)

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Kernel4Ideal_gated [hPre_gated : Cert.Pre_gated.Facts] (m : (ℓ : Loc Cert.Kernel4Ideal.nD Cert.Kernel4Ideal.τ Cert.Kernel4Ideal.sig) → Buf (Elt Ideal) ℓ) : Prop :=
  ∀ c : Dev Cert.Kernel4Ideal.nD,
    (Cert.Pre_gated.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5)) (m ((c.tc : Thread Cert.Kernel4Ideal.nD Cert.Kernel4Ideal.τ).loc Cert.Kernel4Ideal.main_arg6))) = (fun _ => 1#1)

def Pre_Reference4Ideal (m : (ℓ : Loc Cert.Reference4Ideal.nD Cert.Reference4Ideal.τ Cert.Reference4Ideal.sig) → Buf (Elt Ideal) ℓ) : Prop :=
  True

def Pre_Reference4Ideal_gated [hPre_gated : Cert.Pre_gated.Facts] (m : (ℓ : Loc Cert.Reference4Ideal.nD Cert.Reference4Ideal.τ Cert.Reference4Ideal.sig) → Buf (Elt Ideal) ℓ) : Prop :=
  ∀ c : Dev Cert.Reference4Ideal.nD,
    (Cert.Pre_gated.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5)) (m ((c.tc : Thread Cert.Reference4Ideal.nD Cert.Reference4Ideal.τ).loc Cert.Reference4Ideal.main_arg6))) = (fun _ => 1#1)

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Kernel6Ideal_settled [hPre_settled : Cert.Pre_settled.Facts] (m : (ℓ : Loc Cert.Kernel6Ideal.nD Cert.Kernel6Ideal.τ Cert.Kernel6Ideal.sig) → Buf (Elt Ideal) ℓ) : Prop :=
  ∀ c : Dev Cert.Kernel6Ideal.nD,
    (Cert.Pre_settled.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3)) (m ((c.tc : Thread Cert.Kernel6Ideal.nD Cert.Kernel6Ideal.τ).loc Cert.Kernel6Ideal.main_arg4)) (m ((c.tc : Thread Cert.Kernel6Ideal.nD Cert.Kernel6Ideal.τ).loc Cert.Kernel6Ideal.main_arg5)) (m ((c.tc : Thread Cert.Kernel6Ideal.nD Cert.Kernel6Ideal.τ).loc Cert.Kernel6Ideal.main_arg6)) (m ((c.tc : Thread Cert.Kernel6Ideal.nD Cert.Kernel6Ideal.τ).loc Cert.Kernel6Ideal.main_arg7)) (m ((c.tc : Thread Cert.Kernel6Ideal.nD Cert.Kernel6Ideal.τ).loc Cert.Kernel6Ideal.main_arg8)) (m ((c.tc : Thread Cert.Kernel6Ideal.nD Cert.Kernel6Ideal.τ).loc Cert.Kernel6Ideal.main_arg9)) (m ((c.tc : Thread Cert.Kernel6Ideal.nD Cert.Kernel6Ideal.τ).loc Cert.Kernel6Ideal.main_arg10)) (m ((c.tc : Thread Cert.Kernel6Ideal.nD Cert.Kernel6Ideal.τ).loc Cert.Kernel6Ideal.main_arg11))) = (fun _ => 1#1)

def Pre_Reference6Ideal (m : (ℓ : Loc Cert.Reference6Ideal.nD Cert.Reference6Ideal.τ Cert.Reference6Ideal.sig) → Buf (Elt Ideal) ℓ) : Prop :=
  True

def Pre_Reference6Ideal_settled [hPre_settled : Cert.Pre_settled.Facts] (m : (ℓ : Loc Cert.Reference6Ideal.nD Cert.Reference6Ideal.τ Cert.Reference6Ideal.sig) → Buf (Elt Ideal) ℓ) : Prop :=
  ∀ c : Dev Cert.Reference6Ideal.nD,
    (Cert.Pre_settled.fn (F := Ideal) (m ((c.tc : Thread Cert.Reference6Ideal.nD Cert.Reference6Ideal.τ).loc Cert.Reference6Ideal.main_arg0)) (m ((c.tc : Thread Cert.Reference6Ideal.nD Cert.Reference6Ideal.τ).loc Cert.Reference6Ideal.main_arg1)) (m ((c.tc : Thread Cert.Reference6Ideal.nD Cert.Reference6Ideal.τ).loc Cert.Reference6Ideal.main_arg2)) (m ((c.tc : Thread Cert.Reference6Ideal.nD Cert.Reference6Ideal.τ).loc Cert.Reference6Ideal.main_arg3)) (m ((c.tc : Thread Cert.Reference6Ideal.nD Cert.Reference6Ideal.τ).loc Cert.Reference6Ideal.main_arg4)) (m ((c.tc : Thread Cert.Reference6Ideal.nD Cert.Reference6Ideal.τ).loc Cert.Reference6Ideal.main_arg5)) (m ((c.tc : Thread Cert.Reference6Ideal.nD Cert.Reference6Ideal.τ).loc Cert.Reference6Ideal.main_arg6)) (m ((c.tc : Thread Cert.Reference6Ideal.nD Cert.Reference6Ideal.τ).loc Cert.Reference6Ideal.main_arg7)) (m ((c.tc : Thread Cert.Reference6Ideal.nD Cert.Reference6Ideal.τ).loc Cert.Reference6Ideal.main_arg8)) (m ((c.tc : Thread Cert.Reference6Ideal.nD Cert.Reference6Ideal.τ).loc Cert.Reference6Ideal.main_arg9)) (m ((c.tc : Thread Cert.Reference6Ideal.nD Cert.Reference6Ideal.τ).loc Cert.Reference6Ideal.main_arg10)) (m ((c.tc : Thread Cert.Reference6Ideal.nD Cert.Reference6Ideal.τ).loc Cert.Reference6Ideal.main_arg11))) = (fun _ => 1#1)

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Reference16Ideal (m : (ℓ : Loc Cert.Reference16Ideal.nD Cert.Reference16Ideal.τ Cert.Reference16Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2)
      ∧ r.2.mem ((c.tc : Thread Cert.Kernel9.nD Cert.Kernel9.τ).loc Cert.Kernel9.main_arg3) = m ((c.tc : Thread Cert.Kernel9.nD Cert.Kernel9.τ).loc Cert.Kernel9.main_arg3)
      ∧ r.2.mem ((c.tc : Thread Cert.Kernel9.nD Cert.Kernel9.τ).loc Cert.Kernel9.main_arg4) = m ((c.tc : Thread Cert.Kernel9.nD Cert.Kernel9.τ).loc Cert.Kernel9.main_arg4)
      ∧ r.2.mem ((c.tc : Thread Cert.Kernel9.nD Cert.Kernel9.τ).loc Cert.Kernel9.main_arg5) = m ((c.tc : Thread Cert.Kernel9.nD Cert.Kernel9.τ).loc Cert.Kernel9.main_arg5)
      ∧ r.2.mem ((c.tc : Thread Cert.Kernel9.nD Cert.Kernel9.τ).loc Cert.Kernel9.main_arg6) = m ((c.tc : Thread Cert.Kernel9.nD Cert.Kernel9.τ).loc Cert.Kernel9.main_arg6))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
      ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
      ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4)
      ∧ r.2.mem ((c.tc : Thread Cert.Kernel9Ideal.nD Cert.Kernel9Ideal.τ).loc Cert.Kernel9Ideal.main_arg5) = m ((c.tc : Thread Cert.Kernel9Ideal.nD Cert.Kernel9Ideal.τ).loc Cert.Kernel9Ideal.main_arg5)
      ∧ r.2.mem ((c.tc : Thread Cert.Kernel9Ideal.nD Cert.Kernel9Ideal.τ).loc Cert.Kernel9Ideal.main_arg6) = m ((c.tc : Thread Cert.Kernel9Ideal.nD Cert.Kernel9Ideal.τ).loc Cert.Kernel9Ideal.main_arg6))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2)
      ∧ r.2.mem ((c.tc : Thread Cert.Reference9Ideal.nD Cert.Reference9Ideal.τ).loc Cert.Reference9Ideal.main_arg3) = m ((c.tc : Thread Cert.Reference9Ideal.nD Cert.Reference9Ideal.τ).loc Cert.Reference9Ideal.main_arg3)
      ∧ r.2.mem ((c.tc : Thread Cert.Reference9Ideal.nD Cert.Reference9Ideal.τ).loc Cert.Reference9Ideal.main_arg4) = m ((c.tc : Thread Cert.Reference9Ideal.nD Cert.Reference9Ideal.τ).loc Cert.Reference9Ideal.main_arg4)
      ∧ r.2.mem ((c.tc : Thread Cert.Reference9Ideal.nD Cert.Reference9Ideal.τ).loc Cert.Reference9Ideal.main_arg5) = m ((c.tc : Thread Cert.Reference9Ideal.nD Cert.Reference9Ideal.τ).loc Cert.Reference9Ideal.main_arg5)
      ∧ r.2.mem ((c.tc : Thread Cert.Reference9Ideal.nD Cert.Reference9Ideal.τ).loc Cert.Reference9Ideal.main_arg6) = m ((c.tc : Thread Cert.Reference9Ideal.nD Cert.Reference9Ideal.τ).loc Cert.Reference9Ideal.main_arg6))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3)
      ∧ r.2.mem ((c.tc : Thread Cert.Kernel8.nD Cert.Kernel8.τ).loc Cert.Kernel8.main_arg4) = m ((c.tc : Thread Cert.Kernel8.nD Cert.Kernel8.τ).loc Cert.Kernel8.main_arg4))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
      ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4))
      ∧ r.2.sem = fun _ => 0)

def quiescent_Kernel8Ideal_pre_tame [hKernel8Ideal : Cert.Kernel8Ideal.Facts] [hPre_tame : Cert.Pre_tame.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal_tame m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
      ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3)
      ∧ r.2.mem ((c.tc : Thread Cert.Reference8Ideal.nD Cert.Reference8Ideal.τ).loc Cert.Reference8Ideal.main_arg4) = m ((c.tc : Thread Cert.Reference8Ideal.nD Cert.Reference8Ideal.τ).loc Cert.Reference8Ideal.main_arg4))
      ∧ r.2.sem = fun _ => 0)

def quiescent_Reference8Ideal_pre_tame [hReference8Ideal : Cert.Reference8Ideal.Facts] [hPre_tame : Cert.Pre_tame.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal_tame m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3)
      ∧ r.2.mem ((c.tc : Thread Cert.Reference8Ideal.nD Cert.Reference8Ideal.τ).loc Cert.Reference8Ideal.main_arg4) = m ((c.tc : Thread Cert.Reference8Ideal.nD Cert.Reference8Ideal.τ).loc Cert.Reference8Ideal.main_arg4))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3)
      ∧ r.2.mem ((c.tc : Thread Cert.Kernel7.nD Cert.Kernel7.τ).loc Cert.Kernel7.main_arg4) = m ((c.tc : Thread Cert.Kernel7.nD Cert.Kernel7.τ).loc Cert.Kernel7.main_arg4)
      ∧ r.2.mem ((c.tc : Thread Cert.Kernel7.nD Cert.Kernel7.τ).loc Cert.Kernel7.main_arg5) = m ((c.tc : Thread Cert.Kernel7.nD Cert.Kernel7.τ).loc Cert.Kernel7.main_arg5)
      ∧ r.2.mem ((c.tc : Thread Cert.Kernel7.nD Cert.Kernel7.τ).loc Cert.Kernel7.main_arg6) = m ((c.tc : Thread Cert.Kernel7.nD Cert.Kernel7.τ).loc Cert.Kernel7.main_arg6)
      ∧ r.2.mem ((c.tc : Thread Cert.Kernel7.nD Cert.Kernel7.τ).loc Cert.Kernel7.main_arg7) = m ((c.tc : Thread Cert.Kernel7.nD Cert.Kernel7.τ).loc Cert.Kernel7.main_arg7)
      ∧ r.2.mem ((c.tc : Thread Cert.Kernel7.nD Cert.Kernel7.τ).loc Cert.Kernel7.main_arg8) = m ((c.tc : Thread Cert.Kernel7.nD Cert.Kernel7.τ).loc Cert.Kernel7.main_arg8)
      ∧ r.2.mem ((c.tc : Thread Cert.Kernel7.nD Cert.Kernel7.τ).loc Cert.Kernel7.main_arg9) = m ((c.tc : Thread Cert.Kernel7.nD Cert.Kernel7.τ).loc Cert.Kernel7.main_arg9)
      ∧ r.2.mem ((c.tc : Thread Cert.Kernel7.nD Cert.Kernel7.τ).loc Cert.Kernel7.main_arg10) = m ((c.tc : Thread Cert.Kernel7.nD Cert.Kernel7.τ).loc Cert.Kernel7.main_arg10)
      ∧ r.2.mem ((c.tc : Thread Cert.Kernel7.nD Cert.Kernel7.τ).loc Cert.Kernel7.main_arg11) = m ((c.tc : Thread Cert.Kernel7.nD Cert.Kernel7.τ).loc Cert.Kernel7.main_arg11))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
      ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
      ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6)
      ∧ r.2.mem ((c.tc : Thread Cert.Kernel7Ideal.nD Cert.Kernel7Ideal.τ).loc Cert.Kernel7Ideal.main_arg7) = m ((c.tc : Thread Cert.Kernel7Ideal.nD Cert.Kernel7Ideal.τ).loc Cert.Kernel7Ideal.main_arg7)
      ∧ r.2.mem ((c.tc : Thread Cert.Kernel7Ideal.nD Cert.Kernel7Ideal.τ).loc Cert.Kernel7Ideal.main_arg8) = m ((c.tc : Thread Cert.Kernel7Ideal.nD Cert.Kernel7Ideal.τ).loc Cert.Kernel7Ideal.main_arg8)
      ∧ r.2.mem ((c.tc : Thread Cert.Kernel7Ideal.nD Cert.Kernel7Ideal.τ).loc Cert.Kernel7Ideal.main_arg9) = m ((c.tc : Thread Cert.Kernel7Ideal.nD Cert.Kernel7Ideal.τ).loc Cert.Kernel7Ideal.main_arg9)
      ∧ r.2.mem ((c.tc : Thread Cert.Kernel7Ideal.nD Cert.Kernel7Ideal.τ).loc Cert.Kernel7Ideal.main_arg10) = m ((c.tc : Thread Cert.Kernel7Ideal.nD Cert.Kernel7Ideal.τ).loc Cert.Kernel7Ideal.main_arg10)
      ∧ r.2.mem ((c.tc : Thread Cert.Kernel7Ideal.nD Cert.Kernel7Ideal.τ).loc Cert.Kernel7Ideal.main_arg11) = m ((c.tc : Thread Cert.Kernel7Ideal.nD Cert.Kernel7Ideal.τ).loc Cert.Kernel7Ideal.main_arg11))
      ∧ r.2.sem = fun _ => 0)

def quiescent_Kernel7Ideal_pre_plain [hKernel7Ideal : Cert.Kernel7Ideal.Facts] [hPre_plain : Cert.Pre_plain.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal_plain m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
      ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
      ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6)
      ∧ r.2.mem ((c.tc : Thread Cert.Kernel7Ideal.nD Cert.Kernel7Ideal.τ).loc Cert.Kernel7Ideal.main_arg7) = m ((c.tc : Thread Cert.Kernel7Ideal.nD Cert.Kernel7Ideal.τ).loc Cert.Kernel7Ideal.main_arg7)
      ∧ r.2.mem ((c.tc : Thread Cert.Kernel7Ideal.nD Cert.Kernel7Ideal.τ).loc Cert.Kernel7Ideal.main_arg8) = m ((c.tc : Thread Cert.Kernel7Ideal.nD Cert.Kernel7Ideal.τ).loc Cert.Kernel7Ideal.main_arg8)
      ∧ r.2.mem ((c.tc : Thread Cert.Kernel7Ideal.nD Cert.Kernel7Ideal.τ).loc Cert.Kernel7Ideal.main_arg9) = m ((c.tc : Thread Cert.Kernel7Ideal.nD Cert.Kernel7Ideal.τ).loc Cert.Kernel7Ideal.main_arg9)
      ∧ r.2.mem ((c.tc : Thread Cert.Kernel7Ideal.nD Cert.Kernel7Ideal.τ).loc Cert.Kernel7Ideal.main_arg10) = m ((c.tc : Thread Cert.Kernel7Ideal.nD Cert.Kernel7Ideal.τ).loc Cert.Kernel7Ideal.main_arg10)
      ∧ r.2.mem ((c.tc : Thread Cert.Kernel7Ideal.nD Cert.Kernel7Ideal.τ).loc Cert.Kernel7Ideal.main_arg11) = m ((c.tc : Thread Cert.Kernel7Ideal.nD Cert.Kernel7Ideal.τ).loc Cert.Kernel7Ideal.main_arg11))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4)
      ∧ r.2.mem ((c.tc : Thread Cert.Reference7Ideal.nD Cert.Reference7Ideal.τ).loc Cert.Reference7Ideal.main_arg5) = m ((c.tc : Thread Cert.Reference7Ideal.nD Cert.Reference7Ideal.τ).loc Cert.Reference7Ideal.main_arg5)
      ∧ r.2.mem ((c.tc : Thread Cert.Reference7Ideal.nD Cert.Reference7Ideal.τ).loc Cert.Reference7Ideal.main_arg6) = m ((c.tc : Thread Cert.Reference7Ideal.nD Cert.Reference7Ideal.τ).loc Cert.Reference7Ideal.main_arg6)
      ∧ r.2.mem ((c.tc : Thread Cert.Reference7Ideal.nD Cert.Reference7Ideal.τ).loc Cert.Reference7Ideal.main_arg7) = m ((c.tc : Thread Cert.Reference7Ideal.nD Cert.Reference7Ideal.τ).loc Cert.Reference7Ideal.main_arg7)
      ∧ r.2.mem ((c.tc : Thread Cert.Reference7Ideal.nD Cert.Reference7Ideal.τ).loc Cert.Reference7Ideal.main_arg8) = m ((c.tc : Thread Cert.Reference7Ideal.nD Cert.Reference7Ideal.τ).loc Cert.Reference7Ideal.main_arg8)
      ∧ r.2.mem ((c.tc : Thread Cert.Reference7Ideal.nD Cert.Reference7Ideal.τ).loc Cert.Reference7Ideal.main_arg9) = m ((c.tc : Thread Cert.Reference7Ideal.nD Cert.Reference7Ideal.τ).loc Cert.Reference7Ideal.main_arg9)
      ∧ r.2.mem ((c.tc : Thread Cert.Reference7Ideal.nD Cert.Reference7Ideal.τ).loc Cert.Reference7Ideal.main_arg10) = m ((c.tc : Thread Cert.Reference7Ideal.nD Cert.Reference7Ideal.τ).loc Cert.Reference7Ideal.main_arg10)
      ∧ r.2.mem ((c.tc : Thread Cert.Reference7Ideal.nD Cert.Reference7Ideal.τ).loc Cert.Reference7Ideal.main_arg11) = m ((c.tc : Thread Cert.Reference7Ideal.nD Cert.Reference7Ideal.τ).loc Cert.Reference7Ideal.main_arg11))
      ∧ r.2.sem = fun _ => 0)

def quiescent_Reference7Ideal_pre_plain [hReference7Ideal : Cert.Reference7Ideal.Facts] [hPre_plain : Cert.Pre_plain.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal_plain m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4)
      ∧ r.2.mem ((c.tc : Thread Cert.Reference7Ideal.nD Cert.Reference7Ideal.τ).loc Cert.Reference7Ideal.main_arg5) = m ((c.tc : Thread Cert.Reference7Ideal.nD Cert.Reference7Ideal.τ).loc Cert.Reference7Ideal.main_arg5)
      ∧ r.2.mem ((c.tc : Thread Cert.Reference7Ideal.nD Cert.Reference7Ideal.τ).loc Cert.Reference7Ideal.main_arg6) = m ((c.tc : Thread Cert.Reference7Ideal.nD Cert.Reference7Ideal.τ).loc Cert.Reference7Ideal.main_arg6)
      ∧ r.2.mem ((c.tc : Thread Cert.Reference7Ideal.nD Cert.Reference7Ideal.τ).loc Cert.Reference7Ideal.main_arg7) = m ((c.tc : Thread Cert.Reference7Ideal.nD Cert.Reference7Ideal.τ).loc Cert.Reference7Ideal.main_arg7)
      ∧ r.2.mem ((c.tc : Thread Cert.Reference7Ideal.nD Cert.Reference7Ideal.τ).loc Cert.Reference7Ideal.main_arg8) = m ((c.tc : Thread Cert.Reference7Ideal.nD Cert.Reference7Ideal.τ).loc Cert.Reference7Ideal.main_arg8)
      ∧ r.2.mem ((c.tc : Thread Cert.Reference7Ideal.nD Cert.Reference7Ideal.τ).loc Cert.Reference7Ideal.main_arg9) = m ((c.tc : Thread Cert.Reference7Ideal.nD Cert.Reference7Ideal.τ).loc Cert.Reference7Ideal.main_arg9)
      ∧ r.2.mem ((c.tc : Thread Cert.Reference7Ideal.nD Cert.Reference7Ideal.τ).loc Cert.Reference7Ideal.main_arg10) = m ((c.tc : Thread Cert.Reference7Ideal.nD Cert.Reference7Ideal.τ).loc Cert.Reference7Ideal.main_arg10)
      ∧ r.2.mem ((c.tc : Thread Cert.Reference7Ideal.nD Cert.Reference7Ideal.τ).loc Cert.Reference7Ideal.main_arg11) = m ((c.tc : Thread Cert.Reference7Ideal.nD Cert.Reference7Ideal.τ).loc Cert.Reference7Ideal.main_arg11))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ r.2.sem = fun _ => 0)

def quiescent_Kernel5Ideal_pre_smooth [hKernel5Ideal : Cert.Kernel5Ideal.Facts] [hPre_smooth : Cert.Pre_smooth.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal_smooth m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4))
      ∧ r.2.sem = fun _ => 0)

def quiescent_Reference5Ideal_pre_smooth [hReference5Ideal : Cert.Reference5Ideal.Facts] [hPre_smooth : Cert.Pre_smooth.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal_smooth m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1)
      ∧ r.2.mem ((c.tc : Thread Cert.Kernel12.nD Cert.Kernel12.τ).loc Cert.Kernel12.main_arg2) = m ((c.tc : Thread Cert.Kernel12.nD Cert.Kernel12.τ).loc Cert.Kernel12.main_arg2))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
      ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1)
      ∧ r.2.mem ((c.tc : Thread Cert.Kernel13.nD Cert.Kernel13.τ).loc Cert.Kernel13.main_arg2) = m ((c.tc : Thread Cert.Kernel13.nD Cert.Kernel13.τ).loc Cert.Kernel13.main_arg2)
      ∧ r.2.mem ((c.tc : Thread Cert.Kernel13.nD Cert.Kernel13.τ).loc Cert.Kernel13.main_arg3) = m ((c.tc : Thread Cert.Kernel13.nD Cert.Kernel13.τ).loc Cert.Kernel13.main_arg3)
      ∧ r.2.mem ((c.tc : Thread Cert.Kernel13.nD Cert.Kernel13.τ).loc Cert.Kernel13.main_arg4) = m ((c.tc : Thread Cert.Kernel13.nD Cert.Kernel13.τ).loc Cert.Kernel13.main_arg4))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
      ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
      ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3)
      ∧ r.2.mem ((c.tc : Thread Cert.Kernel13Ideal.nD Cert.Kernel13Ideal.τ).loc Cert.Kernel13Ideal.main_arg4) = m ((c.tc : Thread Cert.Kernel13Ideal.nD Cert.Kernel13Ideal.τ).loc Cert.Kernel13Ideal.main_arg4))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1)
      ∧ r.2.mem ((c.tc : Thread Cert.Reference13Ideal.nD Cert.Reference13Ideal.τ).loc Cert.Reference13Ideal.main_arg2) = m ((c.tc : Thread Cert.Reference13Ideal.nD Cert.Reference13Ideal.τ).loc Cert.Reference13Ideal.main_arg2)
      ∧ r.2.mem ((c.tc : Thread Cert.Reference13Ideal.nD Cert.Reference13Ideal.τ).loc Cert.Reference13Ideal.main_arg3) = m ((c.tc : Thread Cert.Reference13Ideal.nD Cert.Reference13Ideal.τ).loc Cert.Reference13Ideal.main_arg3)
      ∧ r.2.mem ((c.tc : Thread Cert.Reference13Ideal.nD Cert.Reference13Ideal.τ).loc Cert.Reference13Ideal.main_arg4) = m ((c.tc : Thread Cert.Reference13Ideal.nD Cert.Reference13Ideal.τ).loc Cert.Reference13Ideal.main_arg4))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6))
      ∧ r.2.sem = fun _ => 0)

def quiescent_Kernel4Ideal_pre_gated [hKernel4Ideal : Cert.Kernel4Ideal.Facts] [hPre_gated : Cert.Pre_gated.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal_gated m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6))
      ∧ r.2.sem = fun _ => 0)

def quiescent_Reference4Ideal_pre_gated [hReference4Ideal : Cert.Reference4Ideal.Facts] [hPre_gated : Cert.Pre_gated.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal_gated m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4)
      ∧ r.2.mem ((c.tc : Thread Cert.Kernel6.nD Cert.Kernel6.τ).loc Cert.Kernel6.main_arg5) = m ((c.tc : Thread Cert.Kernel6.nD Cert.Kernel6.τ).loc Cert.Kernel6.main_arg5)
      ∧ r.2.mem ((c.tc : Thread Cert.Kernel6.nD Cert.Kernel6.τ).loc Cert.Kernel6.main_arg6) = m ((c.tc : Thread Cert.Kernel6.nD Cert.Kernel6.τ).loc Cert.Kernel6.main_arg6)
      ∧ r.2.mem ((c.tc : Thread Cert.Kernel6.nD Cert.Kernel6.τ).loc Cert.Kernel6.main_arg7) = m ((c.tc : Thread Cert.Kernel6.nD Cert.Kernel6.τ).loc Cert.Kernel6.main_arg7)
      ∧ r.2.mem ((c.tc : Thread Cert.Kernel6.nD Cert.Kernel6.τ).loc Cert.Kernel6.main_arg8) = m ((c.tc : Thread Cert.Kernel6.nD Cert.Kernel6.τ).loc Cert.Kernel6.main_arg8)
      ∧ r.2.mem ((c.tc : Thread Cert.Kernel6.nD Cert.Kernel6.τ).loc Cert.Kernel6.main_arg9) = m ((c.tc : Thread Cert.Kernel6.nD Cert.Kernel6.τ).loc Cert.Kernel6.main_arg9)
      ∧ r.2.mem ((c.tc : Thread Cert.Kernel6.nD Cert.Kernel6.τ).loc Cert.Kernel6.main_arg10) = m ((c.tc : Thread Cert.Kernel6.nD Cert.Kernel6.τ).loc Cert.Kernel6.main_arg10)
      ∧ r.2.mem ((c.tc : Thread Cert.Kernel6.nD Cert.Kernel6.τ).loc Cert.Kernel6.main_arg11) = m ((c.tc : Thread Cert.Kernel6.nD Cert.Kernel6.τ).loc Cert.Kernel6.main_arg11))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
      ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6)
      ∧ r.2.mem ((c.tc : Thread Cert.Kernel6Ideal.nD Cert.Kernel6Ideal.τ).loc Cert.Kernel6Ideal.main_arg7) = m ((c.tc : Thread Cert.Kernel6Ideal.nD Cert.Kernel6Ideal.τ).loc Cert.Kernel6Ideal.main_arg7)
      ∧ r.2.mem ((c.tc : Thread Cert.Kernel6Ideal.nD Cert.Kernel6Ideal.τ).loc Cert.Kernel6Ideal.main_arg8) = m ((c.tc : Thread Cert.Kernel6Ideal.nD Cert.Kernel6Ideal.τ).loc Cert.Kernel6Ideal.main_arg8)
      ∧ r.2.mem ((c.tc : Thread Cert.Kernel6Ideal.nD Cert.Kernel6Ideal.τ).loc Cert.Kernel6Ideal.main_arg9) = m ((c.tc : Thread Cert.Kernel6Ideal.nD Cert.Kernel6Ideal.τ).loc Cert.Kernel6Ideal.main_arg9)
      ∧ r.2.mem ((c.tc : Thread Cert.Kernel6Ideal.nD Cert.Kernel6Ideal.τ).loc Cert.Kernel6Ideal.main_arg10) = m ((c.tc : Thread Cert.Kernel6Ideal.nD Cert.Kernel6Ideal.τ).loc Cert.Kernel6Ideal.main_arg10)
      ∧ r.2.mem ((c.tc : Thread Cert.Kernel6Ideal.nD Cert.Kernel6Ideal.τ).loc Cert.Kernel6Ideal.main_arg11) = m ((c.tc : Thread Cert.Kernel6Ideal.nD Cert.Kernel6Ideal.τ).loc Cert.Kernel6Ideal.main_arg11))
      ∧ r.2.sem = fun _ => 0)

def quiescent_Kernel6Ideal_pre_settled [hKernel6Ideal : Cert.Kernel6Ideal.Facts] [hPre_settled : Cert.Pre_settled.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal_settled m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
      ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6)
      ∧ r.2.mem ((c.tc : Thread Cert.Kernel6Ideal.nD Cert.Kernel6Ideal.τ).loc Cert.Kernel6Ideal.main_arg7) = m ((c.tc : Thread Cert.Kernel6Ideal.nD Cert.Kernel6Ideal.τ).loc Cert.Kernel6Ideal.main_arg7)
      ∧ r.2.mem ((c.tc : Thread Cert.Kernel6Ideal.nD Cert.Kernel6Ideal.τ).loc Cert.Kernel6Ideal.main_arg8) = m ((c.tc : Thread Cert.Kernel6Ideal.nD Cert.Kernel6Ideal.τ).loc Cert.Kernel6Ideal.main_arg8)
      ∧ r.2.mem ((c.tc : Thread Cert.Kernel6Ideal.nD Cert.Kernel6Ideal.τ).loc Cert.Kernel6Ideal.main_arg9) = m ((c.tc : Thread Cert.Kernel6Ideal.nD Cert.Kernel6Ideal.τ).loc Cert.Kernel6Ideal.main_arg9)
      ∧ r.2.mem ((c.tc : Thread Cert.Kernel6Ideal.nD Cert.Kernel6Ideal.τ).loc Cert.Kernel6Ideal.main_arg10) = m ((c.tc : Thread Cert.Kernel6Ideal.nD Cert.Kernel6Ideal.τ).loc Cert.Kernel6Ideal.main_arg10)
      ∧ r.2.mem ((c.tc : Thread Cert.Kernel6Ideal.nD Cert.Kernel6Ideal.τ).loc Cert.Kernel6Ideal.main_arg11) = m ((c.tc : Thread Cert.Kernel6Ideal.nD Cert.Kernel6Ideal.τ).loc Cert.Kernel6Ideal.main_arg11))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5)
      ∧ r.2.mem ((c.tc : Thread Cert.Reference6Ideal.nD Cert.Reference6Ideal.τ).loc Cert.Reference6Ideal.main_arg6) = m ((c.tc : Thread Cert.Reference6Ideal.nD Cert.Reference6Ideal.τ).loc Cert.Reference6Ideal.main_arg6)
      ∧ r.2.mem ((c.tc : Thread Cert.Reference6Ideal.nD Cert.Reference6Ideal.τ).loc Cert.Reference6Ideal.main_arg7) = m ((c.tc : Thread Cert.Reference6Ideal.nD Cert.Reference6Ideal.τ).loc Cert.Reference6Ideal.main_arg7)
      ∧ r.2.mem ((c.tc : Thread Cert.Reference6Ideal.nD Cert.Reference6Ideal.τ).loc Cert.Reference6Ideal.main_arg8) = m ((c.tc : Thread Cert.Reference6Ideal.nD Cert.Reference6Ideal.τ).loc Cert.Reference6Ideal.main_arg8)
      ∧ r.2.mem ((c.tc : Thread Cert.Reference6Ideal.nD Cert.Reference6Ideal.τ).loc Cert.Reference6Ideal.main_arg9) = m ((c.tc : Thread Cert.Reference6Ideal.nD Cert.Reference6Ideal.τ).loc Cert.Reference6Ideal.main_arg9)
      ∧ r.2.mem ((c.tc : Thread Cert.Reference6Ideal.nD Cert.Reference6Ideal.τ).loc Cert.Reference6Ideal.main_arg10) = m ((c.tc : Thread Cert.Reference6Ideal.nD Cert.Reference6Ideal.τ).loc Cert.Reference6Ideal.main_arg10)
      ∧ r.2.mem ((c.tc : Thread Cert.Reference6Ideal.nD Cert.Reference6Ideal.τ).loc Cert.Reference6Ideal.main_arg11) = m ((c.tc : Thread Cert.Reference6Ideal.nD Cert.Reference6Ideal.τ).loc Cert.Reference6Ideal.main_arg11))
      ∧ r.2.sem = fun _ => 0)

def quiescent_Reference6Ideal_pre_settled [hReference6Ideal : Cert.Reference6Ideal.Facts] [hPre_settled : Cert.Pre_settled.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal_settled m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5)
      ∧ r.2.mem ((c.tc : Thread Cert.Reference6Ideal.nD Cert.Reference6Ideal.τ).loc Cert.Reference6Ideal.main_arg6) = m ((c.tc : Thread Cert.Reference6Ideal.nD Cert.Reference6Ideal.τ).loc Cert.Reference6Ideal.main_arg6)
      ∧ r.2.mem ((c.tc : Thread Cert.Reference6Ideal.nD Cert.Reference6Ideal.τ).loc Cert.Reference6Ideal.main_arg7) = m ((c.tc : Thread Cert.Reference6Ideal.nD Cert.Reference6Ideal.τ).loc Cert.Reference6Ideal.main_arg7)
      ∧ r.2.mem ((c.tc : Thread Cert.Reference6Ideal.nD Cert.Reference6Ideal.τ).loc Cert.Reference6Ideal.main_arg8) = m ((c.tc : Thread Cert.Reference6Ideal.nD Cert.Reference6Ideal.τ).loc Cert.Reference6Ideal.main_arg8)
      ∧ r.2.mem ((c.tc : Thread Cert.Reference6Ideal.nD Cert.Reference6Ideal.τ).loc Cert.Reference6Ideal.main_arg9) = m ((c.tc : Thread Cert.Reference6Ideal.nD Cert.Reference6Ideal.τ).loc Cert.Reference6Ideal.main_arg9)
      ∧ r.2.mem ((c.tc : Thread Cert.Reference6Ideal.nD Cert.Reference6Ideal.τ).loc Cert.Reference6Ideal.main_arg10) = m ((c.tc : Thread Cert.Reference6Ideal.nD Cert.Reference6Ideal.τ).loc Cert.Reference6Ideal.main_arg10)
      ∧ r.2.mem ((c.tc : Thread Cert.Reference6Ideal.nD Cert.Reference6Ideal.τ).loc Cert.Reference6Ideal.main_arg11) = m ((c.tc : Thread Cert.Reference6Ideal.nD Cert.Reference6Ideal.τ).loc Cert.Reference6Ideal.main_arg11))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1)
      ∧ r.2.mem ((c.tc : Thread Cert.Kernel14.nD Cert.Kernel14.τ).loc Cert.Kernel14.main_arg2) = m ((c.tc : Thread Cert.Kernel14.nD Cert.Kernel14.τ).loc Cert.Kernel14.main_arg2)
      ∧ r.2.mem ((c.tc : Thread Cert.Kernel14.nD Cert.Kernel14.τ).loc Cert.Kernel14.main_arg3) = m ((c.tc : Thread Cert.Kernel14.nD Cert.Kernel14.τ).loc Cert.Kernel14.main_arg3)
      ∧ r.2.mem ((c.tc : Thread Cert.Kernel14.nD Cert.Kernel14.τ).loc Cert.Kernel14.main_arg4) = m ((c.tc : Thread Cert.Kernel14.nD Cert.Kernel14.τ).loc Cert.Kernel14.main_arg4))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
      ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
      ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3)
      ∧ r.2.mem ((c.tc : Thread Cert.Kernel14Ideal.nD Cert.Kernel14Ideal.τ).loc Cert.Kernel14Ideal.main_arg4) = m ((c.tc : Thread Cert.Kernel14Ideal.nD Cert.Kernel14Ideal.τ).loc Cert.Kernel14Ideal.main_arg4))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1)
      ∧ r.2.mem ((c.tc : Thread Cert.Reference14Ideal.nD Cert.Reference14Ideal.τ).loc Cert.Reference14Ideal.main_arg2) = m ((c.tc : Thread Cert.Reference14Ideal.nD Cert.Reference14Ideal.τ).loc Cert.Reference14Ideal.main_arg2)
      ∧ r.2.mem ((c.tc : Thread Cert.Reference14Ideal.nD Cert.Reference14Ideal.τ).loc Cert.Reference14Ideal.main_arg3) = m ((c.tc : Thread Cert.Reference14Ideal.nD Cert.Reference14Ideal.τ).loc Cert.Reference14Ideal.main_arg3)
      ∧ r.2.mem ((c.tc : Thread Cert.Reference14Ideal.nD Cert.Reference14Ideal.τ).loc Cert.Reference14Ideal.main_arg4) = m ((c.tc : Thread Cert.Reference14Ideal.nD Cert.Reference14Ideal.τ).loc Cert.Reference14Ideal.main_arg4))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1)
      ∧ r.2.mem ((c.tc : Thread Cert.Kernel15.nD Cert.Kernel15.τ).loc Cert.Kernel15.main_arg2) = m ((c.tc : Thread Cert.Kernel15.nD Cert.Kernel15.τ).loc Cert.Kernel15.main_arg2)
      ∧ r.2.mem ((c.tc : Thread Cert.Kernel15.nD Cert.Kernel15.τ).loc Cert.Kernel15.main_arg3) = m ((c.tc : Thread Cert.Kernel15.nD Cert.Kernel15.τ).loc Cert.Kernel15.main_arg3)
      ∧ r.2.mem ((c.tc : Thread Cert.Kernel15.nD Cert.Kernel15.τ).loc Cert.Kernel15.main_arg4) = m ((c.tc : Thread Cert.Kernel15.nD Cert.Kernel15.τ).loc Cert.Kernel15.main_arg4))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
      ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
      ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3)
      ∧ r.2.mem ((c.tc : Thread Cert.Kernel15Ideal.nD Cert.Kernel15Ideal.τ).loc Cert.Kernel15Ideal.main_arg4) = m ((c.tc : Thread Cert.Kernel15Ideal.nD Cert.Kernel15Ideal.τ).loc Cert.Kernel15Ideal.main_arg4))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1)
      ∧ r.2.mem ((c.tc : Thread Cert.Reference15Ideal.nD Cert.Reference15Ideal.τ).loc Cert.Reference15Ideal.main_arg2) = m ((c.tc : Thread Cert.Reference15Ideal.nD Cert.Reference15Ideal.τ).loc Cert.Reference15Ideal.main_arg2)
      ∧ r.2.mem ((c.tc : Thread Cert.Reference15Ideal.nD Cert.Reference15Ideal.τ).loc Cert.Reference15Ideal.main_arg3) = m ((c.tc : Thread Cert.Reference15Ideal.nD Cert.Reference15Ideal.τ).loc Cert.Reference15Ideal.main_arg3)
      ∧ r.2.mem ((c.tc : Thread Cert.Reference15Ideal.nD Cert.Reference15Ideal.τ).loc Cert.Reference15Ideal.main_arg4) = m ((c.tc : Thread Cert.Reference15Ideal.nD Cert.Reference15Ideal.τ).loc Cert.Reference15Ideal.main_arg4))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1)
      ∧ r.2.mem ((c.tc : Thread Cert.Kernel16.nD Cert.Kernel16.τ).loc Cert.Kernel16.main_arg2) = m ((c.tc : Thread Cert.Kernel16.nD Cert.Kernel16.τ).loc Cert.Kernel16.main_arg2)
      ∧ r.2.mem ((c.tc : Thread Cert.Kernel16.nD Cert.Kernel16.τ).loc Cert.Kernel16.main_arg3) = m ((c.tc : Thread Cert.Kernel16.nD Cert.Kernel16.τ).loc Cert.Kernel16.main_arg3))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
      ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2)
      ∧ r.2.mem ((c.tc : Thread Cert.Kernel16Ideal.nD Cert.Kernel16Ideal.τ).loc Cert.Kernel16Ideal.main_arg3) = m ((c.tc : Thread Cert.Kernel16Ideal.nD Cert.Kernel16Ideal.τ).loc Cert.Kernel16Ideal.main_arg3))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1)
      ∧ r.2.mem ((c.tc : Thread Cert.Reference16Ideal.nD Cert.Reference16Ideal.τ).loc Cert.Reference16Ideal.main_arg2) = m ((c.tc : Thread Cert.Reference16Ideal.nD Cert.Reference16Ideal.τ).loc Cert.Reference16Ideal.main_arg2)
      ∧ r.2.mem ((c.tc : Thread Cert.Reference16Ideal.nD Cert.Reference16Ideal.τ).loc Cert.Reference16Ideal.main_arg3) = m ((c.tc : Thread Cert.Reference16Ideal.nD Cert.Reference16Ideal.τ).loc Cert.Reference16Ideal.main_arg3))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2)
      ∧ r.2.mem ((c.tc : Thread Cert.Kernel10.nD Cert.Kernel10.τ).loc Cert.Kernel10.main_arg3) = m ((c.tc : Thread Cert.Kernel10.nD Cert.Kernel10.τ).loc Cert.Kernel10.main_arg3)
      ∧ r.2.mem ((c.tc : Thread Cert.Kernel10.nD Cert.Kernel10.τ).loc Cert.Kernel10.main_arg4) = m ((c.tc : Thread Cert.Kernel10.nD Cert.Kernel10.τ).loc Cert.Kernel10.main_arg4)
      ∧ r.2.mem ((c.tc : Thread Cert.Kernel10.nD Cert.Kernel10.τ).loc Cert.Kernel10.main_arg5) = m ((c.tc : Thread Cert.Kernel10.nD Cert.Kernel10.τ).loc Cert.Kernel10.main_arg5)
      ∧ r.2.mem ((c.tc : Thread Cert.Kernel10.nD Cert.Kernel10.τ).loc Cert.Kernel10.main_arg6) = m ((c.tc : Thread Cert.Kernel10.nD Cert.Kernel10.τ).loc Cert.Kernel10.main_arg6)
      ∧ r.2.mem ((c.tc : Thread Cert.Kernel10.nD Cert.Kernel10.τ).loc Cert.Kernel10.main_arg7) = m ((c.tc : Thread Cert.Kernel10.nD Cert.Kernel10.τ).loc Cert.Kernel10.main_arg7))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
      ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
      ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4)
      ∧ r.2.mem ((c.tc : Thread Cert.Kernel10Ideal.nD Cert.Kernel10Ideal.τ).loc Cert.Kernel10Ideal.main_arg5) = m ((c.tc : Thread Cert.Kernel10Ideal.nD Cert.Kernel10Ideal.τ).loc Cert.Kernel10Ideal.main_arg5)
      ∧ r.2.mem ((c.tc : Thread Cert.Kernel10Ideal.nD Cert.Kernel10Ideal.τ).loc Cert.Kernel10Ideal.main_arg6) = m ((c.tc : Thread Cert.Kernel10Ideal.nD Cert.Kernel10Ideal.τ).loc Cert.Kernel10Ideal.main_arg6)
      ∧ r.2.mem ((c.tc : Thread Cert.Kernel10Ideal.nD Cert.Kernel10Ideal.τ).loc Cert.Kernel10Ideal.main_arg7) = m ((c.tc : Thread Cert.Kernel10Ideal.nD Cert.Kernel10Ideal.τ).loc Cert.Kernel10Ideal.main_arg7))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2)
      ∧ r.2.mem ((c.tc : Thread Cert.Reference10Ideal.nD Cert.Reference10Ideal.τ).loc Cert.Reference10Ideal.main_arg3) = m ((c.tc : Thread Cert.Reference10Ideal.nD Cert.Reference10Ideal.τ).loc Cert.Reference10Ideal.main_arg3)
      ∧ r.2.mem ((c.tc : Thread Cert.Reference10Ideal.nD Cert.Reference10Ideal.τ).loc Cert.Reference10Ideal.main_arg4) = m ((c.tc : Thread Cert.Reference10Ideal.nD Cert.Reference10Ideal.τ).loc Cert.Reference10Ideal.main_arg4)
      ∧ r.2.mem ((c.tc : Thread Cert.Reference10Ideal.nD Cert.Reference10Ideal.τ).loc Cert.Reference10Ideal.main_arg5) = m ((c.tc : Thread Cert.Reference10Ideal.nD Cert.Reference10Ideal.τ).loc Cert.Reference10Ideal.main_arg5)
      ∧ r.2.mem ((c.tc : Thread Cert.Reference10Ideal.nD Cert.Reference10Ideal.τ).loc Cert.Reference10Ideal.main_arg6) = m ((c.tc : Thread Cert.Reference10Ideal.nD Cert.Reference10Ideal.τ).loc Cert.Reference10Ideal.main_arg6)
      ∧ r.2.mem ((c.tc : Thread Cert.Reference10Ideal.nD Cert.Reference10Ideal.τ).loc Cert.Reference10Ideal.main_arg7) = m ((c.tc : Thread Cert.Reference10Ideal.nD Cert.Reference10Ideal.τ).loc Cert.Reference10Ideal.main_arg7))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v3_0)) (v1 : (c : Dev Cert.KernelIdeal.nD) → Buf (Elt Ideal) ((c.tc : Thread Cert.KernelIdeal.nD Cert.KernelIdeal.τ).loc Cert.KernelIdeal.main_v3_1)) (v2 : (c : Dev Cert.KernelIdeal.nD) → Buf (Elt Ideal) ((c.tc : Thread Cert.KernelIdeal.nD Cert.KernelIdeal.τ).loc Cert.KernelIdeal.main_v3_2)) (v3 : (c : Dev Cert.KernelIdeal.nD) → Buf (Elt Ideal) ((c.tc : Thread Cert.KernelIdeal.nD Cert.KernelIdeal.τ).loc Cert.KernelIdeal.main_v3_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3_0) = v0 c
          ∧ r.2.mem ((c.tc : Thread Cert.KernelIdeal.nD Cert.KernelIdeal.τ).loc Cert.KernelIdeal.main_v3_1) = v1 c
          ∧ r.2.mem ((c.tc : Thread Cert.KernelIdeal.nD Cert.KernelIdeal.τ).loc Cert.KernelIdeal.main_v3_2) = v2 c
          ∧ r.2.mem ((c.tc : Thread Cert.KernelIdeal.nD Cert.KernelIdeal.τ).loc Cert.KernelIdeal.main_v3_3) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v31) = v0 c
          ∧ r.2.mem ((c.tc : Thread Cert.ReferenceIdeal.nD Cert.ReferenceIdeal.τ).loc Cert.ReferenceIdeal.main_v25) = v1 c
          ∧ r.2.mem ((c.tc : Thread Cert.ReferenceIdeal.nD Cert.ReferenceIdeal.τ).loc Cert.ReferenceIdeal.main_v22) = v2 c
          ∧ r.2.mem ((c.tc : Thread Cert.ReferenceIdeal.nD Cert.ReferenceIdeal.τ).loc Cert.ReferenceIdeal.main_v30) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)) →
    ∃ (v0 : (c : Dev Cert.Kernel2Ideal.nD) → Buf (Elt Ideal) ((c.tc : Thread Cert.Kernel2Ideal.nD Cert.Kernel2Ideal.τ).loc Cert.Kernel2Ideal.main_v2_0)) (v1 : (c : Dev Cert.Kernel2Ideal.nD) → Buf (Elt Ideal) ((c.tc : Thread Cert.Kernel2Ideal.nD Cert.Kernel2Ideal.τ).loc Cert.Kernel2Ideal.main_v2_1)) (v2 : (c : Dev Cert.Kernel2Ideal.nD) → Buf (Elt Ideal) ((c.tc : Thread Cert.Kernel2Ideal.nD Cert.Kernel2Ideal.τ).loc Cert.Kernel2Ideal.main_v2_2)) (v3 : (c : Dev Cert.Kernel2Ideal.nD) → Buf (Elt Ideal) ((c.tc : Thread Cert.Kernel2Ideal.nD Cert.Kernel2Ideal.τ).loc Cert.Kernel2Ideal.main_v2_3)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v2_0) = v0 c
          ∧ r.2.mem ((c.tc : Thread Cert.Kernel2Ideal.nD Cert.Kernel2Ideal.τ).loc Cert.Kernel2Ideal.main_v2_1) = v1 c
          ∧ r.2.mem ((c.tc : Thread Cert.Kernel2Ideal.nD Cert.Kernel2Ideal.τ).loc Cert.Kernel2Ideal.main_v2_2) = v2 c
          ∧ r.2.mem ((c.tc : Thread Cert.Kernel2Ideal.nD Cert.Kernel2Ideal.τ).loc Cert.Kernel2Ideal.main_v2_3) = v3 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v88) = v0 c
          ∧ r.2.mem ((c.tc : Thread Cert.Reference2Ideal.nD Cert.Reference2Ideal.τ).loc Cert.Reference2Ideal.main_v93) = v1 c
          ∧ r.2.mem ((c.tc : Thread Cert.Reference2Ideal.nD Cert.Reference2Ideal.τ).loc Cert.Reference2Ideal.main_v98) = v2 c
          ∧ r.2.mem ((c.tc : Thread Cert.Reference2Ideal.nD Cert.Reference2Ideal.τ).loc Cert.Reference2Ideal.main_v103) = v3 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)) →
    ∃ (v0 : (c : Dev Cert.Kernel11Ideal.nD) → Buf (Elt Ideal) ((c.tc : Thread Cert.Kernel11Ideal.nD Cert.Kernel11Ideal.τ).loc Cert.Kernel11Ideal.main_v11_0)) (v1 : (c : Dev Cert.Kernel11Ideal.nD) → Buf (Elt Ideal) ((c.tc : Thread Cert.Kernel11Ideal.nD Cert.Kernel11Ideal.τ).loc Cert.Kernel11Ideal.main_v11_1)) (v2 : (c : Dev Cert.Kernel11Ideal.nD) → Buf (Elt Ideal) ((c.tc : Thread Cert.Kernel11Ideal.nD Cert.Kernel11Ideal.τ).loc Cert.Kernel11Ideal.main_v11_2)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v11_0) = v0 c
          ∧ r.2.mem ((c.tc : Thread Cert.Kernel11Ideal.nD Cert.Kernel11Ideal.τ).loc Cert.Kernel11Ideal.main_v11_1) = v1 c
          ∧ r.2.mem ((c.tc : Thread Cert.Kernel11Ideal.nD Cert.Kernel11Ideal.τ).loc Cert.Kernel11Ideal.main_v11_2) = v2 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v11) = v0 c
          ∧ r.2.mem ((c.tc : Thread Cert.Reference11Ideal.nD Cert.Reference11Ideal.τ).loc Cert.Reference11Ideal.main_v9) = v1 c
          ∧ r.2.mem ((c.tc : Thread Cert.Reference11Ideal.nD Cert.Reference11Ideal.τ).loc Cert.Reference11Ideal.main_v10) = v2 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)
      ∧ m' ((c.tc : Thread Cert.Reference9Ideal.nD Cert.Reference9Ideal.τ).loc Cert.Reference9Ideal.main_arg3) = m ((c.tc : Thread Cert.Kernel9Ideal.nD Cert.Kernel9Ideal.τ).loc Cert.Kernel9Ideal.main_arg3)
      ∧ m' ((c.tc : Thread Cert.Reference9Ideal.nD Cert.Reference9Ideal.τ).loc Cert.Reference9Ideal.main_arg4) = m ((c.tc : Thread Cert.Kernel9Ideal.nD Cert.Kernel9Ideal.τ).loc Cert.Kernel9Ideal.main_arg4)
      ∧ m' ((c.tc : Thread Cert.Reference9Ideal.nD Cert.Reference9Ideal.τ).loc Cert.Reference9Ideal.main_arg5) = m ((c.tc : Thread Cert.Kernel9Ideal.nD Cert.Kernel9Ideal.τ).loc Cert.Kernel9Ideal.main_arg5)
      ∧ m' ((c.tc : Thread Cert.Reference9Ideal.nD Cert.Reference9Ideal.τ).loc Cert.Reference9Ideal.main_arg6) = m ((c.tc : Thread Cert.Kernel9Ideal.nD Cert.Kernel9Ideal.τ).loc Cert.Kernel9Ideal.main_arg6)) →
    ∃ (v0 : (c : Dev Cert.Kernel9Ideal.nD) → Buf (Elt Ideal) ((c.tc : Thread Cert.Kernel9Ideal.nD Cert.Kernel9Ideal.τ).loc Cert.Kernel9Ideal.main_v44_0)) (v1 : (c : Dev Cert.Kernel9Ideal.nD) → Buf (Elt Ideal) ((c.tc : Thread Cert.Kernel9Ideal.nD Cert.Kernel9Ideal.τ).loc Cert.Kernel9Ideal.main_v44_1)) (v2 : (c : Dev Cert.Kernel9Ideal.nD) → Buf (Elt Ideal) ((c.tc : Thread Cert.Kernel9Ideal.nD Cert.Kernel9Ideal.τ).loc Cert.Kernel9Ideal.main_v44_2)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v44_0) = v0 c
          ∧ r.2.mem ((c.tc : Thread Cert.Kernel9Ideal.nD Cert.Kernel9Ideal.τ).loc Cert.Kernel9Ideal.main_v44_1) = v1 c
          ∧ r.2.mem ((c.tc : Thread Cert.Kernel9Ideal.nD Cert.Kernel9Ideal.τ).loc Cert.Kernel9Ideal.main_v44_2) = v2 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
          ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
          ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4)
          ∧ r.2.mem ((c.tc : Thread Cert.Kernel9Ideal.nD Cert.Kernel9Ideal.τ).loc Cert.Kernel9Ideal.main_arg5) = m ((c.tc : Thread Cert.Kernel9Ideal.nD Cert.Kernel9Ideal.τ).loc Cert.Kernel9Ideal.main_arg5)
          ∧ r.2.mem ((c.tc : Thread Cert.Kernel9Ideal.nD Cert.Kernel9Ideal.τ).loc Cert.Kernel9Ideal.main_arg6) = m ((c.tc : Thread Cert.Kernel9Ideal.nD Cert.Kernel9Ideal.τ).loc Cert.Kernel9Ideal.main_arg6))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v24) = v0 c
          ∧ r.2.mem ((c.tc : Thread Cert.Reference9Ideal.nD Cert.Reference9Ideal.τ).loc Cert.Reference9Ideal.main_v23) = v1 c
          ∧ r.2.mem ((c.tc : Thread Cert.Reference9Ideal.nD Cert.Reference9Ideal.τ).loc Cert.Reference9Ideal.main_v17) = v2 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2)
          ∧ r.2.mem ((c.tc : Thread Cert.Reference9Ideal.nD Cert.Reference9Ideal.τ).loc Cert.Reference9Ideal.main_arg3) = m' ((c.tc : Thread Cert.Reference9Ideal.nD Cert.Reference9Ideal.τ).loc Cert.Reference9Ideal.main_arg3)
          ∧ r.2.mem ((c.tc : Thread Cert.Reference9Ideal.nD Cert.Reference9Ideal.τ).loc Cert.Reference9Ideal.main_arg4) = m' ((c.tc : Thread Cert.Reference9Ideal.nD Cert.Reference9Ideal.τ).loc Cert.Reference9Ideal.main_arg4)
          ∧ r.2.mem ((c.tc : Thread Cert.Reference9Ideal.nD Cert.Reference9Ideal.τ).loc Cert.Reference9Ideal.main_arg5) = m' ((c.tc : Thread Cert.Reference9Ideal.nD Cert.Reference9Ideal.τ).loc Cert.Reference9Ideal.main_arg5)
          ∧ r.2.mem ((c.tc : Thread Cert.Reference9Ideal.nD Cert.Reference9Ideal.τ).loc Cert.Reference9Ideal.main_arg6) = m' ((c.tc : Thread Cert.Reference9Ideal.nD Cert.Reference9Ideal.τ).loc Cert.Reference9Ideal.main_arg6))

def preserves_Kernel8_Kernel8Ideal : Prop :=
  True

def algebraic_Kernel8Ideal_Reference8Ideal_pre_tame [hKernel8Ideal : Cert.Kernel8Ideal.Facts] [hReference8Ideal : Cert.Reference8Ideal.Facts] [hPre_tame : Cert.Pre_tame.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal_tame m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)
      ∧ m' ((c.tc : Thread Cert.Reference8Ideal.nD Cert.Reference8Ideal.τ).loc Cert.Reference8Ideal.main_arg4) = m ((c.tc : Thread Cert.Kernel8Ideal.nD Cert.Kernel8Ideal.τ).loc Cert.Kernel8Ideal.main_arg4)) →
    ∃ (v0 : (c : Dev Cert.Kernel8Ideal.nD) → Buf (Elt Ideal) ((c.tc : Thread Cert.Kernel8Ideal.nD Cert.Kernel8Ideal.τ).loc Cert.Kernel8Ideal.main_v2_0)) (v1 : (c : Dev Cert.Kernel8Ideal.nD) → Buf (Elt Ideal) ((c.tc : Thread Cert.Kernel8Ideal.nD Cert.Kernel8Ideal.τ).loc Cert.Kernel8Ideal.main_v2_1)) (v2 : (c : Dev Cert.Kernel8Ideal.nD) → Buf (Elt Ideal) ((c.tc : Thread Cert.Kernel8Ideal.nD Cert.Kernel8Ideal.τ).loc Cert.Kernel8Ideal.main_v2_2)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v2_0) = v0 c
          ∧ r.2.mem ((c.tc : Thread Cert.Kernel8Ideal.nD Cert.Kernel8Ideal.τ).loc Cert.Kernel8Ideal.main_v2_1) = v1 c
          ∧ r.2.mem ((c.tc : Thread Cert.Kernel8Ideal.nD Cert.Kernel8Ideal.τ).loc Cert.Kernel8Ideal.main_v2_2) = v2 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
          ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v21) = v0 c
          ∧ r.2.mem ((c.tc : Thread Cert.Reference8Ideal.nD Cert.Reference8Ideal.τ).loc Cert.Reference8Ideal.main_v18) = v1 c
          ∧ r.2.mem ((c.tc : Thread Cert.Reference8Ideal.nD Cert.Reference8Ideal.τ).loc Cert.Reference8Ideal.main_v14) = v2 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3)
          ∧ r.2.mem ((c.tc : Thread Cert.Reference8Ideal.nD Cert.Reference8Ideal.τ).loc Cert.Reference8Ideal.main_arg4) = m' ((c.tc : Thread Cert.Reference8Ideal.nD Cert.Reference8Ideal.τ).loc Cert.Reference8Ideal.main_arg4))

def preserves_Kernel7_Kernel7Ideal : Prop :=
  True

def algebraic_Kernel7Ideal_Reference7Ideal_pre_plain [hKernel7Ideal : Cert.Kernel7Ideal.Facts] [hReference7Ideal : Cert.Reference7Ideal.Facts] [hPre_plain : Cert.Pre_plain.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal_plain m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)
      ∧ m' ((c.tc : Thread Cert.Reference7Ideal.nD Cert.Reference7Ideal.τ).loc Cert.Reference7Ideal.main_arg4) = m ((c.tc : Thread Cert.Kernel7Ideal.nD Cert.Kernel7Ideal.τ).loc Cert.Kernel7Ideal.main_arg4)
      ∧ m' ((c.tc : Thread Cert.Reference7Ideal.nD Cert.Reference7Ideal.τ).loc Cert.Reference7Ideal.main_arg5) = m ((c.tc : Thread Cert.Kernel7Ideal.nD Cert.Kernel7Ideal.τ).loc Cert.Kernel7Ideal.main_arg5)
      ∧ m' ((c.tc : Thread Cert.Reference7Ideal.nD Cert.Reference7Ideal.τ).loc Cert.Reference7Ideal.main_arg6) = m ((c.tc : Thread Cert.Kernel7Ideal.nD Cert.Kernel7Ideal.τ).loc Cert.Kernel7Ideal.main_arg6)
      ∧ m' ((c.tc : Thread Cert.Reference7Ideal.nD Cert.Reference7Ideal.τ).loc Cert.Reference7Ideal.main_arg7) = m ((c.tc : Thread Cert.Kernel7Ideal.nD Cert.Kernel7Ideal.τ).loc Cert.Kernel7Ideal.main_arg7)
      ∧ m' ((c.tc : Thread Cert.Reference7Ideal.nD Cert.Reference7Ideal.τ).loc Cert.Reference7Ideal.main_arg8) = m ((c.tc : Thread Cert.Kernel7Ideal.nD Cert.Kernel7Ideal.τ).loc Cert.Kernel7Ideal.main_arg8)
      ∧ m' ((c.tc : Thread Cert.Reference7Ideal.nD Cert.Reference7Ideal.τ).loc Cert.Reference7Ideal.main_arg9) = m ((c.tc : Thread Cert.Kernel7Ideal.nD Cert.Kernel7Ideal.τ).loc Cert.Kernel7Ideal.main_arg9)
      ∧ m' ((c.tc : Thread Cert.Reference7Ideal.nD Cert.Reference7Ideal.τ).loc Cert.Reference7Ideal.main_arg10) = m ((c.tc : Thread Cert.Kernel7Ideal.nD Cert.Kernel7Ideal.τ).loc Cert.Kernel7Ideal.main_arg10)
      ∧ m' ((c.tc : Thread Cert.Reference7Ideal.nD Cert.Reference7Ideal.τ).loc Cert.Reference7Ideal.main_arg11) = m ((c.tc : Thread Cert.Kernel7Ideal.nD Cert.Kernel7Ideal.τ).loc Cert.Kernel7Ideal.main_arg11)) →
    ∃ (v0 : (c : Dev Cert.Kernel7Ideal.nD) → Buf (Elt Ideal) ((c.tc : Thread Cert.Kernel7Ideal.nD Cert.Kernel7Ideal.τ).loc Cert.Kernel7Ideal.main_v3_0)) (v1 : (c : Dev Cert.Kernel7Ideal.nD) → Buf (Elt Ideal) ((c.tc : Thread Cert.Kernel7Ideal.nD Cert.Kernel7Ideal.τ).loc Cert.Kernel7Ideal.main_v3_1)) (v2 : (c : Dev Cert.Kernel7Ideal.nD) → Buf (Elt Ideal) ((c.tc : Thread Cert.Kernel7Ideal.nD Cert.Kernel7Ideal.τ).loc Cert.Kernel7Ideal.main_v3_2)) (v3 : (c : Dev Cert.Kernel7Ideal.nD) → Buf (Elt Ideal) ((c.tc : Thread Cert.Kernel7Ideal.nD Cert.Kernel7Ideal.τ).loc Cert.Kernel7Ideal.main_v3_3)) (v4 : (c : Dev Cert.Kernel7Ideal.nD) → Buf (Elt Ideal) ((c.tc : Thread Cert.Kernel7Ideal.nD Cert.Kernel7Ideal.τ).loc Cert.Kernel7Ideal.main_v3_4)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v3_0) = v0 c
          ∧ r.2.mem ((c.tc : Thread Cert.Kernel7Ideal.nD Cert.Kernel7Ideal.τ).loc Cert.Kernel7Ideal.main_v3_1) = v1 c
          ∧ r.2.mem ((c.tc : Thread Cert.Kernel7Ideal.nD Cert.Kernel7Ideal.τ).loc Cert.Kernel7Ideal.main_v3_2) = v2 c
          ∧ r.2.mem ((c.tc : Thread Cert.Kernel7Ideal.nD Cert.Kernel7Ideal.τ).loc Cert.Kernel7Ideal.main_v3_3) = v3 c
          ∧ r.2.mem ((c.tc : Thread Cert.Kernel7Ideal.nD Cert.Kernel7Ideal.τ).loc Cert.Kernel7Ideal.main_v3_4) = v4 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
          ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
          ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
          ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6)
          ∧ r.2.mem ((c.tc : Thread Cert.Kernel7Ideal.nD Cert.Kernel7Ideal.τ).loc Cert.Kernel7Ideal.main_arg7) = m ((c.tc : Thread Cert.Kernel7Ideal.nD Cert.Kernel7Ideal.τ).loc Cert.Kernel7Ideal.main_arg7)
          ∧ r.2.mem ((c.tc : Thread Cert.Kernel7Ideal.nD Cert.Kernel7Ideal.τ).loc Cert.Kernel7Ideal.main_arg8) = m ((c.tc : Thread Cert.Kernel7Ideal.nD Cert.Kernel7Ideal.τ).loc Cert.Kernel7Ideal.main_arg8)
          ∧ r.2.mem ((c.tc : Thread Cert.Kernel7Ideal.nD Cert.Kernel7Ideal.τ).loc Cert.Kernel7Ideal.main_arg9) = m ((c.tc : Thread Cert.Kernel7Ideal.nD Cert.Kernel7Ideal.τ).loc Cert.Kernel7Ideal.main_arg9)
          ∧ r.2.mem ((c.tc : Thread Cert.Kernel7Ideal.nD Cert.Kernel7Ideal.τ).loc Cert.Kernel7Ideal.main_arg10) = m ((c.tc : Thread Cert.Kernel7Ideal.nD Cert.Kernel7Ideal.τ).loc Cert.Kernel7Ideal.main_arg10)
          ∧ r.2.mem ((c.tc : Thread Cert.Kernel7Ideal.nD Cert.Kernel7Ideal.τ).loc Cert.Kernel7Ideal.main_arg11) = m ((c.tc : Thread Cert.Kernel7Ideal.nD Cert.Kernel7Ideal.τ).loc Cert.Kernel7Ideal.main_arg11))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v58) = v0 c
          ∧ r.2.mem ((c.tc : Thread Cert.Reference7Ideal.nD Cert.Reference7Ideal.τ).loc Cert.Reference7Ideal.main_v59) = v1 c
          ∧ r.2.mem ((c.tc : Thread Cert.Reference7Ideal.nD Cert.Reference7Ideal.τ).loc Cert.Reference7Ideal.main_v36) = v2 c
          ∧ r.2.mem ((c.tc : Thread Cert.Reference7Ideal.nD Cert.Reference7Ideal.τ).loc Cert.Reference7Ideal.main_v33) = v3 c
          ∧ r.2.mem ((c.tc : Thread Cert.Reference7Ideal.nD Cert.Reference7Ideal.τ).loc Cert.Reference7Ideal.main_v60) = v4 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3)
          ∧ r.2.mem ((c.tc : Thread Cert.Reference7Ideal.nD Cert.Reference7Ideal.τ).loc Cert.Reference7Ideal.main_arg4) = m' ((c.tc : Thread Cert.Reference7Ideal.nD Cert.Reference7Ideal.τ).loc Cert.Reference7Ideal.main_arg4)
          ∧ r.2.mem ((c.tc : Thread Cert.Reference7Ideal.nD Cert.Reference7Ideal.τ).loc Cert.Reference7Ideal.main_arg5) = m' ((c.tc : Thread Cert.Reference7Ideal.nD Cert.Reference7Ideal.τ).loc Cert.Reference7Ideal.main_arg5)
          ∧ r.2.mem ((c.tc : Thread Cert.Reference7Ideal.nD Cert.Reference7Ideal.τ).loc Cert.Reference7Ideal.main_arg6) = m' ((c.tc : Thread Cert.Reference7Ideal.nD Cert.Reference7Ideal.τ).loc Cert.Reference7Ideal.main_arg6)
          ∧ r.2.mem ((c.tc : Thread Cert.Reference7Ideal.nD Cert.Reference7Ideal.τ).loc Cert.Reference7Ideal.main_arg7) = m' ((c.tc : Thread Cert.Reference7Ideal.nD Cert.Reference7Ideal.τ).loc Cert.Reference7Ideal.main_arg7)
          ∧ r.2.mem ((c.tc : Thread Cert.Reference7Ideal.nD Cert.Reference7Ideal.τ).loc Cert.Reference7Ideal.main_arg8) = m' ((c.tc : Thread Cert.Reference7Ideal.nD Cert.Reference7Ideal.τ).loc Cert.Reference7Ideal.main_arg8)
          ∧ r.2.mem ((c.tc : Thread Cert.Reference7Ideal.nD Cert.Reference7Ideal.τ).loc Cert.Reference7Ideal.main_arg9) = m' ((c.tc : Thread Cert.Reference7Ideal.nD Cert.Reference7Ideal.τ).loc Cert.Reference7Ideal.main_arg9)
          ∧ r.2.mem ((c.tc : Thread Cert.Reference7Ideal.nD Cert.Reference7Ideal.τ).loc Cert.Reference7Ideal.main_arg10) = m' ((c.tc : Thread Cert.Reference7Ideal.nD Cert.Reference7Ideal.τ).loc Cert.Reference7Ideal.main_arg10)
          ∧ r.2.mem ((c.tc : Thread Cert.Reference7Ideal.nD Cert.Reference7Ideal.τ).loc Cert.Reference7Ideal.main_arg11) = m' ((c.tc : Thread Cert.Reference7Ideal.nD Cert.Reference7Ideal.τ).loc Cert.Reference7Ideal.main_arg11))

def preserves_Kernel5_Kernel5Ideal : Prop :=
  IdealRules.named_const.Statement Cert.Kernel5Ideal.κ "gelu_c" .f32 0x3D372713#32 ((8943 / 200000 : ℝ) : EReal)
  ∧ IdealRules.named_const.Statement Cert.Kernel5Ideal.κ "gelu_3c" .f32 0x3E095D4F#32 ((26829 / 200000 : ℝ) : EReal)

def algebraic_Kernel5Ideal_Reference5Ideal_pre_smooth [hKernel5Ideal : Cert.Kernel5Ideal.Facts] [hReference5Ideal : Cert.Reference5Ideal.Facts] [hPre_smooth : Cert.Pre_smooth.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal_smooth m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)) →
    ∃ (v0 : (c : Dev Cert.Kernel5Ideal.nD) → Buf (Elt Ideal) ((c.tc : Thread Cert.Kernel5Ideal.nD Cert.Kernel5Ideal.τ).loc Cert.Kernel5Ideal.main_v8_0)) (v1 : (c : Dev Cert.Kernel5Ideal.nD) → Buf (Elt Ideal) ((c.tc : Thread Cert.Kernel5Ideal.nD Cert.Kernel5Ideal.τ).loc Cert.Kernel5Ideal.main_v8_1)) (v2 : (c : Dev Cert.Kernel5Ideal.nD) → Buf (Elt Ideal) ((c.tc : Thread Cert.Kernel5Ideal.nD Cert.Kernel5Ideal.τ).loc Cert.Kernel5Ideal.main_v8_2)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v8_0) = v0 c
          ∧ r.2.mem ((c.tc : Thread Cert.Kernel5Ideal.nD Cert.Kernel5Ideal.τ).loc Cert.Kernel5Ideal.main_v8_1) = v1 c
          ∧ r.2.mem ((c.tc : Thread Cert.Kernel5Ideal.nD Cert.Kernel5Ideal.τ).loc Cert.Kernel5Ideal.main_v8_2) = v2 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v0_0) = v0 c
          ∧ r.2.mem ((c.tc : Thread Cert.Reference5Ideal.nD Cert.Reference5Ideal.τ).loc Cert.Reference5Ideal.main_v0_1) = v1 c
          ∧ r.2.mem ((c.tc : Thread Cert.Reference5Ideal.nD Cert.Reference5Ideal.τ).loc Cert.Reference5Ideal.main_v0_2) = v2 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)
      ∧ m' ((c.tc : Thread Cert.Reference12Ideal.nD Cert.Reference12Ideal.τ).loc Cert.Reference12Ideal.main_arg2) = m ((c.tc : Thread Cert.Kernel12Ideal.nD Cert.Kernel12Ideal.τ).loc Cert.Kernel12Ideal.main_arg2)) →
    ∃ (v0 : (c : Dev Cert.Kernel12Ideal.nD) → Buf (Elt Ideal) ((c.tc : Thread Cert.Kernel12Ideal.nD Cert.Kernel12Ideal.τ).loc Cert.Kernel12Ideal.main_v11_0)) (v1 : (c : Dev Cert.Kernel12Ideal.nD) → Buf (Elt Ideal) ((c.tc : Thread Cert.Kernel12Ideal.nD Cert.Kernel12Ideal.τ).loc Cert.Kernel12Ideal.main_v11_1)) (v2 : (c : Dev Cert.Kernel12Ideal.nD) → Buf (Elt Ideal) ((c.tc : Thread Cert.Kernel12Ideal.nD Cert.Kernel12Ideal.τ).loc Cert.Kernel12Ideal.main_v11_2)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v11_0) = v0 c
          ∧ r.2.mem ((c.tc : Thread Cert.Kernel12Ideal.nD Cert.Kernel12Ideal.τ).loc Cert.Kernel12Ideal.main_v11_1) = v1 c
          ∧ r.2.mem ((c.tc : Thread Cert.Kernel12Ideal.nD Cert.Kernel12Ideal.τ).loc Cert.Kernel12Ideal.main_v11_2) = v2 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
          ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v9) = v0 c
          ∧ r.2.mem ((c.tc : Thread Cert.Reference12Ideal.nD Cert.Reference12Ideal.τ).loc Cert.Reference12Ideal.main_v10) = v1 c
          ∧ r.2.mem ((c.tc : Thread Cert.Reference12Ideal.nD Cert.Reference12Ideal.τ).loc Cert.Reference12Ideal.main_v11) = v2 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1)
          ∧ r.2.mem ((c.tc : Thread Cert.Reference12Ideal.nD Cert.Reference12Ideal.τ).loc Cert.Reference12Ideal.main_arg2) = m' ((c.tc : Thread Cert.Reference12Ideal.nD Cert.Reference12Ideal.τ).loc Cert.Reference12Ideal.main_arg2))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)
      ∧ m' ((c.tc : Thread Cert.Reference13Ideal.nD Cert.Reference13Ideal.τ).loc Cert.Reference13Ideal.main_arg2) = m ((c.tc : Thread Cert.Kernel13Ideal.nD Cert.Kernel13Ideal.τ).loc Cert.Kernel13Ideal.main_arg2)
      ∧ m' ((c.tc : Thread Cert.Reference13Ideal.nD Cert.Reference13Ideal.τ).loc Cert.Reference13Ideal.main_arg3) = m ((c.tc : Thread Cert.Kernel13Ideal.nD Cert.Kernel13Ideal.τ).loc Cert.Kernel13Ideal.main_arg3)
      ∧ m' ((c.tc : Thread Cert.Reference13Ideal.nD Cert.Reference13Ideal.τ).loc Cert.Reference13Ideal.main_arg4) = m ((c.tc : Thread Cert.Kernel13Ideal.nD Cert.Kernel13Ideal.τ).loc Cert.Kernel13Ideal.main_arg4)) →
    ∃ (v0 : (c : Dev Cert.Kernel13Ideal.nD) → Buf (Elt Ideal) ((c.tc : Thread Cert.Kernel13Ideal.nD Cert.Kernel13Ideal.τ).loc Cert.Kernel13Ideal.main_v38)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v38) = v0 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
          ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
          ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3)
          ∧ r.2.mem ((c.tc : Thread Cert.Kernel13Ideal.nD Cert.Kernel13Ideal.τ).loc Cert.Kernel13Ideal.main_arg4) = m ((c.tc : Thread Cert.Kernel13Ideal.nD Cert.Kernel13Ideal.τ).loc Cert.Kernel13Ideal.main_arg4))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v10) = v0 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1)
          ∧ r.2.mem ((c.tc : Thread Cert.Reference13Ideal.nD Cert.Reference13Ideal.τ).loc Cert.Reference13Ideal.main_arg2) = m' ((c.tc : Thread Cert.Reference13Ideal.nD Cert.Reference13Ideal.τ).loc Cert.Reference13Ideal.main_arg2)
          ∧ r.2.mem ((c.tc : Thread Cert.Reference13Ideal.nD Cert.Reference13Ideal.τ).loc Cert.Reference13Ideal.main_arg3) = m' ((c.tc : Thread Cert.Reference13Ideal.nD Cert.Reference13Ideal.τ).loc Cert.Reference13Ideal.main_arg3)
          ∧ r.2.mem ((c.tc : Thread Cert.Reference13Ideal.nD Cert.Reference13Ideal.τ).loc Cert.Reference13Ideal.main_arg4) = m' ((c.tc : Thread Cert.Reference13Ideal.nD Cert.Reference13Ideal.τ).loc Cert.Reference13Ideal.main_arg4))

def preserves_Kernel4_Kernel4Ideal : Prop :=
  True

def algebraic_Kernel4Ideal_Reference4Ideal_pre_gated [hKernel4Ideal : Cert.Kernel4Ideal.Facts] [hReference4Ideal : Cert.Reference4Ideal.Facts] [hPre_gated : Cert.Pre_gated.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal_gated m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)) →
    ∃ (v0 : (c : Dev Cert.Kernel4Ideal.nD) → Buf (Elt Ideal) ((c.tc : Thread Cert.Kernel4Ideal.nD Cert.Kernel4Ideal.τ).loc Cert.Kernel4Ideal.main_v25_0)) (v1 : (c : Dev Cert.Kernel4Ideal.nD) → Buf (Elt Ideal) ((c.tc : Thread Cert.Kernel4Ideal.nD Cert.Kernel4Ideal.τ).loc Cert.Kernel4Ideal.main_v25_1)) (v2 : (c : Dev Cert.Kernel4Ideal.nD) → Buf (Elt Ideal) ((c.tc : Thread Cert.Kernel4Ideal.nD Cert.Kernel4Ideal.τ).loc Cert.Kernel4Ideal.main_v25_2)) (v3 : (c : Dev Cert.Kernel4Ideal.nD) → Buf (Elt Ideal) ((c.tc : Thread Cert.Kernel4Ideal.nD Cert.Kernel4Ideal.τ).loc Cert.Kernel4Ideal.main_v25_3)) (v4 : (c : Dev Cert.Kernel4Ideal.nD) → Buf (Elt Ideal) ((c.tc : Thread Cert.Kernel4Ideal.nD Cert.Kernel4Ideal.τ).loc Cert.Kernel4Ideal.main_v25_4)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v25_0) = v0 c
          ∧ r.2.mem ((c.tc : Thread Cert.Kernel4Ideal.nD Cert.Kernel4Ideal.τ).loc Cert.Kernel4Ideal.main_v25_1) = v1 c
          ∧ r.2.mem ((c.tc : Thread Cert.Kernel4Ideal.nD Cert.Kernel4Ideal.τ).loc Cert.Kernel4Ideal.main_v25_2) = v2 c
          ∧ r.2.mem ((c.tc : Thread Cert.Kernel4Ideal.nD Cert.Kernel4Ideal.τ).loc Cert.Kernel4Ideal.main_v25_3) = v3 c
          ∧ r.2.mem ((c.tc : Thread Cert.Kernel4Ideal.nD Cert.Kernel4Ideal.τ).loc Cert.Kernel4Ideal.main_v25_4) = v4 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v28) = v0 c
          ∧ r.2.mem ((c.tc : Thread Cert.Reference4Ideal.nD Cert.Reference4Ideal.τ).loc Cert.Reference4Ideal.main_v35) = v1 c
          ∧ r.2.mem ((c.tc : Thread Cert.Reference4Ideal.nD Cert.Reference4Ideal.τ).loc Cert.Reference4Ideal.main_v40) = v2 c
          ∧ r.2.mem ((c.tc : Thread Cert.Reference4Ideal.nD Cert.Reference4Ideal.τ).loc Cert.Reference4Ideal.main_v33) = v3 c
          ∧ r.2.mem ((c.tc : Thread Cert.Reference4Ideal.nD Cert.Reference4Ideal.τ).loc Cert.Reference4Ideal.main_v24) = v4 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6))

def preserves_Kernel6_Kernel6Ideal : Prop :=
  True

def algebraic_Kernel6Ideal_Reference6Ideal_pre_settled [hKernel6Ideal : Cert.Kernel6Ideal.Facts] [hReference6Ideal : Cert.Reference6Ideal.Facts] [hPre_settled : Cert.Pre_settled.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal_settled m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)
      ∧ m' ((c.tc : Thread Cert.Reference6Ideal.nD Cert.Reference6Ideal.τ).loc Cert.Reference6Ideal.main_arg5) = m ((c.tc : Thread Cert.Kernel6Ideal.nD Cert.Kernel6Ideal.τ).loc Cert.Kernel6Ideal.main_arg5)
      ∧ m' ((c.tc : Thread Cert.Reference6Ideal.nD Cert.Reference6Ideal.τ).loc Cert.Reference6Ideal.main_arg6) = m ((c.tc : Thread Cert.Kernel6Ideal.nD Cert.Kernel6Ideal.τ).loc Cert.Kernel6Ideal.main_arg6)
      ∧ m' ((c.tc : Thread Cert.Reference6Ideal.nD Cert.Reference6Ideal.τ).loc Cert.Reference6Ideal.main_arg7) = m ((c.tc : Thread Cert.Kernel6Ideal.nD Cert.Kernel6Ideal.τ).loc Cert.Kernel6Ideal.main_arg7)
      ∧ m' ((c.tc : Thread Cert.Reference6Ideal.nD Cert.Reference6Ideal.τ).loc Cert.Reference6Ideal.main_arg8) = m ((c.tc : Thread Cert.Kernel6Ideal.nD Cert.Kernel6Ideal.τ).loc Cert.Kernel6Ideal.main_arg8)
      ∧ m' ((c.tc : Thread Cert.Reference6Ideal.nD Cert.Reference6Ideal.τ).loc Cert.Reference6Ideal.main_arg9) = m ((c.tc : Thread Cert.Kernel6Ideal.nD Cert.Kernel6Ideal.τ).loc Cert.Kernel6Ideal.main_arg9)
      ∧ m' ((c.tc : Thread Cert.Reference6Ideal.nD Cert.Reference6Ideal.τ).loc Cert.Reference6Ideal.main_arg10) = m ((c.tc : Thread Cert.Kernel6Ideal.nD Cert.Kernel6Ideal.τ).loc Cert.Kernel6Ideal.main_arg10)
      ∧ m' ((c.tc : Thread Cert.Reference6Ideal.nD Cert.Reference6Ideal.τ).loc Cert.Reference6Ideal.main_arg11) = m ((c.tc : Thread Cert.Kernel6Ideal.nD Cert.Kernel6Ideal.τ).loc Cert.Kernel6Ideal.main_arg11)) →
    ∃ (v0 : (c : Dev Cert.Kernel6Ideal.nD) → Buf (Elt Ideal) ((c.tc : Thread Cert.Kernel6Ideal.nD Cert.Kernel6Ideal.τ).loc Cert.Kernel6Ideal.main_v4_0)) (v1 : (c : Dev Cert.Kernel6Ideal.nD) → Buf (Elt Ideal) ((c.tc : Thread Cert.Kernel6Ideal.nD Cert.Kernel6Ideal.τ).loc Cert.Kernel6Ideal.main_v4_1)) (v2 : (c : Dev Cert.Kernel6Ideal.nD) → Buf (Elt Ideal) ((c.tc : Thread Cert.Kernel6Ideal.nD Cert.Kernel6Ideal.τ).loc Cert.Kernel6Ideal.main_v4_2)) (v3 : (c : Dev Cert.Kernel6Ideal.nD) → Buf (Elt Ideal) ((c.tc : Thread Cert.Kernel6Ideal.nD Cert.Kernel6Ideal.τ).loc Cert.Kernel6Ideal.main_v4_3)) (v4 : (c : Dev Cert.Kernel6Ideal.nD) → Buf (Elt Ideal) ((c.tc : Thread Cert.Kernel6Ideal.nD Cert.Kernel6Ideal.τ).loc Cert.Kernel6Ideal.main_v4_4)) (v5 : (c : Dev Cert.Kernel6Ideal.nD) → Buf (Elt Ideal) ((c.tc : Thread Cert.Kernel6Ideal.nD Cert.Kernel6Ideal.τ).loc Cert.Kernel6Ideal.main_v4_5)) (v6 : (c : Dev Cert.Kernel6Ideal.nD) → Buf (Elt Ideal) ((c.tc : Thread Cert.Kernel6Ideal.nD Cert.Kernel6Ideal.τ).loc Cert.Kernel6Ideal.main_v4_6)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v4_0) = v0 c
          ∧ r.2.mem ((c.tc : Thread Cert.Kernel6Ideal.nD Cert.Kernel6Ideal.τ).loc Cert.Kernel6Ideal.main_v4_1) = v1 c
          ∧ r.2.mem ((c.tc : Thread Cert.Kernel6Ideal.nD Cert.Kernel6Ideal.τ).loc Cert.Kernel6Ideal.main_v4_2) = v2 c
          ∧ r.2.mem ((c.tc : Thread Cert.Kernel6Ideal.nD Cert.Kernel6Ideal.τ).loc Cert.Kernel6Ideal.main_v4_3) = v3 c
          ∧ r.2.mem ((c.tc : Thread Cert.Kernel6Ideal.nD Cert.Kernel6Ideal.τ).loc Cert.Kernel6Ideal.main_v4_4) = v4 c
          ∧ r.2.mem ((c.tc : Thread Cert.Kernel6Ideal.nD Cert.Kernel6Ideal.τ).loc Cert.Kernel6Ideal.main_v4_5) = v5 c
          ∧ r.2.mem ((c.tc : Thread Cert.Kernel6Ideal.nD Cert.Kernel6Ideal.τ).loc Cert.Kernel6Ideal.main_v4_6) = v6 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
          ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
          ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6)
          ∧ r.2.mem ((c.tc : Thread Cert.Kernel6Ideal.nD Cert.Kernel6Ideal.τ).loc Cert.Kernel6Ideal.main_arg7) = m ((c.tc : Thread Cert.Kernel6Ideal.nD Cert.Kernel6Ideal.τ).loc Cert.Kernel6Ideal.main_arg7)
          ∧ r.2.mem ((c.tc : Thread Cert.Kernel6Ideal.nD Cert.Kernel6Ideal.τ).loc Cert.Kernel6Ideal.main_arg8) = m ((c.tc : Thread Cert.Kernel6Ideal.nD Cert.Kernel6Ideal.τ).loc Cert.Kernel6Ideal.main_arg8)
          ∧ r.2.mem ((c.tc : Thread Cert.Kernel6Ideal.nD Cert.Kernel6Ideal.τ).loc Cert.Kernel6Ideal.main_arg9) = m ((c.tc : Thread Cert.Kernel6Ideal.nD Cert.Kernel6Ideal.τ).loc Cert.Kernel6Ideal.main_arg9)
          ∧ r.2.mem ((c.tc : Thread Cert.Kernel6Ideal.nD Cert.Kernel6Ideal.τ).loc Cert.Kernel6Ideal.main_arg10) = m ((c.tc : Thread Cert.Kernel6Ideal.nD Cert.Kernel6Ideal.τ).loc Cert.Kernel6Ideal.main_arg10)
          ∧ r.2.mem ((c.tc : Thread Cert.Kernel6Ideal.nD Cert.Kernel6Ideal.τ).loc Cert.Kernel6Ideal.main_arg11) = m ((c.tc : Thread Cert.Kernel6Ideal.nD Cert.Kernel6Ideal.τ).loc Cert.Kernel6Ideal.main_arg11))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v3) = v0 c
          ∧ r.2.mem ((c.tc : Thread Cert.Reference6Ideal.nD Cert.Reference6Ideal.τ).loc Cert.Reference6Ideal.main_v19) = v1 c
          ∧ r.2.mem ((c.tc : Thread Cert.Reference6Ideal.nD Cert.Reference6Ideal.τ).loc Cert.Reference6Ideal.main_v98) = v2 c
          ∧ r.2.mem ((c.tc : Thread Cert.Reference6Ideal.nD Cert.Reference6Ideal.τ).loc Cert.Reference6Ideal.main_v94) = v3 c
          ∧ r.2.mem ((c.tc : Thread Cert.Reference6Ideal.nD Cert.Reference6Ideal.τ).loc Cert.Reference6Ideal.main_v63) = v4 c
          ∧ r.2.mem ((c.tc : Thread Cert.Reference6Ideal.nD Cert.Reference6Ideal.τ).loc Cert.Reference6Ideal.main_v78) = v5 c
          ∧ r.2.mem ((c.tc : Thread Cert.Reference6Ideal.nD Cert.Reference6Ideal.τ).loc Cert.Reference6Ideal.main_v97) = v6 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4)
          ∧ r.2.mem ((c.tc : Thread Cert.Reference6Ideal.nD Cert.Reference6Ideal.τ).loc Cert.Reference6Ideal.main_arg5) = m' ((c.tc : Thread Cert.Reference6Ideal.nD Cert.Reference6Ideal.τ).loc Cert.Reference6Ideal.main_arg5)
          ∧ r.2.mem ((c.tc : Thread Cert.Reference6Ideal.nD Cert.Reference6Ideal.τ).loc Cert.Reference6Ideal.main_arg6) = m' ((c.tc : Thread Cert.Reference6Ideal.nD Cert.Reference6Ideal.τ).loc Cert.Reference6Ideal.main_arg6)
          ∧ r.2.mem ((c.tc : Thread Cert.Reference6Ideal.nD Cert.Reference6Ideal.τ).loc Cert.Reference6Ideal.main_arg7) = m' ((c.tc : Thread Cert.Reference6Ideal.nD Cert.Reference6Ideal.τ).loc Cert.Reference6Ideal.main_arg7)
          ∧ r.2.mem ((c.tc : Thread Cert.Reference6Ideal.nD Cert.Reference6Ideal.τ).loc Cert.Reference6Ideal.main_arg8) = m' ((c.tc : Thread Cert.Reference6Ideal.nD Cert.Reference6Ideal.τ).loc Cert.Reference6Ideal.main_arg8)
          ∧ r.2.mem ((c.tc : Thread Cert.Reference6Ideal.nD Cert.Reference6Ideal.τ).loc Cert.Reference6Ideal.main_arg9) = m' ((c.tc : Thread Cert.Reference6Ideal.nD Cert.Reference6Ideal.τ).loc Cert.Reference6Ideal.main_arg9)
          ∧ r.2.mem ((c.tc : Thread Cert.Reference6Ideal.nD Cert.Reference6Ideal.τ).loc Cert.Reference6Ideal.main_arg10) = m' ((c.tc : Thread Cert.Reference6Ideal.nD Cert.Reference6Ideal.τ).loc Cert.Reference6Ideal.main_arg10)
          ∧ r.2.mem ((c.tc : Thread Cert.Reference6Ideal.nD Cert.Reference6Ideal.τ).loc Cert.Reference6Ideal.main_arg11) = m' ((c.tc : Thread Cert.Reference6Ideal.nD Cert.Reference6Ideal.τ).loc Cert.Reference6Ideal.main_arg11))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)
      ∧ m' ((c.tc : Thread Cert.Reference14Ideal.nD Cert.Reference14Ideal.τ).loc Cert.Reference14Ideal.main_arg2) = m ((c.tc : Thread Cert.Kernel14Ideal.nD Cert.Kernel14Ideal.τ).loc Cert.Kernel14Ideal.main_arg2)
      ∧ m' ((c.tc : Thread Cert.Reference14Ideal.nD Cert.Reference14Ideal.τ).loc Cert.Reference14Ideal.main_arg3) = m ((c.tc : Thread Cert.Kernel14Ideal.nD Cert.Kernel14Ideal.τ).loc Cert.Kernel14Ideal.main_arg3)
      ∧ m' ((c.tc : Thread Cert.Reference14Ideal.nD Cert.Reference14Ideal.τ).loc Cert.Reference14Ideal.main_arg4) = m ((c.tc : Thread Cert.Kernel14Ideal.nD Cert.Kernel14Ideal.τ).loc Cert.Kernel14Ideal.main_arg4)) →
    ∃ (v0 : (c : Dev Cert.Kernel14Ideal.nD) → Buf (Elt Ideal) ((c.tc : Thread Cert.Kernel14Ideal.nD Cert.Kernel14Ideal.τ).loc Cert.Kernel14Ideal.main_v3_0)) (v1 : (c : Dev Cert.Kernel14Ideal.nD) → Buf (Elt Ideal) ((c.tc : Thread Cert.Kernel14Ideal.nD Cert.Kernel14Ideal.τ).loc Cert.Kernel14Ideal.main_v3_1)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v3_0) = v0 c
          ∧ r.2.mem ((c.tc : Thread Cert.Kernel14Ideal.nD Cert.Kernel14Ideal.τ).loc Cert.Kernel14Ideal.main_v3_1) = v1 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
          ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
          ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3)
          ∧ r.2.mem ((c.tc : Thread Cert.Kernel14Ideal.nD Cert.Kernel14Ideal.τ).loc Cert.Kernel14Ideal.main_arg4) = m ((c.tc : Thread Cert.Kernel14Ideal.nD Cert.Kernel14Ideal.τ).loc Cert.Kernel14Ideal.main_arg4))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v18) = v0 c
          ∧ r.2.mem ((c.tc : Thread Cert.Reference14Ideal.nD Cert.Reference14Ideal.τ).loc Cert.Reference14Ideal.main_v19) = v1 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1)
          ∧ r.2.mem ((c.tc : Thread Cert.Reference14Ideal.nD Cert.Reference14Ideal.τ).loc Cert.Reference14Ideal.main_arg2) = m' ((c.tc : Thread Cert.Reference14Ideal.nD Cert.Reference14Ideal.τ).loc Cert.Reference14Ideal.main_arg2)
          ∧ r.2.mem ((c.tc : Thread Cert.Reference14Ideal.nD Cert.Reference14Ideal.τ).loc Cert.Reference14Ideal.main_arg3) = m' ((c.tc : Thread Cert.Reference14Ideal.nD Cert.Reference14Ideal.τ).loc Cert.Reference14Ideal.main_arg3)
          ∧ r.2.mem ((c.tc : Thread Cert.Reference14Ideal.nD Cert.Reference14Ideal.τ).loc Cert.Reference14Ideal.main_arg4) = m' ((c.tc : Thread Cert.Reference14Ideal.nD Cert.Reference14Ideal.τ).loc Cert.Reference14Ideal.main_arg4))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)
      ∧ m' ((c.tc : Thread Cert.Reference15Ideal.nD Cert.Reference15Ideal.τ).loc Cert.Reference15Ideal.main_arg2) = m ((c.tc : Thread Cert.Kernel15Ideal.nD Cert.Kernel15Ideal.τ).loc Cert.Kernel15Ideal.main_arg2)
      ∧ m' ((c.tc : Thread Cert.Reference15Ideal.nD Cert.Reference15Ideal.τ).loc Cert.Reference15Ideal.main_arg3) = m ((c.tc : Thread Cert.Kernel15Ideal.nD Cert.Kernel15Ideal.τ).loc Cert.Kernel15Ideal.main_arg3)
      ∧ m' ((c.tc : Thread Cert.Reference15Ideal.nD Cert.Reference15Ideal.τ).loc Cert.Reference15Ideal.main_arg4) = m ((c.tc : Thread Cert.Kernel15Ideal.nD Cert.Kernel15Ideal.τ).loc Cert.Kernel15Ideal.main_arg4)) →
    ∃ (v0 : (c : Dev Cert.Kernel15Ideal.nD) → Buf (Elt Ideal) ((c.tc : Thread Cert.Kernel15Ideal.nD Cert.Kernel15Ideal.τ).loc Cert.Kernel15Ideal.main_v3_0)) (v1 : (c : Dev Cert.Kernel15Ideal.nD) → Buf (Elt Ideal) ((c.tc : Thread Cert.Kernel15Ideal.nD Cert.Kernel15Ideal.τ).loc Cert.Kernel15Ideal.main_v3_1)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v3_0) = v0 c
          ∧ r.2.mem ((c.tc : Thread Cert.Kernel15Ideal.nD Cert.Kernel15Ideal.τ).loc Cert.Kernel15Ideal.main_v3_1) = v1 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
          ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
          ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3)
          ∧ r.2.mem ((c.tc : Thread Cert.Kernel15Ideal.nD Cert.Kernel15Ideal.τ).loc Cert.Kernel15Ideal.main_arg4) = m ((c.tc : Thread Cert.Kernel15Ideal.nD Cert.Kernel15Ideal.τ).loc Cert.Kernel15Ideal.main_arg4))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v19) = v0 c
          ∧ r.2.mem ((c.tc : Thread Cert.Reference15Ideal.nD Cert.Reference15Ideal.τ).loc Cert.Reference15Ideal.main_v20) = v1 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1)
          ∧ r.2.mem ((c.tc : Thread Cert.Reference15Ideal.nD Cert.Reference15Ideal.τ).loc Cert.Reference15Ideal.main_arg2) = m' ((c.tc : Thread Cert.Reference15Ideal.nD Cert.Reference15Ideal.τ).loc Cert.Reference15Ideal.main_arg2)
          ∧ r.2.mem ((c.tc : Thread Cert.Reference15Ideal.nD Cert.Reference15Ideal.τ).loc Cert.Reference15Ideal.main_arg3) = m' ((c.tc : Thread Cert.Reference15Ideal.nD Cert.Reference15Ideal.τ).loc Cert.Reference15Ideal.main_arg3)
          ∧ r.2.mem ((c.tc : Thread Cert.Reference15Ideal.nD Cert.Reference15Ideal.τ).loc Cert.Reference15Ideal.main_arg4) = m' ((c.tc : Thread Cert.Reference15Ideal.nD Cert.Reference15Ideal.τ).loc Cert.Reference15Ideal.main_arg4))

def preserves_Kernel16_Kernel16Ideal : Prop :=
  True

def algebraic_Kernel16Ideal_Reference16Ideal [hKernel16Ideal : Cert.Kernel16Ideal.Facts] [hReference16Ideal : Cert.Reference16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)
      ∧ m' ((c.tc : Thread Cert.Reference16Ideal.nD Cert.Reference16Ideal.τ).loc Cert.Reference16Ideal.main_arg2) = m ((c.tc : Thread Cert.Kernel16Ideal.nD Cert.Kernel16Ideal.τ).loc Cert.Kernel16Ideal.main_arg2)
      ∧ m' ((c.tc : Thread Cert.Reference16Ideal.nD Cert.Reference16Ideal.τ).loc Cert.Reference16Ideal.main_arg3) = m ((c.tc : Thread Cert.Kernel16Ideal.nD Cert.Kernel16Ideal.τ).loc Cert.Kernel16Ideal.main_arg3)) →
    ∃ (v0 : (c : Dev Cert.Kernel16Ideal.nD) → Buf (Elt Ideal) ((c.tc : Thread Cert.Kernel16Ideal.nD Cert.Kernel16Ideal.τ).loc Cert.Kernel16Ideal.main_v2)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v2) = v0 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
          ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2)
          ∧ r.2.mem ((c.tc : Thread Cert.Kernel16Ideal.nD Cert.Kernel16Ideal.τ).loc Cert.Kernel16Ideal.main_arg3) = m ((c.tc : Thread Cert.Kernel16Ideal.nD Cert.Kernel16Ideal.τ).loc Cert.Kernel16Ideal.main_arg3))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v8) = v0 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1)
          ∧ r.2.mem ((c.tc : Thread Cert.Reference16Ideal.nD Cert.Reference16Ideal.τ).loc Cert.Reference16Ideal.main_arg2) = m' ((c.tc : Thread Cert.Reference16Ideal.nD Cert.Reference16Ideal.τ).loc Cert.Reference16Ideal.main_arg2)
          ∧ r.2.mem ((c.tc : Thread Cert.Reference16Ideal.nD Cert.Reference16Ideal.τ).loc Cert.Reference16Ideal.main_arg3) = m' ((c.tc : Thread Cert.Reference16Ideal.nD Cert.Reference16Ideal.τ).loc Cert.Reference16Ideal.main_arg3))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)
      ∧ m' ((c.tc : Thread Cert.Reference10Ideal.nD Cert.Reference10Ideal.τ).loc Cert.Reference10Ideal.main_arg3) = m ((c.tc : Thread Cert.Kernel10Ideal.nD Cert.Kernel10Ideal.τ).loc Cert.Kernel10Ideal.main_arg3)
      ∧ m' ((c.tc : Thread Cert.Reference10Ideal.nD Cert.Reference10Ideal.τ).loc Cert.Reference10Ideal.main_arg4) = m ((c.tc : Thread Cert.Kernel10Ideal.nD Cert.Kernel10Ideal.τ).loc Cert.Kernel10Ideal.main_arg4)
      ∧ m' ((c.tc : Thread Cert.Reference10Ideal.nD Cert.Reference10Ideal.τ).loc Cert.Reference10Ideal.main_arg5) = m ((c.tc : Thread Cert.Kernel10Ideal.nD Cert.Kernel10Ideal.τ).loc Cert.Kernel10Ideal.main_arg5)
      ∧ m' ((c.tc : Thread Cert.Reference10Ideal.nD Cert.Reference10Ideal.τ).loc Cert.Reference10Ideal.main_arg6) = m ((c.tc : Thread Cert.Kernel10Ideal.nD Cert.Kernel10Ideal.τ).loc Cert.Kernel10Ideal.main_arg6)
      ∧ m' ((c.tc : Thread Cert.Reference10Ideal.nD Cert.Reference10Ideal.τ).loc Cert.Reference10Ideal.main_arg7) = m ((c.tc : Thread Cert.Kernel10Ideal.nD Cert.Kernel10Ideal.τ).loc Cert.Kernel10Ideal.main_arg7)) →
    ∃ (v0 : (c : Dev Cert.Kernel10Ideal.nD) → Buf (Elt Ideal) ((c.tc : Thread Cert.Kernel10Ideal.nD Cert.Kernel10Ideal.τ).loc Cert.Kernel10Ideal.main_v341_0)) (v1 : (c : Dev Cert.Kernel10Ideal.nD) → Buf (Elt Ideal) ((c.tc : Thread Cert.Kernel10Ideal.nD Cert.Kernel10Ideal.τ).loc Cert.Kernel10Ideal.main_v341_1)) (v2 : (c : Dev Cert.Kernel10Ideal.nD) → Buf (Elt Ideal) ((c.tc : Thread Cert.Kernel10Ideal.nD Cert.Kernel10Ideal.τ).loc Cert.Kernel10Ideal.main_v341_2)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v341_0) = v0 c
          ∧ r.2.mem ((c.tc : Thread Cert.Kernel10Ideal.nD Cert.Kernel10Ideal.τ).loc Cert.Kernel10Ideal.main_v341_1) = v1 c
          ∧ r.2.mem ((c.tc : Thread Cert.Kernel10Ideal.nD Cert.Kernel10Ideal.τ).loc Cert.Kernel10Ideal.main_v341_2) = v2 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
          ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
          ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4)
          ∧ r.2.mem ((c.tc : Thread Cert.Kernel10Ideal.nD Cert.Kernel10Ideal.τ).loc Cert.Kernel10Ideal.main_arg5) = m ((c.tc : Thread Cert.Kernel10Ideal.nD Cert.Kernel10Ideal.τ).loc Cert.Kernel10Ideal.main_arg5)
          ∧ r.2.mem ((c.tc : Thread Cert.Kernel10Ideal.nD Cert.Kernel10Ideal.τ).loc Cert.Kernel10Ideal.main_arg6) = m ((c.tc : Thread Cert.Kernel10Ideal.nD Cert.Kernel10Ideal.τ).loc Cert.Kernel10Ideal.main_arg6)
          ∧ r.2.mem ((c.tc : Thread Cert.Kernel10Ideal.nD Cert.Kernel10Ideal.τ).loc Cert.Kernel10Ideal.main_arg7) = m ((c.tc : Thread Cert.Kernel10Ideal.nD Cert.Kernel10Ideal.τ).loc Cert.Kernel10Ideal.main_arg7))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v301) = v0 c
          ∧ r.2.mem ((c.tc : Thread Cert.Reference10Ideal.nD Cert.Reference10Ideal.τ).loc Cert.Reference10Ideal.main_v299) = v1 c
          ∧ r.2.mem ((c.tc : Thread Cert.Reference10Ideal.nD Cert.Reference10Ideal.τ).loc Cert.Reference10Ideal.main_v324) = v2 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2)
          ∧ r.2.mem ((c.tc : Thread Cert.Reference10Ideal.nD Cert.Reference10Ideal.τ).loc Cert.Reference10Ideal.main_arg3) = m' ((c.tc : Thread Cert.Reference10Ideal.nD Cert.Reference10Ideal.τ).loc Cert.Reference10Ideal.main_arg3)
          ∧ r.2.mem ((c.tc : Thread Cert.Reference10Ideal.nD Cert.Reference10Ideal.τ).loc Cert.Reference10Ideal.main_arg4) = m' ((c.tc : Thread Cert.Reference10Ideal.nD Cert.Reference10Ideal.τ).loc Cert.Reference10Ideal.main_arg4)
          ∧ r.2.mem ((c.tc : Thread Cert.Reference10Ideal.nD Cert.Reference10Ideal.τ).loc Cert.Reference10Ideal.main_arg5) = m' ((c.tc : Thread Cert.Reference10Ideal.nD Cert.Reference10Ideal.τ).loc Cert.Reference10Ideal.main_arg5)
          ∧ r.2.mem ((c.tc : Thread Cert.Reference10Ideal.nD Cert.Reference10Ideal.τ).loc Cert.Reference10Ideal.main_arg6) = m' ((c.tc : Thread Cert.Reference10Ideal.nD Cert.Reference10Ideal.τ).loc Cert.Reference10Ideal.main_arg6)
          ∧ r.2.mem ((c.tc : Thread Cert.Reference10Ideal.nD Cert.Reference10Ideal.τ).loc Cert.Reference10Ideal.main_arg7) = m' ((c.tc : Thread Cert.Reference10Ideal.nD Cert.Reference10Ideal.τ).loc Cert.Reference10Ideal.main_arg7))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel11 : Cert.Kernel11.Facts) (hKernel11Ideal : Cert.Kernel11Ideal.Facts) (hReference11Ideal : Cert.Reference11Ideal.Facts) (hKernel9 : Cert.Kernel9.Facts) (hKernel9Ideal : Cert.Kernel9Ideal.Facts) (hReference9Ideal : Cert.Reference9Ideal.Facts) (hKernel8 : Cert.Kernel8.Facts) (hKernel8Ideal : Cert.Kernel8Ideal.Facts) (hReference8Ideal : Cert.Reference8Ideal.Facts) (hKernel7 : Cert.Kernel7.Facts) (hKernel7Ideal : Cert.Kernel7Ideal.Facts) (hReference7Ideal : Cert.Reference7Ideal.Facts) (hKernel5 : Cert.Kernel5.Facts) (hKernel5Ideal : Cert.Kernel5Ideal.Facts) (hReference5Ideal : Cert.Reference5Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel4 : Cert.Kernel4.Facts) (hKernel4Ideal : Cert.Kernel4Ideal.Facts) (hReference4Ideal : Cert.Reference4Ideal.Facts) (hKernel6 : Cert.Kernel6.Facts) (hKernel6Ideal : Cert.Kernel6Ideal.Facts) (hReference6Ideal : Cert.Reference6Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts) (hReference16Ideal : Cert.Reference16Ideal.Facts) (hKernel10 : Cert.Kernel10.Facts) (hKernel10Ideal : Cert.Kernel10Ideal.Facts) (hReference10Ideal : Cert.Reference10Ideal.Facts) (hPre_tame : Cert.Pre_tame.Facts) (hPre_plain : Cert.Pre_plain.Facts) (hPre_smooth : Cert.Pre_smooth.Facts) (hPre_gated : Cert.Pre_gated.Facts) (hPre_settled : Cert.Pre_settled.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel8 (hKernel8 := hKernel8)
    ∧ quiescent_Kernel8Ideal (hKernel8Ideal := hKernel8Ideal)
    ∧ quiescent_Kernel8Ideal_pre_tame (hKernel8Ideal := hKernel8Ideal) (hPre_tame := hPre_tame)
    ∧ quiescent_Reference8Ideal (hReference8Ideal := hReference8Ideal)
    ∧ quiescent_Reference8Ideal_pre_tame (hReference8Ideal := hReference8Ideal) (hPre_tame := hPre_tame)
    ∧ quiescent_Kernel7 (hKernel7 := hKernel7)
    ∧ quiescent_Kernel7Ideal (hKernel7Ideal := hKernel7Ideal)
    ∧ quiescent_Kernel7Ideal_pre_plain (hKernel7Ideal := hKernel7Ideal) (hPre_plain := hPre_plain)
    ∧ quiescent_Reference7Ideal (hReference7Ideal := hReference7Ideal)
    ∧ quiescent_Reference7Ideal_pre_plain (hReference7Ideal := hReference7Ideal) (hPre_plain := hPre_plain)
    ∧ quiescent_Kernel5 (hKernel5 := hKernel5)
    ∧ quiescent_Kernel5Ideal (hKernel5Ideal := hKernel5Ideal)
    ∧ quiescent_Kernel5Ideal_pre_smooth (hKernel5Ideal := hKernel5Ideal) (hPre_smooth := hPre_smooth)
    ∧ quiescent_Reference5Ideal (hReference5Ideal := hReference5Ideal)
    ∧ quiescent_Reference5Ideal_pre_smooth (hReference5Ideal := hReference5Ideal) (hPre_smooth := hPre_smooth)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel4 (hKernel4 := hKernel4)
    ∧ quiescent_Kernel4Ideal (hKernel4Ideal := hKernel4Ideal)
    ∧ quiescent_Kernel4Ideal_pre_gated (hKernel4Ideal := hKernel4Ideal) (hPre_gated := hPre_gated)
    ∧ quiescent_Reference4Ideal (hReference4Ideal := hReference4Ideal)
    ∧ quiescent_Reference4Ideal_pre_gated (hReference4Ideal := hReference4Ideal) (hPre_gated := hPre_gated)
    ∧ quiescent_Kernel6 (hKernel6 := hKernel6)
    ∧ quiescent_Kernel6Ideal (hKernel6Ideal := hKernel6Ideal)
    ∧ quiescent_Kernel6Ideal_pre_settled (hKernel6Ideal := hKernel6Ideal) (hPre_settled := hPre_settled)
    ∧ quiescent_Reference6Ideal (hReference6Ideal := hReference6Ideal)
    ∧ quiescent_Reference6Ideal_pre_settled (hReference6Ideal := hReference6Ideal) (hPre_settled := hPre_settled)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Reference15Ideal (hReference15Ideal := hReference15Ideal)
    ∧ quiescent_Kernel16 (hKernel16 := hKernel16)
    ∧ quiescent_Kernel16Ideal (hKernel16Ideal := hKernel16Ideal)
    ∧ quiescent_Reference16Ideal (hReference16Ideal := hReference16Ideal)
    ∧ quiescent_Kernel10 (hKernel10 := hKernel10)
    ∧ quiescent_Kernel10Ideal (hKernel10Ideal := hKernel10Ideal)
    ∧ quiescent_Reference10Ideal (hReference10Ideal := hReference10Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
    ∧ preserves_Kernel11_Kernel11Ideal
    ∧ algebraic_Kernel11Ideal_Reference11Ideal (hKernel11Ideal := hKernel11Ideal) (hReference11Ideal := hReference11Ideal)
    ∧ preserves_Kernel9_Kernel9Ideal
    ∧ algebraic_Kernel9Ideal_Reference9Ideal (hKernel9Ideal := hKernel9Ideal) (hReference9Ideal := hReference9Ideal)
    ∧ preserves_Kernel8_Kernel8Ideal
    ∧ algebraic_Kernel8Ideal_Reference8Ideal_pre_tame (hKernel8Ideal := hKernel8Ideal) (hReference8Ideal := hReference8Ideal) (hPre_tame := hPre_tame)
    ∧ preserves_Kernel7_Kernel7Ideal
    ∧ algebraic_Kernel7Ideal_Reference7Ideal_pre_plain (hKernel7Ideal := hKernel7Ideal) (hReference7Ideal := hReference7Ideal) (hPre_plain := hPre_plain)
    ∧ preserves_Kernel5_Kernel5Ideal
    ∧ algebraic_Kernel5Ideal_Reference5Ideal_pre_smooth (hKernel5Ideal := hKernel5Ideal) (hReference5Ideal := hReference5Ideal) (hPre_smooth := hPre_smooth)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel4_Kernel4Ideal
    ∧ algebraic_Kernel4Ideal_Reference4Ideal_pre_gated (hKernel4Ideal := hKernel4Ideal) (hReference4Ideal := hReference4Ideal) (hPre_gated := hPre_gated)
    ∧ preserves_Kernel6_Kernel6Ideal
    ∧ algebraic_Kernel6Ideal_Reference6Ideal_pre_settled (hKernel6Ideal := hKernel6Ideal) (hReference6Ideal := hReference6Ideal) (hPre_settled := hPre_settled)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal (hKernel15Ideal := hKernel15Ideal) (hReference15Ideal := hReference15Ideal)
    ∧ preserves_Kernel16_Kernel16Ideal
    ∧ algebraic_Kernel16Ideal_Reference16Ideal (hKernel16Ideal := hKernel16Ideal) (hReference16Ideal := hReference16Ideal)
    ∧ preserves_Kernel10_Kernel10Ideal
    ∧ algebraic_Kernel10Ideal_Reference10Ideal (hKernel10Ideal := hKernel10Ideal) (hReference10Ideal := hReference10Ideal)
-- ==== Pre_gated.lean ====
abbrev S8192x2048 : Shape := ⟨2, ![8192, 2048]⟩
abbrev S1x2048 : Shape := ⟨2, ![1, 2048]⟩
abbrev S8192x1024 : Shape := ⟨2, ![8192, 1024]⟩
abbrev S8192x4096 : Shape := ⟨2, ![8192, 4096]⟩
abbrev S1x1024 : Shape := ⟨2, ![1, 1024]⟩
abbrev S2048x2048 : Shape := ⟨2, ![2048, 2048]⟩
abbrev S_ : Shape := ⟨0, ![]⟩

class Facts : Prop where
  bcast_S_S8192x2048 : S_.BroadcastsInDim S8192x2048 (![] : Fin 0 → Fin S8192x2048.rank)
  reducesTo_S8192x2048_S_d0_1 : S8192x2048.ReducesTo [0, 1] S_
  h_S_ : 0 < S_.numel
  bcast_S_S1x2048 : S_.BroadcastsInDim S1x2048 (![] : Fin 0 → Fin S1x2048.rank)
  reducesTo_S1x2048_S_d0_1 : S1x2048.ReducesTo [0, 1] S_
  bcast_S_S8192x1024 : S_.BroadcastsInDim S8192x1024 (![] : Fin 0 → Fin S8192x1024.rank)
  reducesTo_S8192x1024_S_d0_1 : S8192x1024.ReducesTo [0, 1] S_
  bcast_S_S8192x4096 : S_.BroadcastsInDim S8192x4096 (![] : Fin 0 → Fin S8192x4096.rank)
  reducesTo_S8192x4096_S_d0_1 : S8192x4096.ReducesTo [0, 1] S_
  bcast_S_S1x1024 : S_.BroadcastsInDim S1x1024 (![] : Fin 0 → Fin S1x1024.rank)
  reducesTo_S1x1024_S_d0_1 : S1x1024.ReducesTo [0, 1] S_
  bcast_S_S2048x2048 : S_.BroadcastsInDim S2048x2048 (![] : Fin 0 → Fin S2048x2048.rank)
  reducesTo_S2048x2048_S_d0_1 : S2048x2048.ReducesTo [0, 1] S_

variable [Facts]

def fn_part1 {F : FTy → Type} [FloatOps F] (main_arg4 : FVec F S8192x4096 .f32) (main_arg5 : FVec F S1x1024 .f32) (main_arg6 : FVec F S2048x2048 .f32) (main_v13 : IVec S_ 1) (main_v16 : IVec S8192x2048 1) : IVec S_ 1 :=
  let main_c_5 : IVec S_ 1 := constantI S_ 1 1#1
  let main_v17 : IVec S_ 1 := (fun x v => Host.reduce IntOp.andi x v reducesTo_S8192x2048_S_d0_1 h_S_) main_v16 main_c_5
  let main_v18 : IVec S_ 1 := andi main_v13 main_v17
  let main_v19 : FVec F S8192x4096 .f32 := Host.absf main_arg4
  let main_cst_6 : FVec F S_ .f32 := constant S_ .f32 0x7F800000#32
  let main_v20 : FVec F S8192x4096 .f32 := broadcastInDim S8192x4096 ![] bcast_S_S8192x4096 main_cst_6
  let main_v21 : IVec S8192x4096 1 := cmpf .olt main_v19 main_v20
  let main_c_7 : IVec S_ 1 := constantI S_ 1 1#1
  let main_v22 : IVec S_ 1 := (fun x v => Host.reduce IntOp.andi x v reducesTo_S8192x4096_S_d0_1 h_S_) main_v21 main_c_7
  let main_v23 : IVec S_ 1 := andi main_v18 main_v22
  let main_v24 : FVec F S1x1024 .f32 := Host.absf main_arg5
  let main_cst_8 : FVec F S_ .f32 := constant S_ .f32 0x7F800000#32
  let main_v25 : FVec F S1x1024 .f32 := broadcastInDim S1x1024 ![] bcast_S_S1x1024 main_cst_8
  let main_v26 : IVec S1x1024 1 := cmpf .olt main_v24 main_v25
  let main_c_9 : IVec S_ 1 := constantI S_ 1 1#1
  let main_v27 : IVec S_ 1 := (fun x v => Host.reduce IntOp.andi x v reducesTo_S1x1024_S_d0_1 h_S_) main_v26 main_c_9
  let main_v28 : IVec S_ 1 := andi main_v23 main_v27
  let main_v29 : FVec F S2048x2048 .f32 := Host.absf main_arg6
  let main_cst_10 : FVec F S_ .f32 := constant S_ .f32 0x7F800000#32
  let main_v30 : FVec F S2048x2048 .f32 := broadcastInDim S2048x2048 ![] bcast_S_S2048x2048 main_cst_10
  let main_v31 : IVec S2048x2048 1 := cmpf .olt main_v29 main_v30
  let main_c_11 : IVec S_ 1 := constantI S_ 1 1#1
  let main_v32 : IVec S_ 1 := (fun x v => Host.reduce IntOp.andi x v reducesTo_S2048x2048_S_d0_1 h_S_) main_v31 main_c_11
  let main_v33 : IVec S_ 1 := andi main_v28 main_v32
  main_v33

def fn {F : FTy → Type} [FloatOps F] (main_arg0 : FVec F S8192x2048 .f32) (main_arg1 : FVec F S1x2048 .f32) (main_arg2 : FVec F S8192x1024 .f32) (main_arg3 : FVec F S8192x2048 .f32) (main_arg4 : FVec F S8192x4096 .f32) (main_arg5 : FVec F S1x1024 .f32) (main_arg6 : FVec F S2048x2048 .f32) : IVec S_ 1 :=
  let main_v0 : FVec F S8192x2048 .f32 := Host.absf main_arg0
  let main_cst : FVec F S_ .f32 := constant S_ .f32 0x7F800000#32
  let main_v1 : FVec F S8192x2048 .f32 := broadcastInDim S8192x2048 ![] bcast_S_S8192x2048 main_cst
  let main_v2 : IVec S8192x2048 1 := cmpf .olt main_v0 main_v1
  let main_c : IVec S_ 1 := constantI S_ 1 1#1
  let main_v3 : IVec S_ 1 := (fun x v => Host.reduce IntOp.andi x v reducesTo_S8192x2048_S_d0_1 h_S_) main_v2 main_c
  let main_v4 : FVec F S1x2048 .f32 := Host.absf main_arg1
  let main_cst_0 : FVec F S_ .f32 := constant S_ .f32 0x7F800000#32
  let main_v5 : FVec F S1x2048 .f32 := broadcastInDim S1x2048 ![] bcast_S_S1x2048 main_cst_0
  let main_v6 : IVec S1x2048 1 := cmpf .olt main_v4 main_v5
  let main_c_1 : IVec S_ 1 := constantI S_ 1 1#1
  let main_v7 : IVec S_ 1 := (fun x v => Host.reduce IntOp.andi x v reducesTo_S1x2048_S_d0_1 h_S_) main_v6 main_c_1
  let main_v8 : IVec S_ 1 := andi main_v3 main_v7
  let main_v9 : FVec F S8192x1024 .f32 := Host.absf main_arg2
  let main_cst_2 : FVec F S_ .f32 := constant S_ .f32 0x7F800000#32
  let main_v10 : FVec F S8192x1024 .f32 := broadcastInDim S8192x1024 ![] bcast_S_S8192x1024 main_cst_2
  let main_v11 : IVec S8192x1024 1 := cmpf .olt main_v9 main_v10
  let main_c_3 : IVec S_ 1 := constantI S_ 1 1#1
  let main_v12 : IVec S_ 1 := (fun x v => Host.reduce IntOp.andi x v reducesTo_S8192x1024_S_d0_1 h_S_) main_v11 main_c_3
  let main_v13 : IVec S_ 1 := andi main_v8 main_v12
  let main_v14 : FVec F S8192x2048 .f32 := Host.absf main_arg3
  let main_cst_4 : FVec F S_ .f32 := constant S_ .f32 0x7F800000#32
  let main_v15 : FVec F S8192x2048 .f32 := broadcastInDim S8192x2048 ![] bcast_S_S8192x2048 main_cst_4
  let main_v16 : IVec S8192x2048 1 := cmpf .olt main_v14 main_v15
  fn_part1 (F := F) main_arg4 main_arg5 main_arg6 main_v13 main_v16
-- ==== Pre_plain.lean ====
abbrev S8192x2048 : Shape := ⟨2, ![8192, 2048]⟩
abbrev S8192x1024 : Shape := ⟨2, ![8192, 1024]⟩
abbrev S2048x4096 : Shape := ⟨2, ![2048, 4096]⟩
abbrev S1x2048 : Shape := ⟨2, ![1, 2048]⟩
abbrev S1x1024 : Shape := ⟨2, ![1, 1024]⟩
abbrev S_ : Shape := ⟨0, ![]⟩

class Facts : Prop where
  bcast_S_S8192x2048 : S_.BroadcastsInDim S8192x2048 (![] : Fin 0 → Fin S8192x2048.rank)
  reducesTo_S8192x2048_S_d0_1 : S8192x2048.ReducesTo [0, 1] S_
  h_S_ : 0 < S_.numel
  bcast_S_S8192x1024 : S_.BroadcastsInDim S8192x1024 (![] : Fin 0 → Fin S8192x1024.rank)
  reducesTo_S8192x1024_S_d0_1 : S8192x1024.ReducesTo [0, 1] S_
  bcast_S_S2048x4096 : S_.BroadcastsInDim S2048x4096 (![] : Fin 0 → Fin S2048x4096.rank)
  reducesTo_S2048x4096_S_d0_1 : S2048x4096.ReducesTo [0, 1] S_
  bcast_S_S1x2048 : S_.BroadcastsInDim S1x2048 (![] : Fin 0 → Fin S1x2048.rank)
  reducesTo_S1x2048_S_d0_1 : S1x2048.ReducesTo [0, 1] S_
  bcast_S_S1x1024 : S_.BroadcastsInDim S1x1024 (![] : Fin 0 → Fin S1x1024.rank)
  reducesTo_S1x1024_S_d0_1 : S1x1024.ReducesTo [0, 1] S_

variable [Facts]

def fn_part2 {F : FTy → Type} [FloatOps F] (main_arg8 : FVec F S1x2048 .f32) (main_arg10 : FVec F S1x1024 .f32) (main_v33 : IVec S_ 1) : IVec S_ 1 :=
  let main_v34 : FVec F S1x2048 .f32 := Host.absf main_arg8
  let main_cst_12 : FVec F S_ .f32 := constant S_ .f32 0x7F800000#32
  let main_v35 : FVec F S1x2048 .f32 := broadcastInDim S1x2048 ![] bcast_S_S1x2048 main_cst_12
  let main_v36 : IVec S1x2048 1 := cmpf .olt main_v34 main_v35
  let main_c_13 : IVec S_ 1 := constantI S_ 1 1#1
  let main_v37 : IVec S_ 1 := (fun x v => Host.reduce IntOp.andi x v reducesTo_S1x2048_S_d0_1 h_S_) main_v36 main_c_13
  let main_v38 : IVec S_ 1 := andi main_v33 main_v37
  let main_v39 : FVec F S1x1024 .f32 := Host.absf main_arg10
  let main_cst_14 : FVec F S_ .f32 := constant S_ .f32 0x7F800000#32
  let main_v40 : FVec F S1x1024 .f32 := broadcastInDim S1x1024 ![] bcast_S_S1x1024 main_cst_14
  let main_v41 : IVec S1x1024 1 := cmpf .olt main_v39 main_v40
  let main_c_15 : IVec S_ 1 := constantI S_ 1 1#1
  let main_v42 : IVec S_ 1 := (fun x v => Host.reduce IntOp.andi x v reducesTo_S1x1024_S_d0_1 h_S_) main_v41 main_c_15
  let main_v43 : IVec S_ 1 := andi main_v38 main_v42
  main_v43

def fn_part1 {F : FTy → Type} [FloatOps F] (main_arg5 : FVec F S8192x2048 .f32) (main_arg6 : FVec F S2048x4096 .f32) (main_arg7 : FVec F S1x2048 .f32) (main_arg8 : FVec F S1x2048 .f32) (main_arg10 : FVec F S1x1024 .f32) (main_v13 : IVec S_ 1) (main_v16 : IVec S8192x1024 1) : IVec S_ 1 :=
  let main_c_5 : IVec S_ 1 := constantI S_ 1 1#1
  let main_v17 : IVec S_ 1 := (fun x v => Host.reduce IntOp.andi x v reducesTo_S8192x1024_S_d0_1 h_S_) main_v16 main_c_5
  let main_v18 : IVec S_ 1 := andi main_v13 main_v17
  let main_v19 : FVec F S8192x2048 .f32 := Host.absf main_arg5
  let main_cst_6 : FVec F S_ .f32 := constant S_ .f32 0x7F800000#32
  let main_v20 : FVec F S8192x2048 .f32 := broadcastInDim S8192x2048 ![] bcast_S_S8192x2048 main_cst_6
  let main_v21 : IVec S8192x2048 1 := cmpf .olt main_v19 main_v20
  let main_c_7 : IVec S_ 1 := constantI S_ 1 1#1
  let main_v22 : IVec S_ 1 := (fun x v => Host.reduce IntOp.andi x v reducesTo_S8192x2048_S_d0_1 h_S_) main_v21 main_c_7
  let main_v23 : IVec S_ 1 := andi main_v18 main_v22
  let main_v24 : FVec F S2048x4096 .f32 := Host.absf main_arg6
  let main_cst_8 : FVec F S_ .f32 := constant S_ .f32 0x7F800000#32
  let main_v25 : FVec F S2048x4096 .f32 := broadcastInDim S2048x4096 ![] bcast_S_S2048x4096 main_cst_8
  let main_v26 : IVec S2048x4096 1 := cmpf .olt main_v24 main_v25
  let main_c_9 : IVec S_ 1 := constantI S_ 1 1#1
  let main_v27 : IVec S_ 1 := (fun x v => Host.reduce IntOp.andi x v reducesTo_S2048x4096_S_d0_1 h_S_) main_v26 main_c_9
  let main_v28 : IVec S_ 1 := andi main_v23 main_v27
  let main_v29 : FVec F S1x2048 .f32 := Host.absf main_arg7
  let main_cst_10 : FVec F S_ .f32 := constant S_ .f32 0x7F800000#32
  let main_v30 : FVec F S1x2048 .f32 := broadcastInDim S1x2048 ![] bcast_S_S1x2048 main_cst_10
  let main_v31 : IVec S1x2048 1 := cmpf .olt main_v29 main_v30
  let main_c_11 : IVec S_ 1 := constantI S_ 1 1#1
  let main_v32 : IVec S_ 1 := (fun x v => Host.reduce IntOp.andi x v reducesTo_S1x2048_S_d0_1 h_S_) main_v31 main_c_11
  let main_v33 : IVec S_ 1 := andi main_v28 main_v32
  fn_part2 (F := F) main_arg8 main_arg10 main_v33

def fn {F : FTy → Type} [FloatOps F] (main_arg0 : FVec F S8192x2048 .f32) (main_arg1 : FVec F S8192x2048 .f32) (main_arg2 : FVec F S8192x1024 .f32) (main_arg3 : FVec F S8192x1024 .f32) (main_arg4 : FVec F S8192x1024 .f32) (main_arg5 : FVec F S8192x2048 .f32) (main_arg6 : FVec F S2048x4096 .f32) (main_arg7 : FVec F S1x2048 .f32) (main_arg8 : FVec F S1x2048 .f32) (main_arg9 : FVec F S1x2048 .f32) (main_arg10 : FVec F S1x1024 .f32) (main_arg11 : FVec F S1x2048 .f32) : IVec S_ 1 :=
  let main_v0 : FVec F S8192x2048 .f32 := Host.absf main_arg0
  let main_cst : FVec F S_ .f32 := constant S_ .f32 0x7F800000#32
  let main_v1 : FVec F S8192x2048 .f32 := broadcastInDim S8192x2048 ![] bcast_S_S8192x2048 main_cst
  let main_v2 : IVec S8192x2048 1 := cmpf .olt main_v0 main_v1
  let main_c : IVec S_ 1 := constantI S_ 1 1#1
  let main_v3 : IVec S_ 1 := (fun x v => Host.reduce IntOp.andi x v reducesTo_S8192x2048_S_d0_1 h_S_) main_v2 main_c
  let main_v4 : FVec F S8192x1024 .f32 := Host.absf main_arg2
  let main_cst_0 : FVec F S_ .f32 := constant S_ .f32 0x7F800000#32
  let main_v5 : FVec F S8192x1024 .f32 := broadcastInDim S8192x1024 ![] bcast_S_S8192x1024 main_cst_0
  let main_v6 : IVec S8192x1024 1 := cmpf .olt main_v4 main_v5
  let main_c_1 : IVec S_ 1 := constantI S_ 1 1#1
  let main_v7 : IVec S_ 1 := (fun x v => Host.reduce IntOp.andi x v reducesTo_S8192x1024_S_d0_1 h_S_) main_v6 main_c_1
  let main_v8 : IVec S_ 1 := andi main_v3 main_v7
  let main_v9 : FVec F S8192x1024 .f32 := Host.absf main_arg3
  let main_cst_2 : FVec F S_ .f32 := constant S_ .f32 0x7F800000#32
  let main_v10 : FVec F S8192x1024 .f32 := broadcastInDim S8192x1024 ![] bcast_S_S8192x1024 main_cst_2
  let main_v11 : IVec S8192x1024 1 := cmpf .olt main_v9 main_v10
  let main_c_3 : IVec S_ 1 := constantI S_ 1 1#1
  let main_v12 : IVec S_ 1 := (fun x v => Host.reduce IntOp.andi x v reducesTo_S8192x1024_S_d0_1 h_S_) main_v11 main_c_3
  let main_v13 : IVec S_ 1 := andi main_v8 main_v12
  let main_v14 : FVec F S8192x1024 .f32 := Host.absf main_arg4
  let main_cst_4 : FVec F S_ .f32 := constant S_ .f32 0x7F800000#32
  let main_v15 : FVec F S8192x1024 .f32 := broadcastInDim S8192x1024 ![] bcast_S_S8192x1024 main_cst_4
  let main_v16 : IVec S8192x1024 1 := cmpf .olt main_v14 main_v15
  fn_part1 (F := F) main_arg5 main_arg6 main_arg7 main_arg8 main_arg10 main_v13 main_v16
-- ==== Pre_settled.lean ====
abbrev S8192x1024 : Shape := ⟨2, ![8192, 1024]⟩
abbrev S8192x4096 : Shape := ⟨2, ![8192, 4096]⟩
abbrev S8192x2048 : Shape := ⟨2, ![8192, 2048]⟩
abbrev S1024x2048 : Shape := ⟨2, ![1024, 2048]⟩
abbrev S2048x2048 : Shape := ⟨2, ![2048, 2048]⟩
abbrev S1x1024 : Shape := ⟨2, ![1, 1024]⟩
abbrev S1x2048 : Shape := ⟨2, ![1, 2048]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S8192x4096 : S_.BroadcastsInDim S8192x4096 (![] : Fin 0 → Fin S8192x4096.rank)
  reducesTo_S8192x4096_S_d0_1 : S8192x4096.ReducesTo [0, 1] S_
  bcast_S_S8192x2048 : S_.BroadcastsInDim S8192x2048 (![] : Fin 0 → Fin S8192x2048.rank)
  reducesTo_S8192x2048_S_d0_1 : S8192x2048.ReducesTo [0, 1] S_
  bcast_S_S1024x2048 : S_.BroadcastsInDim S1024x2048 (![] : Fin 0 → Fin S1024x2048.rank)
  reducesTo_S1024x2048_S_d0_1 : S1024x2048.ReducesTo [0, 1] S_
  bcast_S_S2048x2048 : S_.BroadcastsInDim S2048x2048 (![] : Fin 0 → Fin S2048x2048.rank)
  reducesTo_S2048x2048_S_d0_1 : S2048x2048.ReducesTo [0, 1] S_
  bcast_S_S1x1024 : S_.BroadcastsInDim S1x1024 (![] : Fin 0 → Fin S1x1024.rank)
  reducesTo_S1x1024_S_d0_1 : S1x1024.ReducesTo [0, 1] S_
  bcast_S_S1x2048 : S_.BroadcastsInDim S1x2048 (![] : Fin 0 → Fin S1x2048.rank)
  reducesTo_S1x2048_S_d0_1 : S1x2048.ReducesTo [0, 1] S_

variable [Facts]

def fn_part3 {F : FTy → Type} [FloatOps F] (main_arg11 : FVec F S1x2048 .f32) (main_v48 : IVec S_ 1) (main_v49 : FVec F S1x2048 .f32) (main_v50 : FVec F S1x2048 .f32) : IVec S_ 1 :=
  let main_v51 : IVec S1x2048 1 := cmpf .olt main_v49 main_v50
  let main_c_19 : IVec S_ 1 := constantI S_ 1 1#1
  let main_v52 : IVec S_ 1 := (fun x v => Host.reduce IntOp.andi x v reducesTo_S1x2048_S_d0_1 h_S_) main_v51 main_c_19
  let main_v53 : IVec S_ 1 := andi main_v48 main_v52
  let main_v54 : FVec F S1x2048 .f32 := Host.absf main_arg11
  let main_cst_20 : FVec F S_ .f32 := constant S_ .f32 0x7F800000#32
  let main_v55 : FVec F S1x2048 .f32 := broadcastInDim S1x2048 ![] bcast_S_S1x2048 main_cst_20
  let main_v56 : IVec S1x2048 1 := cmpf .olt main_v54 main_v55
  let main_c_21 : IVec S_ 1 := constantI S_ 1 1#1
  let main_v57 : IVec S_ 1 := (fun x v => Host.reduce IntOp.andi x v reducesTo_S1x2048_S_d0_1 h_S_) main_v56 main_c_21
  let main_v58 : IVec S_ 1 := andi main_v53 main_v57
  main_v58

def fn_part2 {F : FTy → Type} [FloatOps F] (main_arg7 : FVec F S1x1024 .f32) (main_arg8 : FVec F S1x2048 .f32) (main_arg9 : FVec F S1x1024 .f32) (main_arg10 : FVec F S1x2048 .f32) (main_arg11 : FVec F S1x2048 .f32) (main_v33 : IVec S_ 1) : IVec S_ 1 :=
  let main_v34 : FVec F S1x1024 .f32 := Host.absf main_arg7
  let main_cst_12 : FVec F S_ .f32 := constant S_ .f32 0x7F800000#32
  let main_v35 : FVec F S1x1024 .f32 := broadcastInDim S1x1024 ![] bcast_S_S1x1024 main_cst_12
  let main_v36 : IVec S1x1024 1 := cmpf .olt main_v34 main_v35
  let main_c_13 : IVec S_ 1 := constantI S_ 1 1#1
  let main_v37 : IVec S_ 1 := (fun x v => Host.reduce IntOp.andi x v reducesTo_S1x1024_S_d0_1 h_S_) main_v36 main_c_13
  let main_v38 : IVec S_ 1 := andi main_v33 main_v37
  let main_v39 : FVec F S1x2048 .f32 := Host.absf main_arg8
  let main_cst_14 : FVec F S_ .f32 := constant S_ .f32 0x7F800000#32
  let main_v40 : FVec F S1x2048 .f32 := broadcastInDim S1x2048 ![] bcast_S_S1x2048 main_cst_14
  let main_v41 : IVec S1x2048 1 := cmpf .olt main_v39 main_v40
  let main_c_15 : IVec S_ 1 := constantI S_ 1 1#1
  let main_v42 : IVec S_ 1 := (fun x v => Host.reduce IntOp.andi x v reducesTo_S1x2048_S_d0_1 h_S_) main_v41 main_c_15
  let main_v43 : IVec S_ 1 := andi main_v38 main_v42
  let main_v44 : FVec F S1x1024 .f32 := Host.absf main_arg9
  let main_cst_16 : FVec F S_ .f32 := constant S_ .f32 0x7F800000#32
  let main_v45 : FVec F S1x1024 .f32 := broadcastInDim S1x1024 ![] bcast_S_S1x1024 main_cst_16
  let main_v46 : IVec S1x1024 1 := cmpf .olt main_v44 main_v45
  let main_c_17 : IVec S_ 1 := constantI S_ 1 1#1
  let main_v47 : IVec S_ 1 := (fun x v => Host.reduce IntOp.andi x v reducesTo_S1x1024_S_d0_1 h_S_) main_v46 main_c_17
  let main_v48 : IVec S_ 1 := andi main_v43 main_v47
  let main_v49 : FVec F S1x2048 .f32 := Host.absf main_arg10
  let main_cst_18 : FVec F S_ .f32 := constant S_ .f32 0x7F800000#32
  let main_v50 : FVec F S1x2048 .f32 := broadcastInDim S1x2048 ![] bcast_S_S1x2048 main_cst_18
  fn_part3 (F := F) main_arg11 main_v48 main_v49 main_v50

def fn_part1 {F : FTy → Type} [FloatOps F] (main_arg4 : FVec F S8192x2048 .f32) (main_arg5 : FVec F S1024x2048 .f32) (main_arg6 : FVec F S2048x2048 .f32) (main_arg7 : FVec F S1x1024 .f32) (main_arg8 : FVec F S1x2048 .f32) (main_arg9 : FVec F S1x1024 .f32) (main_arg10 : FVec F S1x2048 .f32) (main_arg11 : FVec F S1x2048 .f32) (main_v13 : IVec S_ 1) (main_v16 : IVec S8192x2048 1) : IVec S_ 1 :=
  let main_c_5 : IVec S_ 1 := constantI S_ 1 1#1
  let main_v17 : IVec S_ 1 := (fun x v => Host.reduce IntOp.andi x v reducesTo_S8192x2048_S_d0_1 h_S_) main_v16 main_c_5
  let main_v18 : IVec S_ 1 := andi main_v13 main_v17
  let main_v19 : FVec F S8192x2048 .f32 := Host.absf main_arg4
  let main_cst_6 : FVec F S_ .f32 := constant S_ .f32 0x7F800000#32
  let main_v20 : FVec F S8192x2048 .f32 := broadcastInDim S8192x2048 ![] bcast_S_S8192x2048 main_cst_6
  let main_v21 : IVec S8192x2048 1 := cmpf .olt main_v19 main_v20
  let main_c_7 : IVec S_ 1 := constantI S_ 1 1#1
  let main_v22 : IVec S_ 1 := (fun x v => Host.reduce IntOp.andi x v reducesTo_S8192x2048_S_d0_1 h_S_) main_v21 main_c_7
  let main_v23 : IVec S_ 1 := andi main_v18 main_v22
  let main_v24 : FVec F S1024x2048 .f32 := Host.absf main_arg5
  let main_cst_8 : FVec F S_ .f32 := constant S_ .f32 0x7F800000#32
  let main_v25 : FVec F S1024x2048 .f32 := broadcastInDim S1024x2048 ![] bcast_S_S1024x2048 main_cst_8
  let main_v26 : IVec S1024x2048 1 := cmpf .olt main_v24 main_v25
  let main_c_9 : IVec S_ 1 := constantI S_ 1 1#1
  let main_v27 : IVec S_ 1 := (fun x v => Host.reduce IntOp.andi x v reducesTo_S1024x2048_S_d0_1 h_S_) main_v26 main_c_9
  let main_v28 : IVec S_ 1 := andi main_v23 main_v27
  let main_v29 : FVec F S2048x2048 .f32 := Host.absf main_arg6
  let main_cst_10 : FVec F S_ .f32 := constant S_ .f32 0x7F800000#32
  let main_v30 : FVec F S2048x2048 .f32 := broadcastInDim S2048x2048 ![] bcast_S_S2048x2048 main_cst_10
  let main_v31 : IVec S2048x2048 1 := cmpf .olt main_v29 main_v30
  let main_c_11 : IVec S_ 1 := constantI S_ 1 1#1
  let main_v32 : IVec S_ 1 := (fun x v => Host.reduce IntOp.andi x v reducesTo_S2048x2048_S_d0_1 h_S_) main_v31 main_c_11
  let main_v33 : IVec S_ 1 := andi main_v28 main_v32
  fn_part2 (F := F) main_arg7 main_arg8 main_arg9 main_arg10 main_arg11 main_v33

def fn {F : FTy → Type} [FloatOps F] (main_arg0 : FVec F S8192x1024 .f32) (main_arg1 : FVec F S8192x4096 .f32) (main_arg2 : FVec F S8192x1024 .f32) (main_arg3 : FVec F S8192x2048 .f32) (main_arg4 : FVec F S8192x2048 .f32) (main_arg5 : FVec F S1024x2048 .f32) (main_arg6 : FVec F S2048x2048 .f32) (main_arg7 : FVec F S1x1024 .f32) (main_arg8 : FVec F S1x2048 .f32) (main_arg9 : FVec F S1x1024 .f32) (main_arg10 : FVec F S1x2048 .f32) (main_arg11 : FVec F S1x2048 .f32) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_v4 : FVec F S8192x4096 .f32 := Host.absf main_arg1
  let main_cst_0 : FVec F S_ .f32 := constant S_ .f32 0x7F800000#32
  let main_v5 : FVec F S8192x4096 .f32 := broadcastInDim S8192x4096 ![] bcast_S_S8192x4096 main_cst_0
  let main_v6 : IVec S8192x4096 1 := cmpf .olt main_v4 main_v5
  let main_c_1 : IVec S_ 1 := constantI S_ 1 1#1
  let main_v7 : IVec S_ 1 := (fun x v => Host.reduce IntOp.andi x v reducesTo_S8192x4096_S_d0_1 h_S_) main_v6 main_c_1
  let main_v8 : IVec S_ 1 := andi main_v3 main_v7
  let main_v9 : FVec F S8192x1024 .f32 := Host.absf main_arg2
  let main_cst_2 : FVec F S_ .f32 := constant S_ .f32 0x7F800000#32
  let main_v10 : FVec F S8192x1024 .f32 := broadcastInDim S8192x1024 ![] bcast_S_S8192x1024 main_cst_2
  let main_v11 : IVec S8192x1024 1 := cmpf .olt main_v9 main_v10
  let main_c_3 : IVec S_ 1 := constantI S_ 1 1#1
  let main_v12 : IVec S_ 1 := (fun x v => Host.reduce IntOp.andi x v reducesTo_S8192x1024_S_d0_1 h_S_) main_v11 main_c_3
  let main_v13 : IVec S_ 1 := andi main_v8 main_v12
  let main_v14 : FVec F S8192x2048 .f32 := Host.absf main_arg3
  let main_cst_4 : FVec F S_ .f32 := constant S_ .f32 0x7F800000#32
  let main_v15 : FVec F S8192x2048 .f32 := broadcastInDim S8192x2048 ![] bcast_S_S8192x2048 main_cst_4
  let main_v16 : IVec S8192x2048 1 := cmpf .olt main_v14 main_v15
  fn_part1 (F := F) main_arg4 main_arg5 main_arg6 main_arg7 main_arg8 main_arg9 main_arg10 main_arg11 main_v13 main_v16
-- ==== Pre_smooth.lean ====
abbrev S8192x2048 : Shape := ⟨2, ![8192, 2048]⟩
abbrev S8192x1024 : Shape := ⟨2, ![8192, 1024]⟩
abbrev S8192x4096 : Shape := ⟨2, ![8192, 4096]⟩
abbrev S1024x2048 : Shape := ⟨2, ![1024, 2048]⟩
abbrev S1x1024 : Shape := ⟨2, ![1, 1024]⟩
abbrev S_ : Shape := ⟨0, ![]⟩

class Facts : Prop where
  bcast_S_S8192x2048 : S_.BroadcastsInDim S8192x2048 (![] : Fin 0 → Fin S8192x2048.rank)
  reducesTo_S8192x2048_S_d0_1 : S8192x2048.ReducesTo [0, 1] S_
  h_S_ : 0 < S_.numel
  bcast_S_S8192x1024 : S_.BroadcastsInDim S8192x1024 (![] : Fin 0 → Fin S8192x1024.rank)
  reducesTo_S8192x1024_S_d0_1 : S8192x1024.ReducesTo [0, 1] S_
  bcast_S_S8192x4096 : S_.BroadcastsInDim S8192x4096 (![] : Fin 0 → Fin S8192x4096.rank)
  reducesTo_S8192x4096_S_d0_1 : S8192x4096.ReducesTo [0, 1] S_
  bcast_S_S1024x2048 : S_.BroadcastsInDim S1024x2048 (![] : Fin 0 → Fin S1024x2048.rank)
  reducesTo_S1024x2048_S_d0_1 : S1024x2048.ReducesTo [0, 1] S_
  bcast_S_S1x1024 : S_.BroadcastsInDim S1x1024 (![] : Fin 0 → Fin S1x1024.rank)
  reducesTo_S1x1024_S_d0_1 : S1x1024.ReducesTo [0, 1] S_

variable [Facts]

def fn_part1 {F : FTy → Type} [FloatOps F] (main_arg4 : FVec F S1x1024 .f32) (main_v13 : IVec S_ 1) (main_v16 : IVec S1024x2048 1) : IVec S_ 1 :=
  let main_c_5 : IVec S_ 1 := constantI S_ 1 1#1
  let main_v17 : IVec S_ 1 := (fun x v => Host.reduce IntOp.andi x v reducesTo_S1024x2048_S_d0_1 h_S_) main_v16 main_c_5
  let main_v18 : IVec S_ 1 := andi main_v13 main_v17
  let main_v19 : FVec F S1x1024 .f32 := Host.absf main_arg4
  let main_cst_6 : FVec F S_ .f32 := constant S_ .f32 0x7F800000#32
  let main_v20 : FVec F S1x1024 .f32 := broadcastInDim S1x1024 ![] bcast_S_S1x1024 main_cst_6
  let main_v21 : IVec S1x1024 1 := cmpf .olt main_v19 main_v20
  let main_c_7 : IVec S_ 1 := constantI S_ 1 1#1
  let main_v22 : IVec S_ 1 := (fun x v => Host.reduce IntOp.andi x v reducesTo_S1x1024_S_d0_1 h_S_) main_v21 main_c_7
  let main_v23 : IVec S_ 1 := andi main_v18 main_v22
  main_v23

def fn {F : FTy → Type} [FloatOps F] (main_arg0 : FVec F S8192x2048 .f32) (main_arg1 : FVec F S8192x1024 .f32) (main_arg2 : FVec F S8192x4096 .f32) (main_arg3 : FVec F S1024x2048 .f32) (main_arg4 : FVec F S1x1024 .f32) : IVec S_ 1 :=
  let main_v0 : FVec F S8192x2048 .f32 := Host.absf main_arg0
  let main_cst : FVec F S_ .f32 := constant S_ .f32 0x7F800000#32
  let main_v1 : FVec F S8192x2048 .f32 := broadcastInDim S8192x2048 ![] bcast_S_S8192x2048 main_cst
  let main_v2 : IVec S8192x2048 1 := cmpf .olt main_v0 main_v1
  let main_c : IVec S_ 1 := constantI S_ 1 1#1
  let main_v3 : IVec S_ 1 := (fun x v => Host.reduce IntOp.andi x v reducesTo_S8192x2048_S_d0_1 h_S_) main_v2 main_c
  let main_v4 : FVec F S8192x1024 .f32 := Host.absf main_arg1
  let main_cst_0 : FVec F S_ .f32 := constant S_ .f32 0x7F800000#32
  let main_v5 : FVec F S8192x1024 .f32 := broadcastInDim S8192x1024 ![] bcast_S_S8192x1024 main_cst_0
  let main_v6 : IVec S8192x1024 1 := cmpf .olt main_v4 main_v5
  let main_c_1 : IVec S_ 1 := constantI S_ 1 1#1
  let main_v7 : IVec S_ 1 := (fun x v => Host.reduce IntOp.andi x v reducesTo_S8192x1024_S_d0_1 h_S_) main_v6 main_c_1
  let main_v8 : IVec S_ 1 := andi main_v3 main_v7
  let main_v9 : FVec F S8192x4096 .f32 := Host.absf main_arg2
  let main_cst_2 : FVec F S_ .f32 := constant S_ .f32 0x7F800000#32
  let main_v10 : FVec F S8192x4096 .f32 := broadcastInDim S8192x4096 ![] bcast_S_S8192x4096 main_cst_2
  let main_v11 : IVec S8192x4096 1 := cmpf .olt main_v9 main_v10
  let main_c_3 : IVec S_ 1 := constantI S_ 1 1#1
  let main_v12 : IVec S_ 1 := (fun x v => Host.reduce IntOp.andi x v reducesTo_S8192x4096_S_d0_1 h_S_) main_v11 main_c_3
  let main_v13 : IVec S_ 1 := andi main_v8 main_v12
  let main_v14 : FVec F S1024x2048 .f32 := Host.absf main_arg3
  let main_cst_4 : FVec F S_ .f32 := constant S_ .f32 0x7F800000#32
  let main_v15 : FVec F S1024x2048 .f32 := broadcastInDim S1024x2048 ![] bcast_S_S1024x2048 main_cst_4
  let main_v16 : IVec S1024x2048 1 := cmpf .olt main_v14 main_v15
  fn_part1 (F := F) main_arg4 main_v13 main_v16
-- ==== Pre_tame.lean ====
abbrev S8x2048 : Shape := ⟨2, ![8, 2048]⟩
abbrev S1x2048 : Shape := ⟨2, ![1, 2048]⟩
abbrev S8x768 : Shape := ⟨2, ![8, 768]⟩
abbrev S2048x768 : Shape := ⟨2, ![2048, 768]⟩
abbrev S_ : Shape := ⟨0, ![]⟩

class Facts : Prop where
  bcast_S_S1x2048 : S_.BroadcastsInDim S1x2048 (![] : Fin 0 → Fin S1x2048.rank)
  reducesTo_S1x2048_S_d0_1 : S1x2048.ReducesTo [0, 1] S_
  h_S_ : 0 < S_.numel
  bcast_S_S8x768 : S_.BroadcastsInDim S8x768 (![] : Fin 0 → Fin S8x768.rank)
  reducesTo_S8x768_S_d0_1 : S8x768.ReducesTo [0, 1] S_
  bcast_S_S2048x768 : S_.BroadcastsInDim S2048x768 (![] : Fin 0 → Fin S2048x768.rank)
  reducesTo_S2048x768_S_d0_1 : S2048x768.ReducesTo [0, 1] S_

variable [Facts]

def fn {F : FTy → Type} [FloatOps F] (main_arg0 : FVec F S8x2048 .f32) (main_arg1 : FVec F S1x2048 .f32) (main_arg2 : FVec F S8x768 .f32) (main_arg3 : FVec F S8x768 .f32) (main_arg4 : FVec F S2048x768 .f32) : IVec S_ 1 :=
  let main_v0 : FVec F S1x2048 .f32 := Host.absf main_arg1
  let main_cst : FVec F S_ .f32 := constant S_ .f32 0x7F800000#32
  let main_v1 : FVec F S1x2048 .f32 := broadcastInDim S1x2048 ![] bcast_S_S1x2048 main_cst
  let main_v2 : IVec S1x2048 1 := cmpf .olt main_v0 main_v1
  let main_c : IVec S_ 1 := constantI S_ 1 1#1
  let main_v3 : IVec S_ 1 := (fun x v => Host.reduce IntOp.andi x v reducesTo_S1x2048_S_d0_1 h_S_) main_v2 main_c
  let main_v4 : FVec F S8x768 .f32 := Host.absf main_arg3
  let main_cst_0 : FVec F S_ .f32 := constant S_ .f32 0x7F800000#32
  let main_v5 : FVec F S8x768 .f32 := broadcastInDim S8x768 ![] bcast_S_S8x768 main_cst_0
  let main_v6 : IVec S8x768 1 := cmpf .olt main_v4 main_v5
  let main_c_1 : IVec S_ 1 := constantI S_ 1 1#1
  let main_v7 : IVec S_ 1 := (fun x v => Host.reduce IntOp.andi x v reducesTo_S8x768_S_d0_1 h_S_) main_v6 main_c_1
  let main_v8 : IVec S_ 1 := andi main_v3 main_v7
  let main_v9 : FVec F S2048x768 .f32 := Host.absf main_arg4
  let main_cst_2 : FVec F S_ .f32 := constant S_ .f32 0x7F800000#32
  let main_v10 : FVec F S2048x768 .f32 := broadcastInDim S2048x768 ![] bcast_S_S2048x768 main_cst_2
  let main_v11 : IVec S2048x768 1 := cmpf .olt main_v9 main_v10
  let main_c_3 : IVec S_ 1 := constantI S_ 1 1#1
  let main_v12 : IVec S_ 1 := (fun x v => Host.reduce IntOp.andi x v reducesTo_S2048x768_S_d0_1 h_S_) main_v11 main_c_3
  let main_v13 : IVec S_ 1 := andi main_v8 main_v12
  main_v13
-- ==== Kernel.lean ====
abbrev S256x2048 : Shape := ⟨2, ![256, 2048]⟩
abbrev S256x1024 : Shape := ⟨2, ![256, 1024]⟩
abbrev S2048x4096 : Shape := ⟨2, ![2048, 4096]⟩
abbrev S1x2048 : Shape := ⟨2, ![1, 2048]⟩
abbrev S2048x8x512 : Shape := ⟨3, ![2048, 8, 512]⟩
abbrev S8x2048x512 : Shape := ⟨3, ![8, 2048, 512]⟩
abbrev S256x512 : Shape := ⟨2, ![256, 512]⟩
abbrev S1x2048x512 : Shape := ⟨3, ![1, 2048, 512]⟩
abbrev S2048x512 : Shape := ⟨2, ![2048, 512]⟩
abbrev S256 : Shape := ⟨1, ![256]⟩
abbrev S256x1 : Shape := ⟨2, ![256, 1]⟩
abbrev S2048 : Shape := ⟨1, ![2048]⟩

abbrev nBuf : Space → Nat
  | .hbm => 13
  | .vmem => 10
  | .smem => 0
  | _ => 0

abbrev bufTy : (tb : Table) → Fin (tcTables nBuf tb) → BufTy
  | .hbm, ⟨0, _⟩ => ⟨S256x2048, .f32⟩
  | .hbm, ⟨1, _⟩ => ⟨S256x1024, .f32⟩
  | .hbm, ⟨2, _⟩ => ⟨S2048x4096, .f32⟩
  | .hbm, ⟨3, _⟩ => ⟨S1x2048, .f32⟩
  | .hbm, ⟨4, _⟩ => ⟨S1x2048, .f32⟩
  | .hbm, ⟨5, _⟩ => ⟨S1x2048, .f32⟩
  | .hbm, ⟨6, _⟩ => ⟨S2048x4096, .bf16⟩
  | .hbm, ⟨7, _⟩ => ⟨S2048x8x512, .bf16⟩
  | .hbm, ⟨8, _⟩ => ⟨S8x2048x512, .bf16⟩
  | .hbm, ⟨9, _⟩ => ⟨S256x1024, .bf16⟩
  | .hbm, ⟨10, _⟩ => ⟨S1x2048, .f32⟩
  | .hbm, ⟨11, _⟩ => ⟨S1x2048, .f32⟩
  | .hbm, ⟨12, _⟩ => ⟨S1x2048, .f32⟩
  | .local _ .vmem, ⟨0, _⟩ => ⟨S256x2048, .f32⟩
  | .local _ .vmem, ⟨1, _⟩ => ⟨S256x1024, .f32⟩
  | .local _ .vmem, ⟨2, _⟩ => ⟨S8x2048x512, .bf16⟩
  | .local _ .vmem, ⟨3, _⟩ => ⟨S1x2048, .f32⟩
  | .local _ .vmem, ⟨4, _⟩ => ⟨S1x2048, .f32⟩
  | .local _ .vmem, ⟨5, _⟩ => ⟨S1x2048, .f32⟩
  | .local _ .vmem, ⟨6, _⟩ => ⟨S256x1024, .bf16⟩
  | .local _ .vmem, ⟨7, _⟩ => ⟨S1x2048, .f32⟩
  | .local _ .vmem, ⟨8, _⟩ => ⟨S1x2048, .f32⟩
  | .local _ .vmem, ⟨9, _⟩ => ⟨S1x2048, .f32⟩
  | _, _ => ⟨S256x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3_0 : Ref sig .tc := ⟨.hbm, 9, rfl⟩
abbrev main_v3_1 : Ref sig .tc := ⟨.hbm, 10, rfl⟩
abbrev main_v3_2 : Ref sig .tc := ⟨.hbm, 11, rfl⟩
abbrev main_v3_3 : Ref sig .tc := ⟨.hbm, 12, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9

abbrev nD : Nat := 1
abbrev τ : Topo := Topo.v7x

variable {F : FTy → Type} [FloatOps F]

abbrev grid0 : Pipeline.Grid := .none

abbrev stage0_0 : Fin 1 → Memref sig .tc .vmem S256x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S256x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S8x2048x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S256x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S1x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S1x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S1x2048 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
-- ==== ReferenceIdeal.lean ====
abbrev S256x2048 : Shape := ⟨2, ![256, 2048]⟩
abbrev S256x1024 : Shape := ⟨2, ![256, 1024]⟩
abbrev S2048x4096 : Shape := ⟨2, ![2048, 4096]⟩
abbrev S1x2048 : Shape := ⟨2, ![1, 2048]⟩
abbrev S_ : Shape := ⟨0, ![]⟩
abbrev S256 : Shape := ⟨1, ![256]⟩
abbrev S256x1 : Shape := ⟨2, ![256, 1]⟩
abbrev S2048x1024 : Shape := ⟨2, ![2048, 1024]⟩
abbrev S2048 : Shape := ⟨1, ![2048]⟩

abbrev nBuf : Space → Nat
  | .hbm => 45
  | .vmem => 0
  | .smem => 0
  | _ => 0

abbrev bufTy : (tb : Table) → Fin (tcTables nBuf tb) → BufTy
  | .hbm, ⟨0, _⟩ => ⟨S256x2048, .f32⟩
  | .hbm, ⟨1, _⟩ => ⟨S256x1024, .f32⟩
  | .hbm, ⟨2, _⟩ => ⟨S2048x4096, .f32⟩
  | .hbm, ⟨3, _⟩ => ⟨S1x2048, .f32⟩
  | .hbm, ⟨4, _⟩ => ⟨S1x2048, .f32⟩
  | .hbm, ⟨5, _⟩ => ⟨S1x2048, .f32⟩
  | .hbm, ⟨6, _⟩ => ⟨S256x2048, .f32⟩
  | .hbm, ⟨7, _⟩ => ⟨S_, .f32⟩
  | .hbm, ⟨8, _⟩ => ⟨S256, .f32⟩
  | .hbm, ⟨9, _⟩ => ⟨S256x1, .f32⟩
  | .hbm, ⟨10, _⟩ => ⟨S_, .f32⟩
  | .hbm, ⟨11, _⟩ => ⟨S256x1, .f32⟩
  | .hbm, ⟨12, _⟩ => ⟨S256x1, .f32⟩
  | .hbm, ⟨13, _⟩ => ⟨S_, .f32⟩
  | .hbm, ⟨14, _⟩ => ⟨S256x1, .f32⟩
  | .hbm, ⟨15, _⟩ => ⟨S256x1, .f32⟩
  | .hbm, ⟨16, _⟩ => ⟨S256x1, .f32⟩
  | .hbm, ⟨17, _⟩ => ⟨S256x2048, .f32⟩
  | .hbm, ⟨18, _⟩ => ⟨S256x2048, .f32⟩
  | .hbm, ⟨19, _⟩ => ⟨S256x2048, .f32⟩
  | .hbm, ⟨20, _⟩ => ⟨S256x2048, .f32⟩
  | .hbm, ⟨21, _⟩ => ⟨S_, .f32⟩
  | .hbm, ⟨22, _⟩ => ⟨S1x2048, .f32⟩
  | .hbm, ⟨23, _⟩ => ⟨S1x2048, .f32⟩
  | .hbm, ⟨24, _⟩ => ⟨S256x2048, .f32⟩
  | .hbm, ⟨25, _⟩ => ⟨S256x2048, .f32⟩
  | .hbm, ⟨26, _⟩ => ⟨S256x2048, .f32⟩
  | .hbm, ⟨27, _⟩ => ⟨S256x2048, .f32⟩
  | .hbm, ⟨28, _⟩ => ⟨S2048x1024, .f32⟩
  | .hbm, ⟨29, _⟩ => ⟨S256x1024, .f32⟩
  | .hbm, ⟨30, _⟩ => ⟨S256x2048, .f32⟩
  | .hbm, ⟨31, _⟩ => ⟨S_, .f32⟩
  | .hbm, ⟨32, _⟩ => ⟨S2048, .f32⟩
  | .hbm, ⟨33, _⟩ => ⟨S1x2048, .f32⟩
  | .hbm, ⟨34, _⟩ => ⟨S256x2048, .f32⟩
  | .hbm, ⟨35, _⟩ => ⟨S_, .f32⟩
  | .hbm, ⟨36, _⟩ => ⟨S2048, .f32⟩
  | .hbm, ⟨37, _⟩ => ⟨S1x2048, .f32⟩
  | .hbm, ⟨38, _⟩ => ⟨S256x2048, .f32⟩
  | .hbm, ⟨39, _⟩ => ⟨S256x2048, .f32⟩
  | .hbm, ⟨40, _⟩ => ⟨S256x2048, .f32⟩
  | .hbm, ⟨41, _⟩ => ⟨S_, .f32⟩
  | .hbm, ⟨42, _⟩ => ⟨S2048, .f32⟩
  | .hbm, ⟨43, _⟩ => ⟨S1x2048, .f32⟩
  | .hbm, ⟨44, _⟩ => ⟨S256x1024, .bf16⟩
  | _, _ => ⟨S256x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_2 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_cst_3 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_cst_4 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_cst_5 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩

abbrev nD : Nat := 1
abbrev τ : Topo := Topo.v7x

variable {F : FTy → Type} [FloatOps F]
-- ==== Kernel2.lean ====
abbrev S64x528x128 : Shape := ⟨3, ![64, 528, 128]⟩
abbrev S64x256 : Shape := ⟨2, ![64, 256]⟩
abbrev S33792x128 : Shape := ⟨2, ![33792, 128]⟩
abbrev S16896x128 : Shape := ⟨2, ![16896, 128]⟩
abbrev S8448x128 : Shape := ⟨2, ![8448, 128]⟩
abbrev S16x256 : Shape := ⟨2, ![16, 256]⟩
abbrev S4224x128 : Shape := ⟨2, ![4224, 128]⟩
abbrev S8x128 : Shape := ⟨2, ![8, 128]⟩

abbrev nBuf : Space → Nat
  | .hbm => 9
  | .vmem => 14
  | .smem => 0
  | _ => 0

abbrev bufTy : (tb : Table) → Fin (tcTables nBuf tb) → BufTy
  | .hbm, ⟨0, _⟩ => ⟨S64x528x128, .f32⟩
  | .hbm, ⟨1, _⟩ => ⟨S64x528x128, .f32⟩
  | .hbm, ⟨2, _⟩ => ⟨S64x256, .f32⟩
  | .hbm, ⟨3, _⟩ => ⟨S33792x128, .f32⟩
  | .hbm, ⟨4, _⟩ => ⟨S33792x128, .f32⟩
  | .hbm, ⟨5, _⟩ => ⟨S16896x128, .f32⟩
  | .hbm, ⟨6, _⟩ => ⟨S16896x128, .f32⟩
  | .hbm, ⟨7, _⟩ => ⟨S16896x128, .f32⟩
  | .hbm, ⟨8, _⟩ => ⟨S16896x128, .f32⟩
  | .local _ .vmem, ⟨0, _⟩ => ⟨S8448x128, .f32⟩
  | .local _ .vmem, ⟨1, _⟩ => ⟨S8448x128, .f32⟩
  | .local _ .vmem, ⟨2, _⟩ => ⟨S8448x128, .f32⟩
  | .local _ .vmem, ⟨3, _⟩ => ⟨S8448x128, .f32⟩
  | .local _ .vmem, ⟨4, _⟩ => ⟨S16x256, .f32⟩
  | .local _ .vmem, ⟨5, _⟩ => ⟨S16x256, .f32⟩
  | .local _ .vmem, ⟨6, _⟩ => ⟨S4224x128, .f32⟩
  | .local _ .vmem, ⟨7, _⟩ => ⟨S4224x128, .f32⟩
  | .local _ .vmem, ⟨8, _⟩ => ⟨S4224x128, .f32⟩
  | .local _ .vmem, ⟨9, _⟩ => ⟨S4224x128, .f32⟩
  | .local _ .vmem, ⟨10, _⟩ => ⟨S4224x128, .f32⟩
  | .local _ .vmem, ⟨11, _⟩ => ⟨S4224x128, .f32⟩
  | .local _ .vmem, ⟨12, _⟩ => ⟨S4224x128, .f32⟩
  | .local _ .vmem, ⟨13, _⟩ => ⟨S4224x128, .f32⟩
  | _, _ => ⟨S64x528x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2_0 : Ref sig .tc := ⟨.hbm, 5, rfl⟩
abbrev main_v2_1 : Ref sig .tc := ⟨.hbm, 6, rfl⟩
abbrev main_v2_2 : Ref sig .tc := ⟨.hbm, 7, rfl⟩
abbrev main_v2_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![4], ![false]⟩

@[reducible] def k0_t1_loop : Scf.Loop 32 :=
  let c0_i32 : BitVec 32 := 0#32
  let c132_i32 : BitVec 32 := 132#32
  let v16 : BitVec 32 := Scalar.addi c0_i32 c132_i32
  let c1_i32 : BitVec 32 := 1#32
  ⟨c0_i32, v16, c1_i32⟩
def k0_off1 (k0_t1 : Fin k0_t1_loop.trips) (c0_i32_10 : BitVec 32) : Fin 2 → Nat :=
  let c527_i32 : BitVec 32 := 527#32
  let c0_i32 : BitVec 32 := 0#32
  let c1_i32 : BitVec 32 := 1#32
  let arg8 : BitVec 32 := Scf.iv c0_i32 c1_i32 k0_t1
  let c4_i32 : BitVec 32 := 4#32
  let v18 : BitVec 32 := Scalar.muli arg8 c4_i32
  let v19 : BitVec 32 := Scalar.addi v18 c0_i32_10
  let v20 : BitVec 32 := Scalar.subi c527_i32 v19
  let v25 : Index := Scalar.indexCast v20
  let c0_12 : Index := 0#32
  ![v25.toNat, 0]
def k0_off2 (k0_t1 : Fin k0_t1_loop.trips) (c0_i32_10 : BitVec 32) : Fin 2 → Nat :=
  let c0_i32 : BitVec 32 := 0#32
  let c1_i32 : BitVec 32 := 1#32
  let arg8 : BitVec 32 := Scf.iv c0_i32 c1_i32 k0_t1
  let c4_i32 : BitVec 32 := 4#32
  let v18 : BitVec 32 := Scalar.muli arg8 c4_i32
  let v19 : BitVec 32 := Scalar.addi v18 c0_i32_10
  let c512_i32 : BitVec 32 := 512#32
  let v21 : BitVec 1 := Scalar.cmpi .slt v19 c512_i32
  let c16_i32 : BitVec 32 := 16#32
  let v22 : BitVec 32 := Scalar.addi c16_i32 v19
  let c512_i32_11 : BitVec 32 := 512#32
  let v23 : BitVec 32 := Scalar.subi v19 c512_i32_11
  let v24 : BitVec 32 := Scalar.select v21 v22 v23
  let v29 : Index := Scalar.indexCast v24
  let c0_14 : Index := 0#32
  ![v29.toNat, 0]
def k0_off3 (k0_t1 : Fin k0_t1_loop.trips) (c0_i32_10 : BitVec 32) : Fin 2 → Nat :=
  let c527_i32 : BitVec 32 := 527#32
  let c0_i32 : BitVec 32 := 0#32
  let c1_i32 : BitVec 32 := 1#32
  let arg8 : BitVec 32 := Scf.iv c0_i32 c1_i32 k0_t1
  let c4_i32 : BitVec 32 := 4#32
  let v18 : BitVec 32 := Scalar.muli arg8 c4_i32
  let v19 : BitVec 32 := Scalar.addi v18 c0_i32_10
  let v20 : BitVec 32 := Scalar.subi c527_i32 v19
  let v33 : Index := Scalar.indexCast v20
  let c0_16 : Index := 0#32
  ![v33.toNat, 0]
def k0_off4 (k0_t1 : Fin k0_t1_loop.trips) (c0_i32_10 : BitVec 32) : Fin 2 → Nat :=
  let c4224_i32 : BitVec 32 := 4224#32
  let c527_i32 : BitVec 32 := 527#32
  let c0_i32 : BitVec 32 := 0#32
  let c1_i32 : BitVec 32 := 1#32
  let arg8 : BitVec 32 := Scf.iv c0_i32 c1_i32 k0_t1
  let c4_i32 : BitVec 32 := 4#32
  let v18 : BitVec 32 := Scalar.muli arg8 c4_i32
  let v19 : BitVec 32 := Scalar.addi v18 c0_i32_10
  let v20 : BitVec 32 := Scalar.subi c527_i32 v19
  let v36 : BitVec 32 := Scalar.addi c4224_i32 v20
  let v37 : Index := Scalar.indexCast v36
  let c0_17 : Index := 0#32
  ![v37.toNat, 0]
def k0_off5 (k0_t1 : Fin k0_t1_loop.trips) (c0_i32_10 : BitVec 32) : Fin 2 → Nat :=
  let c0_i32 : BitVec 32 := 0#32
  let c1_i32 : BitVec 32 := 1#32
  let arg8 : BitVec 32 := Scf.iv c0_i32 c1_i32 k0_t1
  let c4_i32 : BitVec 32 := 4#32
  let v18 : BitVec 32 := Scalar.muli arg8 c4_i32
  let v19 : BitVec 32 := Scalar.addi v18 c0_i32_10
  let c512_i32 : BitVec 32 := 512#32
  let v21 : BitVec 1 := Scalar.cmpi .slt v19 c512_i32
  let c16_i32 : BitVec 32 := 16#32
  let v22 : BitVec 32 := Scalar.addi c16_i32 v19
  let c512_i32_11 : BitVec 32 := 512#32
  let v23 : BitVec 32 := Scalar.subi v19 c512_i32_11
  let v24 : BitVec 32 := Scalar.select v21 v22 v23
  let v51 : Index := Scalar.indexCast v24
  let c0_23 : Index := 0#32
  ![v51.toNat, 0]
def k0_off6 (k0_t1 : Fin k0_t1_loop.trips) (c0_i32_10 : BitVec 32) : Fin 2 → Nat :=
  let c4224_i32_24 : BitVec 32 := 4224#32
  let c0_i32 : BitVec 32 := 0#32
  let c1_i32 : BitVec 32 := 1#32
  let arg8 : BitVec 32 := Scf.iv c0_i32 c1_i32 k0_t1
  let c4_i32 : BitVec 32 := 4#32
  let v18 : BitVec 32 := Scalar.muli arg8 c4_i32
  let v19 : BitVec 32 := Scalar.addi v18 c0_i32_10
  let c512_i32 : BitVec 32 := 512#32
  let v21 : BitVec 1 := Scalar.cmpi .slt v19 c512_i32
  let c16_i32 : BitVec 32 := 16#32
  let v22 : BitVec 32 := Scalar.addi c16_i32 v19
  let c512_i32_11 : BitVec 32 := 512#32
  let v23 : BitVec 32 := Scalar.subi v19 c512_i32_11
  let v24 : BitVec 32 := Scalar.select v21 v22 v23
  let v54 : BitVec 32 := Scalar.addi c4224_i32_24 v24
  let v55 : Index := Scalar.indexCast v54
  let c0_25 : Index := 0#32
  ![v55.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8448x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8448x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S16x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4224x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S4224x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S4224x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S4224x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference2Ideal.lean ====
abbrev S64x528x128 : Shape := ⟨3, ![64, 528, 128]⟩
abbrev S64x256 : Shape := ⟨2, ![64, 256]⟩
abbrev S64x2x2x64 : Shape := ⟨4, ![64, 2, 2, 64]⟩
abbrev S64x1x2x64 : Shape := ⟨4, ![64, 1, 2, 64]⟩
abbrev S64x2x64 : Shape := ⟨3, ![64, 2, 64]⟩
abbrev S_ : Shape := ⟨0, ![]⟩
abbrev S64x528x2x64 : Shape := ⟨4, ![64, 528, 2, 64]⟩
abbrev S64x528x1x64 : Shape := ⟨4, ![64, 528, 1, 64]⟩
abbrev S64x528x64 : Shape := ⟨3, ![64, 528, 64]⟩
abbrev S64x16x64 : Shape := ⟨3, ![64, 16, 64]⟩
abbrev S64x512x64 : Shape := ⟨3, ![64, 512, 64]⟩
abbrev S528x64x2x64 : Shape := ⟨4, ![528, 64, 2, 64]⟩
abbrev S1x64x2x64 : Shape := ⟨4, ![1, 64, 2, 64]⟩
abbrev S4x2x8x528x2x64 : Shape := ⟨6, ![4, 2, 8, 528, 2, 64]⟩
abbrev S4x2x8x528x1x64 : Shape := ⟨6, ![4, 2, 8, 528, 1, 64]⟩
abbrev S4x2x8x528x64 : Shape := ⟨5, ![4, 2, 8, 528, 64]⟩
abbrev S4x8x528x2x64 : Shape := ⟨5, ![4, 8, 528, 2, 64]⟩
abbrev S16896x128 : Shape := ⟨2, ![16896, 128]⟩

abbrev nBuf : Space → Nat
  | .hbm => 175
  | .vmem => 0
  | .smem => 0
  | _ => 0

abbrev hbmTy0_0 (i : Nat) : BufTy := match i % 128 with
  | 0 => ⟨S64x528x128, .f32⟩
  | 1 => ⟨S64x528x128, .f32⟩
  | 2 => ⟨S64x256, .f32⟩
  | 3 => ⟨S64x2x2x64, .f32⟩
  | 4 => ⟨S64x1x2x64, .f32⟩
  | 5 => ⟨S64x2x64, .f32⟩
  | 6 => ⟨S64x1x2x64, .f32⟩
  | 7 => ⟨S64x2x64, .f32⟩
  | 8 => ⟨S_, .f32⟩
  | 9 => ⟨S64x528x128, .f32⟩
  | 10 => ⟨S_, .f32⟩
  | 11 => ⟨S64x2x64, .f32⟩
  | 12 => ⟨S64x528x2x64, .f32⟩
  | 13 => ⟨S64x528x1x64, .f32⟩
  | 14 => ⟨S64x528x64, .f32⟩
  | 15 => ⟨S64x528x1x64, .f32⟩
  | 16 => ⟨S64x528x64, .f32⟩
  | 17 => ⟨S64x16x64, .f32⟩
  | 18 => ⟨S64x512x64, .f32⟩
  | 19 => ⟨S64x512x64, .f32⟩
  | 20 => ⟨S_, .f32⟩
  | 21 => ⟨S64x528x64, .f32⟩
  | 22 => ⟨S64x16x64, .f32⟩
  | 23 => ⟨S_, .f32⟩
  | 24 => ⟨S64x528x64, .f32⟩
  | 25 => ⟨S64x528x64, .f32⟩
  | 26 => ⟨S64x528x1x64, .f32⟩
  | 27 => ⟨S_, .f32⟩
  | 28 => ⟨S64x528x2x64, .f32⟩
  | 29 => ⟨S64x528x1x64, .f32⟩
  | 30 => ⟨S_, .f32⟩
  | 31 => ⟨S64x528x2x64, .f32⟩
  | 32 => ⟨S64x528x2x64, .f32⟩
  | 33 => ⟨S528x64x2x64, .f32⟩
  | 34 => ⟨S64x528x2x64, .f32⟩
  | 35 => ⟨S64x528x1x64, .f32⟩
  | 36 => ⟨S64x528x64, .f32⟩
  | 37 => ⟨S64x528x1x64, .f32⟩
  | 38 => ⟨S64x528x64, .f32⟩
  | 39 => ⟨S64x16x64, .f32⟩
  | 40 => ⟨S64x512x64, .f32⟩
  | 41 => ⟨S64x512x64, .f32⟩
  | 42 => ⟨S_, .f32⟩
  | 43 => ⟨S64x528x64, .f32⟩
  | 44 => ⟨S64x16x64, .f32⟩
  | 45 => ⟨S_, .f32⟩
  | 46 => ⟨S64x528x64, .f32⟩
  | 47 => ⟨S64x528x64, .f32⟩
  | 48 => ⟨S64x528x1x64, .f32⟩
  | 49 => ⟨S_, .f32⟩
  | 50 => ⟨S64x528x2x64, .f32⟩
  | 51 => ⟨S64x528x1x64, .f32⟩
  | 52 => ⟨S_, .f32⟩
  | 53 => ⟨S64x528x2x64, .f32⟩
  | 54 => ⟨S64x528x2x64, .f32⟩
  | 55 => ⟨S528x64x2x64, .f32⟩
  | 56 => ⟨S_, .f32⟩
  | 57 => ⟨S64x2x64, .f32⟩
  | 58 => ⟨S_, .f32⟩
  | 59 => ⟨S64x2x64, .f32⟩
  | 60 => ⟨S_, .f32⟩
  | 61 => ⟨S528x64x2x64, .f32⟩
  | 62 => ⟨S_, .f32⟩
  | 63 => ⟨S528x64x2x64, .f32⟩
  | 64 => ⟨S_, .i32⟩
  | 65 => ⟨S528x64x2x64, .f32⟩
  | 66 => ⟨S528x64x2x64, .f32⟩
  | 67 => ⟨S64x2x64, .f32⟩
  | 68 => ⟨S64x2x64, .f32⟩
  | 69 => ⟨S_, .i32⟩
  | 70 => ⟨S64x2x64, .f32⟩
  | 71 => ⟨S64x2x64, .f32⟩
  | 72 => ⟨S528x64x2x64, .f32⟩
  | 73 => ⟨S528x64x2x64, .f32⟩
  | 74 => ⟨S_, .i32⟩
  | 75 => ⟨S_, .i1⟩
  | 76 => ⟨S_, .i32⟩
  | 77 => ⟨S_, .i32⟩
  | 78 => ⟨S_, .i32⟩
  | 79 => ⟨S_, .i32⟩
  | 80 => ⟨S_, .i32⟩
  | 81 => ⟨S_, .i32⟩
  | 82 => ⟨S_, .i32⟩
  | 83 => ⟨S1x64x2x64, .f32⟩
  | 84 => ⟨S64x2x64, .f32⟩
  | 85 => ⟨S_, .i32⟩
  | 86 => ⟨S_, .i32⟩
  | 87 => ⟨S_, .i32⟩
  | 88 => ⟨S1x64x2x64, .f32⟩
  | 89 => ⟨S64x2x64, .f32⟩
  | 90 => ⟨S64x2x64, .f32⟩
  | 91 => ⟨S64x2x64, .f32⟩
  | 92 => ⟨S64x2x64, .f32⟩
  | 93 => ⟨S64x2x64, .f32⟩
  | 94 => ⟨S64x2x64, .f32⟩
  | 95 => ⟨S64x2x64, .f32⟩
  | 96 => ⟨S64x2x64, .f32⟩
  | 97 => ⟨S64x2x64, .f32⟩
  | 98 => ⟨S64x2x64, .f32⟩
  | 99 => ⟨S1x64x2x64, .f32⟩
  | 100 => ⟨S_, .i32⟩
  | 101 => ⟨S_, .i32⟩
  | 102 => ⟨S_, .i32⟩
  | 103 => ⟨S528x64x2x64, .f32⟩
  | 104 => ⟨S1x64x2x64, .f32⟩
  | 105 => ⟨S_, .i32⟩
  | 106 => ⟨S_, .i32⟩
  | 107 => ⟨S_, .i32⟩
  | 108 => ⟨S528x64x2x64, .f32⟩
  | 109 => ⟨S_, .i32⟩
  | 110 => ⟨S_, .i32⟩
  | 111 => ⟨S64x528x2x64, .f32⟩
  | 112 => ⟨S64x528x1x64, .f32⟩
  | 113 => ⟨S64x528x64, .f32⟩
  | 114 => ⟨S64x528x1x64, .f32⟩
  | 115 => ⟨S64x528x64, .f32⟩
  | 116 => ⟨S64x16x64, .f32⟩
  | 117 => ⟨S64x512x64, .f32⟩
  | 118 => ⟨S64x512x64, .f32⟩
  | 119 => ⟨S_, .f32⟩
  | 120 => ⟨S64x528x64, .f32⟩
  | 121 => ⟨S64x16x64, .f32⟩
  | 122 => ⟨S_, .f32⟩
  | 123 => ⟨S64x528x64, .f32⟩
  | 124 => ⟨S64x528x64, .f32⟩
  | 125 => ⟨S64x528x1x64, .f32⟩
  | 126 => ⟨S_, .f32⟩
  | 127 => ⟨S64x528x2x64, .f32⟩
  | _ => ⟨S64x528x128, .f32⟩

abbrev hbmTy0_1 (i : Nat) : BufTy := match i % 128 with
  | 0 => ⟨S64x528x1x64, .f32⟩
  | 1 => ⟨S_, .f32⟩
  | 2 => ⟨S64x528x2x64, .f32⟩
  | 3 => ⟨S64x528x2x64, .f32⟩
  | 4 => ⟨S64x528x128, .f32⟩
  | 5 => ⟨S64x528x2x64, .f32⟩
  | 6 => ⟨S64x528x1x64, .f32⟩
  | 7 => ⟨S64x528x64, .f32⟩
  | 8 => ⟨S64x528x1x64, .f32⟩
  | 9 => ⟨S64x528x64, .f32⟩
  | 10 => ⟨S64x16x64, .f32⟩
  | 11 => ⟨S64x512x64, .f32⟩
  | 12 => ⟨S64x512x64, .f32⟩
  | 13 => ⟨S_, .f32⟩
  | 14 => ⟨S64x528x64, .f32⟩
  | 15 => ⟨S64x16x64, .f32⟩
  | 16 => ⟨S_, .f32⟩
  | 17 => ⟨S64x528x64, .f32⟩
  | 18 => ⟨S64x528x64, .f32⟩
  | 19 => ⟨S64x528x1x64, .f32⟩
  | 20 => ⟨S_, .f32⟩
  | 21 => ⟨S64x528x2x64, .f32⟩
  | 22 => ⟨S64x528x1x64, .f32⟩
  | 23 => ⟨S_, .f32⟩
  | 24 => ⟨S64x528x2x64, .f32⟩
  | 25 => ⟨S64x528x2x64, .f32⟩
  | 26 => ⟨S64x528x128, .f32⟩
  | 27 => ⟨S4x2x8x528x2x64, .f32⟩
  | 28 => ⟨S4x2x8x528x1x64, .f32⟩
  | 29 => ⟨S4x2x8x528x64, .f32⟩
  | 30 => ⟨S4x8x528x2x64, .f32⟩
  | 31 => ⟨S16896x128, .f32⟩
  | 32 => ⟨S4x2x8x528x2x64, .f32⟩
  | 33 => ⟨S4x2x8x528x1x64, .f32⟩
  | 34 => ⟨S4x2x8x528x64, .f32⟩
  | 35 => ⟨S4x8x528x2x64, .f32⟩
  | 36 => ⟨S16896x128, .f32⟩
  | 37 => ⟨S4x2x8x528x2x64, .f32⟩
  | 38 => ⟨S4x2x8x528x1x64, .f32⟩
  | 39 => ⟨S4x2x8x528x64, .f32⟩
  | 40 => ⟨S4x8x528x2x64, .f32⟩
  | 41 => ⟨S16896x128, .f32⟩
  | 42 => ⟨S4x2x8x528x2x64, .f32⟩
  | 43 => ⟨S4x2x8x528x1x64, .f32⟩
  | 44 => ⟨S4x2x8x528x64, .f32⟩
  | 45 => ⟨S4x8x528x2x64, .f32⟩
  | 46 => ⟨S16896x128, .f32⟩
  | _ => ⟨S64x528x128, .f32⟩

abbrev hbmTy (i : Nat) : BufTy := match i / 128 with
  | 0 => hbmTy0_0 i
  | 1 => hbmTy0_1 i
  | _ => ⟨S64x528x128, .f32⟩

abbrev bufTy : (tb : Table) → Fin (tcTables nBuf tb) → BufTy
  | .hbm, ⟨i, _⟩ => hbmTy i
  | _, _ => ⟨S64x528x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_cst_1 : Ref sig .tc := ⟨.hbm, 20, rfl⟩
abbrev main_v15 : Ref sig .tc := ⟨.hbm, 21, rfl⟩
abbrev main_v16 : Ref sig .tc := ⟨.hbm, 22, rfl⟩
abbrev main_cst_2 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_cst_3 : Ref sig .tc := ⟨.hbm, 27, rfl⟩
abbrev main_v20 : Ref sig .tc := ⟨.hbm, 28, rfl⟩
abbrev main_v21 : Ref sig .tc := ⟨.hbm, 29, rfl⟩
abbrev main_cst_4 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_cst_5 : Ref sig .tc := ⟨.hbm, 42, rfl⟩
abbrev main_v33 : Ref sig .tc := ⟨.hbm, 43, rfl⟩
abbrev main_v34 : Ref sig .tc := ⟨.hbm, 44, rfl⟩
abbrev main_cst_6 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_cst_7 : Ref sig .tc := ⟨.hbm, 49, rfl⟩
abbrev main_v38 : Ref sig .tc := ⟨.hbm, 50, rfl⟩
abbrev main_v39 : Ref sig .tc := ⟨.hbm, 51, rfl⟩
abbrev main_cst_8 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_cst_9 : Ref sig .tc := ⟨.hbm, 56, rfl⟩
abbrev main_v43 : Ref sig .tc := ⟨.hbm, 57, rfl⟩
abbrev main_cst_10 : Ref sig .tc := ⟨.hbm, 58, rfl⟩
abbrev main_v44 : Ref sig .tc := ⟨.hbm, 59, rfl⟩
abbrev main_cst_11 : Ref sig .tc := ⟨.hbm, 60, rfl⟩
abbrev main_v45 : Ref sig .tc := ⟨.hbm, 61, rfl⟩
abbrev main_cst_12 : Ref sig .tc := ⟨.hbm, 62, rfl⟩
abbrev main_v46 : Ref sig .tc := ⟨.hbm, 63, rfl⟩
abbrev main_c : Ref sig .tc := ⟨.hbm, 64, rfl⟩
abbrev main_v47_0 : Ref sig .tc := ⟨.hbm, 65, rfl⟩
abbrev main_v47_1 : Ref sig .tc := ⟨.hbm, 66, rfl⟩
abbrev main_v47_2 : Ref sig .tc := ⟨.hbm, 67, rfl⟩
abbrev main_v47_3 : Ref sig .tc := ⟨.hbm, 68, rfl⟩
abbrev main_v47_4 : Ref sig .tc := ⟨.hbm, 69, rfl⟩
abbrev main_v47_5 : Ref sig .tc := ⟨.hbm, 70, rfl⟩
abbrev main_v47_6 : Ref sig .tc := ⟨.hbm, 71, rfl⟩
abbrev main_v47_7 : Ref sig .tc := ⟨.hbm, 72, rfl⟩
abbrev main_v47_8 : Ref sig .tc := ⟨.hbm, 73, rfl⟩
abbrev main_while0c_c_29 : Ref sig .tc := ⟨.hbm, 74, rfl⟩
abbrev main_while0c_v104 : Ref sig .tc := ⟨.hbm, 75, rfl⟩
abbrev main_while0b_c_29 : Ref sig .tc := ⟨.hbm, 76, rfl⟩
abbrev main_while0b_v104 : Ref sig .tc := ⟨.hbm, 77, rfl⟩
abbrev main_while0b_c_30 : Ref sig .tc := ⟨.hbm, 78, rfl⟩
abbrev main_while0b_v105 : Ref sig .tc := ⟨.hbm, 79, rfl⟩
abbrev main_while0b_call0_c : Ref sig .tc := ⟨.hbm, 80, rfl⟩
abbrev main_while0b_call0_c_0 : Ref sig .tc := ⟨.hbm, 81, rfl⟩
abbrev main_while0b_call0_c_1 : Ref sig .tc := ⟨.hbm, 82, rfl⟩
abbrev main_while0b_call0_v0 : Ref sig .tc := ⟨.hbm, 83, rfl⟩
abbrev main_while0b_v106 : Ref sig .tc := ⟨.hbm, 84, rfl⟩
abbrev main_while0b_call1_c : Ref sig .tc := ⟨.hbm, 85, rfl⟩
abbrev main_while0b_call1_c_0 : Ref sig .tc := ⟨.hbm, 86, rfl⟩
abbrev main_while0b_call1_c_1 : Ref sig .tc := ⟨.hbm, 87, rfl⟩
abbrev main_while0b_call1_v0 : Ref sig .tc := ⟨.hbm, 88, rfl⟩
abbrev main_while0b_v107 : Ref sig .tc := ⟨.hbm, 89, rfl⟩
abbrev main_while0b_v108 : Ref sig .tc := ⟨.hbm, 90, rfl⟩
abbrev main_while0b_v109 : Ref sig .tc := ⟨.hbm, 91, rfl⟩
abbrev main_while0b_v110 : Ref sig .tc := ⟨.hbm, 92, rfl⟩
abbrev main_while0b_v111 : Ref sig .tc := ⟨.hbm, 93, rfl⟩
abbrev main_while0b_v112 : Ref sig .tc := ⟨.hbm, 94, rfl⟩
abbrev main_while0b_v113 : Ref sig .tc := ⟨.hbm, 95, rfl⟩
abbrev main_while0b_v114 : Ref sig .tc := ⟨.hbm, 96, rfl⟩
abbrev main_while0b_v115 : Ref sig .tc := ⟨.hbm, 97, rfl⟩
abbrev main_while0b_v116 : Ref sig .tc := ⟨.hbm, 98, rfl⟩
abbrev main_while0b_call2_v0 : Ref sig .tc := ⟨.hbm, 99, rfl⟩
abbrev main_while0b_call2_c : Ref sig .tc := ⟨.hbm, 100, rfl⟩
abbrev main_while0b_call2_c_0 : Ref sig .tc := ⟨.hbm, 101, rfl⟩
abbrev main_while0b_call2_c_1 : Ref sig .tc := ⟨.hbm, 102, rfl⟩
abbrev main_while0b_v117 : Ref sig .tc := ⟨.hbm, 103, rfl⟩
abbrev main_while0b_call3_v0 : Ref sig .tc := ⟨.hbm, 104, rfl⟩
abbrev main_while0b_call3_c : Ref sig .tc := ⟨.hbm, 105, rfl⟩
abbrev main_while0b_call3_c_0 : Ref sig .tc := ⟨.hbm, 106, rfl⟩
abbrev main_while0b_call3_c_1 : Ref sig .tc := ⟨.hbm, 107, rfl⟩
abbrev main_while0b_v118 : Ref sig .tc := ⟨.hbm, 108, rfl⟩
abbrev main_while0b_c_31 : Ref sig .tc := ⟨.hbm, 109, rfl⟩
abbrev main_while0b_v119 : Ref sig .tc := ⟨.hbm, 110, rfl⟩
abbrev main_v48 : Ref sig .tc := ⟨.hbm, 111, rfl⟩
abbrev main_v49 : Ref sig .tc := ⟨.hbm, 112, rfl⟩
abbrev main_v50 : Ref sig .tc := ⟨.hbm, 113, rfl⟩
abbrev main_v51 : Ref sig .tc := ⟨.hbm, 114, rfl⟩
abbrev main_v52 : Ref sig .tc := ⟨.hbm, 115, rfl⟩
abbrev main_v53 : Ref sig .tc := ⟨.hbm, 116, rfl⟩
abbrev main_v54 : Ref sig .tc := ⟨.hbm, 117, rfl⟩
abbrev main_v55 : Ref sig .tc := ⟨.hbm, 118, rfl⟩
abbrev main_cst_13 : Ref sig .tc := ⟨.hbm, 119, rfl⟩
abbrev main_v56 : Ref sig .tc := ⟨.hbm, 120, rfl⟩
abbrev main_v57 : Ref sig .tc := ⟨.hbm, 121, rfl⟩
abbrev main_cst_14 : Ref sig .tc := ⟨.hbm, 122, rfl⟩
abbrev main_v58 : Ref sig .tc := ⟨.hbm, 123, rfl⟩
abbrev main_v59 : Ref sig .tc := ⟨.hbm, 124, rfl⟩
abbrev main_v60 : Ref sig .tc := ⟨.hbm, 125, rfl⟩
abbrev main_cst_15 : Ref sig .tc := ⟨.hbm, 126, rfl⟩
abbrev main_v61 : Ref sig .tc := ⟨.hbm, 127, rfl⟩
abbrev main_v62 : Ref sig .tc := ⟨.hbm, 128, rfl⟩
abbrev main_cst_16 : Ref sig .tc := ⟨.hbm, 129, rfl⟩
abbrev main_v63 : Ref sig .tc := ⟨.hbm, 130, rfl⟩
abbrev main_v64 : Ref sig .tc := ⟨.hbm, 131, rfl⟩
abbrev main_v65 : Ref sig .tc := ⟨.hbm, 132, rfl⟩
abbrev main_v66 : Ref sig .tc := ⟨.hbm, 133, rfl⟩
abbrev main_v67 : Ref sig .tc := ⟨.hbm, 134, rfl⟩
abbrev main_v68 : Ref sig .tc := ⟨.hbm, 135, rfl⟩
abbrev main_v69 : Ref sig .tc := ⟨.hbm, 136, rfl⟩
abbrev main_v70 : Ref sig .tc := ⟨.hbm, 137, rfl⟩
abbrev main_v71 : Ref sig .tc := ⟨.hbm, 138, rfl⟩
abbrev main_v72 : Ref sig .tc := ⟨.hbm, 139, rfl⟩
abbrev main_v73 : Ref sig .tc := ⟨.hbm, 140, rfl⟩
abbrev main_cst_17 : Ref sig .tc := ⟨.hbm, 141, rfl⟩
abbrev main_v74 : Ref sig .tc := ⟨.hbm, 142, rfl⟩
abbrev main_v75 : Ref sig .tc := ⟨.hbm, 143, rfl⟩
abbrev main_cst_18 : Ref sig .tc := ⟨.hbm, 144, rfl⟩
abbrev main_v76 : Ref sig .tc := ⟨.hbm, 145, rfl⟩
abbrev main_v77 : Ref sig .tc := ⟨.hbm, 146, rfl⟩
abbrev main_v78 : Ref sig .tc := ⟨.hbm, 147, rfl⟩
abbrev main_cst_19 : Ref sig .tc := ⟨.hbm, 148, rfl⟩
abbrev main_v79 : Ref sig .tc := ⟨.hbm, 149, rfl⟩
abbrev main_v80 : Ref sig .tc := ⟨.hbm, 150, rfl⟩
abbrev main_cst_20 : Ref sig .tc := ⟨.hbm, 151, rfl⟩
abbrev main_v81 : Ref sig .tc := ⟨.hbm, 152, rfl⟩
abbrev main_v82 : Ref sig .tc := ⟨.hbm, 153, rfl⟩
abbrev main_v83 : Ref sig .tc := ⟨.hbm, 154, rfl⟩
abbrev main_v84 : Ref sig .tc := ⟨.hbm, 155, rfl⟩
abbrev main_v85 : Ref sig .tc := ⟨.hbm, 156, rfl⟩
abbrev main_v86 : Ref sig .tc := ⟨.hbm, 157, rfl⟩
abbrev main_v87 : Ref sig .tc := ⟨.hbm, 158, rfl⟩
abbrev main_v88 : Ref sig .tc := ⟨.hbm, 159, rfl⟩
abbrev main_v89 : Ref sig .tc := ⟨.hbm, 160, rfl⟩
abbrev main_v90 : Ref sig .tc := ⟨.hbm, 161, rfl⟩
abbrev main_v91 : Ref sig .tc := ⟨.hbm, 162, rfl⟩
abbrev main_v92 : Ref sig .tc := ⟨.hbm, 163, rfl⟩
abbrev main_v93 : Ref sig .tc := ⟨.hbm, 164, rfl⟩
abbrev main_v94 : Ref sig .tc := ⟨.hbm, 165, rfl⟩
abbrev main_v95 : Ref sig .tc := ⟨.hbm, 166, rfl⟩
abbrev main_v96 : Ref sig .tc := ⟨.hbm, 167, rfl⟩
abbrev main_v97 : Ref sig .tc := ⟨.hbm, 168, rfl⟩
abbrev main_v98 : Ref sig .tc := ⟨.hbm, 169, rfl⟩
abbrev main_v99 : Ref sig .tc := ⟨.hbm, 170, rfl⟩
abbrev main_v100 : Ref sig .tc := ⟨.hbm, 171, rfl⟩
abbrev main_v101 : Ref sig .tc := ⟨.hbm, 172, rfl⟩
abbrev main_v102 : Ref sig .tc := ⟨.hbm, 173, rfl⟩
abbrev main_v103 : Ref sig .tc := ⟨.hbm, 174, rfl⟩

abbrev nD : Nat := 1
abbrev τ : Topo := Topo.v7x

variable {F : FTy → Type} [FloatOps F]

abbrev main_while0_count : Scf.Loop 32 := ⟨0#32, 528#32, 1#32⟩
-- ==== Kernel11.lean ====
abbrev S8192x1024 : Shape := ⟨2, ![8192, 1024]⟩
abbrev S64x256x256 : Shape := ⟨3, ![64, 256, 256]⟩
abbrev S2048x2048 : Shape := ⟨2, ![2048, 2048]⟩
abbrev S_ : Shape := ⟨0, ![]⟩
abbrev S2048x16x8x16 : Shape := ⟨4, ![2048, 16, 8, 16]⟩
abbrev S2048x8x16x16 : Shape := ⟨4, ![2048, 8, 16, 16]⟩
abbrev S8x512x2048 : Shape := ⟨3, ![8, 512, 2048]⟩
abbrev S64x528x128 : Shape := ⟨3, ![64, 528, 128]⟩
abbrev S8192x128 : Shape := ⟨2, ![8192, 128]⟩
abbrev S8x256x256 : Shape := ⟨3, ![8, 256, 256]⟩
abbrev S1x512x2048 : Shape := ⟨3, ![1, 512, 2048]⟩
abbrev S8x528x128 : Shape := ⟨3, ![8, 528, 128]⟩
abbrev S512x128 : Shape := ⟨2, ![512, 128]⟩
abbrev S512x2048 : Shape := ⟨2, ![512, 2048]⟩
abbrev S512x256 : Shape := ⟨2, ![512, 256]⟩
abbrev S1x256x256 : Shape := ⟨3, ![1, 256, 256]⟩
abbrev S256x256 : Shape := ⟨2, ![256, 256]⟩
abbrev S16x128 : Shape := ⟨2, ![16, 128]⟩
abbrev S1x16x128 : Shape := ⟨3, ![1, 16, 128]⟩
abbrev S1x512x128 : Shape := ⟨3, ![1, 512, 128]⟩

abbrev nBuf : Space → Nat
  | .hbm => 18
  | .vmem => 11
  | .smem => 0
  | _ => 0

abbrev bufTy : (tb : Table) → Fin (tcTables nBuf tb) → BufTy
  | .hbm, ⟨0, _⟩ => ⟨S8192x1024, .f32⟩
  | .hbm, ⟨1, _⟩ => ⟨S64x256x256, .f32⟩
  | .hbm, ⟨2, _⟩ => ⟨S2048x2048, .i32⟩
  | .hbm, ⟨3, _⟩ => ⟨S2048x2048, .i32⟩
  | .hbm, ⟨4, _⟩ => ⟨S2048x2048, .i1⟩
  | .hbm, ⟨5, _⟩ => ⟨S_, .f32⟩
  | .hbm, ⟨6, _⟩ => ⟨S2048x2048, .f32⟩
  | .hbm, ⟨7, _⟩ => ⟨S_, .f32⟩
  | .hbm, ⟨8, _⟩ => ⟨S2048x2048, .f32⟩
  | .hbm, ⟨9, _⟩ => ⟨S2048x2048, .f32⟩
  | .hbm, ⟨10, _⟩ => ⟨S2048x16x8x16, .f32⟩
  | .hbm, ⟨11, _⟩ => ⟨S2048x8x16x16, .f32⟩
  | .hbm, ⟨12, _⟩ => ⟨S2048x2048, .f32⟩
  | .hbm, ⟨13, _⟩ => ⟨S2048x2048, .bf16⟩
  | .hbm, ⟨14, _⟩ => ⟨S64x256x256, .bf16⟩
  | .hbm, ⟨15, _⟩ => ⟨S8x512x2048, .bf16⟩
  | .hbm, ⟨16, _⟩ => ⟨S64x528x128, .f32⟩
  | .hbm, ⟨17, _⟩ => ⟨S64x528x128, .f32⟩
  | .local _ .vmem, ⟨0, _⟩ => ⟨S8192x128, .f32⟩
  | .local _ .vmem, ⟨1, _⟩ => ⟨S8192x128, .f32⟩
  | .local _ .vmem, ⟨2, _⟩ => ⟨S2048x2048, .bf16⟩
  | .local _ .vmem, ⟨3, _⟩ => ⟨S8x256x256, .bf16⟩
  | .local _ .vmem, ⟨4, _⟩ => ⟨S8x256x256, .bf16⟩
  | .local _ .vmem, ⟨5, _⟩ => ⟨S1x512x2048, .bf16⟩
  | .local _ .vmem, ⟨6, _⟩ => ⟨S1x512x2048, .bf16⟩
  | .local _ .vmem, ⟨7, _⟩ => ⟨S8x528x128, .f32⟩
  | .local _ .vmem, ⟨8, _⟩ => ⟨S8x528x128, .f32⟩
  | .local _ .vmem, ⟨9, _⟩ => ⟨S8x528x128, .f32⟩
  | .local _ .vmem, ⟨10, _⟩ => ⟨S8x528x128, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11_0 : Ref sig .tc := ⟨.hbm, 15, rfl⟩
abbrev main_v11_1 : Ref sig .tc := ⟨.hbm, 16, rfl⟩
abbrev main_v11_2 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S8192x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S8x256x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x512x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S8x528x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S8x528x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference11Ideal.lean ====
abbrev S8192x1024 : Shape := ⟨2, ![8192, 1024]⟩
abbrev S64x256x256 : Shape := ⟨3, ![64, 256, 256]⟩
abbrev S_ : Shape := ⟨0, ![]⟩
abbrev S8x512x2048 : Shape := ⟨3, ![8, 512, 2048]⟩
abbrev S64x528x128 : Shape := ⟨3, ![64, 528, 128]⟩
abbrev S512x16x8x8x16 : Shape := ⟨5, ![512, 16, 8, 8, 16]⟩
abbrev S8x512x8x16x16 : Shape := ⟨5, ![8, 512, 8, 16, 16]⟩
abbrev S8x8x512x16x16 : Shape := ⟨5, ![8, 8, 512, 16, 16]⟩
abbrev S64x512x256 : Shape := ⟨3, ![64, 512, 256]⟩
abbrev S64x528x256 : Shape := ⟨3, ![64, 528, 256]⟩

abbrev nBuf : Space → Nat
  | .hbm => 17
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S64x256x256, .f32⟩
  | .hbm, ⟨2, _⟩ => ⟨S_, .f32⟩
  | .hbm, ⟨3, _⟩ => ⟨S8x512x2048, .f32⟩
  | .hbm, ⟨4, _⟩ => ⟨S_, .f32⟩
  | .hbm, ⟨5, _⟩ => ⟨S64x528x128, .f32⟩
  | .hbm, ⟨6, _⟩ => ⟨S512x16x8x8x16, .f32⟩
  | .hbm, ⟨7, _⟩ => ⟨S8x512x8x16x16, .f32⟩
  | .hbm, ⟨8, _⟩ => ⟨S8x8x512x16x16, .f32⟩
  | .hbm, ⟨9, _⟩ => ⟨S64x512x256, .f32⟩
  | .hbm, ⟨10, _⟩ => ⟨S8x512x2048, .f32⟩
  | .hbm, ⟨11, _⟩ => ⟨S64x512x256, .f32⟩
  | .hbm, ⟨12, _⟩ => ⟨S_, .f32⟩
  | .hbm, ⟨13, _⟩ => ⟨S64x528x256, .f32⟩
  | .hbm, ⟨14, _⟩ => ⟨S64x528x128, .f32⟩
  | .hbm, ⟨15, _⟩ => ⟨S64x528x128, .f32⟩
  | .hbm, ⟨16, _⟩ => ⟨S8x512x2048, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_cst_0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst_1 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩

abbrev nD : Nat := 1
abbrev τ : Topo := Topo.v7x

variable {F : FTy → Type} [FloatOps F]
-- ==== Kernel9.lean ====
abbrev S8192x1024 : Shape := ⟨2, ![8192, 1024]⟩
abbrev S256x1024 : Shape := ⟨2, ![256, 1024]⟩
abbrev S64x256x256 : Shape := ⟨3, ![64, 256, 256]⟩
abbrev S64x528x128 : Shape := ⟨3, ![64, 528, 128]⟩
abbrev S16x16x8x8x16 : Shape := ⟨5, ![16, 16, 8, 8, 16]⟩
abbrev S8x16x8x16x16 : Shape := ⟨5, ![8, 16, 8, 16, 16]⟩
abbrev S8x16x2048 : Shape := ⟨3, ![8, 16, 2048]⟩
abbrev S512x16x8x8x16 : Shape := ⟨5, ![512, 16, 8, 8, 16]⟩
abbrev S8x512x8x16x16 : Shape := ⟨5, ![8, 512, 8, 16, 16]⟩
abbrev S8x512x2048 : Shape := ⟨3, ![8, 512, 2048]⟩
abbrev S8x528x2048 : Shape := ⟨3, ![8, 528, 2048]⟩
abbrev S4x2x8x528x2x64 : Shape := ⟨6, ![4, 2, 8, 528, 2, 64]⟩
abbrev S4x2x8x528x1x64 : Shape := ⟨6, ![4, 2, 8, 528, 1, 64]⟩
abbrev S4x2x8x528x64 : Shape := ⟨5, ![4, 2, 8, 528, 64]⟩
abbrev S4x8x528x2x64 : Shape := ⟨5, ![4, 8, 528, 2, 64]⟩
abbrev S32x528x128 : Shape := ⟨3, ![32, 528, 128]⟩
abbrev S2048x2048 : Shape := ⟨2, ![2048, 2048]⟩
abbrev S_ : Shape := ⟨0, ![]⟩
abbrev S2048x16x8x16 : Shape := ⟨4, ![2048, 16, 8, 16]⟩
abbrev S2048x8x16x16 : Shape := ⟨4, ![2048, 8, 16, 16]⟩
abbrev S1x528x2048 : Shape := ⟨3, ![1, 528, 2048]⟩
abbrev S1x512x2048 : Shape := ⟨3, ![1, 512, 2048]⟩
abbrev S8x528x128 : Shape := ⟨3, ![8, 528, 128]⟩
abbrev S8x256x256 : Shape := ⟨3, ![8, 256, 256]⟩
abbrev S8192x128 : Shape := ⟨2, ![8192, 128]⟩
abbrev S256x128 : Shape := ⟨2, ![256, 128]⟩
abbrev S528x128 : Shape := ⟨2, ![528, 128]⟩
abbrev S1x528x128 : Shape := ⟨3, ![1, 528, 128]⟩
abbrev S528x256 : Shape := ⟨2, ![528, 256]⟩
abbrev S1x528x256 : Shape := ⟨3, ![1, 528, 256]⟩
abbrev S256x256 : Shape := ⟨2, ![256, 256]⟩
abbrev S1x256x256 : Shape := ⟨3, ![1, 256, 256]⟩
abbrev S512x256 : Shape := ⟨2, ![512, 256]⟩
abbrev S1x512x256 : Shape := ⟨3, ![1, 512, 256]⟩
abbrev S16x256 : Shape := ⟨2, ![16, 256]⟩
abbrev S528x2048 : Shape := ⟨2, ![528, 2048]⟩
abbrev S16x2048 : Shape := ⟨2, ![16, 2048]⟩
abbrev S16x128 : Shape := ⟨2, ![16, 128]⟩
abbrev S512x2048 : Shape := ⟨2, ![512, 2048]⟩
abbrev S512x128 : Shape := ⟨2, ![512, 128]⟩

abbrev nBuf : Space → Nat
  | .hbm => 56
  | .vmem => 23
  | .smem => 0
  | _ => 0

abbrev bufTy : (tb : Table) → Fin (tcTables nBuf tb) → BufTy
  | .hbm, ⟨0, _⟩ => ⟨S8192x1024, .f32⟩
  | .hbm, ⟨1, _⟩ => ⟨S256x1024, .f32⟩
  | .hbm, ⟨2, _⟩ => ⟨S64x256x256, .f32⟩
  | .hbm, ⟨3, _⟩ => ⟨S64x256x256, .f32⟩
  | .hbm, ⟨4, _⟩ => ⟨S64x528x128, .f32⟩
  | .hbm, ⟨5, _⟩ => ⟨S64x528x128, .f32⟩
  | .hbm, ⟨6, _⟩ => ⟨S8192x1024, .f32⟩
  | .hbm, ⟨7, _⟩ => ⟨S16x16x8x8x16, .f32⟩
  | .hbm, ⟨8, _⟩ => ⟨S8x16x8x16x16, .f32⟩
  | .hbm, ⟨9, _⟩ => ⟨S8x16x2048, .f32⟩
  | .hbm, ⟨10, _⟩ => ⟨S512x16x8x8x16, .f32⟩
  | .hbm, ⟨11, _⟩ => ⟨S8x512x8x16x16, .f32⟩
  | .hbm, ⟨12, _⟩ => ⟨S8x512x2048, .f32⟩
  | .hbm, ⟨13, _⟩ => ⟨S8x528x2048, .f32⟩
  | .hbm, ⟨14, _⟩ => ⟨S8x528x2048, .bf16⟩
  | .hbm, ⟨15, _⟩ => ⟨S4x2x8x528x2x64, .f32⟩
  | .hbm, ⟨16, _⟩ => ⟨S4x2x8x528x1x64, .f32⟩
  | .hbm, ⟨17, _⟩ => ⟨S4x2x8x528x64, .f32⟩
  | .hbm, ⟨18, _⟩ => ⟨S4x8x528x2x64, .f32⟩
  | .hbm, ⟨19, _⟩ => ⟨S32x528x128, .f32⟩
  | .hbm, ⟨20, _⟩ => ⟨S4x2x8x528x2x64, .f32⟩
  | .hbm, ⟨21, _⟩ => ⟨S4x2x8x528x1x64, .f32⟩
  | .hbm, ⟨22, _⟩ => ⟨S4x2x8x528x64, .f32⟩
  | .hbm, ⟨23, _⟩ => ⟨S4x8x528x2x64, .f32⟩
  | .hbm, ⟨24, _⟩ => ⟨S32x528x128, .f32⟩
  | .hbm, ⟨25, _⟩ => ⟨S4x2x8x528x2x64, .f32⟩
  | .hbm, ⟨26, _⟩ => ⟨S4x2x8x528x1x64, .f32⟩
  | .hbm, ⟨27, _⟩ => ⟨S4x2x8x528x64, .f32⟩
  | .hbm, ⟨28, _⟩ => ⟨S4x8x528x2x64, .f32⟩
  | .hbm, ⟨29, _⟩ => ⟨S32x528x128, .f32⟩
  | .hbm, ⟨30, _⟩ => ⟨S4x2x8x528x2x64, .f32⟩
  | .hbm, ⟨31, _⟩ => ⟨S4x2x8x528x1x64, .f32⟩
  | .hbm, ⟨32, _⟩ => ⟨S4x2x8x528x64, .f32⟩
  | .hbm, ⟨33, _⟩ => ⟨S4x8x528x2x64, .f32⟩
  | .hbm, ⟨34, _⟩ => ⟨S32x528x128, .f32⟩
  | .hbm, ⟨35, _⟩ => ⟨S512x16x8x8x16, .f32⟩
  | .hbm, ⟨36, _⟩ => ⟨S8x512x8x16x16, .f32⟩
  | .hbm, ⟨37, _⟩ => ⟨S8x512x2048, .f32⟩
  | .hbm, ⟨38, _⟩ => ⟨S8x512x2048, .bf16⟩
  | .hbm, ⟨39, _⟩ => ⟨S64x256x256, .bf16⟩
  | .hbm, ⟨40, _⟩ => ⟨S64x256x256, .bf16⟩
  | .hbm, ⟨41, _⟩ => ⟨S2048x2048, .i32⟩
  | .hbm, ⟨42, _⟩ => ⟨S2048x2048, .i32⟩
  | .hbm, ⟨43, _⟩ => ⟨S2048x2048, .i1⟩
  | .hbm, ⟨44, _⟩ => ⟨S_, .f32⟩
  | .hbm, ⟨45, _⟩ => ⟨S2048x2048, .f32⟩
  | .hbm, ⟨46, _⟩ => ⟨S_, .f32⟩
  | .hbm, ⟨47, _⟩ => ⟨S2048x2048, .f32⟩
  | .hbm, ⟨48, _⟩ => ⟨S2048x2048, .f32⟩
  | .hbm, ⟨49, _⟩ => ⟨S2048x16x8x16, .f32⟩
  | .hbm, ⟨50, _⟩ => ⟨S2048x8x16x16, .f32⟩
  | .hbm, ⟨51, _⟩ => ⟨S2048x2048, .f32⟩
  | .hbm, ⟨52, _⟩ => ⟨S2048x2048, .bf16⟩
  | .hbm, ⟨53, _⟩ => ⟨S8192x1024, .f32⟩
  | .hbm, ⟨54, _⟩ => ⟨S256x1024, .f32⟩
  | .hbm, ⟨55, _⟩ => ⟨S64x256x256, .f32⟩
  | .local _ .vmem, ⟨0, _⟩ => ⟨S1x528x2048, .bf16⟩
  | .local _ .vmem, ⟨1, _⟩ => ⟨S1x528x2048, .bf16⟩
  | .local _ .vmem, ⟨2, _⟩ => ⟨S1x512x2048, .bf16⟩
  | .local _ .vmem, ⟨3, _⟩ => ⟨S1x512x2048, .bf16⟩
  | .local _ .vmem, ⟨4, _⟩ => ⟨S8x528x128, .f32⟩
  | .local _ .vmem, ⟨5, _⟩ => ⟨S8x528x128, .f32⟩
  | .local _ .vmem, ⟨6, _⟩ => ⟨S8x528x128, .f32⟩
  | .local _ .vmem, ⟨7, _⟩ => ⟨S8x528x128, .f32⟩
  | .local _ .vmem, ⟨8, _⟩ => ⟨S8x528x128, .f32⟩
  | .local _ .vmem, ⟨9, _⟩ => ⟨S8x528x128, .f32⟩
  | .local _ .vmem, ⟨10, _⟩ => ⟨S8x528x128, .f32⟩
  | .local _ .vmem, ⟨11, _⟩ => ⟨S8x528x128, .f32⟩
  | .local _ .vmem, ⟨12, _⟩ => ⟨S8x256x256, .bf16⟩
  | .local _ .vmem, ⟨13, _⟩ => ⟨S8x256x256, .bf16⟩
  | .local _ .vmem, ⟨14, _⟩ => ⟨S8x256x256, .bf16⟩
  | .local _ .vmem, ⟨15, _⟩ => ⟨S8x256x256, .bf16⟩
  | .local _ .vmem, ⟨16, _⟩ => ⟨S2048x2048, .bf16⟩
  | .local _ .vmem, ⟨17, _⟩ => ⟨S8192x128, .f32⟩
  | .local _ .vmem, ⟨18, _⟩ => ⟨S8192x128, .f32⟩
  | .local _ .vmem, ⟨19, _⟩ => ⟨S256x128, .f32⟩
  | .local _ .vmem, ⟨20, _⟩ => ⟨S256x128, .f32⟩
  | .local _ .vmem, ⟨21, _⟩ => ⟨S8x256x256, .f32⟩
  | .local _ .vmem, ⟨22, _⟩ => ⟨S8x256x256, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_cst : Ref sig .tc := ⟨.hbm, 44, rfl⟩
abbrev main_v37 : Ref sig .tc := ⟨.hbm, 45, rfl⟩
abbrev main_cst_0 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_v44_0 : Ref sig .tc := ⟨.hbm, 53, rfl⟩
abbrev main_v44_1 : Ref sig .tc := ⟨.hbm, 54, rfl⟩
abbrev main_v44_2 : Ref sig .tc := ⟨.hbm, 55, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_stg10_1 : Ref sig .tc := ⟨.vmem, 20, rfl⟩
abbrev cc0_stg11_0 : Ref sig .tc := ⟨.vmem, 21, rfl⟩
abbrev cc0_stg11_1 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem9_0 : DmaSem sig := 17
abbrev cc0_sem9_1 : DmaSem sig := 18
abbrev cc0_sem10_0 : DmaSem sig := 19
abbrev cc0_sem10_1 : DmaSem sig := 20
abbrev cc0_sem11_0 : DmaSem sig := 21
abbrev cc0_sem11_1 : DmaSem sig := 22

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_3 (i : grid0.Coords) : Fin 3 → Nat :=
  let arg0 : BitVec 32 := BitVec.ofNat 32 (i 0).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_4 (i : grid0.Coords) : Fin 3 → Nat :=
  let arg0 : BitVec 32 := BitVec.ofNat 32 (i 0).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_5 (i : grid0.Coords) : Fin 3 → Nat :=
  let arg0 : BitVec 32 := BitVec.ofNat 32 (i 0).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x528x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x528x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x528x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S8x528x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S8x528x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S8x256x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S8x256x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S2048x2048 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S8192x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S8x256x256 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== Reference9Ideal.lean ====
abbrev S8192x1024 : Shape := ⟨2, ![8192, 1024]⟩
abbrev S256x1024 : Shape := ⟨2, ![256, 1024]⟩
abbrev S64x256x256 : Shape := ⟨3, ![64, 256, 256]⟩
abbrev S64x528x128 : Shape := ⟨3, ![64, 528, 128]⟩
abbrev S8448x1024 : Shape := ⟨2, ![8448, 1024]⟩
abbrev S528x16x64x16 : Shape := ⟨4, ![528, 16, 64, 16]⟩
abbrev S64x528x16x16 : Shape := ⟨4, ![64, 528, 16, 16]⟩
abbrev S64x528x256 : Shape := ⟨3, ![64, 528, 256]⟩
abbrev S64x512x256 : Shape := ⟨3, ![64, 512, 256]⟩
abbrev S64x512x16x16 : Shape := ⟨4, ![64, 512, 16, 16]⟩
abbrev S512x16x64x16 : Shape := ⟨4, ![512, 16, 64, 16]⟩
abbrev S_ : Shape := ⟨0, ![]⟩

abbrev nBuf : Space → Nat
  | .hbm => 33
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S256x1024, .f32⟩
  | .hbm, ⟨2, _⟩ => ⟨S64x256x256, .f32⟩
  | .hbm, ⟨3, _⟩ => ⟨S64x256x256, .f32⟩
  | .hbm, ⟨4, _⟩ => ⟨S64x528x128, .f32⟩
  | .hbm, ⟨5, _⟩ => ⟨S64x528x128, .f32⟩
  | .hbm, ⟨6, _⟩ => ⟨S8192x1024, .f32⟩
  | .hbm, ⟨7, _⟩ => ⟨S8448x1024, .f32⟩
  | .hbm, ⟨8, _⟩ => ⟨S528x16x64x16, .f32⟩
  | .hbm, ⟨9, _⟩ => ⟨S64x528x16x16, .f32⟩
  | .hbm, ⟨10, _⟩ => ⟨S64x528x256, .f32⟩
  | .hbm, ⟨11, _⟩ => ⟨S64x528x256, .f32⟩
  | .hbm, ⟨12, _⟩ => ⟨S64x512x256, .f32⟩
  | .hbm, ⟨13, _⟩ => ⟨S64x512x256, .f32⟩
  | .hbm, ⟨14, _⟩ => ⟨S64x512x16x16, .f32⟩
  | .hbm, ⟨15, _⟩ => ⟨S512x16x64x16, .f32⟩
  | .hbm, ⟨16, _⟩ => ⟨S8192x1024, .f32⟩
  | .hbm, ⟨17, _⟩ => ⟨S64x528x256, .f32⟩
  | .hbm, ⟨18, _⟩ => ⟨S512x16x64x16, .f32⟩
  | .hbm, ⟨19, _⟩ => ⟨S64x512x16x16, .f32⟩
  | .hbm, ⟨20, _⟩ => ⟨S64x512x256, .f32⟩
  | .hbm, ⟨21, _⟩ => ⟨S64x512x256, .f32⟩
  | .hbm, ⟨22, _⟩ => ⟨S_, .f32⟩
  | .hbm, ⟨23, _⟩ => ⟨S64x528x256, .f32⟩
  | .hbm, ⟨24, _⟩ => ⟨S64x256x256, .f32⟩
  | .hbm, ⟨25, _⟩ => ⟨S64x256x256, .f32⟩
  | .hbm, ⟨26, _⟩ => ⟨S64x528x256, .f32⟩
  | .hbm, ⟨27, _⟩ => ⟨S64x528x256, .f32⟩
  | .hbm, ⟨28, _⟩ => ⟨S64x528x16x16, .f32⟩
  | .hbm, ⟨29, _⟩ => ⟨S528x16x64x16, .f32⟩
  | .hbm, ⟨30, _⟩ => ⟨S8448x1024, .f32⟩
  | .hbm, ⟨31, _⟩ => ⟨S256x1024, .f32⟩
  | .hbm, ⟨32, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_cst : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩

abbrev nD : Nat := 1
abbrev τ : Topo := Topo.v7x

variable {F : FTy → Type} [FloatOps F]
-- ==== Kernel8.lean ====
abbrev S8x2048 : Shape := ⟨2, ![8, 2048]⟩
abbrev S1x2048 : Shape := ⟨2, ![1, 2048]⟩
abbrev S8x768 : Shape := ⟨2, ![8, 768]⟩
abbrev S2048x768 : Shape := ⟨2, ![2048, 768]⟩
abbrev S_ : Shape := ⟨0, ![]⟩
abbrev S7x2048 : Shape := ⟨2, ![7, 2048]⟩
abbrev S16x2048 : Shape := ⟨2, ![16, 2048]⟩
abbrev S1x768 : Shape := ⟨2, ![1, 768]⟩
abbrev S768 : Shape := ⟨1, ![768]⟩
abbrev S7x768 : Shape := ⟨2, ![7, 768]⟩
abbrev S16x768 : Shape := ⟨2, ![16, 768]⟩

abbrev nBuf : Space → Nat
  | .hbm => 11
  | .vmem => 7
  | .smem => 0
  | _ => 0

abbrev bufTy : (tb : Table) → Fin (tcTables nBuf tb) → BufTy
  | .hbm, ⟨0, _⟩ => ⟨S8x2048, .f32⟩
  | .hbm, ⟨1, _⟩ => ⟨S1x2048, .f32⟩
  | .hbm, ⟨2, _⟩ => ⟨S8x768, .f32⟩
  | .hbm, ⟨3, _⟩ => ⟨S8x768, .f32⟩
  | .hbm, ⟨4, _⟩ => ⟨S2048x768, .f32⟩
  | .hbm, ⟨5, _⟩ => ⟨S_, .f32⟩
  | .hbm, ⟨6, _⟩ => ⟨S7x2048, .f32⟩
  | .hbm, ⟨7, _⟩ => ⟨S16x2048, .f32⟩
  | .hbm, ⟨8, _⟩ => ⟨S2048x768, .f32⟩
  | .hbm, ⟨9, _⟩ => ⟨S1x768, .f32⟩
  | .hbm, ⟨10, _⟩ => ⟨S1x2048, .f32⟩
  | .local _ .vmem, ⟨0, _⟩ => ⟨S16x2048, .f32⟩
  | .local _ .vmem, ⟨1, _⟩ => ⟨S8x768, .f32⟩
  | .local _ .vmem, ⟨2, _⟩ => ⟨S8x768, .f32⟩
  | .local _ .vmem, ⟨3, _⟩ => ⟨S2048x768, .f32⟩
  | .local _ .vmem, ⟨4, _⟩ => ⟨S2048x768, .f32⟩
  | .local _ .vmem, ⟨5, _⟩ => ⟨S1x768, .f32⟩
  | .local _ .vmem, ⟨6, _⟩ => ⟨S1x2048, .f32⟩
  | _, _ => ⟨S8x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2_0 : Ref sig .tc := ⟨.hbm, 8, rfl⟩
abbrev main_v2_1 : Ref sig .tc := ⟨.hbm, 9, rfl⟩
abbrev main_v2_2 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := .none

abbrev stage0_0 : Fin 1 → Memref sig .tc .vmem S16x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S8x768 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S8x768 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2048x768 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S2048x768 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x768 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== Reference8Ideal.lean ====
abbrev S8x2048 : Shape := ⟨2, ![8, 2048]⟩
abbrev S1x2048 : Shape := ⟨2, ![1, 2048]⟩
abbrev S8x768 : Shape := ⟨2, ![8, 768]⟩
abbrev S2048x768 : Shape := ⟨2, ![2048, 768]⟩
abbrev S_ : Shape := ⟨0, ![]⟩
abbrev S1x768 : Shape := ⟨2, ![1, 768]⟩
abbrev S768 : Shape := ⟨1, ![768]⟩
abbrev S768x2048 : Shape := ⟨2, ![768, 2048]⟩

abbrev nBuf : Space → Nat
  | .hbm => 53
  | .vmem => 0
  | .smem => 0
  | _ => 0

abbrev bufTy : (tb : Table) → Fin (tcTables nBuf tb) → BufTy
  | .hbm, ⟨0, _⟩ => ⟨S8x2048, .f32⟩
  | .hbm, ⟨1, _⟩ => ⟨S1x2048, .f32⟩
  | .hbm, ⟨2, _⟩ => ⟨S8x768, .f32⟩
  | .hbm, ⟨3, _⟩ => ⟨S8x768, .f32⟩
  | .hbm, ⟨4, _⟩ => ⟨S2048x768, .f32⟩
  | .hbm, ⟨5, _⟩ => ⟨S_, .f32⟩
  | .hbm, ⟨6, _⟩ => ⟨S1x768, .f32⟩
  | .hbm, ⟨7, _⟩ => ⟨S8x2048, .f32⟩
  | .hbm, ⟨8, _⟩ => ⟨S8x2048, .f32⟩
  | .hbm, ⟨9, _⟩ => ⟨S_, .f32⟩
  | .hbm, ⟨10, _⟩ => ⟨S8x2048, .f32⟩
  | .hbm, ⟨11, _⟩ => ⟨S8x2048, .f32⟩
  | .hbm, ⟨12, _⟩ => ⟨S_, .f32⟩
  | .hbm, ⟨13, _⟩ => ⟨S8x2048, .f32⟩
  | .hbm, ⟨14, _⟩ => ⟨S8x2048, .f32⟩
  | .hbm, ⟨15, _⟩ => ⟨S8x2048, .f32⟩
  | .hbm, ⟨16, _⟩ => ⟨S8x768, .f32⟩
  | .hbm, ⟨17, _⟩ => ⟨S8x768, .f32⟩
  | .hbm, ⟨18, _⟩ => ⟨S8x768, .f32⟩
  | .hbm, ⟨19, _⟩ => ⟨S1x2048, .f32⟩
  | .hbm, ⟨20, _⟩ => ⟨S1x2048, .f32⟩
  | .hbm, ⟨21, _⟩ => ⟨S_, .f32⟩
  | .hbm, ⟨22, _⟩ => ⟨S1x2048, .f32⟩
  | .hbm, ⟨23, _⟩ => ⟨S1x2048, .f32⟩
  | .hbm, ⟨24, _⟩ => ⟨S_, .f32⟩
  | .hbm, ⟨25, _⟩ => ⟨S1x2048, .f32⟩
  | .hbm, ⟨26, _⟩ => ⟨S1x2048, .f32⟩
  | .hbm, ⟨27, _⟩ => ⟨S_, .f32⟩
  | .hbm, ⟨28, _⟩ => ⟨S1x2048, .f32⟩
  | .hbm, ⟨29, _⟩ => ⟨S1x2048, .f32⟩
  | .hbm, ⟨30, _⟩ => ⟨S1x2048, .f32⟩
  | .hbm, ⟨31, _⟩ => ⟨S1x2048, .f32⟩
  | .hbm, ⟨32, _⟩ => ⟨S1x768, .f32⟩
  | .hbm, ⟨33, _⟩ => ⟨S1x768, .f32⟩
  | .hbm, ⟨34, _⟩ => ⟨S8x768, .f32⟩
  | .hbm, ⟨35, _⟩ => ⟨S_, .f32⟩
  | .hbm, ⟨36, _⟩ => ⟨S768, .f32⟩
  | .hbm, ⟨37, _⟩ => ⟨S1x768, .f32⟩
  | .hbm, ⟨38, _⟩ => ⟨S768x2048, .f32⟩
  | .hbm, ⟨39, _⟩ => ⟨S2048x768, .f32⟩
  | .hbm, ⟨40, _⟩ => ⟨S1x2048, .f32⟩
  | .hbm, ⟨41, _⟩ => ⟨S1x2048, .f32⟩
  | .hbm, ⟨42, _⟩ => ⟨S1x2048, .f32⟩
  | .hbm, ⟨43, _⟩ => ⟨S1x2048, .f32⟩
  | .hbm, ⟨44, _⟩ => ⟨S1x2048, .f32⟩
  | .hbm, ⟨45, _⟩ => ⟨S8x768, .f32⟩
  | .hbm, ⟨46, _⟩ => ⟨S_, .f32⟩
  | .hbm, ⟨47, _⟩ => ⟨S768, .f32⟩
  | .hbm, ⟨48, _⟩ => ⟨S1x768, .f32⟩
  | .hbm, ⟨49, _⟩ => ⟨S1x768, .f32⟩
  | .hbm, ⟨50, _⟩ => ⟨S768x2048, .f32⟩
  | .hbm, ⟨51, _⟩ => ⟨S2048x768, .f32⟩
  | .hbm, ⟨52, _⟩ => ⟨S2048x768, .f32⟩
  | _, _ => ⟨S8x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_call0_v0 : Ref sig .tc := ⟨.hbm, 7, rfl⟩
abbrev main_call0_v1 : Ref sig .tc := ⟨.hbm, 8, rfl⟩
abbrev main_call0_cst : Ref sig .tc := ⟨.hbm, 9, rfl⟩
abbrev main_call0_v2 : Ref sig .tc := ⟨.hbm, 10, rfl⟩
abbrev main_call0_v3 : Ref sig .tc := ⟨.hbm, 11, rfl⟩
abbrev main_call0_cst_0 : Ref sig .tc := ⟨.hbm, 12, rfl⟩
abbrev main_call0_v4 : Ref sig .tc := ⟨.hbm, 13, rfl⟩
abbrev main_call0_v5 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_call1_v0 : Ref sig .tc := ⟨.hbm, 19, rfl⟩
abbrev main_call1_v1 : Ref sig .tc := ⟨.hbm, 20, rfl⟩
abbrev main_call1_cst : Ref sig .tc := ⟨.hbm, 21, rfl⟩
abbrev main_call1_v2 : Ref sig .tc := ⟨.hbm, 22, rfl⟩
abbrev main_call1_v3 : Ref sig .tc := ⟨.hbm, 23, rfl⟩
abbrev main_call1_cst_0 : Ref sig .tc := ⟨.hbm, 24, rfl⟩
abbrev main_call1_v4 : Ref sig .tc := ⟨.hbm, 25, rfl⟩
abbrev main_v5_2 : Ref sig .tc := ⟨.hbm, 26, rfl⟩
abbrev main_call1_cst_1 : Ref sig .tc := ⟨.hbm, 27, rfl⟩
abbrev main_call1_v6 : Ref sig .tc := ⟨.hbm, 28, rfl⟩
abbrev main_call1_v7 : Ref sig .tc := ⟨.hbm, 29, rfl⟩
abbrev main_v5_1 : Ref sig .tc := ⟨.hbm, 30, rfl⟩
abbrev main_v5_0 : Ref sig .tc := ⟨.hbm, 31, rfl⟩
abbrev main_v6 : Ref sig .tc := ⟨.hbm, 32, rfl⟩
abbrev main_v7 : Ref sig .tc := ⟨.hbm, 33, rfl⟩
abbrev main_v8 : Ref sig .tc := ⟨.hbm, 34, rfl⟩
abbrev main_cst_0 : Ref sig .tc := ⟨.hbm, 35, rfl⟩
abbrev main_v9 : Ref sig .tc := ⟨.hbm, 36, rfl⟩
abbrev main_v10 : Ref sig .tc := ⟨.hbm, 37, rfl⟩
abbrev main_v11 : Ref sig .tc := ⟨.hbm, 38, rfl⟩
abbrev main_v12 : Ref sig .tc := ⟨.hbm, 39, rfl⟩
abbrev main_v13 : Ref sig .tc := ⟨.hbm, 40, rfl⟩
abbrev main_call2_v0 : Ref sig .tc := ⟨.hbm, 41, rfl⟩
abbrev main_call2_v1 : Ref sig .tc := ⟨.hbm, 42, rfl⟩
abbrev main_call2_v2 : Ref sig .tc := ⟨.hbm, 43, rfl⟩
abbrev main_v14 : Ref sig .tc := ⟨.hbm, 44, rfl⟩
abbrev main_v15 : Ref sig .tc := ⟨.hbm, 45, rfl⟩
abbrev main_cst_1 : Ref sig .tc := ⟨.hbm, 46, rfl⟩
abbrev main_v16 : Ref sig .tc := ⟨.hbm, 47, rfl⟩
abbrev main_v17 : Ref sig .tc := ⟨.hbm, 48, rfl⟩
abbrev main_v18 : Ref sig .tc := ⟨.hbm, 49, rfl⟩
abbrev main_v19 : Ref sig .tc := ⟨.hbm, 50, rfl⟩
abbrev main_v20 : Ref sig .tc := ⟨.hbm, 51, rfl⟩
abbrev main_v21 : Ref sig .tc := ⟨.hbm, 52, rfl⟩

abbrev nD : Nat := 1
abbrev τ : Topo := Topo.v7x

variable {F : FTy → Type} [FloatOps F]
-- ==== Kernel7.lean ====
abbrev S8192x2048 : Shape := ⟨2, ![8192, 2048]⟩
abbrev S8192x1024 : Shape := ⟨2, ![8192, 1024]⟩
abbrev S2048x4096 : Shape := ⟨2, ![2048, 4096]⟩
abbrev S1x2048 : Shape := ⟨2, ![1, 2048]⟩
abbrev S1x1024 : Shape := ⟨2, ![1, 1024]⟩
abbrev S2048x8x512 : Shape := ⟨3, ![2048, 8, 512]⟩
abbrev S8x2048x512 : Shape := ⟨3, ![8, 2048, 512]⟩
abbrev S8192x4096 : Shape := ⟨2, ![8192, 4096]⟩
abbrev S256x2048 : Shape := ⟨2, ![256, 2048]⟩
abbrev S256x1024 : Shape := ⟨2, ![256, 1024]⟩
abbrev S256x4096 : Shape := ⟨2, ![256, 4096]⟩
abbrev S256x512 : Shape := ⟨2, ![256, 512]⟩
abbrev S1x2048x512 : Shape := ⟨3, ![1, 2048, 512]⟩
abbrev S2048x512 : Shape := ⟨2, ![2048, 512]⟩
abbrev S256 : Shape := ⟨1, ![256]⟩
abbrev S256x1 : Shape := ⟨2, ![256, 1]⟩
abbrev S2048 : Shape := ⟨1, ![2048]⟩

abbrev nBuf : Space → Nat
  | .hbm => 20
  | .vmem => 25
  | .smem => 0
  | _ => 0

abbrev bufTy : (tb : Table) → Fin (tcTables nBuf tb) → BufTy
  | .hbm, ⟨0, _⟩ => ⟨S8192x2048, .f32⟩
  | .hbm, ⟨1, _⟩ => ⟨S8192x2048, .f32⟩
  | .hbm, ⟨2, _⟩ => ⟨S8192x1024, .f32⟩
  | .hbm, ⟨3, _⟩ => ⟨S8192x1024, .f32⟩
  | .hbm, ⟨4, _⟩ => ⟨S8192x1024, .f32⟩
  | .hbm, ⟨5, _⟩ => ⟨S8192x2048, .f32⟩
  | .hbm, ⟨6, _⟩ => ⟨S2048x4096, .f32⟩
  | .hbm, ⟨7, _⟩ => ⟨S1x2048, .f32⟩
  | .hbm, ⟨8, _⟩ => ⟨S1x2048, .f32⟩
  | .hbm, ⟨9, _⟩ => ⟨S1x2048, .f32⟩
  | .hbm, ⟨10, _⟩ => ⟨S1x1024, .f32⟩
  | .hbm, ⟨11, _⟩ => ⟨S1x2048, .f32⟩
  | .hbm, ⟨12, _⟩ => ⟨S2048x4096, .bf16⟩
  | .hbm, ⟨13, _⟩ => ⟨S2048x8x512, .bf16⟩
  | .hbm, ⟨14, _⟩ => ⟨S8x2048x512, .bf16⟩
  | .hbm, ⟨15, _⟩ => ⟨S8192x2048, .f32⟩
  | .hbm, ⟨16, _⟩ => ⟨S8192x4096, .bf16⟩
  | .hbm, ⟨17, _⟩ => ⟨S1x2048, .f32⟩
  | .hbm, ⟨18, _⟩ => ⟨S1x2048, .f32⟩
  | .hbm, ⟨19, _⟩ => ⟨S1x2048, .f32⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S256x2048, .f32⟩
  | .local _ .vmem, ⟨11, _⟩ => ⟨S256x2048, .f32⟩
  | .local _ .vmem, ⟨12, _⟩ => ⟨S8x2048x512, .bf16⟩
  | .local _ .vmem, ⟨13, _⟩ => ⟨S1x2048, .f32⟩
  | .local _ .vmem, ⟨14, _⟩ => ⟨S1x2048, .f32⟩
  | .local _ .vmem, ⟨15, _⟩ => ⟨S1x2048, .f32⟩
  | .local _ .vmem, ⟨16, _⟩ => ⟨S1x1024, .f32⟩
  | .local _ .vmem, ⟨17, _⟩ => ⟨S1x2048, .f32⟩
  | .local _ .vmem, ⟨18, _⟩ => ⟨S256x2048, .f32⟩
  | .local _ .vmem, ⟨19, _⟩ => ⟨S256x2048, .f32⟩
  | .local _ .vmem, ⟨20, _⟩ => ⟨S256x4096, .bf16⟩
  | .local _ .vmem, ⟨21, _⟩ => ⟨S256x4096, .bf16⟩
  | .local _ .vmem, ⟨22, _⟩ => ⟨S1x2048, .f32⟩
  | .local _ .vmem, ⟨23, _⟩ => ⟨S1x2048, .f32⟩
  | .local _ .vmem, ⟨24, _⟩ => ⟨S1x2048, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3_0 : Ref sig .tc := ⟨.hbm, 15, rfl⟩
abbrev main_v3_1 : Ref sig .tc := ⟨.hbm, 16, rfl⟩
abbrev main_v3_2 : Ref sig .tc := ⟨.hbm, 17, rfl⟩
abbrev main_v3_3 : Ref sig .tc := ⟨.hbm, 18, rfl⟩
abbrev main_v3_4 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg11_0 : Ref sig .tc := ⟨.vmem, 17, rfl⟩
abbrev cc0_stg12_0 : Ref sig .tc := ⟨.vmem, 18, rfl⟩
abbrev cc0_stg12_1 : Ref sig .tc := ⟨.vmem, 19, rfl⟩
abbrev cc0_stg13_0 : Ref sig .tc := ⟨.vmem, 20, rfl⟩
abbrev cc0_stg13_1 : Ref sig .tc := ⟨.vmem, 21, rfl⟩
abbrev cc0_stg14_0 : Ref sig .tc := ⟨.vmem, 22, rfl⟩
abbrev cc0_stg15_0 : Ref sig .tc := ⟨.vmem, 23, rfl⟩
abbrev cc0_stg16_0 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem10_0 : DmaSem sig := 16
abbrev cc0_sem11_0 : DmaSem sig := 17
abbrev cc0_sem12_0 : DmaSem sig := 18
abbrev cc0_sem12_1 : DmaSem sig := 19
abbrev cc0_sem13_0 : DmaSem sig := 20
abbrev cc0_sem13_1 : DmaSem sig := 21
abbrev cc0_sem14_0 : DmaSem sig := 22
abbrev cc0_sem15_0 : DmaSem sig := 23
abbrev cc0_sem16_0 : DmaSem sig := 24

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S8x2048x512 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x2048 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x2048 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S256x2048 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S256x4096 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 1 → Memref sig .tc .vmem S1x2048 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1x2048 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S1x2048 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]
-- ==== Reference7Ideal.lean ====
abbrev S8192x2048 : Shape := ⟨2, ![8192, 2048]⟩
abbrev S8192x1024 : Shape := ⟨2, ![8192, 1024]⟩
abbrev S2048x4096 : Shape := ⟨2, ![2048, 4096]⟩
abbrev S1x2048 : Shape := ⟨2, ![1, 2048]⟩
abbrev S1x1024 : Shape := ⟨2, ![1, 1024]⟩
abbrev S_ : Shape := ⟨0, ![]⟩
abbrev S8192x4096 : Shape := ⟨2, ![8192, 4096]⟩
abbrev S8192 : Shape := ⟨1, ![8192]⟩
abbrev S8192x1 : Shape := ⟨2, ![8192, 1]⟩
abbrev S2048 : Shape := ⟨1, ![2048]⟩

abbrev nBuf : Space → Nat
  | .hbm => 88
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S8192x2048, .f32⟩
  | .hbm, ⟨2, _⟩ => ⟨S8192x1024, .f32⟩
  | .hbm, ⟨3, _⟩ => ⟨S8192x1024, .f32⟩
  | .hbm, ⟨4, _⟩ => ⟨S8192x1024, .f32⟩
  | .hbm, ⟨5, _⟩ => ⟨S8192x2048, .f32⟩
  | .hbm, ⟨6, _⟩ => ⟨S2048x4096, .f32⟩
  | .hbm, ⟨7, _⟩ => ⟨S1x2048, .f32⟩
  | .hbm, ⟨8, _⟩ => ⟨S1x2048, .f32⟩
  | .hbm, ⟨9, _⟩ => ⟨S1x2048, .f32⟩
  | .hbm, ⟨10, _⟩ => ⟨S1x1024, .f32⟩
  | .hbm, ⟨11, _⟩ => ⟨S1x2048, .f32⟩
  | .hbm, ⟨12, _⟩ => ⟨S_, .f32⟩
  | .hbm, ⟨13, _⟩ => ⟨S8192x4096, .f32⟩
  | .hbm, ⟨14, _⟩ => ⟨S8192x1024, .f32⟩
  | .hbm, ⟨15, _⟩ => ⟨S8192x1024, .f32⟩
  | .hbm, ⟨16, _⟩ => ⟨S8192x1024, .f32⟩
  | .hbm, ⟨17, _⟩ => ⟨S_, .f32⟩
  | .hbm, ⟨18, _⟩ => ⟨S8192x4096, .f32⟩
  | .hbm, ⟨19, _⟩ => ⟨S_, .f32⟩
  | .hbm, ⟨20, _⟩ => ⟨S8192x4096, .f32⟩
  | .hbm, ⟨21, _⟩ => ⟨S8192x4096, .f32⟩
  | .hbm, ⟨22, _⟩ => ⟨S_, .f32⟩
  | .hbm, ⟨23, _⟩ => ⟨S8192x4096, .f32⟩
  | .hbm, ⟨24, _⟩ => ⟨S8192x4096, .f32⟩
  | .hbm, ⟨25, _⟩ => ⟨S8192x2048, .f32⟩
  | .hbm, ⟨26, _⟩ => ⟨S_, .f32⟩
  | .hbm, ⟨27, _⟩ => ⟨S8192, .f32⟩
  | .hbm, ⟨28, _⟩ => ⟨S8192x1, .f32⟩
  | .hbm, ⟨29, _⟩ => ⟨S_, .f32⟩
  | .hbm, ⟨30, _⟩ => ⟨S8192x1, .f32⟩
  | .hbm, ⟨31, _⟩ => ⟨S8192x1, .f32⟩
  | .hbm, ⟨32, _⟩ => ⟨S_, .f32⟩
  | .hbm, ⟨33, _⟩ => ⟨S8192x1, .f32⟩
  | .hbm, ⟨34, _⟩ => ⟨S8192x1, .f32⟩
  | .hbm, ⟨35, _⟩ => ⟨S8192x1, .f32⟩
  | .hbm, ⟨36, _⟩ => ⟨S8192x1, .f32⟩
  | .hbm, ⟨37, _⟩ => ⟨S_, .f32⟩
  | .hbm, ⟨38, _⟩ => ⟨S8192x1, .f32⟩
  | .hbm, ⟨39, _⟩ => ⟨S8192x1, .f32⟩
  | .hbm, ⟨40, _⟩ => ⟨S8192x2048, .f32⟩
  | .hbm, ⟨41, _⟩ => ⟨S8192x2048, .f32⟩
  | .hbm, ⟨42, _⟩ => ⟨S8192x2048, .f32⟩
  | .hbm, ⟨43, _⟩ => ⟨S8192x2048, .f32⟩
  | .hbm, ⟨44, _⟩ => ⟨S_, .f32⟩
  | .hbm, ⟨45, _⟩ => ⟨S1x2048, .f32⟩
  | .hbm, ⟨46, _⟩ => ⟨S1x2048, .f32⟩
  | .hbm, ⟨47, _⟩ => ⟨S8192x2048, .f32⟩
  | .hbm, ⟨48, _⟩ => ⟨S8192x2048, .f32⟩
  | .hbm, ⟨49, _⟩ => ⟨S8192x2048, .f32⟩
  | .hbm, ⟨50, _⟩ => ⟨S8192x2048, .f32⟩
  | .hbm, ⟨51, _⟩ => ⟨S8192x4096, .f32⟩
  | .hbm, ⟨52, _⟩ => ⟨S8192x2048, .f32⟩
  | .hbm, ⟨53, _⟩ => ⟨S_, .f32⟩
  | .hbm, ⟨54, _⟩ => ⟨S2048, .f32⟩
  | .hbm, ⟨55, _⟩ => ⟨S1x2048, .f32⟩
  | .hbm, ⟨56, _⟩ => ⟨S8192x2048, .f32⟩
  | .hbm, ⟨57, _⟩ => ⟨S_, .f32⟩
  | .hbm, ⟨58, _⟩ => ⟨S2048, .f32⟩
  | .hbm, ⟨59, _⟩ => ⟨S1x2048, .f32⟩
  | .hbm, ⟨60, _⟩ => ⟨S8192x2048, .f32⟩
  | .hbm, ⟨61, _⟩ => ⟨S8192x2048, .f32⟩
  | .hbm, ⟨62, _⟩ => ⟨S8192x2048, .f32⟩
  | .hbm, ⟨63, _⟩ => ⟨S_, .f32⟩
  | .hbm, ⟨64, _⟩ => ⟨S2048, .f32⟩
  | .hbm, ⟨65, _⟩ => ⟨S1x2048, .f32⟩
  | .hbm, ⟨66, _⟩ => ⟨S8192x2048, .f32⟩
  | .hbm, ⟨67, _⟩ => ⟨S8192x2048, .f32⟩
  | .hbm, ⟨68, _⟩ => ⟨S8192x2048, .f32⟩
  | .hbm, ⟨69, _⟩ => ⟨S_, .f32⟩
  | .hbm, ⟨70, _⟩ => ⟨S8192, .f32⟩
  | .hbm, ⟨71, _⟩ => ⟨S8192x1, .f32⟩
  | .hbm, ⟨72, _⟩ => ⟨S8192x2048, .f32⟩
  | .hbm, ⟨73, _⟩ => ⟨S8192x2048, .f32⟩
  | .hbm, ⟨74, _⟩ => ⟨S8192x2048, .f32⟩
  | .hbm, ⟨75, _⟩ => ⟨S8192x1, .f32⟩
  | .hbm, ⟨76, _⟩ => ⟨S_, .f32⟩
  | .hbm, ⟨77, _⟩ => ⟨S8192x1, .f32⟩
  | .hbm, ⟨78, _⟩ => ⟨S8192x1, .f32⟩
  | .hbm, ⟨79, _⟩ => ⟨S_, .f32⟩
  | .hbm, ⟨80, _⟩ => ⟨S8192, .f32⟩
  | .hbm, ⟨81, _⟩ => ⟨S8192x2048, .f32⟩
  | .hbm, ⟨82, _⟩ => ⟨S8192x2048, .f32⟩
  | .hbm, ⟨83, _⟩ => ⟨S8192x2048, .f32⟩
  | .hbm, ⟨84, _⟩ => ⟨S8192x2048, .f32⟩
  | .hbm, ⟨85, _⟩ => ⟨S8192x2048, .f32⟩
  | .hbm, ⟨86, _⟩ => ⟨S8192x4096, .bf16⟩
  | .hbm, ⟨87, _⟩ => ⟨S1x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_cst : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_cst_0 : Ref sig .tc := ⟨.hbm, 17, rfl⟩
abbrev main_v4 : Ref sig .tc := ⟨.hbm, 18, rfl⟩
abbrev main_cst_1 : Ref sig .tc := ⟨.hbm, 19, rfl⟩
abbrev main_v5 : Ref sig .tc := ⟨.hbm, 20, rfl⟩
abbrev main_v6 : Ref sig .tc := ⟨.hbm, 21, rfl⟩
abbrev main_cst_2 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_cst_3 : Ref sig .tc := ⟨.hbm, 26, rfl⟩
abbrev main_v10 : Ref sig .tc := ⟨.hbm, 27, rfl⟩
abbrev main_v11 : Ref sig .tc := ⟨.hbm, 28, rfl⟩
abbrev main_cst_4 : Ref sig .tc := ⟨.hbm, 29, rfl⟩
abbrev main_v12 : Ref sig .tc := ⟨.hbm, 30, rfl⟩
abbrev main_v13 : Ref sig .tc := ⟨.hbm, 31, rfl⟩
abbrev main_cst_5 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_cst_6 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_cst_7 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_cst_8 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_cst_9 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_cst_10 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_cst_11 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_cst_12 : Ref sig .tc := ⟨.hbm, 76, rfl⟩
abbrev main_v51 : Ref sig .tc := ⟨.hbm, 77, rfl⟩
abbrev main_v52 : Ref sig .tc := ⟨.hbm, 78, rfl⟩
abbrev main_cst_13 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩

abbrev nD : Nat := 1
abbrev τ : Topo := Topo.v7x

variable {F : FTy → Type} [FloatOps F]
-- ==== Kernel5.lean ====
abbrev S8192x2048 : Shape := ⟨2, ![8192, 2048]⟩
abbrev S8192x1024 : Shape := ⟨2, ![8192, 1024]⟩
abbrev S8192x4096 : Shape := ⟨2, ![8192, 4096]⟩
abbrev S1024x2048 : Shape := ⟨2, ![1024, 2048]⟩
abbrev S1x1024 : Shape := ⟨2, ![1, 1024]⟩
abbrev S1024x8x256 : Shape := ⟨3, ![1024, 8, 256]⟩
abbrev S8x1024x256 : Shape := ⟨3, ![8, 1024, 256]⟩
abbrev S1x2048 : Shape := ⟨2, ![1, 2048]⟩
abbrev S512x2048 : Shape := ⟨2, ![512, 2048]⟩
abbrev S512x1024 : Shape := ⟨2, ![512, 1024]⟩
abbrev S_ : Shape := ⟨0, ![]⟩
abbrev S512x256 : Shape := ⟨2, ![512, 256]⟩
abbrev S1x1024x256 : Shape := ⟨3, ![1, 1024, 256]⟩
abbrev S1024x256 : Shape := ⟨2, ![1024, 256]⟩
abbrev S2048 : Shape := ⟨1, ![2048]⟩
abbrev S1024 : Shape := ⟨1, ![1024]⟩

abbrev nBuf : Space → Nat
  | .hbm => 17
  | .vmem => 13
  | .smem => 0
  | _ => 0

abbrev bufTy : (tb : Table) → Fin (tcTables nBuf tb) → BufTy
  | .hbm, ⟨0, _⟩ => ⟨S8192x2048, .f32⟩
  | .hbm, ⟨1, _⟩ => ⟨S8192x1024, .f32⟩
  | .hbm, ⟨2, _⟩ => ⟨S8192x4096, .f32⟩
  | .hbm, ⟨3, _⟩ => ⟨S1024x2048, .f32⟩
  | .hbm, ⟨4, _⟩ => ⟨S1x1024, .f32⟩
  | .hbm, ⟨5, _⟩ => ⟨S8192x1024, .f32⟩
  | .hbm, ⟨6, _⟩ => ⟨S8192x1024, .f32⟩
  | .hbm, ⟨7, _⟩ => ⟨S8192x1024, .f32⟩
  | .hbm, ⟨8, _⟩ => ⟨S8192x1024, .f32⟩
  | .hbm, ⟨9, _⟩ => ⟨S8192x2048, .bf16⟩
  | .hbm, ⟨10, _⟩ => ⟨S1024x2048, .bf16⟩
  | .hbm, ⟨11, _⟩ => ⟨S1024x8x256, .bf16⟩
  | .hbm, ⟨12, _⟩ => ⟨S8x1024x256, .bf16⟩
  | .hbm, ⟨13, _⟩ => ⟨S8192x1024, .f32⟩
  | .hbm, ⟨14, _⟩ => ⟨S1x2048, .f32⟩
  | .hbm, ⟨15, _⟩ => ⟨S1x1024, .f32⟩
  | .hbm, ⟨16, _⟩ => ⟨S8x1024x256, .f32⟩
  | .local _ .vmem, ⟨0, _⟩ => ⟨S512x2048, .bf16⟩
  | .local _ .vmem, ⟨1, _⟩ => ⟨S512x2048, .bf16⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S8x1024x256, .bf16⟩
  | .local _ .vmem, ⟨7, _⟩ => ⟨S1x1024, .f32⟩
  | .local _ .vmem, ⟨8, _⟩ => ⟨S512x1024, .f32⟩
  | .local _ .vmem, ⟨9, _⟩ => ⟨S512x1024, .f32⟩
  | .local _ .vmem, ⟨10, _⟩ => ⟨S1x2048, .f32⟩
  | .local _ .vmem, ⟨11, _⟩ => ⟨S1x1024, .f32⟩
  | .local _ .vmem, ⟨12, _⟩ => ⟨S8x1024x256, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8_0 : Ref sig .tc := ⟨.hbm, 13, rfl⟩
abbrev main_v8_1 : Ref sig .tc := ⟨.hbm, 14, rfl⟩
abbrev main_v8_2 : Ref sig .tc := ⟨.hbm, 15, rfl⟩
abbrev main_v8_3 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem7_0 : DmaSem sig := 11

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S8x1024x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== Kernel5Ideal.lean ====
variable {F : FTy → Type} [FloatOps F] [Named F]
def κ : String → Option EReal := fun
  | "gelu_3c" => some ((26829 / 200000 : ℝ) : EReal)
  | "gelu_c" => some ((8943 / 200000 : ℝ) : EReal)
  | _ => none
-- ==== Reference5Ideal.lean ====
abbrev S8192x2048 : Shape := ⟨2, ![8192, 2048]⟩
abbrev S8192x1024 : Shape := ⟨2, ![8192, 1024]⟩
abbrev S8192x4096 : Shape := ⟨2, ![8192, 4096]⟩
abbrev S1024x2048 : Shape := ⟨2, ![1024, 2048]⟩
abbrev S1x1024 : Shape := ⟨2, ![1, 1024]⟩
abbrev S1x2048 : Shape := ⟨2, ![1, 2048]⟩
abbrev S2048 : Shape := ⟨1, ![2048]⟩
abbrev S1024 : Shape := ⟨1, ![1024]⟩

abbrev nBuf : Space → Nat
  | .hbm => 8
  | .vmem => 8
  | .smem => 0
  | _ => 0

abbrev bufTy : (tb : Table) → Fin (tcTables nBuf tb) → BufTy
  | .hbm, ⟨0, _⟩ => ⟨S8192x2048, .f32⟩
  | .hbm, ⟨1, _⟩ => ⟨S8192x1024, .f32⟩
  | .hbm, ⟨2, _⟩ => ⟨S8192x4096, .f32⟩
  | .hbm, ⟨3, _⟩ => ⟨S1024x2048, .f32⟩
  | .hbm, ⟨4, _⟩ => ⟨S1x1024, .f32⟩
  | .hbm, ⟨5, _⟩ => ⟨S8192x1024, .f32⟩
  | .hbm, ⟨6, _⟩ => ⟨S1x2048, .f32⟩
  | .hbm, ⟨7, _⟩ => ⟨S1x1024, .f32⟩
  | .local _ .vmem, ⟨0, _⟩ => ⟨S8192x2048, .f32⟩
  | .local _ .vmem, ⟨1, _⟩ => ⟨S8192x1024, .f32⟩
  | .local _ .vmem, ⟨2, _⟩ => ⟨S8192x4096, .f32⟩
  | .local _ .vmem, ⟨3, _⟩ => ⟨S1024x2048, .f32⟩
  | .local _ .vmem, ⟨4, _⟩ => ⟨S1x1024, .f32⟩
  | .local _ .vmem, ⟨5, _⟩ => ⟨S8192x1024, .f32⟩
  | .local _ .vmem, ⟨6, _⟩ => ⟨S1x2048, .f32⟩
  | .local _ .vmem, ⟨7, _⟩ => ⟨S1x1024, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F] [Named F]

def κ : String → Option EReal := fun
  | "gelu_c" => some ((8943 / 200000 : ℝ) : EReal)
  | _ => none

abbrev grid0 : Pipeline.Grid := .none

abbrev stage0_0 : Fin 1 → Memref sig .tc .vmem S8192x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S8192x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S8192x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1024x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S8192x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
-- ==== Kernel12.lean ====
abbrev S8192x4096 : Shape := ⟨2, ![8192, 4096]⟩
abbrev S256x1024 : Shape := ⟨2, ![256, 1024]⟩
abbrev S64x256x256 : Shape := ⟨3, ![64, 256, 256]⟩
abbrev S2048x2048 : Shape := ⟨2, ![2048, 2048]⟩
abbrev S_ : Shape := ⟨0, ![]⟩
abbrev S2048x16x8x16 : Shape := ⟨4, ![2048, 16, 8, 16]⟩
abbrev S2048x8x16x16 : Shape := ⟨4, ![2048, 8, 16, 16]⟩
abbrev S8x528x2048 : Shape := ⟨3, ![8, 528, 2048]⟩
abbrev S64x528x128 : Shape := ⟨3, ![64, 528, 128]⟩
abbrev S8192x128 : Shape := ⟨2, ![8192, 128]⟩
abbrev S256x128 : Shape := ⟨2, ![256, 128]⟩
abbrev S8x256x256 : Shape := ⟨3, ![8, 256, 256]⟩
abbrev S1x528x2048 : Shape := ⟨3, ![1, 528, 2048]⟩
abbrev S8x528x128 : Shape := ⟨3, ![8, 528, 128]⟩
abbrev S16x128 : Shape := ⟨2, ![16, 128]⟩
abbrev S16x2048 : Shape := ⟨2, ![16, 2048]⟩
abbrev S512x128 : Shape := ⟨2, ![512, 128]⟩
abbrev S512x2048 : Shape := ⟨2, ![512, 2048]⟩
abbrev S528x2048 : Shape := ⟨2, ![528, 2048]⟩
abbrev S528x256 : Shape := ⟨2, ![528, 256]⟩
abbrev S1x256x256 : Shape := ⟨3, ![1, 256, 256]⟩
abbrev S256x256 : Shape := ⟨2, ![256, 256]⟩
abbrev S528x128 : Shape := ⟨2, ![528, 128]⟩
abbrev S1x528x128 : Shape := ⟨3, ![1, 528, 128]⟩

abbrev nBuf : Space → Nat
  | .hbm => 19
  | .vmem => 13
  | .smem => 0
  | _ => 0

abbrev bufTy : (tb : Table) → Fin (tcTables nBuf tb) → BufTy
  | .hbm, ⟨0, _⟩ => ⟨S8192x4096, .f32⟩
  | .hbm, ⟨1, _⟩ => ⟨S256x1024, .f32⟩
  | .hbm, ⟨2, _⟩ => ⟨S64x256x256, .f32⟩
  | .hbm, ⟨3, _⟩ => ⟨S2048x2048, .i32⟩
  | .hbm, ⟨4, _⟩ => ⟨S2048x2048, .i32⟩
  | .hbm, ⟨5, _⟩ => ⟨S2048x2048, .i1⟩
  | .hbm, ⟨6, _⟩ => ⟨S_, .f32⟩
  | .hbm, ⟨7, _⟩ => ⟨S2048x2048, .f32⟩
  | .hbm, ⟨8, _⟩ => ⟨S_, .f32⟩
  | .hbm, ⟨9, _⟩ => ⟨S2048x2048, .f32⟩
  | .hbm, ⟨10, _⟩ => ⟨S2048x2048, .f32⟩
  | .hbm, ⟨11, _⟩ => ⟨S2048x16x8x16, .f32⟩
  | .hbm, ⟨12, _⟩ => ⟨S2048x8x16x16, .f32⟩
  | .hbm, ⟨13, _⟩ => ⟨S2048x2048, .f32⟩
  | .hbm, ⟨14, _⟩ => ⟨S2048x2048, .bf16⟩
  | .hbm, ⟨15, _⟩ => ⟨S64x256x256, .bf16⟩
  | .hbm, ⟨16, _⟩ => ⟨S8x528x2048, .bf16⟩
  | .hbm, ⟨17, _⟩ => ⟨S64x528x128, .f32⟩
  | .hbm, ⟨18, _⟩ => ⟨S64x528x128, .f32⟩
  | .local _ .vmem, ⟨0, _⟩ => ⟨S8192x128, .f32⟩
  | .local _ .vmem, ⟨1, _⟩ => ⟨S8192x128, .f32⟩
  | .local _ .vmem, ⟨2, _⟩ => ⟨S256x128, .f32⟩
  | .local _ .vmem, ⟨3, _⟩ => ⟨S256x128, .f32⟩
  | .local _ .vmem, ⟨4, _⟩ => ⟨S2048x2048, .bf16⟩
  | .local _ .vmem, ⟨5, _⟩ => ⟨S8x256x256, .bf16⟩
  | .local _ .vmem, ⟨6, _⟩ => ⟨S8x256x256, .bf16⟩
  | .local _ .vmem, ⟨7, _⟩ => ⟨S1x528x2048, .bf16⟩
  | .local _ .vmem, ⟨8, _⟩ => ⟨S1x528x2048, .bf16⟩
  | .local _ .vmem, ⟨9, _⟩ => ⟨S8x528x128, .f32⟩
  | .local _ .vmem, ⟨10, _⟩ => ⟨S8x528x128, .f32⟩
  | .local _ .vmem, ⟨11, _⟩ => ⟨S8x528x128, .f32⟩
  | .local _ .vmem, ⟨12, _⟩ => ⟨S8x528x128, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11_0 : Ref sig .tc := ⟨.hbm, 16, rfl⟩
abbrev main_v11_1 : Ref sig .tc := ⟨.hbm, 17, rfl⟩
abbrev main_v11_2 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c8_i32 : BitVec 32 := 8#32
  let v0 : BitVec 32 := Scalar.addi c8_i32 arg0
  let c0_i32 : BitVec 32 := 0#32
  let c0_i32_0 : BitVec 32 := 0#32
  ![c0_i32.toNat, v0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S8192x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S2048x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S8x256x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x528x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S8x528x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S8x528x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference12Ideal.lean ====
abbrev S8192x4096 : Shape := ⟨2, ![8192, 4096]⟩
abbrev S256x1024 : Shape := ⟨2, ![256, 1024]⟩
abbrev S64x256x256 : Shape := ⟨3, ![64, 256, 256]⟩
abbrev S8192x1024 : Shape := ⟨2, ![8192, 1024]⟩
abbrev S8448x1024 : Shape := ⟨2, ![8448, 1024]⟩
abbrev S528x16x64x16 : Shape := ⟨4, ![528, 16, 64, 16]⟩
abbrev S64x528x16x16 : Shape := ⟨4, ![64, 528, 16, 16]⟩
abbrev S64x528x256 : Shape := ⟨3, ![64, 528, 256]⟩
abbrev S8x8x528x256 : Shape := ⟨4, ![8, 8, 528, 256]⟩
abbrev S8x528x8x256 : Shape := ⟨4, ![8, 528, 8, 256]⟩
abbrev S8x528x2048 : Shape := ⟨3, ![8, 528, 2048]⟩
abbrev S64x528x128 : Shape := ⟨3, ![64, 528, 128]⟩

abbrev nBuf : Space → Nat
  | .hbm => 15
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S256x1024, .f32⟩
  | .hbm, ⟨2, _⟩ => ⟨S64x256x256, .f32⟩
  | .hbm, ⟨3, _⟩ => ⟨S8192x1024, .f32⟩
  | .hbm, ⟨4, _⟩ => ⟨S8448x1024, .f32⟩
  | .hbm, ⟨5, _⟩ => ⟨S528x16x64x16, .f32⟩
  | .hbm, ⟨6, _⟩ => ⟨S64x528x16x16, .f32⟩
  | .hbm, ⟨7, _⟩ => ⟨S64x528x256, .f32⟩
  | .hbm, ⟨8, _⟩ => ⟨S64x528x256, .f32⟩
  | .hbm, ⟨9, _⟩ => ⟨S8x8x528x256, .f32⟩
  | .hbm, ⟨10, _⟩ => ⟨S8x528x8x256, .f32⟩
  | .hbm, ⟨11, _⟩ => ⟨S8x528x2048, .f32⟩
  | .hbm, ⟨12, _⟩ => ⟨S8x528x2048, .bf16⟩
  | .hbm, ⟨13, _⟩ => ⟨S64x528x128, .f32⟩
  | .hbm, ⟨14, _⟩ => ⟨S64x528x128, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩

abbrev nD : Nat := 1
abbrev τ : Topo := Topo.v7x

variable {F : FTy → Type} [FloatOps F]
-- ==== Kernel13.lean ====
abbrev S8192x1024 : Shape := ⟨2, ![8192, 1024]⟩
abbrev S64x528x128 : Shape := ⟨3, ![64, 528, 128]⟩
abbrev S64x256x256 : Shape := ⟨3, ![64, 256, 256]⟩
abbrev S_ : Shape := ⟨0, ![]⟩
abbrev S8x16x2048 : Shape := ⟨3, ![8, 16, 2048]⟩
abbrev S512x16x8x8x16 : Shape := ⟨5, ![512, 16, 8, 8, 16]⟩
abbrev S8x512x8x16x16 : Shape := ⟨5, ![8, 512, 8, 16, 16]⟩
abbrev S8x512x2048 : Shape := ⟨3, ![8, 512, 2048]⟩
abbrev S8x528x2048 : Shape := ⟨3, ![8, 528, 2048]⟩
abbrev S4x2x8x528x2x64 : Shape := ⟨6, ![4, 2, 8, 528, 2, 64]⟩
abbrev S4x2x8x528x1x64 : Shape := ⟨6, ![4, 2, 8, 528, 1, 64]⟩
abbrev S4x2x8x528x64 : Shape := ⟨5, ![4, 2, 8, 528, 64]⟩
abbrev S4x8x528x2x64 : Shape := ⟨5, ![4, 8, 528, 2, 64]⟩
abbrev S32x528x128 : Shape := ⟨3, ![32, 528, 128]⟩
abbrev S2048x2048 : Shape := ⟨2, ![2048, 2048]⟩
abbrev S2048x16x8x16 : Shape := ⟨4, ![2048, 16, 8, 16]⟩
abbrev S2048x8x16x16 : Shape := ⟨4, ![2048, 8, 16, 16]⟩
abbrev S1x528x2048 : Shape := ⟨3, ![1, 528, 2048]⟩
abbrev S8x528x128 : Shape := ⟨3, ![8, 528, 128]⟩
abbrev S8x256x256 : Shape := ⟨3, ![8, 256, 256]⟩
abbrev S8192x128 : Shape := ⟨2, ![8192, 128]⟩
abbrev S1x512x256 : Shape := ⟨3, ![1, 512, 256]⟩
abbrev S512x256 : Shape := ⟨2, ![512, 256]⟩
abbrev S1x512x128 : Shape := ⟨3, ![1, 512, 128]⟩
abbrev S512x128 : Shape := ⟨2, ![512, 128]⟩
abbrev S512x512 : Shape := ⟨2, ![512, 512]⟩
abbrev S1x256x256 : Shape := ⟨3, ![1, 256, 256]⟩
abbrev S256x256 : Shape := ⟨2, ![256, 256]⟩
abbrev S64x256 : Shape := ⟨2, ![64, 256]⟩
abbrev S512x2048 : Shape := ⟨2, ![512, 2048]⟩

abbrev nBuf : Space → Nat
  | .hbm => 47
  | .vmem => 17
  | .smem => 0
  | _ => 0

abbrev bufTy : (tb : Table) → Fin (tcTables nBuf tb) → BufTy
  | .hbm, ⟨0, _⟩ => ⟨S8192x1024, .f32⟩
  | .hbm, ⟨1, _⟩ => ⟨S64x528x128, .f32⟩
  | .hbm, ⟨2, _⟩ => ⟨S64x528x128, .f32⟩
  | .hbm, ⟨3, _⟩ => ⟨S64x256x256, .f32⟩
  | .hbm, ⟨4, _⟩ => ⟨S64x256x256, .f32⟩
  | .hbm, ⟨5, _⟩ => ⟨S_, .f32⟩
  | .hbm, ⟨6, _⟩ => ⟨S8x16x2048, .f32⟩
  | .hbm, ⟨7, _⟩ => ⟨S512x16x8x8x16, .f32⟩
  | .hbm, ⟨8, _⟩ => ⟨S8x512x8x16x16, .f32⟩
  | .hbm, ⟨9, _⟩ => ⟨S8x512x2048, .f32⟩
  | .hbm, ⟨10, _⟩ => ⟨S8x528x2048, .f32⟩
  | .hbm, ⟨11, _⟩ => ⟨S8x528x2048, .bf16⟩
  | .hbm, ⟨12, _⟩ => ⟨S4x2x8x528x2x64, .f32⟩
  | .hbm, ⟨13, _⟩ => ⟨S4x2x8x528x1x64, .f32⟩
  | .hbm, ⟨14, _⟩ => ⟨S4x2x8x528x64, .f32⟩
  | .hbm, ⟨15, _⟩ => ⟨S4x8x528x2x64, .f32⟩
  | .hbm, ⟨16, _⟩ => ⟨S32x528x128, .f32⟩
  | .hbm, ⟨17, _⟩ => ⟨S4x2x8x528x2x64, .f32⟩
  | .hbm, ⟨18, _⟩ => ⟨S4x2x8x528x1x64, .f32⟩
  | .hbm, ⟨19, _⟩ => ⟨S4x2x8x528x64, .f32⟩
  | .hbm, ⟨20, _⟩ => ⟨S4x8x528x2x64, .f32⟩
  | .hbm, ⟨21, _⟩ => ⟨S32x528x128, .f32⟩
  | .hbm, ⟨22, _⟩ => ⟨S4x2x8x528x2x64, .f32⟩
  | .hbm, ⟨23, _⟩ => ⟨S4x2x8x528x1x64, .f32⟩
  | .hbm, ⟨24, _⟩ => ⟨S4x2x8x528x64, .f32⟩
  | .hbm, ⟨25, _⟩ => ⟨S4x8x528x2x64, .f32⟩
  | .hbm, ⟨26, _⟩ => ⟨S32x528x128, .f32⟩
  | .hbm, ⟨27, _⟩ => ⟨S4x2x8x528x2x64, .f32⟩
  | .hbm, ⟨28, _⟩ => ⟨S4x2x8x528x1x64, .f32⟩
  | .hbm, ⟨29, _⟩ => ⟨S4x2x8x528x64, .f32⟩
  | .hbm, ⟨30, _⟩ => ⟨S4x8x528x2x64, .f32⟩
  | .hbm, ⟨31, _⟩ => ⟨S32x528x128, .f32⟩
  | .hbm, ⟨32, _⟩ => ⟨S64x256x256, .bf16⟩
  | .hbm, ⟨33, _⟩ => ⟨S64x256x256, .bf16⟩
  | .hbm, ⟨34, _⟩ => ⟨S2048x2048, .i32⟩
  | .hbm, ⟨35, _⟩ => ⟨S2048x2048, .i32⟩
  | .hbm, ⟨36, _⟩ => ⟨S2048x2048, .i1⟩
  | .hbm, ⟨37, _⟩ => ⟨S_, .f32⟩
  | .hbm, ⟨38, _⟩ => ⟨S2048x2048, .f32⟩
  | .hbm, ⟨39, _⟩ => ⟨S_, .f32⟩
  | .hbm, ⟨40, _⟩ => ⟨S2048x2048, .f32⟩
  | .hbm, ⟨41, _⟩ => ⟨S2048x2048, .f32⟩
  | .hbm, ⟨42, _⟩ => ⟨S2048x16x8x16, .f32⟩
  | .hbm, ⟨43, _⟩ => ⟨S2048x8x16x16, .f32⟩
  | .hbm, ⟨44, _⟩ => ⟨S2048x2048, .f32⟩
  | .hbm, ⟨45, _⟩ => ⟨S2048x2048, .bf16⟩
  | .hbm, ⟨46, _⟩ => ⟨S8192x1024, .f32⟩
  | .local _ .vmem, ⟨0, _⟩ => ⟨S1x528x2048, .bf16⟩
  | .local _ .vmem, ⟨1, _⟩ => ⟨S1x528x2048, .bf16⟩
  | .local _ .vmem, ⟨2, _⟩ => ⟨S8x528x128, .f32⟩
  | .local _ .vmem, ⟨3, _⟩ => ⟨S8x528x128, .f32⟩
  | .local _ .vmem, ⟨4, _⟩ => ⟨S8x528x128, .f32⟩
  | .local _ .vmem, ⟨5, _⟩ => ⟨S8x528x128, .f32⟩
  | .local _ .vmem, ⟨6, _⟩ => ⟨S8x528x128, .f32⟩
  | .local _ .vmem, ⟨7, _⟩ => ⟨S8x528x128, .f32⟩
  | .local _ .vmem, ⟨8, _⟩ => ⟨S8x528x128, .f32⟩
  | .local _ .vmem, ⟨9, _⟩ => ⟨S8x528x128, .f32⟩
  | .local _ .vmem, ⟨10, _⟩ => ⟨S8x256x256, .bf16⟩
  | .local _ .vmem, ⟨11, _⟩ => ⟨S8x256x256, .bf16⟩
  | .local _ .vmem, ⟨12, _⟩ => ⟨S8x256x256, .bf16⟩
  | .local _ .vmem, ⟨13, _⟩ => ⟨S8x256x256, .bf16⟩
  | .local _ .vmem, ⟨14, _⟩ => ⟨S2048x2048, .bf16⟩
  | .local _ .vmem, ⟨15, _⟩ => ⟨S8192x128, .f32⟩
  | .local _ .vmem, ⟨16, _⟩ => ⟨S8192x128, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_cst_0 : Ref sig .tc := ⟨.hbm, 37, rfl⟩
abbrev main_v31 : Ref sig .tc := ⟨.hbm, 38, rfl⟩
abbrev main_cst_1 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg8_1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem8_1 : DmaSem sig := 16

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_2 (i : grid0.Coords) : Fin 3 → Nat :=
  let arg0 : BitVec 32 := BitVec.ofNat 32 (i 0).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_3 (i : grid0.Coords) : Fin 3 → Nat :=
  let arg0 : BitVec 32 := BitVec.ofNat 32 (i 0).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_4 (i : grid0.Coords) : Fin 3 → Nat :=
  let arg0 : BitVec 32 := BitVec.ofNat 32 (i 0).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S1x528x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x528x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x528x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x528x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S8x528x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S8x256x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S8x256x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S2048x2048 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S8192x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference13Ideal.lean ====
abbrev S8192x1024 : Shape := ⟨2, ![8192, 1024]⟩
abbrev S64x528x128 : Shape := ⟨3, ![64, 528, 128]⟩
abbrev S64x256x256 : Shape := ⟨3, ![64, 256, 256]⟩
abbrev S512x16x64x16 : Shape := ⟨4, ![512, 16, 64, 16]⟩
abbrev S64x512x16x16 : Shape := ⟨4, ![64, 512, 16, 16]⟩
abbrev S64x512x256 : Shape := ⟨3, ![64, 512, 256]⟩
abbrev S64x528x256 : Shape := ⟨3, ![64, 528, 256]⟩

abbrev nBuf : Space → Nat
  | .hbm => 16
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S64x528x128, .f32⟩
  | .hbm, ⟨2, _⟩ => ⟨S64x528x128, .f32⟩
  | .hbm, ⟨3, _⟩ => ⟨S64x256x256, .f32⟩
  | .hbm, ⟨4, _⟩ => ⟨S64x256x256, .f32⟩
  | .hbm, ⟨5, _⟩ => ⟨S512x16x64x16, .f32⟩
  | .hbm, ⟨6, _⟩ => ⟨S64x512x16x16, .f32⟩
  | .hbm, ⟨7, _⟩ => ⟨S64x512x256, .f32⟩
  | .hbm, ⟨8, _⟩ => ⟨S64x528x256, .f32⟩
  | .hbm, ⟨9, _⟩ => ⟨S64x512x256, .f32⟩
  | .hbm, ⟨10, _⟩ => ⟨S64x512x256, .f32⟩
  | .hbm, ⟨11, _⟩ => ⟨S64x512x256, .f32⟩
  | .hbm, ⟨12, _⟩ => ⟨S64x512x256, .f32⟩
  | .hbm, ⟨13, _⟩ => ⟨S64x512x16x16, .f32⟩
  | .hbm, ⟨14, _⟩ => ⟨S512x16x64x16, .f32⟩
  | .hbm, ⟨15, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩

abbrev nD : Nat := 1
abbrev τ : Topo := Topo.v7x

variable {F : FTy → Type} [FloatOps F]
-- ==== Kernel4.lean ====
abbrev S8192x2048 : Shape := ⟨2, ![8192, 2048]⟩
abbrev S1x2048 : Shape := ⟨2, ![1, 2048]⟩
abbrev S8192x1024 : Shape := ⟨2, ![8192, 1024]⟩
abbrev S8192x4096 : Shape := ⟨2, ![8192, 4096]⟩
abbrev S1x1024 : Shape := ⟨2, ![1, 1024]⟩
abbrev S2048x2048 : Shape := ⟨2, ![2048, 2048]⟩
abbrev S_ : Shape := ⟨0, ![]⟩
abbrev S256x2048 : Shape := ⟨2, ![256, 2048]⟩
abbrev S256x1024 : Shape := ⟨2, ![256, 1024]⟩
abbrev S1024 : Shape := ⟨1, ![1024]⟩

abbrev nBuf : Space → Nat
  | .hbm => 43
  | .vmem => 21
  | .smem => 0
  | _ => 0

abbrev bufTy : (tb : Table) → Fin (tcTables nBuf tb) → BufTy
  | .hbm, ⟨0, _⟩ => ⟨S8192x2048, .f32⟩
  | .hbm, ⟨1, _⟩ => ⟨S1x2048, .f32⟩
  | .hbm, ⟨2, _⟩ => ⟨S8192x1024, .f32⟩
  | .hbm, ⟨3, _⟩ => ⟨S8192x2048, .f32⟩
  | .hbm, ⟨4, _⟩ => ⟨S8192x4096, .f32⟩
  | .hbm, ⟨5, _⟩ => ⟨S1x1024, .f32⟩
  | .hbm, ⟨6, _⟩ => ⟨S2048x2048, .f32⟩
  | .hbm, ⟨7, _⟩ => ⟨S8192x1024, .f32⟩
  | .hbm, ⟨8, _⟩ => ⟨S8192x1024, .f32⟩
  | .hbm, ⟨9, _⟩ => ⟨S8192x2048, .f32⟩
  | .hbm, ⟨10, _⟩ => ⟨S8192x1024, .f32⟩
  | .hbm, ⟨11, _⟩ => ⟨S8192x1024, .f32⟩
  | .hbm, ⟨12, _⟩ => ⟨S_, .f32⟩
  | .hbm, ⟨13, _⟩ => ⟨S8192x1024, .f32⟩
  | .hbm, ⟨14, _⟩ => ⟨S8192x1024, .f32⟩
  | .hbm, ⟨15, _⟩ => ⟨S8192x1024, .f32⟩
  | .hbm, ⟨16, _⟩ => ⟨S_, .f32⟩
  | .hbm, ⟨17, _⟩ => ⟨S8192x1024, .f32⟩
  | .hbm, ⟨18, _⟩ => ⟨S8192x1024, .f32⟩
  | .hbm, ⟨19, _⟩ => ⟨S_, .f32⟩
  | .hbm, ⟨20, _⟩ => ⟨S8192x1024, .f32⟩
  | .hbm, ⟨21, _⟩ => ⟨S8192x1024, .f32⟩
  | .hbm, ⟨22, _⟩ => ⟨S8192x1024, .f32⟩
  | .hbm, ⟨23, _⟩ => ⟨S8192x2048, .f32⟩
  | .hbm, ⟨24, _⟩ => ⟨S_, .f32⟩
  | .hbm, ⟨25, _⟩ => ⟨S8192x2048, .f32⟩
  | .hbm, ⟨26, _⟩ => ⟨S8192x2048, .f32⟩
  | .hbm, ⟨27, _⟩ => ⟨S8192x2048, .f32⟩
  | .hbm, ⟨28, _⟩ => ⟨S_, .f32⟩
  | .hbm, ⟨29, _⟩ => ⟨S8192x2048, .f32⟩
  | .hbm, ⟨30, _⟩ => ⟨S8192x2048, .f32⟩
  | .hbm, ⟨31, _⟩ => ⟨S_, .f32⟩
  | .hbm, ⟨32, _⟩ => ⟨S8192x2048, .f32⟩
  | .hbm, ⟨33, _⟩ => ⟨S8192x2048, .f32⟩
  | .hbm, ⟨34, _⟩ => ⟨S8192x2048, .f32⟩
  | .hbm, ⟨35, _⟩ => ⟨S8192x2048, .f32⟩
  | .hbm, ⟨36, _⟩ => ⟨S8192x2048, .bf16⟩
  | .hbm, ⟨37, _⟩ => ⟨S2048x2048, .bf16⟩
  | .hbm, ⟨38, _⟩ => ⟨S8192x2048, .f32⟩
  | .hbm, ⟨39, _⟩ => ⟨S8192x1024, .f32⟩
  | .hbm, ⟨40, _⟩ => ⟨S8192x2048, .bf16⟩
  | .hbm, ⟨41, _⟩ => ⟨S1x1024, .f32⟩
  | .hbm, ⟨42, _⟩ => ⟨S2048x2048, .f32⟩
  | .local _ .vmem, ⟨0, _⟩ => ⟨S256x2048, .f32⟩
  | .local _ .vmem, ⟨1, _⟩ => ⟨S256x2048, .f32⟩
  | .local _ .vmem, ⟨2, _⟩ => ⟨S1x2048, .f32⟩
  | .local _ .vmem, ⟨3, _⟩ => ⟨S256x2048, .bf16⟩
  | .local _ .vmem, ⟨4, _⟩ => ⟨S256x2048, .bf16⟩
  | .local _ .vmem, ⟨5, _⟩ => ⟨S2048x2048, .bf16⟩
  | .local _ .vmem, ⟨6, _⟩ => ⟨S256x1024, .f32⟩
  | .local _ .vmem, ⟨7, _⟩ => ⟨S256x1024, .f32⟩
  | .local _ .vmem, ⟨8, _⟩ => ⟨S256x2048, .f32⟩
  | .local _ .vmem, ⟨9, _⟩ => ⟨S256x2048, .f32⟩
  | .local _ .vmem, ⟨10, _⟩ => ⟨S256x2048, .f32⟩
  | .local _ .vmem, ⟨11, _⟩ => ⟨S256x2048, .f32⟩
  | .local _ .vmem, ⟨12, _⟩ => ⟨S1x1024, .f32⟩
  | .local _ .vmem, ⟨13, _⟩ => ⟨S256x2048, .f32⟩
  | .local _ .vmem, ⟨14, _⟩ => ⟨S256x2048, .f32⟩
  | .local _ .vmem, ⟨15, _⟩ => ⟨S256x1024, .f32⟩
  | .local _ .vmem, ⟨16, _⟩ => ⟨S256x1024, .f32⟩
  | .local _ .vmem, ⟨17, _⟩ => ⟨S256x2048, .bf16⟩
  | .local _ .vmem, ⟨18, _⟩ => ⟨S256x2048, .bf16⟩
  | .local _ .vmem, ⟨19, _⟩ => ⟨S1x1024, .f32⟩
  | .local _ .vmem, ⟨20, _⟩ => ⟨S2048x2048, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst_0 : Ref sig .tc := ⟨.hbm, 16, rfl⟩
abbrev main_v8 : Ref sig .tc := ⟨.hbm, 17, rfl⟩
abbrev main_v9 : Ref sig .tc := ⟨.hbm, 18, rfl⟩
abbrev main_cst_1 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_2 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_3 : Ref sig .tc := ⟨.hbm, 28, rfl⟩
abbrev main_v17 : Ref sig .tc := ⟨.hbm, 29, rfl⟩
abbrev main_v18 : Ref sig .tc := ⟨.hbm, 30, rfl⟩
abbrev main_cst_4 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25_0 : Ref sig .tc := ⟨.hbm, 38, rfl⟩
abbrev main_v25_1 : Ref sig .tc := ⟨.hbm, 39, rfl⟩
abbrev main_v25_2 : Ref sig .tc := ⟨.hbm, 40, rfl⟩
abbrev main_v25_3 : Ref sig .tc := ⟨.hbm, 41, rfl⟩
abbrev main_v25_4 : Ref sig .tc := ⟨.hbm, 42, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_scratch0 : Ref sig .tc := ⟨.vmem, 20, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18
abbrev cc0_sem11_0 : DmaSem sig := 19

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S2048x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S256x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x2048 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]
-- ==== Reference4Ideal.lean ====
abbrev S8192x2048 : Shape := ⟨2, ![8192, 2048]⟩
abbrev S1x2048 : Shape := ⟨2, ![1, 2048]⟩
abbrev S8192x1024 : Shape := ⟨2, ![8192, 1024]⟩
abbrev S8192x4096 : Shape := ⟨2, ![8192, 4096]⟩
abbrev S1x1024 : Shape := ⟨2, ![1, 1024]⟩
abbrev S2048x2048 : Shape := ⟨2, ![2048, 2048]⟩
abbrev S_ : Shape := ⟨0, ![]⟩
abbrev S1024 : Shape := ⟨1, ![1024]⟩

abbrev nBuf : Space → Nat
  | .hbm => 67
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S1x2048, .f32⟩
  | .hbm, ⟨2, _⟩ => ⟨S8192x1024, .f32⟩
  | .hbm, ⟨3, _⟩ => ⟨S8192x2048, .f32⟩
  | .hbm, ⟨4, _⟩ => ⟨S8192x4096, .f32⟩
  | .hbm, ⟨5, _⟩ => ⟨S1x1024, .f32⟩
  | .hbm, ⟨6, _⟩ => ⟨S2048x2048, .f32⟩
  | .hbm, ⟨7, _⟩ => ⟨S8192x2048, .f32⟩
  | .hbm, ⟨8, _⟩ => ⟨S8192x1024, .f32⟩
  | .hbm, ⟨9, _⟩ => ⟨S8192x1024, .f32⟩
  | .hbm, ⟨10, _⟩ => ⟨S8192x1024, .f32⟩
  | .hbm, ⟨11, _⟩ => ⟨S8192x1024, .f32⟩
  | .hbm, ⟨12, _⟩ => ⟨S_, .f32⟩
  | .hbm, ⟨13, _⟩ => ⟨S8192x1024, .f32⟩
  | .hbm, ⟨14, _⟩ => ⟨S8192x1024, .f32⟩
  | .hbm, ⟨15, _⟩ => ⟨S_, .f32⟩
  | .hbm, ⟨16, _⟩ => ⟨S8192x1024, .f32⟩
  | .hbm, ⟨17, _⟩ => ⟨S8192x1024, .f32⟩
  | .hbm, ⟨18, _⟩ => ⟨S_, .f32⟩
  | .hbm, ⟨19, _⟩ => ⟨S8192x1024, .f32⟩
  | .hbm, ⟨20, _⟩ => ⟨S8192x1024, .f32⟩
  | .hbm, ⟨21, _⟩ => ⟨S8192x1024, .f32⟩
  | .hbm, ⟨22, _⟩ => ⟨S8192x1024, .f32⟩
  | .hbm, ⟨23, _⟩ => ⟨S8192x1024, .f32⟩
  | .hbm, ⟨24, _⟩ => ⟨S8192x1024, .f32⟩
  | .hbm, ⟨25, _⟩ => ⟨S8192x2048, .f32⟩
  | .hbm, ⟨26, _⟩ => ⟨S8192x2048, .f32⟩
  | .hbm, ⟨27, _⟩ => ⟨S8192x2048, .f32⟩
  | .hbm, ⟨28, _⟩ => ⟨S_, .f32⟩
  | .hbm, ⟨29, _⟩ => ⟨S8192x2048, .f32⟩
  | .hbm, ⟨30, _⟩ => ⟨S8192x2048, .f32⟩
  | .hbm, ⟨31, _⟩ => ⟨S_, .f32⟩
  | .hbm, ⟨32, _⟩ => ⟨S8192x2048, .f32⟩
  | .hbm, ⟨33, _⟩ => ⟨S8192x2048, .f32⟩
  | .hbm, ⟨34, _⟩ => ⟨S_, .f32⟩
  | .hbm, ⟨35, _⟩ => ⟨S8192x2048, .f32⟩
  | .hbm, ⟨36, _⟩ => ⟨S8192x2048, .f32⟩
  | .hbm, ⟨37, _⟩ => ⟨S8192x2048, .f32⟩
  | .hbm, ⟨38, _⟩ => ⟨S8192x2048, .f32⟩
  | .hbm, ⟨39, _⟩ => ⟨S8192x2048, .f32⟩
  | .hbm, ⟨40, _⟩ => ⟨S8192x2048, .f32⟩
  | .hbm, ⟨41, _⟩ => ⟨S8192x2048, .f32⟩
  | .hbm, ⟨42, _⟩ => ⟨S8192x2048, .f32⟩
  | .hbm, ⟨43, _⟩ => ⟨S8192x2048, .f32⟩
  | .hbm, ⟨44, _⟩ => ⟨S8192x2048, .f32⟩
  | .hbm, ⟨45, _⟩ => ⟨S2048x2048, .f32⟩
  | .hbm, ⟨46, _⟩ => ⟨S2048x2048, .f32⟩
  | .hbm, ⟨47, _⟩ => ⟨S8192x2048, .f32⟩
  | .hbm, ⟨48, _⟩ => ⟨S8192x2048, .f32⟩
  | .hbm, ⟨49, _⟩ => ⟨S8192x2048, .f32⟩
  | .hbm, ⟨50, _⟩ => ⟨S8192x2048, .f32⟩
  | .hbm, ⟨51, _⟩ => ⟨S8192x2048, .f32⟩
  | .hbm, ⟨52, _⟩ => ⟨S8192x2048, .f32⟩
  | .hbm, ⟨53, _⟩ => ⟨S8192x2048, .f32⟩
  | .hbm, ⟨54, _⟩ => ⟨S8192x1024, .f32⟩
  | .hbm, ⟨55, _⟩ => ⟨S8192x1024, .f32⟩
  | .hbm, ⟨56, _⟩ => ⟨S8192x1024, .f32⟩
  | .hbm, ⟨57, _⟩ => ⟨S_, .f32⟩
  | .hbm, ⟨58, _⟩ => ⟨S1024, .f32⟩
  | .hbm, ⟨59, _⟩ => ⟨S1x1024, .f32⟩
  | .hbm, ⟨60, _⟩ => ⟨S8192x1024, .f32⟩
  | .hbm, ⟨61, _⟩ => ⟨S8192x1024, .f32⟩
  | .hbm, ⟨62, _⟩ => ⟨S8192x1024, .f32⟩
  | .hbm, ⟨63, _⟩ => ⟨S8192x1024, .f32⟩
  | .hbm, ⟨64, _⟩ => ⟨S8192x1024, .f32⟩
  | .hbm, ⟨65, _⟩ => ⟨S8192x2048, .f32⟩
  | .hbm, ⟨66, _⟩ => ⟨S8192x2048, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst : Ref sig .tc := ⟨.hbm, 12, rfl⟩
abbrev main_v5 : Ref sig .tc := ⟨.hbm, 13, rfl⟩
abbrev main_v6 : Ref sig .tc := ⟨.hbm, 14, rfl⟩
abbrev main_cst_0 : Ref sig .tc := ⟨.hbm, 15, rfl⟩
abbrev main_v7 : Ref sig .tc := ⟨.hbm, 16, rfl⟩
abbrev main_v8 : Ref sig .tc := ⟨.hbm, 17, rfl⟩
abbrev main_cst_1 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_call0_v0 : Ref sig .tc := ⟨.hbm, 26, rfl⟩
abbrev main_call0_v1 : Ref sig .tc := ⟨.hbm, 27, rfl⟩
abbrev main_call0_cst : Ref sig .tc := ⟨.hbm, 28, rfl⟩
abbrev main_call0_v2 : Ref sig .tc := ⟨.hbm, 29, rfl⟩
abbrev main_call0_v3 : Ref sig .tc := ⟨.hbm, 30, rfl⟩
abbrev main_call0_cst_0 : Ref sig .tc := ⟨.hbm, 31, rfl⟩
abbrev main_call0_v4 : Ref sig .tc := ⟨.hbm, 32, rfl⟩
abbrev main_v16_2 : Ref sig .tc := ⟨.hbm, 33, rfl⟩
abbrev main_call0_cst_1 : Ref sig .tc := ⟨.hbm, 34, rfl⟩
abbrev main_call0_v6 : Ref sig .tc := ⟨.hbm, 35, rfl⟩
abbrev main_call0_v7 : Ref sig .tc := ⟨.hbm, 36, rfl⟩
abbrev main_v16_1 : Ref sig .tc := ⟨.hbm, 37, rfl⟩
abbrev main_v16_0 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_call1_v0 : Ref sig .tc := ⟨.hbm, 50, rfl⟩
abbrev main_call1_v1 : Ref sig .tc := ⟨.hbm, 51, rfl⟩
abbrev main_call1_v2 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_cst_2 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩

abbrev nD : Nat := 1
abbrev τ : Topo := Topo.v7x

variable {F : FTy → Type} [FloatOps F]
-- ==== Kernel6.lean ====
abbrev S8192x1024 : Shape := ⟨2, ![8192, 1024]⟩
abbrev S8192x4096 : Shape := ⟨2, ![8192, 4096]⟩
abbrev S8192x2048 : Shape := ⟨2, ![8192, 2048]⟩
abbrev S1024x2048 : Shape := ⟨2, ![1024, 2048]⟩
abbrev S2048x2048 : Shape := ⟨2, ![2048, 2048]⟩
abbrev S1x1024 : Shape := ⟨2, ![1, 1024]⟩
abbrev S1x2048 : Shape := ⟨2, ![1, 2048]⟩
abbrev S1024x8x256 : Shape := ⟨3, ![1024, 8, 256]⟩
abbrev S8x1024x256 : Shape := ⟨3, ![8, 1024, 256]⟩
abbrev S1x1 : Shape := ⟨2, ![1, 1]⟩
abbrev S256x1024 : Shape := ⟨2, ![256, 1024]⟩
abbrev S256x2048 : Shape := ⟨2, ![256, 2048]⟩
abbrev S256 : Shape := ⟨1, ![256]⟩
abbrev S256x1 : Shape := ⟨2, ![256, 1]⟩
abbrev S1 : Shape := ⟨1, ![1]⟩
abbrev S2048 : Shape := ⟨1, ![2048]⟩
abbrev S1x1024x256 : Shape := ⟨3, ![1, 1024, 256]⟩
abbrev S1024x256 : Shape := ⟨2, ![1024, 256]⟩
abbrev S256x256 : Shape := ⟨2, ![256, 256]⟩
abbrev S1x256 : Shape := ⟨2, ![1, 256]⟩

abbrev nBuf : Space → Nat
  | .hbm => 23
  | .vmem => 31
  | .smem => 0
  | _ => 0

abbrev bufTy : (tb : Table) → Fin (tcTables nBuf tb) → BufTy
  | .hbm, ⟨0, _⟩ => ⟨S8192x1024, .f32⟩
  | .hbm, ⟨1, _⟩ => ⟨S8192x4096, .f32⟩
  | .hbm, ⟨2, _⟩ => ⟨S8192x1024, .f32⟩
  | .hbm, ⟨3, _⟩ => ⟨S8192x2048, .f32⟩
  | .hbm, ⟨4, _⟩ => ⟨S8192x2048, .f32⟩
  | .hbm, ⟨5, _⟩ => ⟨S1024x2048, .f32⟩
  | .hbm, ⟨6, _⟩ => ⟨S2048x2048, .f32⟩
  | .hbm, ⟨7, _⟩ => ⟨S1x1024, .f32⟩
  | .hbm, ⟨8, _⟩ => ⟨S1x2048, .f32⟩
  | .hbm, ⟨9, _⟩ => ⟨S1x1024, .f32⟩
  | .hbm, ⟨10, _⟩ => ⟨S1x2048, .f32⟩
  | .hbm, ⟨11, _⟩ => ⟨S1x2048, .f32⟩
  | .hbm, ⟨12, _⟩ => ⟨S1024x2048, .bf16⟩
  | .hbm, ⟨13, _⟩ => ⟨S1024x8x256, .bf16⟩
  | .hbm, ⟨14, _⟩ => ⟨S8x1024x256, .bf16⟩
  | .hbm, ⟨15, _⟩ => ⟨S2048x2048, .bf16⟩
  | .hbm, ⟨16, _⟩ => ⟨S8192x1024, .f32⟩
  | .hbm, ⟨17, _⟩ => ⟨S8192x2048, .f32⟩
  | .hbm, ⟨18, _⟩ => ⟨S8192x2048, .bf16⟩
  | .hbm, ⟨19, _⟩ => ⟨S8192x2048, .f32⟩
  | .hbm, ⟨20, _⟩ => ⟨S1x1, .f32⟩
  | .hbm, ⟨21, _⟩ => ⟨S1x2048, .f32⟩
  | .hbm, ⟨22, _⟩ => ⟨S1x2048, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x2048, .f32⟩
  | .local _ .vmem, ⟨5, _⟩ => ⟨S256x2048, .f32⟩
  | .local _ .vmem, ⟨6, _⟩ => ⟨S256x1024, .f32⟩
  | .local _ .vmem, ⟨7, _⟩ => ⟨S256x1024, .f32⟩
  | .local _ .vmem, ⟨8, _⟩ => ⟨S256x2048, .f32⟩
  | .local _ .vmem, ⟨9, _⟩ => ⟨S256x2048, .f32⟩
  | .local _ .vmem, ⟨10, _⟩ => ⟨S256x2048, .f32⟩
  | .local _ .vmem, ⟨11, _⟩ => ⟨S256x2048, .f32⟩
  | .local _ .vmem, ⟨12, _⟩ => ⟨S8x1024x256, .bf16⟩
  | .local _ .vmem, ⟨13, _⟩ => ⟨S2048x2048, .bf16⟩
  | .local _ .vmem, ⟨14, _⟩ => ⟨S1x1024, .f32⟩
  | .local _ .vmem, ⟨15, _⟩ => ⟨S1x2048, .f32⟩
  | .local _ .vmem, ⟨16, _⟩ => ⟨S1x1024, .f32⟩
  | .local _ .vmem, ⟨17, _⟩ => ⟨S1x2048, .f32⟩
  | .local _ .vmem, ⟨18, _⟩ => ⟨S1x2048, .f32⟩
  | .local _ .vmem, ⟨19, _⟩ => ⟨S256x1024, .f32⟩
  | .local _ .vmem, ⟨20, _⟩ => ⟨S256x1024, .f32⟩
  | .local _ .vmem, ⟨21, _⟩ => ⟨S256x2048, .f32⟩
  | .local _ .vmem, ⟨22, _⟩ => ⟨S256x2048, .f32⟩
  | .local _ .vmem, ⟨23, _⟩ => ⟨S256x2048, .bf16⟩
  | .local _ .vmem, ⟨24, _⟩ => ⟨S256x2048, .bf16⟩
  | .local _ .vmem, ⟨25, _⟩ => ⟨S256x2048, .f32⟩
  | .local _ .vmem, ⟨26, _⟩ => ⟨S256x2048, .f32⟩
  | .local _ .vmem, ⟨27, _⟩ => ⟨S1x1, .f32⟩
  | .local _ .vmem, ⟨28, _⟩ => ⟨S1x2048, .f32⟩
  | .local _ .vmem, ⟨29, _⟩ => ⟨S1x2048, .f32⟩
  | .local _ .vmem, ⟨30, _⟩ => ⟨S256x2048, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4_0 : Ref sig .tc := ⟨.hbm, 16, rfl⟩
abbrev main_v4_1 : Ref sig .tc := ⟨.hbm, 17, rfl⟩
abbrev main_v4_2 : Ref sig .tc := ⟨.hbm, 18, rfl⟩
abbrev main_v4_3 : Ref sig .tc := ⟨.hbm, 19, rfl⟩
abbrev main_v4_4 : Ref sig .tc := ⟨.hbm, 20, rfl⟩
abbrev main_v4_5 : Ref sig .tc := ⟨.hbm, 21, rfl⟩
abbrev main_v4_6 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg11_0 : Ref sig .tc := ⟨.vmem, 17, rfl⟩
abbrev cc0_stg12_0 : Ref sig .tc := ⟨.vmem, 18, rfl⟩
abbrev cc0_stg13_0 : Ref sig .tc := ⟨.vmem, 19, rfl⟩
abbrev cc0_stg13_1 : Ref sig .tc := ⟨.vmem, 20, rfl⟩
abbrev cc0_stg14_0 : Ref sig .tc := ⟨.vmem, 21, rfl⟩
abbrev cc0_stg14_1 : Ref sig .tc := ⟨.vmem, 22, rfl⟩
abbrev cc0_stg15_0 : Ref sig .tc := ⟨.vmem, 23, rfl⟩
abbrev cc0_stg15_1 : Ref sig .tc := ⟨.vmem, 24, rfl⟩
abbrev cc0_stg16_0 : Ref sig .tc := ⟨.vmem, 25, rfl⟩
abbrev cc0_stg16_1 : Ref sig .tc := ⟨.vmem, 26, rfl⟩
abbrev cc0_stg17_0 : Ref sig .tc := ⟨.vmem, 27, rfl⟩
abbrev cc0_stg18_0 : Ref sig .tc := ⟨.vmem, 28, rfl⟩
abbrev cc0_stg19_0 : Ref sig .tc := ⟨.vmem, 29, rfl⟩
abbrev cc0_scratch0 : Ref sig .tc := ⟨.vmem, 30, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem10_0 : DmaSem sig := 16
abbrev cc0_sem11_0 : DmaSem sig := 17
abbrev cc0_sem12_0 : DmaSem sig := 18
abbrev cc0_sem13_0 : DmaSem sig := 19
abbrev cc0_sem13_1 : DmaSem sig := 20
abbrev cc0_sem14_0 : DmaSem sig := 21
abbrev cc0_sem14_1 : DmaSem sig := 22
abbrev cc0_sem15_0 : DmaSem sig := 23
abbrev cc0_sem15_1 : DmaSem sig := 24
abbrev cc0_sem16_0 : DmaSem sig := 25
abbrev cc0_sem16_1 : DmaSem sig := 26
abbrev cc0_sem17_0 : DmaSem sig := 27
abbrev cc0_sem18_0 : DmaSem sig := 28
abbrev cc0_sem19_0 : DmaSem sig := 29

abbrev nD : Nat := 1
abbrev τ : Topo := Topo.v7x

variable {F : FTy → Type} [FloatOps F]

abbrev grid0 : Pipeline.Grid := ⟨1, ![33], ![false]⟩

def cc0_transform_0 (i : grid0.Coords) : Fin 2 → Nat :=
  let arg0 : BitVec 32 := BitVec.ofNat 32 (i 0).val
  let c31_i32 : BitVec 32 := 31#32
  let v0 : BitVec 32 := Scalar.minsi arg0 c31_i32
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c31_i32 : BitVec 32 := 31#32
  let v0 : BitVec 32 := Scalar.minsi arg0 c31_i32
  let c1_i32 : BitVec 32 := 1#32
  let c0_i32 : BitVec 32 := 0#32
  ![v0.toNat, c1_i32.toNat]

def cc0_transform_2 (i : grid0.Coords) : Fin 2 → Nat :=
  let arg0 : BitVec 32 := BitVec.ofNat 32 (i 0).val
  let c31_i32 : BitVec 32 := 31#32
  let v0 : BitVec 32 := Scalar.minsi arg0 c31_i32
  let c1_i32 : BitVec 32 := 1#32
  let c0_i32 : BitVec 32 := 0#32
  ![v0.toNat, c1_i32.toNat]

def cc0_transform_3 (i : grid0.Coords) : Fin 2 → Nat :=
  let arg0 : BitVec 32 := BitVec.ofNat 32 (i 0).val
  let c31_i32 : BitVec 32 := 31#32
  let v0 : BitVec 32 := Scalar.minsi arg0 c31_i32
  let c0_i32 : BitVec 32 := 0#32
  let c0_i32_0 : BitVec 32 := 0#32
  ![v0.toNat, c0_i32.toNat]

def cc0_transform_4 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_5 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c31_i32 : BitVec 32 := 31#32
  let v0 : BitVec 32 := Scalar.minsi arg0 c31_i32
  let c0_i32 : BitVec 32 := 0#32
  let c0_i32_0 : BitVec 32 := 0#32
  ![v0.toNat, c0_i32.toNat]

def cc0_transform_14 (i : grid0.Coords) : Fin 2 → Nat :=
  let arg0 : BitVec 32 := BitVec.ofNat 32 (i 0).val
  let c31_i32 : BitVec 32 := 31#32
  let v0 : BitVec 32 := Scalar.minsi arg0 c31_i32
  let c0_i32 : BitVec 32 := 0#32
  let c0_i32_0 : BitVec 32 := 0#32
  ![v0.toNat, c0_i32.toNat]

def cc0_transform_15 (i : grid0.Coords) : Fin 2 → Nat :=
  let arg0 : BitVec 32 := BitVec.ofNat 32 (i 0).val
  let c31_i32 : BitVec 32 := 31#32
  let v0 : BitVec 32 := Scalar.minsi arg0 c31_i32
  let c0_i32 : BitVec 32 := 0#32
  let c0_i32_0 : BitVec 32 := 0#32
  ![v0.toNat, c0_i32.toNat]

def cc0_transform_16 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S8x1024x256 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S2048x2048 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x2048 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x2048 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x2048 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 2 → Memref sig .tc .vmem S256x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S256x2048 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S256x2048 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S256x2048 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 1 → Memref sig .tc .vmem S1x1 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S1x2048 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]

abbrev stage0_19 : Fin 1 → Memref sig .tc .vmem S1x2048 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false]
-- ==== Reference6Ideal.lean ====
abbrev S8192x1024 : Shape := ⟨2, ![8192, 1024]⟩
abbrev S8192x4096 : Shape := ⟨2, ![8192, 4096]⟩
abbrev S8192x2048 : Shape := ⟨2, ![8192, 2048]⟩
abbrev S1024x2048 : Shape := ⟨2, ![1024, 2048]⟩
abbrev S2048x2048 : Shape := ⟨2, ![2048, 2048]⟩
abbrev S1x1024 : Shape := ⟨2, ![1, 1024]⟩
abbrev S1x2048 : Shape := ⟨2, ![1, 2048]⟩
abbrev S_ : Shape := ⟨0, ![]⟩
abbrev S8192 : Shape := ⟨1, ![8192]⟩
abbrev S8192x1 : Shape := ⟨2, ![8192, 1]⟩
abbrev S1 : Shape := ⟨1, ![1]⟩
abbrev S1x1 : Shape := ⟨2, ![1, 1]⟩
abbrev S2048 : Shape := ⟨1, ![2048]⟩

abbrev nBuf : Space → Nat
  | .hbm => 142
  | .vmem => 0
  | .smem => 0
  | _ => 0

abbrev hbmTy0_0 (i : Nat) : BufTy := match i % 128 with
  | 0 => ⟨S8192x1024, .f32⟩
  | 1 => ⟨S8192x4096, .f32⟩
  | 2 => ⟨S8192x1024, .f32⟩
  | 3 => ⟨S8192x2048, .f32⟩
  | 4 => ⟨S8192x2048, .f32⟩
  | 5 => ⟨S1024x2048, .f32⟩
  | 6 => ⟨S2048x2048, .f32⟩
  | 7 => ⟨S1x1024, .f32⟩
  | 8 => ⟨S1x2048, .f32⟩
  | 9 => ⟨S1x1024, .f32⟩
  | 10 => ⟨S1x2048, .f32⟩
  | 11 => ⟨S1x2048, .f32⟩
  | 12 => ⟨S8192x1024, .f32⟩
  | 13 => ⟨S8192x1024, .f32⟩
  | 14 => ⟨S8192x1024, .f32⟩
  | 15 => ⟨S8192x1024, .f32⟩
  | 16 => ⟨S8192x1024, .f32⟩
  | 17 => ⟨S8192x1024, .f32⟩
  | 18 => ⟨S_, .f32⟩
  | 19 => ⟨S8192x1024, .f32⟩
  | 20 => ⟨S8192x1024, .f32⟩
  | 21 => ⟨S8192x1024, .f32⟩
  | 22 => ⟨S_, .f32⟩
  | 23 => ⟨S8192x1024, .f32⟩
  | 24 => ⟨S8192x1024, .f32⟩
  | 25 => ⟨S8192x1024, .f32⟩
  | 26 => ⟨S_, .f32⟩
  | 27 => ⟨S8192x1024, .f32⟩
  | 28 => ⟨S8192x1024, .f32⟩
  | 29 => ⟨S_, .f32⟩
  | 30 => ⟨S8192x1024, .f32⟩
  | 31 => ⟨S8192x1024, .f32⟩
  | 32 => ⟨S8192x1024, .f32⟩
  | 33 => ⟨S8192x2048, .f32⟩
  | 34 => ⟨S8192x2048, .f32⟩
  | 35 => ⟨S8192x2048, .f32⟩
  | 36 => ⟨S8192x1024, .f32⟩
  | 37 => ⟨S8192x1024, .f32⟩
  | 38 => ⟨S8192x1024, .f32⟩
  | 39 => ⟨S8192x1024, .f32⟩
  | 40 => ⟨S8192x1024, .f32⟩
  | 41 => ⟨S8192x1024, .f32⟩
  | 42 => ⟨S_, .f32⟩
  | 43 => ⟨S8192x1024, .f32⟩
  | 44 => ⟨S8192x1024, .f32⟩
  | 45 => ⟨S_, .f32⟩
  | 46 => ⟨S8192x1024, .f32⟩
  | 47 => ⟨S8192x1024, .f32⟩
  | 48 => ⟨S8192x1024, .f32⟩
  | 49 => ⟨S8192x2048, .f32⟩
  | 50 => ⟨S8192x2048, .f32⟩
  | 51 => ⟨S8192x2048, .f32⟩
  | 52 => ⟨S8192x2048, .f32⟩
  | 53 => ⟨S_, .f32⟩
  | 54 => ⟨S8192x2048, .f32⟩
  | 55 => ⟨S8192x2048, .f32⟩
  | 56 => ⟨S_, .f32⟩
  | 57 => ⟨S8192x2048, .f32⟩
  | 58 => ⟨S8192x2048, .f32⟩
  | 59 => ⟨S8192x2048, .f32⟩
  | 60 => ⟨S8192x2048, .f32⟩
  | 61 => ⟨S8192x2048, .f32⟩
  | 62 => ⟨S8192x2048, .f32⟩
  | 63 => ⟨S8192x2048, .f32⟩
  | 64 => ⟨S8192x2048, .f32⟩
  | 65 => ⟨S8192x2048, .f32⟩
  | 66 => ⟨S_, .f32⟩
  | 67 => ⟨S8192, .f32⟩
  | 68 => ⟨S8192x1, .f32⟩
  | 69 => ⟨S_, .f32⟩
  | 70 => ⟨S8192x1, .f32⟩
  | 71 => ⟨S8192x1, .f32⟩
  | 72 => ⟨S_, .f32⟩
  | 73 => ⟨S8192x1, .f32⟩
  | 74 => ⟨S8192x1, .f32⟩
  | 75 => ⟨S8192x1, .f32⟩
  | 76 => ⟨S8192x1, .f32⟩
  | 77 => ⟨S_, .f32⟩
  | 78 => ⟨S8192x1, .f32⟩
  | 79 => ⟨S8192x1, .f32⟩
  | 80 => ⟨S8192x2048, .f32⟩
  | 81 => ⟨S8192x2048, .f32⟩
  | 82 => ⟨S8192x2048, .f32⟩
  | 83 => ⟨S8192x2048, .f32⟩
  | 84 => ⟨S8192x2048, .f32⟩
  | 85 => ⟨S8192x2048, .f32⟩
  | 86 => ⟨S_, .f32⟩
  | 87 => ⟨S8192, .f32⟩
  | 88 => ⟨S_, .f32⟩
  | 89 => ⟨S8192, .f32⟩
  | 90 => ⟨S8192, .f32⟩
  | 91 => ⟨S_, .f32⟩
  | 92 => ⟨S_, .f32⟩
  | 93 => ⟨S1, .f32⟩
  | 94 => ⟨S1x1, .f32⟩
  | 95 => ⟨S_, .f32⟩
  | 96 => ⟨S1x1, .f32⟩
  | 97 => ⟨S1x1, .f32⟩
  | 98 => ⟨S_, .f32⟩
  | 99 => ⟨S1x1, .f32⟩
  | 100 => ⟨S_, .f32⟩
  | 101 => ⟨S1x1, .f32⟩
  | 102 => ⟨S1x1, .f32⟩
  | 103 => ⟨S1, .f32⟩
  | 104 => ⟨S_, .f32⟩
  | 105 => ⟨S_, .f32⟩
  | 106 => ⟨S8192, .f32⟩
  | 107 => ⟨S_, .f32⟩
  | 108 => ⟨S8192, .f32⟩
  | 109 => ⟨S8192, .f32⟩
  | 110 => ⟨S8192x2048, .f32⟩
  | 111 => ⟨S8192x2048, .f32⟩
  | 112 => ⟨S8192x2048, .f32⟩
  | 113 => ⟨S8192x2048, .f32⟩
  | 114 => ⟨S8192x2048, .f32⟩
  | 115 => ⟨S_, .f32⟩
  | 116 => ⟨S2048, .f32⟩
  | 117 => ⟨S1x2048, .f32⟩
  | 118 => ⟨S8192x2048, .f32⟩
  | 119 => ⟨S8192x2048, .f32⟩
  | 120 => ⟨S8192x2048, .f32⟩
  | 121 => ⟨S_, .f32⟩
  | 122 => ⟨S8192, .f32⟩
  | 123 => ⟨S8192x1, .f32⟩
  | 124 => ⟨S8192x2048, .f32⟩
  | 125 => ⟨S8192x2048, .f32⟩
  | 126 => ⟨S8192x1, .f32⟩
  | 127 => ⟨S_, .f32⟩
  | _ => ⟨S8192x1024, .f32⟩

abbrev hbmTy0_1 (i : Nat) : BufTy := match i % 128 with
  | 0 => ⟨S8192x1, .f32⟩
  | 1 => ⟨S8192x1, .f32⟩
  | 2 => ⟨S_, .f32⟩
  | 3 => ⟨S8192, .f32⟩
  | 4 => ⟨S8192x2048, .f32⟩
  | 5 => ⟨S8192x2048, .f32⟩
  | 6 => ⟨S8192x2048, .f32⟩
  | 7 => ⟨S8192x2048, .f32⟩
  | 8 => ⟨S8192x2048, .f32⟩
  | 9 => ⟨S8192x2048, .f32⟩
  | 10 => ⟨S_, .f32⟩
  | 11 => ⟨S2048, .f32⟩
  | 12 => ⟨S1x2048, .f32⟩
  | 13 => ⟨S8192x2048, .bf16⟩
  | _ => ⟨S8192x1024, .f32⟩

abbrev hbmTy (i : Nat) : BufTy := match i / 128 with
  | 0 => hbmTy0_0 i
  | 1 => hbmTy0_1 i
  | _ => ⟨S8192x1024, .f32⟩

abbrev bufTy : (tb : Table) → Fin (tcTables nBuf tb) → BufTy
  | .hbm, ⟨i, _⟩ => hbmTy i
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_cst : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_cst_0 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_cst_1 : Ref sig .tc := ⟨.hbm, 26, rfl⟩
abbrev main_v12 : Ref sig .tc := ⟨.hbm, 27, rfl⟩
abbrev main_v13 : Ref sig .tc := ⟨.hbm, 28, rfl⟩
abbrev main_cst_2 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_cst_3 : Ref sig .tc := ⟨.hbm, 42, rfl⟩
abbrev main_v26 : Ref sig .tc := ⟨.hbm, 43, rfl⟩
abbrev main_v27 : Ref sig .tc := ⟨.hbm, 44, rfl⟩
abbrev main_cst_4 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_call0_v0 : Ref sig .tc := ⟨.hbm, 51, rfl⟩
abbrev main_call0_v1 : Ref sig .tc := ⟨.hbm, 52, rfl⟩
abbrev main_call0_cst : Ref sig .tc := ⟨.hbm, 53, rfl⟩
abbrev main_call0_v2 : Ref sig .tc := ⟨.hbm, 54, rfl⟩
abbrev main_call0_v3 : Ref sig .tc := ⟨.hbm, 55, rfl⟩
abbrev main_call0_cst_0 : Ref sig .tc := ⟨.hbm, 56, rfl⟩
abbrev main_call0_v4 : Ref sig .tc := ⟨.hbm, 57, rfl⟩
abbrev main_call0_v5 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_cst_5 : Ref sig .tc := ⟨.hbm, 66, rfl⟩
abbrev main_v40 : Ref sig .tc := ⟨.hbm, 67, rfl⟩
abbrev main_v41 : Ref sig .tc := ⟨.hbm, 68, rfl⟩
abbrev main_cst_6 : Ref sig .tc := ⟨.hbm, 69, rfl⟩
abbrev main_v42 : Ref sig .tc := ⟨.hbm, 70, rfl⟩
abbrev main_v43 : Ref sig .tc := ⟨.hbm, 71, rfl⟩
abbrev main_cst_7 : Ref sig .tc := ⟨.hbm, 72, rfl⟩
abbrev main_v44 : Ref sig .tc := ⟨.hbm, 73, rfl⟩
abbrev main_v45 : Ref sig .tc := ⟨.hbm, 74, rfl⟩
abbrev main_v46 : Ref sig .tc := ⟨.hbm, 75, rfl⟩
abbrev main_v47 : Ref sig .tc := ⟨.hbm, 76, rfl⟩
abbrev main_cst_8 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_cst_9 : Ref sig .tc := ⟨.hbm, 86, rfl⟩
abbrev main_v56 : Ref sig .tc := ⟨.hbm, 87, rfl⟩
abbrev main_cst_10 : Ref sig .tc := ⟨.hbm, 88, rfl⟩
abbrev main_v57 : Ref sig .tc := ⟨.hbm, 89, rfl⟩
abbrev main_v58 : Ref sig .tc := ⟨.hbm, 90, rfl⟩
abbrev main_cst_11 : Ref sig .tc := ⟨.hbm, 91, rfl⟩
abbrev main_v59 : Ref sig .tc := ⟨.hbm, 92, rfl⟩
abbrev main_v60 : Ref sig .tc := ⟨.hbm, 93, rfl⟩
abbrev main_v61 : Ref sig .tc := ⟨.hbm, 94, rfl⟩
abbrev main_cst_12 : Ref sig .tc := ⟨.hbm, 95, rfl⟩
abbrev main_v62 : Ref sig .tc := ⟨.hbm, 96, rfl⟩
abbrev main_v63 : Ref sig .tc := ⟨.hbm, 97, rfl⟩
abbrev main_cst_13 : Ref sig .tc := ⟨.hbm, 98, rfl⟩
abbrev main_v64 : Ref sig .tc := ⟨.hbm, 99, rfl⟩
abbrev main_cst_14 : Ref sig .tc := ⟨.hbm, 100, rfl⟩
abbrev main_v65 : Ref sig .tc := ⟨.hbm, 101, rfl⟩
abbrev main_v66 : Ref sig .tc := ⟨.hbm, 102, rfl⟩
abbrev main_v67 : Ref sig .tc := ⟨.hbm, 103, rfl⟩
abbrev main_cst_15 : Ref sig .tc := ⟨.hbm, 104, rfl⟩
abbrev main_v68 : Ref sig .tc := ⟨.hbm, 105, rfl⟩
abbrev main_v69 : Ref sig .tc := ⟨.hbm, 106, rfl⟩
abbrev main_cst_16 : Ref sig .tc := ⟨.hbm, 107, rfl⟩
abbrev main_v70 : Ref sig .tc := ⟨.hbm, 108, rfl⟩
abbrev main_v71 : Ref sig .tc := ⟨.hbm, 109, rfl⟩
abbrev main_v72 : Ref sig .tc := ⟨.hbm, 110, rfl⟩
abbrev main_v73 : Ref sig .tc := ⟨.hbm, 111, rfl⟩
abbrev main_v74 : Ref sig .tc := ⟨.hbm, 112, rfl⟩
abbrev main_v75 : Ref sig .tc := ⟨.hbm, 113, rfl⟩
abbrev main_v76 : Ref sig .tc := ⟨.hbm, 114, rfl⟩
abbrev main_cst_17 : Ref sig .tc := ⟨.hbm, 115, rfl⟩
abbrev main_v77 : Ref sig .tc := ⟨.hbm, 116, rfl⟩
abbrev main_v78 : Ref sig .tc := ⟨.hbm, 117, rfl⟩
abbrev main_v79 : Ref sig .tc := ⟨.hbm, 118, rfl⟩
abbrev main_v80 : Ref sig .tc := ⟨.hbm, 119, rfl⟩
abbrev main_v81 : Ref sig .tc := ⟨.hbm, 120, rfl⟩
abbrev main_cst_18 : Ref sig .tc := ⟨.hbm, 121, rfl⟩
abbrev main_v82 : Ref sig .tc := ⟨.hbm, 122, rfl⟩
abbrev main_v83 : Ref sig .tc := ⟨.hbm, 123, rfl⟩
abbrev main_v84 : Ref sig .tc := ⟨.hbm, 124, rfl⟩
abbrev main_v85 : Ref sig .tc := ⟨.hbm, 125, rfl⟩
abbrev main_v86 : Ref sig .tc := ⟨.hbm, 126, rfl⟩
abbrev main_cst_19 : Ref sig .tc := ⟨.hbm, 127, rfl⟩
abbrev main_v87 : Ref sig .tc := ⟨.hbm, 128, rfl⟩
abbrev main_v88 : Ref sig .tc := ⟨.hbm, 129, rfl⟩
abbrev main_cst_20 : Ref sig .tc := ⟨.hbm, 130, rfl⟩
abbrev main_v89 : Ref sig .tc := ⟨.hbm, 131, rfl⟩
abbrev main_v90 : Ref sig .tc := ⟨.hbm, 132, rfl⟩
abbrev main_v91 : Ref sig .tc := ⟨.hbm, 133, rfl⟩
abbrev main_v92 : Ref sig .tc := ⟨.hbm, 134, rfl⟩
abbrev main_v93 : Ref sig .tc := ⟨.hbm, 135, rfl⟩
abbrev main_v94 : Ref sig .tc := ⟨.hbm, 136, rfl⟩
abbrev main_v95 : Ref sig .tc := ⟨.hbm, 137, rfl⟩
abbrev main_cst_21 : Ref sig .tc := ⟨.hbm, 138, rfl⟩
abbrev main_v96 : Ref sig .tc := ⟨.hbm, 139, rfl⟩
abbrev main_v97 : Ref sig .tc := ⟨.hbm, 140, rfl⟩
abbrev main_v98 : Ref sig .tc := ⟨.hbm, 141, rfl⟩

abbrev nD : Nat := 1
abbrev τ : Topo := Topo.v7x

variable {F : FTy → Type} [FloatOps F]
-- ==== Kernel14.lean ====
abbrev S8192x2048 : Shape := ⟨2, ![8192, 2048]⟩
abbrev S2048x4096 : Shape := ⟨2, ![2048, 4096]⟩
abbrev S1x2048 : Shape := ⟨2, ![1, 2048]⟩
abbrev S2048x8x512 : Shape := ⟨3, ![2048, 8, 512]⟩
abbrev S8x2048x512 : Shape := ⟨3, ![8, 2048, 512]⟩
abbrev S8192x4096 : Shape := ⟨2, ![8192, 4096]⟩
abbrev S256x2048 : Shape := ⟨2, ![256, 2048]⟩
abbrev S256x4096 : Shape := ⟨2, ![256, 4096]⟩
abbrev S256 : Shape := ⟨1, ![256]⟩
abbrev S256x1 : Shape := ⟨2, ![256, 1]⟩
abbrev S1x2048x512 : Shape := ⟨3, ![1, 2048, 512]⟩
abbrev S2048x512 : Shape := ⟨2, ![2048, 512]⟩
abbrev S256x512 : Shape := ⟨2, ![256, 512]⟩

abbrev nBuf : Space → Nat
  | .hbm => 10
  | .vmem => 10
  | .smem => 0
  | _ => 0

abbrev bufTy : (tb : Table) → Fin (tcTables nBuf tb) → BufTy
  | .hbm, ⟨0, _⟩ => ⟨S8192x2048, .f32⟩
  | .hbm, ⟨1, _⟩ => ⟨S2048x4096, .f32⟩
  | .hbm, ⟨2, _⟩ => ⟨S1x2048, .f32⟩
  | .hbm, ⟨3, _⟩ => ⟨S1x2048, .f32⟩
  | .hbm, ⟨4, _⟩ => ⟨S1x2048, .f32⟩
  | .hbm, ⟨5, _⟩ => ⟨S2048x4096, .bf16⟩
  | .hbm, ⟨6, _⟩ => ⟨S2048x8x512, .bf16⟩
  | .hbm, ⟨7, _⟩ => ⟨S8x2048x512, .bf16⟩
  | .hbm, ⟨8, _⟩ => ⟨S8192x4096, .f32⟩
  | .hbm, ⟨9, _⟩ => ⟨S8192x2048, .bf16⟩
  | .local _ .vmem, ⟨0, _⟩ => ⟨S256x2048, .f32⟩
  | .local _ .vmem, ⟨1, _⟩ => ⟨S256x2048, .f32⟩
  | .local _ .vmem, ⟨2, _⟩ => ⟨S1x2048, .f32⟩
  | .local _ .vmem, ⟨3, _⟩ => ⟨S1x2048, .f32⟩
  | .local _ .vmem, ⟨4, _⟩ => ⟨S1x2048, .f32⟩
  | .local _ .vmem, ⟨5, _⟩ => ⟨S8x2048x512, .bf16⟩
  | .local _ .vmem, ⟨6, _⟩ => ⟨S256x4096, .f32⟩
  | .local _ .vmem, ⟨7, _⟩ => ⟨S256x4096, .f32⟩
  | .local _ .vmem, ⟨8, _⟩ => ⟨S256x2048, .bf16⟩
  | .local _ .vmem, ⟨9, _⟩ => ⟨S256x2048, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S8x2048x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x4096 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference14Ideal.lean ====
abbrev S8192x2048 : Shape := ⟨2, ![8192, 2048]⟩
abbrev S2048x4096 : Shape := ⟨2, ![2048, 4096]⟩
abbrev S1x2048 : Shape := ⟨2, ![1, 2048]⟩
abbrev S_ : Shape := ⟨0, ![]⟩
abbrev S8192 : Shape := ⟨1, ![8192]⟩
abbrev S8192x1 : Shape := ⟨2, ![8192, 1]⟩
abbrev S8192x4096 : Shape := ⟨2, ![8192, 4096]⟩

abbrev nBuf : Space → Nat
  | .hbm => 29
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048x4096, .f32⟩
  | .hbm, ⟨2, _⟩ => ⟨S1x2048, .f32⟩
  | .hbm, ⟨3, _⟩ => ⟨S1x2048, .f32⟩
  | .hbm, ⟨4, _⟩ => ⟨S1x2048, .f32⟩
  | .hbm, ⟨5, _⟩ => ⟨S8192x2048, .f32⟩
  | .hbm, ⟨6, _⟩ => ⟨S_, .f32⟩
  | .hbm, ⟨7, _⟩ => ⟨S8192, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S8192x2048, .f32⟩
  | .hbm, ⟨17, _⟩ => ⟨S8192x2048, .f32⟩
  | .hbm, ⟨18, _⟩ => ⟨S8192x2048, .f32⟩
  | .hbm, ⟨19, _⟩ => ⟨S8192x2048, .f32⟩
  | .hbm, ⟨20, _⟩ => ⟨S_, .f32⟩
  | .hbm, ⟨21, _⟩ => ⟨S1x2048, .f32⟩
  | .hbm, ⟨22, _⟩ => ⟨S1x2048, .f32⟩
  | .hbm, ⟨23, _⟩ => ⟨S8192x2048, .f32⟩
  | .hbm, ⟨24, _⟩ => ⟨S8192x2048, .f32⟩
  | .hbm, ⟨25, _⟩ => ⟨S8192x2048, .f32⟩
  | .hbm, ⟨26, _⟩ => ⟨S8192x2048, .f32⟩
  | .hbm, ⟨27, _⟩ => ⟨S8192x4096, .f32⟩
  | .hbm, ⟨28, _⟩ => ⟨S8192x2048, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_2 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩

abbrev nD : Nat := 1
abbrev τ : Topo := Topo.v7x

variable {F : FTy → Type} [FloatOps F]
-- ==== Kernel15.lean ====
abbrev S256x2048 : Shape := ⟨2, ![256, 2048]⟩
abbrev S2048x4096 : Shape := ⟨2, ![2048, 4096]⟩
abbrev S1x2048 : Shape := ⟨2, ![1, 2048]⟩
abbrev S2048x8x512 : Shape := ⟨3, ![2048, 8, 512]⟩
abbrev S8x2048x512 : Shape := ⟨3, ![8, 2048, 512]⟩
abbrev S256x1024 : Shape := ⟨2, ![256, 1024]⟩
abbrev S256 : Shape := ⟨1, ![256]⟩
abbrev S256x1 : Shape := ⟨2, ![256, 1]⟩
abbrev S1x2048x512 : Shape := ⟨3, ![1, 2048, 512]⟩
abbrev S2048x512 : Shape := ⟨2, ![2048, 512]⟩
abbrev S256x512 : Shape := ⟨2, ![256, 512]⟩

abbrev nBuf : Space → Nat
  | .hbm => 10
  | .vmem => 7
  | .smem => 0
  | _ => 0

abbrev bufTy : (tb : Table) → Fin (tcTables nBuf tb) → BufTy
  | .hbm, ⟨0, _⟩ => ⟨S256x2048, .f32⟩
  | .hbm, ⟨1, _⟩ => ⟨S2048x4096, .f32⟩
  | .hbm, ⟨2, _⟩ => ⟨S1x2048, .f32⟩
  | .hbm, ⟨3, _⟩ => ⟨S1x2048, .f32⟩
  | .hbm, ⟨4, _⟩ => ⟨S1x2048, .f32⟩
  | .hbm, ⟨5, _⟩ => ⟨S2048x4096, .bf16⟩
  | .hbm, ⟨6, _⟩ => ⟨S2048x8x512, .bf16⟩
  | .hbm, ⟨7, _⟩ => ⟨S8x2048x512, .bf16⟩
  | .hbm, ⟨8, _⟩ => ⟨S256x1024, .f32⟩
  | .hbm, ⟨9, _⟩ => ⟨S256x2048, .bf16⟩
  | .local _ .vmem, ⟨0, _⟩ => ⟨S256x2048, .f32⟩
  | .local _ .vmem, ⟨1, _⟩ => ⟨S1x2048, .f32⟩
  | .local _ .vmem, ⟨2, _⟩ => ⟨S1x2048, .f32⟩
  | .local _ .vmem, ⟨3, _⟩ => ⟨S1x2048, .f32⟩
  | .local _ .vmem, ⟨4, _⟩ => ⟨S8x2048x512, .bf16⟩
  | .local _ .vmem, ⟨5, _⟩ => ⟨S256x1024, .f32⟩
  | .local _ .vmem, ⟨6, _⟩ => ⟨S256x2048, .bf16⟩
  | _, _ => ⟨S256x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S256x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S8x2048x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S256x2048 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== Reference15Ideal.lean ====
abbrev S256x2048 : Shape := ⟨2, ![256, 2048]⟩
abbrev S2048x4096 : Shape := ⟨2, ![2048, 4096]⟩
abbrev S1x2048 : Shape := ⟨2, ![1, 2048]⟩
abbrev S_ : Shape := ⟨0, ![]⟩
abbrev S256 : Shape := ⟨1, ![256]⟩
abbrev S256x1 : Shape := ⟨2, ![256, 1]⟩
abbrev S2048x1024 : Shape := ⟨2, ![2048, 1024]⟩
abbrev S256x1024 : Shape := ⟨2, ![256, 1024]⟩

abbrev nBuf : Space → Nat
  | .hbm => 30
  | .vmem => 0
  | .smem => 0
  | _ => 0

abbrev bufTy : (tb : Table) → Fin (tcTables nBuf tb) → BufTy
  | .hbm, ⟨0, _⟩ => ⟨S256x2048, .f32⟩
  | .hbm, ⟨1, _⟩ => ⟨S2048x4096, .f32⟩
  | .hbm, ⟨2, _⟩ => ⟨S1x2048, .f32⟩
  | .hbm, ⟨3, _⟩ => ⟨S1x2048, .f32⟩
  | .hbm, ⟨4, _⟩ => ⟨S1x2048, .f32⟩
  | .hbm, ⟨5, _⟩ => ⟨S256x2048, .f32⟩
  | .hbm, ⟨6, _⟩ => ⟨S_, .f32⟩
  | .hbm, ⟨7, _⟩ => ⟨S256, .f32⟩
  | .hbm, ⟨8, _⟩ => ⟨S256x1, .f32⟩
  | .hbm, ⟨9, _⟩ => ⟨S_, .f32⟩
  | .hbm, ⟨10, _⟩ => ⟨S256x1, .f32⟩
  | .hbm, ⟨11, _⟩ => ⟨S256x1, .f32⟩
  | .hbm, ⟨12, _⟩ => ⟨S_, .f32⟩
  | .hbm, ⟨13, _⟩ => ⟨S256x1, .f32⟩
  | .hbm, ⟨14, _⟩ => ⟨S256x1, .f32⟩
  | .hbm, ⟨15, _⟩ => ⟨S256x1, .f32⟩
  | .hbm, ⟨16, _⟩ => ⟨S256x2048, .f32⟩
  | .hbm, ⟨17, _⟩ => ⟨S256x2048, .f32⟩
  | .hbm, ⟨18, _⟩ => ⟨S256x2048, .f32⟩
  | .hbm, ⟨19, _⟩ => ⟨S256x2048, .f32⟩
  | .hbm, ⟨20, _⟩ => ⟨S_, .f32⟩
  | .hbm, ⟨21, _⟩ => ⟨S1x2048, .f32⟩
  | .hbm, ⟨22, _⟩ => ⟨S1x2048, .f32⟩
  | .hbm, ⟨23, _⟩ => ⟨S256x2048, .f32⟩
  | .hbm, ⟨24, _⟩ => ⟨S256x2048, .f32⟩
  | .hbm, ⟨25, _⟩ => ⟨S256x2048, .f32⟩
  | .hbm, ⟨26, _⟩ => ⟨S256x2048, .f32⟩
  | .hbm, ⟨27, _⟩ => ⟨S2048x1024, .f32⟩
  | .hbm, ⟨28, _⟩ => ⟨S256x1024, .f32⟩
  | .hbm, ⟨29, _⟩ => ⟨S256x2048, .bf16⟩
  | _, _ => ⟨S256x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_2 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩

abbrev nD : Nat := 1
abbrev τ : Topo := Topo.v7x

variable {F : FTy → Type} [FloatOps F]
-- ==== Kernel16.lean ====
abbrev S8x2048 : Shape := ⟨2, ![8, 2048]⟩
abbrev S1x2048 : Shape := ⟨2, ![1, 2048]⟩
abbrev S2048x768 : Shape := ⟨2, ![2048, 768]⟩
abbrev S1x768 : Shape := ⟨2, ![1, 768]⟩
abbrev S_ : Shape := ⟨0, ![]⟩
abbrev S7x2048 : Shape := ⟨2, ![7, 2048]⟩
abbrev S16x2048 : Shape := ⟨2, ![16, 2048]⟩
abbrev S16x768 : Shape := ⟨2, ![16, 768]⟩

abbrev nBuf : Space → Nat
  | .hbm => 8
  | .vmem => 4
  | .smem => 0
  | _ => 0

abbrev bufTy : (tb : Table) → Fin (tcTables nBuf tb) → BufTy
  | .hbm, ⟨0, _⟩ => ⟨S8x2048, .f32⟩
  | .hbm, ⟨1, _⟩ => ⟨S1x2048, .f32⟩
  | .hbm, ⟨2, _⟩ => ⟨S2048x768, .f32⟩
  | .hbm, ⟨3, _⟩ => ⟨S1x768, .f32⟩
  | .hbm, ⟨4, _⟩ => ⟨S_, .f32⟩
  | .hbm, ⟨5, _⟩ => ⟨S7x2048, .f32⟩
  | .hbm, ⟨6, _⟩ => ⟨S16x2048, .f32⟩
  | .hbm, ⟨7, _⟩ => ⟨S16x768, .f32⟩
  | .local _ .vmem, ⟨0, _⟩ => ⟨S16x2048, .f32⟩
  | .local _ .vmem, ⟨1, _⟩ => ⟨S2048x768, .f32⟩
  | .local _ .vmem, ⟨2, _⟩ => ⟨S1x768, .f32⟩
  | .local _ .vmem, ⟨3, _⟩ => ⟨S16x768, .f32⟩
  | _, _ => ⟨S8x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F]

abbrev grid0 : Pipeline.Grid := .none

abbrev stage0_0 : Fin 1 → Memref sig .tc .vmem S16x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2048x768 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x768 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S16x768 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== Reference16Ideal.lean ====
abbrev S8x2048 : Shape := ⟨2, ![8, 2048]⟩
abbrev S1x2048 : Shape := ⟨2, ![1, 2048]⟩
abbrev S2048x768 : Shape := ⟨2, ![2048, 768]⟩
abbrev S1x768 : Shape := ⟨2, ![1, 768]⟩
abbrev S_ : Shape := ⟨0, ![]⟩
abbrev S8x768 : Shape := ⟨2, ![8, 768]⟩
abbrev S7x768 : Shape := ⟨2, ![7, 768]⟩
abbrev S16x768 : Shape := ⟨2, ![16, 768]⟩

abbrev nBuf : Space → Nat
  | .hbm => 29
  | .vmem => 0
  | .smem => 0
  | _ => 0

abbrev bufTy : (tb : Table) → Fin (tcTables nBuf tb) → BufTy
  | .hbm, ⟨0, _⟩ => ⟨S8x2048, .f32⟩
  | .hbm, ⟨1, _⟩ => ⟨S1x2048, .f32⟩
  | .hbm, ⟨2, _⟩ => ⟨S2048x768, .f32⟩
  | .hbm, ⟨3, _⟩ => ⟨S1x768, .f32⟩
  | .hbm, ⟨4, _⟩ => ⟨S8x2048, .f32⟩
  | .hbm, ⟨5, _⟩ => ⟨S8x2048, .f32⟩
  | .hbm, ⟨6, _⟩ => ⟨S_, .f32⟩
  | .hbm, ⟨7, _⟩ => ⟨S8x2048, .f32⟩
  | .hbm, ⟨8, _⟩ => ⟨S8x2048, .f32⟩
  | .hbm, ⟨9, _⟩ => ⟨S_, .f32⟩
  | .hbm, ⟨10, _⟩ => ⟨S8x2048, .f32⟩
  | .hbm, ⟨11, _⟩ => ⟨S8x2048, .f32⟩
  | .hbm, ⟨12, _⟩ => ⟨S8x2048, .f32⟩
  | .hbm, ⟨13, _⟩ => ⟨S8x768, .f32⟩
  | .hbm, ⟨14, _⟩ => ⟨S8x768, .f32⟩
  | .hbm, ⟨15, _⟩ => ⟨S8x768, .f32⟩
  | .hbm, ⟨16, _⟩ => ⟨S1x2048, .f32⟩
  | .hbm, ⟨17, _⟩ => ⟨S1x2048, .f32⟩
  | .hbm, ⟨18, _⟩ => ⟨S_, .f32⟩
  | .hbm, ⟨19, _⟩ => ⟨S1x2048, .f32⟩
  | .hbm, ⟨20, _⟩ => ⟨S1x2048, .f32⟩
  | .hbm, ⟨21, _⟩ => ⟨S_, .f32⟩
  | .hbm, ⟨22, _⟩ => ⟨S1x2048, .f32⟩
  | .hbm, ⟨23, _⟩ => ⟨S1x2048, .f32⟩
  | .hbm, ⟨24, _⟩ => ⟨S1x2048, .f32⟩
  | .hbm, ⟨25, _⟩ => ⟨S1x768, .f32⟩
  | .hbm, ⟨26, _⟩ => ⟨S1x768, .f32⟩
  | .hbm, ⟨27, _⟩ => ⟨S7x768, .f32⟩
  | .hbm, ⟨28, _⟩ => ⟨S16x768, .f32⟩
  | _, _ => ⟨S8x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_v0 : Ref sig .tc := ⟨.hbm, 4, rfl⟩
abbrev main_call0_v1 : Ref sig .tc := ⟨.hbm, 5, rfl⟩
abbrev main_call0_cst : Ref sig .tc := ⟨.hbm, 6, rfl⟩
abbrev main_call0_v2 : Ref sig .tc := ⟨.hbm, 7, rfl⟩
abbrev main_call0_v3 : Ref sig .tc := ⟨.hbm, 8, rfl⟩
abbrev main_call0_cst_0 : Ref sig .tc := ⟨.hbm, 9, rfl⟩
abbrev main_call0_v4 : Ref sig .tc := ⟨.hbm, 10, rfl⟩
abbrev main_call0_v5 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_call1_v0 : Ref sig .tc := ⟨.hbm, 16, rfl⟩
abbrev main_call1_v1 : Ref sig .tc := ⟨.hbm, 17, rfl⟩
abbrev main_call1_cst : Ref sig .tc := ⟨.hbm, 18, rfl⟩
abbrev main_call1_v2 : Ref sig .tc := ⟨.hbm, 19, rfl⟩
abbrev main_call1_v3 : Ref sig .tc := ⟨.hbm, 20, rfl⟩
abbrev main_call1_cst_0 : Ref sig .tc := ⟨.hbm, 21, rfl⟩
abbrev main_call1_v4 : Ref sig .tc := ⟨.hbm, 22, rfl⟩
abbrev main_call1_v5 : Ref sig .tc := ⟨.hbm, 23, rfl⟩
abbrev main_v4 : Ref sig .tc := ⟨.hbm, 24, rfl⟩
abbrev main_v5 : Ref sig .tc := ⟨.hbm, 25, rfl⟩
abbrev main_v6 : Ref sig .tc := ⟨.hbm, 26, rfl⟩
abbrev main_v7 : Ref sig .tc := ⟨.hbm, 27, rfl⟩
abbrev main_v8 : Ref sig .tc := ⟨.hbm, 28, rfl⟩

abbrev nD : Nat := 1
abbrev τ : Topo := Topo.v7x

variable {F : FTy → Type} [FloatOps F]
-- ==== Kernel10.lean ====
abbrev S8192x1024 : Shape := ⟨2, ![8192, 1024]⟩
abbrev S256x1024 : Shape := ⟨2, ![256, 1024]⟩
abbrev S64x528x128 : Shape := ⟨3, ![64, 528, 128]⟩
abbrev S64x256 : Shape := ⟨2, ![64, 256]⟩
abbrev S64x2x2x64 : Shape := ⟨4, ![64, 2, 2, 64]⟩
abbrev S64x528x2x64 : Shape := ⟨4, ![64, 528, 2, 64]⟩
abbrev S64x528x1x64 : Shape := ⟨4, ![64, 528, 1, 64]⟩
abbrev S64x528x64 : Shape := ⟨3, ![64, 528, 64]⟩
abbrev S64x16x64 : Shape := ⟨3, ![64, 16, 64]⟩
abbrev S64x512x64 : Shape := ⟨3, ![64, 512, 64]⟩
abbrev S528x64x2x64 : Shape := ⟨4, ![528, 64, 2, 64]⟩
abbrev S64x1x2x64 : Shape := ⟨4, ![64, 1, 2, 64]⟩
abbrev S64x2x64 : Shape := ⟨3, ![64, 2, 64]⟩
abbrev S1x64x2x64 : Shape := ⟨4, ![1, 64, 2, 64]⟩
abbrev S527x64x2x64 : Shape := ⟨4, ![527, 64, 2, 64]⟩
abbrev S_ : Shape := ⟨0, ![]⟩
abbrev S526x64x2x64 : Shape := ⟨4, ![526, 64, 2, 64]⟩
abbrev S524x64x2x64 : Shape := ⟨4, ![524, 64, 2, 64]⟩
abbrev S520x64x2x64 : Shape := ⟨4, ![520, 64, 2, 64]⟩
abbrev S512x64x2x64 : Shape := ⟨4, ![512, 64, 2, 64]⟩
abbrev S496x64x2x64 : Shape := ⟨4, ![496, 64, 2, 64]⟩
abbrev S464x64x2x64 : Shape := ⟨4, ![464, 64, 2, 64]⟩
abbrev S400x64x2x64 : Shape := ⟨4, ![400, 64, 2, 64]⟩
abbrev S272x64x2x64 : Shape := ⟨4, ![272, 64, 2, 64]⟩
abbrev S16x64x2x64 : Shape := ⟨4, ![16, 64, 2, 64]⟩
abbrev S16x16x8x8x16 : Shape := ⟨5, ![16, 16, 8, 8, 16]⟩
abbrev S8x16x8x16x16 : Shape := ⟨5, ![8, 16, 8, 16, 16]⟩
abbrev S8x16x2048 : Shape := ⟨3, ![8, 16, 2048]⟩
abbrev S512x16x8x8x16 : Shape := ⟨5, ![512, 16, 8, 8, 16]⟩
abbrev S8x512x8x16x16 : Shape := ⟨5, ![8, 512, 8, 16, 16]⟩
abbrev S8x512x2048 : Shape := ⟨3, ![8, 512, 2048]⟩
abbrev S8x528x2048 : Shape := ⟨3, ![8, 528, 2048]⟩
abbrev S4x2x8x528x2x64 : Shape := ⟨6, ![4, 2, 8, 528, 2, 64]⟩
abbrev S4x2x8x528x1x64 : Shape := ⟨6, ![4, 2, 8, 528, 1, 64]⟩
abbrev S4x2x8x528x64 : Shape := ⟨5, ![4, 2, 8, 528, 64]⟩
abbrev S4x8x528x2x64 : Shape := ⟨5, ![4, 8, 528, 2, 64]⟩
abbrev S32x528x128 : Shape := ⟨3, ![32, 528, 128]⟩
abbrev S64x256x256 : Shape := ⟨3, ![64, 256, 256]⟩
abbrev S1x528x2048 : Shape := ⟨3, ![1, 528, 2048]⟩
abbrev S1x512x2048 : Shape := ⟨3, ![1, 512, 2048]⟩
abbrev S8x528x128 : Shape := ⟨3, ![8, 528, 128]⟩
abbrev S8x256x256 : Shape := ⟨3, ![8, 256, 256]⟩
abbrev S8x256 : Shape := ⟨2, ![8, 256]⟩
abbrev S1x128 : Shape := ⟨2, ![1, 128]⟩
abbrev S1x512x256 : Shape := ⟨3, ![1, 512, 256]⟩
abbrev S512x256 : Shape := ⟨2, ![512, 256]⟩
abbrev S256x256 : Shape := ⟨2, ![256, 256]⟩
abbrev S1x256x256 : Shape := ⟨3, ![1, 256, 256]⟩
abbrev S1x512x128 : Shape := ⟨3, ![1, 512, 128]⟩
abbrev S512x128 : Shape := ⟨2, ![512, 128]⟩
abbrev S512x512 : Shape := ⟨2, ![512, 512]⟩
abbrev S1x528x128 : Shape := ⟨3, ![1, 528, 128]⟩
abbrev S528x128 : Shape := ⟨2, ![528, 128]⟩
abbrev S128 : Shape := ⟨1, ![128]⟩
abbrev S1x256 : Shape := ⟨2, ![1, 256]⟩

abbrev nBuf : Space → Nat
  | .hbm => 394
  | .vmem => 26
  | .smem => 0
  | _ => 0

abbrev hbmTy0_0 (i : Nat) : BufTy := match i % 128 with
  | 0 => ⟨S8192x1024, .f32⟩
  | 1 => ⟨S256x1024, .f32⟩
  | 2 => ⟨S64x528x128, .f32⟩
  | 3 => ⟨S64x528x128, .f32⟩
  | 4 => ⟨S64x256, .f32⟩
  | 5 => ⟨S8192x1024, .f32⟩
  | 6 => ⟨S64x528x128, .f32⟩
  | 7 => ⟨S64x528x128, .f32⟩
  | 8 => ⟨S64x2x2x64, .f32⟩
  | 9 => ⟨S64x528x2x64, .f32⟩
  | 10 => ⟨S64x528x1x64, .f32⟩
  | 11 => ⟨S64x528x64, .f32⟩
  | 12 => ⟨S64x528x1x64, .f32⟩
  | 13 => ⟨S64x528x64, .f32⟩
  | 14 => ⟨S64x16x64, .f32⟩
  | 15 => ⟨S64x16x64, .f32⟩
  | 16 => ⟨S64x512x64, .f32⟩
  | 17 => ⟨S64x512x64, .f32⟩
  | 18 => ⟨S64x528x64, .f32⟩
  | 19 => ⟨S64x528x1x64, .f32⟩
  | 20 => ⟨S64x528x1x64, .f32⟩
  | 21 => ⟨S64x528x2x64, .f32⟩
  | 22 => ⟨S528x64x2x64, .f32⟩
  | 23 => ⟨S64x528x2x64, .f32⟩
  | 24 => ⟨S64x528x1x64, .f32⟩
  | 25 => ⟨S64x528x64, .f32⟩
  | 26 => ⟨S64x528x1x64, .f32⟩
  | 27 => ⟨S64x528x64, .f32⟩
  | 28 => ⟨S64x16x64, .f32⟩
  | 29 => ⟨S64x16x64, .f32⟩
  | 30 => ⟨S64x512x64, .f32⟩
  | 31 => ⟨S64x512x64, .f32⟩
  | 32 => ⟨S64x528x64, .f32⟩
  | 33 => ⟨S64x528x1x64, .f32⟩
  | 34 => ⟨S64x528x1x64, .f32⟩
  | 35 => ⟨S64x528x2x64, .f32⟩
  | 36 => ⟨S528x64x2x64, .f32⟩
  | 37 => ⟨S64x1x2x64, .f32⟩
  | 38 => ⟨S64x2x64, .f32⟩
  | 39 => ⟨S1x64x2x64, .f32⟩
  | 40 => ⟨S528x64x2x64, .f32⟩
  | 41 => ⟨S64x1x2x64, .f32⟩
  | 42 => ⟨S64x2x64, .f32⟩
  | 43 => ⟨S1x64x2x64, .f32⟩
  | 44 => ⟨S528x64x2x64, .f32⟩
  | 45 => ⟨S527x64x2x64, .f32⟩
  | 46 => ⟨S_, .f32⟩
  | 47 => ⟨S528x64x2x64, .f32⟩
  | 48 => ⟨S527x64x2x64, .f32⟩
  | 49 => ⟨S_, .f32⟩
  | 50 => ⟨S528x64x2x64, .f32⟩
  | 51 => ⟨S527x64x2x64, .f32⟩
  | 52 => ⟨S_, .f32⟩
  | 53 => ⟨S528x64x2x64, .f32⟩
  | 54 => ⟨S527x64x2x64, .f32⟩
  | 55 => ⟨S_, .f32⟩
  | 56 => ⟨S528x64x2x64, .f32⟩
  | 57 => ⟨S528x64x2x64, .f32⟩
  | 58 => ⟨S528x64x2x64, .f32⟩
  | 59 => ⟨S528x64x2x64, .f32⟩
  | 60 => ⟨S528x64x2x64, .f32⟩
  | 61 => ⟨S528x64x2x64, .f32⟩
  | 62 => ⟨S528x64x2x64, .f32⟩
  | 63 => ⟨S528x64x2x64, .f32⟩
  | 64 => ⟨S528x64x2x64, .f32⟩
  | 65 => ⟨S528x64x2x64, .f32⟩
  | 66 => ⟨S528x64x2x64, .f32⟩
  | 67 => ⟨S528x64x2x64, .f32⟩
  | 68 => ⟨S528x64x2x64, .f32⟩
  | 69 => ⟨S528x64x2x64, .f32⟩
  | 70 => ⟨S528x64x2x64, .f32⟩
  | 71 => ⟨S526x64x2x64, .f32⟩
  | 72 => ⟨S_, .f32⟩
  | 73 => ⟨S528x64x2x64, .f32⟩
  | 74 => ⟨S526x64x2x64, .f32⟩
  | 75 => ⟨S_, .f32⟩
  | 76 => ⟨S528x64x2x64, .f32⟩
  | 77 => ⟨S526x64x2x64, .f32⟩
  | 78 => ⟨S_, .f32⟩
  | 79 => ⟨S528x64x2x64, .f32⟩
  | 80 => ⟨S526x64x2x64, .f32⟩
  | 81 => ⟨S_, .f32⟩
  | 82 => ⟨S528x64x2x64, .f32⟩
  | 83 => ⟨S528x64x2x64, .f32⟩
  | 84 => ⟨S528x64x2x64, .f32⟩
  | 85 => ⟨S528x64x2x64, .f32⟩
  | 86 => ⟨S528x64x2x64, .f32⟩
  | 87 => ⟨S528x64x2x64, .f32⟩
  | 88 => ⟨S528x64x2x64, .f32⟩
  | 89 => ⟨S528x64x2x64, .f32⟩
  | 90 => ⟨S528x64x2x64, .f32⟩
  | 91 => ⟨S528x64x2x64, .f32⟩
  | 92 => ⟨S528x64x2x64, .f32⟩
  | 93 => ⟨S528x64x2x64, .f32⟩
  | 94 => ⟨S528x64x2x64, .f32⟩
  | 95 => ⟨S528x64x2x64, .f32⟩
  | 96 => ⟨S528x64x2x64, .f32⟩
  | 97 => ⟨S524x64x2x64, .f32⟩
  | 98 => ⟨S_, .f32⟩
  | 99 => ⟨S528x64x2x64, .f32⟩
  | 100 => ⟨S524x64x2x64, .f32⟩
  | 101 => ⟨S_, .f32⟩
  | 102 => ⟨S528x64x2x64, .f32⟩
  | 103 => ⟨S524x64x2x64, .f32⟩
  | 104 => ⟨S_, .f32⟩
  | 105 => ⟨S528x64x2x64, .f32⟩
  | 106 => ⟨S524x64x2x64, .f32⟩
  | 107 => ⟨S_, .f32⟩
  | 108 => ⟨S528x64x2x64, .f32⟩
  | 109 => ⟨S528x64x2x64, .f32⟩
  | 110 => ⟨S528x64x2x64, .f32⟩
  | 111 => ⟨S528x64x2x64, .f32⟩
  | 112 => ⟨S528x64x2x64, .f32⟩
  | 113 => ⟨S528x64x2x64, .f32⟩
  | 114 => ⟨S528x64x2x64, .f32⟩
  | 115 => ⟨S528x64x2x64, .f32⟩
  | 116 => ⟨S528x64x2x64, .f32⟩
  | 117 => ⟨S528x64x2x64, .f32⟩
  | 118 => ⟨S528x64x2x64, .f32⟩
  | 119 => ⟨S528x64x2x64, .f32⟩
  | 120 => ⟨S528x64x2x64, .f32⟩
  | 121 => ⟨S528x64x2x64, .f32⟩
  | 122 => ⟨S528x64x2x64, .f32⟩
  | 123 => ⟨S520x64x2x64, .f32⟩
  | 124 => ⟨S_, .f32⟩
  | 125 => ⟨S528x64x2x64, .f32⟩
  | 126 => ⟨S520x64x2x64, .f32⟩
  | 127 => ⟨S_, .f32⟩
  | _ => ⟨S8192x1024, .f32⟩

abbrev hbmTy0_1 (i : Nat) : BufTy := match i % 128 with
  | 0 => ⟨S528x64x2x64, .f32⟩
  | 1 => ⟨S520x64x2x64, .f32⟩
  | 2 => ⟨S_, .f32⟩
  | 3 => ⟨S528x64x2x64, .f32⟩
  | 4 => ⟨S520x64x2x64, .f32⟩
  | 5 => ⟨S_, .f32⟩
  | 6 => ⟨S528x64x2x64, .f32⟩
  | 7 => ⟨S528x64x2x64, .f32⟩
  | 8 => ⟨S528x64x2x64, .f32⟩
  | 9 => ⟨S528x64x2x64, .f32⟩
  | 10 => ⟨S528x64x2x64, .f32⟩
  | 11 => ⟨S528x64x2x64, .f32⟩
  | 12 => ⟨S528x64x2x64, .f32⟩
  | 13 => ⟨S528x64x2x64, .f32⟩
  | 14 => ⟨S528x64x2x64, .f32⟩
  | 15 => ⟨S528x64x2x64, .f32⟩
  | 16 => ⟨S528x64x2x64, .f32⟩
  | 17 => ⟨S528x64x2x64, .f32⟩
  | 18 => ⟨S528x64x2x64, .f32⟩
  | 19 => ⟨S528x64x2x64, .f32⟩
  | 20 => ⟨S528x64x2x64, .f32⟩
  | 21 => ⟨S512x64x2x64, .f32⟩
  | 22 => ⟨S_, .f32⟩
  | 23 => ⟨S528x64x2x64, .f32⟩
  | 24 => ⟨S512x64x2x64, .f32⟩
  | 25 => ⟨S_, .f32⟩
  | 26 => ⟨S528x64x2x64, .f32⟩
  | 27 => ⟨S512x64x2x64, .f32⟩
  | 28 => ⟨S_, .f32⟩
  | 29 => ⟨S528x64x2x64, .f32⟩
  | 30 => ⟨S512x64x2x64, .f32⟩
  | 31 => ⟨S_, .f32⟩
  | 32 => ⟨S528x64x2x64, .f32⟩
  | 33 => ⟨S528x64x2x64, .f32⟩
  | 34 => ⟨S528x64x2x64, .f32⟩
  | 35 => ⟨S528x64x2x64, .f32⟩
  | 36 => ⟨S528x64x2x64, .f32⟩
  | 37 => ⟨S528x64x2x64, .f32⟩
  | 38 => ⟨S528x64x2x64, .f32⟩
  | 39 => ⟨S528x64x2x64, .f32⟩
  | 40 => ⟨S528x64x2x64, .f32⟩
  | 41 => ⟨S528x64x2x64, .f32⟩
  | 42 => ⟨S528x64x2x64, .f32⟩
  | 43 => ⟨S528x64x2x64, .f32⟩
  | 44 => ⟨S528x64x2x64, .f32⟩
  | 45 => ⟨S528x64x2x64, .f32⟩
  | 46 => ⟨S528x64x2x64, .f32⟩
  | 47 => ⟨S496x64x2x64, .f32⟩
  | 48 => ⟨S_, .f32⟩
  | 49 => ⟨S528x64x2x64, .f32⟩
  | 50 => ⟨S496x64x2x64, .f32⟩
  | 51 => ⟨S_, .f32⟩
  | 52 => ⟨S528x64x2x64, .f32⟩
  | 53 => ⟨S496x64x2x64, .f32⟩
  | 54 => ⟨S_, .f32⟩
  | 55 => ⟨S528x64x2x64, .f32⟩
  | 56 => ⟨S496x64x2x64, .f32⟩
  | 57 => ⟨S_, .f32⟩
  | 58 => ⟨S528x64x2x64, .f32⟩
  | 59 => ⟨S528x64x2x64, .f32⟩
  | 60 => ⟨S528x64x2x64, .f32⟩
  | 61 => ⟨S528x64x2x64, .f32⟩
  | 62 => ⟨S528x64x2x64, .f32⟩
  | 63 => ⟨S528x64x2x64, .f32⟩
  | 64 => ⟨S528x64x2x64, .f32⟩
  | 65 => ⟨S528x64x2x64, .f32⟩
  | 66 => ⟨S528x64x2x64, .f32⟩
  | 67 => ⟨S528x64x2x64, .f32⟩
  | 68 => ⟨S528x64x2x64, .f32⟩
  | 69 => ⟨S528x64x2x64, .f32⟩
  | 70 => ⟨S528x64x2x64, .f32⟩
  | 71 => ⟨S528x64x2x64, .f32⟩
  | 72 => ⟨S528x64x2x64, .f32⟩
  | 73 => ⟨S464x64x2x64, .f32⟩
  | 74 => ⟨S_, .f32⟩
  | 75 => ⟨S528x64x2x64, .f32⟩
  | 76 => ⟨S464x64x2x64, .f32⟩
  | 77 => ⟨S_, .f32⟩
  | 78 => ⟨S528x64x2x64, .f32⟩
  | 79 => ⟨S464x64x2x64, .f32⟩
  | 80 => ⟨S_, .f32⟩
  | 81 => ⟨S528x64x2x64, .f32⟩
  | 82 => ⟨S464x64x2x64, .f32⟩
  | 83 => ⟨S_, .f32⟩
  | 84 => ⟨S528x64x2x64, .f32⟩
  | 85 => ⟨S528x64x2x64, .f32⟩
  | 86 => ⟨S528x64x2x64, .f32⟩
  | 87 => ⟨S528x64x2x64, .f32⟩
  | 88 => ⟨S528x64x2x64, .f32⟩
  | 89 => ⟨S528x64x2x64, .f32⟩
  | 90 => ⟨S528x64x2x64, .f32⟩
  | 91 => ⟨S528x64x2x64, .f32⟩
  | 92 => ⟨S528x64x2x64, .f32⟩
  | 93 => ⟨S528x64x2x64, .f32⟩
  | 94 => ⟨S528x64x2x64, .f32⟩
  | 95 => ⟨S528x64x2x64, .f32⟩
  | 96 => ⟨S528x64x2x64, .f32⟩
  | 97 => ⟨S528x64x2x64, .f32⟩
  | 98 => ⟨S528x64x2x64, .f32⟩
  | 99 => ⟨S400x64x2x64, .f32⟩
  | 100 => ⟨S_, .f32⟩
  | 101 => ⟨S528x64x2x64, .f32⟩
  | 102 => ⟨S400x64x2x64, .f32⟩
  | 103 => ⟨S_, .f32⟩
  | 104 => ⟨S528x64x2x64, .f32⟩
  | 105 => ⟨S400x64x2x64, .f32⟩
  | 106 => ⟨S_, .f32⟩
  | 107 => ⟨S528x64x2x64, .f32⟩
  | 108 => ⟨S400x64x2x64, .f32⟩
  | 109 => ⟨S_, .f32⟩
  | 110 => ⟨S528x64x2x64, .f32⟩
  | 111 => ⟨S528x64x2x64, .f32⟩
  | 112 => ⟨S528x64x2x64, .f32⟩
  | 113 => ⟨S528x64x2x64, .f32⟩
  | 114 => ⟨S528x64x2x64, .f32⟩
  | 115 => ⟨S528x64x2x64, .f32⟩
  | 116 => ⟨S528x64x2x64, .f32⟩
  | 117 => ⟨S528x64x2x64, .f32⟩
  | 118 => ⟨S528x64x2x64, .f32⟩
  | 119 => ⟨S528x64x2x64, .f32⟩
  | 120 => ⟨S528x64x2x64, .f32⟩
  | 121 => ⟨S528x64x2x64, .f32⟩
  | 122 => ⟨S528x64x2x64, .f32⟩
  | 123 => ⟨S528x64x2x64, .f32⟩
  | 124 => ⟨S528x64x2x64, .f32⟩
  | 125 => ⟨S272x64x2x64, .f32⟩
  | 126 => ⟨S_, .f32⟩
  | 127 => ⟨S528x64x2x64, .f32⟩
  | _ => ⟨S8192x1024, .f32⟩

abbrev hbmTy0_2 (i : Nat) : BufTy := match i % 128 with
  | 0 => ⟨S272x64x2x64, .f32⟩
  | 1 => ⟨S_, .f32⟩
  | 2 => ⟨S528x64x2x64, .f32⟩
  | 3 => ⟨S272x64x2x64, .f32⟩
  | 4 => ⟨S_, .f32⟩
  | 5 => ⟨S528x64x2x64, .f32⟩
  | 6 => ⟨S272x64x2x64, .f32⟩
  | 7 => ⟨S_, .f32⟩
  | 8 => ⟨S528x64x2x64, .f32⟩
  | 9 => ⟨S528x64x2x64, .f32⟩
  | 10 => ⟨S528x64x2x64, .f32⟩
  | 11 => ⟨S528x64x2x64, .f32⟩
  | 12 => ⟨S528x64x2x64, .f32⟩
  | 13 => ⟨S528x64x2x64, .f32⟩
  | 14 => ⟨S528x64x2x64, .f32⟩
  | 15 => ⟨S528x64x2x64, .f32⟩
  | 16 => ⟨S528x64x2x64, .f32⟩
  | 17 => ⟨S528x64x2x64, .f32⟩
  | 18 => ⟨S528x64x2x64, .f32⟩
  | 19 => ⟨S528x64x2x64, .f32⟩
  | 20 => ⟨S528x64x2x64, .f32⟩
  | 21 => ⟨S528x64x2x64, .f32⟩
  | 22 => ⟨S528x64x2x64, .f32⟩
  | 23 => ⟨S16x64x2x64, .f32⟩
  | 24 => ⟨S_, .f32⟩
  | 25 => ⟨S528x64x2x64, .f32⟩
  | 26 => ⟨S16x64x2x64, .f32⟩
  | 27 => ⟨S_, .f32⟩
  | 28 => ⟨S528x64x2x64, .f32⟩
  | 29 => ⟨S16x64x2x64, .f32⟩
  | 30 => ⟨S_, .f32⟩
  | 31 => ⟨S528x64x2x64, .f32⟩
  | 32 => ⟨S16x64x2x64, .f32⟩
  | 33 => ⟨S_, .f32⟩
  | 34 => ⟨S528x64x2x64, .f32⟩
  | 35 => ⟨S528x64x2x64, .f32⟩
  | 36 => ⟨S528x64x2x64, .f32⟩
  | 37 => ⟨S528x64x2x64, .f32⟩
  | 38 => ⟨S528x64x2x64, .f32⟩
  | 39 => ⟨S528x64x2x64, .f32⟩
  | 40 => ⟨S528x64x2x64, .f32⟩
  | 41 => ⟨S528x64x2x64, .f32⟩
  | 42 => ⟨S528x64x2x64, .f32⟩
  | 43 => ⟨S528x64x2x64, .f32⟩
  | 44 => ⟨S528x64x2x64, .f32⟩
  | 45 => ⟨S528x64x2x64, .f32⟩
  | 46 => ⟨S528x64x2x64, .f32⟩
  | 47 => ⟨S528x64x2x64, .f32⟩
  | 48 => ⟨S528x64x2x64, .f32⟩
  | 49 => ⟨S527x64x2x64, .f32⟩
  | 50 => ⟨S_, .f32⟩
  | 51 => ⟨S528x64x2x64, .f32⟩
  | 52 => ⟨S64x528x2x64, .f32⟩
  | 53 => ⟨S64x528x1x64, .f32⟩
  | 54 => ⟨S64x528x64, .f32⟩
  | 55 => ⟨S64x528x1x64, .f32⟩
  | 56 => ⟨S64x528x64, .f32⟩
  | 57 => ⟨S64x16x64, .f32⟩
  | 58 => ⟨S64x16x64, .f32⟩
  | 59 => ⟨S64x512x64, .f32⟩
  | 60 => ⟨S64x512x64, .f32⟩
  | 61 => ⟨S64x528x64, .f32⟩
  | 62 => ⟨S64x528x1x64, .f32⟩
  | 63 => ⟨S64x528x1x64, .f32⟩
  | 64 => ⟨S64x528x2x64, .f32⟩
  | 65 => ⟨S64x528x128, .f32⟩
  | 66 => ⟨S527x64x2x64, .f32⟩
  | 67 => ⟨S_, .f32⟩
  | 68 => ⟨S528x64x2x64, .f32⟩
  | 69 => ⟨S64x528x2x64, .f32⟩
  | 70 => ⟨S64x528x1x64, .f32⟩
  | 71 => ⟨S64x528x64, .f32⟩
  | 72 => ⟨S64x528x1x64, .f32⟩
  | 73 => ⟨S64x528x64, .f32⟩
  | 74 => ⟨S64x16x64, .f32⟩
  | 75 => ⟨S64x16x64, .f32⟩
  | 76 => ⟨S64x512x64, .f32⟩
  | 77 => ⟨S64x512x64, .f32⟩
  | 78 => ⟨S64x528x64, .f32⟩
  | 79 => ⟨S64x528x1x64, .f32⟩
  | 80 => ⟨S64x528x1x64, .f32⟩
  | 81 => ⟨S64x528x2x64, .f32⟩
  | 82 => ⟨S64x528x128, .f32⟩
  | 83 => ⟨S16x16x8x8x16, .f32⟩
  | 84 => ⟨S8x16x8x16x16, .f32⟩
  | 85 => ⟨S8x16x2048, .f32⟩
  | 86 => ⟨S512x16x8x8x16, .f32⟩
  | 87 => ⟨S8x512x8x16x16, .f32⟩
  | 88 => ⟨S8x512x2048, .f32⟩
  | 89 => ⟨S8x528x2048, .f32⟩
  | 90 => ⟨S8x528x2048, .bf16⟩
  | 91 => ⟨S4x2x8x528x2x64, .f32⟩
  | 92 => ⟨S4x2x8x528x1x64, .f32⟩
  | 93 => ⟨S4x2x8x528x64, .f32⟩
  | 94 => ⟨S4x8x528x2x64, .f32⟩
  | 95 => ⟨S32x528x128, .f32⟩
  | 96 => ⟨S4x2x8x528x2x64, .f32⟩
  | 97 => ⟨S4x2x8x528x1x64, .f32⟩
  | 98 => ⟨S4x2x8x528x64, .f32⟩
  | 99 => ⟨S4x8x528x2x64, .f32⟩
  | 100 => ⟨S32x528x128, .f32⟩
  | 101 => ⟨S4x2x8x528x2x64, .f32⟩
  | 102 => ⟨S4x2x8x528x1x64, .f32⟩
  | 103 => ⟨S4x2x8x528x64, .f32⟩
  | 104 => ⟨S4x8x528x2x64, .f32⟩
  | 105 => ⟨S32x528x128, .f32⟩
  | 106 => ⟨S4x2x8x528x2x64, .f32⟩
  | 107 => ⟨S4x2x8x528x1x64, .f32⟩
  | 108 => ⟨S4x2x8x528x64, .f32⟩
  | 109 => ⟨S4x8x528x2x64, .f32⟩
  | 110 => ⟨S32x528x128, .f32⟩
  | 111 => ⟨S4x2x8x528x2x64, .f32⟩
  | 112 => ⟨S4x2x8x528x1x64, .f32⟩
  | 113 => ⟨S4x2x8x528x64, .f32⟩
  | 114 => ⟨S4x8x528x2x64, .f32⟩
  | 115 => ⟨S32x528x128, .f32⟩
  | 116 => ⟨S4x2x8x528x2x64, .f32⟩
  | 117 => ⟨S4x2x8x528x1x64, .f32⟩
  | 118 => ⟨S4x2x8x528x64, .f32⟩
  | 119 => ⟨S4x8x528x2x64, .f32⟩
  | 120 => ⟨S32x528x128, .f32⟩
  | 121 => ⟨S4x2x8x528x2x64, .f32⟩
  | 122 => ⟨S4x2x8x528x1x64, .f32⟩
  | 123 => ⟨S4x2x8x528x64, .f32⟩
  | 124 => ⟨S4x8x528x2x64, .f32⟩
  | 125 => ⟨S32x528x128, .f32⟩
  | 126 => ⟨S4x2x8x528x2x64, .f32⟩
  | 127 => ⟨S4x2x8x528x1x64, .f32⟩
  | _ => ⟨S8192x1024, .f32⟩

abbrev hbmTy0_3 (i : Nat) : BufTy := match i % 128 with
  | 0 => ⟨S4x2x8x528x64, .f32⟩
  | 1 => ⟨S4x8x528x2x64, .f32⟩
  | 2 => ⟨S32x528x128, .f32⟩
  | 3 => ⟨S512x16x8x8x16, .f32⟩
  | 4 => ⟨S8x512x8x16x16, .f32⟩
  | 5 => ⟨S8x512x2048, .f32⟩
  | 6 => ⟨S8x512x2048, .bf16⟩
  | 7 => ⟨S64x256x256, .f32⟩
  | 8 => ⟨S64x256x256, .f32⟩
  | 9 => ⟨S64x256, .f32⟩
  | _ => ⟨S8192x1024, .f32⟩

abbrev hbmTy (i : Nat) : BufTy := match i / 128 with
  | 0 => hbmTy0_0 i
  | 1 => hbmTy0_1 i
  | 2 => hbmTy0_2 i
  | 3 => hbmTy0_3 i
  | _ => ⟨S8192x1024, .f32⟩

abbrev bufTy : (tb : Table) → Fin (tcTables nBuf tb) → BufTy
  | .hbm, ⟨i, _⟩ => hbmTy i
  | .local _ .vmem, ⟨0, _⟩ => ⟨S1x528x2048, .bf16⟩
  | .local _ .vmem, ⟨1, _⟩ => ⟨S1x528x2048, .bf16⟩
  | .local _ .vmem, ⟨2, _⟩ => ⟨S1x512x2048, .bf16⟩
  | .local _ .vmem, ⟨3, _⟩ => ⟨S1x512x2048, .bf16⟩
  | .local _ .vmem, ⟨4, _⟩ => ⟨S8x528x128, .f32⟩
  | .local _ .vmem, ⟨5, _⟩ => ⟨S8x528x128, .f32⟩
  | .local _ .vmem, ⟨6, _⟩ => ⟨S8x528x128, .f32⟩
  | .local _ .vmem, ⟨7, _⟩ => ⟨S8x528x128, .f32⟩
  | .local _ .vmem, ⟨8, _⟩ => ⟨S8x528x128, .f32⟩
  | .local _ .vmem, ⟨9, _⟩ => ⟨S8x528x128, .f32⟩
  | .local _ .vmem, ⟨10, _⟩ => ⟨S8x528x128, .f32⟩
  | .local _ .vmem, ⟨11, _⟩ => ⟨S8x528x128, .f32⟩
  | .local _ .vmem, ⟨12, _⟩ => ⟨S8x528x128, .f32⟩
  | .local _ .vmem, ⟨13, _⟩ => ⟨S8x528x128, .f32⟩
  | .local _ .vmem, ⟨14, _⟩ => ⟨S8x528x128, .f32⟩
  | .local _ .vmem, ⟨15, _⟩ => ⟨S8x528x128, .f32⟩
  | .local _ .vmem, ⟨16, _⟩ => ⟨S8x528x128, .f32⟩
  | .local _ .vmem, ⟨17, _⟩ => ⟨S8x528x128, .f32⟩
  | .local _ .vmem, ⟨18, _⟩ => ⟨S8x528x128, .f32⟩
  | .local _ .vmem, ⟨19, _⟩ => ⟨S8x528x128, .f32⟩
  | .local _ .vmem, ⟨20, _⟩ => ⟨S8x256x256, .f32⟩
  | .local _ .vmem, ⟨21, _⟩ => ⟨S8x256x256, .f32⟩
  | .local _ .vmem, ⟨22, _⟩ => ⟨S8x256x256, .f32⟩
  | .local _ .vmem, ⟨23, _⟩ => ⟨S8x256x256, .f32⟩
  | .local _ .vmem, ⟨24, _⟩ => ⟨S8x256, .f32⟩
  | .local _ .vmem, ⟨25, _⟩ => ⟨S8x256, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_cst : Ref sig .tc := ⟨.hbm, 46, rfl⟩
abbrev main_v38 : Ref sig .tc := ⟨.hbm, 47, rfl⟩
abbrev main_v39 : Ref sig .tc := ⟨.hbm, 48, rfl⟩
abbrev main_cst_0 : Ref sig .tc := ⟨.hbm, 49, rfl⟩
abbrev main_v40 : Ref sig .tc := ⟨.hbm, 50, rfl⟩
abbrev main_v41 : Ref sig .tc := ⟨.hbm, 51, rfl⟩
abbrev main_cst_1 : Ref sig .tc := ⟨.hbm, 52, rfl⟩
abbrev main_v42 : Ref sig .tc := ⟨.hbm, 53, rfl⟩
abbrev main_v43 : Ref sig .tc := ⟨.hbm, 54, rfl⟩
abbrev main_cst_2 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩
abbrev main_v55 : Ref sig .tc := ⟨.hbm, 67, rfl⟩
abbrev main_v56 : Ref sig .tc := ⟨.hbm, 68, rfl⟩
abbrev main_v57 : Ref sig .tc := ⟨.hbm, 69, rfl⟩
abbrev main_v58 : Ref sig .tc := ⟨.hbm, 70, rfl⟩
abbrev main_v59 : Ref sig .tc := ⟨.hbm, 71, rfl⟩
abbrev main_cst_3 : Ref sig .tc := ⟨.hbm, 72, rfl⟩
abbrev main_v60 : Ref sig .tc := ⟨.hbm, 73, rfl⟩
abbrev main_v61 : Ref sig .tc := ⟨.hbm, 74, rfl⟩
abbrev main_cst_4 : Ref sig .tc := ⟨.hbm, 75, rfl⟩
abbrev main_v62 : Ref sig .tc := ⟨.hbm, 76, rfl⟩
abbrev main_v63 : Ref sig .tc := ⟨.hbm, 77, rfl⟩
abbrev main_cst_5 : Ref sig .tc := ⟨.hbm, 78, rfl⟩
abbrev main_v64 : Ref sig .tc := ⟨.hbm, 79, rfl⟩
abbrev main_v65 : Ref sig .tc := ⟨.hbm, 80, rfl⟩
abbrev main_cst_6 : Ref sig .tc := ⟨.hbm, 81, rfl⟩
abbrev main_v66 : Ref sig .tc := ⟨.hbm, 82, rfl⟩
abbrev main_v67 : Ref sig .tc := ⟨.hbm, 83, rfl⟩
abbrev main_v68 : Ref sig .tc := ⟨.hbm, 84, rfl⟩
abbrev main_v69 : Ref sig .tc := ⟨.hbm, 85, rfl⟩
abbrev main_v70 : Ref sig .tc := ⟨.hbm, 86, rfl⟩
abbrev main_v71 : Ref sig .tc := ⟨.hbm, 87, rfl⟩
abbrev main_v72 : Ref sig .tc := ⟨.hbm, 88, rfl⟩
abbrev main_v73 : Ref sig .tc := ⟨.hbm, 89, rfl⟩
abbrev main_v74 : Ref sig .tc := ⟨.hbm, 90, rfl⟩
abbrev main_v75 : Ref sig .tc := ⟨.hbm, 91, rfl⟩
abbrev main_v76 : Ref sig .tc := ⟨.hbm, 92, rfl⟩
abbrev main_v77 : Ref sig .tc := ⟨.hbm, 93, rfl⟩
abbrev main_v78 : Ref sig .tc := ⟨.hbm, 94, rfl⟩
abbrev main_v79 : Ref sig .tc := ⟨.hbm, 95, rfl⟩
abbrev main_v80 : Ref sig .tc := ⟨.hbm, 96, rfl⟩
abbrev main_v81 : Ref sig .tc := ⟨.hbm, 97, rfl⟩
abbrev main_cst_7 : Ref sig .tc := ⟨.hbm, 98, rfl⟩
abbrev main_v82 : Ref sig .tc := ⟨.hbm, 99, rfl⟩
abbrev main_v83 : Ref sig .tc := ⟨.hbm, 100, rfl⟩
abbrev main_cst_8 : Ref sig .tc := ⟨.hbm, 101, rfl⟩
abbrev main_v84 : Ref sig .tc := ⟨.hbm, 102, rfl⟩
abbrev main_v85 : Ref sig .tc := ⟨.hbm, 103, rfl⟩
abbrev main_cst_9 : Ref sig .tc := ⟨.hbm, 104, rfl⟩
abbrev main_v86 : Ref sig .tc := ⟨.hbm, 105, rfl⟩
abbrev main_v87 : Ref sig .tc := ⟨.hbm, 106, rfl⟩
abbrev main_cst_10 : Ref sig .tc := ⟨.hbm, 107, rfl⟩
abbrev main_v88 : Ref sig .tc := ⟨.hbm, 108, rfl⟩
abbrev main_v89 : Ref sig .tc := ⟨.hbm, 109, rfl⟩
abbrev main_v90 : Ref sig .tc := ⟨.hbm, 110, rfl⟩
abbrev main_v91 : Ref sig .tc := ⟨.hbm, 111, rfl⟩
abbrev main_v92 : Ref sig .tc := ⟨.hbm, 112, rfl⟩
abbrev main_v93 : Ref sig .tc := ⟨.hbm, 113, rfl⟩
abbrev main_v94 : Ref sig .tc := ⟨.hbm, 114, rfl⟩
abbrev main_v95 : Ref sig .tc := ⟨.hbm, 115, rfl⟩
abbrev main_v96 : Ref sig .tc := ⟨.hbm, 116, rfl⟩
abbrev main_v97 : Ref sig .tc := ⟨.hbm, 117, rfl⟩
abbrev main_v98 : Ref sig .tc := ⟨.hbm, 118, rfl⟩
abbrev main_v99 : Ref sig .tc := ⟨.hbm, 119, rfl⟩
abbrev main_v100 : Ref sig .tc := ⟨.hbm, 120, rfl⟩
abbrev main_v101 : Ref sig .tc := ⟨.hbm, 121, rfl⟩
abbrev main_v102 : Ref sig .tc := ⟨.hbm, 122, rfl⟩
abbrev main_v103 : Ref sig .tc := ⟨.hbm, 123, rfl⟩
abbrev main_cst_11 : Ref sig .tc := ⟨.hbm, 124, rfl⟩
abbrev main_v104 : Ref sig .tc := ⟨.hbm, 125, rfl⟩
abbrev main_v105 : Ref sig .tc := ⟨.hbm, 126, rfl⟩
abbrev main_cst_12 : Ref sig .tc := ⟨.hbm, 127, rfl⟩
abbrev main_v106 : Ref sig .tc := ⟨.hbm, 128, rfl⟩
abbrev main_v107 : Ref sig .tc := ⟨.hbm, 129, rfl⟩
abbrev main_cst_13 : Ref sig .tc := ⟨.hbm, 130, rfl⟩
abbrev main_v108 : Ref sig .tc := ⟨.hbm, 131, rfl⟩
abbrev main_v109 : Ref sig .tc := ⟨.hbm, 132, rfl⟩
abbrev main_cst_14 : Ref sig .tc := ⟨.hbm, 133, rfl⟩
abbrev main_v110 : Ref sig .tc := ⟨.hbm, 134, rfl⟩
abbrev main_v111 : Ref sig .tc := ⟨.hbm, 135, rfl⟩
abbrev main_v112 : Ref sig .tc := ⟨.hbm, 136, rfl⟩
abbrev main_v113 : Ref sig .tc := ⟨.hbm, 137, rfl⟩
abbrev main_v114 : Ref sig .tc := ⟨.hbm, 138, rfl⟩
abbrev main_v115 : Ref sig .tc := ⟨.hbm, 139, rfl⟩
abbrev main_v116 : Ref sig .tc := ⟨.hbm, 140, rfl⟩
abbrev main_v117 : Ref sig .tc := ⟨.hbm, 141, rfl⟩
abbrev main_v118 : Ref sig .tc := ⟨.hbm, 142, rfl⟩
abbrev main_v119 : Ref sig .tc := ⟨.hbm, 143, rfl⟩
abbrev main_v120 : Ref sig .tc := ⟨.hbm, 144, rfl⟩
abbrev main_v121 : Ref sig .tc := ⟨.hbm, 145, rfl⟩
abbrev main_v122 : Ref sig .tc := ⟨.hbm, 146, rfl⟩
abbrev main_v123 : Ref sig .tc := ⟨.hbm, 147, rfl⟩
abbrev main_v124 : Ref sig .tc := ⟨.hbm, 148, rfl⟩
abbrev main_v125 : Ref sig .tc := ⟨.hbm, 149, rfl⟩
abbrev main_cst_15 : Ref sig .tc := ⟨.hbm, 150, rfl⟩
abbrev main_v126 : Ref sig .tc := ⟨.hbm, 151, rfl⟩
abbrev main_v127 : Ref sig .tc := ⟨.hbm, 152, rfl⟩
abbrev main_cst_16 : Ref sig .tc := ⟨.hbm, 153, rfl⟩
abbrev main_v128 : Ref sig .tc := ⟨.hbm, 154, rfl⟩
abbrev main_v129 : Ref sig .tc := ⟨.hbm, 155, rfl⟩
abbrev main_cst_17 : Ref sig .tc := ⟨.hbm, 156, rfl⟩
abbrev main_v130 : Ref sig .tc := ⟨.hbm, 157, rfl⟩
abbrev main_v131 : Ref sig .tc := ⟨.hbm, 158, rfl⟩
abbrev main_cst_18 : Ref sig .tc := ⟨.hbm, 159, rfl⟩
abbrev main_v132 : Ref sig .tc := ⟨.hbm, 160, rfl⟩
abbrev main_v133 : Ref sig .tc := ⟨.hbm, 161, rfl⟩
abbrev main_v134 : Ref sig .tc := ⟨.hbm, 162, rfl⟩
abbrev main_v135 : Ref sig .tc := ⟨.hbm, 163, rfl⟩
abbrev main_v136 : Ref sig .tc := ⟨.hbm, 164, rfl⟩
abbrev main_v137 : Ref sig .tc := ⟨.hbm, 165, rfl⟩
abbrev main_v138 : Ref sig .tc := ⟨.hbm, 166, rfl⟩
abbrev main_v139 : Ref sig .tc := ⟨.hbm, 167, rfl⟩
abbrev main_v140 : Ref sig .tc := ⟨.hbm, 168, rfl⟩
abbrev main_v141 : Ref sig .tc := ⟨.hbm, 169, rfl⟩
abbrev main_v142 : Ref sig .tc := ⟨.hbm, 170, rfl⟩
abbrev main_v143 : Ref sig .tc := ⟨.hbm, 171, rfl⟩
abbrev main_v144 : Ref sig .tc := ⟨.hbm, 172, rfl⟩
abbrev main_v145 : Ref sig .tc := ⟨.hbm, 173, rfl⟩
abbrev main_v146 : Ref sig .tc := ⟨.hbm, 174, rfl⟩
abbrev main_v147 : Ref sig .tc := ⟨.hbm, 175, rfl⟩
abbrev main_cst_19 : Ref sig .tc := ⟨.hbm, 176, rfl⟩
abbrev main_v148 : Ref sig .tc := ⟨.hbm, 177, rfl⟩
abbrev main_v149 : Ref sig .tc := ⟨.hbm, 178, rfl⟩
abbrev main_cst_20 : Ref sig .tc := ⟨.hbm, 179, rfl⟩
abbrev main_v150 : Ref sig .tc := ⟨.hbm, 180, rfl⟩
abbrev main_v151 : Ref sig .tc := ⟨.hbm, 181, rfl⟩
abbrev main_cst_21 : Ref sig .tc := ⟨.hbm, 182, rfl⟩
abbrev main_v152 : Ref sig .tc := ⟨.hbm, 183, rfl⟩
abbrev main_v153 : Ref sig .tc := ⟨.hbm, 184, rfl⟩
abbrev main_cst_22 : Ref sig .tc := ⟨.hbm, 185, rfl⟩
abbrev main_v154 : Ref sig .tc := ⟨.hbm, 186, rfl⟩
abbrev main_v155 : Ref sig .tc := ⟨.hbm, 187, rfl⟩
abbrev main_v156 : Ref sig .tc := ⟨.hbm, 188, rfl⟩
abbrev main_v157 : Ref sig .tc := ⟨.hbm, 189, rfl⟩
abbrev main_v158 : Ref sig .tc := ⟨.hbm, 190, rfl⟩
abbrev main_v159 : Ref sig .tc := ⟨.hbm, 191, rfl⟩
abbrev main_v160 : Ref sig .tc := ⟨.hbm, 192, rfl⟩
abbrev main_v161 : Ref sig .tc := ⟨.hbm, 193, rfl⟩
abbrev main_v162 : Ref sig .tc := ⟨.hbm, 194, rfl⟩
abbrev main_v163 : Ref sig .tc := ⟨.hbm, 195, rfl⟩
abbrev main_v164 : Ref sig .tc := ⟨.hbm, 196, rfl⟩
abbrev main_v165 : Ref sig .tc := ⟨.hbm, 197, rfl⟩
abbrev main_v166 : Ref sig .tc := ⟨.hbm, 198, rfl⟩
abbrev main_v167 : Ref sig .tc := ⟨.hbm, 199, rfl⟩
abbrev main_v168 : Ref sig .tc := ⟨.hbm, 200, rfl⟩
abbrev main_v169 : Ref sig .tc := ⟨.hbm, 201, rfl⟩
abbrev main_cst_23 : Ref sig .tc := ⟨.hbm, 202, rfl⟩
abbrev main_v170 : Ref sig .tc := ⟨.hbm, 203, rfl⟩
abbrev main_v171 : Ref sig .tc := ⟨.hbm, 204, rfl⟩
abbrev main_cst_24 : Ref sig .tc := ⟨.hbm, 205, rfl⟩
abbrev main_v172 : Ref sig .tc := ⟨.hbm, 206, rfl⟩
abbrev main_v173 : Ref sig .tc := ⟨.hbm, 207, rfl⟩
abbrev main_cst_25 : Ref sig .tc := ⟨.hbm, 208, rfl⟩
abbrev main_v174 : Ref sig .tc := ⟨.hbm, 209, rfl⟩
abbrev main_v175 : Ref sig .tc := ⟨.hbm, 210, rfl⟩
abbrev main_cst_26 : Ref sig .tc := ⟨.hbm, 211, rfl⟩
abbrev main_v176 : Ref sig .tc := ⟨.hbm, 212, rfl⟩
abbrev main_v177 : Ref sig .tc := ⟨.hbm, 213, rfl⟩
abbrev main_v178 : Ref sig .tc := ⟨.hbm, 214, rfl⟩
abbrev main_v179 : Ref sig .tc := ⟨.hbm, 215, rfl⟩
abbrev main_v180 : Ref sig .tc := ⟨.hbm, 216, rfl⟩
abbrev main_v181 : Ref sig .tc := ⟨.hbm, 217, rfl⟩
abbrev main_v182 : Ref sig .tc := ⟨.hbm, 218, rfl⟩
abbrev main_v183 : Ref sig .tc := ⟨.hbm, 219, rfl⟩
abbrev main_v184 : Ref sig .tc := ⟨.hbm, 220, rfl⟩
abbrev main_v185 : Ref sig .tc := ⟨.hbm, 221, rfl⟩
abbrev main_v186 : Ref sig .tc := ⟨.hbm, 222, rfl⟩
abbrev main_v187 : Ref sig .tc := ⟨.hbm, 223, rfl⟩
abbrev main_v188 : Ref sig .tc := ⟨.hbm, 224, rfl⟩
abbrev main_v189 : Ref sig .tc := ⟨.hbm, 225, rfl⟩
abbrev main_v190 : Ref sig .tc := ⟨.hbm, 226, rfl⟩
abbrev main_v191 : Ref sig .tc := ⟨.hbm, 227, rfl⟩
abbrev main_cst_27 : Ref sig .tc := ⟨.hbm, 228, rfl⟩
abbrev main_v192 : Ref sig .tc := ⟨.hbm, 229, rfl⟩
abbrev main_v193 : Ref sig .tc := ⟨.hbm, 230, rfl⟩
abbrev main_cst_28 : Ref sig .tc := ⟨.hbm, 231, rfl⟩
abbrev main_v194 : Ref sig .tc := ⟨.hbm, 232, rfl⟩
abbrev main_v195 : Ref sig .tc := ⟨.hbm, 233, rfl⟩
abbrev main_cst_29 : Ref sig .tc := ⟨.hbm, 234, rfl⟩
abbrev main_v196 : Ref sig .tc := ⟨.hbm, 235, rfl⟩
abbrev main_v197 : Ref sig .tc := ⟨.hbm, 236, rfl⟩
abbrev main_cst_30 : Ref sig .tc := ⟨.hbm, 237, rfl⟩
abbrev main_v198 : Ref sig .tc := ⟨.hbm, 238, rfl⟩
abbrev main_v199 : Ref sig .tc := ⟨.hbm, 239, rfl⟩
abbrev main_v200 : Ref sig .tc := ⟨.hbm, 240, rfl⟩
abbrev main_v201 : Ref sig .tc := ⟨.hbm, 241, rfl⟩
abbrev main_v202 : Ref sig .tc := ⟨.hbm, 242, rfl⟩
abbrev main_v203 : Ref sig .tc := ⟨.hbm, 243, rfl⟩
abbrev main_v204 : Ref sig .tc := ⟨.hbm, 244, rfl⟩
abbrev main_v205 : Ref sig .tc := ⟨.hbm, 245, rfl⟩
abbrev main_v206 : Ref sig .tc := ⟨.hbm, 246, rfl⟩
abbrev main_v207 : Ref sig .tc := ⟨.hbm, 247, rfl⟩
abbrev main_v208 : Ref sig .tc := ⟨.hbm, 248, rfl⟩
abbrev main_v209 : Ref sig .tc := ⟨.hbm, 249, rfl⟩
abbrev main_v210 : Ref sig .tc := ⟨.hbm, 250, rfl⟩
abbrev main_v211 : Ref sig .tc := ⟨.hbm, 251, rfl⟩
abbrev main_v212 : Ref sig .tc := ⟨.hbm, 252, rfl⟩
abbrev main_v213 : Ref sig .tc := ⟨.hbm, 253, rfl⟩
abbrev main_cst_31 : Ref sig .tc := ⟨.hbm, 254, rfl⟩
abbrev main_v214 : Ref sig .tc := ⟨.hbm, 255, rfl⟩
abbrev main_v215 : Ref sig .tc := ⟨.hbm, 256, rfl⟩
abbrev main_cst_32 : Ref sig .tc := ⟨.hbm, 257, rfl⟩
abbrev main_v216 : Ref sig .tc := ⟨.hbm, 258, rfl⟩
abbrev main_v217 : Ref sig .tc := ⟨.hbm, 259, rfl⟩
abbrev main_cst_33 : Ref sig .tc := ⟨.hbm, 260, rfl⟩
abbrev main_v218 : Ref sig .tc := ⟨.hbm, 261, rfl⟩
abbrev main_v219 : Ref sig .tc := ⟨.hbm, 262, rfl⟩
abbrev main_cst_34 : Ref sig .tc := ⟨.hbm, 263, rfl⟩
abbrev main_v220 : Ref sig .tc := ⟨.hbm, 264, rfl⟩
abbrev main_v221 : Ref sig .tc := ⟨.hbm, 265, rfl⟩
abbrev main_v222 : Ref sig .tc := ⟨.hbm, 266, rfl⟩
abbrev main_v223 : Ref sig .tc := ⟨.hbm, 267, rfl⟩
abbrev main_v224 : Ref sig .tc := ⟨.hbm, 268, rfl⟩
abbrev main_v225 : Ref sig .tc := ⟨.hbm, 269, rfl⟩
abbrev main_v226 : Ref sig .tc := ⟨.hbm, 270, rfl⟩
abbrev main_v227 : Ref sig .tc := ⟨.hbm, 271, rfl⟩
abbrev main_v228 : Ref sig .tc := ⟨.hbm, 272, rfl⟩
abbrev main_v229 : Ref sig .tc := ⟨.hbm, 273, rfl⟩
abbrev main_v230 : Ref sig .tc := ⟨.hbm, 274, rfl⟩
abbrev main_v231 : Ref sig .tc := ⟨.hbm, 275, rfl⟩
abbrev main_v232 : Ref sig .tc := ⟨.hbm, 276, rfl⟩
abbrev main_v233 : Ref sig .tc := ⟨.hbm, 277, rfl⟩
abbrev main_v234 : Ref sig .tc := ⟨.hbm, 278, rfl⟩
abbrev main_v235 : Ref sig .tc := ⟨.hbm, 279, rfl⟩
abbrev main_cst_35 : Ref sig .tc := ⟨.hbm, 280, rfl⟩
abbrev main_v236 : Ref sig .tc := ⟨.hbm, 281, rfl⟩
abbrev main_v237 : Ref sig .tc := ⟨.hbm, 282, rfl⟩
abbrev main_cst_36 : Ref sig .tc := ⟨.hbm, 283, rfl⟩
abbrev main_v238 : Ref sig .tc := ⟨.hbm, 284, rfl⟩
abbrev main_v239 : Ref sig .tc := ⟨.hbm, 285, rfl⟩
abbrev main_cst_37 : Ref sig .tc := ⟨.hbm, 286, rfl⟩
abbrev main_v240 : Ref sig .tc := ⟨.hbm, 287, rfl⟩
abbrev main_v241 : Ref sig .tc := ⟨.hbm, 288, rfl⟩
abbrev main_cst_38 : Ref sig .tc := ⟨.hbm, 289, rfl⟩
abbrev main_v242 : Ref sig .tc := ⟨.hbm, 290, rfl⟩
abbrev main_v243 : Ref sig .tc := ⟨.hbm, 291, rfl⟩
abbrev main_v244 : Ref sig .tc := ⟨.hbm, 292, rfl⟩
abbrev main_v245 : Ref sig .tc := ⟨.hbm, 293, rfl⟩
abbrev main_v246 : Ref sig .tc := ⟨.hbm, 294, rfl⟩
abbrev main_v247 : Ref sig .tc := ⟨.hbm, 295, rfl⟩
abbrev main_v248 : Ref sig .tc := ⟨.hbm, 296, rfl⟩
abbrev main_v249 : Ref sig .tc := ⟨.hbm, 297, rfl⟩
abbrev main_v250 : Ref sig .tc := ⟨.hbm, 298, rfl⟩
abbrev main_v251 : Ref sig .tc := ⟨.hbm, 299, rfl⟩
abbrev main_v252 : Ref sig .tc := ⟨.hbm, 300, rfl⟩
abbrev main_v253 : Ref sig .tc := ⟨.hbm, 301, rfl⟩
abbrev main_v254 : Ref sig .tc := ⟨.hbm, 302, rfl⟩
abbrev main_v255 : Ref sig .tc := ⟨.hbm, 303, rfl⟩
abbrev main_v256 : Ref sig .tc := ⟨.hbm, 304, rfl⟩
abbrev main_v257 : Ref sig .tc := ⟨.hbm, 305, rfl⟩
abbrev main_cst_39 : Ref sig .tc := ⟨.hbm, 306, rfl⟩
abbrev main_v258 : Ref sig .tc := ⟨.hbm, 307, rfl⟩
abbrev main_v259 : Ref sig .tc := ⟨.hbm, 308, rfl⟩
abbrev main_v260 : Ref sig .tc := ⟨.hbm, 309, rfl⟩
abbrev main_v261 : Ref sig .tc := ⟨.hbm, 310, rfl⟩
abbrev main_v262 : Ref sig .tc := ⟨.hbm, 311, rfl⟩
abbrev main_v263 : Ref sig .tc := ⟨.hbm, 312, rfl⟩
abbrev main_v264 : Ref sig .tc := ⟨.hbm, 313, rfl⟩
abbrev main_v265 : Ref sig .tc := ⟨.hbm, 314, rfl⟩
abbrev main_v266 : Ref sig .tc := ⟨.hbm, 315, rfl⟩
abbrev main_v267 : Ref sig .tc := ⟨.hbm, 316, rfl⟩
abbrev main_v268 : Ref sig .tc := ⟨.hbm, 317, rfl⟩
abbrev main_v269 : Ref sig .tc := ⟨.hbm, 318, rfl⟩
abbrev main_v270 : Ref sig .tc := ⟨.hbm, 319, rfl⟩
abbrev main_v271 : Ref sig .tc := ⟨.hbm, 320, rfl⟩
abbrev main_v272 : Ref sig .tc := ⟨.hbm, 321, rfl⟩
abbrev main_v273 : Ref sig .tc := ⟨.hbm, 322, rfl⟩
abbrev main_cst_40 : Ref sig .tc := ⟨.hbm, 323, rfl⟩
abbrev main_v274 : Ref sig .tc := ⟨.hbm, 324, rfl⟩
abbrev main_v275 : Ref sig .tc := ⟨.hbm, 325, rfl⟩
abbrev main_v276 : Ref sig .tc := ⟨.hbm, 326, rfl⟩
abbrev main_v277 : Ref sig .tc := ⟨.hbm, 327, rfl⟩
abbrev main_v278 : Ref sig .tc := ⟨.hbm, 328, rfl⟩
abbrev main_v279 : Ref sig .tc := ⟨.hbm, 329, rfl⟩
abbrev main_v280 : Ref sig .tc := ⟨.hbm, 330, rfl⟩
abbrev main_v281 : Ref sig .tc := ⟨.hbm, 331, rfl⟩
abbrev main_v282 : Ref sig .tc := ⟨.hbm, 332, rfl⟩
abbrev main_v283 : Ref sig .tc := ⟨.hbm, 333, rfl⟩
abbrev main_v284 : Ref sig .tc := ⟨.hbm, 334, rfl⟩
abbrev main_v285 : Ref sig .tc := ⟨.hbm, 335, rfl⟩
abbrev main_v286 : Ref sig .tc := ⟨.hbm, 336, rfl⟩
abbrev main_v287 : Ref sig .tc := ⟨.hbm, 337, rfl⟩
abbrev main_v288 : Ref sig .tc := ⟨.hbm, 338, rfl⟩
abbrev main_v289 : Ref sig .tc := ⟨.hbm, 339, rfl⟩
abbrev main_v290 : Ref sig .tc := ⟨.hbm, 340, rfl⟩
abbrev main_v291 : Ref sig .tc := ⟨.hbm, 341, rfl⟩
abbrev main_v292 : Ref sig .tc := ⟨.hbm, 342, rfl⟩
abbrev main_v293 : Ref sig .tc := ⟨.hbm, 343, rfl⟩
abbrev main_v294 : Ref sig .tc := ⟨.hbm, 344, rfl⟩
abbrev main_v295 : Ref sig .tc := ⟨.hbm, 345, rfl⟩
abbrev main_v296 : Ref sig .tc := ⟨.hbm, 346, rfl⟩
abbrev main_v297 : Ref sig .tc := ⟨.hbm, 347, rfl⟩
abbrev main_v298 : Ref sig .tc := ⟨.hbm, 348, rfl⟩
abbrev main_v299 : Ref sig .tc := ⟨.hbm, 349, rfl⟩
abbrev main_v300 : Ref sig .tc := ⟨.hbm, 350, rfl⟩
abbrev main_v301 : Ref sig .tc := ⟨.hbm, 351, rfl⟩
abbrev main_v302 : Ref sig .tc := ⟨.hbm, 352, rfl⟩
abbrev main_v303 : Ref sig .tc := ⟨.hbm, 353, rfl⟩
abbrev main_v304 : Ref sig .tc := ⟨.hbm, 354, rfl⟩
abbrev main_v305 : Ref sig .tc := ⟨.hbm, 355, rfl⟩
abbrev main_v306 : Ref sig .tc := ⟨.hbm, 356, rfl⟩
abbrev main_v307 : Ref sig .tc := ⟨.hbm, 357, rfl⟩
abbrev main_v308 : Ref sig .tc := ⟨.hbm, 358, rfl⟩
abbrev main_v309 : Ref sig .tc := ⟨.hbm, 359, rfl⟩
abbrev main_v310 : Ref sig .tc := ⟨.hbm, 360, rfl⟩
abbrev main_v311 : Ref sig .tc := ⟨.hbm, 361, rfl⟩
abbrev main_v312 : Ref sig .tc := ⟨.hbm, 362, rfl⟩
abbrev main_v313 : Ref sig .tc := ⟨.hbm, 363, rfl⟩
abbrev main_v314 : Ref sig .tc := ⟨.hbm, 364, rfl⟩
abbrev main_v315 : Ref sig .tc := ⟨.hbm, 365, rfl⟩
abbrev main_v316 : Ref sig .tc := ⟨.hbm, 366, rfl⟩
abbrev main_v317 : Ref sig .tc := ⟨.hbm, 367, rfl⟩
abbrev main_v318 : Ref sig .tc := ⟨.hbm, 368, rfl⟩
abbrev main_v319 : Ref sig .tc := ⟨.hbm, 369, rfl⟩
abbrev main_v320 : Ref sig .tc := ⟨.hbm, 370, rfl⟩
abbrev main_v321 : Ref sig .tc := ⟨.hbm, 371, rfl⟩
abbrev main_v322 : Ref sig .tc := ⟨.hbm, 372, rfl⟩
abbrev main_v323 : Ref sig .tc := ⟨.hbm, 373, rfl⟩
abbrev main_v324 : Ref sig .tc := ⟨.hbm, 374, rfl⟩
abbrev main_v325 : Ref sig .tc := ⟨.hbm, 375, rfl⟩
abbrev main_v326 : Ref sig .tc := ⟨.hbm, 376, rfl⟩
abbrev main_v327 : Ref sig .tc := ⟨.hbm, 377, rfl⟩
abbrev main_v328 : Ref sig .tc := ⟨.hbm, 378, rfl⟩
abbrev main_v329 : Ref sig .tc := ⟨.hbm, 379, rfl⟩
abbrev main_v330 : Ref sig .tc := ⟨.hbm, 380, rfl⟩
abbrev main_v331 : Ref sig .tc := ⟨.hbm, 381, rfl⟩
abbrev main_v332 : Ref sig .tc := ⟨.hbm, 382, rfl⟩
abbrev main_v333 : Ref sig .tc := ⟨.hbm, 383, rfl⟩
abbrev main_v334 : Ref sig .tc := ⟨.hbm, 384, rfl⟩
abbrev main_v335 : Ref sig .tc := ⟨.hbm, 385, rfl⟩
abbrev main_v336 : Ref sig .tc := ⟨.hbm, 386, rfl⟩
abbrev main_v337 : Ref sig .tc := ⟨.hbm, 387, rfl⟩
abbrev main_v338 : Ref sig .tc := ⟨.hbm, 388, rfl⟩
abbrev main_v339 : Ref sig .tc := ⟨.hbm, 389, rfl⟩
abbrev main_v340 : Ref sig .tc := ⟨.hbm, 390, rfl⟩
abbrev main_v341_0 : Ref sig .tc := ⟨.hbm, 391, rfl⟩
abbrev main_v341_1 : Ref sig .tc := ⟨.hbm, 392, rfl⟩
abbrev main_v341_2 : Ref sig .tc := ⟨.hbm, 393, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_3 (i : grid0.Coords) : Fin 3 → Nat :=
  let arg0 : BitVec 32 := BitVec.ofNat 32 (i 0).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_4 (i : grid0.Coords) : Fin 3 → Nat :=
  let arg0 : BitVec 32 := BitVec.ofNat 32 (i 0).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_5 (i : grid0.Coords) : Fin 3 → Nat :=
  let arg0 : BitVec 32 := BitVec.ofNat 32 (i 0).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_6 (i : grid0.Coords) : Fin 3 → Nat :=
  let arg0 : BitVec 32 := BitVec.ofNat 32 (i 0).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_7 (i : grid0.Coords) : Fin 3 → Nat :=
  let arg0 : BitVec 32 := BitVec.ofNat 32 (i 0).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_8 (i : grid0.Coords) : Fin 3 → Nat :=
  let arg0 : BitVec 32 := BitVec.ofNat 32 (i 0).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_9 (i : grid0.Coords) : Fin 3 → Nat :=
  let arg0 : BitVec 32 := BitVec.ofNat 32 (i 0).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1x528x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x528x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x528x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S8x528x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S8x528x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S8x528x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S8x528x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S8x528x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S8x528x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S8x256x256 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S8x256x256 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S8x256 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== Reference10Ideal.lean ====
abbrev S8192x1024 : Shape := ⟨2, ![8192, 1024]⟩
abbrev S256x1024 : Shape := ⟨2, ![256, 1024]⟩
abbrev S64x528x128 : Shape := ⟨3, ![64, 528, 128]⟩
abbrev S64x256 : Shape := ⟨2, ![64, 256]⟩
abbrev S64x2x2x64 : Shape := ⟨4, ![64, 2, 2, 64]⟩
abbrev S64x528x2x64 : Shape := ⟨4, ![64, 528, 2, 64]⟩
abbrev S64x528x1x64 : Shape := ⟨4, ![64, 528, 1, 64]⟩
abbrev S64x528x64 : Shape := ⟨3, ![64, 528, 64]⟩
abbrev S64x16x64 : Shape := ⟨3, ![64, 16, 64]⟩
abbrev S64x512x64 : Shape := ⟨3, ![64, 512, 64]⟩
abbrev S528x64x2x64 : Shape := ⟨4, ![528, 64, 2, 64]⟩
abbrev S64x1x2x64 : Shape := ⟨4, ![64, 1, 2, 64]⟩
abbrev S64x2x64 : Shape := ⟨3, ![64, 2, 64]⟩
abbrev S1x64x2x64 : Shape := ⟨4, ![1, 64, 2, 64]⟩
abbrev S527x64x2x64 : Shape := ⟨4, ![527, 64, 2, 64]⟩
abbrev S_ : Shape := ⟨0, ![]⟩
abbrev S526x64x2x64 : Shape := ⟨4, ![526, 64, 2, 64]⟩
abbrev S524x64x2x64 : Shape := ⟨4, ![524, 64, 2, 64]⟩
abbrev S520x64x2x64 : Shape := ⟨4, ![520, 64, 2, 64]⟩
abbrev S512x64x2x64 : Shape := ⟨4, ![512, 64, 2, 64]⟩
abbrev S496x64x2x64 : Shape := ⟨4, ![496, 64, 2, 64]⟩
abbrev S464x64x2x64 : Shape := ⟨4, ![464, 64, 2, 64]⟩
abbrev S400x64x2x64 : Shape := ⟨4, ![400, 64, 2, 64]⟩
abbrev S272x64x2x64 : Shape := ⟨4, ![272, 64, 2, 64]⟩
abbrev S16x64x2x64 : Shape := ⟨4, ![16, 64, 2, 64]⟩
abbrev S512x16x64x16 : Shape := ⟨4, ![512, 16, 64, 16]⟩
abbrev S64x512x16x16 : Shape := ⟨4, ![64, 512, 16, 16]⟩
abbrev S64x512x256 : Shape := ⟨3, ![64, 512, 256]⟩
abbrev S64x256x256 : Shape := ⟨3, ![64, 256, 256]⟩
abbrev S64x528x256 : Shape := ⟨3, ![64, 528, 256]⟩
abbrev S64x128 : Shape := ⟨2, ![64, 128]⟩
abbrev S64x1x128 : Shape := ⟨3, ![64, 1, 128]⟩

abbrev nBuf : Space → Nat
  | .hbm => 384
  | .vmem => 0
  | .smem => 0
  | _ => 0

abbrev hbmTy0_0 (i : Nat) : BufTy := match i % 128 with
  | 0 => ⟨S8192x1024, .f32⟩
  | 1 => ⟨S256x1024, .f32⟩
  | 2 => ⟨S64x528x128, .f32⟩
  | 3 => ⟨S64x528x128, .f32⟩
  | 4 => ⟨S64x256, .f32⟩
  | 5 => ⟨S8192x1024, .f32⟩
  | 6 => ⟨S64x528x128, .f32⟩
  | 7 => ⟨S64x528x128, .f32⟩
  | 8 => ⟨S64x2x2x64, .f32⟩
  | 9 => ⟨S64x528x2x64, .f32⟩
  | 10 => ⟨S64x528x1x64, .f32⟩
  | 11 => ⟨S64x528x64, .f32⟩
  | 12 => ⟨S64x528x1x64, .f32⟩
  | 13 => ⟨S64x528x64, .f32⟩
  | 14 => ⟨S64x16x64, .f32⟩
  | 15 => ⟨S64x16x64, .f32⟩
  | 16 => ⟨S64x512x64, .f32⟩
  | 17 => ⟨S64x512x64, .f32⟩
  | 18 => ⟨S64x528x64, .f32⟩
  | 19 => ⟨S64x528x1x64, .f32⟩
  | 20 => ⟨S64x528x1x64, .f32⟩
  | 21 => ⟨S64x528x2x64, .f32⟩
  | 22 => ⟨S528x64x2x64, .f32⟩
  | 23 => ⟨S64x528x2x64, .f32⟩
  | 24 => ⟨S64x528x1x64, .f32⟩
  | 25 => ⟨S64x528x64, .f32⟩
  | 26 => ⟨S64x528x1x64, .f32⟩
  | 27 => ⟨S64x528x64, .f32⟩
  | 28 => ⟨S64x16x64, .f32⟩
  | 29 => ⟨S64x16x64, .f32⟩
  | 30 => ⟨S64x512x64, .f32⟩
  | 31 => ⟨S64x512x64, .f32⟩
  | 32 => ⟨S64x528x64, .f32⟩
  | 33 => ⟨S64x528x1x64, .f32⟩
  | 34 => ⟨S64x528x1x64, .f32⟩
  | 35 => ⟨S64x528x2x64, .f32⟩
  | 36 => ⟨S528x64x2x64, .f32⟩
  | 37 => ⟨S64x1x2x64, .f32⟩
  | 38 => ⟨S64x2x64, .f32⟩
  | 39 => ⟨S1x64x2x64, .f32⟩
  | 40 => ⟨S528x64x2x64, .f32⟩
  | 41 => ⟨S64x1x2x64, .f32⟩
  | 42 => ⟨S64x2x64, .f32⟩
  | 43 => ⟨S1x64x2x64, .f32⟩
  | 44 => ⟨S528x64x2x64, .f32⟩
  | 45 => ⟨S527x64x2x64, .f32⟩
  | 46 => ⟨S_, .f32⟩
  | 47 => ⟨S528x64x2x64, .f32⟩
  | 48 => ⟨S527x64x2x64, .f32⟩
  | 49 => ⟨S_, .f32⟩
  | 50 => ⟨S528x64x2x64, .f32⟩
  | 51 => ⟨S527x64x2x64, .f32⟩
  | 52 => ⟨S_, .f32⟩
  | 53 => ⟨S528x64x2x64, .f32⟩
  | 54 => ⟨S527x64x2x64, .f32⟩
  | 55 => ⟨S_, .f32⟩
  | 56 => ⟨S528x64x2x64, .f32⟩
  | 57 => ⟨S528x64x2x64, .f32⟩
  | 58 => ⟨S528x64x2x64, .f32⟩
  | 59 => ⟨S528x64x2x64, .f32⟩
  | 60 => ⟨S528x64x2x64, .f32⟩
  | 61 => ⟨S528x64x2x64, .f32⟩
  | 62 => ⟨S528x64x2x64, .f32⟩
  | 63 => ⟨S528x64x2x64, .f32⟩
  | 64 => ⟨S528x64x2x64, .f32⟩
  | 65 => ⟨S528x64x2x64, .f32⟩
  | 66 => ⟨S528x64x2x64, .f32⟩
  | 67 => ⟨S528x64x2x64, .f32⟩
  | 68 => ⟨S528x64x2x64, .f32⟩
  | 69 => ⟨S528x64x2x64, .f32⟩
  | 70 => ⟨S528x64x2x64, .f32⟩
  | 71 => ⟨S526x64x2x64, .f32⟩
  | 72 => ⟨S_, .f32⟩
  | 73 => ⟨S528x64x2x64, .f32⟩
  | 74 => ⟨S526x64x2x64, .f32⟩
  | 75 => ⟨S_, .f32⟩
  | 76 => ⟨S528x64x2x64, .f32⟩
  | 77 => ⟨S526x64x2x64, .f32⟩
  | 78 => ⟨S_, .f32⟩
  | 79 => ⟨S528x64x2x64, .f32⟩
  | 80 => ⟨S526x64x2x64, .f32⟩
  | 81 => ⟨S_, .f32⟩
  | 82 => ⟨S528x64x2x64, .f32⟩
  | 83 => ⟨S528x64x2x64, .f32⟩
  | 84 => ⟨S528x64x2x64, .f32⟩
  | 85 => ⟨S528x64x2x64, .f32⟩
  | 86 => ⟨S528x64x2x64, .f32⟩
  | 87 => ⟨S528x64x2x64, .f32⟩
  | 88 => ⟨S528x64x2x64, .f32⟩
  | 89 => ⟨S528x64x2x64, .f32⟩
  | 90 => ⟨S528x64x2x64, .f32⟩
  | 91 => ⟨S528x64x2x64, .f32⟩
  | 92 => ⟨S528x64x2x64, .f32⟩
  | 93 => ⟨S528x64x2x64, .f32⟩
  | 94 => ⟨S528x64x2x64, .f32⟩
  | 95 => ⟨S528x64x2x64, .f32⟩
  | 96 => ⟨S528x64x2x64, .f32⟩
  | 97 => ⟨S524x64x2x64, .f32⟩
  | 98 => ⟨S_, .f32⟩
  | 99 => ⟨S528x64x2x64, .f32⟩
  | 100 => ⟨S524x64x2x64, .f32⟩
  | 101 => ⟨S_, .f32⟩
  | 102 => ⟨S528x64x2x64, .f32⟩
  | 103 => ⟨S524x64x2x64, .f32⟩
  | 104 => ⟨S_, .f32⟩
  | 105 => ⟨S528x64x2x64, .f32⟩
  | 106 => ⟨S524x64x2x64, .f32⟩
  | 107 => ⟨S_, .f32⟩
  | 108 => ⟨S528x64x2x64, .f32⟩
  | 109 => ⟨S528x64x2x64, .f32⟩
  | 110 => ⟨S528x64x2x64, .f32⟩
  | 111 => ⟨S528x64x2x64, .f32⟩
  | 112 => ⟨S528x64x2x64, .f32⟩
  | 113 => ⟨S528x64x2x64, .f32⟩
  | 114 => ⟨S528x64x2x64, .f32⟩
  | 115 => ⟨S528x64x2x64, .f32⟩
  | 116 => ⟨S528x64x2x64, .f32⟩
  | 117 => ⟨S528x64x2x64, .f32⟩
  | 118 => ⟨S528x64x2x64, .f32⟩
  | 119 => ⟨S528x64x2x64, .f32⟩
  | 120 => ⟨S528x64x2x64, .f32⟩
  | 121 => ⟨S528x64x2x64, .f32⟩
  | 122 => ⟨S528x64x2x64, .f32⟩
  | 123 => ⟨S520x64x2x64, .f32⟩
  | 124 => ⟨S_, .f32⟩
  | 125 => ⟨S528x64x2x64, .f32⟩
  | 126 => ⟨S520x64x2x64, .f32⟩
  | 127 => ⟨S_, .f32⟩
  | _ => ⟨S8192x1024, .f32⟩

abbrev hbmTy0_1 (i : Nat) : BufTy := match i % 128 with
  | 0 => ⟨S528x64x2x64, .f32⟩
  | 1 => ⟨S520x64x2x64, .f32⟩
  | 2 => ⟨S_, .f32⟩
  | 3 => ⟨S528x64x2x64, .f32⟩
  | 4 => ⟨S520x64x2x64, .f32⟩
  | 5 => ⟨S_, .f32⟩
  | 6 => ⟨S528x64x2x64, .f32⟩
  | 7 => ⟨S528x64x2x64, .f32⟩
  | 8 => ⟨S528x64x2x64, .f32⟩
  | 9 => ⟨S528x64x2x64, .f32⟩
  | 10 => ⟨S528x64x2x64, .f32⟩
  | 11 => ⟨S528x64x2x64, .f32⟩
  | 12 => ⟨S528x64x2x64, .f32⟩
  | 13 => ⟨S528x64x2x64, .f32⟩
  | 14 => ⟨S528x64x2x64, .f32⟩
  | 15 => ⟨S528x64x2x64, .f32⟩
  | 16 => ⟨S528x64x2x64, .f32⟩
  | 17 => ⟨S528x64x2x64, .f32⟩
  | 18 => ⟨S528x64x2x64, .f32⟩
  | 19 => ⟨S528x64x2x64, .f32⟩
  | 20 => ⟨S528x64x2x64, .f32⟩
  | 21 => ⟨S512x64x2x64, .f32⟩
  | 22 => ⟨S_, .f32⟩
  | 23 => ⟨S528x64x2x64, .f32⟩
  | 24 => ⟨S512x64x2x64, .f32⟩
  | 25 => ⟨S_, .f32⟩
  | 26 => ⟨S528x64x2x64, .f32⟩
  | 27 => ⟨S512x64x2x64, .f32⟩
  | 28 => ⟨S_, .f32⟩
  | 29 => ⟨S528x64x2x64, .f32⟩
  | 30 => ⟨S512x64x2x64, .f32⟩
  | 31 => ⟨S_, .f32⟩
  | 32 => ⟨S528x64x2x64, .f32⟩
  | 33 => ⟨S528x64x2x64, .f32⟩
  | 34 => ⟨S528x64x2x64, .f32⟩
  | 35 => ⟨S528x64x2x64, .f32⟩
  | 36 => ⟨S528x64x2x64, .f32⟩
  | 37 => ⟨S528x64x2x64, .f32⟩
  | 38 => ⟨S528x64x2x64, .f32⟩
  | 39 => ⟨S528x64x2x64, .f32⟩
  | 40 => ⟨S528x64x2x64, .f32⟩
  | 41 => ⟨S528x64x2x64, .f32⟩
  | 42 => ⟨S528x64x2x64, .f32⟩
  | 43 => ⟨S528x64x2x64, .f32⟩
  | 44 => ⟨S528x64x2x64, .f32⟩
  | 45 => ⟨S528x64x2x64, .f32⟩
  | 46 => ⟨S528x64x2x64, .f32⟩
  | 47 => ⟨S496x64x2x64, .f32⟩
  | 48 => ⟨S_, .f32⟩
  | 49 => ⟨S528x64x2x64, .f32⟩
  | 50 => ⟨S496x64x2x64, .f32⟩
  | 51 => ⟨S_, .f32⟩
  | 52 => ⟨S528x64x2x64, .f32⟩
  | 53 => ⟨S496x64x2x64, .f32⟩
  | 54 => ⟨S_, .f32⟩
  | 55 => ⟨S528x64x2x64, .f32⟩
  | 56 => ⟨S496x64x2x64, .f32⟩
  | 57 => ⟨S_, .f32⟩
  | 58 => ⟨S528x64x2x64, .f32⟩
  | 59 => ⟨S528x64x2x64, .f32⟩
  | 60 => ⟨S528x64x2x64, .f32⟩
  | 61 => ⟨S528x64x2x64, .f32⟩
  | 62 => ⟨S528x64x2x64, .f32⟩
  | 63 => ⟨S528x64x2x64, .f32⟩
  | 64 => ⟨S528x64x2x64, .f32⟩
  | 65 => ⟨S528x64x2x64, .f32⟩
  | 66 => ⟨S528x64x2x64, .f32⟩
  | 67 => ⟨S528x64x2x64, .f32⟩
  | 68 => ⟨S528x64x2x64, .f32⟩
  | 69 => ⟨S528x64x2x64, .f32⟩
  | 70 => ⟨S528x64x2x64, .f32⟩
  | 71 => ⟨S528x64x2x64, .f32⟩
  | 72 => ⟨S528x64x2x64, .f32⟩
  | 73 => ⟨S464x64x2x64, .f32⟩
  | 74 => ⟨S_, .f32⟩
  | 75 => ⟨S528x64x2x64, .f32⟩
  | 76 => ⟨S464x64x2x64, .f32⟩
  | 77 => ⟨S_, .f32⟩
  | 78 => ⟨S528x64x2x64, .f32⟩
  | 79 => ⟨S464x64x2x64, .f32⟩
  | 80 => ⟨S_, .f32⟩
  | 81 => ⟨S528x64x2x64, .f32⟩
  | 82 => ⟨S464x64x2x64, .f32⟩
  | 83 => ⟨S_, .f32⟩
  | 84 => ⟨S528x64x2x64, .f32⟩
  | 85 => ⟨S528x64x2x64, .f32⟩
  | 86 => ⟨S528x64x2x64, .f32⟩
  | 87 => ⟨S528x64x2x64, .f32⟩
  | 88 => ⟨S528x64x2x64, .f32⟩
  | 89 => ⟨S528x64x2x64, .f32⟩
  | 90 => ⟨S528x64x2x64, .f32⟩
  | 91 => ⟨S528x64x2x64, .f32⟩
  | 92 => ⟨S528x64x2x64, .f32⟩
  | 93 => ⟨S528x64x2x64, .f32⟩
  | 94 => ⟨S528x64x2x64, .f32⟩
  | 95 => ⟨S528x64x2x64, .f32⟩
  | 96 => ⟨S528x64x2x64, .f32⟩
  | 97 => ⟨S528x64x2x64, .f32⟩
  | 98 => ⟨S528x64x2x64, .f32⟩
  | 99 => ⟨S400x64x2x64, .f32⟩
  | 100 => ⟨S_, .f32⟩
  | 101 => ⟨S528x64x2x64, .f32⟩
  | 102 => ⟨S400x64x2x64, .f32⟩
  | 103 => ⟨S_, .f32⟩
  | 104 => ⟨S528x64x2x64, .f32⟩
  | 105 => ⟨S400x64x2x64, .f32⟩
  | 106 => ⟨S_, .f32⟩
  | 107 => ⟨S528x64x2x64, .f32⟩
  | 108 => ⟨S400x64x2x64, .f32⟩
  | 109 => ⟨S_, .f32⟩
  | 110 => ⟨S528x64x2x64, .f32⟩
  | 111 => ⟨S528x64x2x64, .f32⟩
  | 112 => ⟨S528x64x2x64, .f32⟩
  | 113 => ⟨S528x64x2x64, .f32⟩
  | 114 => ⟨S528x64x2x64, .f32⟩
  | 115 => ⟨S528x64x2x64, .f32⟩
  | 116 => ⟨S528x64x2x64, .f32⟩
  | 117 => ⟨S528x64x2x64, .f32⟩
  | 118 => ⟨S528x64x2x64, .f32⟩
  | 119 => ⟨S528x64x2x64, .f32⟩
  | 120 => ⟨S528x64x2x64, .f32⟩
  | 121 => ⟨S528x64x2x64, .f32⟩
  | 122 => ⟨S528x64x2x64, .f32⟩
  | 123 => ⟨S528x64x2x64, .f32⟩
  | 124 => ⟨S528x64x2x64, .f32⟩
  | 125 => ⟨S272x64x2x64, .f32⟩
  | 126 => ⟨S_, .f32⟩
  | 127 => ⟨S528x64x2x64, .f32⟩
  | _ => ⟨S8192x1024, .f32⟩

abbrev hbmTy0_2 (i : Nat) : BufTy := match i % 128 with
  | 0 => ⟨S272x64x2x64, .f32⟩
  | 1 => ⟨S_, .f32⟩
  | 2 => ⟨S528x64x2x64, .f32⟩
  | 3 => ⟨S272x64x2x64, .f32⟩
  | 4 => ⟨S_, .f32⟩
  | 5 => ⟨S528x64x2x64, .f32⟩
  | 6 => ⟨S272x64x2x64, .f32⟩
  | 7 => ⟨S_, .f32⟩
  | 8 => ⟨S528x64x2x64, .f32⟩
  | 9 => ⟨S528x64x2x64, .f32⟩
  | 10 => ⟨S528x64x2x64, .f32⟩
  | 11 => ⟨S528x64x2x64, .f32⟩
  | 12 => ⟨S528x64x2x64, .f32⟩
  | 13 => ⟨S528x64x2x64, .f32⟩
  | 14 => ⟨S528x64x2x64, .f32⟩
  | 15 => ⟨S528x64x2x64, .f32⟩
  | 16 => ⟨S528x64x2x64, .f32⟩
  | 17 => ⟨S528x64x2x64, .f32⟩
  | 18 => ⟨S528x64x2x64, .f32⟩
  | 19 => ⟨S528x64x2x64, .f32⟩
  | 20 => ⟨S528x64x2x64, .f32⟩
  | 21 => ⟨S528x64x2x64, .f32⟩
  | 22 => ⟨S528x64x2x64, .f32⟩
  | 23 => ⟨S16x64x2x64, .f32⟩
  | 24 => ⟨S_, .f32⟩
  | 25 => ⟨S528x64x2x64, .f32⟩
  | 26 => ⟨S16x64x2x64, .f32⟩
  | 27 => ⟨S_, .f32⟩
  | 28 => ⟨S528x64x2x64, .f32⟩
  | 29 => ⟨S16x64x2x64, .f32⟩
  | 30 => ⟨S_, .f32⟩
  | 31 => ⟨S528x64x2x64, .f32⟩
  | 32 => ⟨S16x64x2x64, .f32⟩
  | 33 => ⟨S_, .f32⟩
  | 34 => ⟨S528x64x2x64, .f32⟩
  | 35 => ⟨S528x64x2x64, .f32⟩
  | 36 => ⟨S528x64x2x64, .f32⟩
  | 37 => ⟨S528x64x2x64, .f32⟩
  | 38 => ⟨S528x64x2x64, .f32⟩
  | 39 => ⟨S528x64x2x64, .f32⟩
  | 40 => ⟨S528x64x2x64, .f32⟩
  | 41 => ⟨S528x64x2x64, .f32⟩
  | 42 => ⟨S528x64x2x64, .f32⟩
  | 43 => ⟨S528x64x2x64, .f32⟩
  | 44 => ⟨S528x64x2x64, .f32⟩
  | 45 => ⟨S528x64x2x64, .f32⟩
  | 46 => ⟨S528x64x2x64, .f32⟩
  | 47 => ⟨S528x64x2x64, .f32⟩
  | 48 => ⟨S528x64x2x64, .f32⟩
  | 49 => ⟨S527x64x2x64, .f32⟩
  | 50 => ⟨S_, .f32⟩
  | 51 => ⟨S528x64x2x64, .f32⟩
  | 52 => ⟨S64x528x2x64, .f32⟩
  | 53 => ⟨S64x528x1x64, .f32⟩
  | 54 => ⟨S64x528x64, .f32⟩
  | 55 => ⟨S64x528x1x64, .f32⟩
  | 56 => ⟨S64x528x64, .f32⟩
  | 57 => ⟨S64x16x64, .f32⟩
  | 58 => ⟨S64x16x64, .f32⟩
  | 59 => ⟨S64x512x64, .f32⟩
  | 60 => ⟨S64x512x64, .f32⟩
  | 61 => ⟨S64x528x64, .f32⟩
  | 62 => ⟨S64x528x1x64, .f32⟩
  | 63 => ⟨S64x528x1x64, .f32⟩
  | 64 => ⟨S64x528x2x64, .f32⟩
  | 65 => ⟨S64x528x128, .f32⟩
  | 66 => ⟨S527x64x2x64, .f32⟩
  | 67 => ⟨S_, .f32⟩
  | 68 => ⟨S528x64x2x64, .f32⟩
  | 69 => ⟨S64x528x2x64, .f32⟩
  | 70 => ⟨S64x528x1x64, .f32⟩
  | 71 => ⟨S64x528x64, .f32⟩
  | 72 => ⟨S64x528x1x64, .f32⟩
  | 73 => ⟨S64x528x64, .f32⟩
  | 74 => ⟨S64x16x64, .f32⟩
  | 75 => ⟨S64x16x64, .f32⟩
  | 76 => ⟨S64x512x64, .f32⟩
  | 77 => ⟨S64x512x64, .f32⟩
  | 78 => ⟨S64x528x64, .f32⟩
  | 79 => ⟨S64x528x1x64, .f32⟩
  | 80 => ⟨S64x528x1x64, .f32⟩
  | 81 => ⟨S64x528x2x64, .f32⟩
  | 82 => ⟨S64x528x128, .f32⟩
  | 83 => ⟨S512x16x64x16, .f32⟩
  | 84 => ⟨S64x512x16x16, .f32⟩
  | 85 => ⟨S64x512x256, .f32⟩
  | 86 => ⟨S_, .f32⟩
  | 87 => ⟨S64x256x256, .f32⟩
  | 88 => ⟨S64x528x256, .f32⟩
  | 89 => ⟨S64x512x256, .f32⟩
  | 90 => ⟨S512x16x64x16, .f32⟩
  | 91 => ⟨S64x512x16x16, .f32⟩
  | 92 => ⟨S64x512x256, .f32⟩
  | 93 => ⟨S64x256x256, .f32⟩
  | 94 => ⟨S64x256x256, .f32⟩
  | 95 => ⟨S64x256x256, .f32⟩
  | 96 => ⟨S64x256x256, .f32⟩
  | 97 => ⟨S64x528x128, .f32⟩
  | 98 => ⟨S64x528x128, .f32⟩
  | 99 => ⟨S64x528x128, .f32⟩
  | 100 => ⟨S_, .f32⟩
  | 101 => ⟨S64x128, .f32⟩
  | 102 => ⟨S64x1x128, .f32⟩
  | 103 => ⟨S64x528x128, .f32⟩
  | 104 => ⟨S_, .f32⟩
  | 105 => ⟨S64x128, .f32⟩
  | 106 => ⟨S64x1x128, .f32⟩
  | 107 => ⟨S64x528x128, .f32⟩
  | 108 => ⟨S64x528x128, .f32⟩
  | 109 => ⟨S64x528x128, .f32⟩
  | 110 => ⟨S_, .f32⟩
  | 111 => ⟨S64x128, .f32⟩
  | 112 => ⟨S64x1x128, .f32⟩
  | 113 => ⟨S64x1x128, .f32⟩
  | 114 => ⟨S64x528x128, .f32⟩
  | 115 => ⟨S_, .f32⟩
  | 116 => ⟨S64x128, .f32⟩
  | 117 => ⟨S64x1x128, .f32⟩
  | 118 => ⟨S64x1x128, .f32⟩
  | 119 => ⟨S_, .f32⟩
  | 120 => ⟨S64x128, .f32⟩
  | 121 => ⟨S_, .f32⟩
  | 122 => ⟨S64x256, .f32⟩
  | 123 => ⟨S_, .f32⟩
  | 124 => ⟨S64x128, .f32⟩
  | 125 => ⟨S_, .f32⟩
  | 126 => ⟨S64x256, .f32⟩
  | 127 => ⟨S64x256, .f32⟩
  | _ => ⟨S8192x1024, .f32⟩

abbrev hbmTy (i : Nat) : BufTy := match i / 128 with
  | 0 => hbmTy0_0 i
  | 1 => hbmTy0_1 i
  | 2 => hbmTy0_2 i
  | _ => ⟨S8192x1024, .f32⟩

abbrev bufTy : (tb : Table) → Fin (tcTables nBuf tb) → BufTy
  | .hbm, ⟨i, _⟩ => hbmTy i
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_cst : Ref sig .tc := ⟨.hbm, 46, rfl⟩
abbrev main_v38 : Ref sig .tc := ⟨.hbm, 47, rfl⟩
abbrev main_v39 : Ref sig .tc := ⟨.hbm, 48, rfl⟩
abbrev main_cst_0 : Ref sig .tc := ⟨.hbm, 49, rfl⟩
abbrev main_v40 : Ref sig .tc := ⟨.hbm, 50, rfl⟩
abbrev main_v41 : Ref sig .tc := ⟨.hbm, 51, rfl⟩
abbrev main_cst_1 : Ref sig .tc := ⟨.hbm, 52, rfl⟩
abbrev main_v42 : Ref sig .tc := ⟨.hbm, 53, rfl⟩
abbrev main_v43 : Ref sig .tc := ⟨.hbm, 54, rfl⟩
abbrev main_cst_2 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩
abbrev main_v55 : Ref sig .tc := ⟨.hbm, 67, rfl⟩
abbrev main_v56 : Ref sig .tc := ⟨.hbm, 68, rfl⟩
abbrev main_v57 : Ref sig .tc := ⟨.hbm, 69, rfl⟩
abbrev main_v58 : Ref sig .tc := ⟨.hbm, 70, rfl⟩
abbrev main_v59 : Ref sig .tc := ⟨.hbm, 71, rfl⟩
abbrev main_cst_3 : Ref sig .tc := ⟨.hbm, 72, rfl⟩
abbrev main_v60 : Ref sig .tc := ⟨.hbm, 73, rfl⟩
abbrev main_v61 : Ref sig .tc := ⟨.hbm, 74, rfl⟩
abbrev main_cst_4 : Ref sig .tc := ⟨.hbm, 75, rfl⟩
abbrev main_v62 : Ref sig .tc := ⟨.hbm, 76, rfl⟩
abbrev main_v63 : Ref sig .tc := ⟨.hbm, 77, rfl⟩
abbrev main_cst_5 : Ref sig .tc := ⟨.hbm, 78, rfl⟩
abbrev main_v64 : Ref sig .tc := ⟨.hbm, 79, rfl⟩
abbrev main_v65 : Ref sig .tc := ⟨.hbm, 80, rfl⟩
abbrev main_cst_6 : Ref sig .tc := ⟨.hbm, 81, rfl⟩
abbrev main_v66 : Ref sig .tc := ⟨.hbm, 82, rfl⟩
abbrev main_v67 : Ref sig .tc := ⟨.hbm, 83, rfl⟩
abbrev main_v68 : Ref sig .tc := ⟨.hbm, 84, rfl⟩
abbrev main_v69 : Ref sig .tc := ⟨.hbm, 85, rfl⟩
abbrev main_v70 : Ref sig .tc := ⟨.hbm, 86, rfl⟩
abbrev main_v71 : Ref sig .tc := ⟨.hbm, 87, rfl⟩
abbrev main_v72 : Ref sig .tc := ⟨.hbm, 88, rfl⟩
abbrev main_v73 : Ref sig .tc := ⟨.hbm, 89, rfl⟩
abbrev main_v74 : Ref sig .tc := ⟨.hbm, 90, rfl⟩
abbrev main_v75 : Ref sig .tc := ⟨.hbm, 91, rfl⟩
abbrev main_v76 : Ref sig .tc := ⟨.hbm, 92, rfl⟩
abbrev main_v77 : Ref sig .tc := ⟨.hbm, 93, rfl⟩
abbrev main_v78 : Ref sig .tc := ⟨.hbm, 94, rfl⟩
abbrev main_v79 : Ref sig .tc := ⟨.hbm, 95, rfl⟩
abbrev main_v80 : Ref sig .tc := ⟨.hbm, 96, rfl⟩
abbrev main_v81 : Ref sig .tc := ⟨.hbm, 97, rfl⟩
abbrev main_cst_7 : Ref sig .tc := ⟨.hbm, 98, rfl⟩
abbrev main_v82 : Ref sig .tc := ⟨.hbm, 99, rfl⟩
abbrev main_v83 : Ref sig .tc := ⟨.hbm, 100, rfl⟩
abbrev main_cst_8 : Ref sig .tc := ⟨.hbm, 101, rfl⟩
abbrev main_v84 : Ref sig .tc := ⟨.hbm, 102, rfl⟩
abbrev main_v85 : Ref sig .tc := ⟨.hbm, 103, rfl⟩
abbrev main_cst_9 : Ref sig .tc := ⟨.hbm, 104, rfl⟩
abbrev main_v86 : Ref sig .tc := ⟨.hbm, 105, rfl⟩
abbrev main_v87 : Ref sig .tc := ⟨.hbm, 106, rfl⟩
abbrev main_cst_10 : Ref sig .tc := ⟨.hbm, 107, rfl⟩
abbrev main_v88 : Ref sig .tc := ⟨.hbm, 108, rfl⟩
abbrev main_v89 : Ref sig .tc := ⟨.hbm, 109, rfl⟩
abbrev main_v90 : Ref sig .tc := ⟨.hbm, 110, rfl⟩
abbrev main_v91 : Ref sig .tc := ⟨.hbm, 111, rfl⟩
abbrev main_v92 : Ref sig .tc := ⟨.hbm, 112, rfl⟩
abbrev main_v93 : Ref sig .tc := ⟨.hbm, 113, rfl⟩
abbrev main_v94 : Ref sig .tc := ⟨.hbm, 114, rfl⟩
abbrev main_v95 : Ref sig .tc := ⟨.hbm, 115, rfl⟩
abbrev main_v96 : Ref sig .tc := ⟨.hbm, 116, rfl⟩
abbrev main_v97 : Ref sig .tc := ⟨.hbm, 117, rfl⟩
abbrev main_v98 : Ref sig .tc := ⟨.hbm, 118, rfl⟩
abbrev main_v99 : Ref sig .tc := ⟨.hbm, 119, rfl⟩
abbrev main_v100 : Ref sig .tc := ⟨.hbm, 120, rfl⟩
abbrev main_v101 : Ref sig .tc := ⟨.hbm, 121, rfl⟩
abbrev main_v102 : Ref sig .tc := ⟨.hbm, 122, rfl⟩
abbrev main_v103 : Ref sig .tc := ⟨.hbm, 123, rfl⟩
abbrev main_cst_11 : Ref sig .tc := ⟨.hbm, 124, rfl⟩
abbrev main_v104 : Ref sig .tc := ⟨.hbm, 125, rfl⟩
abbrev main_v105 : Ref sig .tc := ⟨.hbm, 126, rfl⟩
abbrev main_cst_12 : Ref sig .tc := ⟨.hbm, 127, rfl⟩
abbrev main_v106 : Ref sig .tc := ⟨.hbm, 128, rfl⟩
abbrev main_v107 : Ref sig .tc := ⟨.hbm, 129, rfl⟩
abbrev main_cst_13 : Ref sig .tc := ⟨.hbm, 130, rfl⟩
abbrev main_v108 : Ref sig .tc := ⟨.hbm, 131, rfl⟩
abbrev main_v109 : Ref sig .tc := ⟨.hbm, 132, rfl⟩
abbrev main_cst_14 : Ref sig .tc := ⟨.hbm, 133, rfl⟩
abbrev main_v110 : Ref sig .tc := ⟨.hbm, 134, rfl⟩
abbrev main_v111 : Ref sig .tc := ⟨.hbm, 135, rfl⟩
abbrev main_v112 : Ref sig .tc := ⟨.hbm, 136, rfl⟩
abbrev main_v113 : Ref sig .tc := ⟨.hbm, 137, rfl⟩
abbrev main_v114 : Ref sig .tc := ⟨.hbm, 138, rfl⟩
abbrev main_v115 : Ref sig .tc := ⟨.hbm, 139, rfl⟩
abbrev main_v116 : Ref sig .tc := ⟨.hbm, 140, rfl⟩
abbrev main_v117 : Ref sig .tc := ⟨.hbm, 141, rfl⟩
abbrev main_v118 : Ref sig .tc := ⟨.hbm, 142, rfl⟩
abbrev main_v119 : Ref sig .tc := ⟨.hbm, 143, rfl⟩
abbrev main_v120 : Ref sig .tc := ⟨.hbm, 144, rfl⟩
abbrev main_v121 : Ref sig .tc := ⟨.hbm, 145, rfl⟩
abbrev main_v122 : Ref sig .tc := ⟨.hbm, 146, rfl⟩
abbrev main_v123 : Ref sig .tc := ⟨.hbm, 147, rfl⟩
abbrev main_v124 : Ref sig .tc := ⟨.hbm, 148, rfl⟩
abbrev main_v125 : Ref sig .tc := ⟨.hbm, 149, rfl⟩
abbrev main_cst_15 : Ref sig .tc := ⟨.hbm, 150, rfl⟩
abbrev main_v126 : Ref sig .tc := ⟨.hbm, 151, rfl⟩
abbrev main_v127 : Ref sig .tc := ⟨.hbm, 152, rfl⟩
abbrev main_cst_16 : Ref sig .tc := ⟨.hbm, 153, rfl⟩
abbrev main_v128 : Ref sig .tc := ⟨.hbm, 154, rfl⟩
abbrev main_v129 : Ref sig .tc := ⟨.hbm, 155, rfl⟩
abbrev main_cst_17 : Ref sig .tc := ⟨.hbm, 156, rfl⟩
abbrev main_v130 : Ref sig .tc := ⟨.hbm, 157, rfl⟩
abbrev main_v131 : Ref sig .tc := ⟨.hbm, 158, rfl⟩
abbrev main_cst_18 : Ref sig .tc := ⟨.hbm, 159, rfl⟩
abbrev main_v132 : Ref sig .tc := ⟨.hbm, 160, rfl⟩
abbrev main_v133 : Ref sig .tc := ⟨.hbm, 161, rfl⟩
abbrev main_v134 : Ref sig .tc := ⟨.hbm, 162, rfl⟩
abbrev main_v135 : Ref sig .tc := ⟨.hbm, 163, rfl⟩
abbrev main_v136 : Ref sig .tc := ⟨.hbm, 164, rfl⟩
abbrev main_v137 : Ref sig .tc := ⟨.hbm, 165, rfl⟩
abbrev main_v138 : Ref sig .tc := ⟨.hbm, 166, rfl⟩
abbrev main_v139 : Ref sig .tc := ⟨.hbm, 167, rfl⟩
abbrev main_v140 : Ref sig .tc := ⟨.hbm, 168, rfl⟩
abbrev main_v141 : Ref sig .tc := ⟨.hbm, 169, rfl⟩
abbrev main_v142 : Ref sig .tc := ⟨.hbm, 170, rfl⟩
abbrev main_v143 : Ref sig .tc := ⟨.hbm, 171, rfl⟩
abbrev main_v144 : Ref sig .tc := ⟨.hbm, 172, rfl⟩
abbrev main_v145 : Ref sig .tc := ⟨.hbm, 173, rfl⟩
abbrev main_v146 : Ref sig .tc := ⟨.hbm, 174, rfl⟩
abbrev main_v147 : Ref sig .tc := ⟨.hbm, 175, rfl⟩
abbrev main_cst_19 : Ref sig .tc := ⟨.hbm, 176, rfl⟩
abbrev main_v148 : Ref sig .tc := ⟨.hbm, 177, rfl⟩
abbrev main_v149 : Ref sig .tc := ⟨.hbm, 178, rfl⟩
abbrev main_cst_20 : Ref sig .tc := ⟨.hbm, 179, rfl⟩
abbrev main_v150 : Ref sig .tc := ⟨.hbm, 180, rfl⟩
abbrev main_v151 : Ref sig .tc := ⟨.hbm, 181, rfl⟩
abbrev main_cst_21 : Ref sig .tc := ⟨.hbm, 182, rfl⟩
abbrev main_v152 : Ref sig .tc := ⟨.hbm, 183, rfl⟩
abbrev main_v153 : Ref sig .tc := ⟨.hbm, 184, rfl⟩
abbrev main_cst_22 : Ref sig .tc := ⟨.hbm, 185, rfl⟩
abbrev main_v154 : Ref sig .tc := ⟨.hbm, 186, rfl⟩
abbrev main_v155 : Ref sig .tc := ⟨.hbm, 187, rfl⟩
abbrev main_v156 : Ref sig .tc := ⟨.hbm, 188, rfl⟩
abbrev main_v157 : Ref sig .tc := ⟨.hbm, 189, rfl⟩
abbrev main_v158 : Ref sig .tc := ⟨.hbm, 190, rfl⟩
abbrev main_v159 : Ref sig .tc := ⟨.hbm, 191, rfl⟩
abbrev main_v160 : Ref sig .tc := ⟨.hbm, 192, rfl⟩
abbrev main_v161 : Ref sig .tc := ⟨.hbm, 193, rfl⟩
abbrev main_v162 : Ref sig .tc := ⟨.hbm, 194, rfl⟩
abbrev main_v163 : Ref sig .tc := ⟨.hbm, 195, rfl⟩
abbrev main_v164 : Ref sig .tc := ⟨.hbm, 196, rfl⟩
abbrev main_v165 : Ref sig .tc := ⟨.hbm, 197, rfl⟩
abbrev main_v166 : Ref sig .tc := ⟨.hbm, 198, rfl⟩
abbrev main_v167 : Ref sig .tc := ⟨.hbm, 199, rfl⟩
abbrev main_v168 : Ref sig .tc := ⟨.hbm, 200, rfl⟩
abbrev main_v169 : Ref sig .tc := ⟨.hbm, 201, rfl⟩
abbrev main_cst_23 : Ref sig .tc := ⟨.hbm, 202, rfl⟩
abbrev main_v170 : Ref sig .tc := ⟨.hbm, 203, rfl⟩
abbrev main_v171 : Ref sig .tc := ⟨.hbm, 204, rfl⟩
abbrev main_cst_24 : Ref sig .tc := ⟨.hbm, 205, rfl⟩
abbrev main_v172 : Ref sig .tc := ⟨.hbm, 206, rfl⟩
abbrev main_v173 : Ref sig .tc := ⟨.hbm, 207, rfl⟩
abbrev main_cst_25 : Ref sig .tc := ⟨.hbm, 208, rfl⟩
abbrev main_v174 : Ref sig .tc := ⟨.hbm, 209, rfl⟩
abbrev main_v175 : Ref sig .tc := ⟨.hbm, 210, rfl⟩
abbrev main_cst_26 : Ref sig .tc := ⟨.hbm, 211, rfl⟩
abbrev main_v176 : Ref sig .tc := ⟨.hbm, 212, rfl⟩
abbrev main_v177 : Ref sig .tc := ⟨.hbm, 213, rfl⟩
abbrev main_v178 : Ref sig .tc := ⟨.hbm, 214, rfl⟩
abbrev main_v179 : Ref sig .tc := ⟨.hbm, 215, rfl⟩
abbrev main_v180 : Ref sig .tc := ⟨.hbm, 216, rfl⟩
abbrev main_v181 : Ref sig .tc := ⟨.hbm, 217, rfl⟩
abbrev main_v182 : Ref sig .tc := ⟨.hbm, 218, rfl⟩
abbrev main_v183 : Ref sig .tc := ⟨.hbm, 219, rfl⟩
abbrev main_v184 : Ref sig .tc := ⟨.hbm, 220, rfl⟩
abbrev main_v185 : Ref sig .tc := ⟨.hbm, 221, rfl⟩
abbrev main_v186 : Ref sig .tc := ⟨.hbm, 222, rfl⟩
abbrev main_v187 : Ref sig .tc := ⟨.hbm, 223, rfl⟩
abbrev main_v188 : Ref sig .tc := ⟨.hbm, 224, rfl⟩
abbrev main_v189 : Ref sig .tc := ⟨.hbm, 225, rfl⟩
abbrev main_v190 : Ref sig .tc := ⟨.hbm, 226, rfl⟩
abbrev main_v191 : Ref sig .tc := ⟨.hbm, 227, rfl⟩
abbrev main_cst_27 : Ref sig .tc := ⟨.hbm, 228, rfl⟩
abbrev main_v192 : Ref sig .tc := ⟨.hbm, 229, rfl⟩
abbrev main_v193 : Ref sig .tc := ⟨.hbm, 230, rfl⟩
abbrev main_cst_28 : Ref sig .tc := ⟨.hbm, 231, rfl⟩
abbrev main_v194 : Ref sig .tc := ⟨.hbm, 232, rfl⟩
abbrev main_v195 : Ref sig .tc := ⟨.hbm, 233, rfl⟩
abbrev main_cst_29 : Ref sig .tc := ⟨.hbm, 234, rfl⟩
abbrev main_v196 : Ref sig .tc := ⟨.hbm, 235, rfl⟩
abbrev main_v197 : Ref sig .tc := ⟨.hbm, 236, rfl⟩
abbrev main_cst_30 : Ref sig .tc := ⟨.hbm, 237, rfl⟩
abbrev main_v198 : Ref sig .tc := ⟨.hbm, 238, rfl⟩
abbrev main_v199 : Ref sig .tc := ⟨.hbm, 239, rfl⟩
abbrev main_v200 : Ref sig .tc := ⟨.hbm, 240, rfl⟩
abbrev main_v201 : Ref sig .tc := ⟨.hbm, 241, rfl⟩
abbrev main_v202 : Ref sig .tc := ⟨.hbm, 242, rfl⟩
abbrev main_v203 : Ref sig .tc := ⟨.hbm, 243, rfl⟩
abbrev main_v204 : Ref sig .tc := ⟨.hbm, 244, rfl⟩
abbrev main_v205 : Ref sig .tc := ⟨.hbm, 245, rfl⟩
abbrev main_v206 : Ref sig .tc := ⟨.hbm, 246, rfl⟩
abbrev main_v207 : Ref sig .tc := ⟨.hbm, 247, rfl⟩
abbrev main_v208 : Ref sig .tc := ⟨.hbm, 248, rfl⟩
abbrev main_v209 : Ref sig .tc := ⟨.hbm, 249, rfl⟩
abbrev main_v210 : Ref sig .tc := ⟨.hbm, 250, rfl⟩
abbrev main_v211 : Ref sig .tc := ⟨.hbm, 251, rfl⟩
abbrev main_v212 : Ref sig .tc := ⟨.hbm, 252, rfl⟩
abbrev main_v213 : Ref sig .tc := ⟨.hbm, 253, rfl⟩
abbrev main_cst_31 : Ref sig .tc := ⟨.hbm, 254, rfl⟩
abbrev main_v214 : Ref sig .tc := ⟨.hbm, 255, rfl⟩
abbrev main_v215 : Ref sig .tc := ⟨.hbm, 256, rfl⟩
abbrev main_cst_32 : Ref sig .tc := ⟨.hbm, 257, rfl⟩
abbrev main_v216 : Ref sig .tc := ⟨.hbm, 258, rfl⟩
abbrev main_v217 : Ref sig .tc := ⟨.hbm, 259, rfl⟩
abbrev main_cst_33 : Ref sig .tc := ⟨.hbm, 260, rfl⟩
abbrev main_v218 : Ref sig .tc := ⟨.hbm, 261, rfl⟩
abbrev main_v219 : Ref sig .tc := ⟨.hbm, 262, rfl⟩
abbrev main_cst_34 : Ref sig .tc := ⟨.hbm, 263, rfl⟩
abbrev main_v220 : Ref sig .tc := ⟨.hbm, 264, rfl⟩
abbrev main_v221 : Ref sig .tc := ⟨.hbm, 265, rfl⟩
abbrev main_v222 : Ref sig .tc := ⟨.hbm, 266, rfl⟩
abbrev main_v223 : Ref sig .tc := ⟨.hbm, 267, rfl⟩
abbrev main_v224 : Ref sig .tc := ⟨.hbm, 268, rfl⟩
abbrev main_v225 : Ref sig .tc := ⟨.hbm, 269, rfl⟩
abbrev main_v226 : Ref sig .tc := ⟨.hbm, 270, rfl⟩
abbrev main_v227 : Ref sig .tc := ⟨.hbm, 271, rfl⟩
abbrev main_v228 : Ref sig .tc := ⟨.hbm, 272, rfl⟩
abbrev main_v229 : Ref sig .tc := ⟨.hbm, 273, rfl⟩
abbrev main_v230 : Ref sig .tc := ⟨.hbm, 274, rfl⟩
abbrev main_v231 : Ref sig .tc := ⟨.hbm, 275, rfl⟩
abbrev main_v232 : Ref sig .tc := ⟨.hbm, 276, rfl⟩
abbrev main_v233 : Ref sig .tc := ⟨.hbm, 277, rfl⟩
abbrev main_v234 : Ref sig .tc := ⟨.hbm, 278, rfl⟩
abbrev main_v235 : Ref sig .tc := ⟨.hbm, 279, rfl⟩
abbrev main_cst_35 : Ref sig .tc := ⟨.hbm, 280, rfl⟩
abbrev main_v236 : Ref sig .tc := ⟨.hbm, 281, rfl⟩
abbrev main_v237 : Ref sig .tc := ⟨.hbm, 282, rfl⟩
abbrev main_cst_36 : Ref sig .tc := ⟨.hbm, 283, rfl⟩
abbrev main_v238 : Ref sig .tc := ⟨.hbm, 284, rfl⟩
abbrev main_v239 : Ref sig .tc := ⟨.hbm, 285, rfl⟩
abbrev main_cst_37 : Ref sig .tc := ⟨.hbm, 286, rfl⟩
abbrev main_v240 : Ref sig .tc := ⟨.hbm, 287, rfl⟩
abbrev main_v241 : Ref sig .tc := ⟨.hbm, 288, rfl⟩
abbrev main_cst_38 : Ref sig .tc := ⟨.hbm, 289, rfl⟩
abbrev main_v242 : Ref sig .tc := ⟨.hbm, 290, rfl⟩
abbrev main_v243 : Ref sig .tc := ⟨.hbm, 291, rfl⟩
abbrev main_v244 : Ref sig .tc := ⟨.hbm, 292, rfl⟩
abbrev main_v245 : Ref sig .tc := ⟨.hbm, 293, rfl⟩
abbrev main_v246 : Ref sig .tc := ⟨.hbm, 294, rfl⟩
abbrev main_v247 : Ref sig .tc := ⟨.hbm, 295, rfl⟩
abbrev main_v248 : Ref sig .tc := ⟨.hbm, 296, rfl⟩
abbrev main_v249 : Ref sig .tc := ⟨.hbm, 297, rfl⟩
abbrev main_v250 : Ref sig .tc := ⟨.hbm, 298, rfl⟩
abbrev main_v251 : Ref sig .tc := ⟨.hbm, 299, rfl⟩
abbrev main_v252 : Ref sig .tc := ⟨.hbm, 300, rfl⟩
abbrev main_v253 : Ref sig .tc := ⟨.hbm, 301, rfl⟩
abbrev main_v254 : Ref sig .tc := ⟨.hbm, 302, rfl⟩
abbrev main_v255 : Ref sig .tc := ⟨.hbm, 303, rfl⟩
abbrev main_v256 : Ref sig .tc := ⟨.hbm, 304, rfl⟩
abbrev main_v257 : Ref sig .tc := ⟨.hbm, 305, rfl⟩
abbrev main_cst_39 : Ref sig .tc := ⟨.hbm, 306, rfl⟩
abbrev main_v258 : Ref sig .tc := ⟨.hbm, 307, rfl⟩
abbrev main_v259 : Ref sig .tc := ⟨.hbm, 308, rfl⟩
abbrev main_v260 : Ref sig .tc := ⟨.hbm, 309, rfl⟩
abbrev main_v261 : Ref sig .tc := ⟨.hbm, 310, rfl⟩
abbrev main_v262 : Ref sig .tc := ⟨.hbm, 311, rfl⟩
abbrev main_v263 : Ref sig .tc := ⟨.hbm, 312, rfl⟩
abbrev main_v264 : Ref sig .tc := ⟨.hbm, 313, rfl⟩
abbrev main_v265 : Ref sig .tc := ⟨.hbm, 314, rfl⟩
abbrev main_v266 : Ref sig .tc := ⟨.hbm, 315, rfl⟩
abbrev main_v267 : Ref sig .tc := ⟨.hbm, 316, rfl⟩
abbrev main_v268 : Ref sig .tc := ⟨.hbm, 317, rfl⟩
abbrev main_v269 : Ref sig .tc := ⟨.hbm, 318, rfl⟩
abbrev main_v270 : Ref sig .tc := ⟨.hbm, 319, rfl⟩
abbrev main_v271 : Ref sig .tc := ⟨.hbm, 320, rfl⟩
abbrev main_v272 : Ref sig .tc := ⟨.hbm, 321, rfl⟩
abbrev main_v273 : Ref sig .tc := ⟨.hbm, 322, rfl⟩
abbrev main_cst_40 : Ref sig .tc := ⟨.hbm, 323, rfl⟩
abbrev main_v274 : Ref sig .tc := ⟨.hbm, 324, rfl⟩
abbrev main_v275 : Ref sig .tc := ⟨.hbm, 325, rfl⟩
abbrev main_v276 : Ref sig .tc := ⟨.hbm, 326, rfl⟩
abbrev main_v277 : Ref sig .tc := ⟨.hbm, 327, rfl⟩
abbrev main_v278 : Ref sig .tc := ⟨.hbm, 328, rfl⟩
abbrev main_v279 : Ref sig .tc := ⟨.hbm, 329, rfl⟩
abbrev main_v280 : Ref sig .tc := ⟨.hbm, 330, rfl⟩
abbrev main_v281 : Ref sig .tc := ⟨.hbm, 331, rfl⟩
abbrev main_v282 : Ref sig .tc := ⟨.hbm, 332, rfl⟩
abbrev main_v283 : Ref sig .tc := ⟨.hbm, 333, rfl⟩
abbrev main_v284 : Ref sig .tc := ⟨.hbm, 334, rfl⟩
abbrev main_v285 : Ref sig .tc := ⟨.hbm, 335, rfl⟩
abbrev main_v286 : Ref sig .tc := ⟨.hbm, 336, rfl⟩
abbrev main_v287 : Ref sig .tc := ⟨.hbm, 337, rfl⟩
abbrev main_v288 : Ref sig .tc := ⟨.hbm, 338, rfl⟩
abbrev main_v289 : Ref sig .tc := ⟨.hbm, 339, rfl⟩
abbrev main_v290 : Ref sig .tc := ⟨.hbm, 340, rfl⟩
abbrev main_v291 : Ref sig .tc := ⟨.hbm, 341, rfl⟩
abbrev main_cst_41 : Ref sig .tc := ⟨.hbm, 342, rfl⟩
abbrev main_v292 : Ref sig .tc := ⟨.hbm, 343, rfl⟩
abbrev main_v293 : Ref sig .tc := ⟨.hbm, 344, rfl⟩
abbrev main_v294 : Ref sig .tc := ⟨.hbm, 345, rfl⟩
abbrev main_v295 : Ref sig .tc := ⟨.hbm, 346, rfl⟩
abbrev main_v296 : Ref sig .tc := ⟨.hbm, 347, rfl⟩
abbrev main_v297 : Ref sig .tc := ⟨.hbm, 348, rfl⟩
abbrev main_v298 : Ref sig .tc := ⟨.hbm, 349, rfl⟩
abbrev main_v299 : Ref sig .tc := ⟨.hbm, 350, rfl⟩
abbrev main_v300 : Ref sig .tc := ⟨.hbm, 351, rfl⟩
abbrev main_v301 : Ref sig .tc := ⟨.hbm, 352, rfl⟩
abbrev main_v302 : Ref sig .tc := ⟨.hbm, 353, rfl⟩
abbrev main_v303 : Ref sig .tc := ⟨.hbm, 354, rfl⟩
abbrev main_v304 : Ref sig .tc := ⟨.hbm, 355, rfl⟩
abbrev main_cst_42 : Ref sig .tc := ⟨.hbm, 356, rfl⟩
abbrev main_v305 : Ref sig .tc := ⟨.hbm, 357, rfl⟩
abbrev main_v306 : Ref sig .tc := ⟨.hbm, 358, rfl⟩
abbrev main_v307 : Ref sig .tc := ⟨.hbm, 359, rfl⟩
abbrev main_cst_43 : Ref sig .tc := ⟨.hbm, 360, rfl⟩
abbrev main_v308 : Ref sig .tc := ⟨.hbm, 361, rfl⟩
abbrev main_v309 : Ref sig .tc := ⟨.hbm, 362, rfl⟩
abbrev main_v310 : Ref sig .tc := ⟨.hbm, 363, rfl⟩
abbrev main_v311 : Ref sig .tc := ⟨.hbm, 364, rfl⟩
abbrev main_v312 : Ref sig .tc := ⟨.hbm, 365, rfl⟩
abbrev main_cst_44 : Ref sig .tc := ⟨.hbm, 366, rfl⟩
abbrev main_v313 : Ref sig .tc := ⟨.hbm, 367, rfl⟩
abbrev main_v314 : Ref sig .tc := ⟨.hbm, 368, rfl⟩
abbrev main_v315 : Ref sig .tc := ⟨.hbm, 369, rfl⟩
abbrev main_v316 : Ref sig .tc := ⟨.hbm, 370, rfl⟩
abbrev main_cst_45 : Ref sig .tc := ⟨.hbm, 371, rfl⟩
abbrev main_v317 : Ref sig .tc := ⟨.hbm, 372, rfl⟩
abbrev main_v318 : Ref sig .tc := ⟨.hbm, 373, rfl⟩
abbrev main_v319 : Ref sig .tc := ⟨.hbm, 374, rfl⟩
abbrev main_cst_46 : Ref sig .tc := ⟨.hbm, 375, rfl⟩
abbrev main_v320 : Ref sig .tc := ⟨.hbm, 376, rfl⟩
abbrev main_cst_47 : Ref sig .tc := ⟨.hbm, 377, rfl⟩
abbrev main_v321 : Ref sig .tc := ⟨.hbm, 378, rfl⟩
abbrev main_cst_48 : Ref sig .tc := ⟨.hbm, 379, rfl⟩
abbrev main_v322 : Ref sig .tc := ⟨.hbm, 380, rfl⟩
abbrev main_cst_49 : Ref sig .tc := ⟨.hbm, 381, rfl⟩
abbrev main_v323 : Ref sig .tc := ⟨.hbm, 382, rfl⟩
abbrev main_v324 : Ref sig .tc := ⟨.hbm, 383, rfl⟩

abbrev nD : Nat := 1
abbrev τ : Topo := Topo.v7x

variable {F : FTy → Type} [FloatOps F]
-- ==== Proof.CtxValue.lean ====
module

public import proofs.«01_k».proof.Proof.Gen.KernelIdeal.Frame
public import proofs.«01_k».proof.Proof.Gen.KernelIdeal.Value
public import proofs.«01_k».proof.Proof.Gen.ReferenceIdeal.Run
public import proofs.«01_k».proof.Defs
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.KernelIdeal.Ctx

open Cert.KernelIdeal Cert.KernelIdeal.Gen

variable (m : (ℓ : Loc nD τ sig) → Buf (Elt Ideal) ℓ)

/-- Every window's block index at the one point. -/
theorem idx : ∀ t : Fin cfg0.N, win0_0.index t = ![0, 0] ∧ win0_1.index t = ![0, 0] ∧ win0_2.index t = ![0, 0, 0]
    ∧ win0_3.index t = ![0, 0] ∧ win0_4.index t = ![0, 0] ∧ win0_5.index t = ![0, 0] ∧ win0_6.index t = ![0, 0]
    ∧ win0_7.index t = ![0, 0] ∧ win0_8.index t = ![0, 0] ∧ win0_9.index t = ![0, 0] :=
  (by decide +kernel : ∀ t : Fin grid0.N, _)

/-- The cotangent of the projected rows. -/
abbrev Du (c : Dev nD) : FVec Ideal S256x1024 .f32 := m ((c : Thread nD τ).loc main_arg1)

/-- The projection weight. -/
abbrev Wt (c : Dev nD) : FVec Ideal S2048x4096 .f32 := m ((c : Thread nD τ).loc main_arg2)

/-- The gathered projection weight as the region finds it: device `a`'s columns of the argument. -/
theorem entry_w (c : Dev nD) (x : S8x2048x512.Idx) : V m c main_v2 x
    = Wt m c (ix2 (x 1) ⟨(x 0).val * 512 + (x 2).val, by have := (x 0).isLt; have := (x 2).isLt; change (x 0).val < 8 at *; change (x 2).val < 512 at *; omega⟩) := by
  entry_read
  pointwise

/-- A sum over 1024 lanes is the sum over its two halves. -/
theorem halves (f : Fin 1024 → EReal) : ∑ k, f k
    = ∑ k : Fin 512, f ⟨k.val, by omega⟩ + ∑ k : Fin 512, f ⟨512 + k.val, by omega⟩ :=
  Fin.sum_univ_add (a := 512) (b := 512) f

theorem final7 (c : Dev nD) : (dats m 0 c).arrAt 7 cfg0.N = k0_pay6 (F := Ideal) (Du m c) (View.ld (V m c main_v2) r0_1) (View.ld (V m c main_v2) r0_2) (m ((c : Thread nD τ).loc main_arg0)) (m ((c : Thread nD τ).loc main_arg3)) := by
  refine (dats m 0 c).arrAt_eq_of_after_last 7 t0_0 (by decide +kernel) _ fun j => ?_
  blk_simp
  rw [after0_7]
  frame_out
  blk_point [iblk, V, idx t0_0]

theorem final8 (c : Dev nD) : (dats m 0 c).arrAt 8 cfg0.N = k0_pay5 (F := Ideal) (Du m c) (View.ld (V m c main_v2) r0_1) (View.ld (V m c main_v2) r0_2) := by
  refine (dats m 0 c).arrAt_eq_of_after_last 8 t0_0 (by decide +kernel) _ fun j => ?_
  blk_simp
  rw [after0_8]
  frame_out
  have h1 : iblk m c 1 t0_0 = Du m c := by blk_ext! [iblk, V, idx t0_0]
  have h2 : iblk m c 2 t0_0 = V m c main_v2 := by blk_ext! [iblk, V, idx t0_0]
  rw [h1, h2]
  rfl

theorem final9 (c : Dev nD) : (dats m 0 c).arrAt 9 cfg0.N = k0_pay1 (F := Ideal) (k0_pay3 (Du m c) (View.ld (V m c main_v2) r0_1) (View.ld (V m c main_v2) r0_2)) (k0_pay4 (m ((c : Thread nD τ).loc main_arg0))) (m ((c : Thread nD τ).loc main_arg4)) := by
  refine (dats m 0 c).arrAt_eq_of_after_last 9 t0_0 (by decide +kernel) _ fun j => ?_
  blk_simp
  rw [after0_9]
  frame_out
  blk_point [iblk, V, idx t0_0]

theorem final6 (c : Dev nD) : (dats m 0 c).arrAt 6 cfg0.N = k0_pay2 (F := Ideal) (Du m c) := by
  refine (dats m 0 c).arrAt_eq_of_after_last 6 t0_0 (by decide +kernel) _ fun j => ?_
  blk_simp
  rw [after0_6]
  frame_out
  blk_point [iblk, V, idx t0_0]

/-- The cotangent of the modulated rows. -/
theorem dh_at (c : Dev nD) (i : S256x2048.Idx) :
   k0_pay3 (F := Ideal) (Du m c) (View.ld (V m c main_v2) r0_1) (View.ld (V m c main_v2) r0_2) i
     = ∑ k : Fin 1024, Du m c (ix2 (i 0) k)
        * Wt m c (ix2 (i 1) ⟨1024 + k.val, by omega⟩) := by
  rw [halves]
  pointwise [k0_pay3, k0_pay2]
  have hw : ∀ (a : Fin 8) (k : Fin 512) (n : Fin 4096), n.val = a.val * 512 + k.val →
      V m c main_v2 (ix3 a (i 1) k) = Wt m c (ix2 (i 1) n) := fun a k n h =>
    (entry_w m c _).trans (congrArg (fun n => Wt m c (ix2 (i 1) n)) (Fin.ext h.symm))
  congr 1 <;> refine Finset.sum_congr rfl fun k _ => congrArg _ (hw _ k _ ?_)
  · rfl
  · show 1024 + (512 + k.val) = 3 * 512 + k.val
    omega

end Cert.KernelIdeal.Ctx

set_option maxHeartbeats 1600000 in
theorem algebraic_ctx : Cert.algebraic_KernelIdeal_ReferenceIdeal := by
  pair_intro
  · run_from Cert.KernelIdeal.Value.run_blocks m g
  · hlo_run
    all_goals clear hagree hpre g g'
    · exact ((Cert.KernelIdeal.Ctx.final6 m c).trans (by pointwise! [Cert.KernelIdeal.Gen.k0_pay2])).symm
    · rw [Cert.KernelIdeal.Ctx.final7 m c]; funext j; pointwise! [Cert.KernelIdeal.Gen.k0_pay6, Cert.KernelIdeal.Gen.k0_pay4, Cert.KernelIdeal.Ctx.dh_at];
    · rw [Cert.KernelIdeal.Ctx.final8 m c]; funext j; pointwise! [Cert.KernelIdeal.Gen.k0_pay5, Cert.KernelIdeal.Ctx.dh_at];
    · rw [Cert.KernelIdeal.Ctx.final9 m c]; funext j; pointwise! [Cert.KernelIdeal.Gen.k0_pay1, Cert.KernelIdeal.Gen.k0_pay4, Cert.KernelIdeal.Ctx.dh_at];

/-- The reference keeps its arguments, and it declares no semaphore. -/
theorem frame_ref_ctx : Cert.quiescent_ReferenceIdeal := fun m ρ _ =>
  (θ_run Cert.ReferenceIdeal.defs _ _).mono
    (fun r h => ⟨fun c => (h c).2.2.2.2, sem_eq_zero_of_no_sems (by decide) r.2⟩)
    (Cert.ReferenceIdeal.Value.run (F := Ideal) m ρ)
-- ==== Proof.ScanTrip.lean ====
/- One trip of the scan's loop: what it stores and what it carries on. -/
module

public import proofs.«01_k».proof.Proof.Gen.Kernel2Ideal.Frame
public import proofs.«01_k».proof.Proof.Gen.Kernel2Ideal.Loops
public import proofs.«01_k».proof.Proof.Gen.Kernel2Ideal.Skeleton

@[expose] public section

set_option maxRecDepth 16384

noncomputable section

namespace Cert.Kernel2Ideal.Scan

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- The four carried vectors. -/
abbrev Quad (F : FTy → Type) : Type := FVec F S8x128 .f32 × FVec F S8x128 .f32 × FVec F S8x128 .f32 × FVec F S8x128 .f32

/-- Eight rows of a block, 528 apart, from the offsets `off` on. -/
abbrev rows8 (X : Vec F S8448x128 .f32) (off : Fin 2 → ℕ) (inb : ∀ a, S8x128.size a = 0 ∨ off a + (![528, 1] : Fin 2 → ℕ) a * (S8x128.size a - 1) < S8448x128.size a) : Vec F S8x128 .f32 :=
  fun x => X ((⟨off, S8x128.size, ![528, 1], inb⟩ : LoadRect S8448x128).idx x)

/-- One step of both directions' recurrences: step `u` of trip `k`, from the two blocks of incoming gradients
    (real and imaginary parts) and the four parts of the decay. -/
def stepQ (v3 v4 v9 v10 : Vec F S8x128 .f32) (X1 X2 : Vec F S8448x128 .f32) (k : Fin k0_t1_loop.trips) (u : Fin 4) (s : Quad F) : Quad F :=
  (k0_pay14 (k0_pay2 v3 v4) (k0_pay4 v9 v10) s.1 s.2.1
      (k0_pay11 k0_pay1 (rows8 X1 (k0_off3 k (BitVec.ofNat 32 u.val)) (k0_off3_inb k u)) (rows8 X1 (k0_off4 k (BitVec.ofNat 32 u.val)) (k0_off4_inb k u))),
   k0_pay15 (k0_pay2 v3 v4) (k0_pay4 v9 v10) s.1 s.2.1
      (k0_pay12 k0_pay1 (rows8 X2 (k0_off3 k (BitVec.ofNat 32 u.val)) (k0_off3_inb k u)) (rows8 X2 (k0_off4 k (BitVec.ofNat 32 u.val)) (k0_off4_inb k u))),
   k0_pay16 k0_pay1 (k0_pay3 v3 v4) (k0_pay5 v9 v10) s.2.2.1 s.2.2.2
      (k0_pay13 (rows8 X1 (k0_off5 k (BitVec.ofNat 32 u.val)) (k0_off5_inb k u))) (rows8 X1 (k0_off6 k (BitVec.ofNat 32 u.val)) (k0_off6_inb k u)),
   k0_pay17 k0_pay1 (k0_pay3 v3 v4) (k0_pay5 v9 v10) s.2.2.1 s.2.2.2
      (rows8 X2 (k0_off5 k (BitVec.ofNat 32 u.val)) (k0_off5_inb k u)) (rows8 X2 (k0_off6 k (BitVec.ofNat 32 u.val)) (k0_off6_inb k u)))

/-- The carried vectors after `u` steps of a trip. -/
def inTrip (v3 v4 v9 v10 : Vec F S8x128 .f32) (X1 X2 : Vec F S8448x128 .f32) (k : Fin k0_t1_loop.trips) (acc : Quad F) : ℕ → Quad F
  | 0 => acc
  | u + 1 => stepQ v3 v4 v9 v10 X1 X2 k (Fin.ofNat 4 u) (inTrip v3 v4 v9 v10 X1 X2 k acc u)

/-- The rows a trip's step `u` writes of the forward direction's blocks, -/
abbrev rectF (k : Fin k0_t1_loop.trips) (u : Fin 4) : Rect S4224x128 :=
  ⟨(⟨k0_off1 k (BitVec.ofNat 32 u.val), S8x128.size, ![528, 1], k0_off1_inb k u⟩ : LoadRect S4224x128), spos_528_1⟩
/-- and of the backward direction's. -/
abbrev rectB (k : Fin k0_t1_loop.trips) (u : Fin 4) : Rect S4224x128 :=
  ⟨(⟨k0_off2 k (BitVec.ofNat 32 u.val), S8x128.size, ![528, 1], k0_off2_inb k u⟩ : LoadRect S4224x128), spos_528_1⟩

set_option maxHeartbeats 2000000 in
theorem tripRun (c : Dev nD) (i : grid0.Coords) (arg1 : Memref sig .tc .vmem S8448x128 .f32) (harg1 : arg1.IsWhole) (arg2 : Memref sig .tc .vmem S8448x128 .f32) (harg2 : arg2.IsWhole) (arg3 : Memref sig .tc .vmem S16x256 .f32) (harg3 : arg3.IsWhole) (arg4 : Memref sig .tc .vmem S4224x128 .f32) (harg4 : arg4.IsWhole) (arg5 : Memref sig .tc .vmem S4224x128 .f32) (harg5 : arg5.IsWhole) (arg6 : Memref sig .tc .vmem S4224x128 .f32) (harg6 : arg6.IsWhole) (arg7 : Memref sig .tc .vmem S4224x128 .f32) (harg7 : arg7.IsWhole)
    (v3 v4 v9 v10 : Vec F S8x128 .f32) (k : Fin k0_t1_loop.trips) (acc : Quad F)
    (f1 : Buf (Elt F) (arg1.view.loc (c : Thread nD τ))) (f2 : Buf (Elt F) (arg2.view.loc (c : Thread nD τ)))
    (f4 : Buf (Elt F) (arg4.view.loc (c : Thread nD τ))) (f5 : Buf (Elt F) (arg5.view.loc (c : Thread nD τ)))
    (f6 : Buf (Elt F) (arg6.view.loc (c : Thread nD τ))) (f7 : Buf (Elt F) (arg7.view.loc (c : Thread nD τ))) :
    iprop((arg1.view.loc (c : Thread nD τ) ↦[arg1.view.set]{fullShare} f1) ∗ (arg2.view.loc (c : Thread nD τ) ↦[arg2.view.set]{fullShare} f2)
      ∗ (arg4.view.loc (c : Thread nD τ) ↦[arg4.view.set]{fullShare} f4) ∗ (arg5.view.loc (c : Thread nD τ) ↦[arg5.view.set]{fullShare} f5)
      ∗ (arg6.view.loc (c : Thread nD τ) ↦[arg6.view.set]{fullShare} f6) ∗ (arg7.view.loc (c : Thread nD τ) ↦[arg7.view.set]{fullShare} f7))
    ⊢ wp frame (wpE (defs₀ (F := F)) Variants.none c none) Set.univ
        (k0_t1_body (F := F) i arg1 harg1 arg2 harg2 arg3 harg3 arg4 harg4 arg5 harg5 arg6 harg6 arg7 harg7 v3 v4 v9 v10 k acc)
        (fun y => (iprop(⌜y = inTrip v3 v4 v9 v10 (arg1.view.read (Elt F) f1) (arg2.view.read (Elt F) f2) k acc 4⌝
          ∗ (arg1.view.loc (c : Thread nD τ) ↦[arg1.view.set]{fullShare} f1) ∗ (arg2.view.loc (c : Thread nD τ) ↦[arg2.view.set]{fullShare} f2)
          ∗ (arg4.view.loc (c : Thread nD τ) ↦[arg4.view.set]{fullShare} arg4.view.writes (Elt F) f4
            [⟨rectF k 3, (inTrip v3 v4 v9 v10 (arg1.view.read (Elt F) f1) (arg2.view.read (Elt F) f2) k acc 3).1⟩, ⟨rectF k 2, (inTrip v3 v4 v9 v10 (arg1.view.read (Elt F) f1) (arg2.view.read (Elt F) f2) k acc 2).1⟩, ⟨rectF k 1, (inTrip v3 v4 v9 v10 (arg1.view.read (Elt F) f1) (arg2.view.read (Elt F) f2) k acc 1).1⟩, ⟨rectF k 0, (inTrip v3 v4 v9 v10 (arg1.view.read (Elt F) f1) (arg2.view.read (Elt F) f2) k acc 0).1⟩])
          ∗ (arg5.view.loc (c : Thread nD τ) ↦[arg5.view.set]{fullShare} arg5.view.writes (Elt F) f5
            [⟨rectF k 3, (inTrip v3 v4 v9 v10 (arg1.view.read (Elt F) f1) (arg2.view.read (Elt F) f2) k acc 3).2.1⟩, ⟨rectF k 2, (inTrip v3 v4 v9 v10 (arg1.view.read (Elt F) f1) (arg2.view.read (Elt F) f2) k acc 2).2.1⟩, ⟨rectF k 1, (inTrip v3 v4 v9 v10 (arg1.view.read (Elt F) f1) (arg2.view.read (Elt F) f2) k acc 1).2.1⟩, ⟨rectF k 0, (inTrip v3 v4 v9 v10 (arg1.view.read (Elt F) f1) (arg2.view.read (Elt F) f2) k acc 0).2.1⟩])
          ∗ (arg6.view.loc (c : Thread nD τ) ↦[arg6.view.set]{fullShare} arg6.view.writes (Elt F) f6
            [⟨rectB k 3, (inTrip v3 v4 v9 v10 (arg1.view.read (Elt F) f1) (arg2.view.read (Elt F) f2) k acc 3).2.2.1⟩, ⟨rectB k 2, (inTrip v3 v4 v9 v10 (arg1.view.read (Elt F) f1) (arg2.view.read (Elt F) f2) k acc 2).2.2.1⟩, ⟨rectB k 1, (inTrip v3 v4 v9 v10 (arg1.view.read (Elt F) f1) (arg2.view.read (Elt F) f2) k acc 1).2.2.1⟩, ⟨rectB k 0, (inTrip v3 v4 v9 v10 (arg1.view.read (Elt F) f1) (arg2.view.read (Elt F) f2) k acc 0).2.2.1⟩])
          ∗ (arg7.view.loc (c : Thread nD τ) ↦[arg7.view.set]{fullShare} arg7.view.writes (Elt F) f7
            [⟨rectB k 3, (inTrip v3 v4 v9 v10 (arg1.view.read (Elt F) f1) (arg2.view.read (Elt F) f2) k acc 3).2.2.2⟩, ⟨rectB k 2, (inTrip v3 v4 v9 v10 (arg1.view.read (Elt F) f1) (arg2.view.read (Elt F) f2) k acc 2).2.2.2⟩, ⟨rectB k 1, (inTrip v3 v4 v9 v10 (arg1.view.read (Elt F) f1) (arg2.view.read (Elt F) f2) k acc 1).2.2.2⟩, ⟨rectB k 0, (inTrip v3 v4 v9 v10 (arg1.view.read (Elt F) f1) (arg2.view.read (Elt F) f2) k acc 0).2.2.2⟩])
          ) : sProp 𝕄)) := by
  unfold k0_t1_body
  simp only [k0_part1_eq_skeleton, k0_part2_eq_skeleton, k0_part3_eq_skeleton, k0_part4_eq_skeleton, k0_part5_eq_skeleton, k0_part6_eq_skeleton]
  iintro ⟨H1, H2, H4, H5, H6, H7⟩
  sl_exec
  sl_step
  isplitr
  · ipureintro; rfl
  isplitl [H1]; · iexact H1
  isplitl [H2]; · iexact H2
  isplitl [H4]; · iexact H4
  isplitl [H5]; · iexact H5
  isplitl [H6]; · iexact H6
  iexact H7

end Cert.Kernel2Ideal.Scan

end
-- ==== Proof.ScanBody.lean ====
/- The scan's loop by its invariant: which rows every trip leaves. -/
module

public import proofs.«01_k».proof.Proof.ScanTrip
public import proofs.«01_k».proof.Proof.Gen.Kernel2Ideal.Launch
public import proofs.«01_k».proof.Proof.Gen.Kernel2Ideal.Points

@[expose] public section

set_option maxRecDepth 16384

noncomputable section

namespace Cert.Kernel2Ideal.Scan

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (UR sig nD τ) ℕ

/-! ## The rows a step writes -/

theorem trips_eq : k0_t1_loop.trips = 132 := by decide +kernel

instance : NeZero k0_t1_loop.trips := ⟨by rw [trips_eq]; decide⟩

theorem offF : ∀ (k : Fin k0_t1_loop.trips) (u : Fin 4), k0_off1 k (BitVec.ofNat 32 u.val) = ![527 - (4 * k.val + u.val), 0] := by decide +kernel
theorem offB : ∀ (k : Fin k0_t1_loop.trips) (u : Fin 4),
    k0_off2 k (BitVec.ofNat 32 u.val) = ![if 4 * k.val + u.val < 512 then 16 + (4 * k.val + u.val) else 4 * k.val + u.val - 512, 0] := by decide +kernel

/-- The step at which the forward direction writes a row of its block, -/
def tF (y : S4224x128.Idx) : ℕ := 527 - (y 0).val % 528
/-- and the backward direction. -/
def tB (y : S4224x128.Idx) : ℕ := if 16 ≤ (y 0).val % 528 then (y 0).val % 528 - 16 else (y 0).val % 528 + 512
/-- The place of a block's row in the carried vector: the pair of groups and the lane. -/
def pos (y : S4224x128.Idx) : S8x128.Idx := fun a => match a with
  | ⟨0, _⟩ => ⟨(y 0).val / 528, Nat.div_lt_of_lt_mul (y 0).isLt⟩
  | ⟨1, _⟩ => ⟨(y 1).val, (y 1).isLt⟩

theorem tF_lt (y : S4224x128.Idx) : tF y < 528 := by unfold tF; omega
theorem tB_lt (y : S4224x128.Idx) : tB y < 528 := by unfold tB; have := Nat.mod_lt (y 0).val (show 0 < 528 by decide); split <;> omega

theorem embF (k : Fin k0_t1_loop.trips) (u : Fin 4) (y : S4224x128.Idx) (h : tF y = 4 * k.val + u.val) : (rectF k u).emb (pos y) = y := by
  apply Rect.emb_eq_of_coords
  have hk : k.val < 132 := Nat.lt_of_lt_of_eq k.isLt trips_eq
  intro a
  show (y a).val = k0_off1 k (BitVec.ofNat 32 u.val) a + (![528, 1] : Fin 2 → ℕ) a * (pos y a).val
  rw [offF]
  unfold tF at h
  fin_cases a
  · show (y 0).val = 527 - (4 * k.val + u.val) + 528 * ((y 0).val / 528)
    omega
  · show (y 1).val = 0 + 1 * (y 1).val
    omega

theorem embB (k : Fin k0_t1_loop.trips) (u : Fin 4) (y : S4224x128.Idx) (h : tB y = 4 * k.val + u.val) : (rectB k u).emb (pos y) = y := by
  apply Rect.emb_eq_of_coords
  have hk : k.val < 132 := Nat.lt_of_lt_of_eq k.isLt trips_eq
  intro a
  show (y a).val = k0_off2 k (BitVec.ofNat 32 u.val) a + (![528, 1] : Fin 2 → ℕ) a * (pos y a).val
  rw [offB]
  unfold tB at h
  fin_cases a
  · show (y 0).val = (if 4 * k.val + u.val < 512 then 16 + (4 * k.val + u.val) else 4 * k.val + u.val - 512) + 528 * ((y 0).val / 528)
    split <;> split at h <;> omega
  · show (y 1).val = 0 + 1 * (y 1).val
    omega

theorem missF (k : Fin k0_t1_loop.trips) (u : Fin 4) (y : S4224x128.Idx) (h : tF y ≠ 4 * k.val + u.val) : y ∉ (rectF k u).set := by
  intro hy
  obtain ⟨j, hj, e⟩ := (LoadRect.mem_set _).mp hy 0
  have hk : k.val < 132 := Nat.lt_of_lt_of_eq k.isLt trips_eq
  replace e : (y 0).val = k0_off1 k (BitVec.ofNat 32 u.val) 0 + 528 * j := e
  rw [offF] at e
  replace e : (y 0).val = 527 - (4 * k.val + u.val) + 528 * j := e
  apply h; unfold tF; omega

theorem missB (k : Fin k0_t1_loop.trips) (u : Fin 4) (y : S4224x128.Idx) (h : tB y ≠ 4 * k.val + u.val) : y ∉ (rectB k u).set := by
  intro hy
  obtain ⟨j, hj, e⟩ := (LoadRect.mem_set _).mp hy 0
  have hk : k.val < 132 := Nat.lt_of_lt_of_eq k.isLt trips_eq
  replace e : (y 0).val = k0_off2 k (BitVec.ofNat 32 u.val) 0 + 528 * j := e
  rw [offB] at e
  replace e : (y 0).val = (if 4 * k.val + u.val < 512 then 16 + (4 * k.val + u.val) else 4 * k.val + u.val - 512) + 528 * j := e
  apply h; unfold tB; split <;> split at e <;> omega

/-! ## The carried vectors before every step -/

/-- The carried vectors before step `t`, from zero. -/
def st (v3 v4 v9 v10 : Vec F S8x128 .f32) (X1 X2 : Vec F S8448x128 .f32) : ℕ → Quad F
  | 0 => (k0_pay6, k0_pay6, k0_pay6, k0_pay6)
  | t + 1 => stepQ v3 v4 v9 v10 X1 X2 (Fin.ofNat _ (t / 4)) (Fin.ofNat 4 t) (st v3 v4 v9 v10 X1 X2 t)

theorem inTrip_st (v3 v4 v9 v10 : Vec F S8x128 .f32) (X1 X2 : Vec F S8448x128 .f32) (k : Fin k0_t1_loop.trips) :
    ∀ u : ℕ, u ≤ 4 → inTrip v3 v4 v9 v10 X1 X2 k (st v3 v4 v9 v10 X1 X2 (4 * k.val)) u = st v3 v4 v9 v10 X1 X2 (4 * k.val + u)
  | 0, _ => rfl
  | u + 1, hu => by
    show stepQ v3 v4 v9 v10 X1 X2 k (Fin.ofNat 4 u) (inTrip v3 v4 v9 v10 X1 X2 k _ u) = stepQ v3 v4 v9 v10 X1 X2 (Fin.ofNat _ ((4 * k.val + u) / 4)) (Fin.ofNat 4 (4 * k.val + u)) (st v3 v4 v9 v10 X1 X2 (4 * k.val + u))
    rw [inTrip_st v3 v4 v9 v10 X1 X2 k u (by omega)]
    have hk : k.val < k0_t1_loop.trips := k.isLt
    have e1 : Fin.ofNat k0_t1_loop.trips ((4 * k.val + u) / 4) = k := by
      apply Fin.ext; show (4 * k.val + u) / 4 % k0_t1_loop.trips = k.val
      rw [show (4 * k.val + u) / 4 = k.val by omega, Nat.mod_eq_of_lt hk]
    have e2 : Fin.ofNat 4 (4 * k.val + u) = Fin.ofNat 4 u := by
      apply Fin.ext; show (4 * k.val + u) % 4 = u % 4; omega
    rw [e1, e2]

/-- What one of the two directions leaves in a block: the carried vector as its step found it. -/
def blkOf (T : S4224x128.Idx → ℕ) (w : ℕ → Vec F S8x128 .f32) : Vec F S4224x128 .f32 := fun y => w (T y) (pos y)

set_option maxHeartbeats 1000000 in
/-- Four more steps' rows. -/
theorem write4 {κ : Kind} {sp : Space} (v : View sig κ sp S4224x128 .f32) (f : v.ty.Contents (Elt F)) (T : S4224x128.Idx → ℕ)
    (w : ℕ → Vec F S8x128 .f32) (n : ℕ) (h : ∀ y, T y < n → v.read (Elt F) f y = blkOf T w y)
    (r : Fin 4 → Rect S4224x128) (p : (u : Fin 4) → (r u).shape.Idx → Elt F .f32)
    (hit : ∀ (u : Fin 4) (y : S4224x128.Idx), T y = n + u.val → ∃ x, (r u).emb x = y ∧ p u x = w (n + u.val) (pos y))
    (miss : ∀ (u : Fin 4) (y : S4224x128.Idx), T y ≠ n + u.val → y ∉ (r u).set) (y : S4224x128.Idx) (hy : T y < n + 4) :
    v.read (Elt F) (v.writes (Elt F) f [⟨r 3, p 3⟩, ⟨r 2, p 2⟩, ⟨r 1, p 1⟩, ⟨r 0, p 0⟩]) y = blkOf T w y := by
  have go : ∀ (u : Fin 4) (L), T y = n + u.val → v.read (Elt F) (v.writes (Elt F) f (⟨r u, p u⟩ :: L)) y = blkOf T w y := by
    intro u L e
    obtain ⟨x, ex, ep⟩ := hit u y e
    rw [View.read_writes_cons_hit v f _ _ _ x y ex, ep, ← e]; rfl
  by_cases h3 : T y = n + 3
  · exact go 3 _ h3
  rw [View.read_writes_cons_miss v f _ _ y (miss 3 y h3)]
  by_cases h2 : T y = n + 2
  · exact go 2 _ h2
  rw [View.read_writes_cons_miss v f _ _ y (miss 2 y h2)]
  by_cases h1 : T y = n + 1
  · exact go 1 _ h1
  rw [View.read_writes_cons_miss v f _ _ y (miss 1 y h1)]
  by_cases h0 : T y = n + 0
  · exact go 0 _ h0
  rw [View.read_writes_cons_miss v f _ _ y (miss 0 y h0)]
  exact h y (by omega)

/-! ## The loop's invariant -/

/-- Before trip `k`: the carried vectors are `st (4 k)`, and the rows of the steps before it hold their vectors. -/
abbrev inv (c : Dev nD) (arg1 arg2 : Memref sig .tc .vmem S8448x128 .f32) (arg4 arg5 arg6 arg7 : Memref sig .tc .vmem S4224x128 .f32)
    (v3 v4 v9 v10 : Vec F S8x128 .f32) (X1 X2 : Vec F S8448x128 .f32) (k : ℕ) (acc : Quad F) : sProp 𝕄 :=
  iprop(∃ (f1 : Buf (Elt F) (arg1.view.loc (c : Thread nD τ))) (f2 : Buf (Elt F) (arg2.view.loc (c : Thread nD τ)))
      (f4 : Buf (Elt F) (arg4.view.loc (c : Thread nD τ))) (f5 : Buf (Elt F) (arg5.view.loc (c : Thread nD τ)))
      (f6 : Buf (Elt F) (arg6.view.loc (c : Thread nD τ))) (f7 : Buf (Elt F) (arg7.view.loc (c : Thread nD τ))),
    ⌜arg1.view.read (Elt F) f1 = X1 ∧ arg2.view.read (Elt F) f2 = X2 ∧ acc = st v3 v4 v9 v10 X1 X2 (4 * k)
      ∧ (∀ y, tF y < 4 * k → arg4.view.read (Elt F) f4 y = blkOf tF (fun t => (st v3 v4 v9 v10 X1 X2 t).1) y)
      ∧ (∀ y, tF y < 4 * k → arg5.view.read (Elt F) f5 y = blkOf tF (fun t => (st v3 v4 v9 v10 X1 X2 t).2.1) y)
      ∧ (∀ y, tB y < 4 * k → arg6.view.read (Elt F) f6 y = blkOf tB (fun t => (st v3 v4 v9 v10 X1 X2 t).2.2.1) y)
      ∧ (∀ y, tB y < 4 * k → arg7.view.read (Elt F) f7 y = blkOf tB (fun t => (st v3 v4 v9 v10 X1 X2 t).2.2.2) y)⌝
    ∗ (arg1.view.loc (c : Thread nD τ) ↦[arg1.view.set]{fullShare} f1) ∗ (arg2.view.loc (c : Thread nD τ) ↦[arg2.view.set]{fullShare} f2)
    ∗ (arg4.view.loc (c : Thread nD τ) ↦[arg4.view.set]{fullShare} f4) ∗ (arg5.view.loc (c : Thread nD τ) ↦[arg5.view.set]{fullShare} f5)
    ∗ (arg6.view.loc (c : Thread nD τ) ↦[arg6.view.set]{fullShare} f6) ∗ (arg7.view.loc (c : Thread nD τ) ↦[arg7.view.set]{fullShare} f7))

set_option maxHeartbeats 1000000 in
/-- One trip keeps it. -/
theorem inv_step (c : Dev nD) (i : grid0.Coords) (arg1 : Memref sig .tc .vmem S8448x128 .f32) (harg1 : arg1.IsWhole) (arg2 : Memref sig .tc .vmem S8448x128 .f32) (harg2 : arg2.IsWhole) (arg3 : Memref sig .tc .vmem S16x256 .f32) (harg3 : arg3.IsWhole) (arg4 : Memref sig .tc .vmem S4224x128 .f32) (harg4 : arg4.IsWhole) (arg5 : Memref sig .tc .vmem S4224x128 .f32) (harg5 : arg5.IsWhole) (arg6 : Memref sig .tc .vmem S4224x128 .f32) (harg6 : arg6.IsWhole) (arg7 : Memref sig .tc .vmem S4224x128 .f32) (harg7 : arg7.IsWhole)
    (v3 v4 v9 v10 : Vec F S8x128 .f32) (X1 X2 : Vec F S8448x128 .f32) (k : Fin k0_t1_loop.trips) (acc : Quad F) :
    inv c arg1 arg2 arg4 arg5 arg6 arg7 v3 v4 v9 v10 X1 X2 k.val acc
    ⊢ wp frame (wpE (defs₀ (F := F)) Variants.none c none) Set.univ
        (k0_t1_body (F := F) i arg1 harg1 arg2 harg2 arg3 harg3 arg4 harg4 arg5 harg5 arg6 harg6 arg7 harg7 v3 v4 v9 v10 k acc)
        (inv c arg1 arg2 arg4 arg5 arg6 arg7 v3 v4 v9 v10 X1 X2 (k.val + 1)) := by
  iintro ⟨%f1, %f2, %f4, %f5, %f6, %f7, %h, H1, H2, H4, H5, H6, H7⟩
  obtain ⟨rfl, rfl, rfl, h4, h5, h6, h7⟩ := h
  iapply (wp_wand_r Idealize.ShloMosaic.frame (wpE (defs₀ (F := F)) Variants.none (c : Thread nD τ) none) Set.univ)
  isplitl [H1 H2 H4 H5 H6 H7]
  · iapply (tripRun c i arg1 harg1 arg2 harg2 arg3 harg3 arg4 harg4 arg5 harg5 arg6 harg6 arg7 harg7 v3 v4 v9 v10 k _ f1 f2 f4 f5 f6 f7)
    isplitl [H1]; · iexact H1
    isplitl [H2]; · iexact H2
    isplitl [H4]; · iexact H4
    isplitl [H5]; · iexact H5
    isplitl [H6]; · iexact H6
    iexact H7
  iintro %y ⟨%hy, H1, H2, H4, H5, H6, H7⟩
  iexists f1; iexists f2; iexists _; iexists _; iexists _; iexists _
  isplitr
  swap
  · isplitl [H1]; · iexact H1
    isplitl [H2]; · iexact H2
    isplitl [H4]; · iexact H4
    isplitl [H5]; · iexact H5
    isplitl [H6]; · iexact H6
    iexact H7
  ipureintro
  have hst := inTrip_st v3 v4 v9 v10 (arg1.view.read (Elt F) f1) (arg2.view.read (Elt F) f2) k
  refine ⟨rfl, rfl, by rw [hy, hst 4 (by decide)]; rfl, ?_, ?_, ?_, ?_⟩
  · exact write4 arg4.view f4 tF _ (4 * k.val) h4 (rectF k) (fun u => (inTrip v3 v4 v9 v10 _ _ k _ u.val).1)
      (fun u y e => ⟨pos y, embF k u y e, by rw [hst u.val (by omega)]⟩) (fun u y e => missF k u y e)
  · exact write4 arg5.view f5 tF _ (4 * k.val) h5 (rectF k) (fun u => (inTrip v3 v4 v9 v10 _ _ k _ u.val).2.1)
      (fun u y e => ⟨pos y, embF k u y e, by rw [hst u.val (by omega)]⟩) (fun u y e => missF k u y e)
  · exact write4 arg6.view f6 tB _ (4 * k.val) h6 (rectB k) (fun u => (inTrip v3 v4 v9 v10 _ _ k _ u.val).2.2.1)
      (fun u y e => ⟨pos y, embB k u y e, by rw [hst u.val (by omega)]⟩) (fun u y e => missB k u y e)
  · exact write4 arg7.view f7 tB _ (4 * k.val) h7 (rectB k) (fun u => (inTrip v3 v4 v9 v10 _ _ k _ u.val).2.2.2)
      (fun u y e => ⟨pos y, embB k u y e, by rw [hst u.val (by omega)]⟩) (fun u y e => missB k u y e)

set_option warn.classDefReducibility false in
@[sl_loop] def loopInv (c : Dev nD) (i : grid0.Coords) (arg1 : Memref sig .tc .vmem S8448x128 .f32) (harg1 : arg1.IsWhole) (arg2 : Memref sig .tc .vmem S8448x128 .f32) (harg2 : arg2.IsWhole) (arg3 : Memref sig .tc .vmem S16x256 .f32) (harg3 : arg3.IsWhole) (arg4 : Memref sig .tc .vmem S4224x128 .f32) (harg4 : arg4.IsWhole) (arg5 : Memref sig .tc .vmem S4224x128 .f32) (harg5 : arg5.IsWhole) (arg6 : Memref sig .tc .vmem S4224x128 .f32) (harg6 : arg6.IsWhole) (arg7 : Memref sig .tc .vmem S4224x128 .f32) (harg7 : arg7.IsWhole)
    (v3 v4 v9 v10 : Vec F S8x128 .f32) (X1 X2 : Vec F S8448x128 .f32) (init : Quad F) :
    LoopInvTy_k0_t1 (F := F) Unit ℕ (UR sig nD τ) ℕ Variants.none c none Set.univ i arg1 harg1 arg2 harg2 arg3 harg3 arg4 harg4 arg5 harg5 arg6 harg6 arg7 harg7 v3 v4 v9 v10 init where
  inv := inv c arg1 arg2 arg4 arg5 arg6 arg7 v3 v4 v9 v10 X1 X2
  step := inv_step c i arg1 harg1 arg2 harg2 arg3 harg3 arg4 harg4 arg5 harg5 arg6 harg6 arg7 harg7 v3 v4 v9 v10 X1 X2

end Cert.Kernel2Ideal.Scan

end
-- ==== Proof.ScanRun.lean ====
/- The body's triple, and the run of the launch: which memory the kernel leaves. -/
module

public import proofs.«01_k».proof.Proof.ScanBody
public import Idealize.ShloMosaic.Lib.Claim
public import proofs.«01_k».proof.Proof.Gen.Kernel2Ideal.Launch
public import proofs.«01_k».proof.Proof.Gen.Kernel2Ideal.Points

@[expose] public section

set_option maxRecDepth 16384

noncomputable section

namespace Cert.Kernel2Ideal.Scan

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (UR sig nD τ) ℕ

/-! ## The body -/

abbrev q0 (X : Vec F S16x256 .f32) (o : Fin 2 → ℕ) (h : ∀ a, o a + S8x128.size a ≤ S16x256.size a) : Vec F S8x128 .f32 :=
  fun x => X ((Rect.unit (s := S16x256) o S8x128.size h).toLoadRect.idx x)

/-- The carried vectors before every step, from the decay's block and the two blocks of incoming gradients. -/
abbrev stX (A : Vec F S16x256 .f32) (X1 X2 : Vec F S8448x128 .f32) : ℕ → Quad F :=
  st (q0 A ![0, 0] inb_S16x256_S8x128_0_0) (q0 A ![8, 0] inb_S16x256_S8x128_8_0) (q0 A ![0, 128] inb_S16x256_S8x128_0_128) (q0 A ![8, 128] inb_S16x256_S8x128_8_128) X1 X2

def out3 (X1 X2 : Vec F S8448x128 .f32) (A : Vec F S16x256 .f32) : Vec F S4224x128 .f32 := blkOf tF fun t => (stX A X1 X2 t).1
def out4 (X1 X2 : Vec F S8448x128 .f32) (A : Vec F S16x256 .f32) : Vec F S4224x128 .f32 := blkOf tF fun t => (stX A X1 X2 t).2.1
def out5 (X1 X2 : Vec F S8448x128 .f32) (A : Vec F S16x256 .f32) : Vec F S4224x128 .f32 := blkOf tB fun t => (stX A X1 X2 t).2.2.1
def out6 (X1 X2 : Vec F S8448x128 .f32) (A : Vec F S16x256 .f32) : Vec F S4224x128 .f32 := blkOf tB fun t => (stX A X1 X2 t).2.2.2

set_option maxHeartbeats 2000000 in
theorem sound_kernel (c : Dev nD) (i : grid0.Coords) (arg1 : Memref sig .tc .vmem S8448x128 .f32) (harg1 : arg1.IsWhole) (arg2 : Memref sig .tc .vmem S8448x128 .f32) (harg2 : arg2.IsWhole) (arg3 : Memref sig .tc .vmem S16x256 .f32) (harg3 : arg3.IsWhole) (arg4 : Memref sig .tc .vmem S4224x128 .f32) (harg4 : arg4.IsWhole) (arg5 : Memref sig .tc .vmem S4224x128 .f32) (harg5 : arg5.IsWhole) (arg6 : Memref sig .tc .vmem S4224x128 .f32) (harg6 : arg6.IsWhole) (arg7 : Memref sig .tc .vmem S4224x128 .f32) (harg7 : arg7.IsWhole)
    (x0 x1 : Vec F S8448x128 .f32) (x2 : Vec F S16x256 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d) ∗ (∃ d, owns (c : Thread nD τ) arg5 fullShare d) ∗ (∃ d, owns (c : Thread nD τ) arg6 fullShare d) ∗ (∃ d, owns (c : Thread nD τ) arg7 fullShare d)
        ∗ (iprop(owns (c : Thread nD τ) arg1 fullShare x0 ∗ owns (c : Thread nD τ) arg2 fullShare x1 ∗ owns (c : Thread nD τ) arg3 fullShare x2
          ∗ owns (c : Thread nD τ) arg4 fullShare (out3 x0 x1 x2) ∗ owns (c : Thread nD τ) arg5 fullShare (out4 x0 x1 x2) ∗ owns (c : Thread nD τ) arg6 fullShare (out5 x0 x1 x2) ∗ owns (c : Thread nD τ) arg7 fullShare (out6 x0 x1 x2)) -∗ K ⟨⟩))
      ⊢ wp frame (wpE (defs₀ (F := F)) Variants.none c none) Set.univ (cc0_s5_scan_bwd i arg1 harg1 arg2 harg2 arg3 harg3 arg4 harg4 arg5 harg5 arg6 harg6 arg7 harg7) K := by
  simp only [cc0_s5_scan_bwd_eq_skeleton]; unfold cc0_s5_scan_bwd_skel
  unfold owns
  iintro ⟨⟨%f1, %hf1, H1⟩, ⟨%f2, %hf2, H2⟩, ⟨%f3, %hf3, H3⟩, ⟨%d4, %f4, -, H4⟩, ⟨%d5, %f5, -, H5⟩, ⟨%d6, %f6, -, H6⟩, ⟨%d7, %f7, -, H7⟩, Hk⟩
  subst hf1 hf2 hf3
  sl_exec
  have key : (iprop(inv c arg1 arg2 arg4 arg5 arg6 arg7 (q0 (arg3.view.read (Elt F) f3) ![0, 0] inb_S16x256_S8x128_0_0) (q0 (arg3.view.read (Elt F) f3) ![8, 0] inb_S16x256_S8x128_8_0)
      (q0 (arg3.view.read (Elt F) f3) ![0, 128] inb_S16x256_S8x128_0_128) (q0 (arg3.view.read (Elt F) f3) ![8, 128] inb_S16x256_S8x128_8_128) (arg1.view.read (Elt F) f1) (arg2.view.read (Elt F) f2) 0
        (k0_pay6 (F := F), k0_pay6 (F := F), k0_pay6 (F := F), k0_pay6 (F := F))
      ∗ (∀ acc, inv c arg1 arg2 arg4 arg5 arg6 arg7 (q0 (arg3.view.read (Elt F) f3) ![0, 0] inb_S16x256_S8x128_0_0) (q0 (arg3.view.read (Elt F) f3) ![8, 0] inb_S16x256_S8x128_8_0)
      (q0 (arg3.view.read (Elt F) f3) ![0, 128] inb_S16x256_S8x128_0_128) (q0 (arg3.view.read (Elt F) f3) ![8, 128] inb_S16x256_S8x128_8_128) (arg1.view.read (Elt F) f1) (arg2.view.read (Elt F) f2) 132 acc
        -∗ wp Idealize.ShloMosaic.frame (wpE (defs₀ (F := F)) Variants.none (c : Thread nD τ) none) Set.univ (Pure.pure PUnit.unit) K)) : sProp 𝕄)
    ⊢ wp Idealize.ShloMosaic.frame (wpE (defs₀ (F := F)) Variants.none (c : Thread nD τ) none) Set.univ
      (Scf.Loop.for k0_t1_loop k0_t1_ok (k0_pay6 (F := F), k0_pay6 (F := F), k0_pay6 (F := F), k0_pay6 (F := F))
        (k0_t1_body i arg1 harg1 arg2 harg2 arg3 harg3 arg4 harg4 arg5 harg5 arg6 harg6 arg7 harg7 (q0 (arg3.view.read (Elt F) f3) ![0, 0] inb_S16x256_S8x128_0_0) (q0 (arg3.view.read (Elt F) f3) ![8, 0] inb_S16x256_S8x128_8_0)
      (q0 (arg3.view.read (Elt F) f3) ![0, 128] inb_S16x256_S8x128_0_128) (q0 (arg3.view.read (Elt F) f3) ![8, 128] inb_S16x256_S8x128_8_128)) >>= fun _ => Pure.pure PUnit.unit) K :=
    Idealize.SL.BI.wand_elim (exec_loop Idealize.ShloMosaic.frame (wpE (defs₀ (F := F)) Variants.none (c : Thread nD τ) none) Set.univ
      k0_t1_loop.lb k0_t1_loop.ub k0_t1_loop.st k0_t1_ok (k0_pay6 (F := F), k0_pay6 (F := F), k0_pay6 (F := F), k0_pay6 (F := F)) _
      (loopInv c i arg1 harg1 arg2 harg2 arg3 harg3 arg4 harg4 arg5 harg5 arg6 harg6 arg7 harg7 (q0 (arg3.view.read (Elt F) f3) ![0, 0] inb_S16x256_S8x128_0_0) (q0 (arg3.view.read (Elt F) f3) ![8, 0] inb_S16x256_S8x128_8_0)
      (q0 (arg3.view.read (Elt F) f3) ![0, 128] inb_S16x256_S8x128_0_128) (q0 (arg3.view.read (Elt F) f3) ![8, 128] inb_S16x256_S8x128_8_128) (arg1.view.read (Elt F) f1) (arg2.view.read (Elt F) f2) _))
  iapply key
  isplitl [H1 H2 H4 H5 H6 H7]
  · iexists f1; iexists f2; iexists f4; iexists f5; iexists f6; iexists f7
    isplitr
    · ipureintro
      exact ⟨rfl, rfl, rfl, fun _ h => absurd h (Nat.not_lt_zero _), fun _ h => absurd h (Nat.not_lt_zero _), fun _ h => absurd h (Nat.not_lt_zero _), fun _ h => absurd h (Nat.not_lt_zero _)⟩
    isplitl [H1]; · iexact H1
    isplitl [H2]; · iexact H2
    isplitl [H4]; · iexact H4
    isplitl [H5]; · iexact H5
    isplitl [H6]; · iexact H6
    iexact H7
  iintro %acc ⟨%g1, %g2, %g4, %g5, %g6, %g7, %h, H1, H2, H4, H5, H6, H7⟩
  obtain ⟨e1, e2, -, h4, h5, h6, h7⟩ := h
  sl_step
  iapply Hk
  isplitl [H1]
  · iexists g1; isplitr; · ipureintro; exact e1
    iexact H1
  isplitl [H2]
  · iexists g2; isplitr; · ipureintro; exact e2
    iexact H2
  isplitl [H3]
  · iexists f3; isplitr; · ipureintro; rfl
    iexact H3
  isplitl [H4]
  · iexists g4; isplitr; · ipureintro; exact funext fun y => h4 y (tF_lt y)
    iexact H4
  isplitl [H5]
  · iexists g5; isplitr; · ipureintro; exact funext fun y => h5 y (tF_lt y)
    iexact H5
  isplitl [H6]
  · iexists g6; isplitr; · ipureintro; exact funext fun y => h6 y (tB_lt y)
    iexact H6
  iexists g7; isplitr; · ipureintro; exact funext fun y => h7 y (tB_lt y)
  iexact H7

/-! ## The launch -/

variable (m : (ℓ : Loc nD τ sig) → Buf (Elt F) ℓ) (ρ : Dev nD → PrngReg)

/-- The pipeline's proof data: every input's buffer keeps its block, every output's holds the carried vectors row by row. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => out3 (iblk m c 0 t) (iblk m c 1 t) (iblk m c 2 t)
    | ⟨4, _⟩ => out4 (iblk m c 0 t) (iblk m c 1 t) (iblk m c 2 t)
    | ⟨5, _⟩ => out5 (iblk m c 0 t) (iblk m c 1 t) (iblk m c 2 t)
    | ⟨6, _⟩ => out6 (iblk m c 0 t) (iblk m c 1 t) (iblk m c 2 t)
  Φ _ := Pipeline.ΦA spec0 c
  q _ := fullShare
  owed _ := 0

theorem A_eq (c : Dev nD) (w : Fin cfg0.W) : (dats m 0 c).A w = V m c (Pipeline.arrRef spec0 w) := by dsimp only [dats]
theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = out3 (iblk m c 0 t) (iblk m c 1 t) (iblk m c 2 t) := by dsimp only [dats]
theorem after_4 (c : Dev nD) (t : Fin cfg0.N) : (dats m 0 c).after 4 t = out4 (iblk m c 0 t) (iblk m c 1 t) (iblk m c 2 t) := by dsimp only [dats]
theorem after_5 (c : Dev nD) (t : Fin cfg0.N) : (dats m 0 c).after 5 t = out5 (iblk m c 0 t) (iblk m c 1 t) (iblk m c 2 t) := by dsimp only [dats]
theorem after_6 (c : Dev nD) (t : Fin cfg0.N) : (dats m 0 c).after 6 t = out6 (iblk m c 0 t) (iblk m c 1 t) (iblk m c 2 t) := by dsimp only [dats]
theorem before_0 (c : Dev nD) (t : Fin cfg0.N) (d) : (dats m 0 c).before 0 t d = iblk m c 0 t := before0_0_of m (dats m 0 c) (A_eq m c 0) (after_0 m c) t d
theorem before_1 (c : Dev nD) (t : Fin cfg0.N) (d) : (dats m 0 c).before 1 t d = iblk m c 1 t := before0_1_of m (dats m 0 c) (A_eq m c 1) (after_1 m c) t d
theorem before_2 (c : Dev nD) (t : Fin cfg0.N) (d) : (dats m 0 c).before 2 t d = iblk m c 2 t := before0_2_of m (dats m 0 c) (A_eq m c 2) (after_2 m c) t d

/-- What the body finds at a point, -/
def found (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d)))

/-- and what it leaves. -/
def left (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t))

theorem body_ok (c : Dev nD) (t : Fin cfg0.N) :
    found m c t ⊢ wp Idealize.ShloMosaic.frame (wpE (defs₀ (F := F)) Variants.none c none) Set.univ (bodyAt0 t) (fun _ => left m c t) := by
  unfold found left bodyAt0
  simp only [before_0, before_1, before_2]
  rw [show (dats m 0 c).Φ t.succ = (dats m 0 c).Φ t.castSucc from rfl,
    show (dats m 0 c).owesAt () t.succ = (dats m 0 c).owesAt () t.castSucc from rfl,
    after_0, after_1, after_2, after_3, after_4, after_5, after_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel c _ _ _ _ _ _ _ _ _ _ _ _ _ _ _ (iblk m c 0 t) (iblk m c 1 t) (iblk m c 2 t) _)
  isplitl [H0]; · iexact H0
  isplitl [H1]; · iexact H1
  isplitl [H2]; · iexact H2
  isplitl [H3]; · iexists _; iexact H3
  isplitl [H4]; · iexists _; iexact H4
  isplitl [H5]; · iexists _; iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

theorem body_obligation (c : Dev nD) : BodyObligation (dats (F := F) m 0 c) (defs₀ (F := F)) Variants.none () Set.univ := fun t => by
  rw [bigSep_W0, bigSep_W0, show defs₀ (F := F) .tc cfg0.body (cfg0.bodyArgs t (cfg0.slots t)) = bodyAt0 t by unfold defs₀; rw [Defs.onTc_tc]]
  exact triple_restated (body_ok m c t) rfl .rfl fun _ => .rfl

set_option backward.isDefEq.respectTransparency.types false in
set_option maxHeartbeats 800000 in
/-- THE RUN: the launch terminates, with every array of the pipeline at what the proof data say, every other buffer as the
    region found it, and every counter at zero. -/
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

theorem run_main : θ_run defs (onTc (τ := τ) (main (F := F))) (s₀ m ρ) (Pipeline.FramePost cfgs (dats m) 0 (V m)) :=
  (θ_run defs _ _).mono (fun _ h => h.1) (run_main_quiescent m ρ)

/-- THE FRAME, at any values. -/
theorem frame_any : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (frame_of m ρ (dats m) (A_eq m) (run_main m ρ)) ((θ_run defs _ _).mono (fun _ h => h.2) (run_main_quiescent m ρ))

end Cert.Kernel2Ideal.Scan

end
-- ==== Proof.ScanFrames.lean ====
module

public import proofs.«01_k».proof.Proof.ScanRun
public import proofs.«01_k».proof.Defs
public import proofs.«01_k».proof.Proof.Gen.Kernel2
public import proofs.«01_k».proof.Proof.Gen.Kernel2Ideal
public import proofs.«01_k».proof.Proof.Gen.Reference2Ideal

@[expose] public section
noncomputable section
namespace Cert.Proof
open Idealize.ShloMosaic Idealize.ShloMosaic.TcCoe Idealize.SL.Sem

theorem frame_scan_ideal : Cert.quiescent_Kernel2Ideal := fun m ρ _ => Cert.Kernel2Ideal.Scan.frame_any m ρ

/-- The launch as written has the same text: the run at words is its run. -/
theorem frame_scan : Cert.quiescent_Kernel2 := by
  intro m ρ _
  refine Eq.mp ?_ (Cert.Kernel2Ideal.Scan.frame_any (F := Bits) m ρ)
  sl_kernel_rfl

end Cert.Proof

end
-- ==== Proof.ScanRefRun.lean ====
/- The reference's run stated over the trip of its loop: every result is read off the last of the states. -/
module

public import proofs.«01_k».proof.Proof.Gen.Reference2Ideal.Run
public import proofs.«01_k».proof.Proof.Gen.Reference2Ideal.Step

@[expose] public section

noncomputable section

namespace Cert.Reference2Ideal.ScanRun

open Idealize.ShloMosaic Idealize.ShloMosaic.TcCoe Idealize.SL.Sem Idealize.ShloMosaic.StableHlo
open Cert.Reference2Ideal Cert.Reference2Ideal.Gen Cert.Reference2Ideal.Value
open Cert.Reference2Ideal.Step (State step init)

variable {F : FTy → Type} [FloatOps F]

variable (V0 : Valuation τ sig (Elt F)) (s : State F) (j : ℕ)

/-- The valuation holds the state, the set-up values and the trip's number. -/
structure Holds : Prop where
  f_5 : V0 (Proc.devRef .tc main_v47_5) = s.main_v47_5
  f_6 : V0 (Proc.devRef .tc main_v47_6) = s.main_v47_6
  f_7 : V0 (Proc.devRef .tc main_v47_7) = s.main_v47_7
  f_8 : V0 (Proc.devRef .tc main_v47_8) = s.main_v47_8
  f_0 : V0 (Proc.devRef .tc main_v47_0) = s.main_v47_0
  f_1 : V0 (Proc.devRef .tc main_v47_1) = s.main_v47_1
  f_2 : V0 (Proc.devRef .tc main_v47_2) = s.main_v47_2
  f_3 : V0 (Proc.devRef .tc main_v47_3) = s.main_v47_3
  n_4 : V0 (Proc.devRef .tc main_v47_4) = constantI S_ 32 (BitVec.ofNat 32 j)

variable {V0 s j}

set_option maxRecDepth 8192 in
theorem al_0 (h : Holds V0 s j) : (constantI S_ 32 528#32 : (Proc.devRef .tc main_while0b_c_29 : DevRef τ sig).ty.Contents (Elt F)) = Cert.Reference2Ideal.Step.b0 j s := by
  unfold Cert.Reference2Ideal.Step.b0
  rfl
set_option maxRecDepth 8192 in
theorem al_1 (h : Holds V0 s j) : (subi (constantI S_ 32 528#32) (V0 (Proc.devRef .tc main_v47_4)) : (Proc.devRef .tc main_while0b_v104 : DevRef τ sig).ty.Contents (Elt F)) = Cert.Reference2Ideal.Step.b1 j s := by
  unfold Cert.Reference2Ideal.Step.b1
  rw [← al_0 h, h.n_4]
  try rfl
set_option maxRecDepth 8192 in
theorem al_2 (h : Holds V0 s j) : (constantI S_ 32 1#32 : (Proc.devRef .tc main_while0b_c_30 : DevRef τ sig).ty.Contents (Elt F)) = Cert.Reference2Ideal.Step.b2 j s := by
  unfold Cert.Reference2Ideal.Step.b2
  rfl
set_option maxRecDepth 8192 in
theorem al_3 (h : Holds V0 s j) : (res_main_while0b_v105 V0 : (Proc.devRef .tc main_while0b_v105 : DevRef τ sig).ty.Contents (Elt F)) = Cert.Reference2Ideal.Step.b3 j s := by
  unfold res_main_while0b_v105 Cert.Reference2Ideal.Step.b3
  rw [← al_1 h, ← al_2 h]
  try rfl
set_option maxRecDepth 8192 in
theorem al_4 (h : Holds V0 s j) : (constantI S_ 32 0#32 : (Proc.devRef .tc main_while0b_call0_c : DevRef τ sig).ty.Contents (Elt F)) = Cert.Reference2Ideal.Step.b4 j s := by
  unfold Cert.Reference2Ideal.Step.b4
  rfl
set_option maxRecDepth 8192 in
theorem al_5 (h : Holds V0 s j) : (constantI S_ 32 0#32 : (Proc.devRef .tc main_while0b_call0_c_0 : DevRef τ sig).ty.Contents (Elt F)) = Cert.Reference2Ideal.Step.b5 j s := by
  unfold Cert.Reference2Ideal.Step.b5
  rfl
set_option maxRecDepth 8192 in
theorem al_6 (h : Holds V0 s j) : (constantI S_ 32 0#32 : (Proc.devRef .tc main_while0b_call0_c_1 : DevRef τ sig).ty.Contents (Elt F)) = Cert.Reference2Ideal.Step.b6 j s := by
  unfold Cert.Reference2Ideal.Step.b6
  rfl
set_option maxRecDepth 8192 in
theorem al_7 (h : Holds V0 s j) : (Host.dynamicSlice S1x64x2x64 (V0 (Proc.devRef .tc main_v47_0)) (fun k => (((![res_main_while0b_v105 V0, constantI S_ 32 0#32, constantI S_ 32 0#32, constantI S_ 32 0#32] : Fin 4 → (⟨S_, .i32⟩ : BufTy).Contents (Elt F))) k (Shape.Idx.first h_S_)).toInt) sliceFits_S528x64x2x64_S1x64x2x64 : (Proc.devRef .tc main_while0b_call0_v0 : DevRef τ sig).ty.Contents (Elt F)) = Cert.Reference2Ideal.Step.b7 j s := by
  unfold Cert.Reference2Ideal.Step.b7
  rw [← al_3 h, ← al_4 h, ← al_5 h, ← al_6 h, h.f_0]
  try rfl
set_option maxRecDepth 8192 in
theorem al_8 (h : Holds V0 s j) : (shapeCast S64x2x64 (Host.dynamicSlice S1x64x2x64 (V0 (Proc.devRef .tc main_v47_0)) (fun k => (((![res_main_while0b_v105 V0, constantI S_ 32 0#32, constantI S_ 32 0#32, constantI S_ 32 0#32] : Fin 4 → (⟨S_, .i32⟩ : BufTy).Contents (Elt F))) k (Shape.Idx.first h_S_)).toInt) sliceFits_S528x64x2x64_S1x64x2x64) shapeCasts_S1x64x2x64_S64x2x64 : (Proc.devRef .tc main_while0b_v106 : DevRef τ sig).ty.Contents (Elt F)) = Cert.Reference2Ideal.Step.b8 j s := by
  unfold Cert.Reference2Ideal.Step.b8
  rw [← al_7 h]
  try rfl
set_option maxRecDepth 8192 in
theorem al_9 (h : Holds V0 s j) : (constantI S_ 32 0#32 : (Proc.devRef .tc main_while0b_call1_c : DevRef τ sig).ty.Contents (Elt F)) = Cert.Reference2Ideal.Step.b9 j s := by
  unfold Cert.Reference2Ideal.Step.b9
  rfl
set_option maxRecDepth 8192 in
theorem al_10 (h : Holds V0 s j) : (constantI S_ 32 0#32 : (Proc.devRef .tc main_while0b_call1_c_0 : DevRef τ sig).ty.Contents (Elt F)) = Cert.Reference2Ideal.Step.b10 j s := by
  unfold Cert.Reference2Ideal.Step.b10
  rfl
set_option maxRecDepth 8192 in
theorem al_11 (h : Holds V0 s j) : (constantI S_ 32 0#32 : (Proc.devRef .tc main_while0b_call1_c_1 : DevRef τ sig).ty.Contents (Elt F)) = Cert.Reference2Ideal.Step.b11 j s := by
  unfold Cert.Reference2Ideal.Step.b11
  rfl
set_option maxRecDepth 8192 in
theorem al_12 (h : Holds V0 s j) : (Host.dynamicSlice S1x64x2x64 (V0 (Proc.devRef .tc main_v47_1)) (fun k => (((![res_main_while0b_v105 V0, constantI S_ 32 0#32, constantI S_ 32 0#32, constantI S_ 32 0#32] : Fin 4 → (⟨S_, .i32⟩ : BufTy).Contents (Elt F))) k (Shape.Idx.first h_S_)).toInt) sliceFits_S528x64x2x64_S1x64x2x64 : (Proc.devRef .tc main_while0b_call1_v0 : DevRef τ sig).ty.Contents (Elt F)) = Cert.Reference2Ideal.Step.b12 j s := by
  unfold Cert.Reference2Ideal.Step.b12
  rw [← al_3 h, ← al_9 h, ← al_10 h, ← al_11 h, h.f_1]
  try rfl
set_option maxRecDepth 8192 in
theorem al_13 (h : Holds V0 s j) : (shapeCast S64x2x64 (Host.dynamicSlice S1x64x2x64 (V0 (Proc.devRef .tc main_v47_1)) (fun k => (((![res_main_while0b_v105 V0, constantI S_ 32 0#32, constantI S_ 32 0#32, constantI S_ 32 0#32] : Fin 4 → (⟨S_, .i32⟩ : BufTy).Contents (Elt F))) k (Shape.Idx.first h_S_)).toInt) sliceFits_S528x64x2x64_S1x64x2x64) shapeCasts_S1x64x2x64_S64x2x64 : (Proc.devRef .tc main_while0b_v107 : DevRef τ sig).ty.Contents (Elt F)) = Cert.Reference2Ideal.Step.b13 j s := by
  unfold Cert.Reference2Ideal.Step.b13
  rw [← al_12 h]
  try rfl
set_option maxRecDepth 8192 in
theorem al_14 (h : Holds V0 s j) : (mulf (V0 (Proc.devRef .tc main_v47_3)) (V0 (Proc.devRef .tc main_v47_6)) : (Proc.devRef .tc main_while0b_v108 : DevRef τ sig).ty.Contents (Elt F)) = Cert.Reference2Ideal.Step.b14 j s := by
  unfold Cert.Reference2Ideal.Step.b14
  rw [h.f_3, h.f_6]
  try rfl
set_option maxRecDepth 8192 in
theorem al_15 (h : Holds V0 s j) : (addf (shapeCast S64x2x64 (Host.dynamicSlice S1x64x2x64 (V0 (Proc.devRef .tc main_v47_0)) (fun k => (((![res_main_while0b_v105 V0, constantI S_ 32 0#32, constantI S_ 32 0#32, constantI S_ 32 0#32] : Fin 4 → (⟨S_, .i32⟩ : BufTy).Contents (Elt F))) k (Shape.Idx.first h_S_)).toInt) sliceFits_S528x64x2x64_S1x64x2x64) shapeCasts_S1x64x2x64_S64x2x64) (mulf (V0 (Proc.devRef .tc main_v47_3)) (V0 (Proc.devRef .tc main_v47_6))) : (Proc.devRef .tc main_while0b_v109 : DevRef τ sig).ty.Contents (Elt F)) = Cert.Reference2Ideal.Step.b15 j s := by
  unfold Cert.Reference2Ideal.Step.b15
  rw [← al_8 h, ← al_14 h]
  try rfl
set_option maxRecDepth 8192 in
theorem al_16 (h : Holds V0 s j) : (mulf (V0 (Proc.devRef .tc main_v47_2)) (V0 (Proc.devRef .tc main_v47_6)) : (Proc.devRef .tc main_while0b_v110 : DevRef τ sig).ty.Contents (Elt F)) = Cert.Reference2Ideal.Step.b16 j s := by
  unfold Cert.Reference2Ideal.Step.b16
  rw [h.f_2, h.f_6]
  try rfl
set_option maxRecDepth 8192 in
theorem al_17 (h : Holds V0 s j) : (addf (shapeCast S64x2x64 (Host.dynamicSlice S1x64x2x64 (V0 (Proc.devRef .tc main_v47_1)) (fun k => (((![res_main_while0b_v105 V0, constantI S_ 32 0#32, constantI S_ 32 0#32, constantI S_ 32 0#32] : Fin 4 → (⟨S_, .i32⟩ : BufTy).Contents (Elt F))) k (Shape.Idx.first h_S_)).toInt) sliceFits_S528x64x2x64_S1x64x2x64) shapeCasts_S1x64x2x64_S64x2x64) (mulf (V0 (Proc.devRef .tc main_v47_2)) (V0 (Proc.devRef .tc main_v47_6))) : (Proc.devRef .tc main_while0b_v111 : DevRef τ sig).ty.Contents (Elt F)) = Cert.Reference2Ideal.Step.b17 j s := by
  unfold Cert.Reference2Ideal.Step.b17
  rw [← al_13 h, ← al_16 h]
  try rfl
set_option maxRecDepth 8192 in
theorem al_18 (h : Holds V0 s j) : (Host.negf (V0 (Proc.devRef .tc main_v47_5)) : (Proc.devRef .tc main_while0b_v112 : DevRef τ sig).ty.Contents (Elt F)) = Cert.Reference2Ideal.Step.b18 j s := by
  unfold Cert.Reference2Ideal.Step.b18
  rw [h.f_5]
  try rfl
set_option maxRecDepth 8192 in
theorem al_19 (h : Holds V0 s j) : (mulf (V0 (Proc.devRef .tc main_v47_3)) (Host.negf (V0 (Proc.devRef .tc main_v47_5))) : (Proc.devRef .tc main_while0b_v113 : DevRef τ sig).ty.Contents (Elt F)) = Cert.Reference2Ideal.Step.b19 j s := by
  unfold Cert.Reference2Ideal.Step.b19
  rw [← al_18 h, h.f_3]
  try rfl
set_option maxRecDepth 8192 in
theorem al_20 (h : Holds V0 s j) : (addf (addf (shapeCast S64x2x64 (Host.dynamicSlice S1x64x2x64 (V0 (Proc.devRef .tc main_v47_1)) (fun k => (((![res_main_while0b_v105 V0, constantI S_ 32 0#32, constantI S_ 32 0#32, constantI S_ 32 0#32] : Fin 4 → (⟨S_, .i32⟩ : BufTy).Contents (Elt F))) k (Shape.Idx.first h_S_)).toInt) sliceFits_S528x64x2x64_S1x64x2x64) shapeCasts_S1x64x2x64_S64x2x64) (mulf (V0 (Proc.devRef .tc main_v47_2)) (V0 (Proc.devRef .tc main_v47_6)))) (mulf (V0 (Proc.devRef .tc main_v47_3)) (Host.negf (V0 (Proc.devRef .tc main_v47_5)))) : (Proc.devRef .tc main_while0b_v114 : DevRef τ sig).ty.Contents (Elt F)) = Cert.Reference2Ideal.Step.b20 j s := by
  unfold Cert.Reference2Ideal.Step.b20
  rw [← al_17 h, ← al_19 h]
  try rfl
set_option maxRecDepth 8192 in
theorem al_21 (h : Holds V0 s j) : (mulf (V0 (Proc.devRef .tc main_v47_2)) (V0 (Proc.devRef .tc main_v47_5)) : (Proc.devRef .tc main_while0b_v115 : DevRef τ sig).ty.Contents (Elt F)) = Cert.Reference2Ideal.Step.b21 j s := by
  unfold Cert.Reference2Ideal.Step.b21
  rw [h.f_2, h.f_5]
  try rfl
set_option maxRecDepth 8192 in
theorem al_22 (h : Holds V0 s j) : (addf (addf (shapeCast S64x2x64 (Host.dynamicSlice S1x64x2x64 (V0 (Proc.devRef .tc main_v47_0)) (fun k => (((![res_main_while0b_v105 V0, constantI S_ 32 0#32, constantI S_ 32 0#32, constantI S_ 32 0#32] : Fin 4 → (⟨S_, .i32⟩ : BufTy).Contents (Elt F))) k (Shape.Idx.first h_S_)).toInt) sliceFits_S528x64x2x64_S1x64x2x64) shapeCasts_S1x64x2x64_S64x2x64) (mulf (V0 (Proc.devRef .tc main_v47_3)) (V0 (Proc.devRef .tc main_v47_6)))) (mulf (V0 (Proc.devRef .tc main_v47_2)) (V0 (Proc.devRef .tc main_v47_5))) : (Proc.devRef .tc main_while0b_v116 : DevRef τ sig).ty.Contents (Elt F)) = Cert.Reference2Ideal.Step.b22 j s := by
  unfold Cert.Reference2Ideal.Step.b22
  rw [← al_15 h, ← al_21 h]
  try rfl
set_option maxRecDepth 8192 in
theorem al_23 (h : Holds V0 s j) : (broadcastInDim S1x64x2x64 ![1, 2, 3] bcast_S64x2x64_S1x64x2x64_1_2_3 (V0 (Proc.devRef .tc main_v47_5)) : (Proc.devRef .tc main_while0b_call2_v0 : DevRef τ sig).ty.Contents (Elt F)) = Cert.Reference2Ideal.Step.b23 j s := by
  unfold Cert.Reference2Ideal.Step.b23
  rw [h.f_5]
  try rfl
set_option maxRecDepth 8192 in
theorem al_24 (h : Holds V0 s j) : (constantI S_ 32 0#32 : (Proc.devRef .tc main_while0b_call2_c : DevRef τ sig).ty.Contents (Elt F)) = Cert.Reference2Ideal.Step.b24 j s := by
  unfold Cert.Reference2Ideal.Step.b24
  rfl
set_option maxRecDepth 8192 in
theorem al_25 (h : Holds V0 s j) : (constantI S_ 32 0#32 : (Proc.devRef .tc main_while0b_call2_c_0 : DevRef τ sig).ty.Contents (Elt F)) = Cert.Reference2Ideal.Step.b25 j s := by
  unfold Cert.Reference2Ideal.Step.b25
  rfl
set_option maxRecDepth 8192 in
theorem al_26 (h : Holds V0 s j) : (constantI S_ 32 0#32 : (Proc.devRef .tc main_while0b_call2_c_1 : DevRef τ sig).ty.Contents (Elt F)) = Cert.Reference2Ideal.Step.b26 j s := by
  unfold Cert.Reference2Ideal.Step.b26
  rfl
set_option maxRecDepth 8192 in
theorem al_27 (h : Holds V0 s j) : (Host.dynamicUpdateSlice (V0 (Proc.devRef .tc main_v47_7)) (broadcastInDim S1x64x2x64 ![1, 2, 3] bcast_S64x2x64_S1x64x2x64_1_2_3 (V0 (Proc.devRef .tc main_v47_5))) (fun k => (((![res_main_while0b_v105 V0, constantI S_ 32 0#32, constantI S_ 32 0#32, constantI S_ 32 0#32] : Fin 4 → (⟨S_, .i32⟩ : BufTy).Contents (Elt F))) k (Shape.Idx.first h_S_)).toInt) updateFits_S528x64x2x64_S1x64x2x64 : (⟨S528x64x2x64, .f32⟩ : BufTy).Contents (Elt F)) = Cert.Reference2Ideal.Step.b27 j s := by
  unfold Cert.Reference2Ideal.Step.b27
  rw [← al_23 h, ← al_3 h, ← al_24 h, ← al_25 h, ← al_26 h, h.f_7]
  try rfl
set_option maxRecDepth 8192 in
theorem al_28 (h : Holds V0 s j) : (broadcastInDim S1x64x2x64 ![1, 2, 3] bcast_S64x2x64_S1x64x2x64_1_2_3 (V0 (Proc.devRef .tc main_v47_6)) : (Proc.devRef .tc main_while0b_call3_v0 : DevRef τ sig).ty.Contents (Elt F)) = Cert.Reference2Ideal.Step.b28 j s := by
  unfold Cert.Reference2Ideal.Step.b28
  rw [h.f_6]
  try rfl
set_option maxRecDepth 8192 in
theorem al_29 (h : Holds V0 s j) : (constantI S_ 32 0#32 : (Proc.devRef .tc main_while0b_call3_c : DevRef τ sig).ty.Contents (Elt F)) = Cert.Reference2Ideal.Step.b29 j s := by
  unfold Cert.Reference2Ideal.Step.b29
  rfl
set_option maxRecDepth 8192 in
theorem al_30 (h : Holds V0 s j) : (constantI S_ 32 0#32 : (Proc.devRef .tc main_while0b_call3_c_0 : DevRef τ sig).ty.Contents (Elt F)) = Cert.Reference2Ideal.Step.b30 j s := by
  unfold Cert.Reference2Ideal.Step.b30
  rfl
set_option maxRecDepth 8192 in
theorem al_31 (h : Holds V0 s j) : (constantI S_ 32 0#32 : (Proc.devRef .tc main_while0b_call3_c_1 : DevRef τ sig).ty.Contents (Elt F)) = Cert.Reference2Ideal.Step.b31 j s := by
  unfold Cert.Reference2Ideal.Step.b31
  rfl
set_option maxRecDepth 8192 in
theorem al_32 (h : Holds V0 s j) : (Host.dynamicUpdateSlice (V0 (Proc.devRef .tc main_v47_8)) (broadcastInDim S1x64x2x64 ![1, 2, 3] bcast_S64x2x64_S1x64x2x64_1_2_3 (V0 (Proc.devRef .tc main_v47_6))) (fun k => (((![res_main_while0b_v105 V0, constantI S_ 32 0#32, constantI S_ 32 0#32, constantI S_ 32 0#32] : Fin 4 → (⟨S_, .i32⟩ : BufTy).Contents (Elt F))) k (Shape.Idx.first h_S_)).toInt) updateFits_S528x64x2x64_S1x64x2x64 : (⟨S528x64x2x64, .f32⟩ : BufTy).Contents (Elt F)) = Cert.Reference2Ideal.Step.b32 j s := by
  unfold Cert.Reference2Ideal.Step.b32
  rw [← al_28 h, ← al_3 h, ← al_29 h, ← al_30 h, ← al_31 h, h.f_8]
  try rfl

/-! One trip's step of the carried values is `step`, field by field; a counter steps to the next number. -/

theorem step_5 (h : Holds V0 s j) : step_main_v47_5 V0 = (step j s).main_v47_5 := by
  unfold step_main_v47_5 Cert.Reference2Ideal.Step.step
  show id (addf (addf (shapeCast S64x2x64 (Host.dynamicSlice S1x64x2x64 (V0 (Proc.devRef .tc main_v47_0)) (fun k => (((![res_main_while0b_v105 V0, constantI S_ 32 0#32, constantI S_ 32 0#32, constantI S_ 32 0#32] : Fin 4 → (⟨S_, .i32⟩ : BufTy).Contents (Elt F))) k (Shape.Idx.first h_S_)).toInt) sliceFits_S528x64x2x64_S1x64x2x64) shapeCasts_S1x64x2x64_S64x2x64) (mulf (V0 (Proc.devRef .tc main_v47_3)) (V0 (Proc.devRef .tc main_v47_6)))) (mulf (V0 (Proc.devRef .tc main_v47_2)) (V0 (Proc.devRef .tc main_v47_5)))) = _
  rw [al_22 h]
  try rfl
theorem step_6 (h : Holds V0 s j) : step_main_v47_6 V0 = (step j s).main_v47_6 := by
  unfold step_main_v47_6 Cert.Reference2Ideal.Step.step
  show id (addf (addf (shapeCast S64x2x64 (Host.dynamicSlice S1x64x2x64 (V0 (Proc.devRef .tc main_v47_1)) (fun k => (((![res_main_while0b_v105 V0, constantI S_ 32 0#32, constantI S_ 32 0#32, constantI S_ 32 0#32] : Fin 4 → (⟨S_, .i32⟩ : BufTy).Contents (Elt F))) k (Shape.Idx.first h_S_)).toInt) sliceFits_S528x64x2x64_S1x64x2x64) shapeCasts_S1x64x2x64_S64x2x64) (mulf (V0 (Proc.devRef .tc main_v47_2)) (V0 (Proc.devRef .tc main_v47_6)))) (mulf (V0 (Proc.devRef .tc main_v47_3)) (Host.negf (V0 (Proc.devRef .tc main_v47_5))))) = _
  rw [al_20 h]
  try rfl
theorem step_7 (h : Holds V0 s j) : step_main_v47_7 V0 = (step j s).main_v47_7 := by
  unfold step_main_v47_7 Cert.Reference2Ideal.Step.step
  show id (Host.dynamicUpdateSlice (V0 (Proc.devRef .tc main_v47_7)) (broadcastInDim S1x64x2x64 ![1, 2, 3] bcast_S64x2x64_S1x64x2x64_1_2_3 (V0 (Proc.devRef .tc main_v47_5))) (fun k => (((![res_main_while0b_v105 V0, constantI S_ 32 0#32, constantI S_ 32 0#32, constantI S_ 32 0#32] : Fin 4 → (⟨S_, .i32⟩ : BufTy).Contents (Elt F))) k (Shape.Idx.first h_S_)).toInt) updateFits_S528x64x2x64_S1x64x2x64 : (⟨S528x64x2x64, .f32⟩ : BufTy).Contents (Elt F)) = _
  rw [al_27 h]
  rfl
theorem step_8 (h : Holds V0 s j) : step_main_v47_8 V0 = (step j s).main_v47_8 := by
  unfold step_main_v47_8 Cert.Reference2Ideal.Step.step
  show id (Host.dynamicUpdateSlice (V0 (Proc.devRef .tc main_v47_8)) (broadcastInDim S1x64x2x64 ![1, 2, 3] bcast_S64x2x64_S1x64x2x64_1_2_3 (V0 (Proc.devRef .tc main_v47_6))) (fun k => (((![res_main_while0b_v105 V0, constantI S_ 32 0#32, constantI S_ 32 0#32, constantI S_ 32 0#32] : Fin 4 → (⟨S_, .i32⟩ : BufTy).Contents (Elt F))) k (Shape.Idx.first h_S_)).toInt) updateFits_S528x64x2x64_S1x64x2x64 : (⟨S528x64x2x64, .f32⟩ : BufTy).Contents (Elt F)) = _
  rw [al_32 h]
  rfl
theorem step_4 (h : Holds V0 s j) : step_main_v47_4 V0 = constantI S_ 32 (BitVec.ofNat 32 (j + 1)) := by
  unfold step_main_v47_4
  rw [h.n_4]
  funext i
  show BitVec.ofNat 32 j + 1#32 = BitVec.ofNat 32 (j + 1)
  simp only [BitVec.ofNat_add]

set_option maxRecDepth 8192 in
theorem out_main_v88_holds (h : Holds V0 s j) : out_main_v88 V0 = Cert.Reference2Ideal.Step.R_main_v88 s := by
  unfold out_main_v88 Cert.Reference2Ideal.Step.R_main_v88
  rw [h.f_7]
  try rfl

set_option maxRecDepth 8192 in
theorem out_main_v93_holds (h : Holds V0 s j) : out_main_v93 V0 = Cert.Reference2Ideal.Step.R_main_v93 s := by
  unfold out_main_v93 Cert.Reference2Ideal.Step.R_main_v93
  rw [h.f_8]
  try rfl

set_option maxRecDepth 8192 in
theorem out_main_v98_holds (h : Holds V0 s j) : out_main_v98 V0 = Cert.Reference2Ideal.Step.R_main_v98 s := by
  unfold out_main_v98 Cert.Reference2Ideal.Step.R_main_v98
  rw [h.f_7]
  try rfl

set_option maxRecDepth 8192 in
theorem out_main_v103_holds (h : Holds V0 s j) : out_main_v103 V0 = Cert.Reference2Ideal.Step.R_main_v103 s := by
  unfold out_main_v103 Cert.Reference2Ideal.Step.R_main_v103
  rw [h.f_8]
  try rfl

/-- One trip keeps the valuation holding: `step` of the state, the same set-up values, the next number. -/
theorem holds_step (h : Holds V0 s j) : Holds (STEP V0) (step j s) (j + 1) where
  f_5 := (STEP_main_v47_5 V0).trans (step_5 h)
  f_6 := (STEP_main_v47_6 V0).trans (step_6 h)
  f_7 := (STEP_main_v47_7 V0).trans (step_7 h)
  f_8 := (STEP_main_v47_8 V0).trans (step_8 h)
  n_4 := (STEP_main_v47_4 V0).trans (step_4 h)
  f_0 := (STEP_main_v47_0 V0).trans h.f_0
  f_1 := (STEP_main_v47_1 V0).trans h.f_1
  f_2 := (STEP_main_v47_2 V0).trans h.f_2
  f_3 := (STEP_main_v47_3 V0).trans h.f_3

/-- The state the first trip starts from, of the memory the run starts from. -/
abbrev initState (m : (ℓ : Loc nD τ sig) → Buf (Elt F) ℓ) (c : Dev nD) : State F :=
  init (m ((c.tc : Thread nD τ).loc main_arg0)) (m ((c.tc : Thread nD τ).loc main_arg1)) (m ((c.tc : Thread nD τ).loc main_arg2))

variable (m : (ℓ : Loc nD τ sig) → Buf (Elt F) ℓ) (c : Dev nD)

set_option maxRecDepth 65536 in
set_option maxHeartbeats 400000 in
/-- What @main's operations before the loop leave: the set-up values, number 0, the initial state. -/
theorem entry_holds : Holds (entryContents preI m c) (initState m c) 0 := by
  constructor <;> (simp only [entryContents, afterL_cons, afterL_nil]; after_reads_simp) <;> rfl

/-- Before the `k`-th condition the loop's valuation holds the `k`-th state of any sequence that starts at `initState` and goes
    on by `step`. -/
theorem holds_iter (it : ℕ → State F) (h0 : it 0 = initState m c) (hs : ∀ n, it (n + 1) = step n (it n)) :
    ∀ k, Holds (STEP^[k] (entryContents preI m c)) (it k) k
  | 0 => h0 ▸ entry_holds m c
  | k + 1 => by
    rw [Function.iterate_succ_apply', hs k]
    exact holds_step (holds_iter it h0 hs k)

/-- THE RESULTS as `step` iterated: every weakly fair execution of `Reference2Ideal` terminates with each result at its field of state
    number 528 of any per-core sequence of states that starts at `initState` and goes on by `step`, and every argument unchanged. -/
theorem run_iter (m : (ℓ : Loc nD τ sig) → Buf (Elt F) ℓ) (ρ : Dev nD → PrngReg) (it : Dev nD → ℕ → State F)
    (h0 : ∀ c, it c 0 = initState m c) (hs : ∀ c n, it c (n + 1) = step n (it c n)) :
    θ_run (defs (F := F)) (onTc (τ := τ) (main (F := F))) ⟨m, fun _ => 0, ρ⟩ fun r => ∀ c : Dev nD,
      r.2.mem ((c.tc : Thread nD τ).loc main_v88) = Cert.Reference2Ideal.Step.R_main_v88 (it c 528)
      ∧ r.2.mem ((c.tc : Thread nD τ).loc main_v93) = Cert.Reference2Ideal.Step.R_main_v93 (it c 528)
      ∧ r.2.mem ((c.tc : Thread nD τ).loc main_v98) = Cert.Reference2Ideal.Step.R_main_v98 (it c 528)
      ∧ r.2.mem ((c.tc : Thread nD τ).loc main_v103) = Cert.Reference2Ideal.Step.R_main_v103 (it c 528)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
    have hk := holds_iter m c (it c) (h0 c) (hs c) 528
    ⟨(h c).1.trans (out_main_v88_holds hk), (h c).2.1.trans (out_main_v93_holds hk), (h c).2.2.1.trans (out_main_v98_holds hk), (h c).2.2.2.1.trans (out_main_v103_holds hk), (h c).2.2.2.2.1, (h c).2.2.2.2.2.1, (h c).2.2.2.2.2.2⟩) (Value.run m ρ)

end Cert.Reference2Ideal.ScanRun

end
-- ==== Proof.ScanRef.lean ====
/- The reference's loop: its incoming stacks and results read at one index. -/
module

public import proofs.«01_k».proof.Proof.ScanRefRun
public import Idealize.ShloMosaic.Lib.Pipeline.ValueKit
public import Idealize.ShloMosaic.Lib.WordCmp

@[expose] public section

set_option maxRecDepth 16384

noncomputable section

namespace Cert.Reference2Ideal.Scan

open Cert.Reference2Ideal Cert.Reference2Ideal.Gen Cert.Reference2Ideal.Step
open Idealize.ShloMosaic Idealize.ShloMosaic.TcCoe

abbrev Stack : Type := FVec Ideal S64x528x128 .f32
abbrev Decay : Type := FVec Ideal S64x256 .f32

/-- The reference's states. -/
def refIter (x0 x1 : Stack) (x2 : Decay) : ℕ → State Ideal
  | 0 => init x0 x1 x2
  | n + 1 => step n (refIter x0 x1 x2 n)

/-- The chunk direction `d` finds at row `r` of its own order. -/
def src (r d : ℕ) : ℕ := if d = 0 then r else if r < 16 then 15 - r else 543 - r

theorem src_lt {r d : ℕ} (h : r < 528) : src r d < 528 := by
  unfold src
  split <;> try split
  all_goals omega

/-- A stack by groups, chunks, directions and states, -/
abbrev Dirs : Type := FVec Ideal S64x528x2x64 .f32
/-- and by chunks first, as the loop goes. -/
abbrev Rows : Type := FVec Ideal S528x64x2x64 .f32

/-- The backward direction's chunks turned to its own order, the forward direction's as they are. -/
def turned (Y : Dirs) : Dirs :=
  addf (pad S64x528x2x64 ![0, 0, 1, 0] ![0, 0, 0, 0] ![0, 0, 0, 0] (broadcastInDim S64x528x1x64 ![0, 1, 3] bcast_S64x528x64_S64x528x1x64_0_1_3 (addf (pad S64x528x64 ![0, 16, 0] ![0, 0, 0] ![0, 0, 0] (Host.reverse [1] (extractStridedSlice S64x512x64 ![0, 16, 0] (shapeCast _ (extractStridedSlice S64x528x1x64 ![0, 0, 1, 0] Y slices_S64x528x2x64_S64x528x1x64_0_0_1_0) shapeCasts_S64x528x1x64_S64x528x64) slices_S64x528x64_S64x512x64_0_16_0)) (constant S_ .f32 0x00000000#32) pads_S64x512x64_S64x528x64_000_1600_000 h_S_) (pad S64x528x64 ![0, 0, 0] ![0, 512, 0] ![0, 0, 0] (Host.reverse [1] (extractStridedSlice S64x16x64 ![0, 0, 0] (shapeCast _ (extractStridedSlice S64x528x1x64 ![0, 0, 1, 0] Y slices_S64x528x2x64_S64x528x1x64_0_0_1_0) shapeCasts_S64x528x1x64_S64x528x64) slices_S64x528x64_S64x16x64_0_0_0)) (constant S_ .f32 0x00000000#32) pads_S64x16x64_S64x528x64_000_05120_000 h_S_))) (constant S_ .f32 0x00000000#32) pads_S64x528x1x64_S64x528x2x64_000_000_100_000 h_S_) (pad S64x528x2x64 ![0, 0, 0, 0] ![0, 0, 1, 0] ![0, 0, 0, 0] (broadcastInDim S64x528x1x64 ![0, 1, 3] bcast_S64x528x64_S64x528x1x64_0_1_3 (shapeCast _ (extractStridedSlice S64x528x1x64 ![0, 0, 0, 0] Y slices_S64x528x2x64_S64x528x1x64_0_0_0_0) shapeCasts_S64x528x1x64_S64x528x64)) (constant S_ .f32 0x00000000#32) pads_S64x528x1x64_S64x528x2x64_000_000_010_000 h_S_)

set_option maxHeartbeats 1000000 in
theorem turned_at (Y : Dirs) (i : S64x528x2x64.Idx) :
    turned Y i = Y (ix4 (n0 := 64) (n1 := 528) (n2 := 2) (n3 := 64) (i 0) ⟨src (i 1).val (i 2).val, src_lt (i 1).isLt⟩ (i 2) (i 3)) := by
  unfold turned
  pointwise
  have h2 : (i 2).val < 2 := (i 2).isLt
  have h1 : (i 1).val < 528 := (i 1).isLt
  by_cases h : (i 2).val = 0
  · rw [dif_neg (by omega), dif_pos (by omega), zero_add]
    refine congrArg Y (funext fun a => Fin.ext ?_)
    fin_cases a
    · rfl
    · show (i 1).val = src _ _; unfold src; rw [if_pos h]
    · exact h.symm
    · rfl
  · rw [dif_pos (by omega), dif_neg (c := (i 2).val < 1) (by omega), add_zero]
    by_cases hc : (i 1).val < 16
    · rw [dif_neg (by omega), dif_pos hc, zero_add]
      refine congrArg Y (funext fun a => Fin.ext ?_)
      fin_cases a
      · rfl
      · show 16 - ((i 1).val + 1) = src _ _; unfold src; rw [if_neg h, if_pos hc]; omega
      · show 1 = (i 2).val; omega
      · rfl
    · rw [dif_pos (by omega), dif_neg hc, add_zero]
      refine congrArg Y (funext fun a => Fin.ext ?_)
      fin_cases a
      · rfl
      · show 16 + (512 - ((i 1).val - 16 + 1)) = src _ _; unfold src; rw [if_neg h, if_neg hc]; omega
      · show 1 = (i 2).val; omega
      · rfl

/-- The place of a row stack's element in the array it comes from. -/
def inAt (i : S528x64x2x64.Idx) : S64x528x128.Idx :=
  ix3 (n0 := 64) (n1 := 528) (n2 := 128) (i 1) ⟨src (i 0).val (i 2).val, src_lt (i 0).isLt⟩
    ⟨64 * (i 2).val + (i 3).val, by have h : (i 3).val < 64 := (i 3).isLt; have h2 : (i 2).val < 2 := (i 2).isLt; omega⟩

theorem in_re (x0 x1 : Stack) (x2 : Decay) (i : S528x64x2x64.Idx) : A_main_v42 (F := Ideal) x0 x1 x2 i = x0 (inAt i) := by
  show transpose S528x64x2x64 [1, 0, 2, 3] (turned (shapeCast _ x0 shapeCasts_S64x528x128_S64x528x2x64)) transposes_S64x528x2x64_S528x64x2x64_1_0_2_3 i = _
  pointwise
  rw [turned_at]
  pointwise
  refine congrArg x0 (funext fun a => Fin.ext ?_)
  fin_cases a
  · rfl
  · rfl
  · show (i 2).val * 64 + (i 3).val = 64 * _ + _; omega

theorem in_im (x0 x1 : Stack) (x2 : Decay) (i : S528x64x2x64.Idx) : A_main_v24 (F := Ideal) x0 x1 x2 i = x1 (inAt i) :=
  (show A_main_v24 (F := Ideal) x0 x1 x2 i = A_main_v42 (F := Ideal) x1 x0 x2 i from rfl).trans (in_re x1 x0 x2 i)

/-- The decays at an index of the carried arrays. -/
theorem a_re (x0 x1 : Stack) (x2 : Decay) (i : S64x2x64.Idx) : A_main_v2 (F := Ideal) x0 x1 x2 i
    = x2 (ix2 (n0 := 64) (n1 := 256) (i 0) ⟨64 * (i 1).val + (i 2).val, by have h : (i 1).val < 2 := (i 1).isLt; have h2 : (i 2).val < 64 := (i 2).isLt; omega⟩) := by
  unfold A_main_v2 A_main_v1 A_main_v0
  pointwise
  refine congrArg x2 (congrArg (ix2 (n0 := 64) (n1 := 256) (i 0)) (Fin.ext ?_))
  show (i 1).val * 64 + (i 2).val = 64 * _ + _; omega

theorem a_im (x0 x1 : Stack) (x2 : Decay) (i : S64x2x64.Idx) : A_main_v4 (F := Ideal) x0 x1 x2 i
    = x2 (ix2 (n0 := 64) (n1 := 256) (i 0) ⟨128 + (64 * (i 1).val + (i 2).val), by have h : (i 1).val < 2 := (i 1).isLt; have h2 : (i 2).val < 64 := (i 2).isLt; omega⟩) := by
  unfold A_main_v4 A_main_v3 A_main_v0
  pointwise
  refine congrArg x2 (congrArg (ix2 (n0 := 64) (n1 := 256) (i 0)) (Fin.ext ?_))
  show 128 + (i 1).val * 64 + (i 2).val = 128 + (64 * _ + _); omega

/-! ## The results of the last state -/

/-- The group of a result's element: its pair's first or second by the half of the lane. -/
def grp (y : S16896x128.Idx) : Fin 64 :=
  ⟨16 * ((y 0).val / 4224) + 8 * ((y 1).val / 64) + (y 0).val / 528 % 8, by have h : (y 0).val < 16896 := (y 0).isLt; have h1 : (y 1).val < 128 := (y 1).isLt; omega⟩

/-- Where in the rows a result's element of direction `d` stands. -/
def outAt (d : Fin 2) (y : S16896x128.Idx) : S528x64x2x64.Idx :=
  ix4 (n0 := 528) (n1 := 64) (n2 := 2) (n3 := 64) ⟨src ((y 0).val % 528) d.val, src_lt (Nat.mod_lt _ (by decide))⟩ (grp y) d
    ⟨(y 1).val % 64, Nat.mod_lt _ (by decide)⟩

/-- A result of direction 0, laid out by pairs of groups, -/
def packed0 (Y : Dirs) : FVec Ideal S16896x128 .f32 :=
  shapeCast _ (transpose S4x8x528x2x64 [0, 2, 3, 1, 4] (shapeCast _ (extractStridedSlice S4x2x8x528x1x64 ![0, 0, 0, 0, 0, 0] (shapeCast _ (shapeCast _ Y shapeCasts_S64x528x2x64_S64x528x128) shapeCasts_S64x528x128_S4x2x8x528x2x64) slices_S4x2x8x528x2x64_S4x2x8x528x1x64_0_0_0_0_0_0) shapeCasts_S4x2x8x528x1x64_S4x2x8x528x64) transposes_S4x2x8x528x64_S4x8x528x2x64_0_2_3_1_4) shapeCasts_S4x8x528x2x64_S16896x128
/-- and of direction 1. -/
def packed1 (Y : Dirs) : FVec Ideal S16896x128 .f32 :=
  shapeCast _ (transpose S4x8x528x2x64 [0, 2, 3, 1, 4] (shapeCast _ (extractStridedSlice S4x2x8x528x1x64 ![0, 0, 0, 0, 1, 0] (shapeCast _ (shapeCast _ Y shapeCasts_S64x528x2x64_S64x528x128) shapeCasts_S64x528x128_S4x2x8x528x2x64) slices_S4x2x8x528x2x64_S4x2x8x528x1x64_0_0_0_0_1_0) shapeCasts_S4x2x8x528x1x64_S4x2x8x528x64) transposes_S4x2x8x528x64_S4x8x528x2x64_0_2_3_1_4) shapeCasts_S4x8x528x2x64_S16896x128

theorem out0 (X : Rows) (y : S16896x128.Idx) :
    packed0 (turned (transpose S64x528x2x64 [1, 0, 2, 3] X transposes_S528x64x2x64_S64x528x2x64_1_0_2_3)) y = X (outAt 0 y) := by
  unfold packed0
  pointwise
  rw [turned_at]
  pointwise
  refine congrArg X (funext fun a => Fin.ext ?_)
  fin_cases a
  · rfl
  · show _ / 4224 * 16 + _ / 64 * 8 + _ / 528 % 8 = 16 * _ + 8 * _ + _; omega
  · rfl
  · rfl

theorem out1 (X : Rows) (y : S16896x128.Idx) :
    packed1 (turned (transpose S64x528x2x64 [1, 0, 2, 3] X transposes_S528x64x2x64_S64x528x2x64_1_0_2_3)) y = X (outAt 1 y) := by
  unfold packed1
  pointwise
  rw [turned_at]
  pointwise
  refine congrArg X (funext fun a => Fin.ext ?_)
  fin_cases a
  · rfl
  · show _ / 4224 * 16 + _ / 64 * 8 + _ / 528 % 8 = 16 * _ + 8 * _ + _; omega
  · rfl
  · rfl

theorem res88 (s : State Ideal) (y : S16896x128.Idx) : R_main_v88 s y = s.main_v47_7 (outAt 0 y) := out0 s.main_v47_7 y
theorem res93 (s : State Ideal) (y : S16896x128.Idx) : R_main_v93 s y = s.main_v47_8 (outAt 0 y) := out0 s.main_v47_8 y
theorem res98 (s : State Ideal) (y : S16896x128.Idx) : R_main_v98 s y = s.main_v47_7 (outAt 1 y) := out1 s.main_v47_7 y
theorem res103 (s : State Ideal) (y : S16896x128.Idx) : R_main_v103 s y = s.main_v47_8 (outAt 1 y) := out1 s.main_v47_8 y

/-! ## One trip -/

/-- The row a trip reads and writes. -/
def row (n : ℕ) : Fin 4 → ℕ := ![527 - n, 0, 0, 0]

theorem word_row : ∀ n : Fin 528, (IntOp.subi (IntOp.subi 528#32 (BitVec.ofNat 32 n.val)) 1#32).toInt = ((527 - n.val : ℕ) : ℤ) := by decide +kernel

theorem row_read (x : Rows) (n : ℕ) (hn : n < 528) (start : Fin 4 → ℤ) (hs : ∀ a, start a = (row n a : ℤ)) (i : S64x2x64.Idx) :
    shapeCast S64x2x64 (Host.dynamicSlice S1x64x2x64 x start sliceFits_S528x64x2x64_S1x64x2x64) shapeCasts_S1x64x2x64_S64x2x64 i
      = x (ix4 (n0 := 528) (n1 := 64) (n2 := 2) (n3 := 64) ⟨527 - n, by omega⟩ (i 0) (i 1) (i 2)) := by
  have hk : S528x64x2x64.Slices (row n) S1x64x2x64 := ⟨rfl, fun a => by fin_cases a <;> simp [row, Shape.size]; omega⟩
  rw [WordCmp.dynamicSlice_eq_extract _ _ _ _ (row n) hk hs]
  pointwise [row]

theorem row_write (x : Rows) (u : FVec Ideal S1x64x2x64 .f32) (n : ℕ) (hn : n < 528) (start : Fin 4 → ℤ)
    (hs : ∀ a, start a = (row n a : ℤ)) (i : S528x64x2x64.Idx) :
    Host.dynamicUpdateSlice x u start updateFits_S528x64x2x64_S1x64x2x64 i
      = if (i 0).val = 527 - n then u (ix4 (n0 := 1) (n1 := 64) (n2 := 2) (n3 := 64) 0 (i 1) (i 2) (i 3)) else x i := by
  have hk : S528x64x2x64.Slices (row n) S1x64x2x64 := ⟨rfl, fun a => by fin_cases a <;> simp [row, Shape.size]; omega⟩
  rw [WordCmp.dynamicUpdateSlice_eq_update _ _ _ _ (row n) hk hs, updateSlice_apply]
  by_cases h : (i 0).val = 527 - n
  · rw [if_pos h, dif_pos (fun a => by
      fin_cases a
      · exact ⟨(show 527 - n ≤ (i 0).val by omega), (show (i 0).val < 527 - n + 1 by omega)⟩
      · exact ⟨Nat.zero_le _, (show (i 1).val < 0 + 64 by have := (i 1).isLt; exact Nat.lt_of_lt_of_eq this (by rfl))⟩
      · exact ⟨Nat.zero_le _, (show (i 2).val < 0 + 2 by have := (i 2).isLt; exact Nat.lt_of_lt_of_eq this (by rfl))⟩
      · exact ⟨Nat.zero_le _, (show (i 3).val < 0 + 64 by have := (i 3).isLt; exact Nat.lt_of_lt_of_eq this (by rfl))⟩)]
    refine congrArg u (funext fun a => Fin.ext ?_)
    fin_cases a
    · show (i 0).val - (527 - n) = 0; omega
    · rfl
    · rfl
    · rfl
  · rw [if_neg h, dif_neg (fun hin => h (by
      have h0 := hin 0
      have e1 : 527 - n ≤ (i 0).val := h0.1
      have e2 : (i 0).val < 527 - n + 1 := h0.2
      omega))]

theorem start_row (n : ℕ) (hn : n < 528) (s : State Ideal) (a : Fin 4) :
    (((![b3 n s, constantI S_ 32 0#32, constantI S_ 32 0#32, constantI S_ 32 0#32] : Fin 4 → (⟨S_, .i32⟩ : BufTy).Contents (Elt Ideal))) a (Shape.Idx.first h_S_)).toInt = (row n a : ℤ) := by
  fin_cases a
  · exact word_row ⟨n, hn⟩
  · rfl
  · rfl
  · rfl

/-! ## The loop -/

section
variable (x0 x1 : Stack) (x2 : Decay)

theorem const_0 : ∀ n, (refIter x0 x1 x2 n).main_v47_0 = A_main_v42 (F := Ideal) x0 x1 x2
  | 0 => rfl
  | n + 1 => const_0 n
theorem const_1 : ∀ n, (refIter x0 x1 x2 n).main_v47_1 = A_main_v24 (F := Ideal) x0 x1 x2
  | 0 => rfl
  | n + 1 => const_1 n
theorem const_2 : ∀ n, (refIter x0 x1 x2 n).main_v47_2 = A_main_v2 (F := Ideal) x0 x1 x2
  | 0 => rfl
  | n + 1 => const_2 n
theorem const_3 : ∀ n, (refIter x0 x1 x2 n).main_v47_3 = A_main_v4 (F := Ideal) x0 x1 x2
  | 0 => rfl
  | n + 1 => const_3 n

/-- The carried gradients of the real and the imaginary parts before trip `n`. -/
def gr (n : ℕ) : FVec Ideal S64x2x64 .f32 := (refIter x0 x1 x2 n).main_v47_5
def gi (n : ℕ) : FVec Ideal S64x2x64 .f32 := (refIter x0 x1 x2 n).main_v47_6

/-- Where trip `n` reads. -/
def inRow (n : ℕ) (hn : n < 528) (i : S64x2x64.Idx) : S64x528x128.Idx :=
  inAt (ix4 (n0 := 528) (n1 := 64) (n2 := 2) (n3 := 64) ⟨527 - n, by omega⟩ (i 0) (i 1) (i 2))
/-- Where the decay's real part stands, -/
def reAt (i : S64x2x64.Idx) : S64x256.Idx :=
  ix2 (n0 := 64) (n1 := 256) (i 0) ⟨64 * (i 1).val + (i 2).val, by have h : (i 1).val < 2 := (i 1).isLt; have h2 : (i 2).val < 64 := (i 2).isLt; omega⟩
/-- and its imaginary part. -/
def imAt (i : S64x2x64.Idx) : S64x256.Idx :=
  ix2 (n0 := 64) (n1 := 256) (i 0) ⟨128 + (64 * (i 1).val + (i 2).val), by have h : (i 1).val < 2 := (i 1).isLt; have h2 : (i 2).val < 64 := (i 2).isLt; omega⟩

theorem gr_zero (i : S64x2x64.Idx) : gr x0 x1 x2 0 i = 0 := by
  show K_main_v43 (F := Ideal) i = 0
  unfold K_main_v43 K_main_cst_9
  pointwise
theorem gi_zero (i : S64x2x64.Idx) : gi x0 x1 x2 0 i = 0 := by
  show K_main_v44 (F := Ideal) i = 0
  unfold K_main_v44 K_main_cst_10
  pointwise

theorem gr_succ (n : ℕ) (hn : n < 528) (i : S64x2x64.Idx) : gr x0 x1 x2 (n + 1) i
    = x0 (inRow n hn i) + x2 (imAt i) * gi x0 x1 x2 n i + x2 (reAt i) * gr x0 x1 x2 n i := by
  show b8 n (refIter x0 x1 x2 n) i + (refIter x0 x1 x2 n).main_v47_3 i * _ + (refIter x0 x1 x2 n).main_v47_2 i * _ = _
  rw [const_2, const_3, a_re, a_im]
  have e : b8 n (refIter x0 x1 x2 n) i = x0 (inRow n hn i) :=
    (row_read _ n hn _ (start_row n hn _) i).trans ((congrFun (const_0 x0 x1 x2 n) _).trans (in_re x0 x1 x2 _))
  rw [e]; rfl
theorem gi_succ (n : ℕ) (hn : n < 528) (i : S64x2x64.Idx) : gi x0 x1 x2 (n + 1) i
    = x1 (inRow n hn i) + x2 (reAt i) * gi x0 x1 x2 n i + x2 (imAt i) * (- gr x0 x1 x2 n i) := by
  show b13 n (refIter x0 x1 x2 n) i + (refIter x0 x1 x2 n).main_v47_2 i * _ + (refIter x0 x1 x2 n).main_v47_3 i * _ = _
  rw [const_2, const_3, a_re, a_im]
  have e : b13 n (refIter x0 x1 x2 n) i = x1 (inRow n hn i) :=
    (row_read _ n hn _ (start_row n hn _) i).trans ((congrFun (const_1 x0 x1 x2 n) _).trans (in_im x0 x1 x2 _))
  rw [e]; rfl

/-- The index of a row stack's element in its row. -/
def inner (i : S528x64x2x64.Idx) : S64x2x64.Idx := ix3 (n0 := 64) (n1 := 2) (n2 := 64) (i 1) (i 2) (i 3)

theorem stack_re : ∀ n ≤ 528, ∀ i : S528x64x2x64.Idx, 528 - n ≤ (i 0).val →
    (refIter x0 x1 x2 n).main_v47_7 i = gr x0 x1 x2 (527 - (i 0).val) (inner i)
  | 0, _, i, h => absurd (show (i 0).val < 528 from (i 0).isLt) (by omega)
  | n + 1, hn, i, h => by
    refine (row_write _ _ n (by omega) _ (start_row n (by omega) _) i).trans ?_
    by_cases e : (i 0).val = 527 - n
    · rw [if_pos e, show 527 - (i 0).val = n by omega]
      show broadcastInDim S1x64x2x64 ![1, 2, 3] bcast_S64x2x64_S1x64x2x64_1_2_3 (gr x0 x1 x2 n) _ = _
      pointwise
      rfl
    · rw [if_neg e]
      exact stack_re n (by omega) i (by omega)
theorem stack_im : ∀ n ≤ 528, ∀ i : S528x64x2x64.Idx, 528 - n ≤ (i 0).val →
    (refIter x0 x1 x2 n).main_v47_8 i = gi x0 x1 x2 (527 - (i 0).val) (inner i)
  | 0, _, i, h => absurd (show (i 0).val < 528 from (i 0).isLt) (by omega)
  | n + 1, hn, i, h => by
    refine (row_write _ _ n (by omega) _ (start_row n (by omega) _) i).trans ?_
    by_cases e : (i 0).val = 527 - n
    · rw [if_pos e, show 527 - (i 0).val = n by omega]
      show broadcastInDim S1x64x2x64 ![1, 2, 3] bcast_S64x2x64_S1x64x2x64_1_2_3 (gi x0 x1 x2 n) _ = _
      pointwise
      rfl
    · rw [if_neg e]
      exact stack_im n (by omega) i (by omega)

/-! ## The four results -/

/-- A result's element: direction `d`, the carried vector of the step that found its row. -/
def at_ (d : Fin 2) (y : S16896x128.Idx) : S64x2x64.Idx := ix3 (n0 := 64) (n1 := 2) (n2 := 64) (grp y) d ⟨(y 1).val % 64, Nat.mod_lt _ (by decide)⟩

theorem ref0 (y : S16896x128.Idx) : R_main_v88 (refIter x0 x1 x2 528) y = gr x0 x1 x2 (527 - src ((y 0).val % 528) 0) (at_ 0 y) :=
  (res88 _ y).trans (stack_re x0 x1 x2 528 le_rfl _ (by omega))
theorem ref1 (y : S16896x128.Idx) : R_main_v93 (refIter x0 x1 x2 528) y = gi x0 x1 x2 (527 - src ((y 0).val % 528) 0) (at_ 0 y) :=
  (res93 _ y).trans (stack_im x0 x1 x2 528 le_rfl _ (by omega))
theorem ref2 (y : S16896x128.Idx) : R_main_v98 (refIter x0 x1 x2 528) y = gr x0 x1 x2 (527 - src ((y 0).val % 528) 1) (at_ 1 y) :=
  (res98 _ y).trans (stack_re x0 x1 x2 528 le_rfl _ (by omega))
theorem ref3 (y : S16896x128.Idx) : R_main_v103 (refIter x0 x1 x2 528) y = gi x0 x1 x2 (527 - src ((y 0).val % 528) 1) (at_ 1 y) :=
  (res103 _ y).trans (stack_im x0 x1 x2 528 le_rfl _ (by omega))

end

end Cert.Reference2Ideal.Scan

end
-- ==== Proof.ScanStep.lean ====
/- The kernel's carried vectors are the reference's, group by group. -/
module

public import proofs.«01_k».proof.Proof.ScanRun
public import proofs.«01_k».proof.Proof.ScanRef
public import Idealize.ShloMosaic.Lib.Pipeline.ValueKit

@[expose] public section

set_option maxRecDepth 16384

noncomputable section

namespace Cert.Kernel2Ideal.Scan

open Cert.Kernel2Ideal Cert.Kernel2Ideal.Gen
open Idealize.ShloMosaic Idealize.ShloMosaic.TcCoe
open Cert.Reference2Ideal.Scan (gr gi src)

theorem off3 : ∀ (k : Fin k0_t1_loop.trips) (u : Fin 4), k0_off3 k (BitVec.ofNat 32 u.val) = ![527 - (4 * k.val + u.val), 0] := by decide +kernel
theorem off4 : ∀ (k : Fin k0_t1_loop.trips) (u : Fin 4), k0_off4 k (BitVec.ofNat 32 u.val) = ![4224 + (527 - (4 * k.val + u.val)), 0] := by decide +kernel
theorem off5 : ∀ (k : Fin k0_t1_loop.trips) (u : Fin 4),
    k0_off5 k (BitVec.ofNat 32 u.val) = ![src (527 - (4 * k.val + u.val)) 1, 0] := by decide +kernel
theorem off6 : ∀ (k : Fin k0_t1_loop.trips) (u : Fin 4),
    k0_off6 k (BitVec.ofNat 32 u.val) = ![4224 + src (527 - (4 * k.val + u.val)) 1, 0] := by decide +kernel

/-! ## The lanes below 64 and the rest -/

theorem lane_lt : ∀ l : Fin 128, IntOp.cmpi .slt (BitVec.ofNat 32 l.val) 64#32 = if l.val < 64 then 1#1 else 0#1 := by decide +kernel

/-- Lane `l` rotated by half. -/
def half (x : S8x128.Idx) : S8x128.Idx := ix2 (n0 := 8) (n1 := 128) (x 0) ⟨((x 1).val + 128 - 64) % 128, Nat.mod_lt _ (by decide)⟩

theorem pick (x : S8x128.Idx) (a b w : EReal) (ha : (x 1).val < 64 → a = w) (hb : 64 ≤ (x 1).val → b = w) :
    Scalar.select (IntOp.cmpi .slt (BitVec.ofNat 32 (x 1).val) 64#32) a b = w := by
  rw [lane_lt (x 1)]
  by_cases h : (x 1).val < 64
  · rw [if_pos h]; exact ha h
  · rw [if_neg h]; exact hb (by omega)

variable (v3 v4 v9 v10 X Y fr fi : FVec Ideal S8x128 .f32) (x : S8x128.Idx)

/-- One step's four new vectors, from what each packed operand holds at the lane. -/
theorem pay14_at (a b w : EReal)
    (hv1 : (x 1).val < 64 → v3 x = a) (hv2 : 64 ≤ (x 1).val → v4 (half x) = a)
    (hw1 : (x 1).val < 64 → v9 x = b) (hw2 : 64 ≤ (x 1).val → v10 (half x) = b)
    (hx1 : (x 1).val < 64 → X x = w) (hx2 : 64 ≤ (x 1).val → Y (half x) = w) :
    k0_pay14 (k0_pay2 v3 v4) (k0_pay4 v9 v10) fr fi (k0_pay11 k0_pay1 X Y) x = w + a * fr x + b * fi x := by
  pointwise [k0_pay14, k0_pay2, k0_pay4, k0_pay11, k0_pay1]
  exact congrArg₂ (· + ·) (congrArg₂ (· + ·) (pick x _ _ w hx1 hx2) (congrArg (· * fr x) (pick x _ _ a hv1 hv2)))
    (congrArg (· * fi x) (pick x _ _ b hw1 hw2))
theorem pay15_at (a b w : EReal)
    (hv1 : (x 1).val < 64 → v3 x = a) (hv2 : 64 ≤ (x 1).val → v4 (half x) = a)
    (hw1 : (x 1).val < 64 → v9 x = b) (hw2 : 64 ≤ (x 1).val → v10 (half x) = b)
    (hx1 : (x 1).val < 64 → X x = w) (hx2 : 64 ≤ (x 1).val → Y (half x) = w) :
    k0_pay15 (k0_pay2 v3 v4) (k0_pay4 v9 v10) fr fi (k0_pay12 k0_pay1 X Y) x = w + a * fi x - b * fr x := by
  pointwise [k0_pay15, k0_pay2, k0_pay4, k0_pay12, k0_pay1]
  exact congrArg₂ (· - ·) (congrArg₂ (· + ·) (pick x _ _ w hx1 hx2) (congrArg (· * fi x) (pick x _ _ a hv1 hv2)))
    (congrArg (· * fr x) (pick x _ _ b hw1 hw2))
theorem pay16_at (a b w : EReal)
    (hv1 : (x 1).val < 64 → v3 (half x) = a) (hv2 : 64 ≤ (x 1).val → v4 x = a)
    (hw1 : (x 1).val < 64 → v9 (half x) = b) (hw2 : 64 ≤ (x 1).val → v10 x = b)
    (hx1 : (x 1).val < 64 → X (half x) = w) (hx2 : 64 ≤ (x 1).val → Y x = w) :
    k0_pay16 k0_pay1 (k0_pay3 v3 v4) (k0_pay5 v9 v10) fr fi (k0_pay13 X) Y x = w + a * fr x + b * fi x := by
  pointwise [k0_pay16, k0_pay3, k0_pay5, k0_pay13, k0_pay1]
  exact congrArg₂ (· + ·) (congrArg₂ (· + ·) (pick x _ _ w hx1 hx2) (congrArg (· * fr x) (pick x _ _ a hv1 hv2)))
    (congrArg (· * fi x) (pick x _ _ b hw1 hw2))
theorem pay17_at (a b w : EReal)
    (hv1 : (x 1).val < 64 → v3 (half x) = a) (hv2 : 64 ≤ (x 1).val → v4 x = a)
    (hw1 : (x 1).val < 64 → v9 (half x) = b) (hw2 : 64 ≤ (x 1).val → v10 x = b)
    (hx1 : (x 1).val < 64 → X (half x) = w) (hx2 : 64 ≤ (x 1).val → Y x = w) :
    k0_pay17 k0_pay1 (k0_pay3 v3 v4) (k0_pay5 v9 v10) fr fi X Y x = w + a * fi x - b * fr x := by
  pointwise [k0_pay17, k0_pay3, k0_pay5, k0_pay1]
  exact congrArg₂ (· - ·) (congrArg₂ (· + ·) (pick x _ _ w hx1 hx2) (congrArg (· * fi x) (pick x _ _ a hv1 hv2)))
    (congrArg (· * fr x) (pick x _ _ b hw1 hw2))

/-! ## What the blocks hold -/

variable (T : Fin 4)

/-- Where a block's element of the incoming gradients stands in the whole array, -/
def xin (y : S8448x128.Idx) : Cert.Reference2Ideal.S64x528x128.Idx :=
  ix3 (n0 := 64) (n1 := 528) (n2 := 128) ⟨16 * T.val + (y 0).val / 528, by have h : (y 0).val < 8448 := (y 0).isLt; omega⟩
    ⟨(y 0).val % 528, Nat.mod_lt _ (by decide)⟩ (y 1)
/-- and a decay's. -/
def ain (y : S16x256.Idx) : Cert.Reference2Ideal.S64x256.Idx :=
  ix2 (n0 := 64) (n1 := 256) ⟨16 * T.val + (y 0).val, by have h : (y 0).val < 16 := (y 0).isLt; omega⟩ (y 1)
/-- The group, direction and state a lane carries. -/
def gpos (d : Fin 2) : Cert.Reference2Ideal.S64x2x64.Idx :=
  ix3 (n0 := 64) (n1 := 2) (n2 := 64)
    ⟨16 * T.val + 8 * ((x 1).val / 64) + (x 0).val, by have h : (x 0).val < 8 := (x 0).isLt; have h1 : (x 1).val < 128 := (x 1).isLt; omega⟩
    d ⟨(x 1).val % 64, Nat.mod_lt _ (by decide)⟩

theorem rows8_at (B : Vec Ideal S8448x128 .f32) (W : Cert.Reference2Ideal.Scan.Stack) (hB : ∀ y, B y = W (xin T y)) (off : Fin 2 → ℕ)
    (inb : ∀ a, S8x128.size a = 0 ∨ off a + (![528, 1] : Fin 2 → ℕ) a * (S8x128.size a - 1) < S8448x128.size a)
    (p c : ℕ) (hp : p < 2) (hc : c < 528) (ho : off = ![4224 * p + c, 0]) (z : S8x128.Idx) :
    rows8 B off inb z = W (ix3 (n0 := 64) (n1 := 528) (n2 := 128)
      ⟨16 * T.val + (8 * p + (z 0).val), by have h : (z 0).val < 8 := (z 0).isLt; omega⟩ ⟨c, hc⟩ (z 1)) := by
  subst ho
  have hz : (z 0).val < 8 := (z 0).isLt
  refine (hB _).trans (congrArg W (funext fun a => Fin.ext ?_))
  fin_cases a
  · show 16 * T.val + (4224 * p + c + 528 * (z 0).val) / 528 = 16 * T.val + (8 * p + (z 0).val); omega
  · show (4224 * p + c + 528 * (z 0).val) % 528 = c; omega
  · show 0 + 1 * (z 1).val = (z 1).val; omega

theorem q0_at (A : Vec Ideal S16x256 .f32) (D : Cert.Reference2Ideal.Scan.Decay) (hA : ∀ y, A y = D (ain T y)) (o : Fin 2 → ℕ)
    (h : ∀ a, o a + S8x128.size a ≤ S16x256.size a) (p c : ℕ) (hp : p < 2) (hc : c < 2) (ho : o = ![8 * p, 128 * c]) (z : S8x128.Idx) :
    q0 A o h z = D (ix2 (n0 := 64) (n1 := 256)
      ⟨16 * T.val + (8 * p + (z 0).val), by have h : (z 0).val < 8 := (z 0).isLt; omega⟩
      ⟨128 * c + (z 1).val, by have h : (z 1).val < 128 := (z 1).isLt; omega⟩) := by
  subst ho
  refine (hA _).trans (congrArg D (funext fun a => Fin.ext ?_))
  fin_cases a
  · show 16 * T.val + (8 * p + 1 * (z 0).val) = 16 * T.val + (8 * p + (z 0).val); omega
  · show 128 * c + 1 * (z 1).val = 128 * c + (z 1).val; omega

open Cert.Reference2Ideal.Scan (reAt imAt inRow inAt)

/-- Reading a stack at one of the two halves is reading it where the reference's trip does. -/
theorem in_eq (W : Cert.Reference2Ideal.Scan.Stack) (t : ℕ) (ht : t < 528) (d : Fin 2) (p c l : ℕ) (h0 h1 h2)
    (hp : p = (x 1).val / 64) (hc : c = src (527 - t) d.val) (hl : l = 64 * d.val + (x 1).val % 64) :
    W (ix3 (n0 := 64) (n1 := 528) (n2 := 128) ⟨16 * T.val + (8 * p + (x 0).val), h0⟩ ⟨c, h1⟩ ⟨l, h2⟩) = W (inRow t ht (gpos x T d)) := by
  refine congrArg W (funext fun a => Fin.ext ?_)
  fin_cases a
  · show 16 * T.val + (8 * p + (x 0).val) = 16 * T.val + 8 * ((x 1).val / 64) + (x 0).val; omega
  · exact hc
  · exact hl
theorem re_eq (D : Cert.Reference2Ideal.Scan.Decay) (d : Fin 2) (p l : ℕ) (h0 h1)
    (hp : p = (x 1).val / 64) (hl : l = 64 * d.val + (x 1).val % 64) :
    D (ix2 (n0 := 64) (n1 := 256) ⟨16 * T.val + (8 * p + (x 0).val), h0⟩ ⟨l, h1⟩) = D (reAt (gpos x T d)) := by
  refine congrArg D (funext fun a => Fin.ext ?_)
  fin_cases a
  · show 16 * T.val + (8 * p + (x 0).val) = 16 * T.val + 8 * ((x 1).val / 64) + (x 0).val; omega
  · exact hl
theorem im_eq (D : Cert.Reference2Ideal.Scan.Decay) (d : Fin 2) (p l : ℕ) (h0 h1)
    (hp : p = (x 1).val / 64) (hl : l = 128 + (64 * d.val + (x 1).val % 64)) :
    D (ix2 (n0 := 64) (n1 := 256) ⟨16 * T.val + (8 * p + (x 0).val), h0⟩ ⟨l, h1⟩) = D (imAt (gpos x T d)) := by
  refine congrArg D (funext fun a => Fin.ext ?_)
  fin_cases a
  · show 16 * T.val + (8 * p + (x 0).val) = 16 * T.val + 8 * ((x 1).val / 64) + (x 0).val; omega
  · exact hl

variable (A : Vec Ideal S16x256 .f32) (X1 X2 : Vec Ideal S8448x128 .f32)
  (x0 x1 : Cert.Reference2Ideal.Scan.Stack) (x2 : Cert.Reference2Ideal.Scan.Decay)

/-- THE CARRIED VECTORS: before every step they are the reference's, forward and backward. -/
theorem stX_eq (h1 : ∀ y, X1 y = x0 (xin T y)) (h2 : ∀ y, X2 y = x1 (xin T y)) (hA : ∀ y, A y = x2 (ain T y)) :
    ∀ t ≤ 528, ∀ x : S8x128.Idx,
      (stX A X1 X2 t).1 x = gr x0 x1 x2 t (gpos x T 0) ∧ (stX A X1 X2 t).2.1 x = gi x0 x1 x2 t (gpos x T 0)
      ∧ (stX A X1 X2 t).2.2.1 x = gr x0 x1 x2 t (gpos x T 1) ∧ (stX A X1 X2 t).2.2.2 x = gi x0 x1 x2 t (gpos x T 1)
  | 0, _, x => by
    rw [Cert.Reference2Ideal.Scan.gr_zero, Cert.Reference2Ideal.Scan.gi_zero, Cert.Reference2Ideal.Scan.gr_zero, Cert.Reference2Ideal.Scan.gi_zero]
    have e : k0_pay6 (F := Ideal) x = 0 := by pointwise [k0_pay6]
    exact ⟨e, e, e, e⟩
  | t + 1, ht, x => by
    have ht' : t < 528 := by omega
    obtain ⟨e1, e2, e3, e4⟩ := stX_eq h1 h2 hA t (by omega) x
    have hx1 : (x 1).val < 128 := (x 1).isLt
    have hku : 4 * (Fin.ofNat k0_t1_loop.trips (t / 4)).val + (Fin.ofNat 4 t).val = t := by
      show 4 * (t / 4 % k0_t1_loop.trips) + t % 4 = t
      rw [trips_eq]; omega
    have o3 := off3 (Fin.ofNat _ (t / 4)) (Fin.ofNat 4 t)
    have o4 := off4 (Fin.ofNat _ (t / 4)) (Fin.ofNat 4 t)
    have o5 := off5 (Fin.ofNat _ (t / 4)) (Fin.ofNat 4 t)
    have o6 := off6 (Fin.ofNat _ (t / 4)) (Fin.ofNat 4 t)
    rw [hku] at o3 o4 o5 o6
    have s1 : src (527 - t) 1 < 528 := Cert.Reference2Ideal.Scan.src_lt (by omega)
    have vF1 : (x 1).val < 64 → q0 A ![0, 0] inb_S16x256_S8x128_0_0 x = x2 (reAt (gpos x T 0)) := fun hl =>
      (q0_at T A x2 hA _ _ 0 0 (by decide) (by decide) rfl x).trans (re_eq x T x2 0 _ _ _ _ (by omega) (by show 128 * 0 + (x 1).val = 64 * 0 + _; omega))
    have vF2 : 64 ≤ (x 1).val → q0 A ![8, 0] inb_S16x256_S8x128_8_0 (half x) = x2 (reAt (gpos x T 0)) := fun hl =>
      (q0_at T A x2 hA _ _ 1 0 (by decide) (by decide) rfl (half x)).trans (re_eq x T x2 0 _ _ _ _ (by omega) (by show 128 * 0 + ((x 1).val + 128 - 64) % 128 = 64 * 0 + _; omega))
    have wF1 : (x 1).val < 64 → q0 A ![0, 128] inb_S16x256_S8x128_0_128 x = x2 (imAt (gpos x T 0)) := fun hl =>
      (q0_at T A x2 hA _ _ 0 1 (by decide) (by decide) rfl x).trans (im_eq x T x2 0 _ _ _ _ (by omega) (by show 128 * 1 + (x 1).val = 128 + (64 * 0 + _); omega))
    have wF2 : 64 ≤ (x 1).val → q0 A ![8, 128] inb_S16x256_S8x128_8_128 (half x) = x2 (imAt (gpos x T 0)) := fun hl =>
      (q0_at T A x2 hA _ _ 1 1 (by decide) (by decide) rfl (half x)).trans (im_eq x T x2 0 _ _ _ _ (by omega) (by show 128 * 1 + ((x 1).val + 128 - 64) % 128 = 128 + (64 * 0 + _); omega))
    have vB1 : (x 1).val < 64 → q0 A ![0, 0] inb_S16x256_S8x128_0_0 (half x) = x2 (reAt (gpos x T 1)) := fun hl =>
      (q0_at T A x2 hA _ _ 0 0 (by decide) (by decide) rfl (half x)).trans (re_eq x T x2 1 _ _ _ _ (by omega) (by show 128 * 0 + ((x 1).val + 128 - 64) % 128 = 64 * 1 + _; omega))
    have vB2 : 64 ≤ (x 1).val → q0 A ![8, 0] inb_S16x256_S8x128_8_0 x = x2 (reAt (gpos x T 1)) := fun hl =>
      (q0_at T A x2 hA _ _ 1 0 (by decide) (by decide) rfl x).trans (re_eq x T x2 1 _ _ _ _ (by omega) (by show 128 * 0 + (x 1).val = 64 * 1 + _; omega))
    have wB1 : (x 1).val < 64 → q0 A ![0, 128] inb_S16x256_S8x128_0_128 (half x) = x2 (imAt (gpos x T 1)) := fun hl =>
      (q0_at T A x2 hA _ _ 0 1 (by decide) (by decide) rfl (half x)).trans (im_eq x T x2 1 _ _ _ _ (by omega) (by show 128 * 1 + ((x 1).val + 128 - 64) % 128 = 128 + (64 * 1 + _); omega))
    have wB2 : 64 ≤ (x 1).val → q0 A ![8, 128] inb_S16x256_S8x128_8_128 x = x2 (imAt (gpos x T 1)) := fun hl =>
      (q0_at T A x2 hA _ _ 1 1 (by decide) (by decide) rfl x).trans (im_eq x T x2 1 _ _ _ _ (by omega) (by show 128 * 1 + (x 1).val = 128 + (64 * 1 + _); omega))
    have xF : ∀ (B : Vec Ideal S8448x128 .f32) (W : Cert.Reference2Ideal.Scan.Stack), (∀ y, B y = W (xin T y)) →
        ((x 1).val < 64 → rows8 B _ (k0_off3_inb (Fin.ofNat _ (t / 4)) (Fin.ofNat 4 t)) x = W (inRow t ht' (gpos x T 0)))
        ∧ (64 ≤ (x 1).val → rows8 B _ (k0_off4_inb (Fin.ofNat _ (t / 4)) (Fin.ofNat 4 t)) (half x) = W (inRow t ht' (gpos x T 0))) := fun B W hB =>
      ⟨fun hl => (rows8_at T B W hB _ _ 0 (527 - t) (by decide) (by omega) (o3.trans (by rw [Nat.mul_zero, Nat.zero_add])) x).trans
          (in_eq x T W t ht' 0 _ _ _ _ _ _ (by omega) rfl (by show (x 1).val = 64 * 0 + _; omega)),
        fun hl => (rows8_at T B W hB _ _ 1 (527 - t) (by decide) (by omega) (o4.trans (by rw [Nat.mul_one])) (half x)).trans
          (in_eq x T W t ht' 0 _ _ _ _ _ _ (by omega) rfl (by show ((x 1).val + 128 - 64) % 128 = 64 * 0 + _; omega))⟩
    have xB : ∀ (B : Vec Ideal S8448x128 .f32) (W : Cert.Reference2Ideal.Scan.Stack), (∀ y, B y = W (xin T y)) →
        ((x 1).val < 64 → rows8 B _ (k0_off5_inb (Fin.ofNat _ (t / 4)) (Fin.ofNat 4 t)) (half x) = W (inRow t ht' (gpos x T 1)))
        ∧ (64 ≤ (x 1).val → rows8 B _ (k0_off6_inb (Fin.ofNat _ (t / 4)) (Fin.ofNat 4 t)) x = W (inRow t ht' (gpos x T 1))) := fun B W hB =>
      ⟨fun hl => (rows8_at T B W hB _ _ 0 (src (527 - t) 1) (by decide) s1 (o5.trans (by rw [Nat.mul_zero, Nat.zero_add])) (half x)).trans
          (in_eq x T W t ht' 1 _ _ _ _ _ _ (by omega) rfl (by show ((x 1).val + 128 - 64) % 128 = 64 * 1 + _; omega)),
        fun hl => (rows8_at T B W hB _ _ 1 (src (527 - t) 1) (by decide) s1 (o6.trans (by rw [Nat.mul_one])) x).trans
          (in_eq x T W t ht' 1 _ _ _ _ _ _ (by omega) rfl (by show (x 1).val = 64 * 1 + _; omega))⟩
    refine ⟨?_, ?_, ?_, ?_⟩
    · rw [Cert.Reference2Ideal.Scan.gr_succ _ _ _ t ht', add_right_comm, ← e1, ← e2]
      exact pay14_at _ _ _ _ _ _ _ _ x _ _ _ vF1 vF2 wF1 wF2 (xF X1 x0 h1).1 (xF X1 x0 h1).2
    · rw [Cert.Reference2Ideal.Scan.gi_succ _ _ _ t ht', mul_neg, ← sub_eq_add_neg, ← e1, ← e2]
      exact pay15_at _ _ _ _ _ _ _ _ x _ _ _ vF1 vF2 wF1 wF2 (xF X2 x1 h2).1 (xF X2 x1 h2).2
    · rw [Cert.Reference2Ideal.Scan.gr_succ _ _ _ t ht', add_right_comm, ← e3, ← e4]
      exact pay16_at _ _ _ _ _ _ _ _ x _ _ _ vB1 vB2 wB1 wB2 (xB X1 x0 h1).1 (xB X1 x0 h1).2
    · rw [Cert.Reference2Ideal.Scan.gi_succ _ _ _ t ht', mul_neg, ← sub_eq_add_neg, ← e3, ← e4]
      exact pay17_at _ _ _ _ _ _ _ _ x _ _ _ vB1 vB2 wB1 wB2 (xB X2 x1 h2).1 (xB X2 x1 h2).2

end Cert.Kernel2Ideal.Scan

end
-- ==== Proof.ScanValue.lean ====
/- The scan's four results are the reference's. -/
module

public import proofs.«01_k».proof.Proof.ScanStep
public import proofs.«01_k».proof.Proof.ScanFrames
public import Idealize.ShloMosaic.Lib.Pipeline.ValueKit

@[expose] public section

set_option maxRecDepth 16384

noncomputable section

namespace Cert.Kernel2Ideal.Scan

open Cert.Kernel2Ideal Cert.Kernel2Ideal.Gen
open Idealize.ShloMosaic Idealize.ShloMosaic.TcCoe Idealize.SL.Sem
open Idealize.ShloMosaic.Pipeline (Dat)
open Cert.Reference2Ideal.Scan (gr gi src at_ refIter)

variable (m : (ℓ : Loc nD τ sig) → Buf (Elt Ideal) ℓ) (ρ : Dev nD → PrngReg)

/-- The three arguments. -/
abbrev Re (c : Dev nD) : Cert.Reference2Ideal.Scan.Stack := m ((c : Thread nD τ).loc main_arg0)
abbrev Im (c : Dev nD) : Cert.Reference2Ideal.Scan.Stack := m ((c : Thread nD τ).loc main_arg1)
abbrev De (c : Dev nD) : Cert.Reference2Ideal.Scan.Decay := m ((c : Thread nD τ).loc main_arg2)

theorem idx : ∀ t : Fin cfg0.N, win0_0.index t = ![t.val, 0] ∧ win0_1.index t = ![t.val, 0] ∧ win0_2.index t = ![t.val, 0]
    ∧ win0_3.index t = ![t.val, 0] ∧ win0_4.index t = ![t.val, 0] ∧ win0_5.index t = ![t.val, 0] ∧ win0_6.index t = ![t.val, 0] :=
  (by decide +kernel : ∀ t : Fin grid0.N, _)

theorem blk0 (c : Dev nD) (t : Fin cfg0.N) (ht : t.val < 4) (y : S8448x128.Idx) : iblk m c 0 t y = Re m c (xin ⟨t.val, ht⟩ y) := by
  blk_point [iblk, V, idx t]
  all_goals first
    | (show (t.val * 8448 + (y 0).val) / 528 = 16 * t.val + (y 0).val / 528; omega)
    | (show (t.val * 8448 + (y 0).val) % 528 = (y 0).val % 528; omega)
    | rfl
theorem blk1 (c : Dev nD) (t : Fin cfg0.N) (ht : t.val < 4) (y : S8448x128.Idx) : iblk m c 1 t y = Im m c (xin ⟨t.val, ht⟩ y) := by
  blk_point [iblk, V, idx t]
  all_goals first
    | (show (t.val * 8448 + (y 0).val) / 528 = 16 * t.val + (y 0).val / 528; omega)
    | (show (t.val * 8448 + (y 0).val) % 528 = (y 0).val % 528; omega)
    | rfl
theorem blk2 (c : Dev nD) (t : Fin cfg0.N) (ht : t.val < 4) (y : S16x256.Idx) : iblk m c 2 t y = De m c (ain ⟨t.val, ht⟩ y) := by
  blk_point [iblk, V, idx t]
  all_goals first
    | (show t.val * 16 + (y 0).val = 16 * t.val + (y 0).val; omega)
    | rfl

theorem at_eq (T : Fin 4) (d : Fin 2) (z : Cert.Reference2Ideal.S16896x128.Idx) (y : S4224x128.Idx) (h0 : (z 0).val = T.val * 4224 + (y 0).val)
    (h1 : (z 1).val = (y 1).val) : at_ d z = gpos (pos y) T d := by
  have hy : (y 0).val < 4224 := (y 0).isLt
  refine funext fun a => Fin.ext ?_
  fin_cases a
  · show 16 * ((z 0).val / 4224) + 8 * ((z 1).val / 64) + (z 0).val / 528 % 8 = 16 * T.val + 8 * ((y 1).val / 64) + (y 0).val / 528
    rw [h0, h1]; omega
  · rfl
  · show (z 1).val % 64 = (y 1).val % 64
    rw [h1]

theorem tF_eq (T : ℕ) (y : S4224x128.Idx) : 527 - src ((T * 4224 + (y 0).val) % 528) 0 = tF y := by
  unfold src tF; rw [if_pos rfl]; omega
theorem tB_eq (T : ℕ) (y : S4224x128.Idx) : 527 - src ((T * 4224 + (y 0).val) % 528) 1 = tB y := by
  unfold src tB; rw [if_neg (by decide)]; split <;> split <;> omega

theorem final3 (c : Dev nD) : (dats m 0 c).arrAt 3 cfg0.N = fun y : S16896x128.Idx => gr (Re m c) (Im m c) (De m c) (527 - src ((y 0).val % 528) 0) (at_ 0 y) := by
  refine (dats m 0 c).arrAt_eq_of_covers 3 _ (by decide +kernel) fun t hf y => ?_
  have ht : t.val < 4 := t.isLt
  have e0 : ((win0_3.blk t).view.emb y 0).val = t.val * 4224 + (y 0).val := by blk_simp; rw [(idx t).2.2.2.1]; rfl
  have e1 : ((win0_3.blk t).view.emb y 1).val = (y 1).val := by blk_simp; rw [(idx t).2.2.2.1]; show 0 * 128 + (y 1).val = _; omega
  rw [after_3]
  show _ = gr (Re m c) (Im m c) (De m c) (527 - src (((win0_3.blk t).view.emb y 0).val % 528) 0) (at_ 0 ((win0_3.blk t).view.emb y))
  rw [e0, at_eq ⟨t.val, ht⟩ 0 _ y e0 e1, tF_eq]
  exact (stX_eq ⟨t.val, ht⟩ (iblk m c 2 t) (iblk m c 0 t) (iblk m c 1 t) (Re m c) (Im m c) (De m c) (blk0 m c t ht) (blk1 m c t ht) (blk2 m c t ht) (tF y) (Nat.le_of_lt (tF_lt y)) (pos y)).1

theorem final4 (c : Dev nD) : (dats m 0 c).arrAt 4 cfg0.N = fun y : S16896x128.Idx => gi (Re m c) (Im m c) (De m c) (527 - src ((y 0).val % 528) 0) (at_ 0 y) := by
  refine (dats m 0 c).arrAt_eq_of_covers 4 _ (by decide +kernel) fun t hf y => ?_
  have ht : t.val < 4 := t.isLt
  have e0 : ((win0_4.blk t).view.emb y 0).val = t.val * 4224 + (y 0).val := by blk_simp; rw [(idx t).2.2.2.2.1]; rfl
  have e1 : ((win0_4.blk t).view.emb y 1).val = (y 1).val := by blk_simp; rw [(idx t).2.2.2.2.1]; show 0 * 128 + (y 1).val = _; omega
  rw [after_4]
  show _ = gi (Re m c) (Im m c) (De m c) (527 - src (((win0_4.blk t).view.emb y 0).val % 528) 0) (at_ 0 ((win0_4.blk t).view.emb y))
  rw [e0, at_eq ⟨t.val, ht⟩ 0 _ y e0 e1, tF_eq]
  exact (stX_eq ⟨t.val, ht⟩ (iblk m c 2 t) (iblk m c 0 t) (iblk m c 1 t) (Re m c) (Im m c) (De m c) (blk0 m c t ht) (blk1 m c t ht) (blk2 m c t ht) (tF y) (Nat.le_of_lt (tF_lt y)) (pos y)).2.1

theorem final5 (c : Dev nD) : (dats m 0 c).arrAt 5 cfg0.N = fun y : S16896x128.Idx => gr (Re m c) (Im m c) (De m c) (527 - src ((y 0).val % 528) 1) (at_ 1 y) := by
  refine (dats m 0 c).arrAt_eq_of_covers 5 _ (by decide +kernel) fun t hf y => ?_
  have ht : t.val < 4 := t.isLt
  have e0 : ((win0_5.blk t).view.emb y 0).val = t.val * 4224 + (y 0).val := by blk_simp; rw [(idx t).2.2.2.2.2.1]; rfl
  have e1 : ((win0_5.blk t).view.emb y 1).val = (y 1).val := by blk_simp; rw [(idx t).2.2.2.2.2.1]; show 0 * 128 + (y 1).val = _; omega
  rw [after_5]
  show _ = gr (Re m c) (Im m c) (De m c) (527 - src (((win0_5.blk t).view.emb y 0).val % 528) 1) (at_ 1 ((win0_5.blk t).view.emb y))
  rw [e0, at_eq ⟨t.val, ht⟩ 1 _ y e0 e1, tB_eq]
  exact (stX_eq ⟨t.val, ht⟩ (iblk m c 2 t) (iblk m c 0 t) (iblk m c 1 t) (Re m c) (Im m c) (De m c) (blk0 m c t ht) (blk1 m c t ht) (blk2 m c t ht) (tB y) (Nat.le_of_lt (tB_lt y)) (pos y)).2.2.1

theorem final6 (c : Dev nD) : (dats m 0 c).arrAt 6 cfg0.N = fun y : S16896x128.Idx => gi (Re m c) (Im m c) (De m c) (527 - src ((y 0).val % 528) 1) (at_ 1 y) := by
  refine (dats m 0 c).arrAt_eq_of_covers 6 _ (by decide +kernel) fun t hf y => ?_
  have ht : t.val < 4 := t.isLt
  have e0 : ((win0_6.blk t).view.emb y 0).val = t.val * 4224 + (y 0).val := by blk_simp; rw [(idx t).2.2.2.2.2.2]; rfl
  have e1 : ((win0_6.blk t).view.emb y 1).val = (y 1).val := by blk_simp; rw [(idx t).2.2.2.2.2.2]; show 0 * 128 + (y 1).val = _; omega
  rw [after_6]
  show _ = gi (Re m c) (Im m c) (De m c) (527 - src (((win0_6.blk t).view.emb y 0).val % 528) 1) (at_ 1 ((win0_6.blk t).view.emb y))
  rw [e0, at_eq ⟨t.val, ht⟩ 1 _ y e0 e1, tB_eq]
  exact (stX_eq ⟨t.val, ht⟩ (iblk m c 2 t) (iblk m c 0 t) (iblk m c 1 t) (Re m c) (Im m c) (De m c) (blk0 m c t ht) (blk1 m c t ht) (blk2 m c t ht) (tB y) (Nat.le_of_lt (tB_lt y)) (pos y)).2.2.2

/-- The run with each result array named. -/
theorem run_blocks : θ_run defs (onTc (τ := τ) (main (F := Ideal))) ⟨m, fun _ => 0, ρ⟩ fun r => ∀ c : Dev nD,
      r.2.mem ((c : Thread nD τ).loc main_v2_0) = (dats m 0 c).arrAt 3 cfg0.N
      ∧ r.2.mem ((c : Thread nD τ).loc main_v2_1) = (dats m 0 c).arrAt 4 cfg0.N
      ∧ r.2.mem ((c : Thread nD τ).loc main_v2_2) = (dats m 0 c).arrAt 5 cfg0.N
      ∧ r.2.mem ((c : Thread nD τ).loc main_v2_3) = (dats m 0 c).arrAt 6 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h.1 c).1 3, (h.1 c).1 4, (h.1 c).1 5, (h.1 c).1 6, (h.2.1 c).1, (h.2.1 c).2.1, (h.2.1 c).2.2⟩)
    (θ_run_and (run_main m ρ) (frame_any m ρ))

end Cert.Kernel2Ideal.Scan

namespace Cert.Proof

open Idealize.ShloMosaic Idealize.ShloMosaic.TcCoe Idealize.SL.Sem
open Cert.Reference2Ideal.Scan (refIter ref0 ref1 ref2 ref3)

/-- The reference's frame. -/
theorem frame_ref_scan : Cert.quiescent_Reference2Ideal := fun m ρ _ =>
  (θ_run Cert.Reference2Ideal.defs _ _).mono
    (fun r h => ⟨fun c => (h c).2.2.2.2, sem_eq_zero_of_no_sems (by decide) r.2⟩)
    (Cert.Reference2Ideal.Value.run (F := Ideal) m ρ)

set_option maxHeartbeats 1600000 in
theorem algebraic_scan : Cert.algebraic_Kernel2Ideal_Reference2Ideal := by
  intro m ρ m' ρ' _ hagree
  refine ⟨_, _, _, _, Cert.Kernel2Ideal.Scan.run_blocks m ρ, ?_⟩
  have hrun := Cert.Reference2Ideal.ScanRun.run_iter (F := Ideal) m' ρ'
    (fun c => refIter (m' ((c.tc : Thread _ _).loc Cert.Reference2Ideal.main_arg0)) (m' ((c.tc : Thread _ _).loc Cert.Reference2Ideal.main_arg1)) (m' ((c.tc : Thread _ _).loc Cert.Reference2Ideal.main_arg2)))
    (fun c => rfl) (fun c n => rfl)
  refine (θ_run _ _ _).mono (fun _ h c => ⟨(h c).1.trans ?_, (h c).2.1.trans ?_, (h c).2.2.1.trans ?_, (h c).2.2.2.1.trans ?_, (h c).2.2.2.2⟩) hrun
  all_goals
    obtain ⟨a0, a1, a2⟩ := hagree c
    rw [a0, a1, a2]
  · rw [Cert.Kernel2Ideal.Scan.final3]; exact funext fun y => ref0 _ _ _ y
  · rw [Cert.Kernel2Ideal.Scan.final4]; exact funext fun y => ref1 _ _ _ y
  · rw [Cert.Kernel2Ideal.Scan.final5]; exact funext fun y => ref2 _ _ _ y
  · rw [Cert.Kernel2Ideal.Scan.final6]; exact funext fun y => ref3 _ _ _ y

end Cert.Proof

end
-- ==== Proof.DstValue.lean ====
/-
The gradient at the chunks' rows and at the states: what each grid point writes, read against the transposed read-out.
-/
module

public import proofs.«01_k».proof.Proof.Gen.Kernel11Ideal.Frame
public import proofs.«01_k».proof.Proof.Gen.Kernel11Ideal.Value
public import proofs.«01_k».proof.Proof.Gen.Reference11Ideal.Run
public import proofs.«01_k».proof.Defs
public import Idealize.ShloMosaic.Lib.Pipeline.ValueKit
public import Idealize.ShloMosaic.Lib.WholeRead

@[expose] public section

set_option maxRecDepth 16384

noncomputable section

open Idealize.ShloMosaic Idealize.ShloMosaic.TcCoe Idealize.SL.Sem
open Idealize.ShloMosaic.Pipeline (Dat)

namespace Cert.Kernel11Ideal.Dst

open Cert.Kernel11Ideal Cert.Kernel11Ideal.Gen

variable (m : (ℓ : Loc nD τ sig) → Buf (Elt Ideal) ℓ)

theorem idx : ∀ t : Fin cfg0.N, win0_0.index t = ![0, t.val] ∧ win0_1.index t = ![0, 0] ∧ win0_2.index t = ![t.val, 0, 0]
    ∧ win0_3.index t = ![t.val, 0, 0] ∧ win0_4.index t = ![t.val, 0, 0] ∧ win0_5.index t = ![t.val, 0, 0] :=
  (by decide +kernel : ∀ t : Fin grid0.N, _)

abbrev REF3 (dy : FVec Ideal S8192x1024 .f32) : FVec Ideal S8x512x2048 .bf16 :=
  truncf .bf16 (shapeCast _ (transpose Cert.Reference11Ideal.S8x512x8x16x16 [2, 0, 3, 1, 4] (shapeCast _ dy Cert.Reference11Ideal.Gen.shapeCasts_S8192x1024_S512x16x8x8x16) Cert.Reference11Ideal.Gen.transposes_S512x16x8x8x16_S8x512x8x16x16_2_0_3_1_4) Cert.Reference11Ideal.Gen.shapeCasts_S8x512x8x16x16_S8x512x2048) Cert.Reference11Ideal.Gen.bitsLt_bf16_f32

/-- The row of a chunk's rows (token, lane) that column (group, token, channel) of the sorted rows takes. -/
abbrev src (o : ℕ) : ℕ := o % 256 / 16 * 128 + o / 256 * 16 + o % 16

/-- The table of ones, entry by entry. -/
theorem perm_at (c : Dev nD) (x : S2048x2048.Idx) :
    V m c main_v9 x = if (x 0 : ℕ) = src (x 1) then (1 : EReal) else 0 := by
  entry_read
  pointwise
  have h0 : (x 0 : ℕ) < 2048 := (x 0).isLt
  have h1 : (x 1 : ℕ) < 2048 := (x 1).isLt
  have e : (x 1 : ℕ) / 16 % 16 * 128 + (x 1 : ℕ) / 256 * 16 + (x 1 : ℕ) % 16 = src (x 1) := by
    unfold src; omega
  rw [e]
  have h2 : src (x 1) < 2048 := by unfold src; omega
  by_cases h : (x 0 : ℕ) = src (x 1)
  · rw [if_pos h, h]; simp [Scalar.select, IntOp.cmpi]
  · rw [if_neg h]
    have : BitVec.ofNat 32 (x 0 : ℕ) ≠ BitVec.ofNat 32 (src (x 1)) := fun hh => h (by
      have := congrArg BitVec.toNat hh
      rwa [BitVec.toNat_ofNat, BitVec.toNat_ofNat, Nat.mod_eq_of_lt (by omega), Nat.mod_eq_of_lt (by omega)] at this)
    have : (BitVec.ofNat 32 (x 0 : ℕ) == BitVec.ofNat 32 (src (x 1))) = false := beq_eq_false_iff_ne.mpr this
    simp [Scalar.select, IntOp.cmpi, this]

theorem op_at (c : Dev nD) (x : S64x256x256.Idx) : V m c main_v10 x = (m ((c : Thread nD τ).loc main_arg1) : FVec Ideal S64x256x256 .f32) x := by
  entry_read
  pointwise

set_option maxHeartbeats 1600000 in
/-- A product with a table of ones selects: the sum's one entry. -/
theorem selected (f : Fin 2048 → EReal) (g : Fin 2048 → EReal) (s : ℕ) (hs : s < 2048)
    (hg : ∀ k : Fin 2048, g k = if (k : ℕ) = s then (1 : EReal) else 0) : (∑ k, f k * g k) = f ⟨s, hs⟩ := by
  rw [Finset.sum_eq_single (⟨s, hs⟩ : Fin 2048)]
  · rw [hg, if_pos rfl, mul_one]
  · intro k _ hk
    rw [hg, if_neg (fun h => hk (Fin.ext h)), mul_zero]
  · intro h; exact absurd (Finset.mem_univ _) h

theorem inb16 (s : Fin 16) (a : Fin 2) : (![512, 128] : Fin 2 → ℕ) a = 0 ∨ (![(s : ℕ), 0] : Fin 2 → ℕ) a + (![16, 1] : Fin 2 → ℕ) a * ((![512, 128] : Fin 2 → ℕ) a - 1) < S8192x128.size a := by
  have := s.isLt
  fin_cases a
  · right; show (s : ℕ) + 16 * (512 - 1) < 8192; omega
  · right; show 0 + 1 * (128 - 1) < 128; omega

/-- The strided load of a lane block's tokens at place `s` of every chunk. -/
abbrev chunk (M : Memref sig .tc .vmem S8192x128 .f32) (hM : M.IsWhole) (X : FVec Ideal S8192x128 .f32) (s : Fin 16) : S512x128.Idx → EReal :=
  View.readAt (Elt Ideal) M.view (⟨![(s : ℕ), 0], ![512, 128], ![16, 1], inb16 s⟩ : LoadRect S8192x128) (hM.unread X)

/-- The chunks' rows a grid point lays end to end: row `k`, column (token, lane). -/
theorem cat_at (M : Memref sig .tc .vmem S8192x128 .f32) (hM : M.IsWhole) (X : FVec Ideal S8192x128 .f32)
    (h : Shape.Concatenates ((List.ofFn fun n : Fin 16 => (⟨S512x128, chunk M hM X n⟩ : (s : Shape) × (s.Idx → EReal))).map (·.1)) S512x2048 1)
    (k : Fin 512) (q : Fin 2048) :
    concatenate S512x2048 1 (List.ofFn fun n : Fin 16 => (⟨S512x128, chunk M hM X n⟩ : (s : Shape) × (s.Idx → EReal))) h (ix2 k q : S512x2048.Idx)
      = X (ix2 ⟨(q : ℕ) / 128 + 16 * (k : ℕ), by have := k.isLt; have := q.isLt; omega⟩ ⟨(q : ℕ) % 128, by omega⟩ : S8192x128.Idx) := by
  have hk := k.isLt
  have hq := q.isLt
  refine (concatenate_ofFn_apply (t := S512x2048) (s₁ := S512x128) (1 : Fin 2) (chunk M hM X) h rfl 128 rfl (ix2 k q : S512x2048.Idx) ⟨(q : ℕ) / 128, by omega⟩ rfl
    (ix2 k ⟨(q : ℕ) % 128, by omega⟩ : S512x128.Idx) rfl ?_).trans ?_
  · intro b hb
    fin_cases b
    · rfl
    · exact absurd rfl hb
  · show View.readAt (Elt Ideal) M.view _ (hM.unread X) _ = _
    rw [Memref.IsWhole.readAt_unread]
    refine congrArg X (funext fun a => Fin.ext ?_)
    fin_cases a
    · rfl
    · show 0 + 1 * ((q : ℕ) % 128) = (q : ℕ) % 128; omega

/-- The product with the table of ones sorts the columns. -/
theorem sorted_at (X : FVec Ideal S512x2048 .f32) (P : FVec Ideal S2048x2048 .bf16)
    (hP : ∀ x : S2048x2048.Idx, P x = if (x 0 : ℕ) = src (x 1) then (1 : EReal) else 0) (k : Fin 512) (o : Fin 2048) :
    k0_pay6 X P (ix2 k o) = X (ix2 k ⟨src o, by have := o.isLt; unfold src; omega⟩) := by
  pointwise [k0_pay6]
  exact selected (fun q => X (ix2 k q)) _ (src o) _ (fun q => hP _)

/-- The cotangent of the tokens. -/
abbrev Dy (c : Dev nD) : FVec Ideal S8192x1024 .f32 := m ((c : Thread nD τ).loc main_arg0)

/-- The read-out of every group. -/
abbrev Op (c : Dev nD) : FVec Ideal S64x256x256 .f32 := m ((c : Thread nD τ).loc main_arg1)

/-- A grid point's sorted rows. -/
abbrev Rows (c : Dev nD) (t : Fin cfg0.N) : FVec Ideal S512x2048 .bf16 :=
  k0_pay6 (concatenate S512x2048 1 (List.ofFn fun n : Fin 16 => (⟨S512x128, chunk (ms0_0 t) (hs0_0 t) (iblk m c 0 t) n⟩ : (s : Shape) × (s.Idx → EReal)))
    concatenates_S512x128_S512x128_S512x128_S512x128_S512x128_S512x128_S512x128_S512x128_S512x128_S512x128_S512x128_S512x128_S512x128_S512x128_S512x128_S512x128_S512x2048_d1) (iblk m c 1 t)

theorem N_lt (t : Fin cfg0.N) : t.val < 8 := lt_of_lt_of_eq t.isLt (by decide +kernel)

theorem blk_dy (c : Dev nD) (t : Fin cfg0.N) (r : Fin 8192) (l : Fin 128) :
    (iblk m c 0 t : FVec Ideal S8192x128 .f32) (ix2 r l) = Dy m c (ix2 r ⟨t.val * 128 + l, by have := N_lt t; have := l.isLt; omega⟩) := by
  have := N_lt t
  blk_point [iblk, V, idx t]

theorem blk_perm (c : Dev nD) (t : Fin cfg0.N) (x : S2048x2048.Idx) :
    (iblk m c 1 t : FVec Ideal S2048x2048 .bf16) x = if (x 0 : ℕ) = src (x 1) then (1 : EReal) else 0 := by
  refine Eq.trans ?_ (perm_at m c x)
  blk_point [iblk, V, idx t]

theorem blk_op (c : Dev nD) (t : Fin cfg0.N) (g : Fin 8) (a b : Fin 256) :
    (iblk m c 2 t : FVec Ideal S8x256x256 .bf16) (ix3 g a b) = Op m c (ix3 ⟨t.val * 8 + g, by have := N_lt t; have := g.isLt; omega⟩ a b) := by
  have := N_lt t
  refine Eq.trans ?_ (op_at m c _)
  blk_point [iblk, V, idx t]

theorem rows_at (c : Dev nD) (t : Fin cfg0.N) (k : Fin 512) (o : Fin 2048) :
    Rows m c t (ix2 k o) = Dy m c (ix2 ⟨16 * (k : ℕ) + (o : ℕ) % 256 / 16, by have := k.isLt; omega⟩
      ⟨t.val * 128 + (o : ℕ) / 256 * 16 + (o : ℕ) % 16, by have := N_lt t; have := o.isLt; omega⟩) := by
  have ht := N_lt t
  have hk := k.isLt
  have ho := o.isLt
  refine (sorted_at _ _ (blk_perm m c t) k o).trans ((cat_at _ _ _ _ _ _).trans ((blk_dy m c t _ _).trans ?_))
  refine congrArg (Dy m c) (funext fun a => Fin.ext ?_)
  fin_cases a
  · show src o / 128 + 16 * (k : ℕ) = 16 * (k : ℕ) + (o : ℕ) % 256 / 16
    unfold src; omega
  · show t.val * 128 + src o % 128 = t.val * 128 + (o : ℕ) / 256 * 16 + (o : ℕ) % 16
    unfold src; omega

set_option maxHeartbeats 1600000 in
theorem final3 (c : Dev nD) : (dats m 0 c).arrAt 3 (cfgs 0).N = REF3 (Dy m c) := by
  refine (dats m 0 c).arrAt_eq_of_covers 3 _ (by decide +kernel) fun t hf y => ?_
  have ht := N_lt t
  blk_simp
  rw [after0_3]
  unfold outsAt0
  frame_out
  show k0_pay7 (Rows m c t) y = _
  pointwise [k0_pay7, REF3]
  refine (rows_at m c t (y 1) (y 2)).trans ?_
  blk_point [idx t]

/-- What the reference leaves at the states, the half from column `0`. -/
def REF4 (dy : FVec Ideal S8192x1024 .f32) (op : FVec Ideal S64x256x256 .f32) : FVec Ideal S64x528x128 .f32 :=
  extractStridedSlice Cert.Reference11Ideal.S64x528x128 ![0, 0, 0] (pad Cert.Reference11Ideal.S64x528x256 ![0, 16, 0] ![0, 0, 0] ![0, 0, 0] (Host.dotGeneral Cert.Reference11Ideal.dot_S64x512x256_S64x256x256_S64x512x256_2_2_1_1_0_0 none (shapeCast _ (transpose Cert.Reference11Ideal.S8x8x512x16x16 [0, 2, 1, 3, 4] (transpose Cert.Reference11Ideal.S8x512x8x16x16 [2, 0, 3, 1, 4] (shapeCast _ dy Cert.Reference11Ideal.Gen.shapeCasts_S8192x1024_S512x16x8x8x16) Cert.Reference11Ideal.Gen.transposes_S512x16x8x8x16_S8x512x8x16x16_2_0_3_1_4) Cert.Reference11Ideal.Gen.transposes_S8x512x8x16x16_S8x8x512x16x16_0_2_1_3_4) Cert.Reference11Ideal.Gen.shapeCasts_S8x8x512x16x16_S64x512x256) op) (constant (F := Ideal) Cert.Reference11Ideal.S_ .f32 0x00000000#32) Cert.Reference11Ideal.Gen.pads_S64x512x256_S64x528x256_000_1600_000 Cert.Reference11Ideal.Gen.h_S_) Cert.Reference11Ideal.Gen.slices_S64x528x256_S64x528x128_0_0_0

/-- What the reference leaves at the states, the half from column `128`. -/
def REF5 (dy : FVec Ideal S8192x1024 .f32) (op : FVec Ideal S64x256x256 .f32) : FVec Ideal S64x528x128 .f32 :=
  extractStridedSlice Cert.Reference11Ideal.S64x528x128 ![0, 0, 128] (pad Cert.Reference11Ideal.S64x528x256 ![0, 16, 0] ![0, 0, 0] ![0, 0, 0] (Host.dotGeneral Cert.Reference11Ideal.dot_S64x512x256_S64x256x256_S64x512x256_2_2_1_1_0_0 none (shapeCast _ (transpose Cert.Reference11Ideal.S8x8x512x16x16 [0, 2, 1, 3, 4] (transpose Cert.Reference11Ideal.S8x512x8x16x16 [2, 0, 3, 1, 4] (shapeCast _ dy Cert.Reference11Ideal.Gen.shapeCasts_S8192x1024_S512x16x8x8x16) Cert.Reference11Ideal.Gen.transposes_S512x16x8x8x16_S8x512x8x16x16_2_0_3_1_4) Cert.Reference11Ideal.Gen.transposes_S8x512x8x16x16_S8x8x512x16x16_0_2_1_3_4) Cert.Reference11Ideal.Gen.shapeCasts_S8x8x512x16x16_S64x512x256) op) (constant (F := Ideal) Cert.Reference11Ideal.S_ .f32 0x00000000#32) Cert.Reference11Ideal.Gen.pads_S64x512x256_S64x528x256_000_1600_000 Cert.Reference11Ideal.Gen.h_S_) Cert.Reference11Ideal.Gen.slices_S64x528x256_S64x528x128_0_0_128

/-- The cotangent of a state, as one sum over the chunk's tokens and channels. -/
abbrev dh (dy : FVec Ideal S8192x1024 .f32) (op : FVec Ideal S64x256x256 .f32) (g : Fin 64) (k : Fin 512) (n : Fin 256) : EReal :=
  ∑ x : Fin 256, dy (ix2 ⟨(k : ℕ) * 16 + (x : ℕ) / 16, by have := k.isLt; have := x.isLt; omega⟩
    ⟨(g : ℕ) / 8 * 128 + (g : ℕ) % 8 * 16 + (x : ℕ) % 16, by have := g.isLt; omega⟩) * op (ix3 g n x)

/-- The half from column `d` of the states' cotangent: none at the context's chunks. -/
def Half (dy : FVec Ideal S8192x1024 .f32) (op : FVec Ideal S64x256x256 .f32) (d : ℕ) (T : FVec Ideal S64x528x128 .f32) : Prop :=
  (∀ j : S64x528x128.Idx, (j 1 : ℕ) < 16 → T j = 0) ∧
  ∀ (j : S64x528x128.Idx) (g : Fin 64) (k : Fin 512) (n : Fin 256), (j 0 : ℕ) = g → (j 1 : ℕ) = 16 + k → (j 2 : ℕ) + d = n → T j = dh dy op g k n

theorem half4 (dy : FVec Ideal S8192x1024 .f32) (op : FVec Ideal S64x256x256 .f32) : Half dy op 0 (REF4 dy op) := by
  constructor
  · intro j h
    pointwise [REF4]
    rw [dif_neg (by omega)]
  · intro j g k n h0 h1 h2
    have := k.isLt
    have := n.isLt
    pointwise [REF4]
    rw [dif_pos (by omega)]
    refine Finset.sum_congr rfl fun x _ => congrArg₂ (· * ·) (congrArg dy (funext fun a => Fin.ext ?_)) (congrArg op (funext fun a => Fin.ext ?_))
    · fin_cases a
      · show ((j 1 : ℕ) - 16) * 16 + (x : ℕ) / 16 = (k : ℕ) * 16 + (x : ℕ) / 16; omega
      · show (j 0 : ℕ) / 8 * 128 + (j 0 : ℕ) % 8 * 16 + (x : ℕ) % 16 = _; rw [h0]; rfl
    · fin_cases a
      · exact h0
      · exact h2
      · rfl

theorem half5 (dy : FVec Ideal S8192x1024 .f32) (op : FVec Ideal S64x256x256 .f32) : Half dy op 128 (REF5 dy op) := by
  constructor
  · intro j h
    pointwise [REF5]
    rw [dif_neg (by omega)]
  · intro j g k n h0 h1 h2
    have := k.isLt
    have := n.isLt
    pointwise [REF5]
    rw [dif_pos (by omega)]
    refine Finset.sum_congr rfl fun x _ => congrArg₂ (· * ·) (congrArg dy (funext fun a => Fin.ext ?_)) (congrArg op (funext fun a => Fin.ext ?_))
    · fin_cases a
      · show ((j 1 : ℕ) - 16) * 16 + (x : ℕ) / 16 = (k : ℕ) * 16 + (x : ℕ) / 16; omega
      · show (j 0 : ℕ) / 8 * 128 + (j 0 : ℕ) % 8 * 16 + (x : ℕ) % 16 = _; rw [h0]; rfl
    · fin_cases a
      · exact h0
      · show 128 + (j 2 : ℕ) = n; omega
      · rfl

/-- A group's product at a grid point is the states' cotangent there. -/
theorem tail (c : Dev nD) (t : Fin cfg0.N) (R : FVec Ideal S512x2048 .bf16) (hR : ∀ (k : Fin 512) (o : Fin 2048), R (ix2 k o) = Rows m c t (ix2 k o))
    {d : ℕ} {T : FVec Ideal S64x528x128 .f32} (hT : Half (Dy m c) (Op m c) d T) (g : Fin 8) (j : S64x528x128.Idx) (k : Fin 512) (n : Fin 256)
    (h0 : (j 0 : ℕ) = t.val * 8 + g) (h1 : (j 1 : ℕ) = 16 + k) (h2 : (j 2 : ℕ) + d = n) :
    (∑ x : Fin 256, R (ix2 k ⟨256 * (g : ℕ) + x, by have := g.isLt; have := x.isLt; omega⟩) * (iblk m c 2 t : FVec Ideal S8x256x256 .bf16) (ix3 g n x)) = T j := by
  have ht := N_lt t
  have hg := g.isLt
  rw [hT.2 j ⟨t.val * 8 + g, by omega⟩ k n h0 h1 h2]
  refine Finset.sum_congr rfl fun x _ => congrArg₂ (· * ·) ?_ (blk_op m c t g n x)
  have hx := x.isLt
  refine (hR k _).trans ((rows_at m c t k _).trans (congrArg (Dy m c) (funext fun a => Fin.ext ?_)))
  fin_cases a
  · show 16 * (k : ℕ) + (256 * (g : ℕ) + x) % 256 / 16 = (k : ℕ) * 16 + (x : ℕ) / 16; omega
  · show t.val * 128 + (256 * (g : ℕ) + x) / 256 * 16 + (256 * (g : ℕ) + x) % 16 = (t.val * 8 + g) / 8 * 128 + (t.val * 8 + g) % 8 * 16 + (x : ℕ) % 16; omega

set_option maxHeartbeats 1600000 in
theorem final4 (c : Dev nD) : (dats m 0 c).arrAt 4 (cfgs 0).N = REF4 (Dy m c) (Op m c) := by
  have hT := half4 (Dy m c) (Op m c)
  generalize REF4 (Dy m c) (Op m c) = T at hT ⊢
  refine (dats m 0 c).arrAt_eq_of_covers 4 _ (by decide +kernel) fun t hf y => ?_
  have ht := N_lt t
  have e0 : (((cfg0.win 4).blk t).view.emb y 0).val = t.val * 8 + (y 0).val := by blk_simp; rw [(idx t).2.2.2.2.1]; rfl
  have e1 : (((cfg0.win 4).blk t).view.emb y 1).val = (y 1).val := by blk_simp; rw [(idx t).2.2.2.2.1]; show 0 * 528 + (y 1).val = _; omega
  have e2 : (((cfg0.win 4).blk t).view.emb y 2).val = (y 2).val := by blk_simp; rw [(idx t).2.2.2.2.1]; show 0 * 128 + (y 2).val = _; omega
  obtain ⟨j, hj, j0, j1, j2⟩ : ∃ j : S64x528x128.Idx, ((cfg0.win 4).blk t).view.emb y = j ∧ (j 0 : ℕ) = t.val * 8 + (y 0).val
      ∧ (j 1 : ℕ) = (y 1).val ∧ (j 2 : ℕ) = (y 2).val := ⟨_, rfl, e0, e1, e2⟩
  clear e0 e1 e2
  refine Eq.trans ?_ (congrArg T hj.symm)
  clear hj
  blk_simp
  rw [after0_4]
  unfold outsAt0
  frame_out
  generalize hr : k0_pay6 (F := Ideal) _ _ = R
  have hR : ∀ (k : Fin 512) (o : Fin 2048), R (ix2 k o) = Rows m c t (ix2 k o) := fun k o => by subst hr; rfl
  clear hr
  canon_tiles x h using View.cover_of_tiledBy _ ![1, 16, 128] (by sl_kernel_rfl) _
  all_goals (open_payloads; pointwise)
  case piece0 => exact tail m c t R hR hT 7 j (x 1) ⟨(x 2 : ℕ), by omega⟩ (by show _ = t.val * 8 + 7; omega) (by omega) (by show _ = (x 2 : ℕ); omega)
  case piece2 => exact tail m c t R hR hT 6 j (x 1) ⟨(x 2 : ℕ), by omega⟩ (by show _ = t.val * 8 + 6; omega) (by omega) (by show _ = (x 2 : ℕ); omega)
  case piece4 => exact tail m c t R hR hT 5 j (x 1) ⟨(x 2 : ℕ), by omega⟩ (by show _ = t.val * 8 + 5; omega) (by omega) (by show _ = (x 2 : ℕ); omega)
  case piece6 => exact tail m c t R hR hT 4 j (x 1) ⟨(x 2 : ℕ), by omega⟩ (by show _ = t.val * 8 + 4; omega) (by omega) (by show _ = (x 2 : ℕ); omega)
  case piece8 => exact tail m c t R hR hT 3 j (x 1) ⟨(x 2 : ℕ), by omega⟩ (by show _ = t.val * 8 + 3; omega) (by omega) (by show _ = (x 2 : ℕ); omega)
  case piece10 => exact tail m c t R hR hT 2 j (x 1) ⟨(x 2 : ℕ), by omega⟩ (by show _ = t.val * 8 + 2; omega) (by omega) (by show _ = (x 2 : ℕ); omega)
  case piece12 => exact tail m c t R hR hT 1 j (x 1) ⟨(x 2 : ℕ), by omega⟩ (by show _ = t.val * 8 + 1; omega) (by omega) (by show _ = (x 2 : ℕ); omega)
  case piece14 =>
    refine Eq.trans (Finset.sum_congr rfl fun o _ => ?_) (tail m c t R hR hT 0 j (x 1) ⟨(x 2 : ℕ), by omega⟩ (by show _ = t.val * 8 + 0; omega) (by omega) (by show _ = (x 2 : ℕ); omega))
    refine congrArg₂ (· * ·) (congrArg R (funext fun a => Fin.ext ?_)) rfl
    fin_cases a
    · rfl
    · show (o : ℕ) = 256 * 0 + o; omega
  all_goals exact (hT.1 j (by omega)).symm

set_option maxHeartbeats 1600000 in
theorem final5 (c : Dev nD) : (dats m 0 c).arrAt 5 (cfgs 0).N = REF5 (Dy m c) (Op m c) := by
  have hT := half5 (Dy m c) (Op m c)
  generalize REF5 (Dy m c) (Op m c) = T at hT ⊢
  refine (dats m 0 c).arrAt_eq_of_covers 5 _ (by decide +kernel) fun t hf y => ?_
  have ht := N_lt t
  have e0 : (((cfg0.win 5).blk t).view.emb y 0).val = t.val * 8 + (y 0).val := by blk_simp; rw [(idx t).2.2.2.2.2]; rfl
  have e1 : (((cfg0.win 5).blk t).view.emb y 1).val = (y 1).val := by blk_simp; rw [(idx t).2.2.2.2.2]; show 0 * 528 + (y 1).val = _; omega
  have e2 : (((cfg0.win 5).blk t).view.emb y 2).val = (y 2).val := by blk_simp; rw [(idx t).2.2.2.2.2]; show 0 * 128 + (y 2).val = _; omega
  obtain ⟨j, hj, j0, j1, j2⟩ : ∃ j : S64x528x128.Idx, ((cfg0.win 5).blk t).view.emb y = j ∧ (j 0 : ℕ) = t.val * 8 + (y 0).val
      ∧ (j 1 : ℕ) = (y 1).val ∧ (j 2 : ℕ) = (y 2).val := ⟨_, rfl, e0, e1, e2⟩
  clear e0 e1 e2
  refine Eq.trans ?_ (congrArg T hj.symm)
  clear hj
  blk_simp
  rw [after0_5]
  unfold outsAt0
  frame_out
  generalize hr : k0_pay6 (F := Ideal) _ _ = R
  have hR : ∀ (k : Fin 512) (o : Fin 2048), R (ix2 k o) = Rows m c t (ix2 k o) := fun k o => by subst hr; rfl
  clear hr
  canon_tiles x h using View.cover_of_tiledBy _ ![1, 16, 128] (by sl_kernel_rfl) _
  all_goals (open_payloads; pointwise)
  case piece0 => exact tail m c t R hR hT 7 j (x 1) ⟨128 + (x 2 : ℕ), by omega⟩ (by show _ = t.val * 8 + 7; omega) (by omega) (by show _ = 128 + (x 2 : ℕ); omega)
  case piece2 => exact tail m c t R hR hT 6 j (x 1) ⟨128 + (x 2 : ℕ), by omega⟩ (by show _ = t.val * 8 + 6; omega) (by omega) (by show _ = 128 + (x 2 : ℕ); omega)
  case piece4 => exact tail m c t R hR hT 5 j (x 1) ⟨128 + (x 2 : ℕ), by omega⟩ (by show _ = t.val * 8 + 5; omega) (by omega) (by show _ = 128 + (x 2 : ℕ); omega)
  case piece6 => exact tail m c t R hR hT 4 j (x 1) ⟨128 + (x 2 : ℕ), by omega⟩ (by show _ = t.val * 8 + 4; omega) (by omega) (by show _ = 128 + (x 2 : ℕ); omega)
  case piece8 => exact tail m c t R hR hT 3 j (x 1) ⟨128 + (x 2 : ℕ), by omega⟩ (by show _ = t.val * 8 + 3; omega) (by omega) (by show _ = 128 + (x 2 : ℕ); omega)
  case piece10 => exact tail m c t R hR hT 2 j (x 1) ⟨128 + (x 2 : ℕ), by omega⟩ (by show _ = t.val * 8 + 2; omega) (by omega) (by show _ = 128 + (x 2 : ℕ); omega)
  case piece12 => exact tail m c t R hR hT 1 j (x 1) ⟨128 + (x 2 : ℕ), by omega⟩ (by show _ = t.val * 8 + 1; omega) (by omega) (by show _ = 128 + (x 2 : ℕ); omega)
  case piece14 =>
    refine Eq.trans (Finset.sum_congr rfl fun o _ => ?_) (tail m c t R hR hT 0 j (x 1) ⟨128 + (x 2 : ℕ), by omega⟩ (by show _ = t.val * 8 + 0; omega) (by omega) (by show _ = 128 + (x 2 : ℕ); omega))
    refine congrArg₂ (· * ·) (congrArg R (funext fun a => Fin.ext ?_)) rfl
    fin_cases a
    · rfl
    · show (o : ℕ) = 256 * 0 + o; omega
  all_goals exact (hT.1 j (by omega)).symm

end Cert.Kernel11Ideal.Dst

namespace Cert.Proof

/-- The reference runs to its end with its arguments unchanged. -/
theorem frame_ref_dst : Cert.quiescent_Reference11Ideal := fun m ρ _ =>
  (θ_run Cert.Reference11Ideal.defs _ _).mono
    (fun r h => ⟨fun c => (h c).2.2.2, sem_eq_zero_of_no_sems (by decide) r.2⟩)
    (Cert.Reference11Ideal.Value.run (F := Ideal) m ρ)

set_option maxHeartbeats 1600000 in
/-- The kernel's three results are the transposed read-out of the chunks. -/
theorem algebraic_dst : Cert.algebraic_Kernel11Ideal_Reference11Ideal := by
  pair_intro
  · run_from Cert.Kernel11Ideal.Value.run_blocks m g
  · hlo_run
    all_goals clear hagree hpre g g'
    · exact (Cert.Kernel11Ideal.Dst.final3 m c).symm
    · exact (Cert.Kernel11Ideal.Dst.final4 m c).symm
    · exact (Cert.Kernel11Ideal.Dst.final5 m c).symm

end Cert.Proof
-- ==== Proof.DuRun.lean ====
module

public import proofs.«01_k».proof.Proof.Gen.Kernel9Ideal.Frame
public import proofs.«01_k».proof.Proof.Gen.Kernel9Ideal.Skeleton

@[expose] public section

set_option maxRecDepth 16384

noncomputable section

namespace Cert.Kernel9Ideal.Du

open Cert.Kernel9Ideal Cert.Kernel9Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- One grid point of the body, on whole staging memrefs: the inputs stay, and each of the three outputs (token rows of
    `du`, context rows, operator gradient) ends with the pieces its stores wrote, which the run finds. -/
noncomputable def kernelRun (c : Dev nD) (i : grid0.Coords) (arg1 : Memref sig .tc .vmem S1x528x2048 .bf16) (harg1 : arg1.IsWhole) (arg2 : Memref sig .tc .vmem S1x512x2048 .bf16) (harg2 : arg2.IsWhole) (arg3 : Memref sig .tc .vmem S8x528x128 .f32) (harg3 : arg3.IsWhole) (arg4 : Memref sig .tc .vmem S8x528x128 .f32) (harg4 : arg4.IsWhole) (arg5 : Memref sig .tc .vmem S8x528x128 .f32) (harg5 : arg5.IsWhole) (arg6 : Memref sig .tc .vmem S8x528x128 .f32) (harg6 : arg6.IsWhole) (arg7 : Memref sig .tc .vmem S8x256x256 .bf16) (harg7 : arg7.IsWhole) (arg8 : Memref sig .tc .vmem S8x256x256 .bf16) (harg8 : arg8.IsWhole) (arg9 : Memref sig .tc .vmem S2048x2048 .bf16) (harg9 : arg9.IsWhole) (arg10 : Memref sig .tc .vmem S8192x128 .f32) (harg10 : arg10.IsWhole) (arg11 : Memref sig .tc .vmem S256x128 .f32) (harg11 : arg11.IsWhole) (arg12 : Memref sig .tc .vmem S8x256x256 .f32) (harg12 : arg12.IsWhole)
    (x0 : Vec F S1x528x2048 .bf16) (x1 : Vec F S1x512x2048 .bf16) (x2 : Vec F S8x528x128 .f32) (x3 : Vec F S8x528x128 .f32) (x4 : Vec F S8x528x128 .f32) (x5 : Vec F S8x528x128 .f32) (x6 : Vec F S8x256x256 .bf16) (x7 : Vec F S8x256x256 .bf16) (x8 : Vec F S2048x2048 .bf16) :
    Σ' (L9 : List (View.Piece (Elt F) S8192x128 .f32)), Σ' (L10 : List (View.Piece (Elt F) S256x128 .f32)), { L11 : List (View.Piece (Elt F) S8x256x256 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ d, owns (c : Thread nD τ) arg10 fullShare d) ∗ (∃ d, owns (c : Thread nD τ) arg11 fullShare d) ∗ (∃ d, owns (c : Thread nD τ) arg12 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ f, arg10.view.loc (c : Thread nD τ) ↦[arg10.view.set]{fullShare} arg10.view.writes (Elt F) f L9) ∗ (∃ f, arg11.view.loc (c : Thread nD τ) ↦[arg11.view.set]{fullShare} arg11.view.writes (Elt F) f L10) ∗ (∃ f, arg12.view.loc (c : Thread nD τ) ↦[arg12.view.set]{fullShare} arg12.view.writes (Elt F) f L11)) -∗ K ⟨⟩))
          ⊢ wp frame (wpE (defs₀ (F := F)) Variants.none c none) E (cc0_s5_du i arg1 harg1 arg2 harg2 arg3 harg3 arg4 harg4 arg5 harg5 arg6 harg6 arg7 harg7 arg8 harg8 arg9 harg9 arg10 harg10 arg11 harg11 arg12 harg12) K } := by
  refine ⟨?_, ?_, ?_, fun E K => ?run⟩
  case run =>
    simp only [cc0_s5_du_eq_skeleton]; unfold cc0_s5_du_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%d10, %f10, -, H10⟩, ⟨%d11, %f11, -, H11⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]; · iexists _; iexact H9
    isplitl [H10]; · iexists _; iexact H10
    iexists _; iexact H11

end Cert.Kernel9Ideal.Du

end
-- ==== Proof.DuFrame.lean ====
module

public import proofs.«01_k».proof.Proof.Gen.Kernel9Ideal.Frame
public import proofs.«01_k».proof.Proof.Gen.Kernel9Ideal.Skeleton
public import proofs.«01_k».proof.Proof.DuRun
public import Idealize.ShloMosaic.Lib.Claim

@[expose] public section

set_option maxRecDepth 16384

noncomputable section

namespace Cert.Kernel9Ideal.Du

open Cert.Kernel9Ideal Cert.Kernel9Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## Stores of every sixteenth row -/

/-- Sixteen stores, the `s`-th into the rows `s`, `s + 16`, … of `n` chunks, cover all rows. -/
theorem cover_rows {Val : EltTy → Type} {e : EltTy} (n a b : Nat) (hs : a ≤ 16 * n) (L : List (View.Piece Val ⟨2, ![a, b]⟩ e))
    (h : (List.range 16).all (fun s => L.any fun p => p.1.off 0 == s && p.1.off 1 == 0 && p.1.stride 0 == 16
      && p.1.stride 1 == 1 && p.1.size 0 == n && p.1.size 1 == b) = true) (y : Shape.Idx ⟨2, ![a, b]⟩) :
    ∃ p ∈ L, y ∈ p.1.set := by
  have hy : (y 0).val < a := (y 0).isLt
  have hw : (y 1).val < b := (y 1).isLt
  rw [List.all_eq_true] at h
  have h1 := h ((y 0).val % 16) (List.mem_range.mpr (Nat.mod_lt _ (by omega)))
  obtain ⟨p, hp, hq⟩ := List.any_eq_true.mp h1
  simp only [Bool.and_eq_true, beq_iff_eq] at hq
  obtain ⟨⟨⟨⟨⟨o0, o1⟩, t0⟩, t1⟩, z0⟩, z1⟩ := hq
  refine ⟨p, hp, ?_⟩
  refine p.1.mem_set.mpr fun i => ?_
  fin_cases i
  · exact ⟨(y 0).val / 16, by show _ < p.1.size 0; rw [z0]; omega, by show (y 0).val = p.1.off 0 + p.1.stride 0 * _; rw [o0, t0]; omega⟩
  · exact ⟨(y 1).val, by show _ < p.1.size 1; rw [z1]; omega, by show (y 1).val = p.1.off 1 + p.1.stride 1 * _; rw [o1, t1]; omega⟩

/-! ## What the outputs hold after a point -/

/-- The pieces the body leaves in the block of token rows at point `t`, -/
def pieces9 (c : Dev nD) (t : Fin cfg0.N) : List (View.Piece (Elt F) S8192x128 .f32) := (kernelRun c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10)) (win0_11.stage (cfg0.slots t 11)) (hstage0_11 ((cfg0.slots t 11).cast nbuf0_11)) (iblk m c 0 t) (iblk m c 1 t) (iblk m c 2 t) (iblk m c 3 t) (iblk m c 4 t) (iblk m c 5 t) (iblk m c 6 t) (iblk m c 7 t) (iblk m c 8 t)).1
/-- in the block of context rows, -/
def pieces10 (c : Dev nD) (t : Fin cfg0.N) : List (View.Piece (Elt F) S256x128 .f32) := (kernelRun c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10)) (win0_11.stage (cfg0.slots t 11)) (hstage0_11 ((cfg0.slots t 11).cast nbuf0_11)) (iblk m c 0 t) (iblk m c 1 t) (iblk m c 2 t) (iblk m c 3 t) (iblk m c 4 t) (iblk m c 5 t) (iblk m c 6 t) (iblk m c 7 t) (iblk m c 8 t)).2.1
/-- and in the block of operator gradients. -/
def pieces11 (c : Dev nD) (t : Fin cfg0.N) : List (View.Piece (Elt F) S8x256x256 .f32) := (kernelRun c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10)) (win0_11.stage (cfg0.slots t 11)) (hstage0_11 ((cfg0.slots t 11).cast nbuf0_11)) (iblk m c 0 t) (iblk m c 1 t) (iblk m c 2 t) (iblk m c 3 t) (iblk m c 4 t) (iblk m c 5 t) (iblk m c 6 t) (iblk m c 7 t) (iblk m c 8 t)).2.2.1

theorem cover9 (c : Dev nD) (t : Fin cfg0.N) (y : S8192x128.Idx) : ∃ p ∈ pieces9 m c t, y ∈ p.1.set :=
  cover_rows 512 8192 128 (by omega) (pieces9 m c t) (by sl_kernel_rfl) y
theorem cover10 (c : Dev nD) (t : Fin cfg0.N) (y : S256x128.Idx) : ∃ p ∈ pieces10 m c t, y ∈ p.1.set :=
  cover_rows 16 256 128 (by omega) (pieces10 m c t) (by sl_kernel_rfl) y
theorem cover11 (c : Dev nD) (t : Fin cfg0.N) (y : S8x256x256.Idx) : ∃ p ∈ pieces11 m c t, y ∈ p.1.set :=
  View.cover_of_tiledL (pieces11 m c t) S1x256x256.size (by sl_kernel_rfl) y

/-! ## The pipeline's proof data -/

/-- Each input's buffer at its block, each output's at what its pieces leave; the arrays as the region finds them. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => View.canon (pieces9 m c t)
    | ⟨10, _⟩ => View.canon (pieces10 m c t)
    | ⟨11, _⟩ => View.canon (pieces11 m c t)
  Φ _ := Pipeline.ΦA spec0 c
  q _ := fullShare
  owed _ := 0

theorem A_eq (c : Dev nD) (w : Fin cfg0.W) : (dats m 0 c).A w = V m c (Pipeline.arrRef spec0 w) := by dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = View.canon (pieces9 m c t) := by dsimp only [dats]
theorem after0_10 (c : Dev nD) (t : Fin cfg0.N) : (dats m 0 c).after 10 t = View.canon (pieces10 m c t) := by dsimp only [dats]
theorem after0_11 (c : Dev nD) (t : Fin cfg0.N) : (dats m 0 c).after 11 t = View.canon (pieces11 m c t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (win0_0.stage (cfg0.slots t 0)) fullShare ((dats m 0 c).before 0 t d))
    ∗ (∃ d, owns (c : Thread nD τ) (win0_1.stage (cfg0.slots t 1)) fullShare ((dats m 0 c).before 1 t d))
    ∗ (∃ d, owns (c : Thread nD τ) (win0_2.stage (cfg0.slots t 2)) fullShare ((dats m 0 c).before 2 t d))
    ∗ (∃ d, owns (c : Thread nD τ) (win0_3.stage (cfg0.slots t 3)) fullShare ((dats m 0 c).before 3 t d))
    ∗ (∃ d, owns (c : Thread nD τ) (win0_4.stage (cfg0.slots t 4)) fullShare ((dats m 0 c).before 4 t d))
    ∗ (∃ d, owns (c : Thread nD τ) (win0_5.stage (cfg0.slots t 5)) fullShare ((dats m 0 c).before 5 t d))
    ∗ (∃ d, owns (c : Thread nD τ) (win0_6.stage (cfg0.slots t 6)) fullShare ((dats m 0 c).before 6 t d))
    ∗ (∃ d, owns (c : Thread nD τ) (win0_7.stage (cfg0.slots t 7)) fullShare ((dats m 0 c).before 7 t d))
    ∗ (∃ d, owns (c : Thread nD τ) (win0_8.stage (cfg0.slots t 8)) fullShare ((dats m 0 c).before 8 t d))
    ∗ (∃ d, owns (c : Thread nD τ) (win0_9.stage (cfg0.slots t 9)) fullShare ((dats m 0 c).before 9 t d))
    ∗ (∃ d, owns (c : Thread nD τ) (win0_10.stage (cfg0.slots t 10)) fullShare ((dats m 0 c).before 10 t d))
    ∗ (∃ d, owns (c : Thread nD τ) (win0_11.stage (cfg0.slots t 11)) fullShare ((dats m 0 c).before 11 t d)))

/-- and what it returns. -/
def bodyPost (c : Dev nD) (t : Fin cfg0.N) : sProp 𝕄 :=
  iprop((dats m 0 c).Φ t.succ ∗ (dats m 0 c).owesAt () t.succ
    ∗ owns (c : Thread nD τ) (win0_0.stage (cfg0.slots t 0)) fullShare ((dats m 0 c).after 0 t)
    ∗ owns (c : Thread nD τ) (win0_1.stage (cfg0.slots t 1)) fullShare ((dats m 0 c).after 1 t)
    ∗ owns (c : Thread nD τ) (win0_2.stage (cfg0.slots t 2)) fullShare ((dats m 0 c).after 2 t)
    ∗ owns (c : Thread nD τ) (win0_3.stage (cfg0.slots t 3)) fullShare ((dats m 0 c).after 3 t)
    ∗ owns (c : Thread nD τ) (win0_4.stage (cfg0.slots t 4)) fullShare ((dats m 0 c).after 4 t)
    ∗ owns (c : Thread nD τ) (win0_5.stage (cfg0.slots t 5)) fullShare ((dats m 0 c).after 5 t)
    ∗ owns (c : Thread nD τ) (win0_6.stage (cfg0.slots t 6)) fullShare ((dats m 0 c).after 6 t)
    ∗ owns (c : Thread nD τ) (win0_7.stage (cfg0.slots t 7)) fullShare ((dats m 0 c).after 7 t)
    ∗ owns (c : Thread nD τ) (win0_8.stage (cfg0.slots t 8)) fullShare ((dats m 0 c).after 8 t)
    ∗ owns (c : Thread nD τ) (win0_9.stage (cfg0.slots t 9)) fullShare ((dats m 0 c).after 9 t)
    ∗ owns (c : Thread nD τ) (win0_10.stage (cfg0.slots t 10)) fullShare ((dats m 0 c).after 10 t)
    ∗ owns (c : Thread nD τ) (win0_11.stage (cfg0.slots t 11)) fullShare ((dats m 0 c).after 11 t))

/-- The body at any point, from its run. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10, after0_11]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  iapply ((kernelRun c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10)) (win0_11.stage (cfg0.slots t 11)) (hstage0_11 ((cfg0.slots t 11).cast nbuf0_11)) (iblk m c 0 t) (iblk m c 1 t) (iblk m c 2 t) (iblk m c 3 t) (iblk m c 4 t) (iblk m c 5 t) (iblk m c 6 t) (iblk m c 7 t) (iblk m c 8 t)).2.2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  isplitl [H10]; · iexists _; iexact H10
  isplitl [H11]; · iexists _; iexact H11
  iintro ⟨H0, H1, H2, H3, H4, H5, H6, H7, H8, ⟨%e9, H9⟩, ⟨%e10, H10⟩, ⟨%e11, H11⟩⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]
  · unfold owns; iexists _; isplitr
    swap; · iexact H9
    ipureintro; exact View.read_writes_eq_canon _ _ _ (cover9 m c t)
  isplitl [H10]
  · unfold owns; iexists _; isplitr
    swap; · iexact H10
    ipureintro; exact View.read_writes_eq_canon _ _ _ (cover10 m c t)
  unfold owns; iexists _; isplitr
  swap; · iexact H11
  ipureintro; exact View.read_writes_eq_canon _ _ _ (cover11 m c t)

theorem defs₀_row (t : Fin cfg0.N) : defs₀ (F := F) .tc cfg0.body (cfg0.bodyArgs t (cfg0.slots t)) = bodyAt0 t := by
  unfold defs₀; rw [Defs.onTc_tc]

/-- The library's body obligation, at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
/-- The run, every counter at zero at its end. -/
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

theorem run_main : θ_run defs (onTc (τ := τ) (main (F := F))) (s₀ m ρ) (Pipeline.FramePost cfgs (dats m) 0 (V m)) :=
  (θ_run defs _ _).mono (fun _ h => h.1) (run_main_quiescent m ρ)

/-- The frame, at any elements. -/
theorem frame_any : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  θ_run_and (frame_of m ρ (dats m) (A_eq m) (run_main m ρ)) ((θ_run defs _ _).mono (fun _ h => h.2) (run_main_quiescent m ρ))

/-- The run with each result named, the arguments unchanged. -/
theorem run_blocks : θ_run defs (onTc (τ := τ) (main (F := F))) ⟨m, fun _ => 0, ρ⟩ fun r => ∀ c : Dev nD,
      r.2.mem ((c : Thread nD τ).loc main_v44_0) = (dats m 0 c).arrAt 9 cfg0.N
      ∧ r.2.mem ((c : Thread nD τ).loc main_v44_1) = (dats m 0 c).arrAt 10 cfg0.N
      ∧ r.2.mem ((c : Thread nD τ).loc main_v44_2) = (dats m 0 c).arrAt 11 cfg0.N
      ∧ (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c => ⟨(h.1 c).1 9, (h.1 c).1 10, (h.1 c).1 11, h.2⟩)
    (θ_run_and (run_main m ρ) (frame_of m ρ (dats m) (A_eq m) (run_main m ρ)))

end Cert.Kernel9Ideal.Du

end
-- ==== Proof.DuPieces.lean ====
/-
The gradient at the chunks' tokens: what the body of one grid point stores, group by group and row by row.
-/
module

public import proofs.«01_k».proof.Proof.DuFrame
public import Idealize.ShloMosaic.Lib.Pipeline.ValueKit
public import Idealize.ShloMosaic.Lib.WholeRead

@[expose] public section

set_option maxRecDepth 16384

noncomputable section

open Idealize.ShloMosaic Idealize.ShloMosaic.TcCoe Idealize.SL.Sem
open Idealize.ShloMosaic.Tactic

namespace Cert.Kernel9Ideal.Du

open Cert.Kernel9Ideal Cert.Kernel9Ideal.Gen

variable (m : (ℓ : Loc nD τ sig) → Buf (Elt Ideal) ℓ)

/-! ## The loads of one group -/

theorem inb_slab (g : Fin 8) (a : Fin 3) : (![(g : ℕ), 0, 0] : Fin 3 → ℕ) a + S1x528x128.size a ≤ S8x528x128.size a := by
  have := g.isLt
  fin_cases a
  · show (g : ℕ) + 1 ≤ 8; omega
  · show 0 + 528 ≤ 528; omega
  · show 0 + 128 ≤ 128; omega

theorem inb_op (g : Fin 8) (a : Fin 3) : (![(g : ℕ), 0, 0] : Fin 3 → ℕ) a + S1x256x256.size a ≤ S8x256x256.size a := by
  have := g.isLt
  fin_cases a
  · show (g : ℕ) + 1 ≤ 8; omega
  · show 0 + 256 ≤ 256; omega
  · show 0 + 256 ≤ 256; omega

theorem inb_cols (g : Fin 8) (a : Fin 3) : (![0, 0, 256 * (g : ℕ)] : Fin 3 → ℕ) a + S1x528x256.size a ≤ S1x528x2048.size a := by
  have := g.isLt
  fin_cases a
  · show 0 + 1 ≤ 1; omega
  · show 0 + 528 ≤ 528; omega
  · show 256 * (g : ℕ) + 256 ≤ 2048; omega

theorem inb_late (g : Fin 8) (a : Fin 3) : (![0, 0, 256 * (g : ℕ)] : Fin 3 → ℕ) a + S1x512x256.size a ≤ S1x512x2048.size a := by
  have := g.isLt
  fin_cases a
  · show 0 + 1 ≤ 1; omega
  · show 0 + 512 ≤ 512; omega
  · show 256 * (g : ℕ) + 256 ≤ 2048; omega

/-- A direction of the state's cotangent: pair `g` of the block. -/
abbrev slab (M : Memref sig .tc .vmem S8x528x128 .f32) (hM : M.IsWhole) (X : FVec Ideal S8x528x128 .f32) (g : Fin 8) : FVec Ideal S1x528x128 .f32 :=
  View.readAt (Elt Ideal) M.view (Rect.unit (s := S8x528x128) ![(g : ℕ), 0, 0] S1x528x128.size (inb_slab g)).toLoadRect (hM.unread X)

/-- An operator: group `g` of the block. -/
abbrev oper (M : Memref sig .tc .vmem S8x256x256 .bf16) (hM : M.IsWhole) (X : FVec Ideal S8x256x256 .bf16) (g : Fin 8) : FVec Ideal S1x256x256 .bf16 :=
  View.readAt (Elt Ideal) M.view (Rect.unit (s := S8x256x256) ![(g : ℕ), 0, 0] S1x256x256.size (inb_op g)).toLoadRect (hM.unread X)

/-- The chunks' rows of group `g`, the context's and the others'. -/
abbrev cols (M : Memref sig .tc .vmem S1x528x2048 .bf16) (hM : M.IsWhole) (X : FVec Ideal S1x528x2048 .bf16) (g : Fin 8) : FVec Ideal S1x528x256 .bf16 :=
  View.readAt (Elt Ideal) M.view (Rect.unit (s := S1x528x2048) ![0, 0, 256 * (g : ℕ)] S1x528x256.size (inb_cols g)).toLoadRect (hM.unread X)

/-- The cotangent rows of group `g`. -/
abbrev late (M : Memref sig .tc .vmem S1x512x2048 .bf16) (hM : M.IsWhole) (X : FVec Ideal S1x512x2048 .bf16) (g : Fin 8) : FVec Ideal S1x512x256 .bf16 :=
  View.readAt (Elt Ideal) M.view (Rect.unit (s := S1x512x2048) ![0, 0, 256 * (g : ℕ)] S1x512x256.size (inb_late g)).toLoadRect (hM.unread X)

/-! ## One group's part, and the sorted sum -/

/-- The half of a pair the grid point takes, as the body computes the word. -/
abbrev which (i : grid0.Coords) : BitVec 32 :=
  Scalar.select (Scalar.andi (Scalar.xori (Scalar.cmpi .slt (Scalar.remsi (BitVec.ofNat 32 (i 0).val) (Scalar.select (Scalar.cmpi .eq 2#32 0#32) 1#32 2#32)) 0#32)
      (Scalar.cmpi .slt (Scalar.select (Scalar.cmpi .eq 2#32 0#32) 1#32 2#32) 0#32))
    (Scalar.cmpi .ne (Scalar.remsi (BitVec.ofNat 32 (i 0).val) (Scalar.select (Scalar.cmpi .eq 2#32 0#32) 1#32 2#32)) 0#32))
    (Scalar.addi (Scalar.remsi (BitVec.ofNat 32 (i 0).val) (Scalar.select (Scalar.cmpi .eq 2#32 0#32) 1#32 2#32)) (Scalar.select (Scalar.cmpi .eq 2#32 0#32) 1#32 2#32))
    (Scalar.remsi (BitVec.ofNat 32 (i 0).val) (Scalar.select (Scalar.cmpi .eq 2#32 0#32) 1#32 2#32))

/-- Group `g`'s gradient at the chunks' rows, at grid point `t`. -/
def part (c : Dev nD) (t : Fin cfg0.N) (g : Fin 8) : FVec Ideal S528x256 .f32 :=
  k0_pay10 k0_pay6 (k0_pay7 (grid0.coords t) (slab (win0_2.stage (cfg0.slots t 2)) (hstage0_2 ((cfg0.slots t 2).cast nbuf0_2)) (iblk m c 2 t) g)
      (slab (win0_4.stage (cfg0.slots t 4)) (hstage0_4 ((cfg0.slots t 4).cast nbuf0_4)) (iblk m c 4 t) g)) (which (grid0.coords t))
    (slab (win0_3.stage (cfg0.slots t 3)) (hstage0_3 ((cfg0.slots t 3).cast nbuf0_3)) (iblk m c 3 t) g)
    (slab (win0_5.stage (cfg0.slots t 5)) (hstage0_5 ((cfg0.slots t 5).cast nbuf0_5)) (iblk m c 5 t) g)
    (oper (win0_7.stage (cfg0.slots t 7)) (hstage0_7 ((cfg0.slots t 7).cast nbuf0_7)) (iblk m c 7 t) g)
    (late (win0_1.stage (cfg0.slots t 1)) (hstage0_1 ((cfg0.slots t 1).cast nbuf0_1)) (iblk m c 1 t) g)
    (oper (win0_6.stage (cfg0.slots t 6)) (hstage0_6 ((cfg0.slots t 6).cast nbuf0_6)) (iblk m c 6 t) g)

/-- Group `g`'s operator gradient at grid point `t`. -/
def opPart (c : Dev nD) (t : Fin cfg0.N) (g : Fin 8) : FVec Ideal S1x256x256 .f32 :=
  k0_pay9 k0_pay6 (k0_pay7 (grid0.coords t) (slab (win0_2.stage (cfg0.slots t 2)) (hstage0_2 ((cfg0.slots t 2).cast nbuf0_2)) (iblk m c 2 t) g)
      (slab (win0_4.stage (cfg0.slots t 4)) (hstage0_4 ((cfg0.slots t 4).cast nbuf0_4)) (iblk m c 4 t) g)) (which (grid0.coords t))
    (slab (win0_3.stage (cfg0.slots t 3)) (hstage0_3 ((cfg0.slots t 3).cast nbuf0_3)) (iblk m c 3 t) g)
    (slab (win0_5.stage (cfg0.slots t 5)) (hstage0_5 ((cfg0.slots t 5).cast nbuf0_5)) (iblk m c 5 t) g)
    (cols (win0_0.stage (cfg0.slots t 0)) (hstage0_0 ((cfg0.slots t 0).cast nbuf0_0)) (iblk m c 0 t) g)

/-- The groups' parts side by side, before sorting. -/
def laid (c : Dev nD) (t : Fin cfg0.N) : FVec Ideal S528x2048 .f32 :=
  concatenate S528x2048 1 (List.ofFn fun g : Fin 8 => (⟨S528x256, part m c t g⟩ : (s : Shape) × (s.Idx → EReal)))
    concatenates_S528x256_S528x256_S528x256_S528x256_S528x256_S528x256_S528x256_S528x256_S528x2048_d1

/-- The product with the table of ones. -/
def sorted (X : FVec Ideal S528x2048 .f32) (P : FVec Ideal S2048x2048 .bf16) : FVec Ideal S528x2048 .f32 :=
  matmul dot_S528x2048_S2048x2048_S528x2048_1_1_0_0_n_n none (truncf .bf16 X bitsLt_bf16_f32) (shapeCast S2048x2048 P shapeCasts_S2048x2048_S2048x2048)
    (constant S528x2048 .f32 0x00000000#32)

/-- The rows of all chunks at a grid point, columns in the order (token of the chunk, lane). -/
def rows (c : Dev nD) (t : Fin cfg0.N) : FVec Ideal S528x2048 .f32 :=
  sorted (laid m c t) (View.readAt (Elt Ideal) (win0_8.stage (cfg0.slots t 8)).view (Rect.unit (s := S2048x2048) ![0, 0] S2048x2048.size inb_S2048x2048_S2048x2048_0_0).toLoadRect
    ((hstage0_8 ((cfg0.slots t 8).cast nbuf0_8)).unread (iblk m c 8 t)))

/-! ## The stored pieces -/

theorem inb_row9 (s : Fin 16) (a : Fin 2) : (![512, 128] : Fin 2 → ℕ) a = 0 ∨ (![(s : ℕ), 0] : Fin 2 → ℕ) a + (![16, 1] : Fin 2 → ℕ) a * ((![512, 128] : Fin 2 → ℕ) a - 1) < S8192x128.size a := by
  have := s.isLt
  fin_cases a
  · right; show (s : ℕ) + 16 * (512 - 1) < 8192; omega
  · right; show 0 + 1 * (128 - 1) < 128; omega

theorem inb_row10 (s : Fin 16) (a : Fin 2) : (![16, 128] : Fin 2 → ℕ) a = 0 ∨ (![(s : ℕ), 0] : Fin 2 → ℕ) a + (![16, 1] : Fin 2 → ℕ) a * ((![16, 128] : Fin 2 → ℕ) a - 1) < S256x128.size a := by
  have := s.isLt
  fin_cases a
  · right; show (s : ℕ) + 16 * (16 - 1) < 256; omega
  · right; show 0 + 1 * (128 - 1) < 128; omega

theorem cut9 (s : Fin 16) : S512x2048.Slices ![0, 128 * (s : ℕ)] S512x128 := by
  have := s.isLt
  refine ⟨rfl, fun a => ?_⟩
  fin_cases a
  · show 0 + 512 ≤ 512; omega
  · show 128 * (s : ℕ) + 128 ≤ 2048; omega

theorem cut10 (s : Fin 16) : S16x2048.Slices ![0, 128 * (s : ℕ)] S16x128 := by
  have := s.isLt
  refine ⟨rfl, fun a => ?_⟩
  fin_cases a
  · show 0 + 16 ≤ 16; omega
  · show 128 * (s : ℕ) + 128 ≤ 2048; omega

set_option maxHeartbeats 1600000 in
theorem pieces9_eq (c : Dev nD) (t : Fin cfg0.N) : pieces9 m c t = List.ofFn fun n : Fin 16 =>
    (⟨⟨(⟨![((Fin.rev n : Fin 16) : ℕ), 0], S512x128.size, ![16, 1], inb_row9 (Fin.rev n)⟩ : LoadRect S8192x128), spos_16_1⟩,
      extractStridedSlice S512x128 ![0, 128 * ((Fin.rev n : Fin 16) : ℕ)] (extractStridedSlice S512x2048 ![16, 0] (rows m c t) slices_S528x2048_o16_0_S512x2048) (cut9 (Fin.rev n))⟩ :
      View.Piece (Elt Ideal) S8192x128 .f32) := by
  sl_kernel_rfl

set_option maxHeartbeats 1600000 in
theorem pieces10_eq (c : Dev nD) (t : Fin cfg0.N) : pieces10 m c t = List.ofFn fun n : Fin 16 =>
    (⟨⟨(⟨![((Fin.rev n : Fin 16) : ℕ), 0], S16x128.size, ![16, 1], inb_row10 (Fin.rev n)⟩ : LoadRect S256x128), spos_16_1⟩,
      extractStridedSlice S16x128 ![0, 128 * ((Fin.rev n : Fin 16) : ℕ)] (extractStridedSlice S16x2048 ![0, 0] (rows m c t) slices_S528x2048_o0_0_S16x2048) (cut10 (Fin.rev n))⟩ :
      View.Piece (Elt Ideal) S256x128 .f32) := by
  sl_kernel_rfl

set_option maxHeartbeats 1600000 in
theorem pieces11_eq (c : Dev nD) (t : Fin cfg0.N) : pieces11 m c t = List.ofFn fun n : Fin 8 =>
    (⟨Rect.unit (s := S8x256x256) ![((Fin.rev n : Fin 8) : ℕ), 0, 0] S1x256x256.size (inb_op (Fin.rev n)), opPart m c t (Fin.rev n)⟩ :
      View.Piece (Elt Ideal) S8x256x256 .f32) := by
  sl_kernel_rfl

end Cert.Kernel9Ideal.Du

end
-- ==== Proof.DuValue.lean ====
/-
The gradient at the chunks' tokens: what each grid point writes, read against the transposed chunk operators.
-/
module

public import proofs.«01_k».proof.Proof.DuPieces
public import proofs.«01_k».proof.Proof.Gen.Reference9Ideal.Run
public import proofs.«01_k».proof.Defs

@[expose] public section

set_option maxRecDepth 16384

noncomputable section

open Idealize.ShloMosaic Idealize.ShloMosaic.TcCoe Idealize.SL.Sem
open Idealize.ShloMosaic.Tactic

namespace Cert.Kernel9Ideal.Du

open Cert.Kernel9Ideal Cert.Kernel9Ideal.Gen

variable (m : (ℓ : Loc nD τ sig) → Buf (Elt Ideal) ℓ)

theorem idx : ∀ t : Fin cfg0.N, win0_0.index t = ![t.val, 0, 0] ∧ win0_1.index t = ![t.val, 0, 0] ∧ win0_2.index t = ![t.val / 2, 0, 0]
    ∧ win0_3.index t = ![t.val / 2, 0, 0] ∧ win0_4.index t = ![t.val / 2, 0, 0] ∧ win0_5.index t = ![t.val / 2, 0, 0] ∧ win0_6.index t = ![t.val, 0, 0]
    ∧ win0_7.index t = ![t.val, 0, 0] ∧ win0_8.index t = ![0, 0] ∧ win0_9.index t = ![0, t.val] ∧ win0_10.index t = ![0, t.val] ∧ win0_11.index t = ![t.val, 0, 0] :=
  (by decide +kernel : ∀ t : Fin grid0.N, _)

theorem N_lt (t : Fin cfg0.N) : t.val < 8 := lt_of_lt_of_eq t.isLt (by decide +kernel)

/-- The half of a pair a grid point takes: the first at an even point. -/
theorem which_at : ∀ t : Fin cfg0.N, Scalar.cmpi .eq (which (grid0.coords t)) 0#32 = if t.val % 2 = 0 then 1#1 else 0#1 :=
  (by decide +kernel : ∀ t : Fin grid0.N, _)

/-! ## The rows a grid point stores -/

theorem block9 (c : Dev nD) (t : Fin cfg0.N) (y : S8192x128.Idx) : View.canon (pieces9 m c t) y
    = rows m c t (ix2 ⟨16 + (y 0 : ℕ) / 16, by have : (y 0 : ℕ) < 8192 := (y 0).isLt; omega⟩ ⟨(y 0 : ℕ) % 16 * 128 + (y 1 : ℕ), by have : (y 1 : ℕ) < 128 := (y 1).isLt; omega⟩) := by
  refine View.canon_apply_of_pieces (fun y : S8192x128.Idx => rows m c t (ix2 ⟨16 + (y 0 : ℕ) / 16, by have : (y 0 : ℕ) < 8192 := (y 0).isLt; omega⟩ ⟨(y 0 : ℕ) % 16 * 128 + (y 1 : ℕ), by have : (y 1 : ℕ) < 128 := (y 1).isLt; omega⟩)) _ ?_ y (cover9 m c t y)
  rw [pieces9_eq]
  intro p hp x
  obtain ⟨n, rfl⟩ := List.mem_ofFn.mp hp
  have hn := (Fin.rev n).isLt
  generalize Fin.rev n = s at *
  show extractStridedSlice S512x128 ![0, 128 * (s : ℕ)] (extractStridedSlice S512x2048 ![16, 0] (rows m c t) slices_S528x2048_o16_0_S512x2048) (cut9 s) x = _
  have h0 : (x 0 : ℕ) < 512 := (x 0).isLt
  have h1 : (x 1 : ℕ) < 128 := (x 1).isLt
  refine congrArg (rows m c t) (funext fun a => Fin.ext ?_)
  fin_cases a
  · show 16 + (0 + (x 0 : ℕ)) = 16 + ((s : ℕ) + 16 * (x 0 : ℕ)) / 16; omega
  · show 0 + (128 * (s : ℕ) + (x 1 : ℕ)) = ((s : ℕ) + 16 * (x 0 : ℕ)) % 16 * 128 + (0 + 1 * (x 1 : ℕ)); omega

theorem block10 (c : Dev nD) (t : Fin cfg0.N) (y : S256x128.Idx) : View.canon (pieces10 m c t) y
    = rows m c t (ix2 ⟨(y 0 : ℕ) / 16, by have : (y 0 : ℕ) < 256 := (y 0).isLt; omega⟩ ⟨(y 0 : ℕ) % 16 * 128 + (y 1 : ℕ), by have : (y 1 : ℕ) < 128 := (y 1).isLt; omega⟩) := by
  refine View.canon_apply_of_pieces (fun y : S256x128.Idx => rows m c t (ix2 ⟨(y 0 : ℕ) / 16, by have : (y 0 : ℕ) < 256 := (y 0).isLt; omega⟩ ⟨(y 0 : ℕ) % 16 * 128 + (y 1 : ℕ), by have : (y 1 : ℕ) < 128 := (y 1).isLt; omega⟩)) _ ?_ y (cover10 m c t y)
  rw [pieces10_eq]
  intro p hp x
  obtain ⟨n, rfl⟩ := List.mem_ofFn.mp hp
  have hn := (Fin.rev n).isLt
  generalize Fin.rev n = s at *
  show extractStridedSlice S16x128 ![0, 128 * (s : ℕ)] (extractStridedSlice S16x2048 ![0, 0] (rows m c t) slices_S528x2048_o0_0_S16x2048) (cut10 s) x = _
  have h0 : (x 0 : ℕ) < 16 := (x 0).isLt
  have h1 : (x 1 : ℕ) < 128 := (x 1).isLt
  refine congrArg (rows m c t) (funext fun a => Fin.ext ?_)
  fin_cases a
  · show 0 + (0 + (x 0 : ℕ)) = ((s : ℕ) + 16 * (x 0 : ℕ)) / 16; omega
  · show 0 + (128 * (s : ℕ) + (x 1 : ℕ)) = ((s : ℕ) + 16 * (x 0 : ℕ)) % 16 * 128 + (0 + 1 * (x 1 : ℕ)); omega

theorem block11 (c : Dev nD) (t : Fin cfg0.N) (y : S8x256x256.Idx) : View.canon (pieces11 m c t) y = opPart m c t (y 0) (ix3 (0 : Fin 1) (y 1) (y 2)) := by
  refine View.canon_apply_of_pieces (fun y : S8x256x256.Idx => opPart m c t (y 0) (ix3 (0 : Fin 1) (y 1) (y 2))) _ ?_ y (cover11 m c t y)
  rw [pieces11_eq]
  intro p hp x
  obtain ⟨n, rfl⟩ := List.mem_ofFn.mp hp
  generalize Fin.rev n = s at *
  show opPart m c t s x = opPart m c t _ _
  have h0 : (x 0 : ℕ) < 1 := (x 0).isLt
  refine (congrArg (opPart m c t s) (funext fun a => Fin.ext ?_)).trans (congrArg (fun g => opPart m c t g _) (Fin.ext ?_))
  · fin_cases a
    · show (x 0 : ℕ) = 0; omega
    · show (x 1 : ℕ) = 0 + 1 * (x 1 : ℕ); omega
    · show (x 2 : ℕ) = 0 + 1 * (x 2 : ℕ); omega
  · show (s : ℕ) = (s : ℕ) + 1 * (x 0 : ℕ); omega

/-! ## The table of ones -/

/-- The row of a chunk's rows (token, lane) that column (group, token, channel) of the sorted rows takes. -/
abbrev src (o : ℕ) : ℕ := o % 256 / 16 * 128 + o / 256 * 16 + o % 16

/-- The column (group, token, channel) that lands at (token, lane). -/
abbrev dst (o : ℕ) : ℕ := o % 128 / 16 * 256 + o / 128 * 16 + o % 16

/-- The table of ones, entry by entry. -/
theorem perm_at (c : Dev nD) (x : S2048x2048.Idx) :
    V m c main_v43 x = if (x 0 : ℕ) = src (x 1) then (1 : EReal) else 0 := by
  entry_read
  pointwise
  have h0 : (x 0 : ℕ) < 2048 := (x 0).isLt
  have h1 : (x 1 : ℕ) < 2048 := (x 1).isLt
  have e : (x 1 : ℕ) / 16 % 16 * 128 + (x 1 : ℕ) / 256 * 16 + (x 1 : ℕ) % 16 = src (x 1) := by
    unfold src; omega
  rw [e]
  have h2 : src (x 1) < 2048 := by unfold src; omega
  by_cases h : (x 0 : ℕ) = src (x 1)
  · rw [if_pos h, h]; simp [Scalar.select, IntOp.cmpi]
  · rw [if_neg h]
    have : BitVec.ofNat 32 (x 0 : ℕ) ≠ BitVec.ofNat 32 (src (x 1)) := fun hh => h (by
      have := congrArg BitVec.toNat hh
      rwa [BitVec.toNat_ofNat, BitVec.toNat_ofNat, Nat.mod_eq_of_lt (by omega), Nat.mod_eq_of_lt (by omega)] at this)
    have : (BitVec.ofNat 32 (x 0 : ℕ) == BitVec.ofNat 32 (src (x 1))) = false := beq_eq_false_iff_ne.mpr this
    simp [Scalar.select, IntOp.cmpi, this]

/-- A product with a table of ones selects: the sum's one entry. -/
theorem selected (f : Fin 2048 → EReal) (g : Fin 2048 → EReal) (s : ℕ) (hs : s < 2048)
    (hg : ∀ k : Fin 2048, g k = if (k : ℕ) = s then (1 : EReal) else 0) : (∑ k, f k * g k) = f ⟨s, hs⟩ := by
  rw [Finset.sum_eq_single (⟨s, hs⟩ : Fin 2048)]
  · rw [hg, if_pos rfl, mul_one]
  · intro k _ hk
    rw [hg, if_neg (fun h => hk (Fin.ext h)), mul_zero]
  · intro h; exact absurd (Finset.mem_univ _) h

/-- The product with the transposed table sorts the columns back. -/
theorem sorted_at (X : FVec Ideal S528x2048 .f32) (P : FVec Ideal S2048x2048 .bf16)
    (hP : ∀ x : S2048x2048.Idx, P x = if (x 0 : ℕ) = src (x 1) then (1 : EReal) else 0) (k : Fin 528) (o : Fin 2048) :
    sorted X P (ix2 k o) = X (ix2 k ⟨dst o, by have := o.isLt; unfold dst; omega⟩) := by
  pointwise [sorted]
  refine selected (fun q => X (ix2 k q)) _ (dst o) _ fun q => (hP _).trans ?_
  have := o.isLt
  have := q.isLt
  refine if_congr ?_ rfl rfl
  show (o : ℕ) = src q ↔ (q : ℕ) = dst o
  unfold src dst
  omega

theorem blk_perm (c : Dev nD) (t : Fin cfg0.N) (x : S2048x2048.Idx) :
    (iblk m c 8 t : FVec Ideal S2048x2048 .bf16) x = if (x 0 : ℕ) = src (x 1) then (1 : EReal) else 0 := by
  refine Eq.trans ?_ (perm_at m c x)
  blk_point [iblk, V, idx t]

theorem rows_at (c : Dev nD) (t : Fin cfg0.N) (k : Fin 528) (o : Fin 2048) :
    rows m c t (ix2 k o) = laid m c t (ix2 k ⟨dst o, by have := o.isLt; unfold dst; omega⟩) := by
  refine sorted_at _ _ (fun x => ?_) k o
  rw [Memref.IsWhole.readAt_unread]
  refine Eq.trans (congrArg _ (funext fun a => Fin.ext ?_)) (blk_perm m c t x)
  fin_cases a
  · show 0 + 1 * (x 0 : ℕ) = x 0; omega
  · show 0 + 1 * (x 1 : ℕ) = x 1; omega

theorem laid_at (c : Dev nD) (t : Fin cfg0.N) (k : Fin 528) (q : Fin 2048) :
    laid m c t (ix2 k q) = part m c t ⟨(q : ℕ) / 256, by have := q.isLt; omega⟩ (ix2 k ⟨(q : ℕ) % 256, by omega⟩) := by
  have hk := k.isLt
  have hq := q.isLt
  refine concatenate_ofFn_apply (t := S528x2048) (s₁ := S528x256) (1 : Fin 2) (part m c t) _ rfl 256 rfl (ix2 k q : S528x2048.Idx) ⟨(q : ℕ) / 256, by omega⟩ rfl
    (ix2 k ⟨(q : ℕ) % 256, by omega⟩ : S528x256.Idx) rfl ?_
  intro b hb
  fin_cases b
  · rfl
  · exact absurd rfl hb

/-! ## The arguments, and the gradients as sums -/

/-- The tokens, the context's, the two operators, the state's cotangent in two parts, the tokens' cotangent. -/
abbrev U (c : Dev nD) : FVec Ideal S8192x1024 .f32 := m ((c : Thread nD τ).loc main_arg0)
abbrev Uc (c : Dev nD) : FVec Ideal S256x1024 .f32 := m ((c : Thread nD τ).loc main_arg1)
abbrev Wo (c : Dev nD) : FVec Ideal S64x256x256 .f32 := m ((c : Thread nD τ).loc main_arg2)
abbrev To (c : Dev nD) : FVec Ideal S64x256x256 .f32 := m ((c : Thread nD τ).loc main_arg3)
abbrev Dr (c : Dev nD) : FVec Ideal S64x528x128 .f32 := m ((c : Thread nD τ).loc main_arg4)
abbrev Di (c : Dev nD) : FVec Ideal S64x528x128 .f32 := m ((c : Thread nD τ).loc main_arg5)
abbrev Dy (c : Dev nD) : FVec Ideal S8192x1024 .f32 := m ((c : Thread nD τ).loc main_arg6)

/-- The state's cotangent, its two parts side by side. -/
def ds (dr di : FVec Ideal S64x528x128 .f32) (g : Fin 64) (k : Fin 528) (n : Fin 256) : EReal :=
  if h : (n : ℕ) < 128 then dr (ix3 g k ⟨n, h⟩) else di (ix3 g k ⟨n - 128, by have := n.isLt; omega⟩)

/-- What the state passes back to token and channel `q` of chunk `k`. -/
def fromState (dr di : FVec Ideal S64x528x128 .f32) (wo : FVec Ideal S64x256x256 .f32) (g : Fin 64) (k : Fin 528) (q : Fin 256) : EReal :=
  ∑ n : Fin 256, ds dr di g k n * wo (ix3 g q n)

/-- What the chunk's own tokens pass back. -/
def fromTokens (dy : FVec Ideal S8192x1024 .f32) (tp : FVec Ideal S64x256x256 .f32) (g : Fin 64) (k : Fin 512) (q : Fin 256) : EReal :=
  ∑ o : Fin 256, dy (ix2 ⟨(k : ℕ) * 16 + (o : ℕ) / 16, by have := k.isLt; have := o.isLt; omega⟩ ⟨(g : ℕ) * 16 + (o : ℕ) % 16, by have := g.isLt; omega⟩) * tp (ix3 g q o)

/-- The gradient at token and channel `q` of chunk `k`: the context's tokens are read by the state alone. -/
def back (dr di : FVec Ideal S64x528x128 .f32) (wo tp : FVec Ideal S64x256x256 .f32) (dy : FVec Ideal S8192x1024 .f32) (g : Fin 64) (k : Fin 528) (q : Fin 256) : EReal :=
  if h : (k : ℕ) < 16 then fromState dr di wo g k q
  else fromState dr di wo g k q + fromTokens dy tp g ⟨k - 16, by have := k.isLt; omega⟩ q

/-- Token and channel `q` of chunk `k`, the context's chunks first. -/
def tok (u : FVec Ideal S8192x1024 .f32) (uc : FVec Ideal S256x1024 .f32) (g : Fin 64) (k : Fin 528) (q : Fin 256) : EReal :=
  if h : (k : ℕ) < 16 then uc (ix2 ⟨(k : ℕ) * 16 + (q : ℕ) / 16, by have := q.isLt; omega⟩ ⟨(g : ℕ) * 16 + (q : ℕ) % 16, by have := g.isLt; omega⟩)
  else u (ix2 ⟨((k : ℕ) - 16) * 16 + (q : ℕ) / 16, by have := k.isLt; have := q.isLt; omega⟩ ⟨(g : ℕ) * 16 + (q : ℕ) % 16, by have := g.isLt; omega⟩)

/-- Group `g` of grid point `t`. -/
abbrev grp (t : Fin cfg0.N) (g : Fin 8) : Fin 64 := ⟨t.val * 8 + g, by have := N_lt t; have := g.isLt; omega⟩

/-! ## The blocks -/

theorem slab_at (M : Memref sig .tc .vmem S8x528x128 .f32) (hM : M.IsWhole) (X : FVec Ideal S8x528x128 .f32) (g : Fin 8) (k : Fin 528) (l : Fin 128) :
    slab M hM X g (ix3 (0 : Fin 1) k l) = X (ix3 g k l) := by
  show View.readAt (Elt Ideal) M.view _ (hM.unread X) _ = _
  rw [Memref.IsWhole.readAt_unread]
  refine congrArg X (funext fun a => Fin.ext ?_)
  fin_cases a
  · show (g : ℕ) + 1 * 0 = g; omega
  · show 0 + 1 * (k : ℕ) = k; omega
  · show 0 + 1 * (l : ℕ) = l; omega

theorem oper_at (M : Memref sig .tc .vmem S8x256x256 .bf16) (hM : M.IsWhole) (X : FVec Ideal S8x256x256 .bf16) (g : Fin 8) (a b : Fin 256) :
    oper M hM X g (ix3 (0 : Fin 1) a b) = X (ix3 g a b) := by
  show View.readAt (Elt Ideal) M.view _ (hM.unread X) _ = _
  rw [Memref.IsWhole.readAt_unread]
  refine congrArg X (funext fun i => Fin.ext ?_)
  fin_cases i
  · show (g : ℕ) + 1 * 0 = g; omega
  · show 0 + 1 * (a : ℕ) = a; omega
  · show 0 + 1 * (b : ℕ) = b; omega

theorem blk_to (c : Dev nD) (t : Fin cfg0.N) (M : Memref sig .tc .vmem S8x256x256 .bf16) (hM : M.IsWhole) (g : Fin 8) (a b : Fin 256) :
    oper M hM (iblk m c 6 t) g (ix3 (0 : Fin 1) a b) = To m c (ix3 (grp t g) a b) := by
  refine (oper_at M hM _ g a b).trans ?_
  have hx : ∀ x : S64x256x256.Idx, (V m c main_v32 : FVec Ideal S64x256x256 .bf16) x = To m c x := by intro x; entry_read; pointwise
  have := N_lt t
  refine Eq.trans ?_ (hx _)
  blk_point [iblk, V, idx t]

theorem blk_wo (c : Dev nD) (t : Fin cfg0.N) (M : Memref sig .tc .vmem S8x256x256 .bf16) (hM : M.IsWhole) (g : Fin 8) (a b : Fin 256) :
    oper M hM (iblk m c 7 t) g (ix3 (0 : Fin 1) a b) = Wo m c (ix3 (grp t g) a b) := by
  refine (oper_at M hM _ g a b).trans ?_
  have hx : ∀ x : S64x256x256.Idx, (V m c main_v33 : FVec Ideal S64x256x256 .bf16) x = Wo m c x := by intro x; entry_read; pointwise
  have := N_lt t
  refine Eq.trans ?_ (hx _)
  blk_point [iblk, V, idx t]

theorem blk_dy (c : Dev nD) (t : Fin cfg0.N) (M : Memref sig .tc .vmem S1x512x2048 .bf16) (hM : M.IsWhole) (g : Fin 8) (k : Fin 512) (o : Fin 256) :
    late M hM (iblk m c 1 t) g (ix3 (0 : Fin 1) k o) = Dy m c (ix2 ⟨(k : ℕ) * 16 + (o : ℕ) / 16, by have := k.isLt; have := o.isLt; omega⟩
      ⟨(grp t g : ℕ) * 16 + (o : ℕ) % 16, by have := (grp t g).isLt; omega⟩) := by
  have ht := N_lt t
  have hg := g.isLt
  have hk := k.isLt
  have ho := o.isLt
  have hx : ∀ x : S8x512x2048.Idx, (V m c main_v31 : FVec Ideal S8x512x2048 .bf16) x
      = Dy m c (ix2 ⟨(x 1 : ℕ) * 16 + (x 2 : ℕ) / 16 % 16, by have : (x 1 : ℕ) < 512 := (x 1).isLt; omega⟩
          ⟨(x 0 : ℕ) * 128 + (x 2 : ℕ) / 256 * 16 + (x 2 : ℕ) % 16, by have : (x 0 : ℕ) < 8 := (x 0).isLt; have : (x 2 : ℕ) < 2048 := (x 2).isLt; omega⟩) := by
    intro x; entry_read; pointwise
  have e : (iblk m c 1 t : FVec Ideal S1x512x2048 .bf16) (ix3 (0 : Fin 1) k ⟨256 * (g : ℕ) + o, by omega⟩)
      = (V m c main_v31 : FVec Ideal S8x512x2048 .bf16) (ix3 ⟨t.val, ht⟩ k ⟨256 * (g : ℕ) + o, by omega⟩) := by
    blk_point [iblk, V, idx t]
  refine Eq.trans ?_ (e.trans ((hx _).trans ?_))
  · show View.readAt (Elt Ideal) M.view _ (hM.unread _) _ = _
    rw [Memref.IsWhole.readAt_unread]
    refine congrArg (iblk m c 1 t : FVec Ideal S1x512x2048 .bf16) (funext fun i => Fin.ext ?_)
    fin_cases i
    · rfl
    · show 0 + 1 * (k : ℕ) = k; omega
    · show 256 * (g : ℕ) + 1 * (o : ℕ) = 256 * (g : ℕ) + o; omega
  · refine congrArg (Dy m c) (funext fun i => Fin.ext ?_)
    fin_cases i
    · show (k : ℕ) * 16 + (256 * (g : ℕ) + o) / 16 % 16 = (k : ℕ) * 16 + (o : ℕ) / 16; omega
    · show t.val * 128 + (256 * (g : ℕ) + o) / 256 * 16 + (256 * (g : ℕ) + o) % 16 = (t.val * 8 + (g : ℕ)) * 16 + (o : ℕ) % 16; omega

theorem blk_u (c : Dev nD) (t : Fin cfg0.N) (M : Memref sig .tc .vmem S1x528x2048 .bf16) (hM : M.IsWhole) (g : Fin 8) (k : Fin 528) (q : Fin 256) :
    cols M hM (iblk m c 0 t) g (ix3 (0 : Fin 1) k q) = tok (U m c) (Uc m c) (grp t g) k q := by
  have ht := N_lt t
  have hg := g.isLt
  have hk := k.isLt
  have hq := q.isLt
  have hx : (V m c main_v7 : FVec Ideal S8x528x2048 .bf16) (ix3 ⟨t.val, ht⟩ k ⟨256 * (g : ℕ) + q, by omega⟩) = tok (U m c) (Uc m c) (grp t g) k q := by
    entry_read; pointwise
    unfold tok
    split
    · refine congrArg (Uc m c) (funext fun i => Fin.ext ?_)
      fin_cases i
      · show (k : ℕ) * 16 + (256 * (g : ℕ) + q) / 16 % 16 = (k : ℕ) * 16 + (q : ℕ) / 16; omega
      · show t.val * 128 + (256 * (g : ℕ) + q) / 256 * 16 + (256 * (g : ℕ) + q) % 16 = (t.val * 8 + (g : ℕ)) * 16 + (q : ℕ) % 16; omega
    · refine congrArg (U m c) (funext fun i => Fin.ext ?_)
      fin_cases i
      · show ((k : ℕ) - 16) * 16 + (256 * (g : ℕ) + q) / 16 % 16 = ((k : ℕ) - 16) * 16 + (q : ℕ) / 16; omega
      · show t.val * 128 + (256 * (g : ℕ) + q) / 256 * 16 + (256 * (g : ℕ) + q) % 16 = (t.val * 8 + (g : ℕ)) * 16 + (q : ℕ) % 16; omega
  have e : (iblk m c 0 t : FVec Ideal S1x528x2048 .bf16) (ix3 (0 : Fin 1) k ⟨256 * (g : ℕ) + q, by omega⟩)
      = (V m c main_v7 : FVec Ideal S8x528x2048 .bf16) (ix3 ⟨t.val, ht⟩ k ⟨256 * (g : ℕ) + q, by omega⟩) := by
    blk_point [iblk, V, idx t]
  refine Eq.trans ?_ (e.trans hx)
  show View.readAt (Elt Ideal) M.view _ (hM.unread _) _ = _
  rw [Memref.IsWhole.readAt_unread]
  refine congrArg (iblk m c 0 t : FVec Ideal S1x528x2048 .bf16) (funext fun i => Fin.ext ?_)
  fin_cases i
  · rfl
  · show 0 + 1 * (k : ℕ) = k; omega
  · show 256 * (g : ℕ) + 1 * (q : ℕ) = 256 * (g : ℕ) + q; omega

theorem blk2 (c : Dev nD) (t : Fin cfg0.N) (M : Memref sig .tc .vmem S8x528x128 .f32) (hM : M.IsWhole) (g : Fin 8) (k : Fin 528) (l : Fin 128) :
    slab M hM (iblk m c 2 t) g (ix3 (0 : Fin 1) k l)
      = Dr m c (ix3 ⟨t.val / 2 * 16 + (l : ℕ) / 64 * 8 + g, by have := N_lt t; have := g.isLt; have := l.isLt; omega⟩ k ⟨(l : ℕ) % 64, by omega⟩) := by
  have hx : ∀ x : S32x528x128.Idx, (V m c main_v12 : FVec Ideal S32x528x128 .f32) x
      = Dr m c (ix3 ⟨(x 0 : ℕ) / 8 * 16 + (x 2 : ℕ) / 64 * 8 + (x 0 : ℕ) % 8, by have : (x 0 : ℕ) < 32 := (x 0).isLt; have : (x 2 : ℕ) < 128 := (x 2).isLt; omega⟩ (x 1)
          ⟨(x 2 : ℕ) % 64, by omega⟩) := by
    intro x; entry_read; pointwise
  refine (slab_at M hM _ g k l).trans ?_
  have ht := N_lt t
  have hg := g.isLt
  have e : (iblk m c 2 t : FVec Ideal S8x528x128 .f32) (ix3 g k l) = (V m c main_v12 : FVec Ideal S32x528x128 .f32) (ix3 ⟨t.val / 2 * 8 + g, by omega⟩ k l) := by
    blk_point [iblk, V, idx t]
  rw [e, hx]
  refine congrArg (Dr m c) (funext fun a => Fin.ext ?_)
  fin_cases a
  · show (t.val / 2 * 8 + (g : ℕ)) / 8 * 16 + (l : ℕ) / 64 * 8 + (t.val / 2 * 8 + (g : ℕ)) % 8 = t.val / 2 * 16 + (l : ℕ) / 64 * 8 + g; omega
  · rfl
  · rfl

theorem blk3 (c : Dev nD) (t : Fin cfg0.N) (M : Memref sig .tc .vmem S8x528x128 .f32) (hM : M.IsWhole) (g : Fin 8) (k : Fin 528) (l : Fin 128) :
    slab M hM (iblk m c 3 t) g (ix3 (0 : Fin 1) k l)
      = Di m c (ix3 ⟨t.val / 2 * 16 + (l : ℕ) / 64 * 8 + g, by have := N_lt t; have := g.isLt; have := l.isLt; omega⟩ k ⟨(l : ℕ) % 64, by omega⟩) := by
  have hx : ∀ x : S32x528x128.Idx, (V m c main_v17 : FVec Ideal S32x528x128 .f32) x
      = Di m c (ix3 ⟨(x 0 : ℕ) / 8 * 16 + (x 2 : ℕ) / 64 * 8 + (x 0 : ℕ) % 8, by have : (x 0 : ℕ) < 32 := (x 0).isLt; have : (x 2 : ℕ) < 128 := (x 2).isLt; omega⟩ (x 1)
          ⟨(x 2 : ℕ) % 64, by omega⟩) := by
    intro x; entry_read; pointwise
  refine (slab_at M hM _ g k l).trans ?_
  have ht := N_lt t
  have hg := g.isLt
  have e : (iblk m c 3 t : FVec Ideal S8x528x128 .f32) (ix3 g k l) = (V m c main_v17 : FVec Ideal S32x528x128 .f32) (ix3 ⟨t.val / 2 * 8 + g, by omega⟩ k l) := by
    blk_point [iblk, V, idx t]
  rw [e, hx]
  refine congrArg (Di m c) (funext fun a => Fin.ext ?_)
  fin_cases a
  · show (t.val / 2 * 8 + (g : ℕ)) / 8 * 16 + (l : ℕ) / 64 * 8 + (t.val / 2 * 8 + (g : ℕ)) % 8 = t.val / 2 * 16 + (l : ℕ) / 64 * 8 + g; omega
  · rfl
  · rfl

theorem blk4 (c : Dev nD) (t : Fin cfg0.N) (M : Memref sig .tc .vmem S8x528x128 .f32) (hM : M.IsWhole) (g : Fin 8) (k : Fin 528) (l : Fin 128) :
    slab M hM (iblk m c 4 t) g (ix3 (0 : Fin 1) k l)
      = Dr m c (ix3 ⟨t.val / 2 * 16 + (l : ℕ) / 64 * 8 + g, by have := N_lt t; have := g.isLt; have := l.isLt; omega⟩ k ⟨64 + (l : ℕ) % 64, by omega⟩) := by
  have hx : ∀ x : S32x528x128.Idx, (V m c main_v22 : FVec Ideal S32x528x128 .f32) x
      = Dr m c (ix3 ⟨(x 0 : ℕ) / 8 * 16 + (x 2 : ℕ) / 64 * 8 + (x 0 : ℕ) % 8, by have : (x 0 : ℕ) < 32 := (x 0).isLt; have : (x 2 : ℕ) < 128 := (x 2).isLt; omega⟩ (x 1)
          ⟨64 + (x 2 : ℕ) % 64, by omega⟩) := by
    intro x; entry_read; pointwise
  refine (slab_at M hM _ g k l).trans ?_
  have ht := N_lt t
  have hg := g.isLt
  have e : (iblk m c 4 t : FVec Ideal S8x528x128 .f32) (ix3 g k l) = (V m c main_v22 : FVec Ideal S32x528x128 .f32) (ix3 ⟨t.val / 2 * 8 + g, by omega⟩ k l) := by
    blk_point [iblk, V, idx t]
  rw [e, hx]
  refine congrArg (Dr m c) (funext fun a => Fin.ext ?_)
  fin_cases a
  · show (t.val / 2 * 8 + (g : ℕ)) / 8 * 16 + (l : ℕ) / 64 * 8 + (t.val / 2 * 8 + (g : ℕ)) % 8 = t.val / 2 * 16 + (l : ℕ) / 64 * 8 + g; omega
  · rfl
  · rfl

theorem blk5 (c : Dev nD) (t : Fin cfg0.N) (M : Memref sig .tc .vmem S8x528x128 .f32) (hM : M.IsWhole) (g : Fin 8) (k : Fin 528) (l : Fin 128) :
    slab M hM (iblk m c 5 t) g (ix3 (0 : Fin 1) k l)
      = Di m c (ix3 ⟨t.val / 2 * 16 + (l : ℕ) / 64 * 8 + g, by have := N_lt t; have := g.isLt; have := l.isLt; omega⟩ k ⟨64 + (l : ℕ) % 64, by omega⟩) := by
  have hx : ∀ x : S32x528x128.Idx, (V m c main_v27 : FVec Ideal S32x528x128 .f32) x
      = Di m c (ix3 ⟨(x 0 : ℕ) / 8 * 16 + (x 2 : ℕ) / 64 * 8 + (x 0 : ℕ) % 8, by have : (x 0 : ℕ) < 32 := (x 0).isLt; have : (x 2 : ℕ) < 128 := (x 2).isLt; omega⟩ (x 1)
          ⟨64 + (x 2 : ℕ) % 64, by omega⟩) := by
    intro x; entry_read; pointwise
  refine (slab_at M hM _ g k l).trans ?_
  have ht := N_lt t
  have hg := g.isLt
  have e : (iblk m c 5 t : FVec Ideal S8x528x128 .f32) (ix3 g k l) = (V m c main_v27 : FVec Ideal S32x528x128 .f32) (ix3 ⟨t.val / 2 * 8 + g, by omega⟩ k l) := by
    blk_point [iblk, V, idx t]
  rw [e, hx]
  refine congrArg (Di m c) (funext fun a => Fin.ext ?_)
  fin_cases a
  · show (t.val / 2 * 8 + (g : ℕ)) / 8 * 16 + (l : ℕ) / 64 * 8 + (t.val / 2 * 8 + (g : ℕ)) % 8 = t.val / 2 * 16 + (l : ℕ) / 64 * 8 + g; omega
  · rfl
  · rfl

/-! ## The state's cotangent, unpacked -/

theorem lane_at : ∀ l : Fin 128, IntOp.cmpi .slt (BitVec.ofNat 32 l.val) 64#32 = if l.val < 64 then 1#1 else 0#1 := by decide +kernel

/-- The half of a pair a grid point takes, its two directions put side by side. -/
theorem pick (t : Fin cfg0.N) (g : Fin 8) (D : FVec Ideal S64x528x128 .f32) (a b : FVec Ideal S1x528x128 .f32)
    (ha : ∀ (k : Fin 528) (l : Fin 128), a (ix3 (0 : Fin 1) k l) = D (ix3 ⟨t.val / 2 * 16 + (l : ℕ) / 64 * 8 + g, by have := N_lt t; have := g.isLt; have := l.isLt; omega⟩ k ⟨(l : ℕ) % 64, by omega⟩))
    (hb : ∀ (k : Fin 528) (l : Fin 128), b (ix3 (0 : Fin 1) k l) = D (ix3 ⟨t.val / 2 * 16 + (l : ℕ) / 64 * 8 + g, by have := N_lt t; have := g.isLt; have := l.isLt; omega⟩ k ⟨64 + (l : ℕ) % 64, by omega⟩))
    (k : Fin 528) (l l' : Fin 128) (hl : (l' : ℕ) = ((l : ℕ) + 128 - 64) % 128) :
    Scalar.select (Scalar.cmpi .eq (which (grid0.coords t)) 0#32)
        (Scalar.select (IntOp.cmpi .slt (BitVec.ofNat 32 (l : ℕ)) 64#32) (a (ix3 (0 : Fin 1) k l)) (b (ix3 (0 : Fin 1) k l')))
        (Scalar.select (IntOp.cmpi .slt (BitVec.ofNat 32 (l : ℕ)) 64#32) (a (ix3 (0 : Fin 1) k l')) (b (ix3 (0 : Fin 1) k l)))
      = D (ix3 (grp t g) k l) := by
  have ht := N_lt t
  have hg := g.isLt
  have h1 := l.isLt
  have h2 := l'.isLt
  rw [which_at, lane_at, ha, hb, ha, hb]
  have key : ∀ (p q : ℕ) (hp : p < 64) (hq : q < 128), p = t.val * 8 + g → q = l → D (ix3 ⟨p, hp⟩ k ⟨q, hq⟩) = D (ix3 (grp t g) k l) := by
    rintro p q hp hq rfl rfl; rfl
  by_cases e : t.val % 2 = 0
  · by_cases f : (l : ℕ) < 64
    · rw [if_pos e, if_pos f]; exact key _ _ _ _ (by omega) (by omega)
    · rw [if_pos e, if_neg f]; exact key _ _ _ _ (by omega) (by omega)
  · by_cases f : (l : ℕ) < 64
    · rw [if_neg e, if_pos f]; exact key _ _ _ _ (by omega) (by omega)
    · rw [if_neg e, if_neg f]; exact key _ _ _ _ (by omega) (by omega)

/-- A grid point's state cotangent for its group `g`. -/
theorem ds_at (c : Dev nD) (t : Fin cfg0.N) (g : Fin 8) (k : Fin 528) (n : Fin 256) :
    k0_pay8 (F := Ideal) k0_pay6 (k0_pay7 (grid0.coords t) (slab (win0_2.stage (cfg0.slots t 2)) (hstage0_2 ((cfg0.slots t 2).cast nbuf0_2)) (iblk m c 2 t) g)
      (slab (win0_4.stage (cfg0.slots t 4)) (hstage0_4 ((cfg0.slots t 4).cast nbuf0_4)) (iblk m c 4 t) g)) (which (grid0.coords t))
    (slab (win0_3.stage (cfg0.slots t 3)) (hstage0_3 ((cfg0.slots t 3).cast nbuf0_3)) (iblk m c 3 t) g)
    (slab (win0_5.stage (cfg0.slots t 5)) (hstage0_5 ((cfg0.slots t 5).cast nbuf0_5)) (iblk m c 5 t) g) (ix2 k n) = ds (Dr m c) (Di m c) (grp t g) k n := by
  have ha := blk2 m c t (win0_2.stage (cfg0.slots t 2)) (hstage0_2 ((cfg0.slots t 2).cast nbuf0_2)) g
  have hb := blk4 m c t (win0_4.stage (cfg0.slots t 4)) (hstage0_4 ((cfg0.slots t 4).cast nbuf0_4)) g
  have ha' := blk3 m c t (win0_3.stage (cfg0.slots t 3)) (hstage0_3 ((cfg0.slots t 3).cast nbuf0_3)) g
  have hb' := blk5 m c t (win0_5.stage (cfg0.slots t 5)) (hstage0_5 ((cfg0.slots t 5).cast nbuf0_5)) g
  generalize slab (win0_2.stage (cfg0.slots t 2)) _ _ g = a at *
  generalize slab (win0_4.stage (cfg0.slots t 4)) _ _ g = b at *
  generalize slab (win0_3.stage (cfg0.slots t 3)) _ _ g = a' at *
  generalize slab (win0_5.stage (cfg0.slots t 5)) _ _ g = b' at *
  have hn := n.isLt
  pointwise [k0_pay8, k0_pay7, k0_pay6]
  unfold ds
  split
  · exact pick t g (Dr m c) a b ha hb k ⟨n, by omega⟩ ⟨((n : ℕ) + 128 - 64) % 128, by omega⟩ rfl
  · exact pick t g (Di m c) a' b' ha' hb' k ⟨n - 128, by omega⟩ ⟨((n : ℕ) - 128 + 128 - 64) % 128, by omega⟩ rfl

/-! ## One group -/

theorem part_of (D : FVec Ideal S528x256 .bf16) (v22 : FVec Ideal S528x128 .f32) (z : BitVec 32) (a b : FVec Ideal S1x528x128 .f32)
    (hD : k0_pay8 (F := Ideal) k0_pay6 v22 z a b = D) (w : FVec Ideal S1x256x256 .bf16)
    (y : FVec Ideal S1x512x256 .bf16) (o : FVec Ideal S1x256x256 .bf16) (k : Fin 528) (q : Fin 256) :
    k0_pay10 (F := Ideal) k0_pay6 v22 z a b w y o (ix2 k q) = if h : (k : ℕ) < 16 then ∑ x, D (ix2 k x) * w (ix3 (0 : Fin 1) q x)
      else ∑ x, D (ix2 ⟨16 + ((k : ℕ) - 16), by have := k.isLt; omega⟩ x) * w (ix3 (0 : Fin 1) q x) + ∑ x, y (ix3 (0 : Fin 1) ⟨(k : ℕ) - 16, by have := k.isLt; omega⟩ x) * o (ix3 (0 : Fin 1) q x) := by
  unfold k0_pay10
  rw [hD]
  pointwise

theorem opPart_of (D : FVec Ideal S528x256 .bf16) (v22 : FVec Ideal S528x128 .f32) (z : BitVec 32) (a b : FVec Ideal S1x528x128 .f32)
    (hD : k0_pay8 (F := Ideal) k0_pay6 v22 z a b = D) (u : FVec Ideal S1x528x256 .bf16) (q n : Fin 256) :
    k0_pay9 (F := Ideal) k0_pay6 v22 z a b u (ix3 (0 : Fin 1) q n) = ∑ k, u (ix3 (0 : Fin 1) k q) * D (ix2 k n) := by
  unfold k0_pay9
  rw [hD]
  pointwise

theorem part_at (c : Dev nD) (t : Fin cfg0.N) (g : Fin 8) (k : Fin 528) (q : Fin 256) :
    part m c t g (ix2 k q) = back (Dr m c) (Di m c) (Wo m c) (To m c) (Dy m c) (grp t g) k q := by
  refine (part_of _ _ _ _ _ rfl _ _ _ k q).trans ?_
  unfold back fromState fromTokens
  have hk := k.isLt
  split
  · exact Finset.sum_congr rfl fun x _ => congrArg₂ (· * ·) (ds_at m c t g k x) (blk_wo m c t _ _ g q x)
  · refine congrArg₂ (· + ·) (Finset.sum_congr rfl fun x _ => congrArg₂ (· * ·) ?_ (blk_wo m c t _ _ g q x))
      (Finset.sum_congr rfl fun x _ => congrArg₂ (· * ·) (blk_dy m c t _ _ g _ x) (blk_to m c t _ _ g q x))
    refine (ds_at m c t g _ x).trans (congrArg (fun k => ds (Dr m c) (Di m c) (grp t g) k x) (Fin.ext ?_))
    show 16 + ((k : ℕ) - 16) = k; omega

theorem opPart_at (c : Dev nD) (t : Fin cfg0.N) (g : Fin 8) (q n : Fin 256) :
    opPart m c t g (ix3 (0 : Fin 1) q n) = ∑ k, tok (U m c) (Uc m c) (grp t g) k q * ds (Dr m c) (Di m c) (grp t g) k n :=
  (opPart_of _ _ _ _ _ rfl _ q n).trans
    (Finset.sum_congr rfl fun k _ => congrArg₂ (· * ·) (blk_u m c t _ _ g k q) (ds_at m c t g k n))

theorem stored (c : Dev nD) (t : Fin cfg0.N) (k : Fin 528) (o : Fin 2048) :
    rows m c t (ix2 k o) = back (Dr m c) (Di m c) (Wo m c) (To m c) (Dy m c) (grp t ⟨(o : ℕ) % 128 / 16, by omega⟩) k ⟨(o : ℕ) / 128 * 16 + (o : ℕ) % 16, by have := o.isLt; omega⟩ := by
  have ho := o.isLt
  refine (rows_at m c t k o).trans ((laid_at m c t k _).trans ((part_at m c t _ k _).trans ?_))
  refine congrArg₂ (fun g q => back (Dr m c) (Di m c) (Wo m c) (To m c) (Dy m c) (grp t g) k q) (Fin.ext ?_) (Fin.ext ?_)
  · show dst o / 256 = (o : ℕ) % 128 / 16
    unfold dst; omega
  · show dst o % 256 = (o : ℕ) / 128 * 16 + (o : ℕ) % 16
    unfold dst; omega

end Cert.Kernel9Ideal.Du

end
-- ==== Proof.DuRef.lean ====
/-
The gradient at the chunks' tokens: the reference's results and the kernel's are the same sums.
-/
module

public import proofs.«01_k».proof.Proof.DuValue
public import proofs.«01_k».proof.Proof.Gen.Reference9Ideal.Run
public import proofs.«01_k».proof.Proof.Gen.Kernel9
public import proofs.«01_k».proof.Proof.Gen.Kernel9Ideal
public import proofs.«01_k».proof.Proof.Gen.Reference9Ideal
public import proofs.«01_k».proof.Defs

@[expose] public section

set_option maxRecDepth 16384

noncomputable section

open Idealize.ShloMosaic Idealize.ShloMosaic.TcCoe Idealize.SL.Sem
open Idealize.ShloMosaic.Tactic

namespace Cert.Kernel9Ideal.Du

open Cert.Kernel9Ideal Cert.Kernel9Ideal.Gen

variable (m : (ℓ : Loc nD τ sig) → Buf (Elt Ideal) ℓ)

/-! ## The reference's results -/

/-- What the reference leaves at the tokens. -/
def REF9 (u : FVec Ideal S8192x1024 .f32) (uc : FVec Ideal S256x1024 .f32) (wo tp : FVec Ideal S64x256x256 .f32) (dr di : FVec Ideal S64x528x128 .f32) (dy : FVec Ideal S8192x1024 .f32) : FVec Ideal S8192x1024 .f32 :=
  extractStridedSlice Cert.Reference9Ideal.S8192x1024 ![256, 0] (shapeCast _ (transpose Cert.Reference9Ideal.S528x16x64x16 [1, 2, 0, 3] (shapeCast _ (addf (pad Cert.Reference9Ideal.S64x528x256 ![0, 16, 0] ![0, 0, 0] ![0, 0, 0] (Host.dotGeneral Cert.Reference9Ideal.dot_S64x512x256_S64x256x256_S64x512x256_2_2_1_1_0_0 none (shapeCast _ (transpose Cert.Reference9Ideal.S64x512x16x16 [2, 0, 1, 3] (shapeCast _ dy Cert.Reference9Ideal.Gen.shapeCasts_S8192x1024_S512x16x64x16) Cert.Reference9Ideal.Gen.transposes_S512x16x64x16_S64x512x16x16_2_0_1_3) Cert.Reference9Ideal.Gen.shapeCasts_S64x512x16x16_S64x512x256) tp) (constant (F := Ideal) Cert.Reference9Ideal.S_ .f32 0x00000000#32) Cert.Reference9Ideal.Gen.pads_S64x512x256_S64x528x256_000_1600_000 Cert.Reference9Ideal.Gen.h_S_) (Host.dotGeneral Cert.Reference9Ideal.dot_S64x528x256_S64x256x256_S64x528x256_2_2_1_1_0_0 none (concatenate Cert.Reference9Ideal.S64x528x256 2 [⟨Cert.Reference9Ideal.S64x528x128, dr⟩, ⟨Cert.Reference9Ideal.S64x528x128, di⟩] Cert.Reference9Ideal.Gen.concatenates_S64x528x128_S64x528x128_S64x528x256_d2) wo)) Cert.Reference9Ideal.Gen.shapeCasts_S64x528x256_S64x528x16x16) Cert.Reference9Ideal.Gen.transposes_S64x528x16x16_S528x16x64x16_1_2_0_3) Cert.Reference9Ideal.Gen.shapeCasts_S528x16x64x16_S8448x1024) Cert.Reference9Ideal.Gen.slices_S8448x1024_S8192x1024_256_0

/-- What the reference leaves at the context's tokens. -/
def REF10 (u : FVec Ideal S8192x1024 .f32) (uc : FVec Ideal S256x1024 .f32) (wo tp : FVec Ideal S64x256x256 .f32) (dr di : FVec Ideal S64x528x128 .f32) (dy : FVec Ideal S8192x1024 .f32) : FVec Ideal S256x1024 .f32 :=
  extractStridedSlice Cert.Reference9Ideal.S256x1024 ![0, 0] (shapeCast _ (transpose Cert.Reference9Ideal.S528x16x64x16 [1, 2, 0, 3] (shapeCast _ (addf (pad Cert.Reference9Ideal.S64x528x256 ![0, 16, 0] ![0, 0, 0] ![0, 0, 0] (Host.dotGeneral Cert.Reference9Ideal.dot_S64x512x256_S64x256x256_S64x512x256_2_2_1_1_0_0 none (shapeCast _ (transpose Cert.Reference9Ideal.S64x512x16x16 [2, 0, 1, 3] (shapeCast _ dy Cert.Reference9Ideal.Gen.shapeCasts_S8192x1024_S512x16x64x16) Cert.Reference9Ideal.Gen.transposes_S512x16x64x16_S64x512x16x16_2_0_1_3) Cert.Reference9Ideal.Gen.shapeCasts_S64x512x16x16_S64x512x256) tp) (constant (F := Ideal) Cert.Reference9Ideal.S_ .f32 0x00000000#32) Cert.Reference9Ideal.Gen.pads_S64x512x256_S64x528x256_000_1600_000 Cert.Reference9Ideal.Gen.h_S_) (Host.dotGeneral Cert.Reference9Ideal.dot_S64x528x256_S64x256x256_S64x528x256_2_2_1_1_0_0 none (concatenate Cert.Reference9Ideal.S64x528x256 2 [⟨Cert.Reference9Ideal.S64x528x128, dr⟩, ⟨Cert.Reference9Ideal.S64x528x128, di⟩] Cert.Reference9Ideal.Gen.concatenates_S64x528x128_S64x528x128_S64x528x256_d2) wo)) Cert.Reference9Ideal.Gen.shapeCasts_S64x528x256_S64x528x16x16) Cert.Reference9Ideal.Gen.transposes_S64x528x16x16_S528x16x64x16_1_2_0_3) Cert.Reference9Ideal.Gen.shapeCasts_S528x16x64x16_S8448x1024) Cert.Reference9Ideal.Gen.slices_S8448x1024_S256x1024_0_0

/-- What the reference leaves at the operator into the state. -/
def REF11 (u : FVec Ideal S8192x1024 .f32) (uc : FVec Ideal S256x1024 .f32) (wo tp : FVec Ideal S64x256x256 .f32) (dr di : FVec Ideal S64x528x128 .f32) (dy : FVec Ideal S8192x1024 .f32) : FVec Ideal S64x256x256 .f32 :=
  transpose Cert.Reference9Ideal.S64x256x256 [0, 2, 1] (Host.dotGeneral Cert.Reference9Ideal.dot_S64x528x256_S64x528x256_S64x256x256_1_1_2_2_0_0 none (concatenate Cert.Reference9Ideal.S64x528x256 2 [⟨Cert.Reference9Ideal.S64x528x128, dr⟩, ⟨Cert.Reference9Ideal.S64x528x128, di⟩] Cert.Reference9Ideal.Gen.concatenates_S64x528x128_S64x528x128_S64x528x256_d2) (shapeCast _ (transpose Cert.Reference9Ideal.S64x528x16x16 [2, 0, 1, 3] (shapeCast _ (concatenate Cert.Reference9Ideal.S8448x1024 0 [⟨Cert.Reference9Ideal.S256x1024, uc⟩, ⟨Cert.Reference9Ideal.S8192x1024, u⟩] Cert.Reference9Ideal.Gen.concatenates_S256x1024_S8192x1024_S8448x1024_d0) Cert.Reference9Ideal.Gen.shapeCasts_S8448x1024_S528x16x64x16) Cert.Reference9Ideal.Gen.transposes_S528x16x64x16_S64x528x16x16_2_0_1_3) Cert.Reference9Ideal.Gen.shapeCasts_S64x528x16x16_S64x528x256)) Cert.Reference9Ideal.Gen.transposes_S64x256x256_S64x256x256_0_2_1

/-- The state's part, one half of the state after the other. -/
theorem fromState_split (dr di : FVec Ideal S64x528x128 .f32) (wo : FVec Ideal S64x256x256 .f32) (g : Fin 64) (k : Fin 528) (q : Fin 256) :
    fromState dr di wo g k q = ∑ x : Fin 128, dr (ix3 g k x) * wo (ix3 g q ⟨x, by have := x.isLt; omega⟩)
      + ∑ x : Fin 128, di (ix3 g k x) * wo (ix3 g q ⟨128 + (x : ℕ), by have := x.isLt; omega⟩) := by
  unfold fromState
  refine (Fin.sum_univ_add (a := 128) (b := 128) (fun n : Fin 256 => ds dr di g k n * wo (ix3 g q n))).trans ?_
  refine congrArg₂ (· + ·) (Finset.sum_congr rfl fun x _ => congrArg₂ (· * ·) ?_ rfl) (Finset.sum_congr rfl fun x _ => congrArg₂ (· * ·) ?_ rfl)
  · unfold ds
    rw [dif_pos (show ((Fin.castAdd 128 x : Fin 256) : ℕ) < 128 from x.isLt)]
    rfl
  · unfold ds
    rw [dif_neg (show ¬ ((Fin.natAdd 128 x : Fin 256) : ℕ) < 128 by show ¬ 128 + (x : ℕ) < 128; omega)]
    refine congrArg (fun x => di (ix3 g k x)) (Fin.ext ?_)
    show 128 + (x : ℕ) - 128 = x; omega

/-- Two entries at the same place. -/
theorem at3 {n₀ n₁ n₂ : ℕ} {α : Type} (D : (⟨3, ![n₀, n₁, n₂]⟩ : Shape).Idx → α) {a a' : Fin n₀} {b b' : Fin n₁} {d d' : Fin n₂}
    (ha : (a : ℕ) = a') (hb : (b : ℕ) = b') (hd : (d : ℕ) = d') : D (ix3 a b d) = D (ix3 a' b' d') := by
  obtain rfl := Fin.ext ha; obtain rfl := Fin.ext hb; obtain rfl := Fin.ext hd; rfl

theorem at2 {n₀ n₁ : ℕ} {α : Type} (D : (⟨2, ![n₀, n₁]⟩ : Shape).Idx → α) {a a' : Fin n₀} {b b' : Fin n₁}
    (ha : (a : ℕ) = a') (hb : (b : ℕ) = b') : D (ix2 a b) = D (ix2 a' b') := by
  obtain rfl := Fin.ext ha; obtain rfl := Fin.ext hb; rfl

theorem ref9_at (u : FVec Ideal S8192x1024 .f32) (uc : FVec Ideal S256x1024 .f32) (wo tp : FVec Ideal S64x256x256 .f32) (dr di : FVec Ideal S64x528x128 .f32) (dy : FVec Ideal S8192x1024 .f32) (j : S8192x1024.Idx) : REF9 u uc wo tp dr di dy j
    = back dr di wo tp dy ⟨(j 1 : ℕ) / 16, by have : (j 1 : ℕ) < 1024 := (j 1).isLt; omega⟩ ⟨16 + (j 0 : ℕ) / 16, by have : (j 0 : ℕ) < 8192 := (j 0).isLt; omega⟩
        ⟨(j 0 : ℕ) % 16 * 16 + (j 1 : ℕ) % 16, by omega⟩ := by
  have j0 : (j 0 : ℕ) < 8192 := (j 0).isLt
  have j1 : (j 1 : ℕ) < 1024 := (j 1).isLt
  unfold back
  rw [dif_neg (show ¬ 16 + (j 0 : ℕ) / 16 < 16 by omega), fromState_split, add_comm]
  unfold fromTokens
  pointwise [REF9]
  rw [dif_pos (by omega)]
  refine congrArg₂ (· + ·) (Finset.sum_congr rfl fun x _ => congrArg₂ (· * ·) (at2 dy ?_ rfl) (at3 tp rfl ?_ rfl))
    (congrArg₂ (· + ·) (Finset.sum_congr rfl fun x _ => congrArg₂ (· * ·) (at3 dr rfl ?_ rfl) (at3 wo rfl ?_ rfl))
      (Finset.sum_congr rfl fun x _ => congrArg₂ (· * ·) (at3 di rfl ?_ rfl) (at3 wo rfl ?_ rfl))) <;> dsimp only <;> omega

theorem ref10_at (u : FVec Ideal S8192x1024 .f32) (uc : FVec Ideal S256x1024 .f32) (wo tp : FVec Ideal S64x256x256 .f32) (dr di : FVec Ideal S64x528x128 .f32) (dy : FVec Ideal S8192x1024 .f32) (j : S256x1024.Idx) : REF10 u uc wo tp dr di dy j
    = back dr di wo tp dy ⟨(j 1 : ℕ) / 16, by have : (j 1 : ℕ) < 1024 := (j 1).isLt; omega⟩ ⟨(j 0 : ℕ) / 16, by have : (j 0 : ℕ) < 256 := (j 0).isLt; omega⟩
        ⟨(j 0 : ℕ) % 16 * 16 + (j 1 : ℕ) % 16, by omega⟩ := by
  have j0 : (j 0 : ℕ) < 256 := (j 0).isLt
  have j1 : (j 1 : ℕ) < 1024 := (j 1).isLt
  unfold back
  rw [dif_pos (show (j 0 : ℕ) / 16 < 16 by omega), fromState_split]
  pointwise [REF10]
  rw [dif_neg (by omega), zero_add]

theorem ref11_at (u : FVec Ideal S8192x1024 .f32) (uc : FVec Ideal S256x1024 .f32) (wo tp : FVec Ideal S64x256x256 .f32) (dr di : FVec Ideal S64x528x128 .f32) (dy : FVec Ideal S8192x1024 .f32) (j : S64x256x256.Idx) : REF11 u uc wo tp dr di dy j = ∑ k, tok u uc (j 0) k (j 1) * ds dr di (j 0) k (j 2) := by
  pointwise [REF11]
  have j1 : (j 1 : ℕ) < 256 := (j 1).isLt
  refine Finset.sum_congr rfl fun x _ => (mul_comm _ _).trans (congrArg₂ (· * ·) ?_ rfl)
  have hx := x.isLt
  unfold tok
  by_cases h : (x : ℕ) < 16
  · rw [dif_pos h, dif_pos (by omega)]
  · rw [dif_neg h, dif_neg (by omega)]
    refine congrArg u (funext fun a => Fin.ext ?_)
    fin_cases a
    · show (x : ℕ) * 16 + (j 1 : ℕ) / 16 - 256 = ((x : ℕ) - 16) * 16 + (j 1 : ℕ) / 16; omega
    · rfl

/-! ## The results -/

theorem final11 (c : Dev nD) : (dats m 0 c).arrAt 11 cfg0.N = REF11 (U m c) (Uc m c) (Wo m c) (To m c) (Dr m c) (Di m c) (Dy m c) := by
  refine (dats m 0 c).arrAt_eq_of_covers 11 _ (by decide +kernel) fun t hf y => ?_
  have ht := N_lt t
  blk_simp
  rw [after0_11]
  have hy := show (y 0 : ℕ) < 8 from (y 0).isLt
  have e0 : (((cfg0.win 11).blk t).view.emb y 0).val = t.val * 8 + (y 0).val := by blk_simp; rw [(idx t).2.2.2.2.2.2.2.2.2.2.2]; rfl
  have e1 : (((cfg0.win 11).blk t).view.emb y 1).val = (y 1).val := by
    blk_simp; rw [(idx t).2.2.2.2.2.2.2.2.2.2.2]; show 0 * 256 + (y 1).val = _; omega
  have e2 : (((cfg0.win 11).blk t).view.emb y 2).val = (y 2).val := by
    blk_simp; rw [(idx t).2.2.2.2.2.2.2.2.2.2.2]; show 0 * 256 + (y 2).val = _; omega
  obtain ⟨j, hj, j0, j1, j2⟩ : ∃ j : S64x256x256.Idx, ((cfg0.win 11).blk t).view.emb y = j ∧ (j 0).val = t.val * 8 + (y 0).val ∧ (j 1).val = (y 1).val ∧ (j 2).val = (y 2).val :=
    ⟨_, rfl, e0, e1, e2⟩
  have hT := ref11_at (U m c) (Uc m c) (Wo m c) (To m c) (Dr m c) (Di m c) (Dy m c) j
  generalize REF11 (U m c) (Uc m c) (Wo m c) (To m c) (Dr m c) (Di m c) (Dy m c) = T at *
  refine Eq.trans ?_ (congrArg T hj.symm)
  rw [hT]
  refine (block11 m c t y).trans ((opPart_at m c t _ _ _).trans ?_)
  have f0 : grp t (y 0) = j 0 := Fin.ext j0.symm
  have f1 : (y 1 : Fin 256) = j 1 := Fin.ext j1.symm
  have f2 : (y 2 : Fin 256) = j 2 := Fin.ext j2.symm
  rw [f0, f1, f2]

theorem back_congr (dr di : FVec Ideal S64x528x128 .f32) (wo tp : FVec Ideal S64x256x256 .f32) (dy : FVec Ideal S8192x1024 .f32) {g g' : Fin 64} {k k' : Fin 528} {q q' : Fin 256}
    (hg : (g : ℕ) = g') (hk : (k : ℕ) = k') (hq : (q : ℕ) = q') : back dr di wo tp dy g k q = back dr di wo tp dy g' k' q' := by
  obtain rfl := Fin.ext hg; obtain rfl := Fin.ext hk; obtain rfl := Fin.ext hq; rfl

theorem final9 (c : Dev nD) : (dats m 0 c).arrAt 9 cfg0.N = REF9 (U m c) (Uc m c) (Wo m c) (To m c) (Dr m c) (Di m c) (Dy m c) := by
  refine (dats m 0 c).arrAt_eq_of_covers 9 _ (by decide +kernel) fun t hf y => ?_
  have ht := N_lt t
  blk_simp
  rw [after0_9]
  have hy0 := show (y 0 : ℕ) < 8192 from (y 0).isLt
  have hy1 := show (y 1 : ℕ) < 128 from (y 1).isLt
  have e0 : (((cfg0.win 9).blk t).view.emb y 0).val = (y 0).val := by
    blk_simp; rw [(idx t).2.2.2.2.2.2.2.2.2.1]; show 0 * 8192 + (y 0).val = _; omega
  have e1 : (((cfg0.win 9).blk t).view.emb y 1).val = t.val * 128 + (y 1).val := by
    blk_simp; rw [(idx t).2.2.2.2.2.2.2.2.2.1]; rfl
  obtain ⟨j, hj, j0, j1⟩ : ∃ j : S8192x1024.Idx, ((cfg0.win 9).blk t).view.emb y = j ∧ (j 0).val = (y 0).val ∧ (j 1).val = t.val * 128 + (y 1).val :=
    ⟨_, rfl, e0, e1⟩
  have hT := ref9_at (U m c) (Uc m c) (Wo m c) (To m c) (Dr m c) (Di m c) (Dy m c) j
  generalize REF9 (U m c) (Uc m c) (Wo m c) (To m c) (Dr m c) (Di m c) (Dy m c) = T at *
  refine Eq.trans ?_ (congrArg T hj.symm)
  rw [hT]
  refine (block9 m c t y).trans ((stored m c t _ _).trans ?_)
  refine back_congr _ _ _ _ _ ?_ ?_ ?_
  · show t.val * 8 + ((y 0 : ℕ) % 16 * 128 + (y 1 : ℕ)) % 128 / 16 = (j 1 : ℕ) / 16; omega
  · show 16 + (y 0 : ℕ) / 16 = 16 + (j 0 : ℕ) / 16; omega
  · show ((y 0 : ℕ) % 16 * 128 + (y 1 : ℕ)) / 128 * 16 + ((y 0 : ℕ) % 16 * 128 + (y 1 : ℕ)) % 16 = (j 0 : ℕ) % 16 * 16 + (j 1 : ℕ) % 16; omega

theorem final10 (c : Dev nD) : (dats m 0 c).arrAt 10 cfg0.N = REF10 (U m c) (Uc m c) (Wo m c) (To m c) (Dr m c) (Di m c) (Dy m c) := by
  refine (dats m 0 c).arrAt_eq_of_covers 10 _ (by decide +kernel) fun t hf y => ?_
  have ht := N_lt t
  blk_simp
  rw [after0_10]
  have hy0 := show (y 0 : ℕ) < 256 from (y 0).isLt
  have hy1 := show (y 1 : ℕ) < 128 from (y 1).isLt
  have e0 : (((cfg0.win 10).blk t).view.emb y 0).val = (y 0).val := by
    blk_simp; rw [(idx t).2.2.2.2.2.2.2.2.2.2.1]; show 0 * 256 + (y 0).val = _; omega
  have e1 : (((cfg0.win 10).blk t).view.emb y 1).val = t.val * 128 + (y 1).val := by
    blk_simp; rw [(idx t).2.2.2.2.2.2.2.2.2.2.1]; rfl
  obtain ⟨j, hj, j0, j1⟩ : ∃ j : S256x1024.Idx, ((cfg0.win 10).blk t).view.emb y = j ∧ (j 0).val = (y 0).val ∧ (j 1).val = t.val * 128 + (y 1).val :=
    ⟨_, rfl, e0, e1⟩
  have hT := ref10_at (U m c) (Uc m c) (Wo m c) (To m c) (Dr m c) (Di m c) (Dy m c) j
  generalize REF10 (U m c) (Uc m c) (Wo m c) (To m c) (Dr m c) (Di m c) (Dy m c) = T at *
  refine Eq.trans ?_ (congrArg T hj.symm)
  rw [hT]
  refine (block10 m c t y).trans ((stored m c t _ _).trans ?_)
  refine back_congr _ _ _ _ _ ?_ ?_ ?_
  · show t.val * 8 + ((y 0 : ℕ) % 16 * 128 + (y 1 : ℕ)) % 128 / 16 = (j 1 : ℕ) / 16; omega
  · show (y 0 : ℕ) / 16 = (j 0 : ℕ) / 16; omega
  · show ((y 0 : ℕ) % 16 * 128 + (y 1 : ℕ)) / 128 * 16 + ((y 0 : ℕ) % 16 * 128 + (y 1 : ℕ)) % 16 = (j 0 : ℕ) % 16 * 16 + (j 1 : ℕ) % 16; omega

end Cert.Kernel9Ideal.Du

namespace Cert.Proof

open Cert.Kernel9Ideal.Du

theorem frame_du : Cert.quiescent_Kernel9Ideal := fun m ρ _ => frame_any (F := Ideal) m ρ

theorem frame_bits_du : Cert.quiescent_Kernel9 := by
  intro m ρ _
  refine Eq.mp ?_ (frame_any (F := Bits) m ρ)
  sl_kernel_rfl

theorem frame_ref_du : Cert.quiescent_Reference9Ideal := fun m ρ _ =>
  (θ_run Cert.Reference9Ideal.defs _ _).mono
    (fun r h => ⟨fun c => (h c).2.2.2, sem_eq_zero_of_no_sems (by decide) r.2⟩)
    (Cert.Reference9Ideal.Value.run (F := Ideal) m ρ)

theorem algebraic_du : Cert.algebraic_Kernel9Ideal_Reference9Ideal := by
  pair_intro
  · run_from run_blocks m g
  · hlo_run
    all_goals
      obtain ⟨-, -, -, -, a4, a5, -⟩ := hagree c
      clear hagree hpre g g'
      rw [a4, a5]
    · exact (final9 m c).symm
    · exact (final10 m c).symm
    · exact (final11 m c).symm

end Cert.Proof

end
-- ==== Proof.Finite.lean ====
/-
Facts of single extended reals that several gradients share: the two spellings of the logistic function, what finiteness
of an array's entries gives, and the derivative of the gate `x ↦ x · logistic x`.
-/
module

public import Idealize.ShloMosaic.PureOps.Ideal
public import Idealize.ShloMosaic.Lib.ReduceAll
public import Idealize.ShloMosaic.Lib.Pointwise
public import Mathlib.Analysis.Complex.Trigonometric

@[expose] public section

noncomputable section

namespace Cert.Finite

open Idealize.ShloMosaic

/-- Over the reals the logistic function is half of one more than the hyperbolic tangent at half the argument. -/
theorem half_tanh_real (r : ℝ) : 1 / 2 * (Real.tanh (1 / 2 * r) + 1) = (1 + Real.exp (-r))⁻¹ := by
  have h1 : 0 < Real.exp (1 / 2 * r) := Real.exp_pos _
  have h2 : Real.exp (-r) = (Real.exp (1 / 2 * r))⁻¹ * (Real.exp (1 / 2 * r))⁻¹ := by
    rw [← Real.exp_neg, ← Real.exp_add]; congr 1; ring
  have h3 : Real.exp (-(1 / 2 * r)) = (Real.exp (1 / 2 * r))⁻¹ := Real.exp_neg _
  rw [Real.tanh_eq_sinh_div_cosh, Real.sinh_eq, Real.cosh_eq, h2, h3]
  generalize Real.exp (1 / 2 * r) = e at h1
  have : e ≠ 0 := h1.ne'
  field_simp
  ring

/-- The logistic function as it is written on the host. -/
theorem logistic_real (r : ℝ) : Ideal.div 1 (1 + Ideal.exp (-(r : EReal))) = (((1 + Real.exp (-r))⁻¹ : ℝ) : EReal) := by
  have h : (0 : ℝ) < 1 + Real.exp (-r) := by positivity
  rw [← EReal.coe_neg, Ideal.exp_coe, ← EReal.coe_one, ← EReal.coe_add]
  unfold Ideal.div
  rw [if_neg (by exact_mod_cast h.ne'), ← EReal.coe_inv, ← EReal.coe_mul, one_mul]

/-- The same at every extended real, the infinities with their limits. -/
theorem logistic_tanh (x : EReal) : ((1 / 2 : ℝ) : EReal) * (Ideal.tanh (((1 / 2 : ℝ) : EReal) * x) + 1) = Ideal.div 1 (1 + Ideal.exp (-x)) := by
  have hp : (0 : ℝ) < 1 / 2 := by norm_num
  induction x with
  | bot =>
    rw [EReal.coe_mul_bot_of_pos hp, EReal.neg_bot, Ideal.exp_top, Ideal.tanh_bot]
    have e1 : (1 : EReal) + ⊤ = ⊤ := by rfl
    have e2 : (-1 : EReal) + 1 = 0 := by rw [← EReal.coe_one, ← EReal.coe_neg, ← EReal.coe_add]; norm_num
    rw [e1, e2, mul_zero]
    unfold Ideal.div
    rw [if_neg EReal.top_ne_zero, EReal.inv_top, mul_zero]
  | top =>
    rw [EReal.coe_mul_top_of_pos hp, EReal.neg_top, Ideal.exp_bot, Ideal.tanh_top, add_zero]
    unfold Ideal.div
    rw [if_neg one_ne_zero, ← EReal.coe_one, ← EReal.coe_inv, ← EReal.coe_add, ← EReal.coe_mul, ← EReal.coe_mul]
    norm_num
  | coe r => rw [logistic_real, ← EReal.coe_mul, Ideal.tanh_coe, ← EReal.coe_one, ← EReal.coe_add, ← EReal.coe_mul, half_tanh_real]

/-- One half, as the kernels write it. -/
theorem half_bits : Ideal.ofBits .f32 0x3F000000#32 = ((1 / 2 : ℝ) : EReal) := by
  simp [Ideal.ofBits, Ideal.ieee, -EReal.coe_mul]; norm_num

theorem infinity_bits : Ideal.ofBits .f32 0x7F800000#32 = ⊤ := by
  simp [Ideal.ofBits, Ideal.ieee]

/-- What lies below infinity in absolute value is a real. -/
theorem real_of_abs_lt (x : EReal) (h : max x (-x) < ⊤) : ∃ r : ℝ, x = r := by
  induction x with
  | bot => simp at h
  | top => simp at h
  | coe r => exact ⟨r, rfl⟩

/-- An array all of whose entries pass the printed test of finiteness has real entries. -/
theorem real_of_all {s : Shape} {axes : List (Fin s.rank)} (x : FVec Ideal s .f32) (b : (⟨0, ![]⟩ : Shape).BroadcastsInDim s (![] : Fin 0 → Fin s.rank))
    (h : s.ReducesTo axes ⟨0, ![]⟩) (hu : 0 < (⟨0, ![]⟩ : Shape).numel) (j : (⟨0, ![]⟩ : Shape).Idx)
    (e : Host.reduce IntOp.andi (cmpf .olt (Host.absf x) (broadcastInDim s ![] b (constant (F := Ideal) ⟨0, ![]⟩ .f32 0x7F800000#32))) (constantI ⟨0, ![]⟩ 1 1#1) h hu j = 1#1)
    (i : s.Idx) : ∃ r : ℝ, x i = r := by
  have : Subsingleton (⟨0, ![]⟩ : Shape).Idx := ⟨fun a b => funext fun k => k.elim0⟩
  have h1 := Host.reduce_andi_all _ _ h hu j e i
  refine real_of_abs_lt _ ?_
  rw [← infinity_bits]
  by_contra hn
  have : (cmpf .olt (Host.absf x) (broadcastInDim s ![] b (constant (F := Ideal) ⟨0, ![]⟩ .f32 0x7F800000#32))) i = 0#1 := by
    show BitVec.ofBool (decide (max (x i) (-(x i)) < Ideal.ofBits .f32 0x7F800000#32)) = 0#1
    rw [decide_eq_false hn]; rfl
  rw [this] at h1
  exact absurd h1 (by decide)

/-- Sums, products and sums of products of reals are real. -/
theorem real_sum {ι : Type} [Fintype ι] (f : ι → EReal) (h : ∀ i, ∃ r : ℝ, f i = r) : ∃ r : ℝ, ∑ i, f i = r := by
  classical
  choose g hg using h
  refine ⟨∑ i, g i, ?_⟩
  simp only [hg]
  induction (Finset.univ : Finset ι) using Finset.induction_on with
  | empty => simp
  | insert a s ha ih => rw [Finset.sum_insert ha, Finset.sum_insert ha, ih, EReal.coe_add]

theorem real_mul {x y : EReal} (hx : ∃ r : ℝ, x = r) (hy : ∃ r : ℝ, y = r) : ∃ r : ℝ, x * y = r := by
  obtain ⟨a, rfl⟩ := hx; obtain ⟨b, rfl⟩ := hy
  exact ⟨a * b, (EReal.coe_mul a b).symm⟩

theorem real_add {x y : EReal} (hx : ∃ r : ℝ, x = r) (hy : ∃ r : ℝ, y = r) : ∃ r : ℝ, x + y = r := by
  obtain ⟨a, rfl⟩ := hx; obtain ⟨b, rfl⟩ := hy
  exact ⟨a + b, (EReal.coe_add a b).symm⟩

theorem one_real : ∃ r : ℝ, (1 : EReal) = r := ⟨1, EReal.coe_one.symm⟩

/-- The gate's derivative, in one product or in the two parts the product rule leaves. -/
theorem gate_real {b x : EReal} (hb : ∃ r : ℝ, b = r) (hx : ∃ r : ℝ, x = r) :
    b * (Ideal.div 1 (1 + Ideal.exp (-x)) * (1 + x * (1 - Ideal.div 1 (1 + Ideal.exp (-x)))))
      = b * Ideal.div 1 (1 + Ideal.exp (-x)) + x * b * (Ideal.div 1 (1 + Ideal.exp (-x)) * (1 - Ideal.div 1 (1 + Ideal.exp (-x)))) := by
  obtain ⟨b, rfl⟩ := hb; obtain ⟨x, rfl⟩ := hx
  rw [logistic_real]
  generalize (1 + Real.exp (-x))⁻¹ = l
  norm_cast
  ring

end Cert.Finite

end
-- ==== Proof.ModValue.lean ====
/-
The gradients of the modulations' projection: its weight, its bias, and the context's embedding.
-/
module

public import proofs.«01_k».proof.Proof.Gen.Kernel8Ideal.Value
public import proofs.«01_k».proof.Proof.Gen.Reference8Ideal.Run
public import proofs.«01_k».proof.Proof.Gen.Pre_tame
public import proofs.«01_k».proof.Proof.Finite
public import proofs.«01_k».proof.Defs
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)
open Idealize.ShloMosaic.Tactic

namespace Cert.Kernel8Ideal.Mod

open Cert.Kernel8Ideal Cert.Kernel8Ideal.Gen

variable (m : (ℓ : Loc nD τ sig) → Buf (Elt Ideal) ℓ)

theorem idx : ∀ t : Fin cfg0.N, win0_0.index t = ![0, 0] ∧ win0_1.index t = ![0, 0] ∧ win0_2.index t = ![0, 0]
    ∧ win0_3.index t = ![0, 0] ∧ win0_4.index t = ![0, 0] ∧ win0_5.index t = ![0, 0] ∧ win0_6.index t = ![0, 0] :=
  (by decide +kernel : ∀ t : Fin grid0.N, _)

/-- The samples' embeddings, the context's, the cotangents of the two modulations, the weight. -/
abbrev C (c : Dev nD) : FVec Ideal S8x2048 .f32 := m ((c : Thread nD τ).loc main_arg0)
abbrev Cc (c : Dev nD) : FVec Ideal S1x2048 .f32 := m ((c : Thread nD τ).loc main_arg1)
abbrev Dm (c : Dev nD) : FVec Ideal S8x768 .f32 := m ((c : Thread nD τ).loc main_arg2)
abbrev Dc (c : Dev nD) : FVec Ideal S8x768 .f32 := m ((c : Thread nD τ).loc main_arg3)
abbrev Wa (c : Dev nD) : FVec Ideal S2048x768 .f32 := m ((c : Thread nD τ).loc main_arg4)

theorem rows_eq (c : Dev nD) : V m c main_v1 = concatenate S16x2048 0 [⟨S8x2048, C m c⟩, ⟨S1x2048, Cc m c⟩,
    ⟨S7x2048, broadcastInDim S7x2048 ![] bcast_S_S7x2048 (constant (F := Ideal) S_ .f32 0x00000000#32)⟩] concatenates_S8x2048_S1x2048_S7x2048_S16x2048_d0 := by
  sl_kernel_rfl

/-- The embeddings' rows as the region finds them. -/
abbrev Rows (c : Dev nD) : FVec Ideal S16x2048 .f32 := V m c main_v1

theorem final4 (c : Dev nD) : (dats m 0 c).arrAt 4 cfg0.N = k0_pay6 (F := Ideal) (Rows m c) (Dc m c) (Dm m c) := by
  refine (dats m 0 c).arrAt_eq_of_after_last 4 t0_0 (by decide +kernel) _ fun j => ?_
  blk_simp
  rw [after0_4]
  frame_out
  blk_point [iblk, V, idx t0_0]

theorem final5 (c : Dev nD) : (dats m 0 c).arrAt 5 cfg0.N = k0_pay7 (F := Ideal) (Dc m c) (Dm m c) := by
  refine (dats m 0 c).arrAt_eq_of_after_last 5 t0_0 (by decide +kernel) _ fun j => ?_
  blk_simp
  rw [after0_5]
  frame_out
  blk_point [iblk, V, idx t0_0]

theorem final6 (c : Dev nD) : (dats m 0 c).arrAt 6 cfg0.N
    = k0_pay1 (F := Ideal) (k0_pay8 (Rows m c)) (k0_pay9 (Dc m c) (Dm m c) (Wa m c)) (k0_pay10 (Rows m c)) k0_pay11 := by
  refine (dats m 0 c).arrAt_eq_of_after_last 6 t0_0 (by decide +kernel) _ fun j => ?_
  blk_simp
  rw [after0_6]
  frame_out
  blk_point [iblk, V, idx t0_0]

/-- The weight's gradient in the reference. -/
def REF0 (ce : FVec Ideal S8x2048 .f32) (cc : FVec Ideal S1x2048 .f32) (dm : FVec Ideal S8x768 .f32) (dc : FVec Ideal S8x768 .f32) (w : FVec Ideal S2048x768 .f32) : FVec Ideal S2048x768 .f32 :=
  addf (transpose Cert.Reference8Ideal.S2048x768 [1, 0] (Host.dotGeneral Cert.Reference8Ideal.dot_S1x768_S1x2048_S768x2048_0_0_1_1_n_n none (broadcastInDim Cert.Reference8Ideal.S1x768 ![1] Cert.Reference8Ideal.Gen.bcast_S768_S1x768_1 (Host.reduceAdd dc (constant (F := Ideal) Cert.Reference8Ideal.S_ .f32 0x00000000#32) Cert.Reference8Ideal.Gen.reducesTo_S8x768_S768_d0 Cert.Reference8Ideal.Gen.h_S_)) (mulf cc (Host.divf (broadcastInDim Cert.Reference8Ideal.S1x2048 ![] Cert.Reference8Ideal.Gen.bcast_S_S1x2048 (constant (F := Ideal) Cert.Reference8Ideal.S_ .f32 0x3F800000#32)) (addf (broadcastInDim Cert.Reference8Ideal.S1x2048 ![] Cert.Reference8Ideal.Gen.bcast_S_S1x2048 (constant (F := Ideal) Cert.Reference8Ideal.S_ .f32 0x3F800000#32)) (Host.exp (Host.negf cc)))))) Cert.Reference8Ideal.Gen.transposes_S768x2048_S2048x768_1_0) (transpose Cert.Reference8Ideal.S2048x768 [1, 0] (Host.dotGeneral Cert.Reference8Ideal.dot_S8x768_S8x2048_S768x2048_0_0_1_1_n_n none (shapeCast _ dm Cert.Reference8Ideal.Gen.shapeCasts_S8x768_S8x768) (mulf ce (Host.divf (broadcastInDim Cert.Reference8Ideal.S8x2048 ![] Cert.Reference8Ideal.Gen.bcast_S_S8x2048 (constant (F := Ideal) Cert.Reference8Ideal.S_ .f32 0x3F800000#32)) (addf (broadcastInDim Cert.Reference8Ideal.S8x2048 ![] Cert.Reference8Ideal.Gen.bcast_S_S8x2048 (constant (F := Ideal) Cert.Reference8Ideal.S_ .f32 0x3F800000#32)) (Host.exp (Host.negf ce)))))) Cert.Reference8Ideal.Gen.transposes_S768x2048_S2048x768_1_0)

/-- The bias's. -/
def REF1 (ce : FVec Ideal S8x2048 .f32) (cc : FVec Ideal S1x2048 .f32) (dm : FVec Ideal S8x768 .f32) (dc : FVec Ideal S8x768 .f32) (w : FVec Ideal S2048x768 .f32) : FVec Ideal S1x768 .f32 :=
  addf (broadcastInDim Cert.Reference8Ideal.S1x768 ![1] Cert.Reference8Ideal.Gen.bcast_S768_S1x768_1 (Host.reduceAdd dc (constant (F := Ideal) Cert.Reference8Ideal.S_ .f32 0x00000000#32) Cert.Reference8Ideal.Gen.reducesTo_S8x768_S768_d0 Cert.Reference8Ideal.Gen.h_S_)) (shapeCast _ (Host.reduceAdd dm (constant (F := Ideal) Cert.Reference8Ideal.S_ .f32 0x00000000#32) Cert.Reference8Ideal.Gen.reducesTo_S8x768_S768_d0 Cert.Reference8Ideal.Gen.h_S_) Cert.Reference8Ideal.Gen.shapeCasts_S768_S1x768)

/-- The context's embedding's. -/
def REF2 (ce : FVec Ideal S8x2048 .f32) (cc : FVec Ideal S1x2048 .f32) (dm : FVec Ideal S8x768 .f32) (dc : FVec Ideal S8x768 .f32) (w : FVec Ideal S2048x768 .f32) : FVec Ideal S1x2048 .f32 :=
  addf (mulf (Host.dotGeneral Cert.Reference8Ideal.dot_S1x768_S2048x768_S1x2048_1_1_0_0_n_n none (broadcastInDim Cert.Reference8Ideal.S1x768 ![1] Cert.Reference8Ideal.Gen.bcast_S768_S1x768_1 (Host.reduceAdd dc (constant (F := Ideal) Cert.Reference8Ideal.S_ .f32 0x00000000#32) Cert.Reference8Ideal.Gen.reducesTo_S8x768_S768_d0 Cert.Reference8Ideal.Gen.h_S_)) w) (Host.divf (broadcastInDim Cert.Reference8Ideal.S1x2048 ![] Cert.Reference8Ideal.Gen.bcast_S_S1x2048 (constant (F := Ideal) Cert.Reference8Ideal.S_ .f32 0x3F800000#32)) (addf (broadcastInDim Cert.Reference8Ideal.S1x2048 ![] Cert.Reference8Ideal.Gen.bcast_S_S1x2048 (constant (F := Ideal) Cert.Reference8Ideal.S_ .f32 0x3F800000#32)) (Host.exp (Host.negf cc))))) (mulf (mulf cc (Host.dotGeneral Cert.Reference8Ideal.dot_S1x768_S2048x768_S1x2048_1_1_0_0_n_n none (broadcastInDim Cert.Reference8Ideal.S1x768 ![1] Cert.Reference8Ideal.Gen.bcast_S768_S1x768_1 (Host.reduceAdd dc (constant (F := Ideal) Cert.Reference8Ideal.S_ .f32 0x00000000#32) Cert.Reference8Ideal.Gen.reducesTo_S8x768_S768_d0 Cert.Reference8Ideal.Gen.h_S_)) w)) (mulf (Host.divf (broadcastInDim Cert.Reference8Ideal.S1x2048 ![] Cert.Reference8Ideal.Gen.bcast_S_S1x2048 (constant (F := Ideal) Cert.Reference8Ideal.S_ .f32 0x3F800000#32)) (addf (broadcastInDim Cert.Reference8Ideal.S1x2048 ![] Cert.Reference8Ideal.Gen.bcast_S_S1x2048 (constant (F := Ideal) Cert.Reference8Ideal.S_ .f32 0x3F800000#32)) (Host.exp (Host.negf cc)))) (subf (broadcastInDim Cert.Reference8Ideal.S1x2048 ![] Cert.Reference8Ideal.Gen.bcast_S_S1x2048 (constant (F := Ideal) Cert.Reference8Ideal.S_ .f32 0x3F800000#32)) (Host.divf (broadcastInDim Cert.Reference8Ideal.S1x2048 ![] Cert.Reference8Ideal.Gen.bcast_S_S1x2048 (constant (F := Ideal) Cert.Reference8Ideal.S_ .f32 0x3F800000#32)) (addf (broadcastInDim Cert.Reference8Ideal.S1x2048 ![] Cert.Reference8Ideal.Gen.bcast_S_S1x2048 (constant (F := Ideal) Cert.Reference8Ideal.S_ .f32 0x3F800000#32)) (Host.exp (Host.negf cc)))))))

theorem rows_at (c : Dev nD) (x : Fin 16) (k : Fin 2048) : Rows m c (ix2 x k)
    = if h : (x : ℕ) < 8 then C m c (ix2 ⟨x, h⟩ k) else if (x : ℕ) = 8 then Cc m c (ix2 0 k) else 0 := by
  have e : Rows m c = _ := rows_eq m c
  rw [e]
  pointwise
  by_cases h : (x : ℕ) < 8
  · rw [dif_pos h, dif_pos h]
  · rw [dif_neg h, dif_neg h]
    by_cases h' : (x : ℕ) = 8
    · rw [if_pos h', dif_pos (by omega)]
      refine congrArg (Cc m c) (funext fun a => Fin.ext ?_)
      fin_cases a
      · show (x : ℕ) - 8 = 0; omega
      · rfl
    · rw [if_neg h', dif_neg (by omega)]

/-- The gate, in either spelling. -/
theorem gate (x : EReal) : Ideal.ofBits .f32 0x3F000000#32 * (Ideal.tanh (Ideal.ofBits .f32 0x3F000000#32 * x) + 1) = Ideal.div 1 (1 + Ideal.exp (-x)) := by
  rw [Cert.Finite.half_bits]
  exact Cert.Finite.logistic_tanh x

/-- A number times its gate. -/
def gated (v : EReal) : EReal := v * Ideal.div 1 (1 + Ideal.exp (-v))

theorem weight_at (c : Dev nD) (j : S2048x768.Idx) : k0_pay6 (F := Ideal) (Rows m c) (Dc m c) (Dm m c) j = REF0 (C m c) (Cc m c) (Dm m c) (Dc m c) (Wa m c) j := by
  generalize hr : Rows m c = r
  have hrow := rows_at m c
  rw [hr] at hrow
  pointwise [k0_pay6, k0_pay2, k0_pay3, k0_pay5, k0_pay4, REF0]
  simp only [gate]
  refine (Fin.sum_univ_add (a := 8) (b := 8) (fun x : Fin 16 => r (ix2 x (j 0)) * Ideal.div 1 (1 + Ideal.exp (-r (ix2 x (j 0)))) *
        if h : (x : ℕ) < 8 then Dm m c (ix2 ⟨(x : ℕ), h⟩ (j 1)) else if h : (x : ℕ) - 8 < 1 then ∑ x, Dc m c (ix2 x (j 1)) else 0)).trans ?_
  rw [add_comm]
  refine congrArg₂ (· + ·) ?_ (Finset.sum_congr rfl fun x _ => ?_)
  · rw [Finset.sum_eq_single (0 : Fin 8) ?_ (fun h => absurd (Finset.mem_univ _) h), Fin.sum_univ_one]
    · have e : r (ix2 (Fin.natAdd 8 (0 : Fin 8) : Fin 16) (j 0)) = Cc m c (ix2 0 (j 0)) := (hrow _ _).trans ((dif_neg (by decide)).trans (if_pos (by decide)))
      exact (congrArg₂ (· * ·) (congrArg gated e) ((dif_neg (by decide)).trans (dif_pos (by decide)))).trans (mul_comm _ _)
    · intro b _ hb
      have hb' : 0 < (b : ℕ) := Fin.pos_iff_ne_zero.mpr hb
      have e : ((Fin.natAdd 8 b : Fin 16) : ℕ) = 8 + b := rfl
      rw [dif_neg (by omega), dif_neg (by omega), mul_zero]
  · have e : ((Fin.castAdd 8 x : Fin 16) : ℕ) = x := rfl
    have hx : ((Fin.castAdd 8 x : Fin 16) : ℕ) < 8 := by have := x.isLt; omega
    have er : r (ix2 (Fin.castAdd 8 x) (j 0)) = C m c (ix2 x (j 0)) := (hrow _ _).trans (dif_pos hx)
    exact (congrArg₂ (· * ·) (congrArg gated er) (dif_pos hx)).trans (mul_comm _ _)

theorem bias_at (c : Dev nD) (j : S1x768.Idx) : k0_pay7 (F := Ideal) (Dc m c) (Dm m c) j = REF1 (C m c) (Cc m c) (Dm m c) (Dc m c) (Wa m c) j := by
  pointwise [k0_pay7, k0_pay4, REF1]
  exact add_comm _ _

theorem embed_at (c : Dev nD) (hcc : ∀ i, ∃ r : ℝ, Cc m c i = r) (hdc : ∀ i, ∃ r : ℝ, Dc m c i = r) (hw : ∀ i, ∃ r : ℝ, Wa m c i = r) (j : S1x2048.Idx) :
    k0_pay1 (F := Ideal) (k0_pay8 (Rows m c)) (k0_pay9 (Dc m c) (Dm m c) (Wa m c)) (k0_pay10 (Rows m c)) k0_pay11 j
      = REF2 (C m c) (Cc m c) (Dm m c) (Dc m c) (Wa m c) j := by
  have hr : Rows m c (ix2 8 (j 1)) = Cc m c j := by
    refine (rows_at m c 8 (j 1)).trans ((dif_neg (by decide)).trans ((if_pos (by decide)).trans ?_))
    refine congrArg (Cc m c) (funext fun a => Fin.ext ?_)
    have h0 : (j 0 : ℕ) < 1 := (j 0).isLt
    fin_cases a
    · show 0 = (j 0 : ℕ); omega
    · rfl
  generalize Rows m c = r at *
  pointwise [k0_pay1, k0_pay8, k0_pay9, k0_pay10, k0_pay11, k0_pay2, k0_pay3, k0_pay5, k0_pay4, REF2]
  simp only [gate]
  refine (congrArg (fun v : EReal => _ * (Ideal.div 1 (1 + Ideal.exp (-v)) * (1 + v * (1 - Ideal.div 1 (1 + Ideal.exp (-v)))))) hr).trans ?_
  exact Cert.Finite.gate_real (Cert.Finite.real_sum _ fun x => Cert.Finite.real_mul (Cert.Finite.real_sum _ fun _ => hdc _) (hw _)) (hcc j)

/-- The precondition, read: the context's embedding, its cotangent and the weight are finite. -/
theorem finite (h : Cert.Pre_Kernel8Ideal_tame m) (c : Dev nD) : (∀ i, ∃ r : ℝ, Cc m c i = r) ∧ (∀ i, ∃ r : ℝ, Dc m c i = r) ∧ (∀ i, ∃ r : ℝ, Wa m c i = r) := by
  have e := congrFun (h c) (fun a => a.elim0)
  obtain ⟨e1, e2⟩ := IntOp.andi_eq_one.mp e
  obtain ⟨e3, e4⟩ := IntOp.andi_eq_one.mp e1
  exact ⟨Cert.Finite.real_of_all _ _ _ _ _ e3, Cert.Finite.real_of_all _ _ _ _ _ e4, Cert.Finite.real_of_all _ _ _ _ _ e2⟩

end Cert.Kernel8Ideal.Mod

namespace Cert.Proof

open Cert.Kernel8Ideal.Mod

/-- The reference keeps its arguments, and it declares no semaphore. -/
theorem frame_ref_mod : Cert.quiescent_Reference8Ideal := fun m ρ _ =>
  (θ_run Cert.Reference8Ideal.defs _ _).mono
    (fun r h => ⟨fun c => (h c).2.2.2, sem_eq_zero_of_no_sems (by decide) r.2⟩)
    (Cert.Reference8Ideal.Value.run (F := Ideal) m ρ)

theorem algebraic_mod : Cert.algebraic_Kernel8Ideal_Reference8Ideal_pre_tame := by
  intro m ρ m' ρ' hpre hagree
  refine ⟨_, _, _, Cert.Kernel8Ideal.Value.run_blocks m ρ, ?_⟩
  have hrun := Cert.Reference8Ideal.Value.run (F := Ideal) m' ρ'
  refine (θ_run _ _ _).mono (fun _ h c => ⟨(h c).1.trans ?_, (h c).2.1.trans ?_, (h c).2.2.1.trans ?_, (h c).2.2.2⟩) hrun
  all_goals
    obtain ⟨a0, a1, a2, a3, a4⟩ := hagree c
    simp only [a0, a1, a2, a3, a4]
  · rw [final4 m c]; exact (funext fun j => weight_at m c j).symm
  · rw [final5 m c]; exact (funext fun j => bias_at m c j).symm
  · obtain ⟨h1, h2, h3⟩ := finite m hpre c
    rw [final6 m c]; exact (funext fun j => embed_at m c h1 h2 h3 j).symm

end Cert.Proof

end
-- ==== Proof.Norm.lean ====
/-
The gradient of a row's root-mean-square norm: the two spellings, the kernel's with the normalised row and the derivative's
with the cube of the reciprocal root, agree where the row's entries are reals.
-/
module

public import proofs.«01_k».proof.Proof.Finite

@[expose] public section

noncomputable section

namespace Cert.Norm

open Idealize.ShloMosaic

theorem width_bits : Ideal.ofBits .f32 0x45000000#32 = ((2048 : ℝ) : EReal) := by
  simp [Ideal.ofBits, Ideal.ieee, -EReal.coe_mul]; norm_num

theorem minus_half_bits : Ideal.ofBits .f32 0xBF000000#32 = ((-1 / 2 : ℝ) : EReal) := by
  simp [Ideal.ofBits, Ideal.ieee, -EReal.coe_mul]; norm_num

theorem eps_bits : ∃ e : ℝ, 0 < e ∧ Ideal.ofBits .f32 0x358637BD#32 = (e : EReal) := by
  refine ⟨_, ?_, by simp [Ideal.ofBits, Ideal.ieee, -EReal.coe_mul]; rfl⟩
  norm_num

/-- Quotients of reals by a real that is not zero. -/
theorem div_coe (a b : ℝ) (hb : b ≠ 0) : Ideal.div (a : EReal) (b : EReal) = ((a / b : ℝ) : EReal) := by
  unfold Ideal.div
  rw [if_neg (by exact_mod_cast hb), ← EReal.coe_inv, ← EReal.coe_mul, div_eq_mul_inv]

theorem coe_sum {ι : Type} [Fintype ι] (f : ι → ℝ) : (∑ i, (f i : EReal)) = ((∑ i, f i : ℝ) : EReal) := by
  classical
  induction (Finset.univ : Finset ι) using Finset.induction_on with
  | empty => simp
  | insert a s ha ih => rw [Finset.sum_insert ha, Finset.sum_insert ha, ih, EReal.coe_add]

/-- The mean square of a row with the guard added. -/
abbrev var {n : Nat} (x : Fin n → EReal) : EReal :=
  Ideal.div (∑ k, x k * x k) (Ideal.ofBits .f32 0x45000000#32) + Ideal.ofBits .f32 0x358637BD#32

theorem var_real {n : Nat} (x : Fin n → ℝ) : ∃ v : ℝ, 0 < v ∧ var (fun k => (x k : EReal)) = v := by
  obtain ⟨e, he, hb⟩ := eps_bits
  refine ⟨(∑ k, x k * x k) / 2048 + e, ?_, ?_⟩
  · have : 0 ≤ ∑ k, x k * x k := Finset.sum_nonneg fun k _ => mul_self_nonneg _
    positivity
  · show Ideal.div (∑ k, (x k : EReal) * (x k : EReal)) _ + _ = _
    simp only [← EReal.coe_mul]
    rw [coe_sum, width_bits, hb, div_coe _ _ (by norm_num), ← EReal.coe_add]

theorem rsqrt_pos {v : ℝ} (hv : 0 < v) : Ideal.rsqrt (v : EReal) = (((Real.sqrt v)⁻¹ : ℝ) : EReal) := by
  rw [Ideal.rsqrt_coe, if_neg hv.not_gt, if_neg hv.ne']

/-- The mean of a row's products with its cotangent, as the derivative of the reciprocal root carries it. -/
abbrev back {n : Nat} (x y : Fin n → EReal) : EReal :=
  Ideal.div ((∑ k, x k * y k) * (Ideal.ofBits .f32 0xBF000000#32 * Ideal.div (Ideal.rsqrt (var x)) (var x))) (Ideal.ofBits .f32 0x45000000#32)

theorem norm_back {n : Nat} (x y : Fin n → EReal) (o : EReal) (hx : ∀ k, ∃ r : ℝ, x k = r) (hy : ∀ k, ∃ r : ℝ, y k = r) (q : Fin n) :
    o + y q * Ideal.rsqrt (var x) + x q * back x y + back x y * x q
      = Ideal.rsqrt (var x) * (y q - x q * Ideal.rsqrt (var x) * Ideal.div (∑ k, y k * (x k * Ideal.rsqrt (var x))) (Ideal.ofBits .f32 0x45000000#32)) + o := by
  choose a ha using hx
  choose b hb using hy
  obtain rfl : x = fun k => (a k : EReal) := funext ha
  obtain rfl : y = fun k => (b k : EReal) := funext hb
  obtain ⟨v, hv, e⟩ := var_real a
  obtain ⟨c, hc⟩ : ∃ c : ℝ, c = -1 / 2 := ⟨_, rfl⟩
  unfold back
  rw [e, rsqrt_pos hv, width_bits, minus_half_bits, ← hc, div_coe _ _ hv.ne']
  simp only [← EReal.coe_mul]
  rw [coe_sum, coe_sum]
  simp only [← EReal.coe_mul]
  rw [div_coe _ _ (by norm_num), div_coe _ _ (by norm_num)]
  have h : ∑ k, b k * (a k * (Real.sqrt v)⁻¹) = (∑ k, a k * b k) * (Real.sqrt v)⁻¹ := by
    rw [Finset.sum_mul]; exact Finset.sum_congr rfl fun k _ => by ring
  rw [h]
  generalize ∑ k, a k * b k = S
  have hs : Real.sqrt v ≠ 0 := (Real.sqrt_pos.mpr hv).ne'
  have hq : v = Real.sqrt v * Real.sqrt v := (Real.mul_self_sqrt hv.le).symm
  have key : b q * (Real.sqrt v)⁻¹ + a q * (S * (c * ((Real.sqrt v)⁻¹ / v)) / 2048) + S * (c * ((Real.sqrt v)⁻¹ / v)) / 2048 * a q
      = (Real.sqrt v)⁻¹ * (b q - a q * (Real.sqrt v)⁻¹ * (S * (Real.sqrt v)⁻¹ / 2048)) := by
    have : (Real.sqrt v)⁻¹ / v = (Real.sqrt v)⁻¹ * (Real.sqrt v)⁻¹ * (Real.sqrt v)⁻¹ := by
      rw [div_eq_mul_inv, show v⁻¹ = (Real.sqrt v)⁻¹ * (Real.sqrt v)⁻¹ by rw [← mul_inv, ← hq]]; ring
    rw [this, hc]; ring
  norm_cast
  rw [add_assoc, add_assoc, add_comm _ o]
  norm_cast
  rw [← add_assoc, key]

end Cert.Norm

end
-- ==== Proof.InValue.lean ====
/-
The gradients of the latents' norm, modulation and projection: what one grid point leaves, and the arrays in the end.
-/
module

public import proofs.«01_k».proof.Proof.Gen.Kernel7Ideal.Value
public import proofs.«01_k».proof.Proof.Gen.Reference7Ideal.Run
public import proofs.«01_k».proof.Proof.Gen.Pre_plain
public import proofs.«01_k».proof.Proof.Norm
public import proofs.«01_k».proof.Defs
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)
open Idealize.ShloMosaic.Tactic

namespace Cert.Kernel7Ideal.In

open Cert.Kernel7Ideal Cert.Kernel7Ideal.Gen

variable (m : (ℓ : Loc nD τ sig) → Buf (Elt Ideal) ℓ)

theorem idx : ∀ t : Fin cfg0.N, win0_0.index t = ![t.val, 0] ∧ win0_1.index t = ![t.val, 0] ∧ win0_2.index t = ![t.val, 0]
    ∧ win0_3.index t = ![t.val, 0] ∧ win0_4.index t = ![t.val, 0] ∧ win0_5.index t = ![t.val, 0] ∧ win0_6.index t = ![0, 0, 0]
    ∧ win0_7.index t = ![0, 0] ∧ win0_8.index t = ![0, 0] ∧ win0_9.index t = ![0, 0] ∧ win0_10.index t = ![0, 0]
    ∧ win0_11.index t = ![0, 0] ∧ win0_12.index t = ![t.val, 0] ∧ win0_13.index t = ![t.val, 0] ∧ win0_14.index t = ![0, 0]
    ∧ win0_15.index t = ![0, 0] ∧ win0_16.index t = ![0, 0] :=
  (by decide +kernel : ∀ t : Fin grid0.N, _)

theorem N_lt : ∀ t : Fin cfg0.N, t.val < 32 := (by decide +kernel : ∀ t : Fin grid0.N, _)

/-- The residual stream, its cotangent, the branches' cotangents, the projection weight, and the rows of vectors. -/
abbrev X (c : Dev nD) : FVec Ideal S8192x2048 .f32 := m ((c : Thread nD τ).loc main_arg0)
abbrev Dxo (c : Dev nD) : FVec Ideal S8192x2048 .f32 := m ((c : Thread nD τ).loc main_arg1)
abbrev Dup (c : Dev nD) : FVec Ideal S8192x1024 .f32 := m ((c : Thread nD τ).loc main_arg2)
abbrev Du5 (c : Dev nD) : FVec Ideal S8192x1024 .f32 := m ((c : Thread nD τ).loc main_arg3)
abbrev Dyp (c : Dev nD) : FVec Ideal S8192x1024 .f32 := m ((c : Thread nD τ).loc main_arg4)
abbrev Dz (c : Dev nD) : FVec Ideal S8192x2048 .f32 := m ((c : Thread nD τ).loc main_arg5)
abbrev Wt (c : Dev nD) : FVec Ideal S2048x4096 .f32 := m ((c : Thread nD τ).loc main_arg6)
abbrev Ng (c : Dev nD) : FVec Ideal S1x2048 .f32 := m ((c : Thread nD τ).loc main_arg7)
abbrev Sc (c : Dev nD) : FVec Ideal S1x2048 .f32 := m ((c : Thread nD τ).loc main_arg8)
abbrev Sh (c : Dev nD) : FVec Ideal S1x2048 .f32 := m ((c : Thread nD τ).loc main_arg9)
abbrev Dk (c : Dev nD) : FVec Ideal S1x1024 .f32 := m ((c : Thread nD τ).loc main_arg10)
abbrev Gi (c : Dev nD) : FVec Ideal S1x2048 .f32 := m ((c : Thread nD τ).loc main_arg11)

/-- The gathered projection weight as the region finds it: device `a`'s columns of the argument. -/
theorem entry_w (c : Dev nD) (x : S8x2048x512.Idx) : V m c main_v2 x
    = Wt m c (ix2 (x 1) ⟨(x 0).val * 512 + (x 2).val, by have := (x 0).isLt; have := (x 2).isLt; change (x 0).val < 8 at *; change (x 2).val < 512 at *; omega⟩) := by
  entry_read
  pointwise

/-- The cotangent of the projection, entry by entry. -/
def DP (c : Dev nD) (r : Fin 8192) (k : Fin 4096) : EReal :=
  if h : (k : ℕ) < 1024 then Dup m c (ix2 r ⟨k, h⟩)
  else if h : (k : ℕ) < 2048 then Du5 m c (ix2 r ⟨k - 1024, by omega⟩) + Dk m c (ix2 0 ⟨k - 1024, by omega⟩) * Dyp m c (ix2 r ⟨k - 1024, by omega⟩)
  else Dz m c (ix2 r ⟨k - 2048, by omega⟩)

/-- The row of the arrays that row `p` of point `t`'s block is. -/
def row (t : Fin cfg0.N) (p : Fin 256) : Fin 8192 := ⟨t.val * 256 + p, by have := N_lt t; omega⟩

/-- One block of the projection's cotangent. -/
abbrev dp (c : Dev nD) (t : Fin cfg0.N) : FVec Ideal S256x4096 .bf16 :=
  k0_pay4 (F := Ideal) (iblk m c 2 t) (iblk m c 3 t) (iblk m c 10 t) (iblk m c 4 t) (iblk m c 5 t)

theorem dp_at (c : Dev nD) (t : Fin cfg0.N) (p : Fin 256) (k : Fin 4096) : dp m c t (ix2 p k) = DP m c (row t p) k := by
  pointwise [dp, k0_pay4, DP]
  by_cases h : (k : ℕ) < 1024
  · rw [dif_pos h, dif_pos h]
    blk_ext [iblk, V, idx t, row]
  · rw [dif_neg h, dif_neg h]
    by_cases h' : (k : ℕ) < 2048
    · rw [dif_pos (by omega), dif_pos h']
      congr 1
      · blk_ext [iblk, V, idx t, row]
      · congr 1 <;> blk_ext [iblk, V, idx t, row]
    · rw [dif_neg (by omega), dif_neg h']
      blk_ext [iblk, V, idx t, row]

/-- The cotangent of the modulated rows, entry by entry. -/
def DH (c : Dev nD) (r : Fin 8192) (q : Fin 2048) : EReal := ∑ k : Fin 4096, DP m c r k * Wt m c (ix2 q k)

/-- A sum over 4096 lanes, by eight devices' columns. -/
theorem eighths (f : Fin 4096 → EReal) : ∑ k, f k
    = ∑ k : Fin 512, f ⟨k, by omega⟩ + ∑ k : Fin 512, f ⟨512 + k, by omega⟩ + ∑ k : Fin 512, f ⟨1024 + k, by omega⟩
      + ∑ k : Fin 512, f ⟨1536 + k, by omega⟩ + ∑ k : Fin 512, f ⟨2048 + k, by omega⟩ + ∑ k : Fin 512, f ⟨2560 + k, by omega⟩
      + ∑ k : Fin 512, f ⟨3072 + k, by omega⟩ + ∑ k : Fin 512, f ⟨3584 + k, by omega⟩ := by
  have e : ∑ s : Fin 8, ∑ k : Fin 512, f ⟨s * 512 + k, by omega⟩ = ∑ k, f k :=
    Fin.sum_mul_add_congr fun s k hl => rfl
  rw [← e]
  simp only [Fin.sum_univ_eight]
  rfl

/-- One block of the modulated rows' cotangent. -/
abbrev dh (c : Dev nD) (t : Fin cfg0.N) : FVec Ideal S256x2048 .f32 :=
  k0_pay7 (F := Ideal) (dp m c t)
    (k0_pay5 (iblk m c 2 t) (iblk m c 3 t) (iblk m c 10 t) (iblk m c 4 t) (iblk m c 5 t) (View.ld (iblk m c 6 t) (Rect.unit ![0, 0, 0] ![1, 2048, 512] inb_S8x2048x512_S1x2048x512_0_0_0))
      (View.ld (iblk m c 6 t) (Rect.unit ![1, 0, 0] ![1, 2048, 512] inb_S8x2048x512_S1x2048x512_1_0_0)) (View.ld (iblk m c 6 t) (Rect.unit ![2, 0, 0] ![1, 2048, 512] inb_S8x2048x512_S1x2048x512_2_0_0)))
    (k0_pay6 (iblk m c 2 t) (iblk m c 3 t) (iblk m c 10 t) (iblk m c 4 t) (iblk m c 5 t))
    (View.ld (iblk m c 6 t) (Rect.unit ![3, 0, 0] ![1, 2048, 512] inb_S8x2048x512_S1x2048x512_3_0_0)) (View.ld (iblk m c 6 t) (Rect.unit ![4, 0, 0] ![1, 2048, 512] inb_S8x2048x512_S1x2048x512_4_0_0))
    (View.ld (iblk m c 6 t) (Rect.unit ![5, 0, 0] ![1, 2048, 512] inb_S8x2048x512_S1x2048x512_5_0_0)) (View.ld (iblk m c 6 t) (Rect.unit ![6, 0, 0] ![1, 2048, 512] inb_S8x2048x512_S1x2048x512_6_0_0))
    (View.ld (iblk m c 6 t) (Rect.unit ![7, 0, 0] ![1, 2048, 512] inb_S8x2048x512_S1x2048x512_7_0_0))

theorem dh_at (c : Dev nD) (t : Fin cfg0.N) (p : Fin 256) (q : Fin 2048) : dh m c t (ix2 p q) = DH m c (row t p) q := by
  have hw : iblk m c 6 t = V m c main_v2 := by blk_ext! [iblk, V, idx t]
  have hd := dp_at m c t p
  have hv : ∀ (a : Fin 8) (k : Fin 512) (n : Fin 4096), (n : ℕ) = a * 512 + k → V m c main_v2 (ix3 a q k) = Wt m c (ix2 q n) := fun a k n h =>
    (entry_w m c _).trans (congrArg (fun n => Wt m c (ix2 q n)) (Fin.ext h.symm))
  unfold DH dh dp
  rw [hw, eighths]
  unfold k0_pay5 k0_pay6
  unfold dp at hd
  generalize k0_pay4 (F := Ideal) (iblk m c 2 t) (iblk m c 3 t) (iblk m c 10 t) (iblk m c 4 t) (iblk m c 5 t) = D at *
  pointwise [k0_pay7]
  iterate 7 refine congrArg₂ (· + ·) ?_ ?_
  all_goals
    refine Finset.sum_congr rfl fun k _ => ?_
    refine congrArg₂ (· * ·) (hd _) (hv _ _ _ ?_)
    first | (show (k : ℕ) = 0 * 512 + (k : ℕ); omega) | rfl

/-- The reciprocal root mean square of a row. -/
def RS (c : Dev nD) (r : Fin 8192) : EReal :=
  Ideal.rsqrt (Ideal.div (∑ k : Fin 2048, X m c (ix2 r k) * X m c (ix2 r k)) (Ideal.ofBits .f32 0x45000000#32) + Ideal.ofBits .f32 0x358637BD#32)

theorem rs_at (c : Dev nD) (t : Fin cfg0.N) (p : Fin 256) : k0_pay8 (F := Ideal) (iblk m c 0 t) (ix2 p 0) = RS m c (row t p) := by
  pointwise [k0_pay8, RS]
  blk_point [iblk, V, idx t, row]

theorem xh_at (c : Dev nD) (t : Fin cfg0.N) (p : Fin 256) (q : Fin 2048) : k0_pay9 (F := Ideal) (iblk m c 0 t) (ix2 p q) = X m c (ix2 (row t p) q) * RS m c (row t p) := by
  rw [← rs_at m c t p]
  pointwise [k0_pay9]
  congr 1
  blk_ext [iblk, V, idx t, row]

theorem zero14 (j : S1x2048.Idx) : k0_pay2 (F := Ideal) j = 0 := by pointwise [k0_pay2]
theorem zero15 (j : S1x2048.Idx) : k0_pay3 (F := Ideal) j = 0 := by pointwise [k0_pay3]

theorem add14 (d xh : FVec Ideal S256x2048 .f32) (g acc : FVec Ideal S1x2048 .f32) (j : S1x2048.Idx) : k0_pay12 (F := Ideal) d xh g acc j
    = acc j + ∑ p : Fin 256, d (ix2 p (j 1)) * (xh (ix2 p (j 1)) * g (ix2 0 (j 1))) := by
  pointwise [k0_pay12]

theorem add15 (d : FVec Ideal S256x2048 .f32) (acc : FVec Ideal S1x2048 .f32) (j : S1x2048.Idx) : k0_pay11 (F := Ideal) d acc j
    = acc j + ∑ p : Fin 256, d (ix2 p (j 1)) := by
  pointwise [k0_pay11]

theorem add16 (d xh : FVec Ideal S256x2048 .f32) (sc acc : FVec Ideal S1x2048 .f32) (j : S1x2048.Idx) : k0_pay13 (F := Ideal) d xh sc acc j
    = acc j + ∑ p : Fin 256, d (ix2 p (j 1)) * (1 + sc (ix2 0 (j 1))) * xh (ix2 p (j 1)) := by
  pointwise [k0_pay13, k0_pay10]

theorem g_at (c : Dev nD) (t : Fin cfg0.N) (q : Fin 2048) : iblk m c 7 t (ix2 0 q) = Ng m c (ix2 0 q) := by
  blk_ext [iblk, V, idx t]

theorem sc_at (c : Dev nD) (t : Fin cfg0.N) (q : Fin 2048) : iblk m c 8 t (ix2 0 q) = Sc m c (ix2 0 q) := by
  blk_ext [iblk, V, idx t]

theorem acc14 (c : Dev nD) (t : Fin cfg0.N) (ht : t.val % 32 = 31) (y : S1x2048.Idx) : (outsAt0 m c t.val t.isLt).2.2.1 y
    = ∑ r : Fin 8192, DH m c r (y 1) * (X m c (ix2 r (y 1)) * RS m c r * Ng m c (ix2 0 (y 1))) := by
  rw [Pipeline.eq_sum_fin_of_reset_step_apply_of_flush (fun n h => (outsAt0 m c n h).2.2.1) 32 (fun _ => 0) (fun t y => ∑ p : Fin 256, DH m c (row t p) (y 1) * (X m c (ix2 (row t p) (y 1)) * RS m c (row t p) * Ng m c (ix2 0 (y 1))))
    (fun t h j => by
      rw [outsAt0_A m c t h]; frame_out
      rw [add14, zero14]
      refine congrArg (0 + ·) ?_
      exact Finset.sum_congr rfl fun p _ => congrArg₂ (· * ·) (dh_at m c t p _) (congrArg₂ (· * ·) (xh_at m c t p _) (g_at m c t _)))
    (fun t h j => by
      rw [outsAt0_B m c t h]; frame_out
      rw [add14]
      refine congrArg (_ + ·) ?_
      exact Finset.sum_congr rfl fun p _ => congrArg₂ (· * ·) (dh_at m c t p _) (congrArg₂ (· * ·) (xh_at m c t p _) (g_at m c t _)))
    t ht _, zero_add]

  refine Fin.sum_mul_add_congr fun s p hl => ?_
  have e : row ⟨32 * (t.val / 32) + s.val, Pipeline.run_point_lt_of_flush t ht s⟩ p = ⟨s * 256 + p, hl⟩ :=
    Fin.ext (by show (32 * (t.val / 32) + s.val) * 256 + p = s * 256 + (p : ℕ); have := N_lt t; omega)
  rw [e]

theorem acc15 (c : Dev nD) (t : Fin cfg0.N) (ht : t.val % 32 = 31) (y : S1x2048.Idx) : (outsAt0 m c t.val t.isLt).2.2.2.1 y
    = ∑ r : Fin 8192, DH m c r (y 1) := by
  rw [Pipeline.eq_sum_fin_of_reset_step_apply_of_flush (fun n h => (outsAt0 m c n h).2.2.2.1) 32 (fun _ => 0) (fun t y => ∑ p : Fin 256, DH m c (row t p) (y 1))
    (fun t h j => by
      rw [outsAt0_A m c t h]; frame_out
      rw [add15, zero15]
      refine congrArg (0 + ·) ?_
      exact Finset.sum_congr rfl fun p _ => dh_at m c t p _)
    (fun t h j => by
      rw [outsAt0_B m c t h]; frame_out
      rw [add15]
      refine congrArg (_ + ·) ?_
      exact Finset.sum_congr rfl fun p _ => dh_at m c t p _)
    t ht _, zero_add]

  refine Fin.sum_mul_add_congr fun s p hl => ?_
  have e : row ⟨32 * (t.val / 32) + s.val, Pipeline.run_point_lt_of_flush t ht s⟩ p = ⟨s * 256 + p, hl⟩ :=
    Fin.ext (by show (32 * (t.val / 32) + s.val) * 256 + p = s * 256 + (p : ℕ); have := N_lt t; omega)
  rw [e]

theorem acc16 (c : Dev nD) (t : Fin cfg0.N) (ht : t.val % 32 = 31) (y : S1x2048.Idx) : (outsAt0 m c t.val t.isLt).2.2.2.2 y
    = Gi m c y + ∑ r : Fin 8192, DH m c r (y 1) * (1 + Sc m c (ix2 0 (y 1))) * (X m c (ix2 r (y 1)) * RS m c r) := by
  rw [Pipeline.eq_sum_fin_of_reset_step_apply_of_flush (fun n h => (outsAt0 m c n h).2.2.2.2) 32 (fun y => Gi m c y) (fun t y => ∑ p : Fin 256, DH m c (row t p) (y 1) * (1 + Sc m c (ix2 0 (y 1))) * (X m c (ix2 (row t p) (y 1)) * RS m c (row t p)))
    (fun t h j => by
      rw [outsAt0_A m c t h]; frame_out
      rw [add16]
      refine congrArg₂ (· + ·) (by blk_ext [iblk, V, idx t]) ?_
      exact Finset.sum_congr rfl fun p _ => congrArg₂ (· * ·) (congrArg₂ (· * ·) (dh_at m c t p _) (congrArg (1 + ·) (sc_at m c t _))) (xh_at m c t p _))
    (fun t h j => by
      rw [outsAt0_B m c t h]; frame_out
      rw [add16]
      refine congrArg (_ + ·) ?_
      exact Finset.sum_congr rfl fun p _ => congrArg₂ (· * ·) (congrArg₂ (· * ·) (dh_at m c t p _) (congrArg (1 + ·) (sc_at m c t _))) (xh_at m c t p _))
    t ht _]
  refine congrArg (_ + ·) ?_
  refine Fin.sum_mul_add_congr fun s p hl => ?_
  have e : row ⟨32 * (t.val / 32) + s.val, Pipeline.run_point_lt_of_flush t ht s⟩ p = ⟨s * 256 + p, hl⟩ :=
    Fin.ext (by show (32 * (t.val / 32) + s.val) * 256 + p = s * 256 + (p : ℕ); have := N_lt t; omega)
  rw [e]

/-- The residual stream's gradient in the reference. -/
def REF0 (x : FVec Ideal S8192x2048 .f32) (dxo : FVec Ideal S8192x2048 .f32) (dup : FVec Ideal S8192x1024 .f32) (d5 : FVec Ideal S8192x1024 .f32) (dy : FVec Ideal S8192x1024 .f32) (dz : FVec Ideal S8192x2048 .f32) (w : FVec Ideal S2048x4096 .f32) (g : FVec Ideal S1x2048 .f32) (sc : FVec Ideal S1x2048 .f32) (sh : FVec Ideal S1x2048 .f32) (dk : FVec Ideal S1x1024 .f32) (gi : FVec Ideal S1x2048 .f32) : FVec Ideal S8192x2048 .f32 :=
  addf (addf (addf dxo (mulf (mulf (mulf (Host.dotGeneral Cert.Reference7Ideal.dot_S8192x4096_S2048x4096_S8192x2048_1_1_0_0_n_n none (addf (addf (pad Cert.Reference7Ideal.S8192x4096 ![0, 2048] ![0, 0] ![0, 0] dz (constant (F := Ideal) Cert.Reference7Ideal.S_ .f32 0x00000000#32) Cert.Reference7Ideal.Gen.pads_S8192x2048_S8192x4096_000_204800 Cert.Reference7Ideal.Gen.h_S_) (pad Cert.Reference7Ideal.S8192x4096 ![0, 1024] ![0, 2048] ![0, 0] (addf d5 (mulf (broadcastInDim Cert.Reference7Ideal.S8192x1024 ![0, 1] Cert.Reference7Ideal.Gen.bcast_S1x1024_S8192x1024_0_1 dk) dy)) (constant (F := Ideal) Cert.Reference7Ideal.S_ .f32 0x00000000#32) Cert.Reference7Ideal.Gen.pads_S8192x1024_S8192x4096_000_102420480 Cert.Reference7Ideal.Gen.h_S_)) (pad Cert.Reference7Ideal.S8192x4096 ![0, 0] ![0, 3072] ![0, 0] dup (constant (F := Ideal) Cert.Reference7Ideal.S_ .f32 0x00000000#32) Cert.Reference7Ideal.Gen.pads_S8192x1024_S8192x4096_000_030720 Cert.Reference7Ideal.Gen.h_S_)) w) (broadcastInDim Cert.Reference7Ideal.S8192x2048 ![0, 1] Cert.Reference7Ideal.Gen.bcast_S1x2048_S8192x2048_0_1 (addf (broadcastInDim Cert.Reference7Ideal.S1x2048 ![] Cert.Reference7Ideal.Gen.bcast_S_S1x2048 (constant (F := Ideal) Cert.Reference7Ideal.S_ .f32 0x3F800000#32)) sc))) (broadcastInDim Cert.Reference7Ideal.S8192x2048 ![0, 1] Cert.Reference7Ideal.Gen.bcast_S1x2048_S8192x2048_0_1 g)) (broadcastInDim Cert.Reference7Ideal.S8192x2048 ![0, 1] Cert.Reference7Ideal.Gen.bcast_S8192x1_S8192x2048_0_1 (Host.rsqrt (addf (Host.divf (broadcastInDim Cert.Reference7Ideal.S8192x1 ![0] Cert.Reference7Ideal.Gen.bcast_S8192_S8192x1_0 (Host.reduceAdd (mulf x x) (constant (F := Ideal) Cert.Reference7Ideal.S_ .f32 0x00000000#32) Cert.Reference7Ideal.Gen.reducesTo_S8192x2048_S8192_d1 Cert.Reference7Ideal.Gen.h_S_)) (broadcastInDim Cert.Reference7Ideal.S8192x1 ![] Cert.Reference7Ideal.Gen.bcast_S_S8192x1 (constant (F := Ideal) Cert.Reference7Ideal.S_ .f32 0x45000000#32))) (broadcastInDim Cert.Reference7Ideal.S8192x1 ![] Cert.Reference7Ideal.Gen.bcast_S_S8192x1 (constant (F := Ideal) Cert.Reference7Ideal.S_ .f32 0x358637BD#32))))))) (mulf x (broadcastInDim Cert.Reference7Ideal.S8192x2048 ![0] Cert.Reference7Ideal.Gen.bcast_S8192_S8192x2048_0 (Host.reduceAdd (Host.divf (mulf (shapeCast _ (Host.reduceAdd (mulf x (mulf (mulf (Host.dotGeneral Cert.Reference7Ideal.dot_S8192x4096_S2048x4096_S8192x2048_1_1_0_0_n_n none (addf (addf (pad Cert.Reference7Ideal.S8192x4096 ![0, 2048] ![0, 0] ![0, 0] dz (constant (F := Ideal) Cert.Reference7Ideal.S_ .f32 0x00000000#32) Cert.Reference7Ideal.Gen.pads_S8192x2048_S8192x4096_000_204800 Cert.Reference7Ideal.Gen.h_S_) (pad Cert.Reference7Ideal.S8192x4096 ![0, 1024] ![0, 2048] ![0, 0] (addf d5 (mulf (broadcastInDim Cert.Reference7Ideal.S8192x1024 ![0, 1] Cert.Reference7Ideal.Gen.bcast_S1x1024_S8192x1024_0_1 dk) dy)) (constant (F := Ideal) Cert.Reference7Ideal.S_ .f32 0x00000000#32) Cert.Reference7Ideal.Gen.pads_S8192x1024_S8192x4096_000_102420480 Cert.Reference7Ideal.Gen.h_S_)) (pad Cert.Reference7Ideal.S8192x4096 ![0, 0] ![0, 3072] ![0, 0] dup (constant (F := Ideal) Cert.Reference7Ideal.S_ .f32 0x00000000#32) Cert.Reference7Ideal.Gen.pads_S8192x1024_S8192x4096_000_030720 Cert.Reference7Ideal.Gen.h_S_)) w) (broadcastInDim Cert.Reference7Ideal.S8192x2048 ![0, 1] Cert.Reference7Ideal.Gen.bcast_S1x2048_S8192x2048_0_1 (addf (broadcastInDim Cert.Reference7Ideal.S1x2048 ![] Cert.Reference7Ideal.Gen.bcast_S_S1x2048 (constant (F := Ideal) Cert.Reference7Ideal.S_ .f32 0x3F800000#32)) sc))) (broadcastInDim Cert.Reference7Ideal.S8192x2048 ![0, 1] Cert.Reference7Ideal.Gen.bcast_S1x2048_S8192x2048_0_1 g))) (constant (F := Ideal) Cert.Reference7Ideal.S_ .f32 0x00000000#32) Cert.Reference7Ideal.Gen.reducesTo_S8192x2048_S8192_d1 Cert.Reference7Ideal.Gen.h_S_) Cert.Reference7Ideal.Gen.shapeCasts_S8192_S8192x1) (mulf (broadcastInDim Cert.Reference7Ideal.S8192x1 ![] Cert.Reference7Ideal.Gen.bcast_S_S8192x1 (constant (F := Ideal) Cert.Reference7Ideal.S_ .f32 0xBF000000#32)) (Host.divf (Host.rsqrt (addf (Host.divf (broadcastInDim Cert.Reference7Ideal.S8192x1 ![0] Cert.Reference7Ideal.Gen.bcast_S8192_S8192x1_0 (Host.reduceAdd (mulf x x) (constant (F := Ideal) Cert.Reference7Ideal.S_ .f32 0x00000000#32) Cert.Reference7Ideal.Gen.reducesTo_S8192x2048_S8192_d1 Cert.Reference7Ideal.Gen.h_S_)) (broadcastInDim Cert.Reference7Ideal.S8192x1 ![] Cert.Reference7Ideal.Gen.bcast_S_S8192x1 (constant (F := Ideal) Cert.Reference7Ideal.S_ .f32 0x45000000#32))) (broadcastInDim Cert.Reference7Ideal.S8192x1 ![] Cert.Reference7Ideal.Gen.bcast_S_S8192x1 (constant (F := Ideal) Cert.Reference7Ideal.S_ .f32 0x358637BD#32)))) (addf (Host.divf (broadcastInDim Cert.Reference7Ideal.S8192x1 ![0] Cert.Reference7Ideal.Gen.bcast_S8192_S8192x1_0 (Host.reduceAdd (mulf x x) (constant (F := Ideal) Cert.Reference7Ideal.S_ .f32 0x00000000#32) Cert.Reference7Ideal.Gen.reducesTo_S8192x2048_S8192_d1 Cert.Reference7Ideal.Gen.h_S_)) (broadcastInDim Cert.Reference7Ideal.S8192x1 ![] Cert.Reference7Ideal.Gen.bcast_S_S8192x1 (constant (F := Ideal) Cert.Reference7Ideal.S_ .f32 0x45000000#32))) (broadcastInDim Cert.Reference7Ideal.S8192x1 ![] Cert.Reference7Ideal.Gen.bcast_S_S8192x1 (constant (F := Ideal) Cert.Reference7Ideal.S_ .f32 0x358637BD#32)))))) (broadcastInDim Cert.Reference7Ideal.S8192x1 ![] Cert.Reference7Ideal.Gen.bcast_S_S8192x1 (constant (F := Ideal) Cert.Reference7Ideal.S_ .f32 0x45000000#32))) (constant (F := Ideal) Cert.Reference7Ideal.S_ .f32 0x00000000#32) Cert.Reference7Ideal.Gen.reducesTo_S8192x1_S8192_d1 Cert.Reference7Ideal.Gen.h_S_)))) (mulf (broadcastInDim Cert.Reference7Ideal.S8192x2048 ![0] Cert.Reference7Ideal.Gen.bcast_S8192_S8192x2048_0 (Host.reduceAdd (Host.divf (mulf (shapeCast _ (Host.reduceAdd (mulf x (mulf (mulf (Host.dotGeneral Cert.Reference7Ideal.dot_S8192x4096_S2048x4096_S8192x2048_1_1_0_0_n_n none (addf (addf (pad Cert.Reference7Ideal.S8192x4096 ![0, 2048] ![0, 0] ![0, 0] dz (constant (F := Ideal) Cert.Reference7Ideal.S_ .f32 0x00000000#32) Cert.Reference7Ideal.Gen.pads_S8192x2048_S8192x4096_000_204800 Cert.Reference7Ideal.Gen.h_S_) (pad Cert.Reference7Ideal.S8192x4096 ![0, 1024] ![0, 2048] ![0, 0] (addf d5 (mulf (broadcastInDim Cert.Reference7Ideal.S8192x1024 ![0, 1] Cert.Reference7Ideal.Gen.bcast_S1x1024_S8192x1024_0_1 dk) dy)) (constant (F := Ideal) Cert.Reference7Ideal.S_ .f32 0x00000000#32) Cert.Reference7Ideal.Gen.pads_S8192x1024_S8192x4096_000_102420480 Cert.Reference7Ideal.Gen.h_S_)) (pad Cert.Reference7Ideal.S8192x4096 ![0, 0] ![0, 3072] ![0, 0] dup (constant (F := Ideal) Cert.Reference7Ideal.S_ .f32 0x00000000#32) Cert.Reference7Ideal.Gen.pads_S8192x1024_S8192x4096_000_030720 Cert.Reference7Ideal.Gen.h_S_)) w) (broadcastInDim Cert.Reference7Ideal.S8192x2048 ![0, 1] Cert.Reference7Ideal.Gen.bcast_S1x2048_S8192x2048_0_1 (addf (broadcastInDim Cert.Reference7Ideal.S1x2048 ![] Cert.Reference7Ideal.Gen.bcast_S_S1x2048 (constant (F := Ideal) Cert.Reference7Ideal.S_ .f32 0x3F800000#32)) sc))) (broadcastInDim Cert.Reference7Ideal.S8192x2048 ![0, 1] Cert.Reference7Ideal.Gen.bcast_S1x2048_S8192x2048_0_1 g))) (constant (F := Ideal) Cert.Reference7Ideal.S_ .f32 0x00000000#32) Cert.Reference7Ideal.Gen.reducesTo_S8192x2048_S8192_d1 Cert.Reference7Ideal.Gen.h_S_) Cert.Reference7Ideal.Gen.shapeCasts_S8192_S8192x1) (mulf (broadcastInDim Cert.Reference7Ideal.S8192x1 ![] Cert.Reference7Ideal.Gen.bcast_S_S8192x1 (constant (F := Ideal) Cert.Reference7Ideal.S_ .f32 0xBF000000#32)) (Host.divf (Host.rsqrt (addf (Host.divf (broadcastInDim Cert.Reference7Ideal.S8192x1 ![0] Cert.Reference7Ideal.Gen.bcast_S8192_S8192x1_0 (Host.reduceAdd (mulf x x) (constant (F := Ideal) Cert.Reference7Ideal.S_ .f32 0x00000000#32) Cert.Reference7Ideal.Gen.reducesTo_S8192x2048_S8192_d1 Cert.Reference7Ideal.Gen.h_S_)) (broadcastInDim Cert.Reference7Ideal.S8192x1 ![] Cert.Reference7Ideal.Gen.bcast_S_S8192x1 (constant (F := Ideal) Cert.Reference7Ideal.S_ .f32 0x45000000#32))) (broadcastInDim Cert.Reference7Ideal.S8192x1 ![] Cert.Reference7Ideal.Gen.bcast_S_S8192x1 (constant (F := Ideal) Cert.Reference7Ideal.S_ .f32 0x358637BD#32)))) (addf (Host.divf (broadcastInDim Cert.Reference7Ideal.S8192x1 ![0] Cert.Reference7Ideal.Gen.bcast_S8192_S8192x1_0 (Host.reduceAdd (mulf x x) (constant (F := Ideal) Cert.Reference7Ideal.S_ .f32 0x00000000#32) Cert.Reference7Ideal.Gen.reducesTo_S8192x2048_S8192_d1 Cert.Reference7Ideal.Gen.h_S_)) (broadcastInDim Cert.Reference7Ideal.S8192x1 ![] Cert.Reference7Ideal.Gen.bcast_S_S8192x1 (constant (F := Ideal) Cert.Reference7Ideal.S_ .f32 0x45000000#32))) (broadcastInDim Cert.Reference7Ideal.S8192x1 ![] Cert.Reference7Ideal.Gen.bcast_S_S8192x1 (constant (F := Ideal) Cert.Reference7Ideal.S_ .f32 0x358637BD#32)))))) (broadcastInDim Cert.Reference7Ideal.S8192x1 ![] Cert.Reference7Ideal.Gen.bcast_S_S8192x1 (constant (F := Ideal) Cert.Reference7Ideal.S_ .f32 0x45000000#32))) (constant (F := Ideal) Cert.Reference7Ideal.S_ .f32 0x00000000#32) Cert.Reference7Ideal.Gen.reducesTo_S8192x1_S8192_d1 Cert.Reference7Ideal.Gen.h_S_)) x)

/-- The projection's cotangent. -/
def REF1 (x : FVec Ideal S8192x2048 .f32) (dxo : FVec Ideal S8192x2048 .f32) (dup : FVec Ideal S8192x1024 .f32) (d5 : FVec Ideal S8192x1024 .f32) (dy : FVec Ideal S8192x1024 .f32) (dz : FVec Ideal S8192x2048 .f32) (w : FVec Ideal S2048x4096 .f32) (g : FVec Ideal S1x2048 .f32) (sc : FVec Ideal S1x2048 .f32) (sh : FVec Ideal S1x2048 .f32) (dk : FVec Ideal S1x1024 .f32) (gi : FVec Ideal S1x2048 .f32) : FVec Ideal S8192x4096 .bf16 :=
  truncf .bf16 (addf (addf (pad Cert.Reference7Ideal.S8192x4096 ![0, 2048] ![0, 0] ![0, 0] dz (constant (F := Ideal) Cert.Reference7Ideal.S_ .f32 0x00000000#32) Cert.Reference7Ideal.Gen.pads_S8192x2048_S8192x4096_000_204800 Cert.Reference7Ideal.Gen.h_S_) (pad Cert.Reference7Ideal.S8192x4096 ![0, 1024] ![0, 2048] ![0, 0] (addf d5 (mulf (broadcastInDim Cert.Reference7Ideal.S8192x1024 ![0, 1] Cert.Reference7Ideal.Gen.bcast_S1x1024_S8192x1024_0_1 dk) dy)) (constant (F := Ideal) Cert.Reference7Ideal.S_ .f32 0x00000000#32) Cert.Reference7Ideal.Gen.pads_S8192x1024_S8192x4096_000_102420480 Cert.Reference7Ideal.Gen.h_S_)) (pad Cert.Reference7Ideal.S8192x4096 ![0, 0] ![0, 3072] ![0, 0] dup (constant (F := Ideal) Cert.Reference7Ideal.S_ .f32 0x00000000#32) Cert.Reference7Ideal.Gen.pads_S8192x1024_S8192x4096_000_030720 Cert.Reference7Ideal.Gen.h_S_)) Cert.Reference7Ideal.Gen.bitsLt_bf16_f32

/-- The scale's gradient. -/
def REF2 (x : FVec Ideal S8192x2048 .f32) (dxo : FVec Ideal S8192x2048 .f32) (dup : FVec Ideal S8192x1024 .f32) (d5 : FVec Ideal S8192x1024 .f32) (dy : FVec Ideal S8192x1024 .f32) (dz : FVec Ideal S8192x2048 .f32) (w : FVec Ideal S2048x4096 .f32) (g : FVec Ideal S1x2048 .f32) (sc : FVec Ideal S1x2048 .f32) (sh : FVec Ideal S1x2048 .f32) (dk : FVec Ideal S1x1024 .f32) (gi : FVec Ideal S1x2048 .f32) : FVec Ideal S1x2048 .f32 :=
  shapeCast _ (Host.reduceAdd (mulf (mulf (mulf x (broadcastInDim Cert.Reference7Ideal.S8192x2048 ![0, 1] Cert.Reference7Ideal.Gen.bcast_S8192x1_S8192x2048_0_1 (Host.rsqrt (addf (Host.divf (broadcastInDim Cert.Reference7Ideal.S8192x1 ![0] Cert.Reference7Ideal.Gen.bcast_S8192_S8192x1_0 (Host.reduceAdd (mulf x x) (constant (F := Ideal) Cert.Reference7Ideal.S_ .f32 0x00000000#32) Cert.Reference7Ideal.Gen.reducesTo_S8192x2048_S8192_d1 Cert.Reference7Ideal.Gen.h_S_)) (broadcastInDim Cert.Reference7Ideal.S8192x1 ![] Cert.Reference7Ideal.Gen.bcast_S_S8192x1 (constant (F := Ideal) Cert.Reference7Ideal.S_ .f32 0x45000000#32))) (broadcastInDim Cert.Reference7Ideal.S8192x1 ![] Cert.Reference7Ideal.Gen.bcast_S_S8192x1 (constant (F := Ideal) Cert.Reference7Ideal.S_ .f32 0x358637BD#32)))))) (broadcastInDim Cert.Reference7Ideal.S8192x2048 ![0, 1] Cert.Reference7Ideal.Gen.bcast_S1x2048_S8192x2048_0_1 g)) (Host.dotGeneral Cert.Reference7Ideal.dot_S8192x4096_S2048x4096_S8192x2048_1_1_0_0_n_n none (addf (addf (pad Cert.Reference7Ideal.S8192x4096 ![0, 2048] ![0, 0] ![0, 0] dz (constant (F := Ideal) Cert.Reference7Ideal.S_ .f32 0x00000000#32) Cert.Reference7Ideal.Gen.pads_S8192x2048_S8192x4096_000_204800 Cert.Reference7Ideal.Gen.h_S_) (pad Cert.Reference7Ideal.S8192x4096 ![0, 1024] ![0, 2048] ![0, 0] (addf d5 (mulf (broadcastInDim Cert.Reference7Ideal.S8192x1024 ![0, 1] Cert.Reference7Ideal.Gen.bcast_S1x1024_S8192x1024_0_1 dk) dy)) (constant (F := Ideal) Cert.Reference7Ideal.S_ .f32 0x00000000#32) Cert.Reference7Ideal.Gen.pads_S8192x1024_S8192x4096_000_102420480 Cert.Reference7Ideal.Gen.h_S_)) (pad Cert.Reference7Ideal.S8192x4096 ![0, 0] ![0, 3072] ![0, 0] dup (constant (F := Ideal) Cert.Reference7Ideal.S_ .f32 0x00000000#32) Cert.Reference7Ideal.Gen.pads_S8192x1024_S8192x4096_000_030720 Cert.Reference7Ideal.Gen.h_S_)) w)) (constant (F := Ideal) Cert.Reference7Ideal.S_ .f32 0x00000000#32) Cert.Reference7Ideal.Gen.reducesTo_S8192x2048_S2048_d0 Cert.Reference7Ideal.Gen.h_S_) Cert.Reference7Ideal.Gen.shapeCasts_S2048_S1x2048

/-- The shift's. -/
def REF3 (x : FVec Ideal S8192x2048 .f32) (dxo : FVec Ideal S8192x2048 .f32) (dup : FVec Ideal S8192x1024 .f32) (d5 : FVec Ideal S8192x1024 .f32) (dy : FVec Ideal S8192x1024 .f32) (dz : FVec Ideal S8192x2048 .f32) (w : FVec Ideal S2048x4096 .f32) (g : FVec Ideal S1x2048 .f32) (sc : FVec Ideal S1x2048 .f32) (sh : FVec Ideal S1x2048 .f32) (dk : FVec Ideal S1x1024 .f32) (gi : FVec Ideal S1x2048 .f32) : FVec Ideal S1x2048 .f32 :=
  shapeCast _ (Host.reduceAdd (Host.dotGeneral Cert.Reference7Ideal.dot_S8192x4096_S2048x4096_S8192x2048_1_1_0_0_n_n none (addf (addf (pad Cert.Reference7Ideal.S8192x4096 ![0, 2048] ![0, 0] ![0, 0] dz (constant (F := Ideal) Cert.Reference7Ideal.S_ .f32 0x00000000#32) Cert.Reference7Ideal.Gen.pads_S8192x2048_S8192x4096_000_204800 Cert.Reference7Ideal.Gen.h_S_) (pad Cert.Reference7Ideal.S8192x4096 ![0, 1024] ![0, 2048] ![0, 0] (addf d5 (mulf (broadcastInDim Cert.Reference7Ideal.S8192x1024 ![0, 1] Cert.Reference7Ideal.Gen.bcast_S1x1024_S8192x1024_0_1 dk) dy)) (constant (F := Ideal) Cert.Reference7Ideal.S_ .f32 0x00000000#32) Cert.Reference7Ideal.Gen.pads_S8192x1024_S8192x4096_000_102420480 Cert.Reference7Ideal.Gen.h_S_)) (pad Cert.Reference7Ideal.S8192x4096 ![0, 0] ![0, 3072] ![0, 0] dup (constant (F := Ideal) Cert.Reference7Ideal.S_ .f32 0x00000000#32) Cert.Reference7Ideal.Gen.pads_S8192x1024_S8192x4096_000_030720 Cert.Reference7Ideal.Gen.h_S_)) w) (constant (F := Ideal) Cert.Reference7Ideal.S_ .f32 0x00000000#32) Cert.Reference7Ideal.Gen.reducesTo_S8192x2048_S2048_d0 Cert.Reference7Ideal.Gen.h_S_) Cert.Reference7Ideal.Gen.shapeCasts_S2048_S1x2048

/-- The norm gain's. -/
def REF4 (x : FVec Ideal S8192x2048 .f32) (dxo : FVec Ideal S8192x2048 .f32) (dup : FVec Ideal S8192x1024 .f32) (d5 : FVec Ideal S8192x1024 .f32) (dy : FVec Ideal S8192x1024 .f32) (dz : FVec Ideal S8192x2048 .f32) (w : FVec Ideal S2048x4096 .f32) (g : FVec Ideal S1x2048 .f32) (sc : FVec Ideal S1x2048 .f32) (sh : FVec Ideal S1x2048 .f32) (dk : FVec Ideal S1x1024 .f32) (gi : FVec Ideal S1x2048 .f32) : FVec Ideal S1x2048 .f32 :=
  addf (shapeCast _ (Host.reduceAdd (mulf (mulf x (broadcastInDim Cert.Reference7Ideal.S8192x2048 ![0, 1] Cert.Reference7Ideal.Gen.bcast_S8192x1_S8192x2048_0_1 (Host.rsqrt (addf (Host.divf (broadcastInDim Cert.Reference7Ideal.S8192x1 ![0] Cert.Reference7Ideal.Gen.bcast_S8192_S8192x1_0 (Host.reduceAdd (mulf x x) (constant (F := Ideal) Cert.Reference7Ideal.S_ .f32 0x00000000#32) Cert.Reference7Ideal.Gen.reducesTo_S8192x2048_S8192_d1 Cert.Reference7Ideal.Gen.h_S_)) (broadcastInDim Cert.Reference7Ideal.S8192x1 ![] Cert.Reference7Ideal.Gen.bcast_S_S8192x1 (constant (F := Ideal) Cert.Reference7Ideal.S_ .f32 0x45000000#32))) (broadcastInDim Cert.Reference7Ideal.S8192x1 ![] Cert.Reference7Ideal.Gen.bcast_S_S8192x1 (constant (F := Ideal) Cert.Reference7Ideal.S_ .f32 0x358637BD#32)))))) (mulf (Host.dotGeneral Cert.Reference7Ideal.dot_S8192x4096_S2048x4096_S8192x2048_1_1_0_0_n_n none (addf (addf (pad Cert.Reference7Ideal.S8192x4096 ![0, 2048] ![0, 0] ![0, 0] dz (constant (F := Ideal) Cert.Reference7Ideal.S_ .f32 0x00000000#32) Cert.Reference7Ideal.Gen.pads_S8192x2048_S8192x4096_000_204800 Cert.Reference7Ideal.Gen.h_S_) (pad Cert.Reference7Ideal.S8192x4096 ![0, 1024] ![0, 2048] ![0, 0] (addf d5 (mulf (broadcastInDim Cert.Reference7Ideal.S8192x1024 ![0, 1] Cert.Reference7Ideal.Gen.bcast_S1x1024_S8192x1024_0_1 dk) dy)) (constant (F := Ideal) Cert.Reference7Ideal.S_ .f32 0x00000000#32) Cert.Reference7Ideal.Gen.pads_S8192x1024_S8192x4096_000_102420480 Cert.Reference7Ideal.Gen.h_S_)) (pad Cert.Reference7Ideal.S8192x4096 ![0, 0] ![0, 3072] ![0, 0] dup (constant (F := Ideal) Cert.Reference7Ideal.S_ .f32 0x00000000#32) Cert.Reference7Ideal.Gen.pads_S8192x1024_S8192x4096_000_030720 Cert.Reference7Ideal.Gen.h_S_)) w) (broadcastInDim Cert.Reference7Ideal.S8192x2048 ![0, 1] Cert.Reference7Ideal.Gen.bcast_S1x2048_S8192x2048_0_1 (addf (broadcastInDim Cert.Reference7Ideal.S1x2048 ![] Cert.Reference7Ideal.Gen.bcast_S_S1x2048 (constant (F := Ideal) Cert.Reference7Ideal.S_ .f32 0x3F800000#32)) sc)))) (constant (F := Ideal) Cert.Reference7Ideal.S_ .f32 0x00000000#32) Cert.Reference7Ideal.Gen.reducesTo_S8192x2048_S2048_d0 Cert.Reference7Ideal.Gen.h_S_) Cert.Reference7Ideal.Gen.shapeCasts_S2048_S1x2048) gi

/-- The four cotangents placed side by side. -/
theorem ladder (c : Dev nD) (r : Fin 8192) (k : Fin 4096) :
    ((if h : 2048 ≤ (k : ℕ) ∧ (k : ℕ) - 2048 < 2048 then Dz m c (ix2 r ⟨(k : ℕ) - 2048, h.2⟩) else 0)
      + (if h : 1024 ≤ (k : ℕ) ∧ (k : ℕ) - 1024 < 1024 then Du5 m c (ix2 r ⟨(k : ℕ) - 1024, h.2⟩) + Dk m c (ix2 0 ⟨(k : ℕ) - 1024, h.2⟩) * Dyp m c (ix2 r ⟨(k : ℕ) - 1024, h.2⟩) else 0))
      + (if h : (k : ℕ) < 1024 then Dup m c (ix2 r ⟨(k : ℕ), h⟩) else 0) = DP m c r k := by
  unfold DP
  by_cases h0 : (k : ℕ) < 1024
  · rw [dif_neg (by omega), dif_neg (by omega), dif_pos h0, dif_pos h0, zero_add, zero_add]
  by_cases h1 : (k : ℕ) < 2048
  · rw [dif_neg (by omega), dif_pos (by omega), dif_neg h0, dif_neg h0, dif_pos h1, zero_add, add_zero]
  · rw [dif_pos (by omega), dif_neg (by omega), dif_neg h0, dif_neg h0, dif_neg h1, add_zero, add_zero]

theorem ref1_at (c : Dev nD) (r : Fin 8192) (k : Fin 4096) : REF1 (X m c) (Dxo m c) (Dup m c) (Du5 m c) (Dyp m c) (Dz m c) (Wt m c) (Ng m c) (Sc m c) (Sh m c) (Dk m c) (Gi m c) (ix2 r k) = DP m c r k := by
  pointwise [REF1]
  exact ladder m c r k

theorem ref3_at (c : Dev nD) (q : Fin 2048) : REF3 (X m c) (Dxo m c) (Dup m c) (Du5 m c) (Dyp m c) (Dz m c) (Wt m c) (Ng m c) (Sc m c) (Sh m c) (Dk m c) (Gi m c) (ix2 0 q) = ∑ r, DH m c r q := by
  pointwise [REF3]
  simp only [ladder m c]
  rfl

theorem ref2_at (c : Dev nD) (q : Fin 2048) : REF2 (X m c) (Dxo m c) (Dup m c) (Du5 m c) (Dyp m c) (Dz m c) (Wt m c) (Ng m c) (Sc m c) (Sh m c) (Dk m c) (Gi m c) (ix2 0 q) = ∑ r, DH m c r q * (X m c (ix2 r q) * RS m c r * Ng m c (ix2 0 q)) := by
  pointwise [REF2]
  simp only [ladder m c]
  exact Finset.sum_congr rfl fun r _ => mul_comm _ _

theorem ref4_at (c : Dev nD) (q : Fin 2048) : REF4 (X m c) (Dxo m c) (Dup m c) (Du5 m c) (Dyp m c) (Dz m c) (Wt m c) (Ng m c) (Sc m c) (Sh m c) (Dk m c) (Gi m c) (ix2 0 q)
    = Gi m c (ix2 0 q) + ∑ r, DH m c r q * (1 + Sc m c (ix2 0 q)) * (X m c (ix2 r q) * RS m c r) := by
  pointwise [REF4]
  simp only [ladder m c]
  refine (add_comm _ _).trans (congrArg (Gi m c (ix2 0 q) + ·) ?_)
  exact Finset.sum_congr rfl fun r _ => mul_comm _ _

/-- A row of the stream, and the cotangent of its normalised row. -/
abbrev xrow (c : Dev nD) (r : Fin 8192) (k : Fin 2048) : EReal := X m c (ix2 r k)
abbrev yrow (c : Dev nD) (r : Fin 8192) (k : Fin 2048) : EReal := DH m c r k * (1 + Sc m c (ix2 0 k)) * Ng m c (ix2 0 k)

theorem ref0_at (c : Dev nD) (r : Fin 8192) (q : Fin 2048) : REF0 (X m c) (Dxo m c) (Dup m c) (Du5 m c) (Dyp m c) (Dz m c) (Wt m c) (Ng m c) (Sc m c) (Sh m c) (Dk m c) (Gi m c) (ix2 r q)
    = Dxo m c (ix2 r q) + yrow m c r q * Ideal.rsqrt (Cert.Norm.var (xrow m c r)) + xrow m c r q * Cert.Norm.back (xrow m c r) (yrow m c r)
      + Cert.Norm.back (xrow m c r) (yrow m c r) * xrow m c r q := by
  pointwise [REF0]
  simp only [ladder m c, Fin.sum_univ_one]
  rfl

theorem eta {n k : ℕ} (y : (⟨2, ![n, k]⟩ : Shape).Idx) : y = ix2 (y 0) (y 1) := by
  funext a
  match a with
  | ⟨0, _⟩ => rfl
  | ⟨1, _⟩ => rfl

theorem final13 (c : Dev nD) : (dats m 0 c).arrAt 13 cfg0.N = REF1 (X m c) (Dxo m c) (Dup m c) (Du5 m c) (Dyp m c) (Dz m c) (Wt m c) (Ng m c) (Sc m c) (Sh m c) (Dk m c) (Gi m c) := by
  refine (dats m 0 c).arrAt_eq_of_covers 13 _ (by decide +kernel) fun t hf y => ?_
  blk_simp
  rw [after0_13]
  have he : ((cfg0.win 13).blk t).view.emb y = (ix2 (row t (y 0)) (y 1) : S8192x4096.Idx) := by
    funext a
    match a with
    | ⟨0, _⟩ => exact Fin.ext (by blk_simp; rw [(idx t).2.2.2.2.2.2.2.2.2.2.2.2.2.1]; rfl)
    | ⟨1, _⟩ => exact Fin.ext (by blk_simp; rw [(idx t).2.2.2.2.2.2.2.2.2.2.2.2.2.1]; show 0 * 4096 + (y 1).val = (y 1).val; omega)
  refine Eq.trans ?_ (congrArg (REF1 (X m c) (Dxo m c) (Dup m c) (Du5 m c) (Dyp m c) (Dz m c) (Wt m c) (Ng m c) (Sc m c) (Sh m c) (Dk m c) (Gi m c)) he.symm)
  refine Eq.trans ?_ (ref1_at m c (row t (y 0)) (y 1)).symm
  by_cases h : t.val % 32 = 0
  · rw [outsAt0_A m c t h]; frame_out
    exact (congrArg (dp m c t) (eta y)).trans (dp_at m c t (y 0) (y 1))
  · rw [outsAt0_B m c t h]; frame_out
    exact (congrArg (dp m c t) (eta y)).trans (dp_at m c t (y 0) (y 1))

/-- One entry of a block of the stream's gradient. -/
theorem gx_at (c : Dev nD) (t : Fin cfg0.N) (p : Fin 256) (q : Fin 2048) :
    k0_pay1 (F := Ideal) (k0_pay8 (iblk m c 0 t)) (k0_pay9 (iblk m c 0 t)) (k0_pay14 (dh m c t) (iblk m c 7 t) (iblk m c 8 t))
        (k0_pay15 (dh m c t) (k0_pay9 (iblk m c 0 t)) (iblk m c 7 t) (iblk m c 8 t)) (iblk m c 1 t) (ix2 p q)
      = RS m c (row t p) * (yrow m c (row t p) q - xrow m c (row t p) q * RS m c (row t p)
          * Ideal.div (∑ k, yrow m c (row t p) k * (xrow m c (row t p) k * RS m c (row t p))) (Ideal.ofBits .f32 0x45000000#32)) + Dxo m c (ix2 (row t p) q) := by
  pointwise [k0_pay1, k0_pay14, k0_pay15]
  have hd := fun x => dh_at m c t p x
  have hg := fun x => g_at m c t x
  have hs : ∀ x, k0_pay10 (F := Ideal) (iblk m c 8 t) (ix2 0 x) = 1 + Sc m c (ix2 0 x) := fun x => by
    pointwise [k0_pay10]
    exact congrArg ((1 : EReal) + ·) (sc_at m c t x)
  have hxh := fun x => xh_at m c t p x
  have h1 : iblk m c 1 t (ix2 p q) = Dxo m c (ix2 (row t p) q) := by blk_ext [iblk, V, idx t, row]
  refine congrArg₂ (· + ·) (congrArg₂ (· * ·) (rs_at m c t p) (congrArg₂ (· - ·) ?_ (congrArg₂ (· * ·) (hxh q) (congrArg (Ideal.div · _) ?_)))) h1
  · exact congrArg₂ (· * ·) (congrArg₂ (· * ·) (hd q) (hs q)) (hg q)
  · exact Finset.sum_congr rfl fun x _ => congrArg₂ (· * ·) (congrArg₂ (· * ·) (congrArg₂ (· * ·) (hd x) (hs x)) (hg x)) (hxh x)

theorem final12 (c : Dev nD) (hx : ∀ i, ∃ r : ℝ, X m c i = r) (hy : ∀ r k, ∃ v : ℝ, yrow m c r k = v) : (dats m 0 c).arrAt 12 cfg0.N = REF0 (X m c) (Dxo m c) (Dup m c) (Du5 m c) (Dyp m c) (Dz m c) (Wt m c) (Ng m c) (Sc m c) (Sh m c) (Dk m c) (Gi m c) := by
  refine (dats m 0 c).arrAt_eq_of_covers 12 _ (by decide +kernel) fun t hf y => ?_
  blk_simp
  rw [after0_12]
  have he : ((cfg0.win 12).blk t).view.emb y = (ix2 (row t (y 0)) (y 1) : S8192x2048.Idx) := by
    funext a
    match a with
    | ⟨0, _⟩ => exact Fin.ext (by blk_simp; rw [(idx t).2.2.2.2.2.2.2.2.2.2.2.2.1]; rfl)
    | ⟨1, _⟩ => exact Fin.ext (by blk_simp; rw [(idx t).2.2.2.2.2.2.2.2.2.2.2.2.1]; show 0 * 2048 + (y 1).val = (y 1).val; omega)
  refine Eq.trans ?_ (congrArg (REF0 (X m c) (Dxo m c) (Dup m c) (Du5 m c) (Dyp m c) (Dz m c) (Wt m c) (Ng m c) (Sc m c) (Sh m c) (Dk m c) (Gi m c)) he.symm)
  refine Eq.trans ?_ ((ref0_at m c (row t (y 0)) (y 1)).trans
    (Cert.Norm.norm_back (xrow m c (row t (y 0))) (yrow m c (row t (y 0))) _ (fun k => hx _) (hy _) (y 1))).symm
  by_cases h : t.val % 32 = 0
  · rw [outsAt0_A m c t h]; frame_out
    rw [eta y]
    exact gx_at m c t (y 0) (y 1)
  · rw [outsAt0_B m c t h]; frame_out
    rw [eta y]
    exact gx_at m c t (y 0) (y 1)

theorem final15 (c : Dev nD) : (dats m 0 c).arrAt 15 cfg0.N = REF3 (X m c) (Dxo m c) (Dup m c) (Du5 m c) (Dyp m c) (Dz m c) (Wt m c) (Ng m c) (Sc m c) (Sh m c) (Dk m c) (Gi m c) := by
  refine (dats m 0 c).arrAt_eq_of_covers 15 _ (by decide +kernel) fun t hf y => ?_
  blk_simp
  rw [after0_15]
  have he : ((cfg0.win 15).blk t).view.emb y = (ix2 0 (y 1) : S1x2048.Idx) := by
    funext a
    match a with
    | ⟨0, _⟩ => exact Subsingleton.elim (α := Fin 1) _ _
    | ⟨1, _⟩ => exact Fin.ext (by blk_simp; rw [(idx t).2.2.2.2.2.2.2.2.2.2.2.2.2.2.2.1]; show 0 * 2048 + (y 1).val = (y 1).val; omega)
  refine Eq.trans ?_ (congrArg (REF3 (X m c) (Dxo m c) (Dup m c) (Du5 m c) (Dyp m c) (Dz m c) (Wt m c) (Ng m c) (Sc m c) (Sh m c) (Dk m c) (Gi m c)) he.symm)
  refine Eq.trans ?_ (ref3_at m c (y 1)).symm
  exact acc15 m c t ((flush0_15 t).mp hf) y

theorem final14 (c : Dev nD) : (dats m 0 c).arrAt 14 cfg0.N = REF2 (X m c) (Dxo m c) (Dup m c) (Du5 m c) (Dyp m c) (Dz m c) (Wt m c) (Ng m c) (Sc m c) (Sh m c) (Dk m c) (Gi m c) := by
  refine (dats m 0 c).arrAt_eq_of_covers 14 _ (by decide +kernel) fun t hf y => ?_
  blk_simp
  rw [after0_14]
  have he : ((cfg0.win 14).blk t).view.emb y = (ix2 0 (y 1) : S1x2048.Idx) := by
    funext a
    match a with
    | ⟨0, _⟩ => exact Subsingleton.elim (α := Fin 1) _ _
    | ⟨1, _⟩ => exact Fin.ext (by blk_simp; rw [(idx t).2.2.2.2.2.2.2.2.2.2.2.2.2.2.1]; show 0 * 2048 + (y 1).val = (y 1).val; omega)
  refine Eq.trans ?_ (congrArg (REF2 (X m c) (Dxo m c) (Dup m c) (Du5 m c) (Dyp m c) (Dz m c) (Wt m c) (Ng m c) (Sc m c) (Sh m c) (Dk m c) (Gi m c)) he.symm)
  refine Eq.trans ?_ (ref2_at m c (y 1)).symm
  refine (acc14 m c t ((flush0_14 t).mp hf) y).trans ?_
  exact Finset.sum_congr rfl fun r _ => rfl

theorem final16 (c : Dev nD) : (dats m 0 c).arrAt 16 cfg0.N = REF4 (X m c) (Dxo m c) (Dup m c) (Du5 m c) (Dyp m c) (Dz m c) (Wt m c) (Ng m c) (Sc m c) (Sh m c) (Dk m c) (Gi m c) := by
  refine (dats m 0 c).arrAt_eq_of_covers 16 _ (by decide +kernel) fun t hf y => ?_
  blk_simp
  rw [after0_16]
  have he : ((cfg0.win 16).blk t).view.emb y = (ix2 0 (y 1) : S1x2048.Idx) := by
    funext a
    match a with
    | ⟨0, _⟩ => exact Subsingleton.elim (α := Fin 1) _ _
    | ⟨1, _⟩ => exact Fin.ext (by blk_simp; rw [(idx t).2.2.2.2.2.2.2.2.2.2.2.2.2.2.2.2]; show 0 * 2048 + (y 1).val = (y 1).val; omega)
  refine Eq.trans ?_ (congrArg (REF4 (X m c) (Dxo m c) (Dup m c) (Du5 m c) (Dyp m c) (Dz m c) (Wt m c) (Ng m c) (Sc m c) (Sh m c) (Dk m c) (Gi m c)) he.symm)
  refine Eq.trans ?_ (ref4_at m c (y 1)).symm
  refine (acc16 m c t ((flush0_16 t).mp hf) y).trans ?_
  refine congrArg (· + _) (congrArg (Gi m c) ?_)
  funext a
  match a with
  | ⟨0, _⟩ => exact Subsingleton.elim (α := Fin 1) _ _
  | ⟨1, _⟩ => rfl

end Cert.Kernel7Ideal.In

namespace Cert.Proof

open Idealize.ShloMosaic Cert.Kernel7Ideal Cert.Kernel7Ideal.In Cert.Finite

variable (m : (ℓ : Loc nD τ sig) → Buf (Elt Ideal) ℓ)

/-- The precondition, read: the stream is real, and so is the cotangent of its normalised rows. -/
theorem real_rows (h : Cert.Pre_Kernel7Ideal_plain m) (c : Dev nD) : (∀ i, ∃ r : ℝ, X m c i = r) ∧ (∀ r k, ∃ v : ℝ, yrow m c r k = v) := by
  have e := congrFun (h c) (fun a => a.elim0)
  obtain ⟨e, dk⟩ := IntOp.andi_eq_one.mp e
  obtain ⟨e, sc⟩ := IntOp.andi_eq_one.mp e
  obtain ⟨e, ng⟩ := IntOp.andi_eq_one.mp e
  obtain ⟨e, wt⟩ := IntOp.andi_eq_one.mp e
  obtain ⟨e, dz⟩ := IntOp.andi_eq_one.mp e
  obtain ⟨e, dy⟩ := IntOp.andi_eq_one.mp e
  obtain ⟨e, d5⟩ := IntOp.andi_eq_one.mp e
  obtain ⟨x, du⟩ := IntOp.andi_eq_one.mp e
  replace x := real_of_all _ _ _ _ _ x
  replace du := real_of_all _ _ _ _ _ du
  replace d5 := real_of_all _ _ _ _ _ d5
  replace dy := real_of_all _ _ _ _ _ dy
  replace dz := real_of_all _ _ _ _ _ dz
  replace wt := real_of_all _ _ _ _ _ wt
  replace ng := real_of_all _ _ _ _ _ ng
  replace sc := real_of_all _ _ _ _ _ sc
  replace dk := real_of_all _ _ _ _ _ dk
  refine ⟨x, fun r k => real_mul (real_mul (real_sum _ fun q => real_mul ?_ (wt _)) (real_add one_real (sc _))) (ng _)⟩
  unfold DP
  split
  · exact du _
  split
  · exact real_add (d5 _) (real_mul (dk _) (dy _))
  · exact dz _

/-- The reference keeps its arguments, and it declares no semaphore. -/
theorem frame_ref_in : Cert.quiescent_Reference7Ideal := fun m ρ _ =>
  (θ_run Cert.Reference7Ideal.defs _ _).mono
    (fun r h => ⟨fun c => (h c).2.2.2.2.2, sem_eq_zero_of_no_sems (by decide) r.2⟩)
    (Cert.Reference7Ideal.Value.run (F := Ideal) m ρ)

theorem algebraic_in : Cert.algebraic_Kernel7Ideal_Reference7Ideal_pre_plain := by
  intro m ρ m' ρ' hpre hagree
  refine ⟨_, _, _, _, _, Cert.Kernel7Ideal.Value.run_blocks m ρ, ?_⟩
  have hrun := Cert.Reference7Ideal.Value.run (F := Ideal) m' ρ'
  refine (θ_run _ _ _).mono (fun _ h c => ⟨(h c).1.trans ?_, (h c).2.1.trans ?_, (h c).2.2.1.trans ?_, (h c).2.2.2.1.trans ?_, (h c).2.2.2.2.1.trans ?_, (h c).2.2.2.2.2⟩) hrun
  all_goals
    obtain ⟨a0, a1, a2, a3, a4, a5, a6, a7, a8, a9, a10, a11⟩ := hagree c
    try unfold Cert.Reference7Ideal.Value.res_main_v58
    simp only [a0, a1, a2, a3, a4, a5, a6, a7, a8, a9, a10, a11]
  · obtain ⟨hx, hy⟩ := real_rows m hpre c
    exact (Cert.Kernel7Ideal.In.final12 m c hx hy).symm
  · exact (Cert.Kernel7Ideal.In.final13 m c).symm
  · exact (Cert.Kernel7Ideal.In.final14 m c).symm
  · exact (Cert.Kernel7Ideal.In.final15 m c).symm
  · exact (Cert.Kernel7Ideal.In.final16 m c).symm

end Cert.Proof

end
-- ==== Proof.Gelu.lean ====
/-
The GELU's derivative: in one factor, and in the parts the product rule leaves.
-/
module

public import proofs.«01_k».proof.Proof.Finite

@[expose] public section

noncomputable section

namespace Cert.Gelu

open Idealize.ShloMosaic

theorem half_coe : Ideal.ofBits .f32 0x3F000000#32 = ((1 / 2 : ℝ) : EReal) := Cert.Finite.half_bits

/-- The slope constant is a real. -/
theorem slope_real : ∃ K : ℝ, Ideal.ofBits .f32 0x3F4C422A#32 = K := by
  refine ⟨13386282 / 16777216, ?_⟩
  simp [Ideal.ofBits, Ideal.ieee, -EReal.coe_mul]; norm_num

/-- The tangent hyperbolic inside, its cube multiplied from the left. -/
def th (v : EReal) : EReal := Ideal.tanh (Ideal.ofBits .f32 0x3F4C422A#32 * (v + ((8943 / 200000 : ℝ) : EReal) * v * v * v))

/-- The same, its cube multiplied first. -/
def th' (v : EReal) : EReal := Ideal.tanh (Ideal.ofBits .f32 0x3F4C422A#32 * (v + ((8943 / 200000 : ℝ) : EReal) * (v * (v * v))))

/-- The derivative as one factor. -/
def gd (v : EReal) : EReal := Ideal.ofBits .f32 0x3F000000#32 * (1 + th v)
  + Ideal.ofBits .f32 0x3F000000#32 * v * (1 - th v * th v) * (Ideal.ofBits .f32 0x3F4C422A#32 * (1 + ((26829 / 200000 : ℝ) : EReal) * v * v))

/-- The part of a cotangent `g` that comes through the tangent hyperbolic. -/
def through (v g : EReal) : EReal := Ideal.ofBits .f32 0x3F4C422A#32 * (Ideal.ofBits .f32 0x3F000000#32 * (v * g) * ((1 + th' v) * (1 - th' v)))

/-- The cotangent in its three parts. -/
def back (v g : EReal) : EReal := g * (Ideal.ofBits .f32 0x3F000000#32 * (1 + th' v)) + through v g
  + ((8943 / 200000 : ℝ) : EReal) * through v g * (Ideal.ofBits .f32 0x40400000#32 * (v * v))

theorem three_bits : Ideal.ofBits .f32 0x40400000#32 = ((3 : ℝ) : EReal) := by
  simp [Ideal.ofBits, Ideal.ieee, -EReal.coe_mul]; norm_num

theorem back_eq {v g : EReal} (hv : ∃ r : ℝ, v = r) (hg : ∃ r : ℝ, g = r) : g * gd v = back v g := by
  obtain ⟨v, rfl⟩ := hv; obtain ⟨g, rfl⟩ := hg
  obtain ⟨K, hK⟩ := slope_real
  obtain ⟨C, hC⟩ : ∃ C : ℝ, C = 8943 / 200000 := ⟨_, rfl⟩
  obtain ⟨T, hT⟩ : ∃ T : ℝ, T = 26829 / 200000 := ⟨_, rfl⟩
  obtain ⟨h, hh⟩ : ∃ h : ℝ, h = 1 / 2 := ⟨_, rfl⟩
  have e : T = 3 * C := by rw [hT, hC]; norm_num
  have ht : th' (v : EReal) = th v := by
    unfold th th'
    rw [hK, ← hC]
    congr 1
    norm_cast
    ring
  have hr : ∃ t : ℝ, th (v : EReal) = t := by
    unfold th
    rw [hK, ← hC]
    refine ⟨Real.tanh (K * (v + C * v * v * v)), ?_⟩
    rw [← Ideal.tanh_coe]
    norm_cast
  obtain ⟨t, hr⟩ := hr
  unfold gd back through
  rw [ht, hr, hK, half_coe, three_bits, ← hC, ← hT, ← hh, e]
  norm_cast
  ring

end Cert.Gelu

end
-- ==== Proof.GluRef.lean ====
/-
The reference's gradient before the gated linear unit: its three results, entry by entry.
-/
module

public import proofs.«01_k».proof.Proof.Gen.Reference5Ideal.Value
public import proofs.«01_k».proof.Proof.Gelu
public import proofs.«01_k».proof.Defs
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)
open Idealize.ShloMosaic.Tactic

namespace Cert.Reference5Ideal.Glu

open Cert.Reference5Ideal Cert.Reference5Ideal.Gen Cert.Gelu

/-- The scan's output with its skip, entry by entry. -/
def YP (y : FVec Ideal S8192x1024 .f32) (pj : FVec Ideal S8192x4096 .f32) (dk : FVec Ideal S1x1024 .f32) (r : Fin 8192) (q : Fin 1024) : EReal :=
  y (ix2 r q) + dk (ix2 0 q) * pj (ix2 r ⟨1024 + q, by omega⟩)

/-- The cotangent of the GELU, entry by entry. -/
def DY (dg : FVec Ideal S8192x2048 .f32) (w : FVec Ideal S1024x2048 .f32) (r : Fin 8192) (q : Fin 1024) : EReal := ∑ k : Fin 2048, dg (ix2 r k) * w (ix2 q k)

variable (dg : FVec Ideal S8192x2048 .f32) (y : FVec Ideal S8192x1024 .f32) (pj : FVec Ideal S8192x4096 .f32) (w : FVec Ideal S1024x2048 .f32) (dk : FVec Ideal S1x1024 .f32)

/-- The skip's input. -/
def us : FVec Ideal S8192x1024 .f32 := fun j => pj (ix2 (j 0) ⟨1024 + (j 1).val, by have := (j 1).isLt; change (j 1).val < 1024 at this; omega⟩)

theorem us_at (r : Fin 8192) (q : Fin 1024) : us pj (ix2 r q) = pj (ix2 r ⟨1024 + q, by omega⟩) := rfl

/-- The named constant of the GELU. -/
theorem named_c : Named.named (F := Ideal) κ "gelu_c" (φ := .f32) 0x3D372713#32 = ((8943 / 200000 : ℝ) : EReal) :=
  IdealRules.named_const.ideal_named_scalar κ _ _ _ rfl

theorem yp_at (u : FVec Ideal S8192x1024 .f32) (r : Fin 8192) (q : Fin 1024) : k0_pay3 (F := Ideal) u y dk (ix2 r q) = y (ix2 r q) + dk (ix2 0 q) * u (ix2 r q) := by
  pointwise [k0_pay3]

theorem dy_at (r : Fin 8192) (q : Fin 1024) : k0_pay7 (F := Ideal) w dg (ix2 r q) = DY dg w r q := by
  pointwise [k0_pay7, DY]

/-- The three results over the arguments. -/
def G0 : FVec Ideal S8192x1024 .f32 := k0_pay1 (F := Ideal) (k0_pay4 (us pj) y dk) (k0_pay8 (us pj) w y dk dg) (k0_pay9 (us pj) w y dk dg)
def G1 : FVec Ideal S1x2048 .f32 := k0_pay6 (F := Ideal) dg
def G2 : FVec Ideal S1x1024 .f32 := k0_pay2 (F := Ideal) (us pj) (k0_pay4 (us pj) y dk) (k0_pay8 (us pj) w y dk dg) (k0_pay9 (us pj) w y dk dg)

theorem tanh_at (u : FVec Ideal S8192x1024 .f32) (j : S8192x1024.Idx) : k0_pay5 (F := Ideal) u y dk j = th' (k0_pay3 (F := Ideal) u y dk j) := by
  pointwise [k0_pay5, th', named_c]

theorem inner_at (u : FVec Ideal S8192x1024 .f32) (j : S8192x1024.Idx) : k0_pay9 (F := Ideal) u w y dk dg j = through (k0_pay3 (F := Ideal) u y dk j) (k0_pay7 (F := Ideal) w dg j) := by
  unfold through
  rw [← tanh_at]
  pointwise [k0_pay9]

theorem back_at (u : FVec Ideal S8192x1024 .f32) (j : S8192x1024.Idx) : k0_pay1 (F := Ideal) (k0_pay4 u y dk) (k0_pay8 u w y dk dg) (k0_pay9 u w y dk dg) j
    = back (k0_pay3 (F := Ideal) u y dk j) (k0_pay7 (F := Ideal) w dg j) := by
  unfold back
  rw [← tanh_at, ← inner_at]
  pointwise [k0_pay1, k0_pay4, k0_pay8, named_c]

theorem yus_at (r : Fin 8192) (q : Fin 1024) : k0_pay3 (F := Ideal) (us pj) y dk (ix2 r q) = YP y pj dk r q := by
  rw [yp_at, us_at]; rfl

theorem g0_at (r : Fin 8192) (q : Fin 1024) : G0 dg y pj w dk (ix2 r q) = back (YP y pj dk r q) (DY dg w r q) := by
  unfold G0
  rw [back_at, yus_at, dy_at]

theorem g1_at (q : Fin 2048) : G1 dg (ix2 0 q) = ∑ r : Fin 8192, dg (ix2 r q) := by
  pointwise [G1, k0_pay6]

theorem sum_at (a b d u : FVec Ideal S8192x1024 .f32) (q : Fin 1024) : k0_pay2 (F := Ideal) u a b d (ix2 0 q) = ∑ r : Fin 8192, k0_pay1 (F := Ideal) a b d (ix2 r q) * u (ix2 r q) := by
  pointwise [k0_pay2]

theorem g2_at (q : Fin 1024) : G2 dg y pj w dk (ix2 0 q) = ∑ r : Fin 8192, back (YP y pj dk r q) (DY dg w r q) * pj (ix2 r ⟨1024 + q, by omega⟩) := by
  unfold G2
  refine (sum_at _ _ _ _ _).trans (Finset.sum_congr rfl fun r _ => congrArg₂ (· * ·) ?_ (us_at pj r q))
  exact g0_at dg y pj w dk r q

variable (m : (ℓ : Loc nD τ sig) → Buf (Elt Ideal) ℓ)

theorem idx : ∀ t : Fin cfg0.N, win0_0.index t = ![0, 0] ∧ win0_1.index t = ![0, 0] ∧ win0_2.index t = ![0, 0]
    ∧ win0_3.index t = ![0, 0] ∧ win0_4.index t = ![0, 0] ∧ win0_5.index t = ![0, 0] ∧ win0_6.index t = ![0, 0] ∧ win0_7.index t = ![0, 0] :=
  (by decide +kernel : ∀ t : Fin grid0.N, _)

/-- The arguments. -/
abbrev Dg (c : Dev nD) : FVec Ideal S8192x2048 .f32 := m ((c : Thread nD τ).loc main_arg0)
abbrev Y (c : Dev nD) : FVec Ideal S8192x1024 .f32 := m ((c : Thread nD τ).loc main_arg1)
abbrev Pj (c : Dev nD) : FVec Ideal S8192x4096 .f32 := m ((c : Thread nD τ).loc main_arg2)
abbrev Wt (c : Dev nD) : FVec Ideal S1024x2048 .f32 := m ((c : Thread nD τ).loc main_arg3)
abbrev Dk (c : Dev nD) : FVec Ideal S1x1024 .f32 := m ((c : Thread nD τ).loc main_arg4)

/-- The skip's input as the body loads it. -/
theorem ld_us (c : Dev nD) : View.ld (iblk m c 2 t0_0) r0_0 = us (Pj m c) := by
  have e : iblk m c 2 t0_0 = Pj m c := by blk_ext! [iblk, V, idx t0_0]
  rw [e]
  refine (View.ld_unit _ _ _ _).trans ?_
  funext j
  pointwise [us]

theorem ld_g (c : Dev nD) : View.ld (iblk m c 0 t0_0) r0_4 = Dg m c := by
  refine (View.ld_unit_zero (by decide) _ _).trans ?_
  blk_ext! [iblk, V, idx t0_0]

theorem ld_y (c : Dev nD) : View.ld (iblk m c 1 t0_0) r0_2 = Y m c := by
  refine (View.ld_unit_zero (by decide) _ _).trans ?_
  blk_ext! [iblk, V, idx t0_0]

theorem ld_w (c : Dev nD) : View.ld (iblk m c 3 t0_0) r0_1 = Wt m c := by
  refine (View.ld_unit_zero (by decide) _ _).trans ?_
  blk_ext! [iblk, V, idx t0_0]

theorem ld_d (c : Dev nD) : View.ld (iblk m c 4 t0_0) r0_3 = Dk m c := by
  refine (View.ld_unit_zero (by decide) _ _).trans ?_
  blk_ext! [iblk, V, idx t0_0]

theorem final5 (c : Dev nD) : (dats m 0 c).arrAt 5 cfg0.N = G0 (Dg m c) (Y m c) (Pj m c) (Wt m c) (Dk m c) := by
  refine (dats m 0 c).arrAt_eq_of_after_last 5 t0_0 (by decide +kernel) _ fun j => ?_
  blk_simp
  rw [after0_5]
  frame_out
  blk_point [G0, iblk, V, idx t0_0, r0_1, r0_2, r0_3, r0_4]
  all_goals first | exact ld_us m c | exact ld_g m c | exact ld_y m c | exact ld_w m c | exact ld_d m c

theorem final6 (c : Dev nD) : (dats m 0 c).arrAt 6 cfg0.N = G1 (Dg m c) := by
  refine (dats m 0 c).arrAt_eq_of_after_last 6 t0_0 (by decide +kernel) _ fun j => ?_
  blk_simp
  rw [after0_6]
  frame_out
  blk_point [G1, iblk, V, idx t0_0, r0_1, r0_2, r0_3, r0_4]

theorem final7 (c : Dev nD) : (dats m 0 c).arrAt 7 cfg0.N = G2 (Dg m c) (Y m c) (Pj m c) (Wt m c) (Dk m c) := by
  refine (dats m 0 c).arrAt_eq_of_after_last 7 t0_0 (by decide +kernel) _ fun j => ?_
  blk_simp
  rw [after0_7]
  frame_out
  blk_point [G2, iblk, V, idx t0_0, r0_1, r0_2, r0_3, r0_4]
  all_goals first | exact ld_us m c | exact ld_g m c | exact ld_y m c | exact ld_w m c | exact ld_d m c

end Cert.Reference5Ideal.Glu

end
-- ==== Proof.GluValue.lean ====
/-
The gradient before the gated linear unit: what one grid point leaves, and the arrays in the end.
-/
module

public import proofs.«01_k».proof.Proof.Gen.Kernel5Ideal.Value
public import proofs.«01_k».proof.Proof.Gen.Pre_smooth
public import proofs.«01_k».proof.Proof.GluRef
public import proofs.«01_k».proof.Defs
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)
open Idealize.ShloMosaic.Tactic

namespace Cert.Kernel5Ideal.Glu

open Cert.Kernel5Ideal Cert.Kernel5Ideal.Gen Cert.Gelu

variable (m : (ℓ : Loc nD τ sig) → Buf (Elt Ideal) ℓ)

theorem idx : ∀ t : Fin cfg0.N, win0_0.index t = ![t.val, 0] ∧ win0_1.index t = ![t.val, 0] ∧ win0_2.index t = ![t.val, 1]
    ∧ win0_3.index t = ![0, 0, 0] ∧ win0_4.index t = ![0, 0] ∧ win0_5.index t = ![t.val, 0] ∧ win0_6.index t = ![0, 0] ∧ win0_7.index t = ![0, 0] :=
  (by decide +kernel : ∀ t : Fin grid0.N, _)

theorem N_lt : ∀ t : Fin cfg0.N, t.val < 16 := (by decide +kernel : ∀ t : Fin grid0.N, _)

/-- The arguments. -/
abbrev Dg (c : Dev nD) : FVec Ideal S8192x2048 .f32 := m ((c : Thread nD τ).loc main_arg0)
abbrev Y (c : Dev nD) : FVec Ideal S8192x1024 .f32 := m ((c : Thread nD τ).loc main_arg1)
abbrev Pj (c : Dev nD) : FVec Ideal S8192x4096 .f32 := m ((c : Thread nD τ).loc main_arg2)
abbrev Wt (c : Dev nD) : FVec Ideal S1024x2048 .f32 := m ((c : Thread nD τ).loc main_arg3)
abbrev Dk (c : Dev nD) : FVec Ideal S1x1024 .f32 := m ((c : Thread nD τ).loc main_arg4)

/-- The scan's output with its skip, entry by entry. -/
abbrev YP (c : Dev nD) (r : Fin 8192) (q : Fin 1024) : EReal :=
  Cert.Reference5Ideal.Glu.YP (Y m c) (Pj m c) (Dk m c) r q

/-- The cotangent of the GELU, entry by entry. -/
abbrev DY (c : Dev nD) (r : Fin 8192) (q : Fin 1024) : EReal := Cert.Reference5Ideal.Glu.DY (Dg m c) (Wt m c) r q

/-- What the host hands the launch. -/
theorem entry_y (c : Dev nD) (x : S8192x1024.Idx) : V m c main_v3 x = YP m c (x 0) (x 1) := by
  entry_read
  pointwise [Cert.Reference5Ideal.Glu.YP]

theorem entry_g (c : Dev nD) (x : S8192x2048.Idx) : V m c main_v4 x = Dg m c x := by
  entry_read
  pointwise

theorem entry_w (c : Dev nD) (x : S8x1024x256.Idx) : V m c main_v7 x
    = Wt m c (ix2 (x 1) ⟨(x 0).val * 256 + (x 2).val, by have := (x 0).isLt; have := (x 2).isLt; change (x 0).val < 8 at *; change (x 2).val < 256 at *; omega⟩) := by
  entry_read
  pointwise

/-- The row of the arrays that row `p` of point `t`'s block is. -/
def row (t : Fin cfg0.N) (p : Fin 512) : Fin 8192 := ⟨t.val * 512 + p, by have := N_lt t; omega⟩

theorem g_at (c : Dev nD) (t : Fin cfg0.N) (p : Fin 512) (k : Fin 2048) : iblk m c 0 t (ix2 p k) = Dg m c (ix2 (row t p) k) := by
  refine Eq.trans ?_ (entry_g m c _)
  blk_ext [iblk, V, idx t, row]

theorem y_at (c : Dev nD) (t : Fin cfg0.N) (p : Fin 512) (q : Fin 1024) : iblk m c 1 t (ix2 p q) = YP m c (row t p) q := by
  refine Eq.trans ?_ (entry_y m c (ix2 (row t p) q))
  blk_ext [iblk, V, idx t, row]

theorem u_at (c : Dev nD) (t : Fin cfg0.N) (p : Fin 512) (q : Fin 1024) : iblk m c 2 t (ix2 p q) = Pj m c (ix2 (row t p) ⟨1024 + q, by omega⟩) := by
  blk_ext [iblk, V, idx t, row]

/-- A sum over 2048 lanes, by eight devices' columns. -/
theorem eighths (f : Fin 2048 → EReal) : ∑ k, f k
    = ∑ k : Fin 256, f ⟨k, by omega⟩ + ∑ k : Fin 256, f ⟨256 + k, by omega⟩ + ∑ k : Fin 256, f ⟨512 + k, by omega⟩
      + ∑ k : Fin 256, f ⟨768 + k, by omega⟩ + ∑ k : Fin 256, f ⟨1024 + k, by omega⟩ + ∑ k : Fin 256, f ⟨1280 + k, by omega⟩
      + ∑ k : Fin 256, f ⟨1536 + k, by omega⟩ + ∑ k : Fin 256, f ⟨1792 + k, by omega⟩ := by
  have e : ∑ s : Fin 8, ∑ k : Fin 256, f ⟨s * 256 + k, by omega⟩ = ∑ k, f k :=
    Fin.sum_mul_add_congr fun s k hl => rfl
  rw [← e]
  simp only [Fin.sum_univ_eight]
  rfl

/-- One block of the GELU's cotangent. -/
abbrev dy (c : Dev nD) (t : Fin cfg0.N) : FVec Ideal S512x1024 .f32 :=
  k0_pay25 (F := Ideal) (k0_pay6 (iblk m c 0 t))
    (k0_pay20 (k0_pay6 (iblk m c 0 t))
      (k0_pay15 (k0_pay6 (iblk m c 0 t)) (k0_pay8 (iblk m c 0 t) (View.ld (iblk m c 3 t) (Rect.unit ![0, 0, 0] ![1, 1024, 256] inb_S8x1024x256_S1x1024x256_0_0_0))) (k0_pay10 (iblk m c 0 t)) (View.ld (iblk m c 3 t) (Rect.unit ![1, 0, 0] ![1, 1024, 256] inb_S8x1024x256_S1x1024x256_1_0_0)) (View.ld (iblk m c 3 t) (Rect.unit ![2, 0, 0] ![1, 1024, 256] inb_S8x1024x256_S1x1024x256_2_0_0)) (View.ld (iblk m c 3 t) (Rect.unit ![3, 0, 0] ![1, 1024, 256] inb_S8x1024x256_S1x1024x256_3_0_0)))
      (View.ld (iblk m c 3 t) (Rect.unit ![4, 0, 0] ![1, 1024, 256] inb_S8x1024x256_S1x1024x256_4_0_0)) (View.ld (iblk m c 3 t) (Rect.unit ![5, 0, 0] ![1, 1024, 256] inb_S8x1024x256_S1x1024x256_5_0_0)))
    (k0_pay22 (k0_pay6 (iblk m c 0 t))) (View.ld (iblk m c 3 t) (Rect.unit ![6, 0, 0] ![1, 1024, 256] inb_S8x1024x256_S1x1024x256_6_0_0)) (View.ld (iblk m c 3 t) (Rect.unit ![7, 0, 0] ![1, 1024, 256] inb_S8x1024x256_S1x1024x256_7_0_0))

theorem dy_at (c : Dev nD) (t : Fin cfg0.N) (p : Fin 512) (q : Fin 1024) : dy m c t (ix2 p q) = DY m c (row t p) q := by
  have hw : iblk m c 3 t = V m c main_v7 := by blk_ext! [iblk, V, idx t]
  have hd := g_at m c t p
  have hv : ∀ (a : Fin 8) (k : Fin 256) (n : Fin 2048), (n : ℕ) = a * 256 + k → V m c main_v7 (ix3 a q k) = Wt m c (ix2 q n) := fun a k n h =>
    (entry_w m c _).trans (congrArg (fun n => Wt m c (ix2 q n)) (Fin.ext h.symm))
  unfold DY dy Cert.Reference5Ideal.Glu.DY
  rw [hw, eighths]
  generalize iblk m c 0 t = D at *
  pointwise [k0_pay25, k0_pay20, k0_pay15, k0_pay8, k0_pay7, k0_pay10, k0_pay12, k0_pay14, k0_pay17, k0_pay19, k0_pay22, k0_pay24, k0_pay6]
  iterate 7 refine congrArg₂ (· + ·) ?_ ?_
  all_goals
    refine Finset.sum_congr rfl fun k _ => ?_
    refine congrArg₂ (· * ·) (hd _) (hv _ _ _ ?_)
    first | (show (k : ℕ) = 0 * 256 + (k : ℕ); omega) | rfl

/-- The named constants of the GELU. -/
theorem named_c : Named.named (F := Ideal) κ "gelu_c" (φ := .f32) 0x3D372713#32 = ((8943 / 200000 : ℝ) : EReal) :=
  IdealRules.named_const.ideal_named_scalar κ _ _ _ rfl
theorem named_3c : Named.named (F := Ideal) κ "gelu_3c" (φ := .f32) 0x3E095D4F#32 = ((26829 / 200000 : ℝ) : EReal) :=
  IdealRules.named_const.ideal_named_scalar κ _ _ _ rfl

theorem gelu_at (v d : FVec Ideal S512x1024 .f32) (j : S512x1024.Idx) : k0_pay28 (F := Ideal) v d j = d j * gd (v j) := by
  pointwise [k0_pay28, gd, th, named_c, named_3c]

theorem dyp_at (c : Dev nD) (t : Fin cfg0.N) (p : Fin 512) (q : Fin 1024) :
    k0_pay28 (F := Ideal) (k0_pay4 (iblk m c 1 t)) (dy m c t) (ix2 p q) = DY m c (row t p) q * gd (YP m c (row t p) q) := by
  rw [gelu_at, dy_at]
  congr 2
  refine Eq.trans ?_ (y_at m c t p q)
  pointwise [k0_pay4]

theorem zero6 (j : S1x2048.Idx) : k0_pay2 (F := Ideal) j = 0 := by pointwise [k0_pay2]
theorem zero7 (j : S1x1024.Idx) : k0_pay3 (F := Ideal) j = 0 := by pointwise [k0_pay3]

theorem add6 (g : FVec Ideal S512x2048 .bf16) (acc : FVec Ideal S1x2048 .f32) (j : S1x2048.Idx) : k0_pay27 (F := Ideal) (k0_pay6 g) acc j
    = acc j + ∑ p : Fin 512, g (ix2 p (j 1)) := by
  pointwise [k0_pay27, k0_pay6]

theorem add7 (v d u : FVec Ideal S512x1024 .f32) (acc : FVec Ideal S1x1024 .f32) (j : S1x1024.Idx) : k0_pay29 (F := Ideal) v d acc u j
    = acc j + ∑ p : Fin 512, k0_pay28 (F := Ideal) v d (ix2 p (j 1)) * u (ix2 p (j 1)) := by
  pointwise [k0_pay29]

/-- The projection column that the skip reads. -/
abbrev up (q : Fin 1024) : Fin 4096 := ⟨1024 + q, by omega⟩

theorem acc6 (c : Dev nD) (t : Fin cfg0.N) (ht : t.val % 16 = 15) (y : S1x2048.Idx) : (outsAt0 m c t.val t.isLt).2.1 y
    = ∑ r : Fin 8192, Dg m c (ix2 r (y 1)) := by
  rw [Pipeline.eq_sum_fin_of_reset_step_apply_of_flush (fun n h => (outsAt0 m c n h).2.1) 16 (fun _ => 0) (fun t y => ∑ p : Fin 512, Dg m c (ix2 (row t p) (y 1)))
    (fun t h j => by
      rw [outsAt0_A m c t h (by omega)]; frame_out
      rw [add6, zero6]
      exact congrArg (0 + ·) (Finset.sum_congr rfl fun p _ => g_at m c t p _))
    (fun t h j => by
      by_cases h1 : t.val % 16 = 15
      · rw [outsAt0_C m c t h h1]; frame_out
        rw [add6]
        exact congrArg (_ + ·) (Finset.sum_congr rfl fun p _ => g_at m c t p _)
      · rw [outsAt0_B m c t h h1]; frame_out
        rw [add6]
        exact congrArg (_ + ·) (Finset.sum_congr rfl fun p _ => g_at m c t p _))
    t ht _, zero_add]
  refine Fin.sum_mul_add_congr fun s p hl => ?_
  have e : row ⟨16 * (t.val / 16) + s.val, Pipeline.run_point_lt_of_flush t ht s⟩ p = ⟨s * 512 + p, hl⟩ :=
    Fin.ext (by show (16 * (t.val / 16) + s.val) * 512 + p = s * 512 + (p : ℕ); have := N_lt t; omega)
  rw [e]

theorem acc7 (c : Dev nD) (t : Fin cfg0.N) (ht : t.val % 16 = 15) (y : S1x1024.Idx) : (outsAt0 m c t.val t.isLt).2.2.1 y
    = ∑ r : Fin 8192, DY m c r (y 1) * gd (YP m c r (y 1)) * Pj m c (ix2 r (up (y 1))) := by
  rw [Pipeline.eq_sum_fin_of_reset_step_apply_of_flush (fun n h => (outsAt0 m c n h).2.2.1) 16 (fun _ => 0) (fun t y => ∑ p : Fin 512, DY m c (row t p) (y 1) * gd (YP m c (row t p) (y 1)) * Pj m c (ix2 (row t p) (up (y 1))))
    (fun t h j => by
      rw [outsAt0_A m c t h (by omega)]; frame_out
      rw [add7, zero7]
      exact congrArg (0 + ·) (Finset.sum_congr rfl fun p _ => congrArg₂ (· * ·) (dyp_at m c t p _) (u_at m c t p _)))
    (fun t h j => by
      by_cases h1 : t.val % 16 = 15
      · rw [outsAt0_C m c t h h1]; frame_out
        rw [add7]
        exact congrArg (_ + ·) (Finset.sum_congr rfl fun p _ => congrArg₂ (· * ·) (dyp_at m c t p _) (u_at m c t p _))
      · rw [outsAt0_B m c t h h1]; frame_out
        rw [add7]
        exact congrArg (_ + ·) (Finset.sum_congr rfl fun p _ => congrArg₂ (· * ·) (dyp_at m c t p _) (u_at m c t p _)))
    t ht _, zero_add]
  refine Fin.sum_mul_add_congr fun s p hl => ?_
  have e : row ⟨16 * (t.val / 16) + s.val, Pipeline.run_point_lt_of_flush t ht s⟩ p = ⟨s * 512 + p, hl⟩ :=
    Fin.ext (by show (16 * (t.val / 16) + s.val) * 512 + p = s * 512 + (p : ℕ); have := N_lt t; omega)
  rw [e]

theorem eta {n k : ℕ} (y : (⟨2, ![n, k]⟩ : Shape).Idx) : y = ix2 (y 0) (y 1) := by
  funext a
  match a with
  | ⟨0, _⟩ => rfl
  | ⟨1, _⟩ => rfl

theorem final5 (c : Dev nD) (hy : ∀ r q, ∃ v : ℝ, YP m c r q = v) (hd : ∀ r q, ∃ v : ℝ, DY m c r q = v) :
    (dats m 0 c).arrAt 5 cfg0.N = Cert.Reference5Ideal.Glu.G0 (Dg m c) (Y m c) (Pj m c) (Wt m c) (Dk m c) := by
  refine (dats m 0 c).arrAt_eq_of_covers 5 _ (by decide +kernel) fun t hf y => ?_
  blk_simp
  rw [after0_5]
  have he : ((cfg0.win 5).blk t).view.emb y = (ix2 (row t (y 0)) (y 1) : S8192x1024.Idx) := by
    funext a
    match a with
    | ⟨0, _⟩ => exact Fin.ext (by blk_simp; rw [(idx t).2.2.2.2.2.1]; rfl)
    | ⟨1, _⟩ => exact Fin.ext (by blk_simp; rw [(idx t).2.2.2.2.2.1]; show 0 * 1024 + (y 1).val = (y 1).val; omega)
  refine Eq.trans ?_ (congrArg (Cert.Reference5Ideal.Glu.G0 (Dg m c) (Y m c) (Pj m c) (Wt m c) (Dk m c)) he.symm)
  refine Eq.trans ?_ ((Cert.Reference5Ideal.Glu.g0_at _ _ _ _ _ (row t (y 0)) (y 1)).trans (back_eq (hy _ _) (hd _ _)).symm).symm
  by_cases h : t.val % 16 = 0
  · rw [outsAt0_A m c t h (by omega)]; frame_out
    rw [eta y]
    exact dyp_at m c t (y 0) (y 1)
  · by_cases h1 : t.val % 16 = 15
    · rw [outsAt0_C m c t h h1]; frame_out
      rw [eta y]
      exact dyp_at m c t (y 0) (y 1)
    · rw [outsAt0_B m c t h h1]; frame_out
      rw [eta y]
      exact dyp_at m c t (y 0) (y 1)

theorem final6 (c : Dev nD) : (dats m 0 c).arrAt 6 cfg0.N = Cert.Reference5Ideal.Glu.G1 (Dg m c) := by
  refine (dats m 0 c).arrAt_eq_of_covers 6 _ (by decide +kernel) fun t hf y => ?_
  blk_simp
  rw [after0_6]
  have he : ((cfg0.win 6).blk t).view.emb y = (ix2 0 (y 1) : S1x2048.Idx) := by
    funext a
    match a with
    | ⟨0, _⟩ => exact Subsingleton.elim (α := Fin 1) _ _
    | ⟨1, _⟩ => exact Fin.ext (by blk_simp; rw [(idx t).2.2.2.2.2.2.1]; show 0 * 2048 + (y 1).val = (y 1).val; omega)
  refine Eq.trans ?_ (congrArg (Cert.Reference5Ideal.Glu.G1 (Dg m c)) he.symm)
  exact (acc6 m c t ((flush0_6 t).mp hf) y).trans (Cert.Reference5Ideal.Glu.g1_at _ (y 1)).symm

theorem final7 (c : Dev nD) (hy : ∀ r q, ∃ v : ℝ, YP m c r q = v) (hd : ∀ r q, ∃ v : ℝ, DY m c r q = v) :
    (dats m 0 c).arrAt 7 cfg0.N = Cert.Reference5Ideal.Glu.G2 (Dg m c) (Y m c) (Pj m c) (Wt m c) (Dk m c) := by
  refine (dats m 0 c).arrAt_eq_of_covers 7 _ (by decide +kernel) fun t hf y => ?_
  blk_simp
  rw [after0_7]
  have he : ((cfg0.win 7).blk t).view.emb y = (ix2 0 (y 1) : S1x1024.Idx) := by
    funext a
    match a with
    | ⟨0, _⟩ => exact Subsingleton.elim (α := Fin 1) _ _
    | ⟨1, _⟩ => exact Fin.ext (by blk_simp; rw [(idx t).2.2.2.2.2.2.2]; show 0 * 1024 + (y 1).val = (y 1).val; omega)
  refine Eq.trans ?_ (congrArg (Cert.Reference5Ideal.Glu.G2 (Dg m c) (Y m c) (Pj m c) (Wt m c) (Dk m c)) he.symm)
  refine (acc7 m c t ((flush0_7 t).mp hf) y).trans ?_
  refine Eq.trans ?_ (Cert.Reference5Ideal.Glu.g2_at _ _ _ _ _ (y 1)).symm
  exact Finset.sum_congr rfl fun r _ => congrArg (· * _) (back_eq (hy _ _) (hd _ _))

end Cert.Kernel5Ideal.Glu

namespace Cert.Proof

open Idealize.ShloMosaic Cert.Kernel5Ideal Cert.Kernel5Ideal.Glu Cert.Finite

variable (m : (ℓ : Loc nD τ sig) → Buf (Elt Ideal) ℓ)

/-- The precondition, read: the skip's sum and the GELU's cotangent are real. -/
theorem real_glu (h : Cert.Pre_Kernel5Ideal_smooth m) (c : Dev nD) : (∀ r q, ∃ v : ℝ, YP m c r q = v) ∧ (∀ r q, ∃ v : ℝ, DY m c r q = v) := by
  have e := congrFun (h c) (fun a => a.elim0)
  obtain ⟨e, dk⟩ := IntOp.andi_eq_one.mp e
  obtain ⟨e, w⟩ := IntOp.andi_eq_one.mp e
  obtain ⟨e, pj⟩ := IntOp.andi_eq_one.mp e
  obtain ⟨dg, y⟩ := IntOp.andi_eq_one.mp e
  replace dg := real_of_all _ _ _ _ _ dg
  replace y := real_of_all _ _ _ _ _ y
  replace pj := real_of_all _ _ _ _ _ pj
  replace w := real_of_all _ _ _ _ _ w
  replace dk := real_of_all _ _ _ _ _ dk
  exact ⟨fun r q => real_add (y _) (real_mul (dk _) (pj _)), fun r q => real_sum _ fun k => real_mul (dg _) (w _)⟩

theorem algebraic_glu : Cert.algebraic_Kernel5Ideal_Reference5Ideal_pre_smooth := by
  intro m ρ m' ρ' hpre hagree
  refine ⟨_, _, _, (θ_run _ _ _).mono (fun _ h c => ⟨(h c).1, (h c).2.1, (h c).2.2.1, (h c).2.2.2.1, (h c).2.2.2.2.1, (h c).2.2.2.2.2.1, (h c).2.2.2.2.2.2.1, (h c).2.2.2.2.2.2.2.1⟩)
    (Cert.Kernel5Ideal.Value.run_blocks m ρ), ?_⟩
  refine (θ_run _ _ _).mono (fun _ h c => ⟨(h c).1.trans ?_, (h c).2.1.trans ?_, (h c).2.2.1.trans ?_, (h c).2.2.2⟩)
    (Cert.Reference5Ideal.Value.run_blocks (F := Ideal) m' ρ')
  all_goals
    obtain ⟨a0, a1, a2, a3, a4⟩ := hagree c
    obtain ⟨hy, hd⟩ := real_glu m hpre c
  · refine (Cert.Reference5Ideal.Glu.final5 m' c).trans (Eq.trans ?_ (final5 m c hy hd).symm)
    simp only [Cert.Reference5Ideal.Glu.Dg, Cert.Reference5Ideal.Glu.Y, Cert.Reference5Ideal.Glu.Pj, Cert.Reference5Ideal.Glu.Wt, Cert.Reference5Ideal.Glu.Dk, a0, a1, a2, a3, a4]
  · refine (Cert.Reference5Ideal.Glu.final6 m' c).trans (Eq.trans ?_ (final6 m c).symm)
    simp only [Cert.Reference5Ideal.Glu.Dg, a0]
  · refine (Cert.Reference5Ideal.Glu.final7 m' c).trans (Eq.trans ?_ (final7 m c hy hd).symm)
    simp only [Cert.Reference5Ideal.Glu.Dg, Cert.Reference5Ideal.Glu.Y, Cert.Reference5Ideal.Glu.Pj, Cert.Reference5Ideal.Glu.Wt, Cert.Reference5Ideal.Glu.Dk, a0, a1, a2, a3, a4]

end Cert.Proof

end
-- ==== Proof.StValue.lean ====
/-
The states of every chunk: what each grid point writes of the sorted rows and of their products with the group's state operator.
-/
module

public import proofs.«01_k».proof.Proof.Gen.Kernel12Ideal.Frame
public import proofs.«01_k».proof.Proof.Gen.Kernel12Ideal.Value
public import proofs.«01_k».proof.Proof.Gen.Reference12Ideal.Run
public import proofs.«01_k».proof.Defs
public import Idealize.ShloMosaic.Lib.Pipeline.ValueKit
public import Idealize.ShloMosaic.Lib.WholeRead

@[expose] public section

set_option maxRecDepth 16384

noncomputable section

open Idealize.ShloMosaic Idealize.ShloMosaic.TcCoe Idealize.SL.Sem
open Idealize.ShloMosaic.Pipeline (Dat)

namespace Cert.Kernel12Ideal.St

open Cert.Kernel12Ideal Cert.Kernel12Ideal.Gen

variable (m : (ℓ : Loc nD τ sig) → Buf (Elt Ideal) ℓ)

theorem idx : ∀ t : Fin cfg0.N, win0_0.index t = ![0, 8 + t.val] ∧ win0_1.index t = ![0, t.val] ∧ win0_2.index t = ![0, 0]
    ∧ win0_3.index t = ![t.val, 0, 0] ∧ win0_4.index t = ![t.val, 0, 0] ∧ win0_5.index t = ![t.val, 0, 0] ∧ win0_6.index t = ![t.val, 0, 0] :=
  (by decide +kernel : ∀ t : Fin grid0.N, _)

/-- The tokens: the context's, then the sequence's columns of the branch. -/
def Tok (proj : FVec Ideal S8192x4096 .f32) (uc : FVec Ideal S256x1024 .f32) : FVec Ideal Cert.Reference12Ideal.S8448x1024 .f32 :=
  concatenate Cert.Reference12Ideal.S8448x1024 0 [⟨Cert.Reference12Ideal.S256x1024, uc⟩, ⟨Cert.Reference12Ideal.S8192x1024, (extractStridedSlice Cert.Reference12Ideal.S8192x1024 ![0, 1024] proj Cert.Reference12Ideal.Gen.slices_S8192x4096_S8192x1024_0_1024)⟩] Cert.Reference12Ideal.Gen.concatenates_S256x1024_S8192x1024_S8448x1024_d0

theorem tok_lo (proj : FVec Ideal S8192x4096 .f32) (uc : FVec Ideal S256x1024 .f32) (x : Cert.Reference12Ideal.S8448x1024.Idx) (r : Fin 256) (q : Fin 1024)
    (h0 : (x 0 : ℕ) = r) (h1 : (x 1 : ℕ) = q) : Tok proj uc x = uc (ix2 r q) := by
  have := r.isLt
  pointwise [Tok]
  rw [dif_pos (by omega)]
  refine congrArg uc (funext fun a => Fin.ext ?_)
  fin_cases a
  · exact h0
  · exact h1

theorem tok_hi (proj : FVec Ideal S8192x4096 .f32) (uc : FVec Ideal S256x1024 .f32) (x : Cert.Reference12Ideal.S8448x1024.Idx) (r : Fin 8192) (q : Fin 4096)
    (h0 : (x 0 : ℕ) = 256 + r) (h1 : 1024 + (x 1 : ℕ) = q) : Tok proj uc x = proj (ix2 r q) := by
  have := r.isLt
  pointwise [Tok]
  rw [dif_neg (by omega)]
  refine congrArg proj (funext fun a => Fin.ext ?_)
  fin_cases a
  · show (x 0 : ℕ) - 256 = r; omega
  · exact h1

/-- What the reference leaves of the rows. -/
def REF4 (T : FVec Ideal Cert.Reference12Ideal.S8448x1024 .f32) : FVec Ideal S8x528x2048 .bf16 :=
  truncf .bf16 (shapeCast _ (transpose Cert.Reference12Ideal.S8x528x8x256 [0, 2, 1, 3] (shapeCast _ (shapeCast _ (transpose Cert.Reference12Ideal.S64x528x16x16 [2, 0, 1, 3] (shapeCast _ T Cert.Reference12Ideal.Gen.shapeCasts_S8448x1024_S528x16x64x16) Cert.Reference12Ideal.Gen.transposes_S528x16x64x16_S64x528x16x16_2_0_1_3) Cert.Reference12Ideal.Gen.shapeCasts_S64x528x16x16_S64x528x256) Cert.Reference12Ideal.Gen.shapeCasts_S64x528x256_S8x8x528x256) Cert.Reference12Ideal.Gen.transposes_S8x8x528x256_S8x528x8x256_0_2_1_3) Cert.Reference12Ideal.Gen.shapeCasts_S8x528x8x256_S8x528x2048) Cert.Reference12Ideal.Gen.bitsLt_bf16_f32

/-- What the reference leaves of the states, the half from column `0`. -/
def REF5 (T : FVec Ideal Cert.Reference12Ideal.S8448x1024 .f32) (w : FVec Ideal S64x256x256 .f32) : FVec Ideal S64x528x128 .f32 :=
  extractStridedSlice Cert.Reference12Ideal.S64x528x128 ![0, 0, 0] (Host.dotGeneral Cert.Reference12Ideal.dot_S64x528x256_S64x256x256_S64x528x256_2_1_1_2_0_0 none (shapeCast _ (transpose Cert.Reference12Ideal.S64x528x16x16 [2, 0, 1, 3] (shapeCast _ T Cert.Reference12Ideal.Gen.shapeCasts_S8448x1024_S528x16x64x16) Cert.Reference12Ideal.Gen.transposes_S528x16x64x16_S64x528x16x16_2_0_1_3) Cert.Reference12Ideal.Gen.shapeCasts_S64x528x16x16_S64x528x256) w) Cert.Reference12Ideal.Gen.slices_S64x528x256_S64x528x128_0_0_0

/-- What the reference leaves of the states, the half from column `128`. -/
def REF6 (T : FVec Ideal Cert.Reference12Ideal.S8448x1024 .f32) (w : FVec Ideal S64x256x256 .f32) : FVec Ideal S64x528x128 .f32 :=
  extractStridedSlice Cert.Reference12Ideal.S64x528x128 ![0, 0, 128] (Host.dotGeneral Cert.Reference12Ideal.dot_S64x528x256_S64x256x256_S64x528x256_2_1_1_2_0_0 none (shapeCast _ (transpose Cert.Reference12Ideal.S64x528x16x16 [2, 0, 1, 3] (shapeCast _ T Cert.Reference12Ideal.Gen.shapeCasts_S8448x1024_S528x16x64x16) Cert.Reference12Ideal.Gen.transposes_S528x16x64x16_S64x528x16x16_2_0_1_3) Cert.Reference12Ideal.Gen.shapeCasts_S64x528x16x16_S64x528x256) w) Cert.Reference12Ideal.Gen.slices_S64x528x256_S64x528x128_0_0_128

/-- The row of a chunk's rows (token, lane) that column (group, token, channel) of the sorted rows takes. -/
abbrev src (o : ℕ) : ℕ := o % 256 / 16 * 128 + o / 256 * 16 + o % 16

/-- The table of ones, entry by entry. -/
theorem perm_at (c : Dev nD) (x : S2048x2048.Idx) :
    V m c main_v9 x = if (x 0 : ℕ) = src (x 1) then (1 : EReal) else 0 := by
  entry_read
  pointwise
  have h0 : (x 0 : ℕ) < 2048 := (x 0).isLt
  have h1 : (x 1 : ℕ) < 2048 := (x 1).isLt
  have e : (x 1 : ℕ) / 16 % 16 * 128 + (x 1 : ℕ) / 256 * 16 + (x 1 : ℕ) % 16 = src (x 1) := by
    unfold src; omega
  rw [e]
  have h2 : src (x 1) < 2048 := by unfold src; omega
  by_cases h : (x 0 : ℕ) = src (x 1)
  · rw [if_pos h, h]; simp [Scalar.select, IntOp.cmpi]
  · rw [if_neg h]
    have : BitVec.ofNat 32 (x 0 : ℕ) ≠ BitVec.ofNat 32 (src (x 1)) := fun hh => h (by
      have := congrArg BitVec.toNat hh
      rwa [BitVec.toNat_ofNat, BitVec.toNat_ofNat, Nat.mod_eq_of_lt (by omega), Nat.mod_eq_of_lt (by omega)] at this)
    have : (BitVec.ofNat 32 (x 0 : ℕ) == BitVec.ofNat 32 (src (x 1))) = false := beq_eq_false_iff_ne.mpr this
    simp [Scalar.select, IntOp.cmpi, this]

theorem op_at (c : Dev nD) (x : S64x256x256.Idx) : V m c main_v10 x = (m ((c : Thread nD τ).loc main_arg2) : FVec Ideal S64x256x256 .f32) x := by
  entry_read
  pointwise

set_option maxHeartbeats 1600000 in
/-- A product with a table of ones selects: the sum's one entry. -/
theorem selected (f : Fin 2048 → EReal) (g : Fin 2048 → EReal) (s : ℕ) (hs : s < 2048)
    (hg : ∀ k : Fin 2048, g k = if (k : ℕ) = s then (1 : EReal) else 0) : (∑ k, f k * g k) = f ⟨s, hs⟩ := by
  rw [Finset.sum_eq_single (⟨s, hs⟩ : Fin 2048)]
  · rw [hg, if_pos rfl, mul_one]
  · intro k _ hk
    rw [hg, if_neg (fun h => hk (Fin.ext h)), mul_zero]
  · intro h; exact absurd (Finset.mem_univ _) h

theorem inbC (s : Fin 16) (a : Fin 2) : (![16, 128] : Fin 2 → ℕ) a = 0 ∨ (![(s : ℕ), 0] : Fin 2 → ℕ) a + (![16, 1] : Fin 2 → ℕ) a * ((![16, 128] : Fin 2 → ℕ) a - 1) < S256x128.size a := by
  have := s.isLt
  fin_cases a
  · right; show (s : ℕ) + 16 * (16 - 1) < 256; omega
  · right; show 0 + 1 * (128 - 1) < 128; omega

/-- The strided load of a lane block's context's tokens at place `s` of every chunk. -/
abbrev chunkC (M : Memref sig .tc .vmem S256x128 .f32) (hM : M.IsWhole) (X : FVec Ideal S256x128 .f32) (s : Fin 16) : S16x128.Idx → EReal :=
  View.readAt (Elt Ideal) M.view (⟨![(s : ℕ), 0], ![16, 128], ![16, 1], inbC s⟩ : LoadRect S256x128) (hM.unread X)

/-- The context's chunks' rows a grid point lays end to end. -/
abbrev catC (M : Memref sig .tc .vmem S256x128 .f32) (hM : M.IsWhole) (X : FVec Ideal S256x128 .f32) : FVec Ideal S16x2048 .f32 :=
  concatenate S16x2048 1 (List.ofFn fun n : Fin 16 => (⟨S16x128, chunkC M hM X n⟩ : (s : Shape) × (s.Idx → EReal)))
    concatenates_S16x128_S16x128_S16x128_S16x128_S16x128_S16x128_S16x128_S16x128_S16x128_S16x128_S16x128_S16x128_S16x128_S16x128_S16x128_S16x128_S16x2048_d1

/-- Row `k` of them, column (token, lane). -/
theorem catC_at (M : Memref sig .tc .vmem S256x128 .f32) (hM : M.IsWhole) (X : FVec Ideal S256x128 .f32) (k : Fin 16) (q : Fin 2048) :
    catC M hM X (ix2 k q) = X (ix2 ⟨(q : ℕ) / 128 + 16 * (k : ℕ), by have := k.isLt; have := q.isLt; omega⟩ ⟨(q : ℕ) % 128, by omega⟩ : S256x128.Idx) := by
  have hk := k.isLt
  have hq := q.isLt
  refine (concatenate_ofFn_apply (t := S16x2048) (s₁ := S16x128) (1 : Fin 2) (chunkC M hM X) _ rfl 128 rfl (ix2 k q : S16x2048.Idx) ⟨(q : ℕ) / 128, by omega⟩ rfl
    (ix2 k ⟨(q : ℕ) % 128, by omega⟩ : S16x128.Idx) rfl ?_).trans ?_
  · intro b hb
    fin_cases b
    · rfl
    · exact absurd rfl hb
  · show View.readAt (Elt Ideal) M.view _ (hM.unread X) _ = _
    rw [Memref.IsWhole.readAt_unread]
    refine congrArg X (funext fun a => Fin.ext ?_)
    fin_cases a
    · rfl
    · show 0 + 1 * ((q : ℕ) % 128) = (q : ℕ) % 128; omega

theorem inbS (s : Fin 16) (a : Fin 2) : (![512, 128] : Fin 2 → ℕ) a = 0 ∨ (![(s : ℕ), 0] : Fin 2 → ℕ) a + (![16, 1] : Fin 2 → ℕ) a * ((![512, 128] : Fin 2 → ℕ) a - 1) < S8192x128.size a := by
  have := s.isLt
  fin_cases a
  · right; show (s : ℕ) + 16 * (512 - 1) < 8192; omega
  · right; show 0 + 1 * (128 - 1) < 128; omega

/-- The strided load of a lane block's sequence's tokens at place `s` of every chunk. -/
abbrev chunkS (M : Memref sig .tc .vmem S8192x128 .f32) (hM : M.IsWhole) (X : FVec Ideal S8192x128 .f32) (s : Fin 16) : S512x128.Idx → EReal :=
  View.readAt (Elt Ideal) M.view (⟨![(s : ℕ), 0], ![512, 128], ![16, 1], inbS s⟩ : LoadRect S8192x128) (hM.unread X)

/-- The sequence's chunks' rows a grid point lays end to end. -/
abbrev catS (M : Memref sig .tc .vmem S8192x128 .f32) (hM : M.IsWhole) (X : FVec Ideal S8192x128 .f32) : FVec Ideal S512x2048 .f32 :=
  concatenate S512x2048 1 (List.ofFn fun n : Fin 16 => (⟨S512x128, chunkS M hM X n⟩ : (s : Shape) × (s.Idx → EReal)))
    concatenates_S512x128_S512x128_S512x128_S512x128_S512x128_S512x128_S512x128_S512x128_S512x128_S512x128_S512x128_S512x128_S512x128_S512x128_S512x128_S512x128_S512x2048_d1

/-- Row `k` of them, column (token, lane). -/
theorem catS_at (M : Memref sig .tc .vmem S8192x128 .f32) (hM : M.IsWhole) (X : FVec Ideal S8192x128 .f32) (k : Fin 512) (q : Fin 2048) :
    catS M hM X (ix2 k q) = X (ix2 ⟨(q : ℕ) / 128 + 16 * (k : ℕ), by have := k.isLt; have := q.isLt; omega⟩ ⟨(q : ℕ) % 128, by omega⟩ : S8192x128.Idx) := by
  have hk := k.isLt
  have hq := q.isLt
  refine (concatenate_ofFn_apply (t := S512x2048) (s₁ := S512x128) (1 : Fin 2) (chunkS M hM X) _ rfl 128 rfl (ix2 k q : S512x2048.Idx) ⟨(q : ℕ) / 128, by omega⟩ rfl
    (ix2 k ⟨(q : ℕ) % 128, by omega⟩ : S512x128.Idx) rfl ?_).trans ?_
  · intro b hb
    fin_cases b
    · rfl
    · exact absurd rfl hb
  · show View.readAt (Elt Ideal) M.view _ (hM.unread X) _ = _
    rw [Memref.IsWhole.readAt_unread]
    refine congrArg X (funext fun a => Fin.ext ?_)
    fin_cases a
    · rfl
    · show 0 + 1 * ((q : ℕ) % 128) = (q : ℕ) % 128; omega

/-- The rows times the table: the context's chunks above the sequence's, columns sorted. -/
def mix (A : FVec Ideal S16x2048 .f32) (B : FVec Ideal S512x2048 .f32) (P : FVec Ideal S2048x2048 .bf16) : FVec Ideal S528x2048 .bf16 :=
  truncf .bf16 (matmul dot_S528x2048_S2048x2048_S528x2048_1_0_0_1_n_n none
    (truncf .bf16 (concatenate S528x2048 0 [⟨S16x2048, A⟩, ⟨S512x2048, B⟩] concatenates_S16x2048_S512x2048_S528x2048_d0 : FVec Ideal S528x2048 .f32) bitsLt_bf16_f32)
    (shapeCast S2048x2048 P shapeCasts_S2048x2048_S2048x2048) (constant (F := Ideal) S528x2048 .f32 0x00000000#32)) bitsLt_bf16_f32

theorem mix_at (A : FVec Ideal S16x2048 .f32) (B : FVec Ideal S512x2048 .f32) (P : FVec Ideal S2048x2048 .bf16)
    (hP : ∀ x : S2048x2048.Idx, P x = if (x 0 : ℕ) = src (x 1) then (1 : EReal) else 0) (k : Fin 528) (o : Fin 2048) :
    mix A B P (ix2 k o) = concatenate S528x2048 0 [⟨S16x2048, A⟩, ⟨S512x2048, B⟩] concatenates_S16x2048_S512x2048_S528x2048_d0
      (ix2 k ⟨src o, by have := o.isLt; unfold src; omega⟩ : S528x2048.Idx) := by
  generalize hC : concatenate S528x2048 0 [⟨S16x2048, A⟩, ⟨S512x2048, B⟩] concatenates_S16x2048_S512x2048_S528x2048_d0 = C
  unfold mix
  rw [hC]
  pointwise
  exact selected (fun q => C (ix2 k q)) _ (src o) _ (fun q => hP _)

/-- The projections. -/
abbrev Proj (c : Dev nD) : FVec Ideal S8192x4096 .f32 := m ((c : Thread nD τ).loc main_arg0)

/-- The context's branch. -/
abbrev Ctx (c : Dev nD) : FVec Ideal S256x1024 .f32 := m ((c : Thread nD τ).loc main_arg1)

/-- The state operator of every group. -/
abbrev Op (c : Dev nD) : FVec Ideal S64x256x256 .f32 := m ((c : Thread nD τ).loc main_arg2)

/-- The tokens of the run. -/
abbrev Tk (c : Dev nD) : FVec Ideal Cert.Reference12Ideal.S8448x1024 .f32 := Tok (Proj m c) (Ctx m c)

/-- A grid point's sorted rows. -/
abbrev Rows (c : Dev nD) (t : Fin cfg0.N) : FVec Ideal S528x2048 .bf16 :=
  mix (catC (ms0_1 t) (hs0_1 t) (iblk m c 1 t)) (catS (ms0_0 t) (hs0_0 t) (iblk m c 0 t)) (iblk m c 2 t)

theorem N_lt (t : Fin cfg0.N) : t.val < 8 := lt_of_lt_of_eq t.isLt (by decide +kernel)

theorem blk_proj (c : Dev nD) (t : Fin cfg0.N) (r : Fin 8192) (l : Fin 128) :
    (iblk m c 0 t : FVec Ideal S8192x128 .f32) (ix2 r l) = Proj m c (ix2 r ⟨(8 + t.val) * 128 + l, by have := N_lt t; have := l.isLt; omega⟩) := by
  have := N_lt t
  blk_point [iblk, V, idx t]

theorem blk_ctx (c : Dev nD) (t : Fin cfg0.N) (r : Fin 256) (l : Fin 128) :
    (iblk m c 1 t : FVec Ideal S256x128 .f32) (ix2 r l) = Ctx m c (ix2 r ⟨t.val * 128 + l, by have := N_lt t; have := l.isLt; omega⟩) := by
  have := N_lt t
  blk_point [iblk, V, idx t]

theorem blk_perm (c : Dev nD) (t : Fin cfg0.N) (x : S2048x2048.Idx) :
    (iblk m c 2 t : FVec Ideal S2048x2048 .bf16) x = if (x 0 : ℕ) = src (x 1) then (1 : EReal) else 0 := by
  refine Eq.trans ?_ (perm_at m c x)
  blk_point [iblk, V, idx t]

theorem blk_op (c : Dev nD) (t : Fin cfg0.N) (g : Fin 8) (a b : Fin 256) :
    (iblk m c 3 t : FVec Ideal S8x256x256 .bf16) (ix3 g a b) = Op m c (ix3 ⟨t.val * 8 + g, by have := N_lt t; have := g.isLt; omega⟩ a b) := by
  have := N_lt t
  refine Eq.trans ?_ (op_at m c _)
  blk_point [iblk, V, idx t]

theorem rows_at (c : Dev nD) (t : Fin cfg0.N) (k : Fin 528) (o : Fin 2048) :
    Rows m c t (ix2 k o) = Tk m c (ix2 ⟨16 * (k : ℕ) + (o : ℕ) % 256 / 16, by have := k.isLt; omega⟩
      ⟨t.val * 128 + (o : ℕ) / 256 * 16 + (o : ℕ) % 16, by have := N_lt t; have := o.isLt; omega⟩) := by
  have ht := N_lt t
  have hk := k.isLt
  have ho := o.isLt
  have hs : src o < 2048 := by unfold src; omega
  refine (mix_at _ _ _ (blk_perm m c t) k o).trans ?_
  by_cases h : (k : ℕ) < 16
  · refine Eq.trans ?_ (((catC_at (ms0_1 t) (hs0_1 t) (iblk m c 1 t) ⟨k, h⟩ ⟨src o, hs⟩).trans (blk_ctx m c t _ _)).trans
      (tok_lo _ _ _ _ _ ?_ ?_).symm)
    · generalize catC _ _ _ = A
      generalize catS _ _ _ = B
      pointwise
      rw [dif_pos h]
    · show 16 * (k : ℕ) + (o : ℕ) % 256 / 16 = src o / 128 + 16 * (k : ℕ)
      unfold src; omega
    · show t.val * 128 + (o : ℕ) / 256 * 16 + (o : ℕ) % 16 = t.val * 128 + src o % 128
      unfold src; omega
  · refine Eq.trans ?_ (((catS_at (ms0_0 t) (hs0_0 t) (iblk m c 0 t) ⟨k - 16, by omega⟩ ⟨src o, hs⟩).trans (blk_proj m c t _ _)).trans
      (tok_hi _ _ _ _ _ ?_ ?_).symm)
    · generalize catC _ _ _ = A
      generalize catS _ _ _ = B
      pointwise
      rw [dif_neg h]
    · show 16 * (k : ℕ) + (o : ℕ) % 256 / 16 = 256 + (src o / 128 + 16 * ((k : ℕ) - 16))
      unfold src; omega
    · show 1024 + (t.val * 128 + (o : ℕ) / 256 * 16 + (o : ℕ) % 16) = (8 + t.val) * 128 + src o % 128
      unfold src; omega

/-- The sorted rows the reference keeps, entry by entry. -/
theorem ref4_at (T : FVec Ideal Cert.Reference12Ideal.S8448x1024 .f32) (t : Fin 8) (k : Fin 528) (o : Fin 2048) :
    REF4 T (ix3 t k o) = T (ix2 ⟨16 * (k : ℕ) + (o : ℕ) % 256 / 16, by have := k.isLt; omega⟩
      ⟨(t : ℕ) * 128 + (o : ℕ) / 256 * 16 + (o : ℕ) % 16, by have := t.isLt; have := o.isLt; omega⟩) := by
  have := t.isLt
  have := k.isLt
  have := o.isLt
  pointwise [REF4]
  refine congrArg T (funext fun a => Fin.ext ?_)
  fin_cases a
  · show _ = 16 * (k : ℕ) + (o : ℕ) % 256 / 16; simp <;> omega
  · show _ = (t : ℕ) * 128 + (o : ℕ) / 256 * 16 + (o : ℕ) % 16; simp <;> omega

set_option maxHeartbeats 1600000 in
theorem final4 (c : Dev nD) : (dats m 0 c).arrAt 4 (cfgs 0).N = REF4 (Tk m c) := by
  refine (dats m 0 c).arrAt_eq_of_covers 4 _ (by decide +kernel) fun t hf y => ?_
  have ht := N_lt t
  have he : ((cfg0.win 4).blk t).view.emb y = (ix3 ⟨t.val, ht⟩ (y 1) (y 2) : S8x528x2048.Idx) := by blk_ext [idx t]
  refine Eq.trans ?_ (congrArg (REF4 (Tk m c)) he.symm)
  refine Eq.trans ?_ (ref4_at (Tk m c) ⟨t.val, ht⟩ (y 1) (y 2)).symm
  blk_simp
  rw [after0_4]
  unfold outsAt0
  frame_out
  show shapeCast S1x528x2048 (Rows m c t) shapeCasts_S528x2048_S1x528x2048 y = _
  have hr := rows_at m c t (y 1) (y 2)
  generalize Rows m c t = R at hr ⊢
  pointwise
  exact hr

/-- A chunk's state, as one sum over its tokens and channels. -/
abbrev st (T : FVec Ideal Cert.Reference12Ideal.S8448x1024 .f32) (w : FVec Ideal S64x256x256 .f32) (g : Fin 64) (k : Fin 528) (n : Fin 256) : EReal :=
  ∑ x : Fin 256, T (ix2 ⟨(k : ℕ) * 16 + (x : ℕ) / 16, by have := k.isLt; have := x.isLt; omega⟩
    ⟨(g : ℕ) * 16 + (x : ℕ) % 16, by have := g.isLt; omega⟩) * w (ix3 g x n)

/-- The half from column `d` of the states. -/
def Half (T : FVec Ideal Cert.Reference12Ideal.S8448x1024 .f32) (w : FVec Ideal S64x256x256 .f32) (d : ℕ) (H : FVec Ideal S64x528x128 .f32) : Prop :=
  ∀ (j : S64x528x128.Idx) (g : Fin 64) (k : Fin 528) (n : Fin 256), (j 0 : ℕ) = g → (j 1 : ℕ) = k → d + (j 2 : ℕ) = n → H j = st T w g k n

theorem half5 (T : FVec Ideal Cert.Reference12Ideal.S8448x1024 .f32) (w : FVec Ideal S64x256x256 .f32) : Half T w 0 (REF5 T w) := by
  intro j g k n h0 h1 h2
  pointwise [REF5]
  refine Finset.sum_congr rfl fun x _ => congrArg₂ (· * ·) (congrArg T (funext fun a => Fin.ext ?_)) (congrArg w (funext fun a => Fin.ext ?_))
  · fin_cases a
    · show (j 1 : ℕ) * 16 + (x : ℕ) / 16 = (k : ℕ) * 16 + (x : ℕ) / 16; rw [h1]
    · show (j 0 : ℕ) * 16 + (x : ℕ) % 16 = _; rw [h0]; rfl
  · fin_cases a
    · exact h0
    · rfl
    · show _ = (n : ℕ); simp <;> omega

theorem half6 (T : FVec Ideal Cert.Reference12Ideal.S8448x1024 .f32) (w : FVec Ideal S64x256x256 .f32) : Half T w 128 (REF6 T w) := by
  intro j g k n h0 h1 h2
  pointwise [REF6]
  refine Finset.sum_congr rfl fun x _ => congrArg₂ (· * ·) (congrArg T (funext fun a => Fin.ext ?_)) (congrArg w (funext fun a => Fin.ext ?_))
  · fin_cases a
    · show (j 1 : ℕ) * 16 + (x : ℕ) / 16 = (k : ℕ) * 16 + (x : ℕ) / 16; rw [h1]
    · show (j 0 : ℕ) * 16 + (x : ℕ) % 16 = _; rw [h0]; rfl
  · fin_cases a
    · exact h0
    · rfl
    · show _ = (n : ℕ); simp <;> omega

/-- A group's product at a grid point is the states there. -/
theorem tail (c : Dev nD) (t : Fin cfg0.N) (R : FVec Ideal S528x2048 .bf16) (hR : ∀ (k : Fin 528) (o : Fin 2048), R (ix2 k o) = Rows m c t (ix2 k o))
    {d : ℕ} {H : FVec Ideal S64x528x128 .f32} (hT : Half (Tk m c) (Op m c) d H) (g : Fin 8) (j : S64x528x128.Idx) (k : Fin 528) (n : Fin 256)
    (h0 : (j 0 : ℕ) = t.val * 8 + g) (h1 : (j 1 : ℕ) = k) (h2 : d + (j 2 : ℕ) = n) :
    (∑ x : Fin 256, R (ix2 k ⟨256 * (g : ℕ) + x, by have := g.isLt; have := x.isLt; omega⟩) * (iblk m c 3 t : FVec Ideal S8x256x256 .bf16) (ix3 g x n)) = H j := by
  have ht := N_lt t
  have hg := g.isLt
  rw [hT j ⟨t.val * 8 + g, by omega⟩ k n h0 h1 h2]
  refine Finset.sum_congr rfl fun x _ => congrArg₂ (· * ·) ?_ (blk_op m c t g x n)
  have hx := x.isLt
  refine (hR k _).trans ((rows_at m c t k _).trans (congrArg (Tk m c) (funext fun a => Fin.ext ?_)))
  fin_cases a
  · show 16 * (k : ℕ) + (256 * (g : ℕ) + x) % 256 / 16 = (k : ℕ) * 16 + (x : ℕ) / 16; omega
  · show t.val * 128 + (256 * (g : ℕ) + x) / 256 * 16 + (256 * (g : ℕ) + x) % 16 = (t.val * 8 + g) * 16 + (x : ℕ) % 16; omega

set_option maxHeartbeats 1600000 in
theorem final5 (c : Dev nD) : (dats m 0 c).arrAt 5 (cfgs 0).N = REF5 (Tk m c) (Op m c) := by
  have hT := half5 (Tk m c) (Op m c)
  generalize REF5 (Tk m c) (Op m c) = H at hT ⊢
  refine (dats m 0 c).arrAt_eq_of_covers 5 _ (by decide +kernel) fun t hf y => ?_
  have ht := N_lt t
  have e0 : (((cfg0.win 5).blk t).view.emb y 0).val = t.val * 8 + (y 0).val := by blk_simp; rw [(idx t).2.2.2.2.2.1]; rfl
  have e1 : (((cfg0.win 5).blk t).view.emb y 1).val = (y 1).val := by blk_simp; rw [(idx t).2.2.2.2.2.1]; show 0 * 528 + (y 1).val = _; omega
  have e2 : (((cfg0.win 5).blk t).view.emb y 2).val = (y 2).val := by blk_simp; rw [(idx t).2.2.2.2.2.1]; show 0 * 128 + (y 2).val = _; omega
  obtain ⟨j, hj, j0, j1, j2⟩ : ∃ j : S64x528x128.Idx, ((cfg0.win 5).blk t).view.emb y = j ∧ (j 0 : ℕ) = t.val * 8 + (y 0).val
      ∧ (j 1 : ℕ) = (y 1).val ∧ (j 2 : ℕ) = (y 2).val := ⟨_, rfl, e0, e1, e2⟩
  clear e0 e1 e2
  refine Eq.trans ?_ (congrArg H hj.symm)
  clear hj
  blk_simp
  rw [after0_5]
  unfold outsAt0
  frame_out
  unfold k0_pay5
  generalize hr : k0_pay3 (F := Ideal) _ _ _ _ _ _ _ _ _ _ _ _ _ _ _ _ _ _ = R
  have hR : ∀ (k : Fin 528) (o : Fin 2048), R (ix2 k o) = Rows m c t (ix2 k o) := fun k o => by subst hr; rfl
  clear hr
  canon_tiles x h using View.cover_of_tiledBy _ ![1, 528, 128] (by sl_kernel_rfl) _
  all_goals (open_payloads; pointwise)
  case piece0 => exact tail m c t R hR hT 7 j (x 1) ⟨(x 2 : ℕ), by omega⟩ (by show _ = t.val * 8 + 7; omega) (by omega) (by show _ = (x 2 : ℕ); omega)
  case piece1 => exact tail m c t R hR hT 6 j (x 1) ⟨(x 2 : ℕ), by omega⟩ (by show _ = t.val * 8 + 6; omega) (by omega) (by show _ = (x 2 : ℕ); omega)
  case piece2 => exact tail m c t R hR hT 5 j (x 1) ⟨(x 2 : ℕ), by omega⟩ (by show _ = t.val * 8 + 5; omega) (by omega) (by show _ = (x 2 : ℕ); omega)
  case piece3 => exact tail m c t R hR hT 4 j (x 1) ⟨(x 2 : ℕ), by omega⟩ (by show _ = t.val * 8 + 4; omega) (by omega) (by show _ = (x 2 : ℕ); omega)
  case piece4 => exact tail m c t R hR hT 3 j (x 1) ⟨(x 2 : ℕ), by omega⟩ (by show _ = t.val * 8 + 3; omega) (by omega) (by show _ = (x 2 : ℕ); omega)
  case piece5 => exact tail m c t R hR hT 2 j (x 1) ⟨(x 2 : ℕ), by omega⟩ (by show _ = t.val * 8 + 2; omega) (by omega) (by show _ = (x 2 : ℕ); omega)
  case piece6 => exact tail m c t R hR hT 1 j (x 1) ⟨(x 2 : ℕ), by omega⟩ (by show _ = t.val * 8 + 1; omega) (by omega) (by show _ = (x 2 : ℕ); omega)
  case piece7 =>
    refine Eq.trans (Finset.sum_congr rfl fun o _ => ?_) (tail m c t R hR hT 0 j (x 1) ⟨(x 2 : ℕ), by omega⟩ (by show _ = t.val * 8 + 0; omega) (by omega) (by show _ = (x 2 : ℕ); omega))
    refine congrArg₂ (· * ·) (congrArg R (funext fun a => Fin.ext ?_)) rfl
    fin_cases a
    · rfl
    · show (o : ℕ) = 256 * 0 + o; omega

set_option maxHeartbeats 1600000 in
theorem final6 (c : Dev nD) : (dats m 0 c).arrAt 6 (cfgs 0).N = REF6 (Tk m c) (Op m c) := by
  have hT := half6 (Tk m c) (Op m c)
  generalize REF6 (Tk m c) (Op m c) = H at hT ⊢
  refine (dats m 0 c).arrAt_eq_of_covers 6 _ (by decide +kernel) fun t hf y => ?_
  have ht := N_lt t
  have e0 : (((cfg0.win 6).blk t).view.emb y 0).val = t.val * 8 + (y 0).val := by blk_simp; rw [(idx t).2.2.2.2.2.2]; rfl
  have e1 : (((cfg0.win 6).blk t).view.emb y 1).val = (y 1).val := by blk_simp; rw [(idx t).2.2.2.2.2.2]; show 0 * 528 + (y 1).val = _; omega
  have e2 : (((cfg0.win 6).blk t).view.emb y 2).val = (y 2).val := by blk_simp; rw [(idx t).2.2.2.2.2.2]; show 0 * 128 + (y 2).val = _; omega
  obtain ⟨j, hj, j0, j1, j2⟩ : ∃ j : S64x528x128.Idx, ((cfg0.win 6).blk t).view.emb y = j ∧ (j 0 : ℕ) = t.val * 8 + (y 0).val
      ∧ (j 1 : ℕ) = (y 1).val ∧ (j 2 : ℕ) = (y 2).val := ⟨_, rfl, e0, e1, e2⟩
  clear e0 e1 e2
  refine Eq.trans ?_ (congrArg H hj.symm)
  clear hj
  blk_simp
  rw [after0_6]
  unfold outsAt0
  frame_out
  unfold k0_pay5
  generalize hr : k0_pay3 (F := Ideal) _ _ _ _ _ _ _ _ _ _ _ _ _ _ _ _ _ _ = R
  have hR : ∀ (k : Fin 528) (o : Fin 2048), R (ix2 k o) = Rows m c t (ix2 k o) := fun k o => by subst hr; rfl
  clear hr
  canon_tiles x h using View.cover_of_tiledBy _ ![1, 528, 128] (by sl_kernel_rfl) _
  all_goals (open_payloads; pointwise)
  case piece0 => exact tail m c t R hR hT 7 j (x 1) ⟨128 + (x 2 : ℕ), by omega⟩ (by show _ = t.val * 8 + 7; omega) (by omega) (by show _ = 128 + (x 2 : ℕ); omega)
  case piece1 => exact tail m c t R hR hT 6 j (x 1) ⟨128 + (x 2 : ℕ), by omega⟩ (by show _ = t.val * 8 + 6; omega) (by omega) (by show _ = 128 + (x 2 : ℕ); omega)
  case piece2 => exact tail m c t R hR hT 5 j (x 1) ⟨128 + (x 2 : ℕ), by omega⟩ (by show _ = t.val * 8 + 5; omega) (by omega) (by show _ = 128 + (x 2 : ℕ); omega)
  case piece3 => exact tail m c t R hR hT 4 j (x 1) ⟨128 + (x 2 : ℕ), by omega⟩ (by show _ = t.val * 8 + 4; omega) (by omega) (by show _ = 128 + (x 2 : ℕ); omega)
  case piece4 => exact tail m c t R hR hT 3 j (x 1) ⟨128 + (x 2 : ℕ), by omega⟩ (by show _ = t.val * 8 + 3; omega) (by omega) (by show _ = 128 + (x 2 : ℕ); omega)
  case piece5 => exact tail m c t R hR hT 2 j (x 1) ⟨128 + (x 2 : ℕ), by omega⟩ (by show _ = t.val * 8 + 2; omega) (by omega) (by show _ = 128 + (x 2 : ℕ); omega)
  case piece6 => exact tail m c t R hR hT 1 j (x 1) ⟨128 + (x 2 : ℕ), by omega⟩ (by show _ = t.val * 8 + 1; omega) (by omega) (by show _ = 128 + (x 2 : ℕ); omega)
  case piece7 =>
    refine Eq.trans (Finset.sum_congr rfl fun o _ => ?_) (tail m c t R hR hT 0 j (x 1) ⟨128 + (x 2 : ℕ), by omega⟩ (by show _ = t.val * 8 + 0; omega) (by omega) (by show _ = 128 + (x 2 : ℕ); omega))
    refine congrArg₂ (· * ·) (congrArg R (funext fun a => Fin.ext ?_)) rfl
    fin_cases a
    · rfl
    · show (o : ℕ) = 256 * 0 + o; omega

end Cert.Kernel12Ideal.St

namespace Cert.Proof

/-- The reference runs to its end with its arguments unchanged. -/
theorem frame_ref_st : Cert.quiescent_Reference12Ideal := fun m ρ _ =>
  (θ_run Cert.Reference12Ideal.defs _ _).mono
    (fun r h => ⟨fun c => (h c).2.2.2, sem_eq_zero_of_no_sems (by decide) r.2⟩)
    (Cert.Reference12Ideal.Value.run (F := Ideal) m ρ)

set_option maxHeartbeats 1600000 in
/-- The kernel's three results are the rows and the states of the chunks. -/
theorem algebraic_st : Cert.algebraic_Kernel12Ideal_Reference12Ideal := by
  pair_intro
  · run_from Cert.Kernel12Ideal.Value.run_blocks m g
  · hlo_run
    all_goals clear hagree hpre g g'
    · exact (Cert.Kernel12Ideal.St.final4 m c).symm
    · exact (Cert.Kernel12Ideal.St.final5 m c).symm
    · exact (Cert.Kernel12Ideal.St.final6 m c).symm

end Cert.Proof
-- ==== Proof.OutRun.lean ====
module

public import proofs.«01_k».proof.Proof.Gen.Kernel13Ideal.Frame
public import proofs.«01_k».proof.Proof.Gen.Kernel13Ideal.Skeleton

@[expose] public section

set_option maxRecDepth 16384

noncomputable section

namespace Cert.Kernel13Ideal.Out

open Cert.Kernel13Ideal Cert.Kernel13Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- One grid point of the body, on whole staging memrefs: the inputs stay, and the output (the chunks'
    tokens) ends with the pieces its stores wrote, which the run finds. -/
noncomputable def kernelRun (c : Dev nD) (i : grid0.Coords) (arg1 : Memref sig .tc .vmem S1x528x2048 .bf16) (harg1 : arg1.IsWhole) (arg2 : Memref sig .tc .vmem S8x528x128 .f32) (harg2 : arg2.IsWhole) (arg3 : Memref sig .tc .vmem S8x528x128 .f32) (harg3 : arg3.IsWhole) (arg4 : Memref sig .tc .vmem S8x528x128 .f32) (harg4 : arg4.IsWhole) (arg5 : Memref sig .tc .vmem S8x528x128 .f32) (harg5 : arg5.IsWhole) (arg6 : Memref sig .tc .vmem S8x256x256 .bf16) (harg6 : arg6.IsWhole) (arg7 : Memref sig .tc .vmem S8x256x256 .bf16) (harg7 : arg7.IsWhole) (arg8 : Memref sig .tc .vmem S2048x2048 .bf16) (harg8 : arg8.IsWhole) (arg9 : Memref sig .tc .vmem S8192x128 .f32) (harg9 : arg9.IsWhole)
    (x0 : Vec F S1x528x2048 .bf16) (x1 : Vec F S8x528x128 .f32) (x2 : Vec F S8x528x128 .f32) (x3 : Vec F S8x528x128 .f32) (x4 : Vec F S8x528x128 .f32) (x5 : Vec F S8x256x256 .bf16) (x6 : Vec F S8x256x256 .bf16) (x7 : Vec F S2048x2048 .bf16) :
    { L8 : List (View.Piece (Elt F) S8192x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ d, owns (c : Thread nD τ) arg9 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ f, arg9.view.loc (c : Thread nD τ) ↦[arg9.view.set]{fullShare} arg9.view.writes (Elt F) f L8)) -∗ K ⟨⟩))
          ⊢ wp frame (wpE (defs₀ (F := F)) Variants.none c none) E (cc0_s5_out i arg1 harg1 arg2 harg2 arg3 harg3 arg4 harg4 arg5 harg5 arg6 harg6 arg7 harg7 arg8 harg8 arg9 harg9) K } := by
  refine ⟨?_, fun E K => ?run⟩
  case run =>
    simp only [cc0_s5_out_eq_skeleton]; unfold cc0_s5_out_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    iexists _; iexact H8

end Cert.Kernel13Ideal.Out

end
-- ==== Proof.OutFrame.lean ====
module

public import proofs.«01_k».proof.Proof.Gen.Kernel13Ideal.Frame
public import proofs.«01_k».proof.Proof.Gen.Kernel13Ideal.Skeleton
public import proofs.«01_k».proof.Proof.OutRun
public import Idealize.ShloMosaic.Lib.Claim

@[expose] public section

set_option maxRecDepth 16384

noncomputable section

namespace Cert.Kernel13Ideal.Out

open Cert.Kernel13Ideal Cert.Kernel13Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## Stores of every sixteenth row -/

/-- Sixteen stores, the `s`-th into the rows `s`, `s + 16`, … of `n` chunks, cover all rows. -/
theorem cover_rows {Val : EltTy → Type} {e : EltTy} (n a b : Nat) (hs : a ≤ 16 * n) (L : List (View.Piece Val ⟨2, ![a, b]⟩ e))
    (h : (List.range 16).all (fun s => L.any fun p => p.1.off 0 == s && p.1.off 1 == 0 && p.1.stride 0 == 16
      && p.1.stride 1 == 1 && p.1.size 0 == n && p.1.size 1 == b) = true) (y : Shape.Idx ⟨2, ![a, b]⟩) :
    ∃ p ∈ L, y ∈ p.1.set := by
  have hy : (y 0).val < a := (y 0).isLt
  have hw : (y 1).val < b := (y 1).isLt
  rw [List.all_eq_true] at h
  have h1 := h ((y 0).val % 16) (List.mem_range.mpr (Nat.mod_lt _ (by omega)))
  obtain ⟨p, hp, hq⟩ := List.any_eq_true.mp h1
  simp only [Bool.and_eq_true, beq_iff_eq] at hq
  obtain ⟨⟨⟨⟨⟨o0, o1⟩, t0⟩, t1⟩, z0⟩, z1⟩ := hq
  refine ⟨p, hp, ?_⟩
  refine p.1.mem_set.mpr fun i => ?_
  fin_cases i
  · exact ⟨(y 0).val / 16, by show _ < p.1.size 0; rw [z0]; omega, by show (y 0).val = p.1.off 0 + p.1.stride 0 * _; rw [o0, t0]; omega⟩
  · exact ⟨(y 1).val, by show _ < p.1.size 1; rw [z1]; omega, by show (y 1).val = p.1.off 1 + p.1.stride 1 * _; rw [o1, t1]; omega⟩

/-! ## What the outputs hold after a point -/

/-- The pieces the body leaves in the block of token rows at point `t`. -/
def pieces8 (c : Dev nD) (t : Fin cfg0.N) : List (View.Piece (Elt F) S8192x128 .f32) := (kernelRun c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (iblk m c 0 t) (iblk m c 1 t) (iblk m c 2 t) (iblk m c 3 t) (iblk m c 4 t) (iblk m c 5 t) (iblk m c 6 t) (iblk m c 7 t)).1

theorem cover8 (c : Dev nD) (t : Fin cfg0.N) (y : S8192x128.Idx) : ∃ p ∈ pieces8 m c t, y ∈ p.1.set :=
  cover_rows 512 8192 128 (by omega) (pieces8 m c t) (by sl_kernel_rfl) y

/-! ## The pipeline's proof data -/

/-- Each input's buffer at its block, the output's at what its pieces leave; the arrays as the region finds them. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => View.canon (pieces8 m c t)
  Φ _ := Pipeline.ΦA spec0 c
  q _ := fullShare
  owed _ := 0

theorem A_eq (c : Dev nD) (w : Fin cfg0.W) : (dats m 0 c).A w = V m c (Pipeline.arrRef spec0 w) := by dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = View.canon (pieces8 m c t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (win0_0.stage (cfg0.slots t 0)) fullShare ((dats m 0 c).before 0 t d))
    ∗ (∃ d, owns (c : Thread nD τ) (win0_1.stage (cfg0.slots t 1)) fullShare ((dats m 0 c).before 1 t d))
    ∗ (∃ d, owns (c : Thread nD τ) (win0_2.stage (cfg0.slots t 2)) fullShare ((dats m 0 c).before 2 t d))
    ∗ (∃ d, owns (c : Thread nD τ) (win0_3.stage (cfg0.slots t 3)) fullShare ((dats m 0 c).before 3 t d))
    ∗ (∃ d, owns (c : Thread nD τ) (win0_4.stage (cfg0.slots t 4)) fullShare ((dats m 0 c).before 4 t d))
    ∗ (∃ d, owns (c : Thread nD τ) (win0_5.stage (cfg0.slots t 5)) fullShare ((dats m 0 c).before 5 t d))
    ∗ (∃ d, owns (c : Thread nD τ) (win0_6.stage (cfg0.slots t 6)) fullShare ((dats m 0 c).before 6 t d))
    ∗ (∃ d, owns (c : Thread nD τ) (win0_7.stage (cfg0.slots t 7)) fullShare ((dats m 0 c).before 7 t d))
    ∗ (∃ d, owns (c : Thread nD τ) (win0_8.stage (cfg0.slots t 8)) fullShare ((dats m 0 c).before 8 t d)))

/-- and what it returns. -/
def bodyPost (c : Dev nD) (t : Fin cfg0.N) : sProp 𝕄 :=
  iprop((dats m 0 c).Φ t.succ ∗ (dats m 0 c).owesAt () t.succ
    ∗ owns (c : Thread nD τ) (win0_0.stage (cfg0.slots t 0)) fullShare ((dats m 0 c).after 0 t)
    ∗ owns (c : Thread nD τ) (win0_1.stage (cfg0.slots t 1)) fullShare ((dats m 0 c).after 1 t)
    ∗ owns (c : Thread nD τ) (win0_2.stage (cfg0.slots t 2)) fullShare ((dats m 0 c).after 2 t)
    ∗ owns (c : Thread nD τ) (win0_3.stage (cfg0.slots t 3)) fullShare ((dats m 0 c).after 3 t)
    ∗ owns (c : Thread nD τ) (win0_4.stage (cfg0.slots t 4)) fullShare ((dats m 0 c).after 4 t)
    ∗ owns (c : Thread nD τ) (win0_5.stage (cfg0.slots t 5)) fullShare ((dats m 0 c).after 5 t)
    ∗ owns (c : Thread nD τ) (win0_6.stage (cfg0.slots t 6)) fullShare ((dats m 0 c).after 6 t)
    ∗ owns (c : Thread nD τ) (win0_7.stage (cfg0.slots t 7)) fullShare ((dats m 0 c).after 7 t)
    ∗ owns (c : Thread nD τ) (win0_8.stage (cfg0.slots t 8)) fullShare ((dats m 0 c).after 8 t))

/-- The body at any point, from its run. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply ((kernelRun c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (iblk m c 0 t) (iblk m c 1 t) (iblk m c 2 t) (iblk m c 3 t) (iblk m c 4 t) (iblk m c 5 t) (iblk m c 6 t) (iblk m c 7 t)).2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  iintro ⟨H0, H1, H2, H3, H4, H5, H6, H7, ⟨%e8, H8⟩⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7

  unfold owns; iexists _; isplitr
  swap; · iexact H8
  ipureintro; exact View.read_writes_eq_canon _ _ _ (cover8 m c t)

theorem defs₀_row (t : Fin cfg0.N) : defs₀ (F := F) .tc cfg0.body (cfg0.bodyArgs t (cfg0.slots t)) = bodyAt0 t := by
  unfold defs₀; rw [Defs.onTc_tc]

/-- The library's body obligation, at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
/-- The run, every counter at zero at its end. -/
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

theorem run_main : θ_run defs (onTc (τ := τ) (main (F := F))) (s₀ m ρ) (Pipeline.FramePost cfgs (dats m) 0 (V m)) :=
  (θ_run defs _ _).mono (fun _ h => h.1) (run_main_quiescent m ρ)

/-- The frame, at any elements. -/
theorem frame_any : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (frame_of m ρ (dats m) (A_eq m) (run_main m ρ)) ((θ_run defs _ _).mono (fun _ h => h.2) (run_main_quiescent m ρ))

/-- The run with the result named, the arguments unchanged. -/
theorem run_blocks : θ_run defs (onTc (τ := τ) (main (F := F))) ⟨m, fun _ => 0, ρ⟩ fun r => ∀ c : Dev nD,
      r.2.mem ((c : Thread nD τ).loc main_v38) = (dats m 0 c).arrAt 8 cfg0.N
      ∧ (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c => ⟨(h.1 c).1 8, h.2⟩)
    (θ_run_and (run_main m ρ) (frame_of m ρ (dats m) (A_eq m) (run_main m ρ)))

end Cert.Kernel13Ideal.Out

end
-- ==== Proof.OutValue.lean ====
/-
The latents of every chunk: what each grid point stores, read against the read-out of the rows and of the states.
-/
module

public import proofs.«01_k».proof.Proof.OutFrame
public import proofs.«01_k».proof.Proof.Gen.Reference13Ideal.Run
public import proofs.«01_k».proof.Proof.Gen.Kernel13
public import proofs.«01_k».proof.Proof.Gen.Kernel13Ideal
public import proofs.«01_k».proof.Proof.Gen.Reference13Ideal
public import proofs.«01_k».proof.Defs
public import Idealize.ShloMosaic.Lib.Pipeline.ValueKit
public import Idealize.ShloMosaic.Lib.WholeRead

@[expose] public section

set_option maxRecDepth 16384

noncomputable section

open Idealize.ShloMosaic Idealize.ShloMosaic.TcCoe Idealize.SL.Sem
open Idealize.ShloMosaic.Tactic

namespace Cert.Kernel13Ideal.Out

open Cert.Kernel13Ideal Cert.Kernel13Ideal.Gen

variable (m : (ℓ : Loc nD τ sig) → Buf (Elt Ideal) ℓ)

/-! ## The loads of one group -/

theorem inb_slab (g : Fin 8) (a : Fin 3) : (![(g : ℕ), 16, 0] : Fin 3 → ℕ) a + S1x512x128.size a ≤ S8x528x128.size a := by
  have := g.isLt
  fin_cases a
  · show (g : ℕ) + 1 ≤ 8; omega
  · show 16 + 512 ≤ 528; omega
  · show 0 + 128 ≤ 128; omega

theorem inb_op (g : Fin 8) (a : Fin 3) : (![(g : ℕ), 0, 0] : Fin 3 → ℕ) a + S1x256x256.size a ≤ S8x256x256.size a := by
  have := g.isLt
  fin_cases a
  · show (g : ℕ) + 1 ≤ 8; omega
  · show 0 + 256 ≤ 256; omega
  · show 0 + 256 ≤ 256; omega

theorem inb_cols (g : Fin 8) (a : Fin 3) : (![0, 16, 256 * (g : ℕ)] : Fin 3 → ℕ) a + S1x512x256.size a ≤ S1x528x2048.size a := by
  have := g.isLt
  fin_cases a
  · show 0 + 1 ≤ 1; omega
  · show 16 + 512 ≤ 528; omega
  · show 256 * (g : ℕ) + 256 ≤ 2048; omega

/-- One part of the states of pair `g`, from the first chunk of the sequence. -/
abbrev slab (M : Memref sig .tc .vmem S8x528x128 .f32) (hM : M.IsWhole) (X : FVec Ideal S8x528x128 .f32) (g : Fin 8) : FVec Ideal S1x512x128 .f32 :=
  View.readAt (Elt Ideal) M.view (Rect.unit (s := S8x528x128) ![(g : ℕ), 16, 0] S1x512x128.size (inb_slab g)).toLoadRect (hM.unread X)

/-- An operator: group `g` of the block. -/
abbrev oper (M : Memref sig .tc .vmem S8x256x256 .bf16) (hM : M.IsWhole) (X : FVec Ideal S8x256x256 .bf16) (g : Fin 8) : FVec Ideal S1x256x256 .bf16 :=
  View.readAt (Elt Ideal) M.view (Rect.unit (s := S8x256x256) ![(g : ℕ), 0, 0] S1x256x256.size (inb_op g)).toLoadRect (hM.unread X)

/-- The chunks' rows of group `g`, from the first chunk of the sequence. -/
abbrev cols (M : Memref sig .tc .vmem S1x528x2048 .bf16) (hM : M.IsWhole) (X : FVec Ideal S1x528x2048 .bf16) (g : Fin 8) : FVec Ideal S1x512x256 .bf16 :=
  View.readAt (Elt Ideal) M.view (Rect.unit (s := S1x528x2048) ![0, 16, 256 * (g : ℕ)] S1x512x256.size (inb_cols g)).toLoadRect (hM.unread X)

/-! ## One group's part, and the sorted sum -/

/-- The half of a pair the grid point takes, as the body computes the word. -/
abbrev which (i : grid0.Coords) : BitVec 32 :=
  Scalar.select (Scalar.andi (Scalar.xori (Scalar.cmpi .slt (Scalar.remsi (BitVec.ofNat 32 (i 0).val) (Scalar.select (Scalar.cmpi .eq 2#32 0#32) 1#32 2#32)) 0#32)
      (Scalar.cmpi .slt (Scalar.select (Scalar.cmpi .eq 2#32 0#32) 1#32 2#32) 0#32))
    (Scalar.cmpi .ne (Scalar.remsi (BitVec.ofNat 32 (i 0).val) (Scalar.select (Scalar.cmpi .eq 2#32 0#32) 1#32 2#32)) 0#32))
    (Scalar.addi (Scalar.remsi (BitVec.ofNat 32 (i 0).val) (Scalar.select (Scalar.cmpi .eq 2#32 0#32) 1#32 2#32)) (Scalar.select (Scalar.cmpi .eq 2#32 0#32) 1#32 2#32))
    (Scalar.remsi (BitVec.ofNat 32 (i 0).val) (Scalar.select (Scalar.cmpi .eq 2#32 0#32) 1#32 2#32))

/-- Group `g`'s latents at the chunks' rows, at grid point `t`. -/
def part (c : Dev nD) (t : Fin cfg0.N) (g : Fin 8) : FVec Ideal S512x256 .f32 :=
  k0_pay18 (which (grid0.coords t)) (k0_pay16 (slab (win0_1.stage (cfg0.slots t 1)) (hstage0_1 ((cfg0.slots t 1).cast nbuf0_1)) (iblk m c 1 t) g) (slab (win0_2.stage (cfg0.slots t 2)) (hstage0_2 ((cfg0.slots t 2).cast nbuf0_2)) (iblk m c 2 t) g)
      (slab (win0_3.stage (cfg0.slots t 3)) (hstage0_3 ((cfg0.slots t 3).cast nbuf0_3)) (iblk m c 3 t) g) (slab (win0_4.stage (cfg0.slots t 4)) (hstage0_4 ((cfg0.slots t 4).cast nbuf0_4)) (iblk m c 4 t) g))
    (k0_pay17 (cols (win0_0.stage (cfg0.slots t 0)) (hstage0_0 ((cfg0.slots t 0).cast nbuf0_0)) (iblk m c 0 t) g) (oper (win0_5.stage (cfg0.slots t 5)) (hstage0_5 ((cfg0.slots t 5).cast nbuf0_5)) (iblk m c 5 t) g))
    (oper (win0_6.stage (cfg0.slots t 6)) (hstage0_6 ((cfg0.slots t 6).cast nbuf0_6)) (iblk m c 6 t) g)

/-- The groups' parts side by side, before sorting. -/
def laid (c : Dev nD) (t : Fin cfg0.N) : FVec Ideal S512x2048 .f32 :=
  concatenate S512x2048 1 (List.ofFn fun g : Fin 8 => (⟨S512x256, part m c t g⟩ : (s : Shape) × (s.Idx → EReal)))
    concatenates_S512x256_S512x256_S512x256_S512x256_S512x256_S512x256_S512x256_S512x256_S512x2048_d1

/-- The product with the table of ones. -/
def sorted (X : FVec Ideal S512x2048 .f32) (P : FVec Ideal S2048x2048 .bf16) : FVec Ideal S512x2048 .f32 :=
  matmul dot_S512x2048_S2048x2048_S512x2048_1_1_0_0_n_n none (truncf .bf16 X bitsLt_bf16_f32) (shapeCast S2048x2048 P shapeCasts_S2048x2048_S2048x2048)
    (constant S512x2048 .f32 0x00000000#32)

/-- The rows of all chunks at a grid point, columns in the order (token of the chunk, lane). -/
def rows (c : Dev nD) (t : Fin cfg0.N) : FVec Ideal S512x2048 .f32 :=
  sorted (laid m c t) (View.readAt (Elt Ideal) (win0_7.stage (cfg0.slots t 7)).view (Rect.unit (s := S2048x2048) ![0, 0] S2048x2048.size inb_S2048x2048_S2048x2048_0_0).toLoadRect
    ((hstage0_7 ((cfg0.slots t 7).cast nbuf0_7)).unread (iblk m c 7 t)))

/-! ## The stored pieces -/

theorem inb_row (s : Fin 16) (a : Fin 2) : (![512, 128] : Fin 2 → ℕ) a = 0 ∨ (![(s : ℕ), 0] : Fin 2 → ℕ) a + (![16, 1] : Fin 2 → ℕ) a * ((![512, 128] : Fin 2 → ℕ) a - 1) < S8192x128.size a := by
  have := s.isLt
  fin_cases a
  · right; show (s : ℕ) + 16 * (512 - 1) < 8192; omega
  · right; show 0 + 1 * (128 - 1) < 128; omega

theorem cut_row (s : Fin 16) : S512x2048.Slices ![0, 128 * (s : ℕ)] S512x128 := by
  have := s.isLt
  refine ⟨rfl, fun a => ?_⟩
  fin_cases a
  · show 0 + 512 ≤ 512; omega
  · show 128 * (s : ℕ) + 128 ≤ 2048; omega

set_option maxHeartbeats 1600000 in
theorem pieces8_eq (c : Dev nD) (t : Fin cfg0.N) : pieces8 m c t = List.ofFn fun n : Fin 16 =>
    (⟨⟨(⟨![((Fin.rev n : Fin 16) : ℕ), 0], S512x128.size, ![16, 1], inb_row (Fin.rev n)⟩ : LoadRect S8192x128), spos_16_1⟩,
      extractStridedSlice S512x128 ![0, 128 * ((Fin.rev n : Fin 16) : ℕ)] (rows m c t) (cut_row (Fin.rev n))⟩ :
      View.Piece (Elt Ideal) S8192x128 .f32) := by
  sl_kernel_rfl

theorem idx : ∀ t : Fin cfg0.N, win0_0.index t = ![t.val, 0, 0] ∧ win0_1.index t = ![t.val / 2, 0, 0]
    ∧ win0_2.index t = ![t.val / 2, 0, 0] ∧ win0_3.index t = ![t.val / 2, 0, 0] ∧ win0_4.index t = ![t.val / 2, 0, 0] ∧ win0_5.index t = ![t.val, 0, 0]
    ∧ win0_6.index t = ![t.val, 0, 0] ∧ win0_7.index t = ![0, 0] ∧ win0_8.index t = ![0, t.val] :=
  (by decide +kernel : ∀ t : Fin grid0.N, _)

theorem N_lt (t : Fin cfg0.N) : t.val < 8 := lt_of_lt_of_eq t.isLt (by decide +kernel)

/-- The half of a pair a grid point takes: the first at an even point. -/
theorem which_at : ∀ t : Fin cfg0.N, Scalar.cmpi .eq (which (grid0.coords t)) 0#32 = if t.val % 2 = 0 then 1#1 else 0#1 :=
  (by decide +kernel : ∀ t : Fin grid0.N, _)

/-! ## The rows a grid point stores -/

theorem block8 (c : Dev nD) (t : Fin cfg0.N) (y : S8192x128.Idx) : View.canon (pieces8 m c t) y
    = rows m c t (ix2 ⟨(y 0 : ℕ) / 16, by have : (y 0 : ℕ) < 8192 := (y 0).isLt; omega⟩ ⟨(y 0 : ℕ) % 16 * 128 + (y 1 : ℕ), by have : (y 1 : ℕ) < 128 := (y 1).isLt; omega⟩) := by
  refine View.canon_apply_of_pieces (fun y : S8192x128.Idx => rows m c t (ix2 ⟨(y 0 : ℕ) / 16, by have : (y 0 : ℕ) < 8192 := (y 0).isLt; omega⟩ ⟨(y 0 : ℕ) % 16 * 128 + (y 1 : ℕ), by have : (y 1 : ℕ) < 128 := (y 1).isLt; omega⟩)) _ ?_ y (cover8 m c t y)
  rw [pieces8_eq]
  intro p hp x
  obtain ⟨n, rfl⟩ := List.mem_ofFn.mp hp
  have hn := (Fin.rev n).isLt
  generalize Fin.rev n = s at *
  show extractStridedSlice S512x128 ![0, 128 * (s : ℕ)] (rows m c t) (cut_row s) x = _
  have h0 : (x 0 : ℕ) < 512 := (x 0).isLt
  have h1 : (x 1 : ℕ) < 128 := (x 1).isLt
  refine congrArg (rows m c t) (funext fun a => Fin.ext ?_)
  fin_cases a
  · show 0 + (x 0 : ℕ) = ((s : ℕ) + 16 * (x 0 : ℕ)) / 16; omega
  · show 128 * (s : ℕ) + (x 1 : ℕ) = ((s : ℕ) + 16 * (x 0 : ℕ)) % 16 * 128 + (0 + 1 * (x 1 : ℕ)); omega

/-! ## The table of ones -/

/-- The row of a chunk's rows (token, lane) that column (group, token, channel) of the sorted rows takes. -/
abbrev src (o : ℕ) : ℕ := o % 256 / 16 * 128 + o / 256 * 16 + o % 16

/-- The column (group, token, channel) that lands at (token, lane). -/
abbrev dst (o : ℕ) : ℕ := o % 128 / 16 * 256 + o / 128 * 16 + o % 16

/-- The table of ones, entry by entry. -/
theorem perm_at (c : Dev nD) (x : S2048x2048.Idx) :
    V m c main_v37 x = if (x 0 : ℕ) = src (x 1) then (1 : EReal) else 0 := by
  entry_read
  pointwise
  have h0 : (x 0 : ℕ) < 2048 := (x 0).isLt
  have h1 : (x 1 : ℕ) < 2048 := (x 1).isLt
  have e : (x 1 : ℕ) / 16 % 16 * 128 + (x 1 : ℕ) / 256 * 16 + (x 1 : ℕ) % 16 = src (x 1) := by
    unfold src; omega
  rw [e]
  have h2 : src (x 1) < 2048 := by unfold src; omega
  by_cases h : (x 0 : ℕ) = src (x 1)
  · rw [if_pos h, h]; simp [Scalar.select, IntOp.cmpi]
  · rw [if_neg h]
    have : BitVec.ofNat 32 (x 0 : ℕ) ≠ BitVec.ofNat 32 (src (x 1)) := fun hh => h (by
      have := congrArg BitVec.toNat hh
      rwa [BitVec.toNat_ofNat, BitVec.toNat_ofNat, Nat.mod_eq_of_lt (by omega), Nat.mod_eq_of_lt (by omega)] at this)
    have : (BitVec.ofNat 32 (x 0 : ℕ) == BitVec.ofNat 32 (src (x 1))) = false := beq_eq_false_iff_ne.mpr this
    simp [Scalar.select, IntOp.cmpi, this]

/-- A product with a table of ones selects: the sum's one entry. -/
theorem selected (f : Fin 2048 → EReal) (g : Fin 2048 → EReal) (s : ℕ) (hs : s < 2048)
    (hg : ∀ k : Fin 2048, g k = if (k : ℕ) = s then (1 : EReal) else 0) : (∑ k, f k * g k) = f ⟨s, hs⟩ := by
  rw [Finset.sum_eq_single (⟨s, hs⟩ : Fin 2048)]
  · rw [hg, if_pos rfl, mul_one]
  · intro k _ hk
    rw [hg, if_neg (fun h => hk (Fin.ext h)), mul_zero]
  · intro h; exact absurd (Finset.mem_univ _) h

/-- The product with the transposed table sorts the columns back. -/
theorem sorted_at (X : FVec Ideal S512x2048 .f32) (P : FVec Ideal S2048x2048 .bf16)
    (hP : ∀ x : S2048x2048.Idx, P x = if (x 0 : ℕ) = src (x 1) then (1 : EReal) else 0) (k : Fin 512) (o : Fin 2048) :
    sorted X P (ix2 k o) = X (ix2 k ⟨dst o, by have := o.isLt; unfold dst; omega⟩) := by
  pointwise [sorted]
  refine selected (fun q => X (ix2 k q)) _ (dst o) _ fun q => (hP _).trans ?_
  have := o.isLt
  have := q.isLt
  refine if_congr ?_ rfl rfl
  show (o : ℕ) = src q ↔ (q : ℕ) = dst o
  unfold src dst
  omega

theorem blk_perm (c : Dev nD) (t : Fin cfg0.N) (x : S2048x2048.Idx) :
    (iblk m c 7 t : FVec Ideal S2048x2048 .bf16) x = if (x 0 : ℕ) = src (x 1) then (1 : EReal) else 0 := by
  refine Eq.trans ?_ (perm_at m c x)
  blk_point [iblk, V, idx t]

theorem rows_at (c : Dev nD) (t : Fin cfg0.N) (k : Fin 512) (o : Fin 2048) :
    rows m c t (ix2 k o) = laid m c t (ix2 k ⟨dst o, by have := o.isLt; unfold dst; omega⟩) := by
  refine sorted_at _ _ (fun x => ?_) k o
  rw [Memref.IsWhole.readAt_unread]
  refine Eq.trans (congrArg _ (funext fun a => Fin.ext ?_)) (blk_perm m c t x)
  fin_cases a
  · show 0 + 1 * (x 0 : ℕ) = x 0; omega
  · show 0 + 1 * (x 1 : ℕ) = x 1; omega

theorem laid_at (c : Dev nD) (t : Fin cfg0.N) (k : Fin 512) (q : Fin 2048) :
    laid m c t (ix2 k q) = part m c t ⟨(q : ℕ) / 256, by have := q.isLt; omega⟩ (ix2 k ⟨(q : ℕ) % 256, by omega⟩) := by
  have hk := k.isLt
  have hq := q.isLt
  refine concatenate_ofFn_apply (t := S512x2048) (s₁ := S512x256) (1 : Fin 2) (part m c t) _ rfl 256 rfl (ix2 k q : S512x2048.Idx) ⟨(q : ℕ) / 256, by omega⟩ rfl
    (ix2 k ⟨(q : ℕ) % 256, by omega⟩ : S512x256.Idx) rfl ?_
  intro b hb
  fin_cases b
  · rfl
  · exact absurd rfl hb

/-! ## The arguments, and the latents as sums -/

/-- Two entries at the same place. -/
theorem at3 {n₀ n₁ n₂ : ℕ} {α : Type} (D : (⟨3, ![n₀, n₁, n₂]⟩ : Shape).Idx → α) {a a' : Fin n₀} {b b' : Fin n₁} {d d' : Fin n₂}
    (ha : (a : ℕ) = a') (hb : (b : ℕ) = b') (hd : (d : ℕ) = d') : D (ix3 a b d) = D (ix3 a' b' d') := by
  obtain rfl := Fin.ext ha; obtain rfl := Fin.ext hb; obtain rfl := Fin.ext hd; rfl

theorem at2 {n₀ n₁ : ℕ} {α : Type} (D : (⟨2, ![n₀, n₁]⟩ : Shape).Idx → α) {a a' : Fin n₀} {b b' : Fin n₁}
    (ha : (a : ℕ) = a') (hb : (b : ℕ) = b') : D (ix2 a b) = D (ix2 a' b') := by
  obtain rfl := Fin.ext ha; obtain rfl := Fin.ext hb; rfl

/-- The tokens' branch, the states in two parts, the two operators. -/
abbrev U (c : Dev nD) : FVec Ideal S8192x1024 .f32 := m ((c : Thread nD τ).loc main_arg0)
abbrev Hr (c : Dev nD) : FVec Ideal S64x528x128 .f32 := m ((c : Thread nD τ).loc main_arg1)
abbrev Hi (c : Dev nD) : FVec Ideal S64x528x128 .f32 := m ((c : Thread nD τ).loc main_arg2)
abbrev To (c : Dev nD) : FVec Ideal S64x256x256 .f32 := m ((c : Thread nD τ).loc main_arg3)
abbrev Co (c : Dev nD) : FVec Ideal S64x256x256 .f32 := m ((c : Thread nD τ).loc main_arg4)

/-- The state at the start of chunk `k` of the sequence, its two parts side by side. -/
def hs (hr hi : FVec Ideal S64x528x128 .f32) (g : Fin 64) (k : Fin 512) (n : Fin 256) : EReal :=
  if h : (n : ℕ) < 128 then hr (ix3 g ⟨16 + k, by have := k.isLt; omega⟩ ⟨n, h⟩) else hi (ix3 g ⟨16 + k, by have := k.isLt; omega⟩ ⟨n - 128, by have := n.isLt; omega⟩)

/-- The latent at token and channel `o` of chunk `k`: from the chunk's own tokens, and from the state at its start. -/
def latent (u : FVec Ideal S8192x1024 .f32) (hr hi : FVec Ideal S64x528x128 .f32) (tp co : FVec Ideal S64x256x256 .f32) (g : Fin 64) (k : Fin 512) (o : Fin 256) : EReal :=
  (∑ q : Fin 256, u (ix2 ⟨(k : ℕ) * 16 + (q : ℕ) / 16, by have := k.isLt; have := q.isLt; omega⟩ ⟨(g : ℕ) * 16 + (q : ℕ) % 16, by have := g.isLt; omega⟩) * tp (ix3 g q o))
    + ∑ n : Fin 256, hs hr hi g k n * co (ix3 g n o)

/-- Group `g` of grid point `t`. -/
abbrev grp (t : Fin cfg0.N) (g : Fin 8) : Fin 64 := ⟨t.val * 8 + g, by have := N_lt t; have := g.isLt; omega⟩

/-! ## The blocks -/

theorem slab_at (M : Memref sig .tc .vmem S8x528x128 .f32) (hM : M.IsWhole) (X : FVec Ideal S8x528x128 .f32) (g : Fin 8) (k : Fin 512) (l : Fin 128) :
    slab M hM X g (ix3 (0 : Fin 1) k l) = X (ix3 g ⟨16 + k, by have := k.isLt; omega⟩ l) := by
  show View.readAt (Elt Ideal) M.view _ (hM.unread X) _ = _
  rw [Memref.IsWhole.readAt_unread]
  refine congrArg X (funext fun a => Fin.ext ?_)
  fin_cases a
  · show (g : ℕ) + 1 * 0 = g; omega
  · show 16 + 1 * (k : ℕ) = 16 + k; omega
  · show 0 + 1 * (l : ℕ) = l; omega

theorem oper_at (M : Memref sig .tc .vmem S8x256x256 .bf16) (hM : M.IsWhole) (X : FVec Ideal S8x256x256 .bf16) (g : Fin 8) (a b : Fin 256) :
    oper M hM X g (ix3 (0 : Fin 1) a b) = X (ix3 g a b) := by
  show View.readAt (Elt Ideal) M.view _ (hM.unread X) _ = _
  rw [Memref.IsWhole.readAt_unread]
  refine congrArg X (funext fun i => Fin.ext ?_)
  fin_cases i
  · show (g : ℕ) + 1 * 0 = g; omega
  · show 0 + 1 * (a : ℕ) = a; omega
  · show 0 + 1 * (b : ℕ) = b; omega

theorem blk_to (c : Dev nD) (t : Fin cfg0.N) (M : Memref sig .tc .vmem S8x256x256 .bf16) (hM : M.IsWhole) (g : Fin 8) (a b : Fin 256) :
    oper M hM (iblk m c 5 t) g (ix3 (0 : Fin 1) a b) = To m c (ix3 (grp t g) a b) := by
  refine (oper_at M hM _ g a b).trans ?_
  have hx : ∀ x : S64x256x256.Idx, (V m c main_v26 : FVec Ideal S64x256x256 .bf16) x = To m c x := by intro x; entry_read; pointwise
  have := N_lt t
  refine Eq.trans ?_ (hx _)
  blk_point [iblk, V, idx t]

theorem blk_co (c : Dev nD) (t : Fin cfg0.N) (M : Memref sig .tc .vmem S8x256x256 .bf16) (hM : M.IsWhole) (g : Fin 8) (a b : Fin 256) :
    oper M hM (iblk m c 6 t) g (ix3 (0 : Fin 1) a b) = Co m c (ix3 (grp t g) a b) := by
  refine (oper_at M hM _ g a b).trans ?_
  have hx : ∀ x : S64x256x256.Idx, (V m c main_v27 : FVec Ideal S64x256x256 .bf16) x = Co m c x := by intro x; entry_read; pointwise
  have := N_lt t
  refine Eq.trans ?_ (hx _)
  blk_point [iblk, V, idx t]

set_option maxHeartbeats 1600000 in
theorem blk_u (c : Dev nD) (t : Fin cfg0.N) (M : Memref sig .tc .vmem S1x528x2048 .bf16) (hM : M.IsWhole) (g : Fin 8) (k : Fin 512) (q : Fin 256) :
    cols M hM (iblk m c 0 t) g (ix3 (0 : Fin 1) k q) = U m c (ix2 ⟨(k : ℕ) * 16 + (q : ℕ) / 16, by have := k.isLt; have := q.isLt; omega⟩
      ⟨(grp t g : ℕ) * 16 + (q : ℕ) % 16, by have := (grp t g).isLt; omega⟩) := by
  have ht := N_lt t
  have hg := g.isLt
  have hk := k.isLt
  have hq := q.isLt
  have hx : ∀ kk : Fin 528, (V m c main_v5 : FVec Ideal S8x528x2048 .bf16) (ix3 ⟨t.val, ht⟩ kk ⟨256 * (g : ℕ) + q, by omega⟩)
      = if h : (kk : ℕ) < 16 then 0 else U m c (ix2 ⟨((kk : ℕ) - 16) * 16 + (q : ℕ) / 16, by have := kk.isLt; omega⟩ ⟨(grp t g : ℕ) * 16 + (q : ℕ) % 16, by have := (grp t g).isLt; omega⟩) := by
    intro kk
    have hkk := kk.isLt
    entry_read; pointwise
    split
    · rfl
    · refine congrArg (U m c) (funext fun i => Fin.ext ?_)
      fin_cases i
      · show ((kk : ℕ) - 16) * 16 + (256 * (g : ℕ) + q) / 16 % 16 = ((kk : ℕ) - 16) * 16 + (q : ℕ) / 16; omega
      · show t.val * 128 + (256 * (g : ℕ) + q) / 256 * 16 + (256 * (g : ℕ) + q) % 16 = (t.val * 8 + (g : ℕ)) * 16 + (q : ℕ) % 16; omega
  have e : (iblk m c 0 t : FVec Ideal S1x528x2048 .bf16) (ix3 (0 : Fin 1) ⟨16 + k, by omega⟩ ⟨256 * (g : ℕ) + q, by omega⟩)
      = (V m c main_v5 : FVec Ideal S8x528x2048 .bf16) (ix3 ⟨t.val, ht⟩ ⟨16 + k, by omega⟩ ⟨256 * (g : ℕ) + q, by omega⟩) := by
    blk_point [iblk, V, idx t]
  have hu : (V m c main_v5 : FVec Ideal S8x528x2048 .bf16) (ix3 ⟨t.val, ht⟩ ⟨16 + k, by omega⟩ ⟨256 * (g : ℕ) + q, by omega⟩)
      = U m c (ix2 ⟨(k : ℕ) * 16 + (q : ℕ) / 16, by omega⟩ ⟨(grp t g : ℕ) * 16 + (q : ℕ) % 16, by have := (grp t g).isLt; omega⟩) := by
    refine (hx ⟨16 + k, by omega⟩).trans ((dif_neg (show ¬ 16 + (k : ℕ) < 16 by omega)).trans (at2 (U m c) ?_ rfl))
    show (16 + (k : ℕ) - 16) * 16 + (q : ℕ) / 16 = (k : ℕ) * 16 + (q : ℕ) / 16
    omega
  refine Eq.trans ?_ (e.trans hu)
  show View.readAt (Elt Ideal) M.view _ (hM.unread _) _ = _
  rw [Memref.IsWhole.readAt_unread]
  refine congrArg (iblk m c 0 t : FVec Ideal S1x528x2048 .bf16) (funext fun i => Fin.ext ?_)
  fin_cases i
  · rfl
  · show 16 + 1 * (k : ℕ) = 16 + k; omega
  · show 256 * (g : ℕ) + 1 * (q : ℕ) = 256 * (g : ℕ) + q; omega

/-- Lane `l` of a part of the states of pair `g`: the group of the half the lane is in, direction `d`. -/
abbrev half (t : Fin cfg0.N) (g : Fin 8) (d : ℕ) (hd : d ≤ 64) (H : FVec Ideal S64x528x128 .f32) (k : Fin 528) (l : Fin 128) : EReal :=
  H (ix3 ⟨t.val / 2 * 16 + (l : ℕ) / 64 * 8 + g, by have := N_lt t; have := g.isLt; have := l.isLt; omega⟩ k ⟨d + (l : ℕ) % 64, by omega⟩)

theorem blk1 (c : Dev nD) (t : Fin cfg0.N) (M : Memref sig .tc .vmem S8x528x128 .f32) (hM : M.IsWhole) (g : Fin 8) (k : Fin 512) (l : Fin 128) :
    slab M hM (iblk m c 1 t) g (ix3 (0 : Fin 1) k l) = half t g 0 (by omega) (Hr m c) ⟨16 + k, by have := k.isLt; omega⟩ l := by
  have hx : ∀ x : S32x528x128.Idx, (V m c main_v10 : FVec Ideal S32x528x128 .f32) x
      = Hr m c (ix3 ⟨(x 0 : ℕ) / 8 * 16 + (x 2 : ℕ) / 64 * 8 + (x 0 : ℕ) % 8, by have : (x 0 : ℕ) < 32 := (x 0).isLt; have : (x 2 : ℕ) < 128 := (x 2).isLt; omega⟩ (x 1)
          ⟨(x 2 : ℕ) % 64, by omega⟩) := by
    intro x; entry_read; pointwise
  refine (slab_at M hM _ g k l).trans ?_
  have ht := N_lt t
  have hg := g.isLt
  have hk := k.isLt
  have e : (iblk m c 1 t : FVec Ideal S8x528x128 .f32) (ix3 g ⟨16 + k, by omega⟩ l) = (V m c main_v10 : FVec Ideal S32x528x128 .f32) (ix3 ⟨t.val / 2 * 8 + g, by omega⟩ ⟨16 + k, by omega⟩ l) := by
    blk_point [iblk, V, idx t]
  rw [e, hx]
  refine congrArg (Hr m c) (funext fun a => Fin.ext ?_)
  fin_cases a
  · show (t.val / 2 * 8 + (g : ℕ)) / 8 * 16 + (l : ℕ) / 64 * 8 + (t.val / 2 * 8 + (g : ℕ)) % 8 = t.val / 2 * 16 + (l : ℕ) / 64 * 8 + g; omega
  · rfl
  · show (l : ℕ) % 64 = 0 + (l : ℕ) % 64; omega

theorem blk2 (c : Dev nD) (t : Fin cfg0.N) (M : Memref sig .tc .vmem S8x528x128 .f32) (hM : M.IsWhole) (g : Fin 8) (k : Fin 512) (l : Fin 128) :
    slab M hM (iblk m c 2 t) g (ix3 (0 : Fin 1) k l) = half t g 0 (by omega) (Hi m c) ⟨16 + k, by have := k.isLt; omega⟩ l := by
  have hx : ∀ x : S32x528x128.Idx, (V m c main_v15 : FVec Ideal S32x528x128 .f32) x
      = Hi m c (ix3 ⟨(x 0 : ℕ) / 8 * 16 + (x 2 : ℕ) / 64 * 8 + (x 0 : ℕ) % 8, by have : (x 0 : ℕ) < 32 := (x 0).isLt; have : (x 2 : ℕ) < 128 := (x 2).isLt; omega⟩ (x 1)
          ⟨(x 2 : ℕ) % 64, by omega⟩) := by
    intro x; entry_read; pointwise
  refine (slab_at M hM _ g k l).trans ?_
  have ht := N_lt t
  have hg := g.isLt
  have hk := k.isLt
  have e : (iblk m c 2 t : FVec Ideal S8x528x128 .f32) (ix3 g ⟨16 + k, by omega⟩ l) = (V m c main_v15 : FVec Ideal S32x528x128 .f32) (ix3 ⟨t.val / 2 * 8 + g, by omega⟩ ⟨16 + k, by omega⟩ l) := by
    blk_point [iblk, V, idx t]
  rw [e, hx]
  refine congrArg (Hi m c) (funext fun a => Fin.ext ?_)
  fin_cases a
  · show (t.val / 2 * 8 + (g : ℕ)) / 8 * 16 + (l : ℕ) / 64 * 8 + (t.val / 2 * 8 + (g : ℕ)) % 8 = t.val / 2 * 16 + (l : ℕ) / 64 * 8 + g; omega
  · rfl
  · show (l : ℕ) % 64 = 0 + (l : ℕ) % 64; omega

theorem blk3 (c : Dev nD) (t : Fin cfg0.N) (M : Memref sig .tc .vmem S8x528x128 .f32) (hM : M.IsWhole) (g : Fin 8) (k : Fin 512) (l : Fin 128) :
    slab M hM (iblk m c 3 t) g (ix3 (0 : Fin 1) k l) = half t g 64 (by omega) (Hr m c) ⟨16 + k, by have := k.isLt; omega⟩ l := by
  have hx : ∀ x : S32x528x128.Idx, (V m c main_v20 : FVec Ideal S32x528x128 .f32) x
      = Hr m c (ix3 ⟨(x 0 : ℕ) / 8 * 16 + (x 2 : ℕ) / 64 * 8 + (x 0 : ℕ) % 8, by have : (x 0 : ℕ) < 32 := (x 0).isLt; have : (x 2 : ℕ) < 128 := (x 2).isLt; omega⟩ (x 1)
          ⟨64 + (x 2 : ℕ) % 64, by omega⟩) := by
    intro x; entry_read; pointwise
  refine (slab_at M hM _ g k l).trans ?_
  have ht := N_lt t
  have hg := g.isLt
  have hk := k.isLt
  have e : (iblk m c 3 t : FVec Ideal S8x528x128 .f32) (ix3 g ⟨16 + k, by omega⟩ l) = (V m c main_v20 : FVec Ideal S32x528x128 .f32) (ix3 ⟨t.val / 2 * 8 + g, by omega⟩ ⟨16 + k, by omega⟩ l) := by
    blk_point [iblk, V, idx t]
  rw [e, hx]
  refine congrArg (Hr m c) (funext fun a => Fin.ext ?_)
  fin_cases a
  · show (t.val / 2 * 8 + (g : ℕ)) / 8 * 16 + (l : ℕ) / 64 * 8 + (t.val / 2 * 8 + (g : ℕ)) % 8 = t.val / 2 * 16 + (l : ℕ) / 64 * 8 + g; omega
  · rfl
  · show 64 + (l : ℕ) % 64 = 64 + (l : ℕ) % 64; rfl

theorem blk4 (c : Dev nD) (t : Fin cfg0.N) (M : Memref sig .tc .vmem S8x528x128 .f32) (hM : M.IsWhole) (g : Fin 8) (k : Fin 512) (l : Fin 128) :
    slab M hM (iblk m c 4 t) g (ix3 (0 : Fin 1) k l) = half t g 64 (by omega) (Hi m c) ⟨16 + k, by have := k.isLt; omega⟩ l := by
  have hx : ∀ x : S32x528x128.Idx, (V m c main_v25 : FVec Ideal S32x528x128 .f32) x
      = Hi m c (ix3 ⟨(x 0 : ℕ) / 8 * 16 + (x 2 : ℕ) / 64 * 8 + (x 0 : ℕ) % 8, by have : (x 0 : ℕ) < 32 := (x 0).isLt; have : (x 2 : ℕ) < 128 := (x 2).isLt; omega⟩ (x 1)
          ⟨64 + (x 2 : ℕ) % 64, by omega⟩) := by
    intro x; entry_read; pointwise
  refine (slab_at M hM _ g k l).trans ?_
  have ht := N_lt t
  have hg := g.isLt
  have hk := k.isLt
  have e : (iblk m c 4 t : FVec Ideal S8x528x128 .f32) (ix3 g ⟨16 + k, by omega⟩ l) = (V m c main_v25 : FVec Ideal S32x528x128 .f32) (ix3 ⟨t.val / 2 * 8 + g, by omega⟩ ⟨16 + k, by omega⟩ l) := by
    blk_point [iblk, V, idx t]
  rw [e, hx]
  refine congrArg (Hi m c) (funext fun a => Fin.ext ?_)
  fin_cases a
  · show (t.val / 2 * 8 + (g : ℕ)) / 8 * 16 + (l : ℕ) / 64 * 8 + (t.val / 2 * 8 + (g : ℕ)) % 8 = t.val / 2 * 16 + (l : ℕ) / 64 * 8 + g; omega
  · rfl
  · show 64 + (l : ℕ) % 64 = 64 + (l : ℕ) % 64; rfl

/-! ## The read-out of a pair: one half of its rows, the other half zero -/

/-- Row `x` of a pair's tile: the part, the half and the state it holds, in the order the operator counts them. -/
abbrev place (w : ℕ) (n : ℕ) : ℕ := n % 128 / 64 * 256 + n / 128 * 128 + w * 64 + n % 64

/-- The four parts of a pair of states laid side by side: part `x / 128`, lane `x % 128`. -/
theorem tile_at (a b d e : FVec Ideal S1x512x128 .f32) (k : Fin 512) (x : Fin 512) :
    (k0_pay16 (F := Ideal) a b d e (ix2 k x) : EReal) = if (x : ℕ) < 128 then a (ix3 (0 : Fin 1) k ⟨(x : ℕ) % 128, by omega⟩) else if (x : ℕ) < 256 then b (ix3 (0 : Fin 1) k ⟨(x : ℕ) % 128, by omega⟩)
      else if (x : ℕ) < 384 then d (ix3 (0 : Fin 1) k ⟨(x : ℕ) % 128, by omega⟩) else e (ix3 (0 : Fin 1) k ⟨(x : ℕ) % 128, by omega⟩) := by
  have hx := x.isLt
  pointwise [k0_pay16]
  (repeat' split) <;> first | (exfalso; omega) | (refine at3 _ rfl rfl ?_; dsimp only <;> omega)

/-- The state a row of the tile holds. -/
theorem place_back (w : ℕ) (hw : w < 2) (n : Fin 256) : place w n / 128 % 2 * 128 + place w n / 256 * 64 + place w n % 64 = n := by
  have hn := n.isLt
  have e1 : place w n / 128 % 2 = (n : ℕ) / 128 := by unfold place; omega
  have e2 : place w n / 256 = (n : ℕ) % 128 / 64 := by unfold place; omega
  have e3 : place w n % 64 = (n : ℕ) % 64 := by unfold place; omega
  rw [e1, e2, e3]
  omega

/-- A sum over a tile whose rows outside half `w` are zero is the sum over the half. -/
theorem half_sum (w : ℕ) (hw : w < 2) (f : Fin 512 → EReal) (h : ∀ x : Fin 512, (x : ℕ) / 64 % 2 ≠ w → f x = 0) :
    ∑ x, f x = ∑ n : Fin 256, f ⟨place w n, by have := n.isLt; unfold place; omega⟩ := by
  symm
  refine Fintype.sum_of_injective (fun n : Fin 256 => (⟨place w n, by have := n.isLt; unfold place; omega⟩ : Fin 512)) ?_ _ _ ?_ fun n => rfl
  · intro n n' hn
    have hn := congrArg Fin.val hn
    have := n.isLt
    have := n'.isLt
    refine Fin.ext ?_
    simp only [place] at hn
    omega
  · intro x hx
    refine h x fun hh => hx ⟨⟨(x : ℕ) / 128 % 2 * 128 + (x : ℕ) / 256 * 64 + (x : ℕ) % 64, by have := x.isLt; omega⟩, Fin.ext ?_⟩
    have := x.isLt
    have e1 : ((x : ℕ) / 128 % 2 * 128 + (x : ℕ) / 256 * 64 + (x : ℕ) % 64) % 128 / 64 = (x : ℕ) / 256 := by omega
    have e2 : ((x : ℕ) / 128 % 2 * 128 + (x : ℕ) / 256 * 64 + (x : ℕ) % 64) / 128 = (x : ℕ) / 128 % 2 := by omega
    have e3 : ((x : ℕ) / 128 % 2 * 128 + (x : ℕ) / 256 * 64 + (x : ℕ) % 64) % 64 = (x : ℕ) % 64 := by omega
    show place w _ = (x : ℕ)
    unfold place
    rw [e1, e2, e3]
    omega

/-- Row `x` of the padded read-out of half `w`: the operator's row of its part and state, or zero off the half. -/
abbrev padded (w : ℕ) (o : FVec Ideal S1x256x256 .bf16) (x : Fin 512) (q : Fin 256) : EReal :=
  if (x : ℕ) / 64 % 2 = w then o (ix3 (0 : Fin 1) ⟨(x : ℕ) / 128 % 2 * 128 + (x : ℕ) / 256 * 64 + (x : ℕ) % 64, by have := x.isLt; omega⟩ q) else 0

set_option maxHeartbeats 1600000 in
/-- A group's part: the product with its chunk operator, and the tile times the padded read-out. -/
theorem pay18_at (z : BitVec 32) (w : ℕ) (hw : w < 2) (hz : Scalar.cmpi .eq z 0#32 = if w = 0 then 1#1 else 0#1) (X : FVec Ideal S512x512 .bf16) (Y : FVec Ideal S512x256 .f32) (o : FVec Ideal S1x256x256 .bf16) (k : Fin 512) (q : Fin 256) :
    k0_pay18 z X Y o (ix2 k q) = Y (ix2 k q) + ∑ x : Fin 512, (X (ix2 k x) : EReal) * padded w o x q := by
  pointwise [k0_pay18]
  refine congrArg₂ (· + ·) rfl (Finset.sum_congr rfl fun x _ => congrArg₂ (· * ·) rfl ?_)
  have hx := x.isLt
  rw [hz]
  unfold padded
  obtain rfl | rfl : w = 0 ∨ w = 1 := by omega
  · rw [if_pos rfl]
    refine (if_pos rfl).trans ?_
    (repeat' split) <;> first | rfl | (exfalso; omega) | (refine at3 o rfl ?_ rfl; dsimp only <;> omega)
  · rw [if_neg (by omega)]
    refine (if_neg (by decide)).trans ?_
    (repeat' split) <;> first | rfl | (exfalso; omega) | (refine at3 o rfl ?_ rfl; dsimp only <;> omega)

theorem pay17_at (u : FVec Ideal S1x512x256 .bf16) (o : FVec Ideal S1x256x256 .bf16) (k : Fin 512) (q : Fin 256) :
    k0_pay17 (F := Ideal) u o (ix2 k q) = ∑ x : Fin 256, u (ix3 (0 : Fin 1) k x) * o (ix3 (0 : Fin 1) x q) := by
  pointwise [k0_pay17]

/-- A pair's tile at the rows of a grid point's half: the state, in the order the operator counts it. -/
theorem states_at (hr hi : FVec Ideal S64x528x128 .f32) (t : Fin cfg0.N) (g : Fin 8) (a b d e : FVec Ideal S1x512x128 .f32)
    (ha : ∀ (k : Fin 512) (l : Fin 128), a (ix3 (0 : Fin 1) k l) = half t g 0 (by omega) hr ⟨16 + k, by have := k.isLt; omega⟩ l)
    (hb : ∀ (k : Fin 512) (l : Fin 128), b (ix3 (0 : Fin 1) k l) = half t g 0 (by omega) hi ⟨16 + k, by have := k.isLt; omega⟩ l)
    (hd : ∀ (k : Fin 512) (l : Fin 128), d (ix3 (0 : Fin 1) k l) = half t g 64 (by omega) hr ⟨16 + k, by have := k.isLt; omega⟩ l)
    (he : ∀ (k : Fin 512) (l : Fin 128), e (ix3 (0 : Fin 1) k l) = half t g 64 (by omega) hi ⟨16 + k, by have := k.isLt; omega⟩ l)
    (k : Fin 512) (n : Fin 256) (x : Fin 512) (hx : (x : ℕ) = place (t.val % 2) n) :
    (k0_pay16 (F := Ideal) a b d e (ix2 k x) : EReal) = hs hr hi (grp t g) k n := by
  have ht := N_lt t
  have hg := g.isLt
  have hn := n.isLt
  rw [tile_at, ha, hb, hd, he]
  unfold hs half
  dsimp only [place] at hx
  (repeat' split) <;> first
    | (exfalso; omega)
    | (refine at3 _ ?_ rfl ?_ <;> dsimp only <;> omega)

theorem part_at (c : Dev nD) (t : Fin cfg0.N) (g : Fin 8) (k : Fin 512) (q : Fin 256) :
    part m c t g (ix2 k q) = latent (U m c) (Hr m c) (Hi m c) (To m c) (Co m c) (grp t g) k q := by
  have ht := N_lt t
  have hg := g.isLt
  have hk := k.isLt
  have hw : t.val % 2 < 2 := by omega
  refine (pay18_at _ (t.val % 2) hw (which_at t) _ _ _ k q).trans ?_
  unfold latent
  refine congrArg₂ (· + ·) ((pay17_at _ _ k q).trans (Finset.sum_congr rfl fun x _ => congrArg₂ (· * ·) (blk_u m c t _ _ g k x) (blk_to m c t _ _ g x q))) ?_
  refine (half_sum (t.val % 2) hw _ fun x hx => ?_).trans (Finset.sum_congr rfl fun n _ => ?_)
  · unfold padded
    rw [if_neg hx, mul_zero]
  · have hn := n.isLt
    have hp : place (t.val % 2) n < 512 := by unfold place; omega
    refine congrArg₂ (· * ·) (states_at (Hr m c) (Hi m c) t g _ _ _ _ ?_ ?_ ?_ ?_ k n _ rfl) ?_
    · exact fun k l => blk1 m c t _ _ g k l
    · exact fun k l => blk2 m c t _ _ g k l
    · exact fun k l => blk3 m c t _ _ g k l
    · exact fun k l => blk4 m c t _ _ g k l
    · unfold padded
      rw [if_pos (by dsimp only [place]; omega)]
      refine (at3 (b' := n) _ rfl ?_ rfl).trans (blk_co m c t _ _ g n q)
      exact place_back _ hw n

theorem stored (c : Dev nD) (t : Fin cfg0.N) (k : Fin 512) (o : Fin 2048) :
    rows m c t (ix2 k o) = latent (U m c) (Hr m c) (Hi m c) (To m c) (Co m c) (grp t ⟨(o : ℕ) % 128 / 16, by omega⟩) k ⟨(o : ℕ) / 128 * 16 + (o : ℕ) % 16, by have := o.isLt; omega⟩ := by
  have ho := o.isLt
  refine (rows_at m c t k o).trans ((laid_at m c t k _).trans ((part_at m c t _ k _).trans ?_))
  refine congrArg₂ (fun g q => latent (U m c) (Hr m c) (Hi m c) (To m c) (Co m c) (grp t g) k q) (Fin.ext ?_) (Fin.ext ?_)
  · show dst o / 256 = (o : ℕ) % 128 / 16
    unfold dst; omega
  · show dst o % 256 = (o : ℕ) / 128 * 16 + (o : ℕ) % 16
    unfold dst; omega

/-! ## The result -/

/-- What the reference leaves. -/
def REF13 (u : FVec Ideal S8192x1024 .f32) (hr : FVec Ideal S64x528x128 .f32) (hi : FVec Ideal S64x528x128 .f32) (tp : FVec Ideal S64x256x256 .f32) (co : FVec Ideal S64x256x256 .f32) : FVec Ideal S8192x1024 .f32 :=
  shapeCast _ (transpose Cert.Reference13Ideal.S512x16x64x16 [1, 2, 0, 3] (shapeCast _ (addf (Host.dotGeneral Cert.Reference13Ideal.dot_S64x512x256_S64x256x256_S64x512x256_2_1_1_2_0_0 none (shapeCast _ (transpose Cert.Reference13Ideal.S64x512x16x16 [2, 0, 1, 3] (shapeCast _ u Cert.Reference13Ideal.Gen.shapeCasts_S8192x1024_S512x16x64x16) Cert.Reference13Ideal.Gen.transposes_S512x16x64x16_S64x512x16x16_2_0_1_3) Cert.Reference13Ideal.Gen.shapeCasts_S64x512x16x16_S64x512x256) tp) (Host.dotGeneral Cert.Reference13Ideal.dot_S64x512x256_S64x256x256_S64x512x256_2_1_1_2_0_0 none (extractStridedSlice Cert.Reference13Ideal.S64x512x256 ![0, 16, 0] (concatenate Cert.Reference13Ideal.S64x528x256 2 [⟨Cert.Reference13Ideal.S64x528x128, hr⟩, ⟨Cert.Reference13Ideal.S64x528x128, hi⟩] Cert.Reference13Ideal.Gen.concatenates_S64x528x128_S64x528x128_S64x528x256_d2) Cert.Reference13Ideal.Gen.slices_S64x528x256_S64x512x256_0_16_0) co)) Cert.Reference13Ideal.Gen.shapeCasts_S64x512x256_S64x512x16x16) Cert.Reference13Ideal.Gen.transposes_S64x512x16x16_S512x16x64x16_1_2_0_3) Cert.Reference13Ideal.Gen.shapeCasts_S512x16x64x16_S8192x1024

/-- The read-out, one half of the state after the other. -/
theorem read_split (hr hi : FVec Ideal S64x528x128 .f32) (co : FVec Ideal S64x256x256 .f32) (g : Fin 64) (k : Fin 512) (o : Fin 256) :
    ∑ n : Fin 256, hs hr hi g k n * co (ix3 g n o) = ∑ x : Fin 128, hr (ix3 g ⟨16 + k, by have := k.isLt; omega⟩ x) * co (ix3 g ⟨x, by have := x.isLt; omega⟩ o)
      + ∑ x : Fin 128, hi (ix3 g ⟨16 + k, by have := k.isLt; omega⟩ x) * co (ix3 g ⟨128 + (x : ℕ), by have := x.isLt; omega⟩ o) := by
  refine (Fin.sum_univ_add (a := 128) (b := 128) (fun n : Fin 256 => hs hr hi g k n * co (ix3 g n o))).trans ?_
  refine congrArg₂ (· + ·) (Finset.sum_congr rfl fun x _ => congrArg₂ (· * ·) ?_ rfl) (Finset.sum_congr rfl fun x _ => congrArg₂ (· * ·) ?_ rfl)
  · unfold hs
    rw [dif_pos (show ((Fin.castAdd 128 x : Fin 256) : ℕ) < 128 from x.isLt)]
    rfl
  · unfold hs
    rw [dif_neg (show ¬ ((Fin.natAdd 128 x : Fin 256) : ℕ) < 128 by show ¬ 128 + (x : ℕ) < 128; omega)]
    refine at3 hi rfl rfl ?_
    show 128 + (x : ℕ) - 128 = x; omega

set_option maxHeartbeats 1600000 in
theorem ref13_at (u : FVec Ideal S8192x1024 .f32) (hr hi : FVec Ideal S64x528x128 .f32) (tp co : FVec Ideal S64x256x256 .f32) (j : S8192x1024.Idx) : REF13 u hr hi tp co j
    = latent u hr hi tp co ⟨(j 1 : ℕ) / 16, by have : (j 1 : ℕ) < 1024 := (j 1).isLt; omega⟩ ⟨(j 0 : ℕ) / 16, by have : (j 0 : ℕ) < 8192 := (j 0).isLt; omega⟩
        ⟨(j 0 : ℕ) % 16 * 16 + (j 1 : ℕ) % 16, by omega⟩ := by
  have j0 : (j 0 : ℕ) < 8192 := (j 0).isLt
  have j1 : (j 1 : ℕ) < 1024 := (j 1).isLt
  unfold latent
  rw [read_split]
  pointwise [REF13]

theorem latent_congr (u : FVec Ideal S8192x1024 .f32) (hr hi : FVec Ideal S64x528x128 .f32) (tp co : FVec Ideal S64x256x256 .f32) {g g' : Fin 64} {k k' : Fin 512} {q q' : Fin 256}
    (hg : (g : ℕ) = g') (hk : (k : ℕ) = k') (hq : (q : ℕ) = q') : latent u hr hi tp co g k q = latent u hr hi tp co g' k' q' := by
  obtain rfl := Fin.ext hg; obtain rfl := Fin.ext hk; obtain rfl := Fin.ext hq; rfl

theorem final8 (c : Dev nD) : (dats m 0 c).arrAt 8 cfg0.N = REF13 (U m c) (Hr m c) (Hi m c) (To m c) (Co m c) := by
  refine (dats m 0 c).arrAt_eq_of_covers 8 _ (by decide +kernel) fun t hf y => ?_
  have ht := N_lt t
  blk_simp
  rw [after0_8]
  have hy0 := show (y 0 : ℕ) < 8192 from (y 0).isLt
  have hy1 := show (y 1 : ℕ) < 128 from (y 1).isLt
  have e0 : (((cfg0.win 8).blk t).view.emb y 0).val = (y 0).val := by
    blk_simp; rw [(idx t).2.2.2.2.2.2.2.2]; show 0 * 8192 + (y 0).val = _; omega
  have e1 : (((cfg0.win 8).blk t).view.emb y 1).val = t.val * 128 + (y 1).val := by
    blk_simp; rw [(idx t).2.2.2.2.2.2.2.2]; rfl
  obtain ⟨j, hj, j0, j1⟩ : ∃ j : S8192x1024.Idx, ((cfg0.win 8).blk t).view.emb y = j ∧ (j 0).val = (y 0).val ∧ (j 1).val = t.val * 128 + (y 1).val :=
    ⟨_, rfl, e0, e1⟩
  have hT := ref13_at (U m c) (Hr m c) (Hi m c) (To m c) (Co m c) j
  generalize REF13 (U m c) (Hr m c) (Hi m c) (To m c) (Co m c) = T at *
  refine Eq.trans ?_ (congrArg T hj.symm)
  rw [hT]
  refine (block8 m c t y).trans ((stored m c t _ _).trans ?_)
  refine latent_congr _ _ _ _ _ ?_ ?_ ?_
  · show t.val * 8 + ((y 0 : ℕ) % 16 * 128 + (y 1 : ℕ)) % 128 / 16 = (j 1 : ℕ) / 16; omega
  · show (y 0 : ℕ) / 16 = (j 0 : ℕ) / 16; omega
  · show ((y 0 : ℕ) % 16 * 128 + (y 1 : ℕ)) / 128 * 16 + ((y 0 : ℕ) % 16 * 128 + (y 1 : ℕ)) % 16 = (j 0 : ℕ) % 16 * 16 + (j 1 : ℕ) % 16; omega

end Cert.Kernel13Ideal.Out

namespace Cert.Proof

open Cert.Kernel13Ideal.Out

theorem frame_out : Cert.quiescent_Kernel13Ideal := fun m ρ _ => frame_any (F := Ideal) m ρ

theorem frame_bits_out : Cert.quiescent_Kernel13 := by
  intro m ρ _
  refine Eq.mp ?_ (frame_any (F := Bits) m ρ)
  sl_kernel_rfl

theorem frame_ref_out : Cert.quiescent_Reference13Ideal := fun m ρ _ =>
  (θ_run Cert.Reference13Ideal.defs _ _).mono
    (fun r h => ⟨fun c => (h c).2, sem_eq_zero_of_no_sems (by decide) r.2⟩)
    (Cert.Reference13Ideal.Value.run (F := Ideal) m ρ)

theorem algebraic_out : Cert.algebraic_Kernel13Ideal_Reference13Ideal := by
  pair_intro
  · run_from run_blocks m g
  · hlo_run
    obtain ⟨-, a1, a2, -⟩ := hagree c
    clear hagree hpre g g'
    rw [a1, a2]
    exact (final8 m c).symm

end Cert.Proof

end
-- ==== Proof.GateRef.lean ====
/-
The gradients of the gated branches behind the output product, entry by entry: the mathematics, and what the reference leaves.
-/
module

public import proofs.«01_k».proof.Proof.Gen.Reference4Ideal.Run
public import proofs.«01_k».proof.Proof.Finite
public import proofs.«01_k».proof.Defs
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)
open Idealize.ShloMosaic.Tactic

namespace Cert.Gate

/-- The logistic function, as the host writes it. -/
abbrev sg (x : EReal) : EReal := Ideal.div 1 (1 + Ideal.exp (-x))

/-- The gate: a value times its logistic. -/
abbrev silu (x : EReal) : EReal := x * sg x

/-- The kernels' spelling of the logistic function. -/
theorem tanh_sg (x : EReal) : Ideal.ofBits .f32 0x3F000000#32 * (Ideal.tanh (Ideal.ofBits .f32 0x3F000000#32 * x) + 1) = sg x := by
  rw [Cert.Finite.half_bits]; exact Cert.Finite.logistic_tanh x

theorem sg_real {x : EReal} (hx : ∃ r : ℝ, x = r) : ∃ r : ℝ, sg x = r := by
  obtain ⟨x, rfl⟩ := hx
  exact ⟨_, Cert.Finite.logistic_real x⟩

variable (dx : FVec Ideal Cert.Reference4Ideal.S8192x2048 .f32) (gt : FVec Ideal Cert.Reference4Ideal.S1x2048 .f32) (ln : FVec Ideal Cert.Reference4Ideal.S8192x1024 .f32) (y : FVec Ideal Cert.Reference4Ideal.S8192x2048 .f32) (pj : FVec Ideal Cert.Reference4Ideal.S8192x4096 .f32) (ps : FVec Ideal Cert.Reference4Ideal.S1x1024 .f32) (ow : FVec Ideal Cert.Reference4Ideal.S2048x2048 .f32)

/-- The cotangent of the output product. -/
def dm (r : Fin 8192) (k : Fin 2048) : EReal := gt (ix2 (0 : Fin 1) k) * dx (ix2 r k)

/-- The cotangent of the gated branches. -/
def db (r : Fin 8192) (n : Fin 2048) : EReal := ∑ k, dm dx gt r k * ow (ix2 n k)

/-- The gate's argument. -/
def zz (r : Fin 8192) (n : Fin 2048) : EReal := pj (ix2 r ⟨2048 + n, by have := n.isLt; omega⟩)

/-- The two branches side by side, before the gate. -/
def bp (r : Fin 8192) (n : Fin 2048) : EReal :=
  if h : (n : ℕ) < 1024 then ln (ix2 r ⟨n, h⟩) * ps (ix2 (0 : Fin 1) ⟨n, h⟩)
  else y (ix2 r ⟨(n : ℕ) - 1024, by have := n.isLt; omega⟩) * sg (y (ix2 r ⟨1024 + ((n : ℕ) - 1024), by have := n.isLt; omega⟩))

/-- The cotangent of the branches before the gate. -/
def dbp (r : Fin 8192) (n : Fin 2048) : EReal := db dx gt ow r n * silu (zz pj r n)

/-- The gate's argument's cotangent. -/
def dz (r : Fin 8192) (n : Fin 2048) : EReal := db dx gt ow r n * bp ln y ps r n * (sg (zz pj r n) * (1 + zz pj r n * (1 - sg (zz pj r n))))

/-- The scan branch's two cotangents. -/
def dy (r : Fin 8192) (n : Fin 2048) : EReal :=
  if h : (n : ℕ) < 1024 then dbp dx gt pj ow r ⟨1024 + n, by omega⟩ * sg (y (ix2 r ⟨1024 + n, by omega⟩))
  else y (ix2 r ⟨(n : ℕ) - 1024, by have := n.isLt; omega⟩) * dbp dx gt pj ow r ⟨1024 + ((n : ℕ) - 1024), by have := n.isLt; omega⟩
    * (sg (y (ix2 r ⟨1024 + ((n : ℕ) - 1024), by have := n.isLt; omega⟩)) * (1 - sg (y (ix2 r ⟨1024 + ((n : ℕ) - 1024), by have := n.isLt; omega⟩))))

end Cert.Gate

namespace Cert.Reference4Ideal.Ob

open Cert.Gate

/-- The gate's cotangent. -/
def REF0 (dx : FVec Ideal S8192x2048 .f32) (gt : FVec Ideal S1x2048 .f32) (ln : FVec Ideal S8192x1024 .f32) (y : FVec Ideal S8192x2048 .f32) (pj : FVec Ideal S8192x4096 .f32) (ps : FVec Ideal S1x1024 .f32) (ow : FVec Ideal S2048x2048 .f32) : FVec Ideal S8192x2048 .f32 :=
  addf (mulf (mulf (concatenate Cert.Reference4Ideal.S8192x2048 1 [⟨Cert.Reference4Ideal.S8192x1024, (mulf ln (broadcastInDim Cert.Reference4Ideal.S8192x1024 ![0, 1] Cert.Reference4Ideal.Gen.bcast_S1x1024_S8192x1024_0_1 ps))⟩, ⟨Cert.Reference4Ideal.S8192x1024, (mulf (extractStridedSlice Cert.Reference4Ideal.S8192x1024 ![0, 0] y Cert.Reference4Ideal.Gen.slices_S8192x2048_S8192x1024_0_0) (Host.divf (broadcastInDim Cert.Reference4Ideal.S8192x1024 ![] Cert.Reference4Ideal.Gen.bcast_S_S8192x1024 (constant (F := Ideal) Cert.Reference4Ideal.S_ .f32 0x3F800000#32)) (addf (broadcastInDim Cert.Reference4Ideal.S8192x1024 ![] Cert.Reference4Ideal.Gen.bcast_S_S8192x1024 (constant (F := Ideal) Cert.Reference4Ideal.S_ .f32 0x3F800000#32)) (Host.exp (Host.negf (extractStridedSlice Cert.Reference4Ideal.S8192x1024 ![0, 1024] y Cert.Reference4Ideal.Gen.slices_S8192x2048_S8192x1024_0_1024))))))⟩] Cert.Reference4Ideal.Gen.concatenates_S8192x1024_S8192x1024_S8192x2048_d1) (Host.dotGeneral Cert.Reference4Ideal.dot_S8192x2048_S2048x2048_S8192x2048_1_1_0_0_n_n none (mulf (broadcastInDim Cert.Reference4Ideal.S8192x2048 ![0, 1] Cert.Reference4Ideal.Gen.bcast_S1x2048_S8192x2048_0_1 gt) dx) ow)) (Host.divf (broadcastInDim Cert.Reference4Ideal.S8192x2048 ![] Cert.Reference4Ideal.Gen.bcast_S_S8192x2048 (constant (F := Ideal) Cert.Reference4Ideal.S_ .f32 0x3F800000#32)) (addf (broadcastInDim Cert.Reference4Ideal.S8192x2048 ![] Cert.Reference4Ideal.Gen.bcast_S_S8192x2048 (constant (F := Ideal) Cert.Reference4Ideal.S_ .f32 0x3F800000#32)) (Host.exp (Host.negf (extractStridedSlice Cert.Reference4Ideal.S8192x2048 ![0, 2048] pj Cert.Reference4Ideal.Gen.slices_S8192x4096_S8192x2048_0_2048)))))) (mulf (mulf (extractStridedSlice Cert.Reference4Ideal.S8192x2048 ![0, 2048] pj Cert.Reference4Ideal.Gen.slices_S8192x4096_S8192x2048_0_2048) (mulf (concatenate Cert.Reference4Ideal.S8192x2048 1 [⟨Cert.Reference4Ideal.S8192x1024, (mulf ln (broadcastInDim Cert.Reference4Ideal.S8192x1024 ![0, 1] Cert.Reference4Ideal.Gen.bcast_S1x1024_S8192x1024_0_1 ps))⟩, ⟨Cert.Reference4Ideal.S8192x1024, (mulf (extractStridedSlice Cert.Reference4Ideal.S8192x1024 ![0, 0] y Cert.Reference4Ideal.Gen.slices_S8192x2048_S8192x1024_0_0) (Host.divf (broadcastInDim Cert.Reference4Ideal.S8192x1024 ![] Cert.Reference4Ideal.Gen.bcast_S_S8192x1024 (constant (F := Ideal) Cert.Reference4Ideal.S_ .f32 0x3F800000#32)) (addf (broadcastInDim Cert.Reference4Ideal.S8192x1024 ![] Cert.Reference4Ideal.Gen.bcast_S_S8192x1024 (constant (F := Ideal) Cert.Reference4Ideal.S_ .f32 0x3F800000#32)) (Host.exp (Host.negf (extractStridedSlice Cert.Reference4Ideal.S8192x1024 ![0, 1024] y Cert.Reference4Ideal.Gen.slices_S8192x2048_S8192x1024_0_1024))))))⟩] Cert.Reference4Ideal.Gen.concatenates_S8192x1024_S8192x1024_S8192x2048_d1) (Host.dotGeneral Cert.Reference4Ideal.dot_S8192x2048_S2048x2048_S8192x2048_1_1_0_0_n_n none (mulf (broadcastInDim Cert.Reference4Ideal.S8192x2048 ![0, 1] Cert.Reference4Ideal.Gen.bcast_S1x2048_S8192x2048_0_1 gt) dx) ow))) (mulf (Host.divf (broadcastInDim Cert.Reference4Ideal.S8192x2048 ![] Cert.Reference4Ideal.Gen.bcast_S_S8192x2048 (constant (F := Ideal) Cert.Reference4Ideal.S_ .f32 0x3F800000#32)) (addf (broadcastInDim Cert.Reference4Ideal.S8192x2048 ![] Cert.Reference4Ideal.Gen.bcast_S_S8192x2048 (constant (F := Ideal) Cert.Reference4Ideal.S_ .f32 0x3F800000#32)) (Host.exp (Host.negf (extractStridedSlice Cert.Reference4Ideal.S8192x2048 ![0, 2048] pj Cert.Reference4Ideal.Gen.slices_S8192x4096_S8192x2048_0_2048))))) (subf (broadcastInDim Cert.Reference4Ideal.S8192x2048 ![] Cert.Reference4Ideal.Gen.bcast_S_S8192x2048 (constant (F := Ideal) Cert.Reference4Ideal.S_ .f32 0x3F800000#32)) (Host.divf (broadcastInDim Cert.Reference4Ideal.S8192x2048 ![] Cert.Reference4Ideal.Gen.bcast_S_S8192x2048 (constant (F := Ideal) Cert.Reference4Ideal.S_ .f32 0x3F800000#32)) (addf (broadcastInDim Cert.Reference4Ideal.S8192x2048 ![] Cert.Reference4Ideal.Gen.bcast_S_S8192x2048 (constant (F := Ideal) Cert.Reference4Ideal.S_ .f32 0x3F800000#32)) (Host.exp (Host.negf (extractStridedSlice Cert.Reference4Ideal.S8192x2048 ![0, 2048] pj Cert.Reference4Ideal.Gen.slices_S8192x4096_S8192x2048_0_2048))))))))

/-- The pooled branch's cotangent. -/
def REF1 (dx : FVec Ideal S8192x2048 .f32) (gt : FVec Ideal S1x2048 .f32) (ln : FVec Ideal S8192x1024 .f32) (y : FVec Ideal S8192x2048 .f32) (pj : FVec Ideal S8192x4096 .f32) (ps : FVec Ideal S1x1024 .f32) (ow : FVec Ideal S2048x2048 .f32) : FVec Ideal S8192x1024 .f32 :=
  mulf (extractStridedSlice Cert.Reference4Ideal.S8192x1024 ![0, 0] (mulf (Host.dotGeneral Cert.Reference4Ideal.dot_S8192x2048_S2048x2048_S8192x2048_1_1_0_0_n_n none (mulf (broadcastInDim Cert.Reference4Ideal.S8192x2048 ![0, 1] Cert.Reference4Ideal.Gen.bcast_S1x2048_S8192x2048_0_1 gt) dx) ow) (mulf (extractStridedSlice Cert.Reference4Ideal.S8192x2048 ![0, 2048] pj Cert.Reference4Ideal.Gen.slices_S8192x4096_S8192x2048_0_2048) (Host.divf (broadcastInDim Cert.Reference4Ideal.S8192x2048 ![] Cert.Reference4Ideal.Gen.bcast_S_S8192x2048 (constant (F := Ideal) Cert.Reference4Ideal.S_ .f32 0x3F800000#32)) (addf (broadcastInDim Cert.Reference4Ideal.S8192x2048 ![] Cert.Reference4Ideal.Gen.bcast_S_S8192x2048 (constant (F := Ideal) Cert.Reference4Ideal.S_ .f32 0x3F800000#32)) (Host.exp (Host.negf (extractStridedSlice Cert.Reference4Ideal.S8192x2048 ![0, 2048] pj Cert.Reference4Ideal.Gen.slices_S8192x4096_S8192x2048_0_2048))))))) Cert.Reference4Ideal.Gen.slices_S8192x2048_S8192x1024_0_0) (broadcastInDim Cert.Reference4Ideal.S8192x1024 ![0, 1] Cert.Reference4Ideal.Gen.bcast_S1x1024_S8192x1024_0_1 ps)

/-- The scan branch's two cotangents. -/
def REF2 (dx : FVec Ideal S8192x2048 .f32) (gt : FVec Ideal S1x2048 .f32) (ln : FVec Ideal S8192x1024 .f32) (y : FVec Ideal S8192x2048 .f32) (pj : FVec Ideal S8192x4096 .f32) (ps : FVec Ideal S1x1024 .f32) (ow : FVec Ideal S2048x2048 .f32) : FVec Ideal S8192x2048 .bf16 :=
  truncf .bf16 (concatenate Cert.Reference4Ideal.S8192x2048 1 [⟨Cert.Reference4Ideal.S8192x1024, (mulf (extractStridedSlice Cert.Reference4Ideal.S8192x1024 ![0, 1024] (mulf (Host.dotGeneral Cert.Reference4Ideal.dot_S8192x2048_S2048x2048_S8192x2048_1_1_0_0_n_n none (mulf (broadcastInDim Cert.Reference4Ideal.S8192x2048 ![0, 1] Cert.Reference4Ideal.Gen.bcast_S1x2048_S8192x2048_0_1 gt) dx) ow) (mulf (extractStridedSlice Cert.Reference4Ideal.S8192x2048 ![0, 2048] pj Cert.Reference4Ideal.Gen.slices_S8192x4096_S8192x2048_0_2048) (Host.divf (broadcastInDim Cert.Reference4Ideal.S8192x2048 ![] Cert.Reference4Ideal.Gen.bcast_S_S8192x2048 (constant (F := Ideal) Cert.Reference4Ideal.S_ .f32 0x3F800000#32)) (addf (broadcastInDim Cert.Reference4Ideal.S8192x2048 ![] Cert.Reference4Ideal.Gen.bcast_S_S8192x2048 (constant (F := Ideal) Cert.Reference4Ideal.S_ .f32 0x3F800000#32)) (Host.exp (Host.negf (extractStridedSlice Cert.Reference4Ideal.S8192x2048 ![0, 2048] pj Cert.Reference4Ideal.Gen.slices_S8192x4096_S8192x2048_0_2048))))))) Cert.Reference4Ideal.Gen.slices_S8192x2048_S8192x1024_0_1024) (Host.divf (broadcastInDim Cert.Reference4Ideal.S8192x1024 ![] Cert.Reference4Ideal.Gen.bcast_S_S8192x1024 (constant (F := Ideal) Cert.Reference4Ideal.S_ .f32 0x3F800000#32)) (addf (broadcastInDim Cert.Reference4Ideal.S8192x1024 ![] Cert.Reference4Ideal.Gen.bcast_S_S8192x1024 (constant (F := Ideal) Cert.Reference4Ideal.S_ .f32 0x3F800000#32)) (Host.exp (Host.negf (extractStridedSlice Cert.Reference4Ideal.S8192x1024 ![0, 1024] y Cert.Reference4Ideal.Gen.slices_S8192x2048_S8192x1024_0_1024))))))⟩, ⟨Cert.Reference4Ideal.S8192x1024, (mulf (mulf (extractStridedSlice Cert.Reference4Ideal.S8192x1024 ![0, 0] y Cert.Reference4Ideal.Gen.slices_S8192x2048_S8192x1024_0_0) (extractStridedSlice Cert.Reference4Ideal.S8192x1024 ![0, 1024] (mulf (Host.dotGeneral Cert.Reference4Ideal.dot_S8192x2048_S2048x2048_S8192x2048_1_1_0_0_n_n none (mulf (broadcastInDim Cert.Reference4Ideal.S8192x2048 ![0, 1] Cert.Reference4Ideal.Gen.bcast_S1x2048_S8192x2048_0_1 gt) dx) ow) (mulf (extractStridedSlice Cert.Reference4Ideal.S8192x2048 ![0, 2048] pj Cert.Reference4Ideal.Gen.slices_S8192x4096_S8192x2048_0_2048) (Host.divf (broadcastInDim Cert.Reference4Ideal.S8192x2048 ![] Cert.Reference4Ideal.Gen.bcast_S_S8192x2048 (constant (F := Ideal) Cert.Reference4Ideal.S_ .f32 0x3F800000#32)) (addf (broadcastInDim Cert.Reference4Ideal.S8192x2048 ![] Cert.Reference4Ideal.Gen.bcast_S_S8192x2048 (constant (F := Ideal) Cert.Reference4Ideal.S_ .f32 0x3F800000#32)) (Host.exp (Host.negf (extractStridedSlice Cert.Reference4Ideal.S8192x2048 ![0, 2048] pj Cert.Reference4Ideal.Gen.slices_S8192x4096_S8192x2048_0_2048))))))) Cert.Reference4Ideal.Gen.slices_S8192x2048_S8192x1024_0_1024)) (mulf (Host.divf (broadcastInDim Cert.Reference4Ideal.S8192x1024 ![] Cert.Reference4Ideal.Gen.bcast_S_S8192x1024 (constant (F := Ideal) Cert.Reference4Ideal.S_ .f32 0x3F800000#32)) (addf (broadcastInDim Cert.Reference4Ideal.S8192x1024 ![] Cert.Reference4Ideal.Gen.bcast_S_S8192x1024 (constant (F := Ideal) Cert.Reference4Ideal.S_ .f32 0x3F800000#32)) (Host.exp (Host.negf (extractStridedSlice Cert.Reference4Ideal.S8192x1024 ![0, 1024] y Cert.Reference4Ideal.Gen.slices_S8192x2048_S8192x1024_0_1024))))) (subf (broadcastInDim Cert.Reference4Ideal.S8192x1024 ![] Cert.Reference4Ideal.Gen.bcast_S_S8192x1024 (constant (F := Ideal) Cert.Reference4Ideal.S_ .f32 0x3F800000#32)) (Host.divf (broadcastInDim Cert.Reference4Ideal.S8192x1024 ![] Cert.Reference4Ideal.Gen.bcast_S_S8192x1024 (constant (F := Ideal) Cert.Reference4Ideal.S_ .f32 0x3F800000#32)) (addf (broadcastInDim Cert.Reference4Ideal.S8192x1024 ![] Cert.Reference4Ideal.Gen.bcast_S_S8192x1024 (constant (F := Ideal) Cert.Reference4Ideal.S_ .f32 0x3F800000#32)) (Host.exp (Host.negf (extractStridedSlice Cert.Reference4Ideal.S8192x1024 ![0, 1024] y Cert.Reference4Ideal.Gen.slices_S8192x2048_S8192x1024_0_1024))))))))⟩] Cert.Reference4Ideal.Gen.concatenates_S8192x1024_S8192x1024_S8192x2048_d1) Cert.Reference4Ideal.Gen.bitsLt_bf16_f32

/-- The pooled branch's scale. -/
def REF3 (dx : FVec Ideal S8192x2048 .f32) (gt : FVec Ideal S1x2048 .f32) (ln : FVec Ideal S8192x1024 .f32) (y : FVec Ideal S8192x2048 .f32) (pj : FVec Ideal S8192x4096 .f32) (ps : FVec Ideal S1x1024 .f32) (ow : FVec Ideal S2048x2048 .f32) : FVec Ideal S1x1024 .f32 :=
  shapeCast _ (Host.reduceAdd (mulf ln (extractStridedSlice Cert.Reference4Ideal.S8192x1024 ![0, 0] (mulf (Host.dotGeneral Cert.Reference4Ideal.dot_S8192x2048_S2048x2048_S8192x2048_1_1_0_0_n_n none (mulf (broadcastInDim Cert.Reference4Ideal.S8192x2048 ![0, 1] Cert.Reference4Ideal.Gen.bcast_S1x2048_S8192x2048_0_1 gt) dx) ow) (mulf (extractStridedSlice Cert.Reference4Ideal.S8192x2048 ![0, 2048] pj Cert.Reference4Ideal.Gen.slices_S8192x4096_S8192x2048_0_2048) (Host.divf (broadcastInDim Cert.Reference4Ideal.S8192x2048 ![] Cert.Reference4Ideal.Gen.bcast_S_S8192x2048 (constant (F := Ideal) Cert.Reference4Ideal.S_ .f32 0x3F800000#32)) (addf (broadcastInDim Cert.Reference4Ideal.S8192x2048 ![] Cert.Reference4Ideal.Gen.bcast_S_S8192x2048 (constant (F := Ideal) Cert.Reference4Ideal.S_ .f32 0x3F800000#32)) (Host.exp (Host.negf (extractStridedSlice Cert.Reference4Ideal.S8192x2048 ![0, 2048] pj Cert.Reference4Ideal.Gen.slices_S8192x4096_S8192x2048_0_2048))))))) Cert.Reference4Ideal.Gen.slices_S8192x2048_S8192x1024_0_0)) (constant (F := Ideal) Cert.Reference4Ideal.S_ .f32 0x00000000#32) Cert.Reference4Ideal.Gen.reducesTo_S8192x1024_S1024_d0 Cert.Reference4Ideal.Gen.h_S_) Cert.Reference4Ideal.Gen.shapeCasts_S1024_S1x1024

/-- The output weight's gradient. -/
def REF4 (dx : FVec Ideal S8192x2048 .f32) (gt : FVec Ideal S1x2048 .f32) (ln : FVec Ideal S8192x1024 .f32) (y : FVec Ideal S8192x2048 .f32) (pj : FVec Ideal S8192x4096 .f32) (ps : FVec Ideal S1x1024 .f32) (ow : FVec Ideal S2048x2048 .f32) : FVec Ideal S2048x2048 .f32 :=
  transpose Cert.Reference4Ideal.S2048x2048 [1, 0] (Host.dotGeneral Cert.Reference4Ideal.dot_S8192x2048_S8192x2048_S2048x2048_0_0_1_1_n_n none (mulf (broadcastInDim Cert.Reference4Ideal.S8192x2048 ![0, 1] Cert.Reference4Ideal.Gen.bcast_S1x2048_S8192x2048_0_1 gt) dx) (mulf (concatenate Cert.Reference4Ideal.S8192x2048 1 [⟨Cert.Reference4Ideal.S8192x1024, (mulf ln (broadcastInDim Cert.Reference4Ideal.S8192x1024 ![0, 1] Cert.Reference4Ideal.Gen.bcast_S1x1024_S8192x1024_0_1 ps))⟩, ⟨Cert.Reference4Ideal.S8192x1024, (mulf (extractStridedSlice Cert.Reference4Ideal.S8192x1024 ![0, 0] y Cert.Reference4Ideal.Gen.slices_S8192x2048_S8192x1024_0_0) (Host.divf (broadcastInDim Cert.Reference4Ideal.S8192x1024 ![] Cert.Reference4Ideal.Gen.bcast_S_S8192x1024 (constant (F := Ideal) Cert.Reference4Ideal.S_ .f32 0x3F800000#32)) (addf (broadcastInDim Cert.Reference4Ideal.S8192x1024 ![] Cert.Reference4Ideal.Gen.bcast_S_S8192x1024 (constant (F := Ideal) Cert.Reference4Ideal.S_ .f32 0x3F800000#32)) (Host.exp (Host.negf (extractStridedSlice Cert.Reference4Ideal.S8192x1024 ![0, 1024] y Cert.Reference4Ideal.Gen.slices_S8192x2048_S8192x1024_0_1024))))))⟩] Cert.Reference4Ideal.Gen.concatenates_S8192x1024_S8192x1024_S8192x2048_d1) (mulf (extractStridedSlice Cert.Reference4Ideal.S8192x2048 ![0, 2048] pj Cert.Reference4Ideal.Gen.slices_S8192x4096_S8192x2048_0_2048) (Host.divf (broadcastInDim Cert.Reference4Ideal.S8192x2048 ![] Cert.Reference4Ideal.Gen.bcast_S_S8192x2048 (constant (F := Ideal) Cert.Reference4Ideal.S_ .f32 0x3F800000#32)) (addf (broadcastInDim Cert.Reference4Ideal.S8192x2048 ![] Cert.Reference4Ideal.Gen.bcast_S_S8192x2048 (constant (F := Ideal) Cert.Reference4Ideal.S_ .f32 0x3F800000#32)) (Host.exp (Host.negf (extractStridedSlice Cert.Reference4Ideal.S8192x2048 ![0, 2048] pj Cert.Reference4Ideal.Gen.slices_S8192x4096_S8192x2048_0_2048)))))))) Cert.Reference4Ideal.Gen.transposes_S2048x2048_S2048x2048_1_0

variable (dx : FVec Ideal Cert.Reference4Ideal.S8192x2048 .f32) (gt : FVec Ideal Cert.Reference4Ideal.S1x2048 .f32) (ln : FVec Ideal Cert.Reference4Ideal.S8192x1024 .f32) (y : FVec Ideal Cert.Reference4Ideal.S8192x2048 .f32) (pj : FVec Ideal Cert.Reference4Ideal.S8192x4096 .f32) (ps : FVec Ideal Cert.Reference4Ideal.S1x1024 .f32) (ow : FVec Ideal Cert.Reference4Ideal.S2048x2048 .f32)

theorem ref0_at (hb : ∀ r n, ∃ v : ℝ, db dx gt ow r n = v) (hz : ∀ r n, ∃ v : ℝ, zz pj r n = v) (hp : ∀ r n, ∃ v : ℝ, bp ln y ps r n = v) (r : Fin 8192) (n : Fin 2048) :
    REF0 dx gt ln y pj ps ow (ix2 r n) = dz dx gt ln y pj ps ow r n := by
  have e := Cert.Finite.gate_real (Cert.Finite.real_mul (hb r n) (hp r n)) (hz r n)
  refine Eq.trans ?_ e.symm
  rw [mul_comm (db dx gt ow r n)]
  unfold db dm bp zz
  pointwise [REF0]

theorem ref1_at (r : Fin 8192) (q : Fin 1024) : REF1 dx gt ln y pj ps ow (ix2 r q) = dbp dx gt pj ow r ⟨q, by omega⟩ * ps (ix2 (0 : Fin 1) q) := by
  unfold dbp db dm zz
  pointwise [REF1]

theorem ref2_at (r : Fin 8192) (n : Fin 2048) : REF2 dx gt ln y pj ps ow (ix2 r n) = dy dx gt y pj ow r n := by
  unfold dy dbp db dm zz
  pointwise [REF2]

theorem ref3_at (q : Fin 1024) : REF3 dx gt ln y pj ps ow (ix2 (0 : Fin 1) q) = ∑ r, ln (ix2 r q) * dbp dx gt pj ow r ⟨q, by omega⟩ := by
  unfold dbp db dm zz
  pointwise [REF3]

theorem ref4_at (a b : Fin 2048) : REF4 dx gt ln y pj ps ow (ix2 a b) = ∑ r, dm dx gt r b * (bp ln y ps r a * silu (zz pj r a)) := by
  unfold bp dm zz
  pointwise [REF4]

end Cert.Reference4Ideal.Ob

end
-- ==== Proof.GateValue.lean ====
/-
The gradients of the gated branches behind the output product: the launch against the mathematics of `GateRef`.
-/
module

public import proofs.«01_k».proof.Proof.Gen.Kernel4Ideal.Value
public import proofs.«01_k».proof.Proof.Gen.Reference4Ideal.Run
public import proofs.«01_k».proof.Proof.Gen.Pre_gated
public import proofs.«01_k».proof.Proof.GateRef
public import Idealize.ShloMosaic.Lib.WritesUnit
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)
open Idealize.ShloMosaic.Tactic

namespace Cert.Kernel4Ideal.Ob

open Cert.Kernel4Ideal Cert.Kernel4Ideal.Gen Cert.Gate

variable (m : (ℓ : Loc nD τ sig) → Buf (Elt Ideal) ℓ)

/-- The windows' block indices. -/
theorem idx : ∀ t : Fin cfg0.N, win0_0.index t = ![t.val, 0] ∧ win0_1.index t = ![0, 0] ∧ win0_2.index t = ![t.val, 0]
    ∧ win0_3.index t = ![0, 0] ∧ win0_4.index t = ![t.val, 0] ∧ win0_5.index t = ![t.val, 0] ∧ win0_6.index t = ![t.val, 1] ∧ win0_7.index t = ![0, 0]
    ∧ win0_8.index t = ![t.val, 0] ∧ win0_9.index t = ![t.val, 0] ∧ win0_10.index t = ![t.val, 0] ∧ win0_11.index t = ![0, 0] :=
  (by decide +kernel : ∀ t : Fin grid0.N, _)

theorem N_lt : ∀ t : Fin cfg0.N, t.val < 32 := (by decide +kernel : ∀ t : Fin grid0.N, _)

/-- The arguments. -/
abbrev Dx (c : Dev nD) : FVec Ideal S8192x2048 .f32 := m ((c : Thread nD τ).loc main_arg0)
abbrev Gt (c : Dev nD) : FVec Ideal S1x2048 .f32 := m ((c : Thread nD τ).loc main_arg1)
abbrev Ln (c : Dev nD) : FVec Ideal S8192x1024 .f32 := m ((c : Thread nD τ).loc main_arg2)
abbrev Yy (c : Dev nD) : FVec Ideal S8192x2048 .f32 := m ((c : Thread nD τ).loc main_arg3)
abbrev Pj (c : Dev nD) : FVec Ideal S8192x4096 .f32 := m ((c : Thread nD τ).loc main_arg4)
abbrev Ps (c : Dev nD) : FVec Ideal S1x1024 .f32 := m ((c : Thread nD τ).loc main_arg5)
abbrev Ow (c : Dev nD) : FVec Ideal S2048x2048 .f32 := m ((c : Thread nD τ).loc main_arg6)

/-- What the host hands the launch: the saved branches, and the weight. -/
theorem entry_br (c : Dev nD) (x : S8192x2048.Idx) : V m c main_v23 x = bp (Ln m c) (Yy m c) (Ps m c) (x 0) (x 1) * silu (zz (Pj m c) (x 0) (x 1)) := by
  entry_read
  unfold bp zz
  pointwise [tanh_sg]

theorem entry_ow (c : Dev nD) (x : S2048x2048.Idx) : V m c main_v24 x = Ow m c x := by
  entry_read
  pointwise

/-- The row of the arrays that row `p` of point `t`'s block is. -/
def row (t : Fin cfg0.N) (p : Fin 256) : Fin 8192 := ⟨t.val * 256 + p, by have := N_lt t; omega⟩

theorem dx_at (c : Dev nD) (t : Fin cfg0.N) (p : Fin 256) (k : Fin 2048) : iblk m c 0 t (ix2 p k) = Dx m c (ix2 (row t p) k) := by
  blk_ext [iblk, V, idx t, row]

theorem gt_eq (c : Dev nD) (t : Fin cfg0.N) : iblk m c 1 t = Gt m c := by blk_ext! [iblk, V, idx t]

theorem br_at (c : Dev nD) (t : Fin cfg0.N) (p : Fin 256) (n : Fin 2048) : iblk m c 2 t (ix2 p n)
    = bp (Ln m c) (Yy m c) (Ps m c) (row t p) n * silu (zz (Pj m c) (row t p) n) := by
  refine Eq.trans ?_ (entry_br m c (ix2 (row t p) n))
  blk_ext [iblk, V, idx t, row]

theorem ow_at (c : Dev nD) (t : Fin cfg0.N) (n k : Fin 2048) : iblk m c 3 t (ix2 n k) = Ow m c (ix2 n k) := by
  refine Eq.trans ?_ (entry_ow m c (ix2 n k))
  blk_ext [iblk, V, idx t]

theorem ln_at (c : Dev nD) (t : Fin cfg0.N) (p : Fin 256) (q : Fin 1024) : iblk m c 4 t (ix2 p q) = Ln m c (ix2 (row t p) q) := by
  blk_ext [iblk, V, idx t, row]

theorem yy_at (c : Dev nD) (t : Fin cfg0.N) (p : Fin 256) (n : Fin 2048) : iblk m c 5 t (ix2 p n) = Yy m c (ix2 (row t p) n) := by
  blk_ext [iblk, V, idx t, row]

theorem zz_at (c : Dev nD) (t : Fin cfg0.N) (p : Fin 256) (n : Fin 2048) : iblk m c 6 t (ix2 p n) = zz (Pj m c) (row t p) n := by
  unfold zz
  blk_ext [iblk, V, idx t, row]

theorem ps_eq (c : Dev nD) (t : Fin cfg0.N) : iblk m c 7 t = Ps m c := by blk_ext! [iblk, V, idx t]

theorem eta {n k : ℕ} (y : (⟨2, ![n, k]⟩ : Shape).Idx) : y = ix2 (y 0) (y 1) := by
  funext a
  match a with
  | ⟨0, _⟩ => rfl
  | ⟨1, _⟩ => rfl

theorem dm_at (c : Dev nD) (t : Fin cfg0.N) (p : Fin 256) (k : Fin 2048) :
    k0_pay4 (F := Ideal) (iblk m c 0 t) (iblk m c 1 t) (ix2 p k) = dm (Dx m c) (Gt m c) (row t p) k := by
  have e := dx_at m c t p k
  rw [gt_eq]
  unfold dm
  generalize iblk m c 0 t = D at *
  rw [← e, mul_comm]
  pointwise [k0_pay4]

theorem db_at (c : Dev nD) (t : Fin cfg0.N) (p : Fin 256) (n : Fin 2048) :
    k0_pay5 (F := Ideal) (iblk m c 0 t) (iblk m c 1 t) (iblk m c 3 t) (ix2 p n) = db (Dx m c) (Gt m c) (Ow m c) (row t p) n := by
  have e := dm_at m c t p
  have e3 := ow_at m c t n
  unfold k0_pay5 db
  generalize k0_pay4 (F := Ideal) (iblk m c 0 t) (iblk m c 1 t) = D at *
  generalize iblk m c 3 t = W at *
  simp only [← e, ← e3]
  pointwise

theorem sz_at (c : Dev nD) (t : Fin cfg0.N) (p : Fin 256) (n : Fin 2048) :
    k0_pay7 (F := Ideal) (iblk m c 6 t) (ix2 p n) = sg (zz (Pj m c) (row t p) n) := by
  rw [← zz_at m c t p n]
  generalize iblk m c 6 t = D at *
  pointwise [k0_pay7, tanh_sg]

theorem dbp_at (c : Dev nD) (t : Fin cfg0.N) (p : Fin 256) (n : Fin 2048) :
    k0_pay8 (F := Ideal) (iblk m c 0 t) (iblk m c 1 t) (iblk m c 3 t) (iblk m c 6 t) (ix2 p n) = dbp (Dx m c) (Gt m c) (Pj m c) (Ow m c) (row t p) n := by
  have e := db_at m c t p n
  have e7 := sz_at m c t p n
  have e6 := zz_at m c t p n
  unfold k0_pay8 dbp
  refine congrArg₂ (· * ·) e (congrArg₂ (· * ·) e6 (e7.trans ?_))
  rfl

/-- The two halves of a block of the scan branch. -/
abbrev lo : Rect S256x2048 := Rect.unit ![0, 0] ![256, 1024] inb_S256x2048_S256x1024_0_0
abbrev hi : Rect S256x2048 := Rect.unit ![0, 1024] ![256, 1024] inb_S256x2048_S256x1024_0_1024

theorem sy_at (u : FVec Ideal S256x1024 .f32) (j : S256x1024.Idx) : k0_pay9 (F := Ideal) u (Scalar.ofBits .f32 0x3F000000#32) j = sg (u j) := by
  pointwise [k0_pay9, tanh_sg]

theorem lo_at (c : Dev nD) (t : Fin cfg0.N) (p : Fin 256) (q : Fin 1024) : View.ld (iblk m c 5 t) lo (ix2 p q) = Yy m c (ix2 (row t p) ⟨q, by omega⟩) := by
  refine Eq.trans ?_ (yy_at m c t p ⟨q, by omega⟩)
  generalize iblk m c 5 t = D
  pointwise

theorem hi_at (c : Dev nD) (t : Fin cfg0.N) (p : Fin 256) (q : Fin 1024) : View.ld (iblk m c 5 t) hi (ix2 p q) = Yy m c (ix2 (row t p) ⟨1024 + q, by omega⟩) := by
  refine Eq.trans ?_ (yy_at m c t p ⟨1024 + q, by omega⟩)
  generalize iblk m c 5 t = D
  pointwise

theorem pay10_at (d z s : FVec Ideal S256x2048 .f32) (u v l : FVec Ideal S256x1024 .f32) (w : FVec Ideal S1x1024 .f32) (p : Fin 256) (n : Fin 2048) :
    k0_pay10 (F := Ideal) d z s u v (Scalar.ofBits .f32 0x3F000000#32) w l (ix2 p n)
      = d (ix2 p n) * (if h : (n : ℕ) < 1024 then l (ix2 p ⟨n, h⟩) * w (ix2 (0 : Fin 1) ⟨n, h⟩)
          else u (ix2 p ⟨(n : ℕ) - 1024, by have := n.isLt; omega⟩) * sg (v (ix2 p ⟨(n : ℕ) - 1024, by have := n.isLt; omega⟩)))
        * (s (ix2 p n) * (1 + z (ix2 p n) * (1 - s (ix2 p n)))) := by
  pointwise [k0_pay10, k0_pay9, tanh_sg]

theorem dz_at (c : Dev nD) (t : Fin cfg0.N) (p : Fin 256) (n : Fin 2048) :
    k0_pay10 (F := Ideal) (k0_pay5 (iblk m c 0 t) (iblk m c 1 t) (iblk m c 3 t)) (iblk m c 6 t) (k0_pay7 (iblk m c 6 t)) (View.ld (iblk m c 5 t) lo) (View.ld (iblk m c 5 t) hi)
      (Scalar.ofBits .f32 0x3F000000#32) (iblk m c 7 t) (iblk m c 4 t) (ix2 p n) = dz (Dx m c) (Gt m c) (Ln m c) (Yy m c) (Pj m c) (Ps m c) (Ow m c) (row t p) n := by
  rw [pay10_at, db_at, zz_at, sz_at, ps_eq]
  unfold dz bp
  simp only [ln_at, lo_at, hi_at]

theorem dlin_at (c : Dev nD) (t : Fin cfg0.N) (p : Fin 256) (q : Fin 1024) :
    k0_pay12 (F := Ideal) (k0_pay8 (iblk m c 0 t) (iblk m c 1 t) (iblk m c 3 t) (iblk m c 6 t)) (iblk m c 7 t) (ix2 p q)
      = dbp (Dx m c) (Gt m c) (Pj m c) (Ow m c) (row t p) ⟨q, by omega⟩ * Ps m c (ix2 (0 : Fin 1) q) := by
  have e := dbp_at m c t p ⟨q, by omega⟩
  rw [← e, ps_eq]
  generalize k0_pay8 (F := Ideal) (iblk m c 0 t) (iblk m c 1 t) (iblk m c 3 t) (iblk m c 6 t) = D
  pointwise [k0_pay12, k0_pay11]

theorem pay1_at (D : FVec Ideal S256x2048 .f32) (u v : FVec Ideal S256x1024 .f32) (p : Fin 256) (n : Fin 2048) :
    k0_pay1 (F := Ideal) (k0_pay15 D v (Scalar.ofBits .f32 0x3F000000#32)) (k0_pay16 D u v (Scalar.ofBits .f32 0x3F000000#32)) (k0_pay17 v (Scalar.ofBits .f32 0x3F000000#32)) (ix2 p n)
      = if h : (n : ℕ) < 1024 then D (ix2 p ⟨1024 + n, by omega⟩) * sg (v (ix2 p ⟨n, h⟩))
        else D (ix2 p ⟨1024 + ((n : ℕ) - 1024), by have := n.isLt; omega⟩) * u (ix2 p ⟨(n : ℕ) - 1024, by have := n.isLt; omega⟩) * sg (v (ix2 p ⟨(n : ℕ) - 1024, by have := n.isLt; omega⟩))
          * (1 - sg (v (ix2 p ⟨(n : ℕ) - 1024, by have := n.isLt; omega⟩))) := by
  pointwise [k0_pay1, k0_pay14, k0_pay15, k0_pay16, k0_pay17, k0_pay9, tanh_sg]

theorem dy_at (c : Dev nD) (t : Fin cfg0.N) (p : Fin 256) (n : Fin 2048) :
    k0_pay1 (F := Ideal) (k0_pay15 (k0_pay8 (iblk m c 0 t) (iblk m c 1 t) (iblk m c 3 t) (iblk m c 6 t)) (View.ld (iblk m c 5 t) hi) (Scalar.ofBits .f32 0x3F000000#32))
      (k0_pay16 (k0_pay8 (iblk m c 0 t) (iblk m c 1 t) (iblk m c 3 t) (iblk m c 6 t)) (View.ld (iblk m c 5 t) lo) (View.ld (iblk m c 5 t) hi) (Scalar.ofBits .f32 0x3F000000#32))
      (k0_pay17 (View.ld (iblk m c 5 t) hi) (Scalar.ofBits .f32 0x3F000000#32)) (ix2 p n) = dy (Dx m c) (Gt m c) (Yy m c) (Pj m c) (Ow m c) (row t p) n := by
  rw [pay1_at]
  unfold dy
  by_cases h : (n : ℕ) < 1024
  · rw [dif_pos h, dif_pos h, dbp_at, hi_at]
  · rw [dif_neg h, dif_neg h, dbp_at, lo_at, hi_at, mul_comm (dbp _ _ _ _ _ _), mul_assoc]

theorem zero_s (j : S2048x2048.Idx) : k0_pay2 (F := Ideal) j = 0 := by pointwise [k0_pay2]
theorem zero_w (j : S1x1024.Idx) : k0_pay3 (F := Ideal) j = 0 := by pointwise [k0_pay3]

theorem add_w (D : FVec Ideal S256x2048 .f32) (l : FVec Ideal S256x1024 .f32) (acc : FVec Ideal S1x1024 .f32) (j : S1x1024.Idx) :
    k0_pay13 (F := Ideal) D l acc j = acc j + ∑ p : Fin 256, D (ix2 p ⟨(j 1).val, by have h : (j 1).val < 1024 := (j 1).isLt; omega⟩) * l (ix2 p (j 1)) := by
  pointwise [k0_pay13, k0_pay11]

/-- What a point adds to the scale's gradient, and to the weight's. -/
def tw (c : Dev nD) (t : Fin cfg0.N) (q : Fin 1024) : EReal := ∑ p : Fin 256, Ln m c (ix2 (row t p) q) * dbp (Dx m c) (Gt m c) (Pj m c) (Ow m c) (row t p) ⟨q, by omega⟩
def ts (c : Dev nD) (t : Fin cfg0.N) (a b : Fin 2048) : EReal := ∑ p : Fin 256, dm (Dx m c) (Gt m c) (row t p) b * (bp (Ln m c) (Yy m c) (Ps m c) (row t p) a * silu (zz (Pj m c) (row t p) a))

theorem step_w (c : Dev nD) (t : Fin cfg0.N) (acc : FVec Ideal S1x1024 .f32) (j : S1x1024.Idx) :
    k0_pay13 (F := Ideal) (k0_pay8 (iblk m c 0 t) (iblk m c 1 t) (iblk m c 3 t) (iblk m c 6 t)) (iblk m c 4 t) acc j = acc j + tw m c t (j 1) := by
  rw [add_w]
  unfold tw
  refine congrArg (acc j + ·) (Finset.sum_congr rfl fun p _ => ?_)
  rw [mul_comm]
  exact congrArg₂ (· * ·) (ln_at m c t p (j 1)) (dbp_at m c t p _)

theorem step_s (c : Dev nD) (t : Fin cfg0.N) (acc : FVec Ideal S2048x2048 .f32) (j : S2048x2048.Idx) :
    k0_pay6 (F := Ideal) (iblk m c 0 t) (iblk m c 1 t) acc (iblk m c 2 t) j = acc j + ts m c t (j 0) (j 1) := by
  have e := fun p => dm_at m c t p (j 1)
  have e2 := fun p => br_at m c t p (j 0)
  unfold ts k0_pay6
  generalize k0_pay4 (F := Ideal) (iblk m c 0 t) (iblk m c 1 t) = D at *
  generalize iblk m c 2 t = B at *
  simp only [← e, ← e2]
  pointwise
  exact congrArg (acc j + ·) (Finset.sum_congr rfl fun k _ => mul_comm _ _)

theorem acc_w (c : Dev nD) (t : Fin cfg0.N) (ht : t.val % 32 = 31) (y : S1x1024.Idx) : (outsAt0 m c t.val t.isLt).2.2.2.1 y
    = ∑ s : Fin 32, tw m c ⟨s.val, by have := s.isLt; change s.val < grid0.N; have e : grid0.N = 32 := N_0; omega⟩ (y 1) := by
  rw [Pipeline.eq_sum_fin_of_reset_step_apply_of_flush (fun n h => (outsAt0 m c n h).2.2.2.1) 32 (fun _ => 0) (fun t y => tw m c t (y 1))
    (fun t h j => by
      rw [outsAt0_A m c t h (by omega)]; frame_out
      rw [step_w, zero_w])
    (fun t h j => by
      by_cases h1 : t.val % 32 = 31
      · rw [outsAt0_C m c t h h1]; frame_out
        rw [step_w]
      · rw [outsAt0_B m c t h h1]; frame_out
        rw [step_w])
    t ht _, zero_add]
  refine Finset.sum_congr rfl fun s _ => ?_
  congr 1
  exact Fin.ext (by show 32 * (t.val / 32) + s.val = s.val; have := N_lt t; omega)

theorem acc_s (c : Dev nD) (t : Fin cfg0.N) (ht : t.val % 32 = 31) (y : S2048x2048.Idx) : (outsAt0 m c t.val t.isLt).2.2.2.2.1 y
    = ∑ s : Fin 32, ts m c ⟨s.val, by have := s.isLt; change s.val < grid0.N; have e : grid0.N = 32 := N_0; omega⟩ (y 0) (y 1) := by
  rw [Pipeline.eq_sum_fin_of_reset_step_apply_of_flush (fun n h => (outsAt0 m c n h).2.2.2.2.1) 32 (fun _ => 0) (fun t y => ts m c t (y 0) (y 1))
    (fun t h j => by
      rw [outsAt0_A m c t h (by omega)]; frame_out
      rw [step_s, zero_s])
    (fun t h j => by
      by_cases h1 : t.val % 32 = 31
      · rw [outsAt0_C m c t h h1]; frame_out
        rw [step_s]
        exact congrArg (· + _) (congrFun (Memref.IsWhole.read_unread (m := scM0_0) _ _) j)
      · rw [outsAt0_B m c t h h1]; frame_out
        rw [step_s]
        exact congrArg (· + _) (congrFun (Memref.IsWhole.read_unread (m := scM0_0) _ _) j))
    t ht _, zero_add]
  refine Finset.sum_congr rfl fun s _ => ?_
  congr 1
  exact Fin.ext (by show 32 * (t.val / 32) + s.val = s.val; have := N_lt t; omega)

theorem final8 (c : Dev nD) (hb : ∀ r n, ∃ v : ℝ, db (Dx m c) (Gt m c) (Ow m c) r n = v) (hz : ∀ r n, ∃ v : ℝ, zz (Pj m c) r n = v) (hp : ∀ r n, ∃ v : ℝ, bp (Ln m c) (Yy m c) (Ps m c) r n = v) :
    (dats m 0 c).arrAt 8 cfg0.N = Cert.Reference4Ideal.Ob.REF0 (Dx m c) (Gt m c) (Ln m c) (Yy m c) (Pj m c) (Ps m c) (Ow m c) := by
  refine (dats m 0 c).arrAt_eq_of_covers 8 _ (by decide +kernel) fun t hf y => ?_
  blk_simp
  rw [after0_8]
  have he : ((cfg0.win 8).blk t).view.emb y = (ix2 (row t (y 0)) (y 1) : S8192x2048.Idx) := by
    funext a
    match a with
    | ⟨0, _⟩ => exact Fin.ext (by blk_simp; rw [(idx t).2.2.2.2.2.2.2.2.1]; rfl)
    | ⟨1, _⟩ => exact Fin.ext (by blk_simp; rw [(idx t).2.2.2.2.2.2.2.2.1]; show 0 * _ + (y 1).val = (y 1).val; omega)
  refine Eq.trans ?_ (congrArg (Cert.Reference4Ideal.Ob.REF0 (Dx m c) (Gt m c) (Ln m c) (Yy m c) (Pj m c) (Ps m c) (Ow m c)) he.symm)
  refine Eq.trans ?_ (Cert.Reference4Ideal.Ob.ref0_at (Dx m c) (Gt m c) (Ln m c) (Yy m c) (Pj m c) (Ps m c) (Ow m c) hb hz hp (row t (y 0)) (y 1)).symm
  by_cases h : t.val % 32 = 0
  · rw [outsAt0_A m c t h (by omega)]; frame_out
    rw [eta y]
    exact dz_at m c t (y 0) (y 1)
  · by_cases h1 : t.val % 32 = 31
    · rw [outsAt0_C m c t h h1]; frame_out
      rw [eta y]
      exact dz_at m c t (y 0) (y 1)
    · rw [outsAt0_B m c t h h1]; frame_out
      rw [eta y]
      exact dz_at m c t (y 0) (y 1)

theorem final9 (c : Dev nD) :
    (dats m 0 c).arrAt 9 cfg0.N = Cert.Reference4Ideal.Ob.REF1 (Dx m c) (Gt m c) (Ln m c) (Yy m c) (Pj m c) (Ps m c) (Ow m c) := by
  refine (dats m 0 c).arrAt_eq_of_covers 9 _ (by decide +kernel) fun t hf y => ?_
  blk_simp
  rw [after0_9]
  have he : ((cfg0.win 9).blk t).view.emb y = (ix2 (row t (y 0)) (y 1) : S8192x1024.Idx) := by
    funext a
    match a with
    | ⟨0, _⟩ => exact Fin.ext (by blk_simp; rw [(idx t).2.2.2.2.2.2.2.2.2.1]; rfl)
    | ⟨1, _⟩ => exact Fin.ext (by blk_simp; rw [(idx t).2.2.2.2.2.2.2.2.2.1]; show 0 * _ + (y 1).val = (y 1).val; omega)
  refine Eq.trans ?_ (congrArg (Cert.Reference4Ideal.Ob.REF1 (Dx m c) (Gt m c) (Ln m c) (Yy m c) (Pj m c) (Ps m c) (Ow m c)) he.symm)
  refine Eq.trans ?_ (Cert.Reference4Ideal.Ob.ref1_at (Dx m c) (Gt m c) (Ln m c) (Yy m c) (Pj m c) (Ps m c) (Ow m c) (row t (y 0)) (y 1)).symm
  by_cases h : t.val % 32 = 0
  · rw [outsAt0_A m c t h (by omega)]; frame_out
    rw [eta y]
    exact dlin_at m c t (y 0) (y 1)
  · by_cases h1 : t.val % 32 = 31
    · rw [outsAt0_C m c t h h1]; frame_out
      rw [eta y]
      exact dlin_at m c t (y 0) (y 1)
    · rw [outsAt0_B m c t h h1]; frame_out
      rw [eta y]
      exact dlin_at m c t (y 0) (y 1)

theorem final10 (c : Dev nD) :
    (dats m 0 c).arrAt 10 cfg0.N = Cert.Reference4Ideal.Ob.REF2 (Dx m c) (Gt m c) (Ln m c) (Yy m c) (Pj m c) (Ps m c) (Ow m c) := by
  refine (dats m 0 c).arrAt_eq_of_covers 10 _ (by decide +kernel) fun t hf y => ?_
  blk_simp
  rw [after0_10]
  have he : ((cfg0.win 10).blk t).view.emb y = (ix2 (row t (y 0)) (y 1) : S8192x2048.Idx) := by
    funext a
    match a with
    | ⟨0, _⟩ => exact Fin.ext (by blk_simp; rw [(idx t).2.2.2.2.2.2.2.2.2.2.1]; rfl)
    | ⟨1, _⟩ => exact Fin.ext (by blk_simp; rw [(idx t).2.2.2.2.2.2.2.2.2.2.1]; show 0 * _ + (y 1).val = (y 1).val; omega)
  refine Eq.trans ?_ (congrArg (Cert.Reference4Ideal.Ob.REF2 (Dx m c) (Gt m c) (Ln m c) (Yy m c) (Pj m c) (Ps m c) (Ow m c)) he.symm)
  refine Eq.trans ?_ (Cert.Reference4Ideal.Ob.ref2_at (Dx m c) (Gt m c) (Ln m c) (Yy m c) (Pj m c) (Ps m c) (Ow m c) (row t (y 0)) (y 1)).symm
  by_cases h : t.val % 32 = 0
  · rw [outsAt0_A m c t h (by omega)]; frame_out
    rw [eta y]
    exact dy_at m c t (y 0) (y 1)
  · by_cases h1 : t.val % 32 = 31
    · rw [outsAt0_C m c t h h1]; frame_out
      rw [eta y]
      exact dy_at m c t (y 0) (y 1)
    · rw [outsAt0_B m c t h h1]; frame_out
      rw [eta y]
      exact dy_at m c t (y 0) (y 1)

/-- The rows of all points are the rows of the arrays. -/
theorem rows (f : Fin 8192 → EReal) : ∑ s : Fin 32, ∑ p : Fin 256, f (row ⟨s.val, by have := s.isLt; change s.val < grid0.N; have e : grid0.N = 32 := N_0; omega⟩ p) = ∑ r, f r :=
  Fin.sum_mul_add_congr fun s p hl => congrArg f (Fin.ext rfl)

theorem final11 (c : Dev nD) : (dats m 0 c).arrAt 11 cfg0.N = Cert.Reference4Ideal.Ob.REF3 (Dx m c) (Gt m c) (Ln m c) (Yy m c) (Pj m c) (Ps m c) (Ow m c) := by
  refine (dats m 0 c).arrAt_eq_of_covers 11 _ (by decide +kernel) fun t hf y => ?_
  blk_simp
  rw [after0_11]
  have he : ((cfg0.win 11).blk t).view.emb y = (ix2 0 (y 1) : S1x1024.Idx) := by
    funext a
    match a with
    | ⟨0, _⟩ => exact Subsingleton.elim (α := Fin 1) _ _
    | ⟨1, _⟩ => exact Fin.ext (by blk_simp; rw [(idx t).2.2.2.2.2.2.2.2.2.2.2]; show 0 * 1024 + (y 1).val = (y 1).val; omega)
  refine Eq.trans ?_ (congrArg (Cert.Reference4Ideal.Ob.REF3 (Dx m c) (Gt m c) (Ln m c) (Yy m c) (Pj m c) (Ps m c) (Ow m c)) he.symm)
  refine Eq.trans ?_ (Cert.Reference4Ideal.Ob.ref3_at (Dx m c) (Gt m c) (Ln m c) (Yy m c) (Pj m c) (Ps m c) (Ow m c) (y 1)).symm
  exact (acc_w m c t ((flush0_11 t).mp hf) y).trans (rows fun r => Ln m c (ix2 r (y 1)) * dbp (Dx m c) (Gt m c) (Pj m c) (Ow m c) r ⟨(y 1).val, by have h : (y 1).val < 1024 := (y 1).isLt; omega⟩)

theorem held (c : Dev nD) (t : Fin cfg0.N) (h : t.val % 32 = 31) : (outsAt0 m c t.val t.isLt).2.2.2.2.2 = (outsAt0 m c t.val t.isLt).2.2.2.2.1 := by
  rw [outsAt0_C m c t (by omega) h]; frame_out
  unfold hbw0_C_0 kernelRun0_C
  dsimp only
  unfold kernelRun0_C.sl.dma21
  rw [View.write_whole_univ]
  unfold kernelRun0_C.sl.HS0_1
  frame_out
  funext j
  exact View.read_writes_cons_unit_of_mem (View.whole cc0_scratch0) _ _ _ [] j j (off' := ![0, 0]) rfl
    (Fin.forall_fin_two.mpr ⟨(Nat.zero_add _).symm, (Nat.zero_add _).symm⟩)

theorem final12 (c : Dev nD) (n : ℕ) (hn : n < cfg0.N) (h : n % 32 = 31) : (outsAt0 m c n hn).2.2.2.2.2 = Cert.Reference4Ideal.Ob.REF4 (Dx m c) (Gt m c) (Ln m c) (Yy m c) (Pj m c) (Ps m c) (Ow m c) := by
  refine (held m c ⟨n, hn⟩ h).trans ?_
  funext y
  refine (acc_s m c ⟨n, hn⟩ h y).trans ((rows fun r => dm (Dx m c) (Gt m c) r (y 1) * (bp (Ln m c) (Yy m c) (Ps m c) r (y 0) * silu (zz (Pj m c) r (y 0)))).trans ?_)
  rw [eta y]
  exact (Cert.Reference4Ideal.Ob.ref4_at (Dx m c) (Gt m c) (Ln m c) (Yy m c) (Pj m c) (Ps m c) (Ow m c) (y 0) (y 1)).symm

end Cert.Kernel4Ideal.Ob

namespace Cert.Proof

open Idealize.ShloMosaic Cert.Kernel4Ideal Cert.Kernel4Ideal.Ob Cert.Finite Cert.Gate

variable (m : (ℓ : Loc nD τ sig) → Buf (Elt Ideal) ℓ)

/-- The precondition, read: the branches, their cotangent and the gate's argument are real. -/
theorem real_gated (h : Cert.Pre_Kernel4Ideal_gated m) (c : Dev nD) : (∀ r n, ∃ v : ℝ, db (Dx m c) (Gt m c) (Ow m c) r n = v) ∧ (∀ r n, ∃ v : ℝ, zz (Pj m c) r n = v)
    ∧ (∀ r n, ∃ v : ℝ, bp (Ln m c) (Yy m c) (Ps m c) r n = v) := by
  have e := congrFun (h c) (fun a => a.elim0)
  obtain ⟨e, ow⟩ := IntOp.andi_eq_one.mp e
  obtain ⟨e, ps⟩ := IntOp.andi_eq_one.mp e
  obtain ⟨e, pj⟩ := IntOp.andi_eq_one.mp e
  obtain ⟨e, yy⟩ := IntOp.andi_eq_one.mp e
  obtain ⟨e, ln⟩ := IntOp.andi_eq_one.mp e
  obtain ⟨dx, gt⟩ := IntOp.andi_eq_one.mp e
  replace dx := real_of_all _ _ _ _ _ dx
  replace gt := real_of_all _ _ _ _ _ gt
  replace ln := real_of_all _ _ _ _ _ ln
  replace yy := real_of_all _ _ _ _ _ yy
  replace pj := real_of_all _ _ _ _ _ pj
  replace ps := real_of_all _ _ _ _ _ ps
  replace ow := real_of_all _ _ _ _ _ ow
  refine ⟨fun r n => real_sum _ fun k => real_mul (real_mul (gt _) (dx _)) (ow _), fun r n => pj _, fun r n => ?_⟩
  unfold bp
  split
  · exact real_mul (ln _) (ps _)
  · exact real_mul (yy _) (sg_real (yy _))

/-- The reference keeps its arguments, and it declares no semaphore. -/
theorem frame_ref_ob : Cert.quiescent_Reference4Ideal := fun m ρ _ =>
  (θ_run Cert.Reference4Ideal.defs _ _).mono
    (fun r h => ⟨fun c => (h c).2.2.2.2.2, sem_eq_zero_of_no_sems (by decide) r.2⟩)
    (Cert.Reference4Ideal.Value.run (F := Ideal) m ρ)

theorem algebraic_ob : Cert.algebraic_Kernel4Ideal_Reference4Ideal_pre_gated := by
  intro m ρ m' ρ' hpre hagree
  refine ⟨_, _, _, _, _, (θ_run _ _ _).mono (fun _ h c => ⟨(h c).1, (h c).2.1, (h c).2.2.1, (h c).2.2.2.1, (h c).2.2.2.2.2.2.2.2.2.2.2, (h c).2.2.2.2.1, (h c).2.2.2.2.2.1, (h c).2.2.2.2.2.2.1, (h c).2.2.2.2.2.2.2.1, (h c).2.2.2.2.2.2.2.2.1, (h c).2.2.2.2.2.2.2.2.2.1, (h c).2.2.2.2.2.2.2.2.2.2.1⟩)
    (Cert.Kernel4Ideal.Value.run_blocks m ρ), ?_⟩
  have hrun := Cert.Reference4Ideal.Value.run (F := Ideal) m' ρ'
  refine (θ_run _ _ _).mono (fun _ h c => ⟨(h c).1.trans ?_, (h c).2.1.trans ?_, (h c).2.2.1.trans ?_, (h c).2.2.2.1.trans ?_, (h c).2.2.2.2.1.trans ?_, (h c).2.2.2.2.2⟩) hrun
  all_goals
    obtain ⟨a0, a1, a2, a3, a4, a5, a6⟩ := hagree c
  · obtain ⟨hb, hz, hp⟩ := real_gated m hpre c
    refine Eq.trans (b := Cert.Reference4Ideal.Ob.REF0 (m' ((c.tc : Thread Cert.Reference4Ideal.nD Cert.Reference4Ideal.τ).loc Cert.Reference4Ideal.main_arg0)) (m' ((c.tc : Thread Cert.Reference4Ideal.nD Cert.Reference4Ideal.τ).loc Cert.Reference4Ideal.main_arg1)) (m' ((c.tc : Thread Cert.Reference4Ideal.nD Cert.Reference4Ideal.τ).loc Cert.Reference4Ideal.main_arg2)) (m' ((c.tc : Thread Cert.Reference4Ideal.nD Cert.Reference4Ideal.τ).loc Cert.Reference4Ideal.main_arg3)) (m' ((c.tc : Thread Cert.Reference4Ideal.nD Cert.Reference4Ideal.τ).loc Cert.Reference4Ideal.main_arg4)) (m' ((c.tc : Thread Cert.Reference4Ideal.nD Cert.Reference4Ideal.τ).loc Cert.Reference4Ideal.main_arg5)) (m' ((c.tc : Thread Cert.Reference4Ideal.nD Cert.Reference4Ideal.τ).loc Cert.Reference4Ideal.main_arg6))) rfl ?_
    rw [a0, a1, a2, a3, a4, a5, a6]
    exact (final8 m c hb hz hp).symm
  · refine Eq.trans (b := Cert.Reference4Ideal.Ob.REF1 (m' ((c.tc : Thread Cert.Reference4Ideal.nD Cert.Reference4Ideal.τ).loc Cert.Reference4Ideal.main_arg0)) (m' ((c.tc : Thread Cert.Reference4Ideal.nD Cert.Reference4Ideal.τ).loc Cert.Reference4Ideal.main_arg1)) (m' ((c.tc : Thread Cert.Reference4Ideal.nD Cert.Reference4Ideal.τ).loc Cert.Reference4Ideal.main_arg2)) (m' ((c.tc : Thread Cert.Reference4Ideal.nD Cert.Reference4Ideal.τ).loc Cert.Reference4Ideal.main_arg3)) (m' ((c.tc : Thread Cert.Reference4Ideal.nD Cert.Reference4Ideal.τ).loc Cert.Reference4Ideal.main_arg4)) (m' ((c.tc : Thread Cert.Reference4Ideal.nD Cert.Reference4Ideal.τ).loc Cert.Reference4Ideal.main_arg5)) (m' ((c.tc : Thread Cert.Reference4Ideal.nD Cert.Reference4Ideal.τ).loc Cert.Reference4Ideal.main_arg6))) rfl ?_
    rw [a0, a1, a2, a3, a4, a5, a6]
    exact (final9 m c).symm
  · refine Eq.trans (b := Cert.Reference4Ideal.Ob.REF2 (m' ((c.tc : Thread Cert.Reference4Ideal.nD Cert.Reference4Ideal.τ).loc Cert.Reference4Ideal.main_arg0)) (m' ((c.tc : Thread Cert.Reference4Ideal.nD Cert.Reference4Ideal.τ).loc Cert.Reference4Ideal.main_arg1)) (m' ((c.tc : Thread Cert.Reference4Ideal.nD Cert.Reference4Ideal.τ).loc Cert.Reference4Ideal.main_arg2)) (m' ((c.tc : Thread Cert.Reference4Ideal.nD Cert.Reference4Ideal.τ).loc Cert.Reference4Ideal.main_arg3)) (m' ((c.tc : Thread Cert.Reference4Ideal.nD Cert.Reference4Ideal.τ).loc Cert.Reference4Ideal.main_arg4)) (m' ((c.tc : Thread Cert.Reference4Ideal.nD Cert.Reference4Ideal.τ).loc Cert.Reference4Ideal.main_arg5)) (m' ((c.tc : Thread Cert.Reference4Ideal.nD Cert.Reference4Ideal.τ).loc Cert.Reference4Ideal.main_arg6))) rfl ?_
    rw [a0, a1, a2, a3, a4, a5, a6]
    exact (final10 m c).symm
  · refine Eq.trans (b := Cert.Reference4Ideal.Ob.REF3 (m' ((c.tc : Thread Cert.Reference4Ideal.nD Cert.Reference4Ideal.τ).loc Cert.Reference4Ideal.main_arg0)) (m' ((c.tc : Thread Cert.Reference4Ideal.nD Cert.Reference4Ideal.τ).loc Cert.Reference4Ideal.main_arg1)) (m' ((c.tc : Thread Cert.Reference4Ideal.nD Cert.Reference4Ideal.τ).loc Cert.Reference4Ideal.main_arg2)) (m' ((c.tc : Thread Cert.Reference4Ideal.nD Cert.Reference4Ideal.τ).loc Cert.Reference4Ideal.main_arg3)) (m' ((c.tc : Thread Cert.Reference4Ideal.nD Cert.Reference4Ideal.τ).loc Cert.Reference4Ideal.main_arg4)) (m' ((c.tc : Thread Cert.Reference4Ideal.nD Cert.Reference4Ideal.τ).loc Cert.Reference4Ideal.main_arg5)) (m' ((c.tc : Thread Cert.Reference4Ideal.nD Cert.Reference4Ideal.τ).loc Cert.Reference4Ideal.main_arg6))) rfl ?_
    rw [a0, a1, a2, a3, a4, a5, a6]
    exact (final11 m c).symm
  · refine Eq.trans (b := Cert.Reference4Ideal.Ob.REF4 (m' ((c.tc : Thread Cert.Reference4Ideal.nD Cert.Reference4Ideal.τ).loc Cert.Reference4Ideal.main_arg0)) (m' ((c.tc : Thread Cert.Reference4Ideal.nD Cert.Reference4Ideal.τ).loc Cert.Reference4Ideal.main_arg1)) (m' ((c.tc : Thread Cert.Reference4Ideal.nD Cert.Reference4Ideal.τ).loc Cert.Reference4Ideal.main_arg2)) (m' ((c.tc : Thread Cert.Reference4Ideal.nD Cert.Reference4Ideal.τ).loc Cert.Reference4Ideal.main_arg3)) (m' ((c.tc : Thread Cert.Reference4Ideal.nD Cert.Reference4Ideal.τ).loc Cert.Reference4Ideal.main_arg4)) (m' ((c.tc : Thread Cert.Reference4Ideal.nD Cert.Reference4Ideal.τ).loc Cert.Reference4Ideal.main_arg5)) (m' ((c.tc : Thread Cert.Reference4Ideal.nD Cert.Reference4Ideal.τ).loc Cert.Reference4Ideal.main_arg6))) rfl ?_
    rw [a0, a1, a2, a3, a4, a5, a6]
    exact (final12 m c _ _ (show (cfg0.N - 1) % 32 = 31 from by have e : cfg0.N = 32 := Cert.Kernel4Ideal.Gen.N_0; omega)).symm

end Cert.Proof

end
-- ==== Proof.MergeRef.lean ====
/-
The forward merge of the two branches, the loss and the gradients it hands back, entry by entry: the mathematics, and what the reference leaves.
-/
module

public import proofs.«01_k».proof.Proof.Gen.Reference6Ideal.Run
public import proofs.«01_k».proof.Proof.Finite
public import proofs.«01_k».proof.Proof.Norm
public import proofs.«01_k».proof.Defs
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)
open Idealize.ShloMosaic.Tactic

namespace Cert.Merge

/-- The logistic function, as the host writes it. -/
abbrev sg (x : EReal) : EReal := Ideal.div 1 (1 + Ideal.exp (-x))

/-- The kernels' spelling of the logistic function. -/
theorem tanh_sg (x : EReal) : Ideal.ofBits .f32 0x3F000000#32 * (Ideal.tanh (Ideal.ofBits .f32 0x3F000000#32 * x) + 1) = sg x := by
  rw [Cert.Finite.half_bits]; exact Cert.Finite.logistic_tanh x

theorem sg_real {x : EReal} (hx : ∃ r : ℝ, x = r) : ∃ r : ℝ, sg x = r := by
  obtain ⟨x, rfl⟩ := hx
  exact ⟨_, Cert.Finite.logistic_real x⟩

/-- The smooth activation, in its hyperbolic form. -/
abbrev gel (v : EReal) : EReal :=
  v * (Ideal.ofBits .f32 0x3F000000#32 * (1 + Ideal.tanh (Ideal.ofBits .f32 0x3F4C422A#32 * (v + Ideal.ofBits .f32 0x3D372713#32 * (v * v * v)))))

/-- The twelve arrays the merge takes. -/
structure Args where
  ys : FVec Ideal Cert.Reference6Ideal.S8192x1024 .f32
  pj : FVec Ideal Cert.Reference6Ideal.S8192x4096 .f32
  ln : FVec Ideal Cert.Reference6Ideal.S8192x1024 .f32
  x : FVec Ideal Cert.Reference6Ideal.S8192x2048 .f32
  tg : FVec Ideal Cert.Reference6Ideal.S8192x2048 .f32
  gw : FVec Ideal Cert.Reference6Ideal.S1024x2048 .f32
  ow : FVec Ideal Cert.Reference6Ideal.S2048x2048 .f32
  dk : FVec Ideal Cert.Reference6Ideal.S1x1024 .f32
  gb : FVec Ideal Cert.Reference6Ideal.S1x2048 .f32
  ps : FVec Ideal Cert.Reference6Ideal.S1x1024 .f32
  gt : FVec Ideal Cert.Reference6Ideal.S1x2048 .f32
  fg : FVec Ideal Cert.Reference6Ideal.S1x2048 .f32

variable (A : Args)

/-- The scan's output with the skip product. -/
def yp (r : Fin 8192) (q : Fin 1024) : EReal :=
  A.ys (ix2 r q) + A.dk (ix2 (0 : Fin 1) q) * A.pj (ix2 r ⟨1024 + q, by have := q.isLt; omega⟩)

/-- The two halves the gate product leaves. -/
def y12 (r : Fin 8192) (n : Fin 2048) : EReal :=
  ∑ q : Fin 1024, gel (yp A r q) * A.gw (ix2 q n) + A.gb (ix2 (0 : Fin 1) n)

/-- The outer gate's argument. -/
def zz (r : Fin 8192) (n : Fin 2048) : EReal := A.pj (ix2 r ⟨2048 + n, by have := n.isLt; omega⟩)

/-- The two branches side by side, before the outer gate. -/
def bp (r : Fin 8192) (n : Fin 2048) : EReal :=
  if h : (n : ℕ) < 1024 then A.ln (ix2 r ⟨n, h⟩) * A.ps (ix2 (0 : Fin 1) ⟨n, h⟩)
  else y12 A r ⟨(n : ℕ) - 1024, by have := n.isLt; omega⟩ * sg (y12 A r ⟨1024 + ((n : ℕ) - 1024), by have := n.isLt; omega⟩)

/-- The gated branches. -/
def br (r : Fin 8192) (n : Fin 2048) : EReal := bp A r n * (zz A r n * sg (zz A r n))

/-- The output product. -/
def mx (r : Fin 8192) (k : Fin 2048) : EReal := ∑ n : Fin 2048, br A r n * A.ow (ix2 n k)

/-- The residual stream. -/
def xo (r : Fin 8192) (k : Fin 2048) : EReal := A.x (ix2 r k) + A.gt (ix2 (0 : Fin 1) k) * mx A r k

/-- The normalised stream. -/
def xh (r : Fin 8192) (k : Fin 2048) : EReal := xo A r k * Ideal.rsqrt (Norm.var (xo A r))

/-- The prediction's distance from the target. -/
def er (r : Fin 8192) (k : Fin 2048) : EReal := xh A r k * A.fg (ix2 (0 : Fin 1) k) - A.tg (ix2 r k)

/-- The loss's weight of one entry, as the reference carries it. -/
abbrev wt : EReal := Ideal.div (Ideal.ofBits .f32 0x3F000000#32) (Ideal.ofBits .f32 0x45000000#32)

/-- The prediction's cotangent. -/
def ey (r : Fin 8192) (k : Fin 2048) : EReal := er A r k * wt + wt * er A r k

/-- The normalised stream's cotangent. -/
def gy (r : Fin 8192) (k : Fin 2048) : EReal := ey A r k * A.fg (ix2 (0 : Fin 1) k)

/-- The residual stream's cotangent. -/
def dx (r : Fin 8192) (k : Fin 2048) : EReal :=
  gy A r k * Ideal.rsqrt (Norm.var (xo A r)) + xo A r k * Norm.back (xo A r) (gy A r) + Norm.back (xo A r) (gy A r) * xo A r k

/-- One row's mean squared distance. -/
def lr (r : Fin 8192) : EReal := Ideal.div (∑ k, er A r k * er A r k) (Ideal.ofBits .f32 0x45000000#32)

/-- All twelve arrays are real. -/
structure Args.Real : Prop where
  ys : ∀ i, ∃ v : ℝ, A.ys i = v
  pj : ∀ i, ∃ v : ℝ, A.pj i = v
  ln : ∀ i, ∃ v : ℝ, A.ln i = v
  x : ∀ i, ∃ v : ℝ, A.x i = v
  tg : ∀ i, ∃ v : ℝ, A.tg i = v
  gw : ∀ i, ∃ v : ℝ, A.gw i = v
  ow : ∀ i, ∃ v : ℝ, A.ow i = v
  dk : ∀ i, ∃ v : ℝ, A.dk i = v
  gb : ∀ i, ∃ v : ℝ, A.gb i = v
  ps : ∀ i, ∃ v : ℝ, A.ps i = v
  gt : ∀ i, ∃ v : ℝ, A.gt i = v
  fg : ∀ i, ∃ v : ℝ, A.fg i = v

variable {A}

open Cert.Finite

theorem tanh_real {x : EReal} (hx : ∃ r : ℝ, x = r) : ∃ r : ℝ, Ideal.tanh x = r := by
  obtain ⟨x, rfl⟩ := hx
  exact ⟨Real.tanh x, rfl⟩

theorem sub_real {x y : EReal} (hx : ∃ r : ℝ, x = r) (hy : ∃ r : ℝ, y = r) : ∃ r : ℝ, x - y = r := by
  obtain ⟨a, rfl⟩ := hx; obtain ⟨b, rfl⟩ := hy
  exact ⟨a - b, (EReal.coe_sub a b).symm⟩

theorem root_bits : ∃ e : ℝ, Ideal.ofBits .f32 0x3F4C422A#32 = (e : EReal) :=
  ⟨_, by simp [Ideal.ofBits, Ideal.ieee, -EReal.coe_mul]; rfl⟩

theorem cube_bits : ∃ e : ℝ, Ideal.ofBits .f32 0x3D372713#32 = (e : EReal) :=
  ⟨_, by simp [Ideal.ofBits, Ideal.ieee, -EReal.coe_mul]; rfl⟩

theorem inv_bits : Ideal.ofBits .f32 0x3A000000#32 = ((1 / 2048 : ℝ) : EReal) := by
  simp [Ideal.ofBits, Ideal.ieee, -EReal.coe_mul]; norm_num

theorem wt_eq : wt = ((1 / 4096 : ℝ) : EReal) := by
  unfold wt
  rw [half_bits, Norm.width_bits, Norm.div_coe _ _ (by norm_num)]
  norm_num

theorem gel_real {v : EReal} (hv : ∃ r : ℝ, v = r) : ∃ r : ℝ, gel v = r :=
  real_mul hv (real_mul ⟨_, half_bits⟩ (real_add one_real (tanh_real (real_mul root_bits (real_add hv (real_mul cube_bits (real_mul (real_mul hv hv) hv)))))))

variable (h : A.Real)
include h

theorem yp_real (r : Fin 8192) (q : Fin 1024) : ∃ v : ℝ, yp A r q = v := real_add (h.ys _) (real_mul (h.dk _) (h.pj _))

theorem y12_real (r : Fin 8192) (n : Fin 2048) : ∃ v : ℝ, y12 A r n = v :=
  real_add (real_sum _ fun q => real_mul (gel_real (yp_real h r q)) (h.gw _)) (h.gb _)

theorem br_real (r : Fin 8192) (n : Fin 2048) : ∃ v : ℝ, br A r n = v := by
  refine real_mul ?_ (real_mul (h.pj _) (sg_real (h.pj _)))
  unfold bp
  split
  · exact real_mul (h.ln _) (h.ps _)
  · exact real_mul (y12_real h _ _) (sg_real (y12_real h _ _))

theorem xo_real (r : Fin 8192) (k : Fin 2048) : ∃ v : ℝ, xo A r k = v :=
  real_add (h.x _) (real_mul (h.gt _) (real_sum _ fun n => real_mul (br_real h r n) (h.ow _)))

theorem xh_real (r : Fin 8192) (k : Fin 2048) : ∃ v : ℝ, xh A r k = v := by
  choose a ha using xo_real h r
  obtain ⟨v, hv, e⟩ := Norm.var_real a
  refine real_mul ⟨_, ha k⟩ ?_
  rw [funext ha, e, Norm.rsqrt_pos hv]
  exact ⟨_, rfl⟩

theorem er_real (r : Fin 8192) (k : Fin 2048) : ∃ v : ℝ, er A r k = v := sub_real (real_mul (xh_real h r k) (h.fg _)) (h.tg _)

theorem ey_real (r : Fin 8192) (k : Fin 2048) : ∃ v : ℝ, ey A r k = v :=
  real_add (real_mul (er_real h r k) ⟨_, wt_eq⟩) (real_mul ⟨_, wt_eq⟩ (er_real h r k))

/-- The kernel weighs the distance once, by twice the reference's weight. -/
theorem ey_eq (r : Fin 8192) (k : Fin 2048) : er A r k * Ideal.ofBits .f32 0x3A000000#32 = ey A r k := by
  unfold ey
  obtain ⟨v, e⟩ := er_real h r k
  rw [e, wt_eq, inv_bits]
  norm_cast
  ring

theorem gy_real (r : Fin 8192) (k : Fin 2048) : ∃ v : ℝ, gy A r k = v := real_mul (ey_real h r k) (h.fg _)

/-- The residual stream's cotangent, as the kernel writes it. -/
theorem dx_eq (r : Fin 8192) (k : Fin 2048) :
    Ideal.rsqrt (Norm.var (xo A r)) * (gy A r k - xh A r k * Ideal.div (∑ j, gy A r j * xh A r j) (Ideal.ofBits .f32 0x45000000#32)) = dx A r k := by
  have e := Norm.norm_back (xo A r) (gy A r) 0 (xo_real h r) (gy_real h r) k
  rw [zero_add, add_zero] at e
  exact e.symm

theorem lr_real (r : Fin 8192) : ∃ v : ℝ, lr A r = v := by
  obtain ⟨v, e⟩ := real_sum _ fun k => real_mul (er_real h r k) (er_real h r k)
  exact ⟨v / 2048, by unfold lr; rw [e, Norm.width_bits, Norm.div_coe _ _ (by norm_num)]⟩

omit h in
/-- Half a sum of reals. -/
theorem half_sum {ι : Type} [Fintype ι] (f : ι → EReal) (hf : ∀ i, ∃ v : ℝ, f i = v) :
    Ideal.ofBits .f32 0x3F000000#32 * ∑ i, f i = ∑ i, Ideal.ofBits .f32 0x3F000000#32 * f i := by
  choose g hg using hf
  rw [funext hg, half_bits, Norm.coe_sum, ← EReal.coe_mul, Finset.mul_sum, ← Norm.coe_sum]
  rfl

end Cert.Merge

namespace Cert.Reference6Ideal.Mg

open Cert.Merge Cert.Reference6Ideal.Value Cert.Reference6Ideal.Gen

variable (V0 : Valuation τ sig (Elt Ideal))

/-- The reference's arrays. -/
def argsR : Args where
  ys := V0 (Proc.devRef .tc main_arg0)
  pj := V0 (Proc.devRef .tc main_arg1)
  ln := V0 (Proc.devRef .tc main_arg2)
  x := V0 (Proc.devRef .tc main_arg3)
  tg := V0 (Proc.devRef .tc main_arg4)
  gw := V0 (Proc.devRef .tc main_arg5)
  ow := V0 (Proc.devRef .tc main_arg6)
  dk := V0 (Proc.devRef .tc main_arg7)
  gb := V0 (Proc.devRef .tc main_arg8)
  ps := V0 (Proc.devRef .tc main_arg9)
  gt := V0 (Proc.devRef .tc main_arg10)
  fg := V0 (Proc.devRef .tc main_arg11)

theorem v3_at (r : Fin 8192) (q : Fin 1024) : (res_main_v3 V0 : FVec Ideal S8192x1024 .f32) (ix2 r q) = yp (argsR V0) r q := by
  unfold res_main_v3 yp argsR
  pointwise

theorem v19_at (r : Fin 8192) (n : Fin 2048) : (res_main_v19 V0 : FVec Ideal S8192x2048 .f32) (ix2 r n) = y12 (argsR V0) r n := by
  unfold res_main_v19 y12
  pointwise [v3_at]
  rfl

theorem v34_at (r : Fin 8192) (n : Fin 2048) : (res_main_v34 V0 : FVec Ideal S8192x2048 .f32) (ix2 r n) = br (argsR V0) r n := by
  unfold res_main_v34 res_main_v32 br bp zz
  pointwise [v19_at]
  rfl

theorem v35_at (r : Fin 8192) (k : Fin 2048) : (res_main_v35 V0 : FVec Ideal S8192x2048 .f32) (ix2 r k) = mx (argsR V0) r k := by
  unfold res_main_v35 mx
  pointwise [v34_at]
  rfl

theorem v38_at (r : Fin 8192) (k : Fin 2048) : (res_main_v38 V0 : FVec Ideal S8192x2048 .f32) (ix2 r k) = xo (argsR V0) r k := by
  unfold res_main_v38 xo
  pointwise [v35_at]
  rfl

theorem v45_at (r : Fin 8192) (u : Fin 1) : (res_main_v45 V0 : FVec Ideal S8192x1 .f32) (ix2 r u) = Norm.var (xo (argsR V0) r) := by
  unfold res_main_v45 Norm.var
  pointwise [v38_at]

theorem v46_at (r : Fin 8192) (u : Fin 1) : (res_main_v46 V0 : FVec Ideal S8192x1 .f32) (ix2 r u) = Ideal.rsqrt (Norm.var (xo (argsR V0) r)) := by
  unfold res_main_v46
  pointwise [v45_at]

theorem v51_at (r : Fin 8192) (k : Fin 2048) : (res_main_v51 V0 : FVec Ideal S8192x2048 .f32) (ix2 r k) = xh (argsR V0) r k := by
  unfold res_main_v51 xh
  pointwise [v38_at, v46_at]

theorem v54_at (r : Fin 8192) (k : Fin 2048) : (res_main_v54 V0 : FVec Ideal S8192x2048 .f32) (ix2 r k) = er (argsR V0) r k := by
  unfold res_main_v54 er
  pointwise [v51_at]
  rfl

theorem v72_at (r : Fin 8192) (k : Fin 2048) : (res_main_v72 V0 : FVec Ideal S8192x2048 .f32) (ix2 r k) = wt := by
  unfold res_main_v72
  pointwise
  exact congrArg (Ideal.div · _) (Fin.sum_univ_one _)

theorem v75_at (r : Fin 8192) (k : Fin 2048) : (res_main_v75 V0 : FVec Ideal S8192x2048 .f32) (ix2 r k) = ey (argsR V0) r k := by
  unfold res_main_v75 ey
  pointwise [v54_at, v72_at]

theorem v80_at (r : Fin 8192) (k : Fin 2048) : (res_main_v80 V0 : FVec Ideal S8192x2048 .f32) (ix2 r k) = gy (argsR V0) r k := by
  unfold res_main_v80 gy
  pointwise [v75_at]
  rfl

theorem v90_at (r : Fin 8192) (k : Fin 2048) : (res_main_v90 V0 : FVec Ideal S8192x2048 .f32) (ix2 r k) = Norm.back (xo (argsR V0) r) (gy (argsR V0) r) := by
  unfold res_main_v90 Norm.back
  pointwise [v38_at, v80_at, v46_at, v45_at]
  exact Fin.sum_univ_one (M := EReal) _

/-- The loss. -/
theorem loss_at (u w : Fin 1) : mulf (broadcastInDim S1x1 ![] bcast_S_S1x1 (constant S_ .f32 0x3F000000#32)) (shapeCast _ (broadcastInDim S1 ![] bcast_S_S1 (Host.reduceAdd (Host.divf (Host.reduceAdd (mulf (res_main_v54 V0) (res_main_v54 V0)) (constant S_ .f32 0x00000000#32) reducesTo_S8192x2048_S8192_d1 h_S_) (broadcastInDim S8192 ![] bcast_S_S8192 (constant S_ .f32 0x45000000#32))) (constant S_ .f32 0x00000000#32) reducesTo_S8192_S_d0 h_S_)) shapeCasts_S1_S1x1) (ix2 u w)
    = Ideal.ofBits .f32 0x3F000000#32 * ∑ r, lr (argsR V0) r := by
  unfold lr
  pointwise [v54_at]

/-- The residual stream's cotangent. -/
theorem dx_at (r : Fin 8192) (k : Fin 2048) : addf (addf (mulf (res_main_v80 V0) (broadcastInDim S8192x2048 ![0, 1] bcast_S8192x1_S8192x2048_0_1 (res_main_v46 V0))) (mulf (res_main_v38 V0) (res_main_v90 V0))) (mulf (res_main_v90 V0) (res_main_v38 V0)) (ix2 r k)
    = dx (argsR V0) r k := by
  unfold dx
  pointwise [v80_at, v46_at, v38_at, v90_at]

/-- The final norm's gain's gradient. -/
theorem dfg_at (u : Fin 1) (k : Fin 2048) : shapeCast _ (Host.reduceAdd (mulf (res_main_v51 V0) (res_main_v75 V0)) (constant S_ .f32 0x00000000#32) reducesTo_S8192x2048_S2048_d0 h_S_) shapeCasts_S2048_S1x2048 (ix2 u k)
    = ∑ r, xh (argsR V0) r k * ey (argsR V0) r k := by
  pointwise [v51_at, v75_at]

/-- The gate's gradient. -/
theorem dgate_at (u : Fin 1) (k : Fin 2048) : (shapeCast _ (Host.reduceAdd (mulf (addf (addf (mulf (res_main_v80 V0 : FVec Ideal S8192x2048 .f32) (broadcastInDim S8192x2048 ![0, 1] bcast_S8192x1_S8192x2048_0_1 (res_main_v46 V0))) (mulf (res_main_v38 V0 : FVec Ideal S8192x2048 .f32) (res_main_v90 V0))) (mulf (res_main_v90 V0 : FVec Ideal S8192x2048 .f32) (res_main_v38 V0))) (res_main_v35 V0)) (constant S_ .f32 0x00000000#32) reducesTo_S8192x2048_S2048_d0 h_S_) shapeCasts_S2048_S1x2048 : FVec Ideal S1x2048 .f32) (ix2 u k)
    = ∑ r, dx (argsR V0) r k * mx (argsR V0) r k := by
  unfold dx
  pointwise [v80_at, v46_at, v38_at, v90_at, v35_at]

end Cert.Reference6Ideal.Mg
-- ==== Proof.MergeValue.lean ====
/-
The forward merge, the loss and the gradients it hands back: the launch against the mathematics of `MergeRef`.
-/
module

public import proofs.«01_k».proof.Proof.Gen.Kernel6Ideal.Value
public import proofs.«01_k».proof.Proof.Gen.Reference6Ideal.Run
public import proofs.«01_k».proof.Proof.Gen.Pre_settled
public import proofs.«01_k».proof.Proof.MergeRef
public import Idealize.ShloMosaic.Lib.WritesUnit
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)
open Idealize.ShloMosaic.Tactic

namespace Cert.Kernel6Ideal.Mg

open Cert.Kernel6Ideal Cert.Kernel6Ideal.Gen Cert.Merge

variable (m : (ℓ : Loc nD τ sig) → Buf (Elt Ideal) ℓ)

/-- The windows' block indices: the point's rows, or those of the point before. -/
theorem idx : ∀ t : Fin cfg0.N, win0_0.index t = ![min t.val 31, 0] ∧ win0_1.index t = ![min t.val 31, 1] ∧ win0_2.index t = ![min t.val 31, 1]
    ∧ win0_3.index t = ![min t.val 31, 0] ∧ win0_4.index t = ![t.val - 1, 0] ∧ win0_5.index t = ![t.val - 1, 0] ∧ win0_6.index t = ![0, 0, 0]
    ∧ win0_7.index t = ![0, 0] ∧ win0_8.index t = ![0, 0] ∧ win0_9.index t = ![0, 0] ∧ win0_10.index t = ![0, 0] ∧ win0_11.index t = ![0, 0]
    ∧ win0_12.index t = ![0, 0] ∧ win0_13.index t = ![min t.val 31, 0] ∧ win0_14.index t = ![min t.val 31, 0] ∧ win0_15.index t = ![min t.val 31, 0]
    ∧ win0_16.index t = ![t.val - 1, 0] ∧ win0_17.index t = ![0, 0] ∧ win0_18.index t = ![0, 0] ∧ win0_19.index t = ![0, 0] :=
  (by decide +kernel : ∀ t : Fin grid0.N, _)

theorem N_lt : ∀ t : Fin cfg0.N, t.val < 33 := (by decide +kernel : ∀ t : Fin grid0.N, _)

/-- The first point's rows of the residual stream are written again by the second. -/
theorem flush16 : ∀ t : Fin cfg0.N, win0_16.flush t = true → ¬ t.val % 33 = 0 := (by decide +kernel : ∀ t : Fin grid0.N, _)

/-- Every point but the first adds to the sums. -/
theorem live : ∀ t : Fin cfg0.N, ¬ t.val % 33 = 0 → Scalar.cmpi CmpIPredicate.sgt (BitVec.ofNat 32 (grid0.coords t 0).val) 0#32 = 1#1 :=
  (by decide +kernel : ∀ t : Fin grid0.N, _)

theorem dead : ∀ t : Fin cfg0.N, t.val % 33 = 0 → Scalar.cmpi CmpIPredicate.sgt (BitVec.ofNat 32 (grid0.coords t 0).val) 0#32 = 0#1 :=
  (by decide +kernel : ∀ t : Fin grid0.N, _)

/-- The launch's arrays. -/
def Ar (c : Dev nD) : Args where
  ys := m ((c : Thread nD τ).loc main_arg0)
  pj := m ((c : Thread nD τ).loc main_arg1)
  ln := m ((c : Thread nD τ).loc main_arg2)
  x := m ((c : Thread nD τ).loc main_arg3)
  tg := m ((c : Thread nD τ).loc main_arg4)
  gw := m ((c : Thread nD τ).loc main_arg5)
  ow := m ((c : Thread nD τ).loc main_arg6)
  dk := m ((c : Thread nD τ).loc main_arg7)
  gb := m ((c : Thread nD τ).loc main_arg8)
  ps := m ((c : Thread nD τ).loc main_arg9)
  gt := m ((c : Thread nD τ).loc main_arg10)
  fg := m ((c : Thread nD τ).loc main_arg11)

/-- What the host hands the launch: the two weights. -/
theorem entry_gw (c : Dev nD) (s : Fin 8) (q : Fin 1024) (j : Fin 256) : V m c main_v2 (ix3 s q j) = (Ar m c).gw (ix2 q ⟨s * 256 + j, by omega⟩) := by
  entry_read
  unfold Ar
  pointwise

theorem entry_ow (c : Dev nD) (x : S2048x2048.Idx) : V m c main_v3 x = (Ar m c).ow x := by
  entry_read
  unfold Ar
  pointwise

/-- The row of the arrays that row `p` of point `t`'s block is, for the branches and for the residual stream. -/
def row (t : Fin cfg0.N) (p : Fin 256) : Fin 8192 := ⟨min t.val 31 * 256 + p, by omega⟩
def prw (t : Fin cfg0.N) (p : Fin 256) : Fin 8192 := ⟨(t.val - 1) * 256 + p, by have := N_lt t; omega⟩

theorem ys_at (c : Dev nD) (t : Fin cfg0.N) (p : Fin 256) (q : Fin 1024) : iblk m c 0 t (ix2 p q) = (Ar m c).ys (ix2 (row t p) q) := by
  unfold Ar
  blk_ext [iblk, V, idx t, row]

theorem uu_at (c : Dev nD) (t : Fin cfg0.N) (p : Fin 256) (q : Fin 1024) : iblk m c 1 t (ix2 p q) = (Ar m c).pj (ix2 (row t p) ⟨1024 + q, by omega⟩) := by
  unfold Ar
  blk_ext [iblk, V, idx t, row]

theorem zz_at (c : Dev nD) (t : Fin cfg0.N) (p : Fin 256) (n : Fin 2048) : iblk m c 2 t (ix2 p n) = zz (Ar m c) (row t p) n := by
  unfold Ar zz
  blk_ext [iblk, V, idx t, row]

theorem ln_at (c : Dev nD) (t : Fin cfg0.N) (p : Fin 256) (q : Fin 1024) : iblk m c 3 t (ix2 p q) = (Ar m c).ln (ix2 (row t p) q) := by
  unfold Ar
  blk_ext [iblk, V, idx t, row]

theorem x_at (c : Dev nD) (t : Fin cfg0.N) (p : Fin 256) (k : Fin 2048) : iblk m c 4 t (ix2 p k) = (Ar m c).x (ix2 (prw t p) k) := by
  unfold Ar
  blk_ext [iblk, V, idx t, prw]

theorem tg_at (c : Dev nD) (t : Fin cfg0.N) (p : Fin 256) (k : Fin 2048) : iblk m c 5 t (ix2 p k) = (Ar m c).tg (ix2 (prw t p) k) := by
  unfold Ar
  blk_ext [iblk, V, idx t, prw]

theorem gw_at (c : Dev nD) (t : Fin cfg0.N) (s : Fin 8) (q : Fin 1024) (j : Fin 256) : iblk m c 6 t (ix3 s q j) = (Ar m c).gw (ix2 q ⟨s * 256 + j, by omega⟩) := by
  refine Eq.trans ?_ (entry_gw m c s q j)
  blk_ext [iblk, V, idx t]

theorem ow_at (c : Dev nD) (t : Fin cfg0.N) (n k : Fin 2048) : iblk m c 7 t (ix2 n k) = (Ar m c).ow (ix2 n k) := by
  refine Eq.trans ?_ (entry_ow m c (ix2 n k))
  blk_ext [iblk, V, idx t]

theorem dk_eq (c : Dev nD) (t : Fin cfg0.N) : iblk m c 8 t = (Ar m c).dk := by unfold Ar; blk_ext! [iblk, V, idx t]
theorem gb_eq (c : Dev nD) (t : Fin cfg0.N) : iblk m c 9 t = (Ar m c).gb := by unfold Ar; blk_ext! [iblk, V, idx t]
theorem ps_eq (c : Dev nD) (t : Fin cfg0.N) : iblk m c 10 t = (Ar m c).ps := by unfold Ar; blk_ext! [iblk, V, idx t]
theorem gt_eq (c : Dev nD) (t : Fin cfg0.N) : iblk m c 11 t = (Ar m c).gt := by unfold Ar; blk_ext! [iblk, V, idx t]
theorem fg_eq (c : Dev nD) (t : Fin cfg0.N) : iblk m c 12 t = (Ar m c).fg := by unfold Ar; blk_ext! [iblk, V, idx t]

theorem eta {n k : ℕ} (y : (⟨2, ![n, k]⟩ : Shape).Idx) : y = ix2 (y 0) (y 1) := by
  funext a
  match a with
  | ⟨0, _⟩ => rfl
  | ⟨1, _⟩ => rfl

/-! The branches of a point's rows. -/

theorem yp_at (c : Dev nD) (t : Fin cfg0.N) (p : Fin 256) (q : Fin 1024) :
    k0_pay17 (F := Ideal) (iblk m c 0 t) (iblk m c 8 t) (iblk m c 1 t) (ix2 p q) = yp (Ar m c) (row t p) q := by
  have e := ys_at m c t p q
  have e1 := uu_at m c t p q
  rw [dk_eq]
  unfold yp
  rw [← e, ← e1]
  generalize iblk m c 0 t = D at *
  generalize iblk m c 1 t = E at *
  pointwise [k0_pay17]

/-- The activation, as the kernel multiplies it out. -/
theorem gel_eq (v : EReal) : Ideal.ofBits .f32 0x3F000000#32 * v * (1 + Ideal.tanh (Ideal.ofBits .f32 0x3F4C422A#32 * (v + Ideal.ofBits .f32 0x3D372713#32 * v * v * v))) = gel v := by
  rw [mul_comm _ v]
  simp only [gel, mul_assoc]

theorem yg_at (c : Dev nD) (t : Fin cfg0.N) (p : Fin 256) (q : Fin 1024) :
    k0_pay18 (F := Ideal) (iblk m c 0 t) (iblk m c 8 t) (iblk m c 1 t) (ix2 p q) = gel (yp (Ar m c) (row t p) q) := by
  rw [← yp_at, ← gel_eq]
  unfold k0_pay18
  generalize k0_pay17 (F := Ideal) (iblk m c 0 t) (iblk m c 8 t) (iblk m c 1 t) = D
  pointwise

theorem til_at (D : FVec Ideal S256x1024 .bf16) (W : Vec Ideal S1x1024x256 .bf16) (b : Vec Ideal S1x256 .f32) (p j : Fin 256) :
    k0_pay22 (F := Ideal) D W b (ix2 p j) = ∑ q : Fin 1024, D (ix2 p q) * W (ix3 (0 : Fin 1) q j) + b (ix2 (0 : Fin 1) j) := by
  pointwise [k0_pay22]

/-- One tile of the gate product. -/
theorem tile_at (c : Dev nD) (t : Fin cfg0.N) (s o : ℕ) (hs : s < 8) (ho : o = s * 256) (i1 i2) (p j : Fin 256) :
    k0_pay22 (F := Ideal) (k0_pay18 (iblk m c 0 t) (iblk m c 8 t) (iblk m c 1 t)) (View.ld (iblk m c 6 t) (Rect.unit (s := S8x1024x256) ![s, 0, 0] ![1, 1024, 256] i1))
      (View.ld (iblk m c 9 t) (Rect.unit (s := S1x2048) ![0, o] ![1, 256] i2)) (ix2 p j) = y12 (Ar m c) (row t p) ⟨o + j, by omega⟩ := by
  rw [til_at]
  subst ho
  have e := fun q => gw_at m c t ⟨s, hs⟩ q j
  rw [gb_eq]
  unfold y12
  simp only [yg_at, ← e]
  generalize iblk m c 6 t = W
  pointwise

theorem tile_of (c : Dev nD) (t : Fin cfg0.N) (s o : ℕ) (hs : s < 8) (ho : o = s * 256) (i1 i2) (x : S256x256.Idx) (y : S256x2048.Idx) (h0 : (y 0).val = (x 0).val) (h1 : (y 1).val = o + (x 1).val) :
    k0_pay22 (F := Ideal) (k0_pay18 (iblk m c 0 t) (iblk m c 8 t) (iblk m c 1 t)) (View.ld (iblk m c 6 t) (Rect.unit (s := S8x1024x256) ![s, 0, 0] ![1, 1024, 256] i1))
      (View.ld (iblk m c 9 t) (Rect.unit (s := S1x2048) ![0, o] ![1, 256] i2)) x = y12 (Ar m c) (row t (y 0)) (y 1) := by
  rw [eta x]
  exact (tile_at m c t s o hs ho i1 i2 (x 0) (x 1)).trans (congrArg₂ (fun p n => y12 (Ar m c) (row t p) n) (Fin.ext h0.symm) (Fin.ext h1.symm))

theorem pay21_at (a b : FVec Ideal S256x256 .f32) (j : S256x256.Idx) : k0_pay21 (F := Ideal) a b j = a j * sg (b j) := by
  pointwise [k0_pay21, tanh_sg]

theorem pay24_at (D : FVec Ideal S256x1024 .bf16) (W : Vec Ideal S1x1024x256 .bf16) (b : Vec Ideal S1x256 .f32) (j : S256x256.Idx) :
    k0_pay24 (F := Ideal) D W b j = sg (k0_pay22 (F := Ideal) D W b j) := by
  unfold k0_pay24
  rw [show k0_pay23 (F := Ideal) D W b = k0_pay22 D W b from rfl]
  generalize k0_pay22 (F := Ideal) D W b = E
  pointwise [tanh_sg]

theorem pay25_at (a b : FVec Ideal S256x256 .f32) (j : S256x256.Idx) : k0_pay25 (F := Ideal) a b j = a j * b j := by
  pointwise [k0_pay25]

theorem pay28_at (D : FVec Ideal S256x1024 .bf16) (W : Vec Ideal S1x1024x256 .bf16) (b : Vec Ideal S1x256 .f32) (W' : Vec Ideal S1x1024x256 .bf16) (b' : Vec Ideal S1x256 .f32) (j : S256x256.Idx) :
    k0_pay28 (F := Ideal) D W b W' b' j = k0_pay22 (F := Ideal) D W b j * sg (k0_pay22 (F := Ideal) D W' b' j) := by
  unfold k0_pay28
  rw [show k0_pay27 (F := Ideal) D W' b' = k0_pay22 D W' b' from rfl, show k0_pay26 (F := Ideal) D W b = k0_pay22 D W b from rfl]
  generalize k0_pay22 (F := Ideal) D W b = E
  generalize k0_pay22 (F := Ideal) D W' b' = E'
  pointwise [tanh_sg]

theorem pay31_at (D : FVec Ideal S256x1024 .bf16) (a b e f : FVec Ideal S256x256 .f32) (W : Vec Ideal S1x1024x256 .bf16) (g : Vec Ideal S1x256 .f32) (l : Vec Ideal S256x1024 .f32)
    (w : Vec Ideal S1x1024 .f32) (z : Vec Ideal S256x2048 .f32) (p : Fin 256) (n : Fin 2048) :
    k0_pay31 (F := Ideal) D a b e f W g l w z (ix2 p n)
      = (if h : (n : ℕ) < 1024 then l (ix2 p ⟨n, h⟩) * w (ix2 (0 : Fin 1) ⟨n, h⟩)
          else if h : (n : ℕ) - 1024 < 256 then a (ix2 p ⟨(n : ℕ) - 1024, h⟩)
          else if h : (n : ℕ) - 1024 - 256 < 256 then b (ix2 p ⟨(n : ℕ) - 1024 - 256, h⟩)
          else if h : (n : ℕ) - 1024 - 256 - 256 < 256 then e (ix2 p ⟨(n : ℕ) - 1024 - 256 - 256, h⟩)
          else f (ix2 p ⟨(n : ℕ) - 1024 - 256 - 256 - 256, by have := n.isLt; omega⟩) * sg (k0_pay22 (F := Ideal) D W g (ix2 p ⟨(n : ℕ) - 1024 - 256 - 256 - 256, by have := n.isLt; omega⟩)))
        * (z (ix2 p n) * sg (z (ix2 p n))) := by
  unfold k0_pay31
  rw [show k0_pay30 (F := Ideal) D W g = k0_pay22 D W g from rfl]
  generalize k0_pay22 (F := Ideal) D W g = E
  pointwise [tanh_sg]

/-- The gated branches of a block, from the tiles of the gate product. -/
theorem br_of (c : Dev nD) (t : Fin cfg0.N) (l : Vec Ideal S256x1024 .f32) (w : Vec Ideal S1x1024 .f32) (z : Vec Ideal S256x2048 .f32) (a b e f f' : FVec Ideal S256x256 .f32) (p : Fin 256) (n : Fin 2048)
    (hl : ∀ q : Fin 1024, l (ix2 p q) = (Ar m c).ln (ix2 (row t p) q)) (hw : w = (Ar m c).ps) (hz : z (ix2 p n) = zz (Ar m c) (row t p) n)
    (ha : ∀ j : Fin 256, a (ix2 p j) = y12 (Ar m c) (row t p) ⟨j, by omega⟩ * sg (y12 (Ar m c) (row t p) ⟨1024 + j, by omega⟩))
    (hb : ∀ j : Fin 256, b (ix2 p j) = y12 (Ar m c) (row t p) ⟨256 + j, by omega⟩ * sg (y12 (Ar m c) (row t p) ⟨1280 + j, by omega⟩))
    (he : ∀ j : Fin 256, e (ix2 p j) = y12 (Ar m c) (row t p) ⟨512 + j, by omega⟩ * sg (y12 (Ar m c) (row t p) ⟨1536 + j, by omega⟩))
    (hf : ∀ j : Fin 256, f (ix2 p j) = y12 (Ar m c) (row t p) ⟨768 + j, by omega⟩)
    (hg : ∀ j : Fin 256, f' (ix2 p j) = y12 (Ar m c) (row t p) ⟨1792 + j, by omega⟩) :
    (if h : (n : ℕ) < 1024 then l (ix2 p ⟨n, h⟩) * w (ix2 (0 : Fin 1) ⟨n, h⟩)
          else if h : (n : ℕ) - 1024 < 256 then a (ix2 p ⟨(n : ℕ) - 1024, h⟩)
          else if h : (n : ℕ) - 1024 - 256 < 256 then b (ix2 p ⟨(n : ℕ) - 1024 - 256, h⟩)
          else if h : (n : ℕ) - 1024 - 256 - 256 < 256 then e (ix2 p ⟨(n : ℕ) - 1024 - 256 - 256, h⟩)
          else f (ix2 p ⟨(n : ℕ) - 1024 - 256 - 256 - 256, by have := n.isLt; omega⟩) * sg (f' (ix2 p ⟨(n : ℕ) - 1024 - 256 - 256 - 256, by have := n.isLt; omega⟩)))
        * (z (ix2 p n) * sg (z (ix2 p n))) = br (Ar m c) (row t p) n := by
  rw [hz, hw]
  unfold br bp
  refine congrArg (· * _) ?_
  have hn := n.isLt
  split
  · rw [hl]
  · split
    · rw [ha]
    · split
      · rw [hb]; congr 2 <;> first | (congr 1; exact Fin.ext (by dsimp only; omega)) | exact Fin.ext (by dsimp only; omega)
      · split
        · rw [he]; congr 2 <;> first | (congr 1; exact Fin.ext (by dsimp only; omega)) | exact Fin.ext (by dsimp only; omega)
        · rw [hf, hg]; congr 2 <;> first | (congr 1; exact Fin.ext (by dsimp only; omega)) | exact Fin.ext (by dsimp only; omega)

theorem mul_at (B : FVec Ideal S256x2048 .bf16) (W : FVec Ideal S2048x2048 .bf16) (p : Fin 256) (k : Fin 2048) :
    k0_pay1 (F := Ideal) B (k0_pay32 W) (ix2 p k) = ∑ n : Fin 2048, B (ix2 p n) * W (ix2 n k) := by
  pointwise [k0_pay1, k0_pay32]

/-! The residual stream of the point before. -/

section
variable (c : Dev nD) (t : Fin cfg0.N) (M : Vec Ideal S256x2048 .f32) (hM : ∀ p k, M (ix2 p k) = mx (Ar m c) (prw t p) k)
include hM

theorem xo_at (p : Fin 256) (k : Fin 2048) : k0_pay6 (F := Ideal) M (iblk m c 4 t) (iblk m c 11 t) (ix2 p k) = xo (Ar m c) (prw t p) k := by
  have e := x_at m c t p k
  rw [gt_eq]
  unfold xo
  rw [← e, ← hM]
  generalize iblk m c 4 t = D at *
  pointwise [k0_pay6]

theorem rs_at (p : Fin 256) (u : Fin 1) : k0_pay7 (F := Ideal) M (iblk m c 4 t) (iblk m c 11 t) (ix2 p u) = Ideal.rsqrt (Norm.var (xo (Ar m c) (prw t p))) := by
  have e := xo_at m c t M hM p
  unfold k0_pay7 Norm.var
  simp only [← e]
  generalize k0_pay6 (F := Ideal) M (iblk m c 4 t) (iblk m c 11 t) = D
  pointwise

theorem xh_at (p : Fin 256) (k : Fin 2048) : k0_pay8 (F := Ideal) M (iblk m c 4 t) (iblk m c 11 t) (ix2 p k) = xh (Ar m c) (prw t p) k := by
  have e := xo_at m c t M hM p k
  have e2 := rs_at m c t M hM p 0
  unfold k0_pay8 xh
  rw [← e2]
  refine Eq.trans ?_ (congrArg (· * _) e)
  generalize k0_pay6 (F := Ideal) M (iblk m c 4 t) (iblk m c 11 t) = D
  generalize k0_pay7 (F := Ideal) M (iblk m c 4 t) (iblk m c 11 t) = E
  pointwise

theorem er_at (p : Fin 256) (k : Fin 2048) : k0_pay9 (F := Ideal) M (iblk m c 4 t) (iblk m c 11 t) (iblk m c 12 t) (iblk m c 5 t) (ix2 p k) = er (Ar m c) (prw t p) k := by
  have e := xh_at m c t M hM p k
  have e2 := tg_at m c t p k
  rw [fg_eq]
  unfold k0_pay9 er
  rw [← e, ← e2]
  generalize k0_pay8 (F := Ideal) M (iblk m c 4 t) (iblk m c 11 t) = D
  generalize iblk m c 5 t = E
  pointwise

theorem ls_at (j : S1x1.Idx) : k0_pay11 (F := Ideal) M (iblk m c 4 t) (iblk m c 11 t) (iblk m c 12 t) (iblk m c 5 t) j
    = Ideal.ofBits .f32 0x3F000000#32 * ∑ p, lr (Ar m c) (prw t p) := by
  have e := er_at m c t M hM
  unfold k0_pay11 lr
  simp only [← e]
  generalize k0_pay9 (F := Ideal) M (iblk m c 4 t) (iblk m c 11 t) (iblk m c 12 t) (iblk m c 5 t) = D
  pointwise

end

theorem add_l (a b : FVec Ideal S1x1 .f32) (j : S1x1.Idx) : k0_pay12 (F := Ideal) 1#1 (k0_pay10 a) b j = a j + b j := by
  pointwise [k0_pay12, k0_pay10]
theorem add_l0 (a b : FVec Ideal S1x1 .f32) (j : S1x1.Idx) : k0_pay12 (F := Ideal) 0#1 (k0_pay10 a) b j = a j + 0 := by
  pointwise [k0_pay12, k0_pay10]

theorem add_g (X E : FVec Ideal S256x2048 .f32) (a : FVec Ideal S1x2048 .f32) (j : S1x2048.Idx) :
    k0_pay14 (F := Ideal) 1#1 X E a j = a j + ∑ p : Fin 256, E (ix2 p (j 1)) * Ideal.ofBits .f32 0x3A000000#32 * X (ix2 p (j 1)) := by
  pointwise [k0_pay14, k0_pay13]
theorem add_g0 (X E : FVec Ideal S256x2048 .f32) (a : FVec Ideal S1x2048 .f32) (j : S1x2048.Idx) : k0_pay14 (F := Ideal) 0#1 X E a j = a j + 0 := by
  pointwise [k0_pay14, k0_pay13]

theorem add_t (M X E : FVec Ideal S256x2048 .f32) (R : FVec Ideal S256x1 .f32) (g a : FVec Ideal S1x2048 .f32) (j : S1x2048.Idx) :
    k0_pay16 (F := Ideal) 1#1 M R X g E a j = a j + ∑ p : Fin 256, k0_pay15 (F := Ideal) R X g E (ix2 p (j 1)) * M (ix2 p (j 1)) := by
  unfold k0_pay16
  generalize k0_pay15 (F := Ideal) R X g E = D
  pointwise
theorem add_t0 (M X E : FVec Ideal S256x2048 .f32) (R : FVec Ideal S256x1 .f32) (g a : FVec Ideal S1x2048 .f32) (j : S1x2048.Idx) :
    k0_pay16 (F := Ideal) 0#1 M R X g E a j = a j + 0 := by
  unfold k0_pay16
  generalize k0_pay15 (F := Ideal) R X g E = D
  pointwise

theorem pay15_at (X E : FVec Ideal S256x2048 .f32) (R : FVec Ideal S256x1 .f32) (g : FVec Ideal S1x2048 .f32) (p : Fin 256) (k : Fin 2048) :
    k0_pay15 (F := Ideal) R X g E (ix2 p k) = R (ix2 p (0 : Fin 1)) * (E (ix2 p k) * Ideal.ofBits .f32 0x3A000000#32 * g (ix2 (0 : Fin 1) k)
      - X (ix2 p k) * Ideal.div (∑ j : Fin 2048, E (ix2 p j) * Ideal.ofBits .f32 0x3A000000#32 * g (ix2 (0 : Fin 1) j) * X (ix2 p j)) (Ideal.ofBits .f32 0x45000000#32)) := by
  pointwise [k0_pay15, k0_pay13]

theorem zero_l (j : S1x1.Idx) : k0_pay2 (F := Ideal) j = 0 := by pointwise [k0_pay2]
theorem zero_g (j : S1x2048.Idx) : k0_pay3 (F := Ideal) j = 0 := by pointwise [k0_pay3]
theorem zero_t (j : S1x2048.Idx) : k0_pay4 (F := Ideal) j = 0 := by pointwise [k0_pay4]

section
variable (c : Dev nD) (t : Fin cfg0.N) (M : Vec Ideal S256x2048 .f32) (hM : ∀ p k, M (ix2 p k) = mx (Ar m c) (prw t p) k) (hA : (Ar m c).Real)
include hM hA

/-- The residual stream's cotangent on the point's rows. -/
theorem dx_at (p : Fin 256) (k : Fin 2048) :
    k0_pay15 (F := Ideal) (k0_pay7 M (iblk m c 4 t) (iblk m c 11 t)) (k0_pay8 M (iblk m c 4 t) (iblk m c 11 t)) (iblk m c 12 t)
      (k0_pay9 M (iblk m c 4 t) (iblk m c 11 t) (iblk m c 12 t) (iblk m c 5 t)) (ix2 p k) = dx (Ar m c) (prw t p) k := by
  rw [pay15_at, rs_at m c t M hM, xh_at m c t M hM, er_at m c t M hM, ey_eq hA, fg_eq, ← dx_eq hA]
  refine congrArg (_ * ·) (congrArg (_ - ·) (congrArg (_ * ·) (congrArg (Ideal.div · _) (Finset.sum_congr rfl fun j _ => ?_))))
  rw [← fg_eq m c t, xh_at m c t M hM, er_at m c t M hM, ey_eq hA, fg_eq]
  rfl

theorem step_g (a : FVec Ideal S1x2048 .f32) (j : S1x2048.Idx) :
    k0_pay14 (F := Ideal) 1#1 (k0_pay8 M (iblk m c 4 t) (iblk m c 11 t)) (k0_pay9 M (iblk m c 4 t) (iblk m c 11 t) (iblk m c 12 t) (iblk m c 5 t)) a j
      = a j + ∑ p : Fin 256, xh (Ar m c) (prw t p) (j 1) * ey (Ar m c) (prw t p) (j 1) := by
  rw [add_g]
  refine congrArg (a j + ·) (Finset.sum_congr rfl fun p _ => ?_)
  refine (congrArg₂ (fun x y => x * _ * y) (er_at m c t M hM p (j 1)) (xh_at m c t M hM p (j 1))).trans ?_
  exact (congrArg (· * _) (ey_eq hA _ _)).trans (mul_comm _ _)

theorem step_t (a : FVec Ideal S1x2048 .f32) (j : S1x2048.Idx) :
    k0_pay16 (F := Ideal) 1#1 M (k0_pay7 M (iblk m c 4 t) (iblk m c 11 t)) (k0_pay8 M (iblk m c 4 t) (iblk m c 11 t)) (iblk m c 12 t)
      (k0_pay9 M (iblk m c 4 t) (iblk m c 11 t) (iblk m c 12 t) (iblk m c 5 t)) a j
      = a j + ∑ p : Fin 256, dx (Ar m c) (prw t p) (j 1) * mx (Ar m c) (prw t p) (j 1) := by
  rw [add_t]
  exact congrArg (a j + ·) (Finset.sum_congr rfl fun p _ => congrArg₂ (· * ·) (dx_at m c t M hM hA p (j 1)) (hM p (j 1)))

end

/-! A point's blocks. -/

/-- The activation of a point's rows, and the gate weight's and bias's shards. -/
abbrev Yg (c : Dev nD) (t : Fin cfg0.N) : FVec Ideal S256x1024 .bf16 := k0_pay18 (iblk m c 0 t) (iblk m c 8 t) (iblk m c 1 t)
abbrev Ws (c : Dev nD) (t : Fin cfg0.N) (s : ℕ) (i : ∀ a, (![s, 0, 0] : Fin 3 → ℕ) a + S1x1024x256.size a ≤ S8x1024x256.size a) : Vec Ideal S1x1024x256 .bf16 := View.ld (iblk m c 6 t) (Rect.unit (s := S8x1024x256) ![s, 0, 0] ![1, 1024, 256] i)
abbrev Bs (c : Dev nD) (t : Fin cfg0.N) (o : ℕ) (i : ∀ a, (![0, o] : Fin 2 → ℕ) a + S1x256.size a ≤ S1x2048.size a) : Vec Ideal S1x256 .f32 := View.ld (iblk m c 9 t) (Rect.unit (s := S1x2048) ![0, o] ![1, 256] i)

/-- The gated branches' block. -/
abbrev Br (c : Dev nD) (t : Fin cfg0.N) : FVec Ideal S256x2048 .bf16 :=
  k0_pay31 (Yg m c t)
    (k0_pay21 (k0_pay19 (iblk m c 0 t) (iblk m c 8 t) (iblk m c 1 t) (Ws m c t 0 inb_S8x1024x256_S1x1024x256_0_0_0) (Bs m c t 0 inb_S1x2048_S1x256_0_0))
      (k0_pay20 (iblk m c 0 t) (iblk m c 8 t) (iblk m c 1 t) (Ws m c t 4 inb_S8x1024x256_S1x1024x256_4_0_0) (Bs m c t 1024 inb_S1x2048_S1x256_0_1024)))
    (k0_pay25 (k0_pay22 (Yg m c t) (Ws m c t 1 inb_S8x1024x256_S1x1024x256_1_0_0) (Bs m c t 256 inb_S1x2048_S1x256_0_256))
      (k0_pay24 (Yg m c t) (Ws m c t 5 inb_S8x1024x256_S1x1024x256_5_0_0) (Bs m c t 1280 inb_S1x2048_S1x256_0_1280)))
    (k0_pay28 (Yg m c t) (Ws m c t 2 inb_S8x1024x256_S1x1024x256_2_0_0) (Bs m c t 512 inb_S1x2048_S1x256_0_512)
      (Ws m c t 6 inb_S8x1024x256_S1x1024x256_6_0_0) (Bs m c t 1536 inb_S1x2048_S1x256_0_1536))
    (k0_pay29 (Yg m c t) (Ws m c t 3 inb_S8x1024x256_S1x1024x256_3_0_0) (Bs m c t 768 inb_S1x2048_S1x256_0_768))
    (Ws m c t 7 inb_S8x1024x256_S1x1024x256_7_0_0) (Bs m c t 1792 inb_S1x2048_S1x256_0_1792) (iblk m c 3 t) (iblk m c 10 t) (iblk m c 2 t)

theorem br_at (c : Dev nD) (t : Fin cfg0.N) (p : Fin 256) (n : Fin 2048) : Br m c t (ix2 p n) = br (Ar m c) (row t p) n := by
  have z : ∀ j : Fin 256, y12 (Ar m c) (row t p) ⟨0 + j, by omega⟩ = y12 (Ar m c) (row t p) ⟨j, by omega⟩ := fun j => congrArg _ (Fin.ext (Nat.zero_add _))
  refine (pay31_at ..).trans (br_of m c t _ _ _ _ _ _ _ _ p n (ln_at m c t p) (ps_eq m c t) (zz_at m c t p n) (fun j => ?_) (fun j => ?_) (fun j => ?_) (fun j => ?_) (fun j => ?_))
  · rw [pay21_at]
    exact congrArg₂ (fun u v => u * sg v) ((tile_at m c t 0 0 (by decide) rfl _ _ p j).trans (z j)) (tile_at m c t 4 1024 (by decide) rfl _ _ p j)
  · rw [pay25_at, pay24_at]
    exact congrArg₂ (fun u v => u * sg v) (tile_at m c t 1 256 (by decide) rfl _ _ p j) (tile_at m c t 5 1280 (by decide) rfl _ _ p j)
  · rw [pay28_at]
    exact congrArg₂ (fun u v => u * sg v) (tile_at m c t 2 512 (by decide) rfl _ _ p j) (tile_at m c t 6 1536 (by decide) rfl _ _ p j)
  · exact tile_at m c t 3 768 (by decide) rfl _ _ p j
  · exact tile_at m c t 7 1792 (by decide) rfl _ _ p j

theorem mx_at (c : Dev nD) (t : Fin cfg0.N) (p : Fin 256) (k : Fin 2048) : k0_pay1 (F := Ideal) (Br m c t) (k0_pay32 (iblk m c 7 t)) (ix2 p k) = mx (Ar m c) (row t p) k := by
  have e := fun n => ow_at m c t n k
  rw [mul_at]
  unfold mx
  simp only [br_at, ← e]

/-- What a point leaves in the scratch for the next. -/
theorem held (c : Dev nD) (n : ℕ) (hn : n < cfg0.N) (p : Fin 256) (k : Fin 2048) :
    (outsAt0 m c n hn).2.2.2.2.2.2.2 (ix2 p k) = mx (Ar m c) (row ⟨n, hn⟩ p) k := by
  by_cases h : n % 33 = 0
  · rw [outsAt0_A m c ⟨n, hn⟩ h]; frame_out
    exact mx_at m c ⟨n, hn⟩ p k
  · rw [outsAt0_B m c ⟨n, hn⟩ h]; frame_out
    exact mx_at m c ⟨n, hn⟩ p k

theorem prev (c : Dev nD) (t : Fin cfg0.N) (h : ¬ t.val % 33 = 0) (hn) (p : Fin 256) (k : Fin 2048) :
    View.read (Elt Ideal) (View.whole cc0_scratch0) ((Memref.isWhole_whole cc0_scratch0).unread (outsAt0 m c (t.val - 1) hn).2.2.2.2.2.2.2) (ix2 p k) = mx (Ar m c) (prw t p) k := by
  refine (congrFun (Memref.IsWhole.read_unread (m := scM0_0) _ _) (ix2 p k)).trans ((held m c _ hn p k).trans ?_)
  exact congrArg (fun r => mx (Ar m c) r k) (Fin.ext (by have := N_lt t; show min (t.val - 1) 31 * 256 + p.val = (t.val - 1) * 256 + p.val; rw [Nat.min_eq_left (by omega)]))

/-- The first point adds nothing, the others the rows behind them. -/
theorem rows (g : Fin 33 → EReal) (f : Fin 8192 → EReal) (h0 : g 0 = 0) (hs : ∀ s : Fin 32, g s.succ = ∑ p : Fin 256, f ⟨s.val * 256 + p.val, by omega⟩) : ∑ s, g s = ∑ r, f r := by
  rw [Fin.sum_univ_succ, h0, zero_add, Finset.sum_congr rfl fun s _ => hs s]
  exact Fin.sum_mul_add_congr fun s p hl => congrArg f (Fin.ext rfl)

theorem acc_l (c : Dev nD) (hA : (Ar m c).Real) (t : Fin cfg0.N) (ht : t.val % 33 = 32) (y : S1x1.Idx) : (outsAt0 m c t.val t.isLt).2.2.2.2.1 y
    = Ideal.ofBits .f32 0x3F000000#32 * ∑ r, lr (Ar m c) r := by
  rw [Pipeline.eq_sum_fin_of_reset_step_apply_of_flush (fun n h => (outsAt0 m c n h).2.2.2.2.1) 33 (fun _ => 0)
    (fun t y => if t.val % 33 = 0 then 0 else Ideal.ofBits .f32 0x3F000000#32 * ∑ p : Fin 256, lr (Ar m c) (prw t p))
    (fun t h j => by
      rw [outsAt0_A m c t h]; frame_out
      rw [dead t h, add_l0, zero_l]
      exact congrArg (0 + ·) (if_pos h).symm)
    (fun t h j => by
      rw [outsAt0_B m c t h]; frame_out
      rw [live t h, add_l, ls_at m c t _ (prev m c t h _)]
      exact congrArg (_ + ·) (if_neg h).symm)
    t ht _, zero_add, half_sum _ (lr_real hA)]
  have e : t.val / 33 = 0 := by have := N_lt t; omega
  refine rows _ _ (if_pos ?_) fun s => (if_neg ?_).trans ?_
  · show (33 * (t.val / 33) + 0) % 33 = 0; omega
  · show ¬ (33 * (t.val / 33) + (s.val + 1)) % 33 = 0; omega
  · rw [half_sum _ fun p => lr_real hA _]
    exact Finset.sum_congr rfl fun p _ => congrArg (fun r => _ * lr (Ar m c) r) (Fin.ext (by
      show (33 * (t.val / 33) + (s.val + 1) - 1) * 256 + p.val = s.val * 256 + p.val; rw [e]; omega))

theorem acc_g (c : Dev nD) (hA : (Ar m c).Real) (t : Fin cfg0.N) (ht : t.val % 33 = 32) (y : S1x2048.Idx) : (outsAt0 m c t.val t.isLt).2.2.2.2.2.1 y
    = ∑ r, xh (Ar m c) r (y 1) * ey (Ar m c) r (y 1) := by
  rw [Pipeline.eq_sum_fin_of_reset_step_apply_of_flush (fun n h => (outsAt0 m c n h).2.2.2.2.2.1) 33 (fun _ => 0)
    (fun t y => if t.val % 33 = 0 then 0 else ∑ p : Fin 256, xh (Ar m c) (prw t p) (y 1) * ey (Ar m c) (prw t p) (y 1))
    (fun t h j => by
      rw [outsAt0_A m c t h]; frame_out
      rw [dead t h, add_g0, zero_g]
      exact congrArg (0 + ·) (if_pos h).symm)
    (fun t h j => by
      rw [outsAt0_B m c t h]; frame_out
      rw [live t h, step_g m c t _ (prev m c t h _) hA]
      exact congrArg (_ + ·) (if_neg h).symm)
    t ht _, zero_add]
  have e : t.val / 33 = 0 := by have := N_lt t; omega
  refine rows _ _ (if_pos ?_) fun s => (if_neg ?_).trans ?_
  · show (33 * (t.val / 33) + 0) % 33 = 0; omega
  · show ¬ (33 * (t.val / 33) + (s.val + 1)) % 33 = 0; omega
  · exact Finset.sum_congr rfl fun p _ => congrArg (fun r => xh (Ar m c) r (y 1) * ey (Ar m c) r (y 1)) (Fin.ext (by
      show (33 * (t.val / 33) + (s.val + 1) - 1) * 256 + p.val = s.val * 256 + p.val; rw [e]; omega))

theorem acc_t (c : Dev nD) (hA : (Ar m c).Real) (t : Fin cfg0.N) (ht : t.val % 33 = 32) (y : S1x2048.Idx) : (outsAt0 m c t.val t.isLt).2.2.2.2.2.2.1 y
    = ∑ r, dx (Ar m c) r (y 1) * mx (Ar m c) r (y 1) := by
  rw [Pipeline.eq_sum_fin_of_reset_step_apply_of_flush (fun n h => (outsAt0 m c n h).2.2.2.2.2.2.1) 33 (fun _ => 0)
    (fun t y => if t.val % 33 = 0 then 0 else ∑ p : Fin 256, dx (Ar m c) (prw t p) (y 1) * mx (Ar m c) (prw t p) (y 1))
    (fun t h j => by
      rw [outsAt0_A m c t h]; frame_out
      rw [dead t h, add_t0, zero_t]
      exact congrArg (0 + ·) (if_pos h).symm)
    (fun t h j => by
      rw [outsAt0_B m c t h]; frame_out
      rw [live t h, step_t m c t _ (prev m c t h _) hA]
      exact congrArg (_ + ·) (if_neg h).symm)
    t ht _, zero_add]
  have e : t.val / 33 = 0 := by have := N_lt t; omega
  refine rows _ _ (if_pos ?_) fun s => (if_neg ?_).trans ?_
  · show (33 * (t.val / 33) + 0) % 33 = 0; omega
  · show ¬ (33 * (t.val / 33) + (s.val + 1)) % 33 = 0; omega
  · exact Finset.sum_congr rfl fun p _ => congrArg (fun r => dx (Ar m c) r (y 1) * mx (Ar m c) r (y 1)) (Fin.ext (by
      show (33 * (t.val / 33) + (s.val + 1) - 1) * 256 + p.val = s.val * 256 + p.val; rw [e]; omega))

/-! The arrays the launch leaves. -/

/-- The scan's output with the skip product. -/
theorem final13 (c : Dev nD) (W : FVec Ideal S8192x1024 .f32) (hW : ∀ (r : Fin 8192) (k : Fin 1024), W (ix2 r k) = yp (Ar m c) r k) : (dats m 0 c).arrAt 13 cfg0.N = W := by
  refine (dats m 0 c).arrAt_eq_of_covers 13 _ (by decide +kernel) fun t hf y => ?_
  blk_simp
  rw [after0_13]
  have he : ((cfg0.win 13).blk t).view.emb y = (ix2 (row t (y 0)) (y 1) : S8192x1024.Idx) := by
    funext a
    match a with
    | ⟨0, _⟩ => exact Fin.ext (by blk_simp; rw [(idx t).2.2.2.2.2.2.2.2.2.2.2.2.2.1]; rfl)
    | ⟨1, _⟩ => exact Fin.ext (by blk_simp; rw [(idx t).2.2.2.2.2.2.2.2.2.2.2.2.2.1]; show 0 * _ + (y 1).val = (y 1).val; omega)
  refine Eq.trans ?_ ((congrArg W he).trans (hW (row t (y 0)) (y 1))).symm
  rw [eta y]
  by_cases h : t.val % 33 = 0
  · rw [outsAt0_A m c t h]; frame_out
    exact yp_at m c t (y 0) (y 1)
  · rw [outsAt0_B m c t h]; frame_out
    exact yp_at m c t (y 0) (y 1)

/-- The gate product's halves. -/
theorem final14 (c : Dev nD) (W : FVec Ideal S8192x2048 .f32) (hW : ∀ (r : Fin 8192) (k : Fin 2048), W (ix2 r k) = y12 (Ar m c) r k) : (dats m 0 c).arrAt 14 cfg0.N = W := by
  refine (dats m 0 c).arrAt_eq_of_covers 14 _ (by decide +kernel) fun t hf y => ?_
  blk_simp
  rw [after0_14]
  have he : ((cfg0.win 14).blk t).view.emb y = (ix2 (row t (y 0)) (y 1) : S8192x2048.Idx) := by
    funext a
    match a with
    | ⟨0, _⟩ => exact Fin.ext (by blk_simp; rw [(idx t).2.2.2.2.2.2.2.2.2.2.2.2.2.2.1]; rfl)
    | ⟨1, _⟩ => exact Fin.ext (by blk_simp; rw [(idx t).2.2.2.2.2.2.2.2.2.2.2.2.2.2.1]; show 0 * _ + (y 1).val = (y 1).val; omega)
  refine Eq.trans ?_ ((congrArg W he).trans (hW (row t (y 0)) (y 1))).symm
  by_cases h : t.val % 33 = 0
  · rw [outsAt0_A m c t h]; frame_out
    canon_tiles x hx using View.cover_of_tiledBy _ ![256, 256] (by sl_kernel_rfl) _
    all_goals exact tile_of m c t _ _ (by decide) rfl _ _ x y hx0 (by omega)
  · rw [outsAt0_B m c t h]; frame_out
    canon_tiles x hx using View.cover_of_tiledBy _ ![256, 256] (by sl_kernel_rfl) _
    all_goals exact tile_of m c t _ _ (by decide) rfl _ _ x y hx0 (by omega)

/-- The gated branches. -/
theorem final15 (c : Dev nD) (W : FVec Ideal S8192x2048 .bf16) (hW : ∀ (r : Fin 8192) (k : Fin 2048), W (ix2 r k) = br (Ar m c) r k) : (dats m 0 c).arrAt 15 cfg0.N = W := by
  refine (dats m 0 c).arrAt_eq_of_covers 15 _ (by decide +kernel) fun t hf y => ?_
  blk_simp
  rw [after0_15]
  have he : ((cfg0.win 15).blk t).view.emb y = (ix2 (row t (y 0)) (y 1) : S8192x2048.Idx) := by
    funext a
    match a with
    | ⟨0, _⟩ => exact Fin.ext (by blk_simp; rw [(idx t).2.2.2.2.2.2.2.2.2.2.2.2.2.2.2.1]; rfl)
    | ⟨1, _⟩ => exact Fin.ext (by blk_simp; rw [(idx t).2.2.2.2.2.2.2.2.2.2.2.2.2.2.2.1]; show 0 * _ + (y 1).val = (y 1).val; omega)
  refine Eq.trans ?_ ((congrArg W he).trans (hW (row t (y 0)) (y 1))).symm
  rw [eta y]
  by_cases h : t.val % 33 = 0
  · rw [outsAt0_A m c t h]; frame_out
    exact br_at m c t (y 0) (y 1)
  · rw [outsAt0_B m c t h]; frame_out
    exact br_at m c t (y 0) (y 1)

/-- The residual stream's cotangent. -/
theorem final16 (c : Dev nD) (hA : (Ar m c).Real) (W : FVec Ideal S8192x2048 .f32) (hW : ∀ (r : Fin 8192) (k : Fin 2048), W (ix2 r k) = dx (Ar m c) r k) : (dats m 0 c).arrAt 16 cfg0.N = W := by
  refine (dats m 0 c).arrAt_eq_of_covers 16 _ (by decide +kernel) fun t hf y => ?_
  blk_simp
  rw [after0_16]
  have he : ((cfg0.win 16).blk t).view.emb y = (ix2 (prw t (y 0)) (y 1) : S8192x2048.Idx) := by
    funext a
    match a with
    | ⟨0, _⟩ => exact Fin.ext (by blk_simp; rw [(idx t).2.2.2.2.2.2.2.2.2.2.2.2.2.2.2.2.1]; rfl)
    | ⟨1, _⟩ => exact Fin.ext (by blk_simp; rw [(idx t).2.2.2.2.2.2.2.2.2.2.2.2.2.2.2.2.1]; show 0 * _ + (y 1).val = (y 1).val; omega)
  refine Eq.trans ?_ ((congrArg W he).trans (hW (prw t (y 0)) (y 1))).symm
  have h := flush16 t hf
  rw [outsAt0_B m c t h, eta y]; frame_out
  exact dx_at m c t _ (prev m c t h _) hA (y 0) (y 1)

/-- The loss. -/
theorem final17 (c : Dev nD) (hA : (Ar m c).Real) (W : FVec Ideal S1x1 .f32) (hW : ∀ (u : Fin 1) (k : Fin 1), W (ix2 u k) = Ideal.ofBits .f32 0x3F000000#32 * ∑ r, lr (Ar m c) r) : (dats m 0 c).arrAt 17 cfg0.N = W := by
  refine (dats m 0 c).arrAt_eq_of_covers 17 _ (by decide +kernel) fun t hf y => ?_
  blk_simp
  rw [after0_17]
  have he : ((cfg0.win 17).blk t).view.emb y = (ix2 0 (y 1) : S1x1.Idx) := by
    funext a
    match a with
    | ⟨0, _⟩ => exact Subsingleton.elim (α := Fin 1) _ _
    | ⟨1, _⟩ => exact Subsingleton.elim (α := Fin 1) _ _
  refine Eq.trans ?_ ((congrArg W he).trans (hW 0 (y 1))).symm
  exact acc_l m c hA t ((flush0_17 t).mp hf) y

/-- The final norm's gain's gradient. -/
theorem final18 (c : Dev nD) (hA : (Ar m c).Real) (W : FVec Ideal S1x2048 .f32) (hW : ∀ (u : Fin 1) (k : Fin 2048), W (ix2 u k) = ∑ r, xh (Ar m c) r k * ey (Ar m c) r k) : (dats m 0 c).arrAt 18 cfg0.N = W := by
  refine (dats m 0 c).arrAt_eq_of_covers 18 _ (by decide +kernel) fun t hf y => ?_
  blk_simp
  rw [after0_18]
  have he : ((cfg0.win 18).blk t).view.emb y = (ix2 0 (y 1) : S1x2048.Idx) := by
    funext a
    match a with
    | ⟨0, _⟩ => exact Subsingleton.elim (α := Fin 1) _ _
    | ⟨1, _⟩ => exact Fin.ext (by blk_simp; rw [(idx t).2.2.2.2.2.2.2.2.2.2.2.2.2.2.2.2.2.2.1]; show 0 * _ + (y 1).val = (y 1).val; omega)
  refine Eq.trans ?_ ((congrArg W he).trans (hW 0 (y 1))).symm
  exact acc_g m c hA t ((flush0_18 t).mp hf) y

/-- The gate's gradient. -/
theorem final19 (c : Dev nD) (hA : (Ar m c).Real) (W : FVec Ideal S1x2048 .f32) (hW : ∀ (u : Fin 1) (k : Fin 2048), W (ix2 u k) = ∑ r, dx (Ar m c) r k * mx (Ar m c) r k) : (dats m 0 c).arrAt 19 cfg0.N = W := by
  refine (dats m 0 c).arrAt_eq_of_covers 19 _ (by decide +kernel) fun t hf y => ?_
  blk_simp
  rw [after0_19]
  have he : ((cfg0.win 19).blk t).view.emb y = (ix2 0 (y 1) : S1x2048.Idx) := by
    funext a
    match a with
    | ⟨0, _⟩ => exact Subsingleton.elim (α := Fin 1) _ _
    | ⟨1, _⟩ => exact Fin.ext (by blk_simp; rw [(idx t).2.2.2.2.2.2.2.2.2.2.2.2.2.2.2.2.2.2.2]; show 0 * _ + (y 1).val = (y 1).val; omega)
  refine Eq.trans ?_ ((congrArg W he).trans (hW 0 (y 1))).symm
  exact acc_t m c hA t ((flush0_19 t).mp hf) y

end Cert.Kernel6Ideal.Mg

namespace Cert.Proof

open Idealize.ShloMosaic Cert.Kernel6Ideal Cert.Kernel6Ideal.Mg Cert.Finite Cert.Merge Cert.Reference6Ideal.Mg

variable (m : (ℓ : Loc nD τ sig) → Buf (Elt Ideal) ℓ)

/-- The precondition, read: the twelve arrays are real. -/
theorem real_settled (h : Cert.Pre_Kernel6Ideal_settled m) (c : Dev nD) : (Ar m c).Real := by
  have e := congrFun (h c) (fun a => a.elim0)
  obtain ⟨e, fg⟩ := IntOp.andi_eq_one.mp e
  obtain ⟨e, gt⟩ := IntOp.andi_eq_one.mp e
  obtain ⟨e, ps⟩ := IntOp.andi_eq_one.mp e
  obtain ⟨e, gb⟩ := IntOp.andi_eq_one.mp e
  obtain ⟨e, dk⟩ := IntOp.andi_eq_one.mp e
  obtain ⟨e, ow⟩ := IntOp.andi_eq_one.mp e
  obtain ⟨e, gw⟩ := IntOp.andi_eq_one.mp e
  obtain ⟨e, tg⟩ := IntOp.andi_eq_one.mp e
  obtain ⟨e, x⟩ := IntOp.andi_eq_one.mp e
  obtain ⟨e, ln⟩ := IntOp.andi_eq_one.mp e
  obtain ⟨ys, pj⟩ := IntOp.andi_eq_one.mp e
  exact ⟨real_of_all _ _ _ _ _ ys, real_of_all _ _ _ _ _ pj, real_of_all _ _ _ _ _ ln, real_of_all _ _ _ _ _ x, real_of_all _ _ _ _ _ tg, real_of_all _ _ _ _ _ gw, real_of_all _ _ _ _ _ ow, real_of_all _ _ _ _ _ dk, real_of_all _ _ _ _ _ gb, real_of_all _ _ _ _ _ ps, real_of_all _ _ _ _ _ gt, real_of_all _ _ _ _ _ fg⟩

/-- The reference keeps its arguments, and it declares no semaphore. -/
theorem frame_ref_mg : Cert.quiescent_Reference6Ideal := fun m ρ _ =>
  (θ_run Cert.Reference6Ideal.defs _ _).mono
    (fun r h => ⟨fun c => (h c).2.2.2.2.2.2.2, sem_eq_zero_of_no_sems (by decide) r.2⟩)
    (Cert.Reference6Ideal.Value.run (F := Ideal) m ρ)

theorem algebraic_mg : Cert.algebraic_Kernel6Ideal_Reference6Ideal_pre_settled := by
  intro m ρ m' ρ' hpre hagree
  refine ⟨_, _, _, _, _, _, _, Cert.Kernel6Ideal.Value.run_blocks m ρ, ?_⟩
  have hrun := Cert.Reference6Ideal.Value.run (F := Ideal) m' ρ'
  have hA : ∀ c, argsR (StableHlo.launchContents m' c) = Ar m c := fun c => by
    obtain ⟨a0, a1, a2, a3, a4, a5, a6, a7, a8, a9, a10, a11⟩ := hagree c
    refine Eq.trans (b := Args.mk (m' ((c.tc : Thread Cert.Reference6Ideal.nD Cert.Reference6Ideal.τ).loc Cert.Reference6Ideal.main_arg0)) (m' ((c.tc : Thread Cert.Reference6Ideal.nD Cert.Reference6Ideal.τ).loc Cert.Reference6Ideal.main_arg1)) (m' ((c.tc : Thread Cert.Reference6Ideal.nD Cert.Reference6Ideal.τ).loc Cert.Reference6Ideal.main_arg2)) (m' ((c.tc : Thread Cert.Reference6Ideal.nD Cert.Reference6Ideal.τ).loc Cert.Reference6Ideal.main_arg3)) (m' ((c.tc : Thread Cert.Reference6Ideal.nD Cert.Reference6Ideal.τ).loc Cert.Reference6Ideal.main_arg4)) (m' ((c.tc : Thread Cert.Reference6Ideal.nD Cert.Reference6Ideal.τ).loc Cert.Reference6Ideal.main_arg5)) (m' ((c.tc : Thread Cert.Reference6Ideal.nD Cert.Reference6Ideal.τ).loc Cert.Reference6Ideal.main_arg6)) (m' ((c.tc : Thread Cert.Reference6Ideal.nD Cert.Reference6Ideal.τ).loc Cert.Reference6Ideal.main_arg7)) (m' ((c.tc : Thread Cert.Reference6Ideal.nD Cert.Reference6Ideal.τ).loc Cert.Reference6Ideal.main_arg8)) (m' ((c.tc : Thread Cert.Reference6Ideal.nD Cert.Reference6Ideal.τ).loc Cert.Reference6Ideal.main_arg9)) (m' ((c.tc : Thread Cert.Reference6Ideal.nD Cert.Reference6Ideal.τ).loc Cert.Reference6Ideal.main_arg10)) (m' ((c.tc : Thread Cert.Reference6Ideal.nD Cert.Reference6Ideal.τ).loc Cert.Reference6Ideal.main_arg11))) rfl ?_
    rw [a0, a1, a2, a3, a4, a5, a6, a7, a8, a9, a10, a11]
    rfl
  have hr := real_settled m hpre
  exact (θ_run _ _ _).mono (fun _ h c => ⟨(h c).1.trans (final13 m c _ fun r k => (v3_at _ r k).trans (by rw [hA])).symm,
    (h c).2.1.trans (final14 m c _ fun r k => (v19_at _ r k).trans (by rw [hA])).symm,
    (h c).2.2.1.trans (final15 m c _ fun r k => (v34_at _ r k).trans (by rw [hA])).symm,
    (h c).2.2.2.1.trans (final16 m c (hr c) _ fun r k => (Cert.Reference6Ideal.Mg.dx_at _ r k).trans (by rw [hA])).symm,
    (h c).2.2.2.2.1.trans (final17 m c (hr c) _ fun u k => (loss_at _ u k).trans (by rw [hA])).symm,
    (h c).2.2.2.2.2.1.trans (final18 m c (hr c) _ fun u k => (dfg_at _ u k).trans (by rw [hA])).symm,
    (h c).2.2.2.2.2.2.1.trans (final19 m c (hr c) _ fun u k => (dgate_at _ u k).trans (by rw [hA])).symm,
    (h c).2.2.2.2.2.2.2⟩) hrun

end Cert.Proof
-- ==== Proof.Hidden.lean ====
/- The normed and modulated row in front of the projection. -/
module

public import proofs.«01_k».proof.Proof.Norm
public import Idealize.ShloMosaic.Lib.Pipeline.ValueKit

@[expose] public section

noncomputable section

namespace Cert.Hidden

open Idealize.ShloMosaic

/-- Row `p`, column `k` of the normed rows with their gain, scale and shift. -/
def hid {n : Nat} (x : FVec Ideal ⟨2, ![n, 2048]⟩ .f32) (g sc sh : FVec Ideal ⟨2, ![1, 2048]⟩ .f32) (p : Fin n) (k : Fin 2048) : EReal :=
  x (ix2 p k) * Ideal.rsqrt (Cert.Norm.var fun q : Fin 2048 => x (ix2 p q)) * g (ix2 (0 : Fin 1) k) * (1 + sc (ix2 (0 : Fin 1) k)) + sh (ix2 (0 : Fin 1) k)

/-- An index of two axes is the pair of its parts. -/
theorem eta {n k : ℕ} (y : (⟨2, ![n, k]⟩ : Shape).Idx) : y = ix2 (y 0) (y 1) := by
  funext a
  match a with
  | ⟨0, _⟩ => rfl
  | ⟨1, _⟩ => rfl

/-- In a single row the first part is nought. -/
theorem eta_row {k : ℕ} (y : (⟨2, ![1, k]⟩ : Shape).Idx) : ix2 (0 : Fin 1) (y 1) = y :=
  Eq.trans (congrArg (fun u : Fin 1 => ix2 u (y 1)) (Subsingleton.elim _ _)) (eta y).symm

end Cert.Hidden
-- ==== Proof.InpValue.lean ====
/- The latents' norm, modulation and projection. -/
module

public import proofs.«01_k».proof.Proof.Gen.Kernel14Ideal.Value
public import proofs.«01_k».proof.Proof.Gen.Reference14Ideal.Run
public import proofs.«01_k».proof.Proof.Hidden
public import proofs.«01_k».proof.Defs

@[expose] public section

set_option maxRecDepth 16384

noncomputable section

open Idealize.ShloMosaic Idealize.ShloMosaic.TcCoe Idealize.SL.Sem
open Idealize.ShloMosaic.Pipeline (Dat)

namespace Cert.Kernel14Ideal.Inp

open Cert.Kernel14Ideal Cert.Kernel14Ideal.Gen Cert.Hidden

variable (m : (ℓ : Loc nD τ sig) → Buf (Elt Ideal) ℓ) (c : Dev nD)

theorem idx : ∀ t : Fin cfg0.N, win0_0.index t = ![t.val, 0] ∧ win0_1.index t = ![0, 0] ∧ win0_2.index t = ![0, 0]
    ∧ win0_3.index t = ![0, 0] ∧ win0_4.index t = ![0, 0, 0] ∧ win0_5.index t = ![t.val, 0] ∧ win0_6.index t = ![t.val, 0] :=
  (by decide +kernel : ∀ t : Fin grid0.N, _)

theorem N_lt : ∀ t : Fin cfg0.N, t.val < 32 := (by decide +kernel : ∀ t : Fin grid0.N, _)

/-- The latents, the projection's weight, the norm's gain, the scale and the shift. -/
abbrev Xa : FVec Ideal S8192x2048 .f32 := m ((c : Thread nD τ).loc main_arg0)
abbrev Wa : FVec Ideal S2048x4096 .f32 := m ((c : Thread nD τ).loc main_arg1)
abbrev Ga : FVec Ideal S1x2048 .f32 := m ((c : Thread nD τ).loc main_arg2)
abbrev Sa : FVec Ideal S1x2048 .f32 := m ((c : Thread nD τ).loc main_arg3)
abbrev Ha : FVec Ideal S1x2048 .f32 := m ((c : Thread nD τ).loc main_arg4)

/-- Row `p` of point `t`'s block. -/
def row (t : Fin cfg0.N) (p : Fin 256) : Fin 8192 := ⟨t.val * 256 + p, by have := N_lt t; omega⟩

theorem entry_w (s : Fin 8) (q : Fin 2048) (j : Fin 512) : V m c main_v2 (ix3 s q j) = Wa m c (ix2 q ⟨s * 512 + j, by omega⟩) := by
  entry_read
  pointwise

theorem x_at (t : Fin cfg0.N) (p : Fin 256) (k : Fin 2048) : iblk m c 0 t (ix2 p k) = Xa m c (ix2 (row t p) k) := by
  blk_ext [iblk, V, idx t, row]

theorem w_at (t : Fin cfg0.N) (s : Fin 8) (q : Fin 2048) (j : Fin 512) : iblk m c 4 t (ix3 s q j) = Wa m c (ix2 q ⟨s * 512 + j, by omega⟩) := by
  refine Eq.trans ?_ (entry_w m c s q j)
  blk_ext [iblk, V, idx t]

theorem g_eq (t : Fin cfg0.N) : iblk m c 1 t = Ga m c := by blk_ext! [iblk, V, idx t]
theorem s_eq (t : Fin cfg0.N) : iblk m c 2 t = Sa m c := by blk_ext! [iblk, V, idx t]
theorem h_eq (t : Fin cfg0.N) : iblk m c 3 t = Ha m c := by blk_ext! [iblk, V, idx t]

/-- A block's normed and modulated rows. -/
theorem hid_of (x : Vec Ideal S256x2048 .f32) (g s h : Vec Ideal S1x2048 .f32) (p : Fin 256) (k : Fin 2048) :
    k0_pay2 (F := Ideal) x g s h (ix2 p k) = hid (n := 256) x g s h p k := by
  unfold hid Cert.Norm.var
  pointwise [k0_pay2]

theorem hid_at (t : Fin cfg0.N) (p : Fin 256) (k : Fin 2048) :
    k0_pay2 (F := Ideal) (iblk m c 0 t) (iblk m c 1 t) (iblk m c 2 t) (iblk m c 3 t) (ix2 p k) = hid (n := 8192) (Xa m c) (Ga m c) (Sa m c) (Ha m c) (row t p) k := by
  rw [hid_of, g_eq, s_eq, h_eq]
  unfold hid
  rw [x_at]
  have e : (fun q : Fin 2048 => iblk m c 0 t (ix2 p q)) = fun q => Xa m c (ix2 (row t p) q) := funext fun q => x_at m c t p q
  rw [e]

theorem mul_at (D : FVec Ideal S256x2048 .bf16) (W : Vec Ideal S1x2048x512 .bf16) (p : Fin 256) (j : Fin 512) :
    k0_pay1 (F := Ideal) D W (ix2 p j) = ∑ q : Fin 2048, D (ix2 p q) * W (ix3 (0 : Fin 1) q j) := by
  pointwise [k0_pay1]

theorem rows10 (t : Fin cfg0.N) : k0_pay10 (F := Ideal) (iblk m c 0 t) (iblk m c 1 t) (iblk m c 2 t) (iblk m c 3 t) (iblk m c 4 t)
    = k0_pay2 (iblk m c 0 t) (iblk m c 1 t) (iblk m c 2 t) (iblk m c 3 t) := by
  unfold k0_pay10
  congr 1 <;> (funext j; pointwise) <;> exact congrArg _ (eta_row j)

/-- One device's columns of the projected rows. -/
theorem tile_of (t : Fin cfg0.N) (D : FVec Ideal S256x2048 .bf16) (hD : D = k0_pay2 (iblk m c 0 t) (iblk m c 1 t) (iblk m c 2 t) (iblk m c 3 t))
    (s o : ℕ) (hs : s < 8) (ho : o = s * 512) (i1) (x : S256x512.Idx) (y : S256x4096.Idx) (h0 : (y 0).val = (x 0).val) (h1 : (y 1).val = o + (x 1).val) :
    k0_pay1 (F := Ideal) D (View.ld (iblk m c 4 t) (Rect.unit (s := S8x2048x512) ![s, 0, 0] ![1, 2048, 512] i1)) x
      = ∑ q : Fin 2048, hid (n := 8192) (Xa m c) (Ga m c) (Sa m c) (Ha m c) (row t (y 0)) q * Wa m c (ix2 q (y 1)) := by
  rw [eta x]
  refine (mul_at _ _ (x 0) (x 1)).trans ?_
  have hy : y 1 = ⟨s * 512 + (x 1).val, by have h : (x 1).val < 512 := (x 1).isLt; omega⟩ := Fin.ext (by dsimp only; omega)
  have hp : y 0 = (x 0 : Fin 256) := Fin.ext h0
  have e := fun q => w_at m c t ⟨s, hs⟩ q (x 1)
  rw [hy, hp, hD]
  refine Finset.sum_congr rfl fun q _ => congrArg₂ (· * ·) (hid_at m c t (x 0) q) (Eq.trans ?_ (e q))
  generalize iblk m c 4 t = W
  pointwise

theorem final6 (W : FVec Ideal S8192x2048 .bf16) (hW : ∀ (r : Fin 8192) (k : Fin 2048), W (ix2 r k) = hid (n := 8192) (Xa m c) (Ga m c) (Sa m c) (Ha m c) r k) : (dats m 0 c).arrAt 6 cfg0.N = W := by
  refine (dats m 0 c).arrAt_eq_of_covers 6 _ (by decide +kernel) fun t hf y => ?_
  blk_simp
  rw [after0_6]
  have he : ((cfg0.win 6).blk t).view.emb y = (ix2 (row t (y 0)) (y 1) : S8192x2048.Idx) := by
    funext a
    match a with
    | ⟨0, _⟩ => exact Fin.ext (by blk_simp; rw [(idx t).2.2.2.2.2.2]; rfl)
    | ⟨1, _⟩ => exact Fin.ext (by blk_simp; rw [(idx t).2.2.2.2.2.2]; show 0 * _ + (y 1).val = (y 1).val; omega)
  refine Eq.trans ?_ ((congrArg W he).trans (hW (row t (y 0)) (y 1))).symm
  rw [eta y]
  frame_out
  exact hid_at m c t (y 0) (y 1)

theorem final5 (W : FVec Ideal S8192x4096 .f32) (hW : ∀ (r : Fin 8192) (n : Fin 4096), W (ix2 r n) = ∑ q : Fin 2048, hid (n := 8192) (Xa m c) (Ga m c) (Sa m c) (Ha m c) r q * Wa m c (ix2 q n)) :
    (dats m 0 c).arrAt 5 cfg0.N = W := by
  refine (dats m 0 c).arrAt_eq_of_covers 5 _ (by decide +kernel) fun t hf y => ?_
  blk_simp
  rw [after0_5]
  have he : ((cfg0.win 5).blk t).view.emb y = (ix2 (row t (y 0)) (y 1) : S8192x4096.Idx) := by
    funext a
    match a with
    | ⟨0, _⟩ => exact Fin.ext (by blk_simp; rw [(idx t).2.2.2.2.2.1]; rfl)
    | ⟨1, _⟩ => exact Fin.ext (by blk_simp; rw [(idx t).2.2.2.2.2.1]; show 0 * _ + (y 1).val = (y 1).val; omega)
  refine Eq.trans ?_ ((congrArg W he).trans (hW (row t (y 0)) (y 1))).symm
  frame_out
  canon_tiles x hx using View.cover_of_tiledBy _ ![256, 512] (by sl_kernel_rfl) _
  · exact tile_of m c t _ (rows10 m c t) 7 3584 (by decide) rfl _ x y hx0 hx1
  · exact tile_of m c t _ (rows10 m c t) 6 3072 (by decide) rfl _ x y hx0 hx1
  · exact tile_of m c t _ (rows10 m c t) 5 2560 (by decide) rfl _ x y hx0 hx1
  · exact tile_of m c t _ (rows10 m c t) 4 2048 (by decide) rfl _ x y hx0 hx1
  · exact tile_of m c t _ (rows10 m c t) 3 1536 (by decide) rfl _ x y hx0 hx1
  · exact tile_of m c t _ (rows10 m c t) 2 1024 (by decide) rfl _ x y hx0 hx1
  · exact tile_of m c t _ rfl 1 512 (by decide) rfl _ x y hx0 hx1
  · exact tile_of m c t _ rfl 0 0 (by decide) rfl _ x y hx0 (by omega)

end Cert.Kernel14Ideal.Inp

namespace Cert.Proof

open Cert.Kernel14Ideal.Inp

/-- The reference keeps its arguments, and it declares no semaphore. -/
theorem frame_ref_inp : Cert.quiescent_Reference14Ideal := fun m ρ _ =>
  (θ_run Cert.Reference14Ideal.defs _ _).mono
    (fun r h => ⟨fun c => (h c).2.2, sem_eq_zero_of_no_sems (by decide) r.2⟩)
    (Cert.Reference14Ideal.Value.run (F := Ideal) m ρ)

set_option maxHeartbeats 1600000 in
theorem algebraic_inp : Cert.algebraic_Kernel14Ideal_Reference14Ideal := by
  pair_intro
  · run_from Cert.Kernel14Ideal.Value.run_blocks m g
  · hlo_run
    all_goals clear hagree hpre g g'
    · refine (final5 m c _ fun r n => ?_).symm; unfold Cert.Hidden.hid Cert.Norm.var; pointwise
    · refine (final6 m c _ fun r n => ?_).symm; unfold Cert.Hidden.hid Cert.Norm.var; pointwise

end Cert.Proof
-- ==== Proof.IncValue.lean ====
/- The context rows' norm, modulation and projection. -/
module

public import proofs.«01_k».proof.Proof.Gen.Kernel15Ideal.Value
public import proofs.«01_k».proof.Proof.Gen.Reference15Ideal.Run
public import proofs.«01_k».proof.Proof.Hidden
public import proofs.«01_k».proof.Defs

@[expose] public section

set_option maxRecDepth 16384

noncomputable section

open Idealize.ShloMosaic Idealize.ShloMosaic.TcCoe Idealize.SL.Sem
open Idealize.ShloMosaic.Pipeline (Dat)

namespace Cert.Kernel15Ideal.Inc

open Cert.Kernel15Ideal Cert.Kernel15Ideal.Gen Cert.Hidden

variable (m : (ℓ : Loc nD τ sig) → Buf (Elt Ideal) ℓ) (c : Dev nD)

theorem idx : ∀ t : Fin cfg0.N, win0_0.index t = ![0, 0] ∧ win0_1.index t = ![0, 0] ∧ win0_2.index t = ![0, 0]
    ∧ win0_3.index t = ![0, 0] ∧ win0_4.index t = ![0, 0, 0] ∧ win0_5.index t = ![0, 0] ∧ win0_6.index t = ![0, 0] :=
  (by decide +kernel : ∀ t : Fin grid0.N, _)

/-- The context rows, the projection's weight, the norm's gain, the scale and the shift. -/
abbrev Xa : FVec Ideal S256x2048 .f32 := m ((c : Thread nD τ).loc main_arg0)
abbrev Wa : FVec Ideal S2048x4096 .f32 := m ((c : Thread nD τ).loc main_arg1)
abbrev Ga : FVec Ideal S1x2048 .f32 := m ((c : Thread nD τ).loc main_arg2)
abbrev Sa : FVec Ideal S1x2048 .f32 := m ((c : Thread nD τ).loc main_arg3)
abbrev Ha : FVec Ideal S1x2048 .f32 := m ((c : Thread nD τ).loc main_arg4)

/-- The projection's column behind column `n` of the context's part. -/
def col (n : Fin 1024) : Fin 4096 := ⟨1024 + n.val, by omega⟩

theorem entry_w (s : Fin 8) (q : Fin 2048) (j : Fin 512) : V m c main_v2 (ix3 s q j) = Wa m c (ix2 q ⟨s * 512 + j, by omega⟩) := by
  entry_read
  pointwise

theorem x_at (t : Fin cfg0.N) (p : Fin 256) (k : Fin 2048) : iblk m c 0 t (ix2 p k) = Xa m c (ix2 (p) k) := by
  blk_ext [iblk, V, idx t]

theorem w_at (t : Fin cfg0.N) (s : Fin 8) (q : Fin 2048) (j : Fin 512) : iblk m c 4 t (ix3 s q j) = Wa m c (ix2 q ⟨s * 512 + j, by omega⟩) := by
  refine Eq.trans ?_ (entry_w m c s q j)
  blk_ext [iblk, V, idx t]

theorem g_eq (t : Fin cfg0.N) : iblk m c 1 t = Ga m c := by blk_ext! [iblk, V, idx t]
theorem s_eq (t : Fin cfg0.N) : iblk m c 2 t = Sa m c := by blk_ext! [iblk, V, idx t]
theorem h_eq (t : Fin cfg0.N) : iblk m c 3 t = Ha m c := by blk_ext! [iblk, V, idx t]

/-- A block's normed and modulated rows. -/
theorem hid_of (x : Vec Ideal S256x2048 .f32) (g s h : Vec Ideal S1x2048 .f32) (p : Fin 256) (k : Fin 2048) :
    k0_pay1 (F := Ideal) x g s h (ix2 p k) = hid (n := 256) x g s h p k := by
  unfold hid Cert.Norm.var
  pointwise [k0_pay1]

theorem hid_at (t : Fin cfg0.N) (p : Fin 256) (k : Fin 2048) :
    k0_pay1 (F := Ideal) (iblk m c 0 t) (iblk m c 1 t) (iblk m c 2 t) (iblk m c 3 t) (ix2 p k) = hid (n := 256) (Xa m c) (Ga m c) (Sa m c) (Ha m c) (p) k := by
  rw [hid_of, g_eq, s_eq, h_eq]
  unfold hid
  rw [x_at]
  have e : (fun q : Fin 2048 => iblk m c 0 t (ix2 p q)) = fun q => Xa m c (ix2 (p) q) := funext fun q => x_at m c t p q
  rw [e]

theorem mul_at (x : Vec Ideal S256x2048 .f32) (g s h : Vec Ideal S1x2048 .f32) (W : Vec Ideal S1x2048x512 .bf16) (p : Fin 256) (j : Fin 512) :
    k0_pay2 (F := Ideal) x g s h W (ix2 p j) = ∑ q : Fin 2048, k0_pay1 (F := Ideal) x g s h (ix2 p q) * W (ix3 (0 : Fin 1) q j) := by
  unfold k0_pay2
  generalize k0_pay1 (F := Ideal) x g s h = D
  pointwise

/-- One device's columns of the projected rows. -/
theorem tile_of (t : Fin cfg0.N) (s o : ℕ) (hs : s < 8) (ho : 1024 + o = s * 512) (i1) (x : S256x512.Idx) (y : S256x1024.Idx) (h0 : (y 0).val = (x 0).val) (h1 : (y 1).val = o + (x 1).val) :
    k0_pay2 (F := Ideal) (iblk m c 0 t) (iblk m c 1 t) (iblk m c 2 t) (iblk m c 3 t) (View.ld (iblk m c 4 t) (Rect.unit (s := S8x2048x512) ![s, 0, 0] ![1, 2048, 512] i1)) x
      = ∑ q : Fin 2048, hid (n := 256) (Xa m c) (Ga m c) (Sa m c) (Ha m c) (y 0) q * Wa m c (ix2 q (col (y 1))) := by
  rw [eta x]
  refine (mul_at _ _ _ _ _ (x 0) (x 1)).trans ?_
  have hy : (col (y 1) : Fin 4096) = ⟨s * 512 + (x 1).val, by have h : (x 1).val < 512 := (x 1).isLt; omega⟩ := Fin.ext (by unfold col; dsimp only; omega)
  have hp : y 0 = (x 0 : Fin 256) := Fin.ext h0
  have e := fun q => w_at m c t ⟨s, hs⟩ q (x 1)
  rw [hy, hp]
  refine Finset.sum_congr rfl fun q _ => congrArg₂ (· * ·) (hid_at m c t (x 0) q) (Eq.trans ?_ (e q))
  generalize iblk m c 4 t = W
  pointwise

theorem final6 (W : FVec Ideal S256x2048 .bf16) (hW : ∀ (r : Fin 256) (k : Fin 2048), W (ix2 r k) = hid (n := 256) (Xa m c) (Ga m c) (Sa m c) (Ha m c) r k) : (dats m 0 c).arrAt 6 cfg0.N = W := by
  refine (dats m 0 c).arrAt_eq_of_covers 6 _ (by decide +kernel) fun t hf y => ?_
  blk_simp
  rw [after0_6]
  have he : ((cfg0.win 6).blk t).view.emb y = (ix2 (y 0) (y 1) : S256x2048.Idx) := by
    funext a
    match a with
    | ⟨0, _⟩ => exact Fin.ext (by blk_simp; rw [(idx t).2.2.2.2.2.2]; show 0 * _ + (y 0).val = (y 0).val; omega)
    | ⟨1, _⟩ => exact Fin.ext (by blk_simp; rw [(idx t).2.2.2.2.2.2]; show 0 * _ + (y 1).val = (y 1).val; omega)
  refine Eq.trans ?_ ((congrArg W he).trans (hW (y 0) (y 1))).symm
  rw [eta y]
  frame_out
  exact hid_at m c t (y 0) (y 1)

theorem final5 (W : FVec Ideal S256x1024 .f32) (hW : ∀ (r : Fin 256) (n : Fin 1024), W (ix2 r n) = ∑ q : Fin 2048, hid (n := 256) (Xa m c) (Ga m c) (Sa m c) (Ha m c) r q * Wa m c (ix2 q (col n))) :
    (dats m 0 c).arrAt 5 cfg0.N = W := by
  refine (dats m 0 c).arrAt_eq_of_covers 5 _ (by decide +kernel) fun t hf y => ?_
  blk_simp
  rw [after0_5]
  have he : ((cfg0.win 5).blk t).view.emb y = (ix2 (y 0) (y 1) : S256x1024.Idx) := by
    funext a
    match a with
    | ⟨0, _⟩ => exact Fin.ext (by blk_simp; rw [(idx t).2.2.2.2.2.1]; show 0 * _ + (y 0).val = (y 0).val; omega)
    | ⟨1, _⟩ => exact Fin.ext (by blk_simp; rw [(idx t).2.2.2.2.2.1]; show 0 * _ + (y 1).val = (y 1).val; omega)
  refine Eq.trans ?_ ((congrArg W he).trans (hW (y 0) (y 1))).symm
  frame_out
  canon_tiles x hx using View.cover_of_tiledBy _ ![256, 512] (by sl_kernel_rfl) _
  · exact tile_of m c t 3 512 (by decide) rfl _ x y hx0 hx1
  · exact tile_of m c t 2 0 (by decide) rfl _ x y hx0 (by omega)

end Cert.Kernel15Ideal.Inc

namespace Cert.Proof

open Cert.Kernel15Ideal.Inc

/-- The reference keeps its arguments, and it declares no semaphore. -/
theorem frame_ref_inc : Cert.quiescent_Reference15Ideal := fun m ρ _ =>
  (θ_run Cert.Reference15Ideal.defs _ _).mono
    (fun r h => ⟨fun c => (h c).2.2, sem_eq_zero_of_no_sems (by decide) r.2⟩)
    (Cert.Reference15Ideal.Value.run (F := Ideal) m ρ)

set_option maxHeartbeats 1600000 in
theorem algebraic_inc : Cert.algebraic_Kernel15Ideal_Reference15Ideal := by
  pair_intro
  · run_from Cert.Kernel15Ideal.Value.run_blocks m g
  · hlo_run
    all_goals clear hagree hpre g g'
    · refine (final5 m c _ fun r n => ?_).symm; unfold Cert.Hidden.hid Cert.Norm.var; pointwise [col]
    · refine (final6 m c _ fun r n => ?_).symm; unfold Cert.Hidden.hid Cert.Norm.var; pointwise

end Cert.Proof
-- ==== Proof.ModfValue.lean ====
/- The modulation of every sample and of the context: SiLU and the product. -/
module

public import proofs.«01_k».proof.Proof.Gen.Kernel16Ideal.Value
public import proofs.«01_k».proof.Proof.Gen.Reference16Ideal.Run
public import proofs.«01_k».proof.Proof.Finite
public import proofs.«01_k».proof.Defs
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.Kernel16Ideal.Modf

open Cert.Kernel16Ideal Cert.Kernel16Ideal.Gen

variable (m : (ℓ : Loc nD τ sig) → Buf (Elt Ideal) ℓ) (c : Dev nD)

theorem idx : ∀ t : Fin cfg0.N, win0_0.index t = ![0, 0] ∧ win0_1.index t = ![0, 0] ∧ win0_2.index t = ![0, 0] ∧ win0_3.index t = ![0, 0] :=
  (by decide +kernel : ∀ t : Fin grid0.N, _)

/-- The samples' embeddings, the context's, the weight and the bias. -/
abbrev Ca : FVec Ideal S8x2048 .f32 := m ((c : Thread nD τ).loc main_arg0)
abbrev Cc : FVec Ideal S1x2048 .f32 := m ((c : Thread nD τ).loc main_arg1)
abbrev Wa : FVec Ideal S2048x768 .f32 := m ((c : Thread nD τ).loc main_arg2)
abbrev Ba : FVec Ideal S1x768 .f32 := m ((c : Thread nD τ).loc main_arg3)

/-- The embeddings' rows as the region finds them. -/
abbrev Rows : FVec Ideal S16x2048 .f32 := V m c main_v1

theorem rows_at (x : Fin 16) (k : Fin 2048) : Rows m c (ix2 x k)
    = if h : (x : ℕ) < 8 then Ca m c (ix2 ⟨x, h⟩ k) else if (x : ℕ) = 8 then Cc m c (ix2 (0 : Fin 1) k) else 0 := by
  have e : Rows m c = concatenate S16x2048 0 [⟨S8x2048, Ca m c⟩, ⟨S1x2048, Cc m c⟩,
      ⟨S7x2048, broadcastInDim S7x2048 ![] bcast_S_S7x2048 (constant (F := Ideal) S_ .f32 0x00000000#32)⟩] concatenates_S8x2048_S1x2048_S7x2048_S16x2048_d0 := by
    sl_kernel_rfl
  rw [e]
  pointwise
  refine dite_congr rfl (fun _ => rfl) fun h => ?_
  by_cases h' : (x : ℕ) = 8
  · rw [if_pos h', dif_pos (by omega)]
    exact congrArg (fun u : Fin 1 => Cc m c (ix2 u k)) (Subsingleton.elim _ _)
  · rw [if_neg h', dif_neg (by omega)]

/-- SiLU. -/
def silu (v : EReal) : EReal := v * Ideal.div 1 (1 + Ideal.exp (-v))

theorem silu_eq (v : EReal) : v * (Ideal.ofBits .f32 0x3F000000#32 * (Ideal.tanh (Ideal.ofBits .f32 0x3F000000#32 * v) + 1)) = silu v := by
  rw [Cert.Finite.half_bits, Cert.Finite.logistic_tanh]
  rfl

theorem silu_zero : silu 0 = 0 := zero_mul _

theorem pay_at (R : FVec Ideal S16x2048 .f32) (W : FVec Ideal S2048x768 .f32) (b : FVec Ideal S1x768 .f32) (p : Fin 16) (n : Fin 768) :
    k0_pay1 (F := Ideal) R W b (ix2 p n) = ∑ k : Fin 2048, silu (R (ix2 p k)) * W (ix2 k n) + b (ix2 (0 : Fin 1) n) := by
  pointwise [k0_pay1, silu_eq]

theorem final3 : (dats m 0 c).arrAt 3 cfg0.N = k0_pay1 (F := Ideal) (Rows m c) (Wa m c) (Ba m c) := by
  refine (dats m 0 c).arrAt_eq_of_after_last 3 t0_0 (by decide +kernel) _ fun j => ?_
  blk_simp
  rw [after0_3]
  frame_out
  blk_point [iblk, V, idx t0_0]

/-- A row of the result: a sample's, the context's, or the bias alone. -/
theorem mod_at (p : Fin 16) (n : Fin 768) : k0_pay1 (F := Ideal) (Rows m c) (Wa m c) (Ba m c) (ix2 p n)
    = if h : (p : ℕ) < 8 then ∑ k : Fin 2048, silu (Ca m c (ix2 ⟨p, h⟩ k)) * Wa m c (ix2 k n) + Ba m c (ix2 (0 : Fin 1) n)
      else if (p : ℕ) = 8 then ∑ k : Fin 2048, silu (Cc m c (ix2 (0 : Fin 1) k)) * Wa m c (ix2 k n) + Ba m c (ix2 (0 : Fin 1) n)
      else Ba m c (ix2 (0 : Fin 1) n) := by
  rw [pay_at]
  have e := fun k => rows_at m c p k
  generalize Rows m c = R at *
  simp only [e]
  split_ifs with h h'
  · rfl
  · rfl
  · simp only [silu_zero, zero_mul, Finset.sum_const_zero, zero_add]

end Cert.Kernel16Ideal.Modf

namespace Cert.Reference16Ideal.Modf

open Cert.Reference16Ideal Cert.Reference16Ideal.Gen Cert.Kernel16Ideal.Modf

/-- The samples' rows in the reference. -/
def own (C : FVec Ideal S8x2048 .f32) (W : FVec Ideal S2048x768 .f32) (B : FVec Ideal S1x768 .f32) : FVec Ideal S8x768 .f32 :=
  addf (Host.dotGeneral dot_S8x2048_S2048x768_S8x768_1_0_0_1_n_n none (mulf C (Host.divf (broadcastInDim S8x2048 ![] bcast_S_S8x2048 (constant S_ .f32 0x3F800000#32)) (addf (broadcastInDim S8x2048 ![] bcast_S_S8x2048 (constant S_ .f32 0x3F800000#32)) (Host.exp (Host.negf C))))) W) (broadcastInDim S8x768 ![0, 1] bcast_S1x768_S8x768_0_1 B)

/-- The context's row. -/
def shared (D : FVec Ideal S1x2048 .f32) (W : FVec Ideal S2048x768 .f32) (B : FVec Ideal S1x768 .f32) : FVec Ideal S1x768 .f32 :=
  addf (Host.dotGeneral dot_S1x2048_S2048x768_S1x768_1_0_0_1_n_n none (mulf D (Host.divf (broadcastInDim S1x2048 ![] bcast_S_S1x2048 (constant S_ .f32 0x3F800000#32)) (addf (broadcastInDim S1x2048 ![] bcast_S_S1x2048 (constant S_ .f32 0x3F800000#32)) (Host.exp (Host.negf D))))) W) B

/-- The reference's result: the samples' rows, the context's, and the bias. -/
def all (C : FVec Ideal S8x2048 .f32) (D : FVec Ideal S1x2048 .f32) (W : FVec Ideal S2048x768 .f32) (B : FVec Ideal S1x768 .f32) : FVec Ideal S16x768 .f32 :=
  concatenate S16x768 0 [⟨S8x768, own C W B⟩, ⟨S1x768, shared D W B⟩, ⟨S7x768, broadcastInDim S7x768 ![0, 1] bcast_S1x768_S7x768_0_1 B⟩] concatenates_S8x768_S1x768_S7x768_S16x768_d0

theorem own_at (C : FVec Ideal S8x2048 .f32) (W : FVec Ideal S2048x768 .f32) (B : FVec Ideal S1x768 .f32) (p : Fin 8) (n : Fin 768) :
    own C W B (ix2 p n) = ∑ k : Fin 2048, silu (C (ix2 p k)) * W (ix2 k n) + B (ix2 (0 : Fin 1) n) := by
  unfold silu
  pointwise [own]

theorem shared_at (D : FVec Ideal S1x2048 .f32) (W : FVec Ideal S2048x768 .f32) (B : FVec Ideal S1x768 .f32) (p : Fin 1) (n : Fin 768) :
    shared D W B (ix2 p n) = ∑ k : Fin 2048, silu (D (ix2 (0 : Fin 1) k)) * W (ix2 k n) + B (ix2 (0 : Fin 1) n) := by
  rw [Subsingleton.elim p 0]
  unfold silu
  pointwise [shared]

theorem all_at (C : FVec Ideal S8x2048 .f32) (D : FVec Ideal S1x2048 .f32) (W : FVec Ideal S2048x768 .f32) (B : FVec Ideal S1x768 .f32) (p : Fin 16) (n : Fin 768) :
    all C D W B (ix2 p n) = if h : (p : ℕ) < 8 then ∑ k : Fin 2048, silu (C (ix2 ⟨p, h⟩ k)) * W (ix2 k n) + B (ix2 (0 : Fin 1) n)
      else if (p : ℕ) = 8 then ∑ k : Fin 2048, silu (D (ix2 (0 : Fin 1) k)) * W (ix2 k n) + B (ix2 (0 : Fin 1) n)
      else B (ix2 (0 : Fin 1) n) := by
  have e := own_at C W B
  have e' := shared_at D W B
  unfold all
  generalize own C W B = P at *
  generalize shared D W B = Q at *
  pointwise
  refine dite_congr rfl (fun h => e _ _) fun h => ?_
  by_cases h' : (p : ℕ) = 8
  · rw [if_pos h', dif_pos (by omega)]
    exact e' _ _
  · rw [if_neg h', dif_neg (by omega)]

end Cert.Reference16Ideal.Modf

namespace Cert.Proof

open Cert.Kernel16Ideal.Modf

/-- The reference keeps its arguments, and it declares no semaphore. -/
theorem frame_ref_modf : Cert.quiescent_Reference16Ideal := fun m ρ _ =>
  (θ_run Cert.Reference16Ideal.defs _ _).mono
    (fun r h => ⟨fun c => (h c).2, sem_eq_zero_of_no_sems (by decide) r.2⟩)
    (Cert.Reference16Ideal.Value.run (F := Ideal) m ρ)

theorem algebraic_modf : Cert.algebraic_Kernel16Ideal_Reference16Ideal := by
  intro m ρ m' ρ' hpre hagree
  refine ⟨_, Cert.Kernel16Ideal.Value.run_blocks m ρ, ?_⟩
  have hrun := Cert.Reference16Ideal.Value.run (F := Ideal) m' ρ'
  refine (θ_run _ _ _).mono (fun _ h c => ⟨(h c).1.trans ?_, (h c).2⟩) hrun
  obtain ⟨a0, a1, a2, a3⟩ := hagree c
  rw [final3 m c]
  refine Eq.trans (b := Cert.Reference16Ideal.Modf.all (m' ((c.tc : Thread Cert.Reference16Ideal.nD Cert.Reference16Ideal.τ).loc Cert.Reference16Ideal.main_arg0)) (m' ((c.tc : Thread Cert.Reference16Ideal.nD Cert.Reference16Ideal.τ).loc Cert.Reference16Ideal.main_arg1)) (m' ((c.tc : Thread Cert.Reference16Ideal.nD Cert.Reference16Ideal.τ).loc Cert.Reference16Ideal.main_arg2)) (m' ((c.tc : Thread Cert.Reference16Ideal.nD Cert.Reference16Ideal.τ).loc Cert.Reference16Ideal.main_arg3))) rfl ?_
  rw [a0, a1, a2, a3]
  funext j
  obtain ⟨p, n, rfl⟩ : ∃ (p : Fin 16) (n : Fin 768), j = ix2 p n := ⟨j 0, j 1, by
    funext a
    match a with
    | ⟨0, _⟩ => rfl
    | ⟨1, _⟩ => rfl⟩
  exact (Cert.Reference16Ideal.Modf.all_at _ _ _ _ p n).trans (mod_at m c p n).symm

end Cert.Proof
-- ==== Proof.OpgStates.lean ====
/-
The states at the start of every chunk: what the kernel's program prepares on the host before its call.
-/
module

public import proofs.«01_k».proof.Proof.Gen.Kernel10Ideal.Launch
public import Idealize.ShloMosaic.Lib.Pipeline.ValueKit
public import Idealize.ShloMosaic.Lib.WholeRead

@[expose] public section

set_option maxRecDepth 16384

noncomputable section

open Idealize.ShloMosaic Idealize.ShloMosaic.TcCoe Idealize.SL.Sem

namespace Cert.Kernel10Ideal.Opg

open Cert.Kernel10Ideal Cert.Kernel10Ideal.Gen

/-- A value of every chunk, group, direction and mode. -/
abbrev Seq := FVec Ideal S528x64x2x64 .f32

/-- A value of every group, chunk and (direction, mode). -/
abbrev Chunks := FVec Ideal S64x528x128 .f32

/-- A stretch of chunks at every chunk: its decay and its state, real and imaginary parts. -/
structure Stretch where
  ar : Seq
  ai : Seq
  xr : Seq
  xi : Seq

/-- The value `d` chunks before, the word `w` before the first. -/
def later (d n : ℕ) (hs : S528x64x2x64.Slices ![0, 0, 0, 0] ⟨4, ![n, 64, 2, 64]⟩)
    (hp : Shape.Pads ⟨4, ![n, 64, 2, 64]⟩ (![d, 0, 0, 0] : Fin 4 → ℕ) ![0, 0, 0, 0] ![0, 0, 0, 0] S528x64x2x64) (w : BitVec 32) (x : Seq) : Seq :=
  pad S528x64x2x64 ![d, 0, 0, 0] ![0, 0, 0, 0] ![0, 0, 0, 0] (extractStridedSlice ⟨4, ![n, 64, 2, 64]⟩ ![0, 0, 0, 0] x hs)
    (constant (F := Ideal) S_ .f32 w) hp h_S_

/-- Every stretch joined to the one `d` chunks before. -/
def on (d n : ℕ) (hs : S528x64x2x64.Slices ![0, 0, 0, 0] ⟨4, ![n, 64, 2, 64]⟩)
    (hp : Shape.Pads ⟨4, ![n, 64, 2, 64]⟩ (![d, 0, 0, 0] : Fin 4 → ℕ) ![0, 0, 0, 0] ![0, 0, 0, 0] S528x64x2x64) (q : Stretch) : Stretch :=
  let ar := later d n hs hp 0x3F800000#32 q.ar
  let ai := later d n hs hp 0x00000000#32 q.ai
  let xr := later d n hs hp 0x00000000#32 q.xr
  let xi := later d n hs hp 0x00000000#32 q.xi
  ⟨subf (mulf ar q.ar) (mulf ai q.ai), addf (mulf ar q.ai) (mulf ai q.ar),
   addf (subf (mulf q.ar xr) (mulf q.ai xi)) q.xr, addf (addf (mulf q.ar xi) (mulf q.ai xr)) q.xi⟩

/-- One direction of a value. -/
def dir0 (y : FVec Ideal S64x528x2x64 .f32) : FVec Ideal S64x528x64 .f32 :=
  shapeCast _ (extractStridedSlice S64x528x1x64 ![0, 0, 0, 0] y slices_S64x528x2x64_S64x528x1x64_0_0_0_0) shapeCasts_S64x528x1x64_S64x528x64

/-- The other direction. -/
def dir1 (y : FVec Ideal S64x528x2x64 .f32) : FVec Ideal S64x528x64 .f32 :=
  shapeCast _ (extractStridedSlice S64x528x1x64 ![0, 0, 1, 0] y slices_S64x528x2x64_S64x528x1x64_0_0_1_0) shapeCasts_S64x528x1x64_S64x528x64

/-- The second direction's chunks turned round, the context's and the sequence's each by itself. -/
def turned (y : FVec Ideal S64x528x2x64 .f32) : FVec Ideal S64x528x2x64 .f32 :=
  concatenate S64x528x2x64 2 [⟨S64x528x1x64, broadcastInDim S64x528x1x64 ![0, 1, 3] bcast_S64x528x64_S64x528x1x64_0_1_3 (dir0 y)⟩,
    ⟨S64x528x1x64, broadcastInDim S64x528x1x64 ![0, 1, 3] bcast_S64x528x64_S64x528x1x64_0_1_3
      (concatenate S64x528x64 1 [⟨S64x16x64, Host.reverse [1] (extractStridedSlice S64x16x64 ![0, 0, 0] (dir1 y) slices_S64x528x64_S64x16x64_0_0_0)⟩,
        ⟨S64x512x64, Host.reverse [1] (extractStridedSlice S64x512x64 ![0, 16, 0] (dir1 y) slices_S64x528x64_S64x512x64_0_16_0)⟩]
        concatenates_S64x16x64_S64x512x64_S64x528x64_d1)⟩] concatenates_S64x528x1x64_S64x528x1x64_S64x528x2x64_d2

/-- The chunks' own states in the order of the scan. -/
def inTime (x : Chunks) : Seq :=
  transpose S528x64x2x64 [1, 0, 2, 3] (turned (shapeCast _ x shapeCasts_S64x528x128_S64x528x2x64)) transposes_S64x528x2x64_S528x64x2x64_1_0_2_3

/-- The states one chunk later, by group. -/
def shifted (x : Seq) : FVec Ideal S64x528x2x64 .f32 :=
  transpose S64x528x2x64 [1, 0, 2, 3]
    (later 1 527 slices_S528x64x2x64_S527x64x2x64_0_0_0_0 pads_S527x64x2x64_S528x64x2x64_100_000_000_000 0x00000000#32 x)
    transposes_S528x64x2x64_S64x528x2x64_1_0_2_3

/-- Each chunk's in its own place. -/
def flat (y : FVec Ideal S64x528x2x64 .f32) : Chunks := shapeCast _ (turned y) shapeCasts_S64x528x2x64_S64x528x128

/-- The states before every chunk, each chunk's in its own place. -/
def byChunk (x : Seq) : Chunks := flat (shifted x)

/-- A chunk's decay, real part. -/
def decayR (z : FVec Ideal S64x256 .f32) : Seq :=
  broadcastInDim S528x64x2x64 ![0, 1, 2, 3] bcast_S1x64x2x64_S528x64x2x64_0_1_2_3 (broadcastInDim S1x64x2x64 ![1, 2, 3] bcast_S64x2x64_S1x64x2x64_1_2_3
    (shapeCast _ (extractStridedSlice S64x1x2x64 ![0, 0, 0, 0] (shapeCast S64x2x2x64 z shapeCasts_S64x256_S64x2x2x64) slices_S64x2x2x64_S64x1x2x64_0_0_0_0)
      shapeCasts_S64x1x2x64_S64x2x64))

/-- A chunk's decay, imaginary part. -/
def decayI (z : FVec Ideal S64x256 .f32) : Seq :=
  broadcastInDim S528x64x2x64 ![0, 1, 2, 3] bcast_S1x64x2x64_S528x64x2x64_0_1_2_3 (broadcastInDim S1x64x2x64 ![1, 2, 3] bcast_S64x2x64_S1x64x2x64_1_2_3
    (shapeCast _ (extractStridedSlice S64x1x2x64 ![0, 1, 0, 0] (shapeCast S64x2x2x64 z shapeCasts_S64x256_S64x2x2x64) slices_S64x2x2x64_S64x1x2x64_0_1_0_0)
      shapeCasts_S64x1x2x64_S64x2x64))

/-- Every chunk as a stretch of its own. -/
def own (sr si : Chunks) (z : FVec Ideal S64x256 .f32) : Stretch := ⟨decayR z, decayI z, inTime sr, inTime si⟩

/-- Every chunk joined to all before it, by doubling. -/
def joined (q : Stretch) : Stretch :=
  on 512 16 slices_S528x64x2x64_S16x64x2x64_0_0_0_0 pads_S16x64x2x64_S528x64x2x64_51200_000_000_000
    (on 256 272 slices_S528x64x2x64_S272x64x2x64_0_0_0_0 pads_S272x64x2x64_S528x64x2x64_25600_000_000_000
    (on 128 400 slices_S528x64x2x64_S400x64x2x64_0_0_0_0 pads_S400x64x2x64_S528x64x2x64_12800_000_000_000
    (on 64 464 slices_S528x64x2x64_S464x64x2x64_0_0_0_0 pads_S464x64x2x64_S528x64x2x64_6400_000_000_000
    (on 32 496 slices_S528x64x2x64_S496x64x2x64_0_0_0_0 pads_S496x64x2x64_S528x64x2x64_3200_000_000_000
    (on 16 512 slices_S528x64x2x64_S512x64x2x64_0_0_0_0 pads_S512x64x2x64_S528x64x2x64_1600_000_000_000
    (on 8 520 slices_S528x64x2x64_S520x64x2x64_0_0_0_0 pads_S520x64x2x64_S528x64x2x64_800_000_000_000
    (on 4 524 slices_S528x64x2x64_S524x64x2x64_0_0_0_0 pads_S524x64x2x64_S528x64x2x64_400_000_000_000
    (on 2 526 slices_S528x64x2x64_S526x64x2x64_0_0_0_0 pads_S526x64x2x64_S528x64x2x64_200_000_000_000
    (on 1 527 slices_S528x64x2x64_S527x64x2x64_0_0_0_0 pads_S527x64x2x64_S528x64x2x64_100_000_000_000 q)))))))))

/-- The host operations from the `n`th, `k` of them. -/
def part (n k : ℕ) : List (HloOp τ sig (Elt Ideal)) := ((hostOps0 (F := Ideal)).drop n).take k

theorem after_two (xs ys : List (HloOp τ sig (Elt Ideal))) (W : Valuation τ sig (Elt Ideal)) :
    StableHlo.after (xs ++ ys) W = StableHlo.after ys (StableHlo.after xs W) := by
  induction xs generalizing W with
  | nil => rfl
  | cons x xs ih => exact ih _

/-- The host's values after its first `n` operations. -/
def upTo (n : ℕ) (W : Valuation τ sig (Elt Ideal)) : Valuation τ sig (Elt Ideal) := StableHlo.after (part 0 n) W

theorem upTo_add (n k : ℕ) (W : Valuation τ sig (Elt Ideal)) : upTo (n + k) W = StableHlo.after (part n k) (upTo n W) := by
  refine Eq.trans ?_ (after_two _ _ W)
  exact congrArg (StableHlo.after · W) (List.take_add (l := hostOps0 (F := Ideal)) (i := n) (j := k))

theorem upTo_rest (n : ℕ) (W : Valuation τ sig (Elt Ideal)) :
    StableHlo.after (hostOps0 (F := Ideal)) W = StableHlo.after ((hostOps0 (F := Ideal)).drop n) (upTo n W) := by
  refine Eq.trans ?_ (after_two _ _ W)
  exact congrArg (StableHlo.after · W) (List.take_append_drop n (hostOps0 (F := Ideal))).symm

theorem start (W : Valuation τ sig (Elt Ideal)) :
    (⟨upTo 37 W main_v32, upTo 37 W main_v36, upTo 37 W main_v14, upTo 37 W main_v28⟩ : Stretch) = own (W main_arg2) (W main_arg3) (W main_arg4) := by
  sl_kernel_rfl

theorem level0 (W : Valuation τ sig (Elt Ideal)) :
    (⟨StableHlo.after (part 37 26) W main_v47, StableHlo.after (part 37 26) W main_v50, StableHlo.after (part 37 26) W main_v54, StableHlo.after (part 37 26) W main_v58⟩ : Stretch)
      = on 1 527 slices_S528x64x2x64_S527x64x2x64_0_0_0_0 pads_S527x64x2x64_S528x64x2x64_100_000_000_000 ⟨W main_v32, W main_v36, W main_v14, W main_v28⟩ := by
  sl_kernel_rfl

theorem level1 (W : Valuation τ sig (Elt Ideal)) :
    (⟨StableHlo.after (part 63 26) W main_v69, StableHlo.after (part 63 26) W main_v72, StableHlo.after (part 63 26) W main_v76, StableHlo.after (part 63 26) W main_v80⟩ : Stretch)
      = on 2 526 slices_S528x64x2x64_S526x64x2x64_0_0_0_0 pads_S526x64x2x64_S528x64x2x64_200_000_000_000 ⟨W main_v47, W main_v50, W main_v54, W main_v58⟩ := by
  sl_kernel_rfl

theorem level2 (W : Valuation τ sig (Elt Ideal)) :
    (⟨StableHlo.after (part 89 26) W main_v91, StableHlo.after (part 89 26) W main_v94, StableHlo.after (part 89 26) W main_v98, StableHlo.after (part 89 26) W main_v102⟩ : Stretch)
      = on 4 524 slices_S528x64x2x64_S524x64x2x64_0_0_0_0 pads_S524x64x2x64_S528x64x2x64_400_000_000_000 ⟨W main_v69, W main_v72, W main_v76, W main_v80⟩ := by
  sl_kernel_rfl

theorem level3 (W : Valuation τ sig (Elt Ideal)) :
    (⟨StableHlo.after (part 115 26) W main_v113, StableHlo.after (part 115 26) W main_v116, StableHlo.after (part 115 26) W main_v120, StableHlo.after (part 115 26) W main_v124⟩ : Stretch)
      = on 8 520 slices_S528x64x2x64_S520x64x2x64_0_0_0_0 pads_S520x64x2x64_S528x64x2x64_800_000_000_000 ⟨W main_v91, W main_v94, W main_v98, W main_v102⟩ := by
  sl_kernel_rfl

theorem level4 (W : Valuation τ sig (Elt Ideal)) :
    (⟨StableHlo.after (part 141 26) W main_v135, StableHlo.after (part 141 26) W main_v138, StableHlo.after (part 141 26) W main_v142, StableHlo.after (part 141 26) W main_v146⟩ : Stretch)
      = on 16 512 slices_S528x64x2x64_S512x64x2x64_0_0_0_0 pads_S512x64x2x64_S528x64x2x64_1600_000_000_000 ⟨W main_v113, W main_v116, W main_v120, W main_v124⟩ := by
  sl_kernel_rfl

theorem level5 (W : Valuation τ sig (Elt Ideal)) :
    (⟨StableHlo.after (part 167 26) W main_v157, StableHlo.after (part 167 26) W main_v160, StableHlo.after (part 167 26) W main_v164, StableHlo.after (part 167 26) W main_v168⟩ : Stretch)
      = on 32 496 slices_S528x64x2x64_S496x64x2x64_0_0_0_0 pads_S496x64x2x64_S528x64x2x64_3200_000_000_000 ⟨W main_v135, W main_v138, W main_v142, W main_v146⟩ := by
  sl_kernel_rfl

theorem level6 (W : Valuation τ sig (Elt Ideal)) :
    (⟨StableHlo.after (part 193 26) W main_v179, StableHlo.after (part 193 26) W main_v182, StableHlo.after (part 193 26) W main_v186, StableHlo.after (part 193 26) W main_v190⟩ : Stretch)
      = on 64 464 slices_S528x64x2x64_S464x64x2x64_0_0_0_0 pads_S464x64x2x64_S528x64x2x64_6400_000_000_000 ⟨W main_v157, W main_v160, W main_v164, W main_v168⟩ := by
  sl_kernel_rfl

theorem level7 (W : Valuation τ sig (Elt Ideal)) :
    (⟨StableHlo.after (part 219 26) W main_v201, StableHlo.after (part 219 26) W main_v204, StableHlo.after (part 219 26) W main_v208, StableHlo.after (part 219 26) W main_v212⟩ : Stretch)
      = on 128 400 slices_S528x64x2x64_S400x64x2x64_0_0_0_0 pads_S400x64x2x64_S528x64x2x64_12800_000_000_000 ⟨W main_v179, W main_v182, W main_v186, W main_v190⟩ := by
  sl_kernel_rfl

theorem level8 (W : Valuation τ sig (Elt Ideal)) :
    (⟨StableHlo.after (part 245 26) W main_v223, StableHlo.after (part 245 26) W main_v226, StableHlo.after (part 245 26) W main_v230, StableHlo.after (part 245 26) W main_v234⟩ : Stretch)
      = on 256 272 slices_S528x64x2x64_S272x64x2x64_0_0_0_0 pads_S272x64x2x64_S528x64x2x64_25600_000_000_000 ⟨W main_v201, W main_v204, W main_v208, W main_v212⟩ := by
  sl_kernel_rfl

theorem level9 (W : Valuation τ sig (Elt Ideal)) :
    (⟨StableHlo.after (part 271 26) W main_v245, StableHlo.after (part 271 26) W main_v248, StableHlo.after (part 271 26) W main_v252, StableHlo.after (part 271 26) W main_v256⟩ : Stretch)
      = on 512 16 slices_S528x64x2x64_S16x64x2x64_0_0_0_0 pads_S16x64x2x64_S528x64x2x64_51200_000_000_000 ⟨W main_v223, W main_v226, W main_v230, W main_v234⟩ := by
  sl_kernel_rfl

theorem scanned (W : Valuation τ sig (Elt Ideal)) :
    (⟨upTo 297 W main_v245, upTo 297 W main_v248, upTo 297 W main_v252, upTo 297 W main_v256⟩ : Stretch) = joined (own (W main_arg2) (W main_arg3) (W main_arg4)) := by
  unfold joined
  rw [show upTo 297 W = _ from upTo_add 271 26 W, level9]
  rw [show upTo 271 W = _ from upTo_add 245 26 W, level8]
  rw [show upTo 245 W = _ from upTo_add 219 26 W, level7]
  rw [show upTo 219 W = _ from upTo_add 193 26 W, level6]
  rw [show upTo 193 W = _ from upTo_add 167 26 W, level5]
  rw [show upTo 167 W = _ from upTo_add 141 26 W, level4]
  rw [show upTo 141 W = _ from upTo_add 115 26 W, level3]
  rw [show upTo 115 W = _ from upTo_add 89 26 W, level2]
  rw [show upTo 89 W = _ from upTo_add 63 26 W, level1]
  rw [show upTo 63 W = _ from upTo_add 37 26 W, level0]
  rw [start]

end Cert.Kernel10Ideal.Opg
-- ==== Proof.OpgPairs.lean ====
/-
What the kernel's program hands to its call: the chunks' rows, the gradients at the states and the states, two groups to a row.
-/
module

public import proofs.«01_k».proof.Proof.OpgStates

@[expose] public section

set_option maxRecDepth 16384

noncomputable section

open Idealize.ShloMosaic Idealize.ShloMosaic.TcCoe Idealize.SL.Sem

namespace Cert.Kernel10Ideal.Opg

open Cert.Kernel10Ideal Cert.Kernel10Ideal.Gen

/-- The forward direction's modes, two groups to a row. -/
def pair0 (x : Chunks) : FVec Ideal S32x528x128 .f32 :=
  shapeCast _ (transpose S4x8x528x2x64 [0, 2, 3, 1, 4] (shapeCast S4x2x8x528x64
    (extractStridedSlice S4x2x8x528x1x64 ![0, 0, 0, 0, 0, 0] (shapeCast S4x2x8x528x2x64 x shapeCasts_S64x528x128_S4x2x8x528x2x64)
      slices_S4x2x8x528x2x64_S4x2x8x528x1x64_0_0_0_0_0_0) shapeCasts_S4x2x8x528x1x64_S4x2x8x528x64)
    transposes_S4x2x8x528x64_S4x8x528x2x64_0_2_3_1_4) shapeCasts_S4x8x528x2x64_S32x528x128

/-- The second direction's modes, two groups to a row. -/
def pair1 (x : Chunks) : FVec Ideal S32x528x128 .f32 :=
  shapeCast _ (transpose S4x8x528x2x64 [0, 2, 3, 1, 4] (shapeCast S4x2x8x528x64
    (extractStridedSlice S4x2x8x528x1x64 ![0, 0, 0, 0, 1, 0] (shapeCast S4x2x8x528x2x64 x shapeCasts_S64x528x128_S4x2x8x528x2x64)
      slices_S4x2x8x528x2x64_S4x2x8x528x1x64_0_0_0_0_1_0) shapeCasts_S4x2x8x528x1x64_S4x2x8x528x64)
    transposes_S4x2x8x528x64_S4x8x528x2x64_0_2_3_1_4) shapeCasts_S4x8x528x2x64_S32x528x128

/-- The sequence's rows, a chunk to a row, eight groups side by side. -/
def seqRows (u : FVec Ideal S8192x1024 .f32) : FVec Ideal S8x512x2048 .f32 :=
  shapeCast _ (transpose S8x512x8x16x16 [2, 0, 3, 1, 4] (shapeCast S512x16x8x8x16 u shapeCasts_S8192x1024_S512x16x8x8x16)
    transposes_S512x16x8x8x16_S8x512x8x16x16_2_0_3_1_4) shapeCasts_S8x512x8x16x16_S8x512x2048

/-- The context's rows, likewise. -/
def ctxRows (u : FVec Ideal S256x1024 .f32) : FVec Ideal S8x16x2048 .f32 :=
  shapeCast _ (transpose S8x16x8x16x16 [2, 0, 3, 1, 4] (shapeCast S16x16x8x8x16 u shapeCasts_S256x1024_S16x16x8x8x16)
    transposes_S16x16x8x8x16_S8x16x8x16x16_2_0_3_1_4) shapeCasts_S8x16x8x16x16_S8x16x2048

/-- The rows of the run, the context's before the sequence's. -/
def allRows (uc : FVec Ideal S256x1024 .f32) (u : FVec Ideal S8192x1024 .f32) : FVec Ideal S8x528x2048 .bf16 :=
  truncf .bf16 (concatenate S8x528x2048 1 [⟨S8x16x2048, ctxRows uc⟩, ⟨S8x512x2048, seqRows u⟩] concatenates_S8x16x2048_S8x512x2048_S8x528x2048_d1 : FVec Ideal S8x528x2048 .f32) bitsLt_bf16_f32

/-- The gradient's rows. -/
def gradRows (dy : FVec Ideal S8192x1024 .f32) : FVec Ideal S8x512x2048 .bf16 := truncf .bf16 (seqRows dy) bitsLt_bf16_f32

/-- The states before every chunk, from the chunks' own states and the decays. -/
def before (sr si : Chunks) (z : FVec Ideal S64x256 .f32) : Chunks × Chunks :=
  (byChunk (joined (own sr si z)).xr, byChunk (joined (own sr si z)).xi)

theorem pair0_at (x : Chunks) (i : S32x528x128.Idx) (g : Fin 64) (k : Fin 528) (n : Fin 128)
    (hg : (g : ℕ) = 16 * ((i 0 : ℕ) / 8) + 8 * ((i 2 : ℕ) / 64) + (i 0 : ℕ) % 8) (hk : (k : ℕ) = i 1) (hn : (n : ℕ) = (i 2 : ℕ) % 64) :
    pair0 x i = x (ix3 g k n) := by
  have h0 : (i 0 : ℕ) < 32 := (i 0).isLt
  have h1 : (i 1 : ℕ) < 528 := (i 1).isLt
  have h2 : (i 2 : ℕ) < 128 := (i 2).isLt
  pointwise [pair0]
  refine congrArg x (funext fun a => Fin.ext ?_)
  fin_cases a
  · show _ = (g : ℕ); simp <;> omega
  · show _ = (k : ℕ); simp <;> omega
  · show _ = (n : ℕ); simp <;> omega

theorem pair1_at (x : Chunks) (i : S32x528x128.Idx) (g : Fin 64) (k : Fin 528) (n : Fin 128)
    (hg : (g : ℕ) = 16 * ((i 0 : ℕ) / 8) + 8 * ((i 2 : ℕ) / 64) + (i 0 : ℕ) % 8) (hk : (k : ℕ) = i 1) (hn : (n : ℕ) = 64 + (i 2 : ℕ) % 64) :
    pair1 x i = x (ix3 g k n) := by
  have h0 : (i 0 : ℕ) < 32 := (i 0).isLt
  have h1 : (i 1 : ℕ) < 528 := (i 1).isLt
  have h2 : (i 2 : ℕ) < 128 := (i 2).isLt
  pointwise [pair1]
  refine congrArg x (funext fun a => Fin.ext ?_)
  fin_cases a
  · show _ = (g : ℕ); simp <;> omega
  · show _ = (k : ℕ); simp <;> omega
  · show _ = (n : ℕ); simp <;> omega

theorem seqRows_at (u : FVec Ideal S8192x1024 .f32) (i : S8x512x2048.Idx) (r : Fin 8192) (q : Fin 1024)
    (hr : (r : ℕ) = 16 * (i 1 : ℕ) + (i 2 : ℕ) % 256 / 16) (hq : (q : ℕ) = 128 * (i 0 : ℕ) + 16 * ((i 2 : ℕ) / 256) + (i 2 : ℕ) % 16) :
    seqRows u i = u (ix2 r q) := by
  have h0 : (i 0 : ℕ) < 8 := (i 0).isLt
  have h1 : (i 1 : ℕ) < 512 := (i 1).isLt
  have h2 : (i 2 : ℕ) < 2048 := (i 2).isLt
  pointwise [seqRows]
  refine congrArg u (funext fun a => Fin.ext ?_)
  fin_cases a
  · show _ = (r : ℕ); simp <;> omega
  · show _ = (q : ℕ); simp <;> omega

theorem allRows_at (uc : FVec Ideal S256x1024 .f32) (u : FVec Ideal S8192x1024 .f32) (i : S8x528x2048.Idx) (r : Fin 8192) (q : Fin 1024)
    (h : 16 ≤ (i 1 : ℕ)) (hr : (r : ℕ) = 16 * ((i 1 : ℕ) - 16) + (i 2 : ℕ) % 256 / 16)
    (hq : (q : ℕ) = 128 * (i 0 : ℕ) + 16 * ((i 2 : ℕ) / 256) + (i 2 : ℕ) % 16) :
    allRows uc u i = u (ix2 r q) := by
  unfold allRows
  have hs := seqRows_at u
  generalize seqRows u = S at hs ⊢
  generalize ctxRows uc = C
  pointwise
  rw [dif_neg (by omega)]
  exact hs _ r q hr hq

theorem gradRows_at (dy : FVec Ideal S8192x1024 .f32) (i : S8x512x2048.Idx) (r : Fin 8192) (q : Fin 1024)
    (hr : (r : ℕ) = 16 * (i 1 : ℕ) + (i 2 : ℕ) % 256 / 16) (hq : (q : ℕ) = 128 * (i 0 : ℕ) + 16 * ((i 2 : ℕ) / 256) + (i 2 : ℕ) % 16) :
    gradRows dy i = dy (ix2 r q) := by
  unfold gradRows
  exact seqRows_at dy i r q hr hq

end Cert.Kernel10Ideal.Opg
-- ==== Proof.OpgSums.lean ====
/-
The three gradients of one group as sums over the chunks.
-/
module

public import proofs.«01_k».proof.Proof.OpgPairs

@[expose] public section

noncomputable section

open Idealize.ShloMosaic Idealize.ShloMosaic.TcCoe

namespace Cert.Kernel10Ideal.Opg

open Cert.Kernel10Ideal

/-- An entry of the rows of a group: row `r` of chunk `k`. -/
def rowOf (u : FVec Ideal S8192x1024 .f32) (g : Fin 64) (k : Fin 512) (r : Fin 256) : EReal :=
  u (ix2 ⟨16 * (k : ℕ) + (r : ℕ) / 16, by omega⟩ ⟨16 * (g : ℕ) + (r : ℕ) % 16, by omega⟩)

/-- The gradient of the near taps. -/
def nearGrad (u dy : FVec Ideal S8192x1024 .f32) (i : S64x256x256.Idx) : EReal :=
  ∑ k : Fin 512, rowOf u (i 0) k (i 1) * rowOf dy (i 0) k (i 2)

/-- The state a readout row belongs to. -/
def stateOf (h : Chunks × Chunks) (g : Fin 64) (k : Fin 528) (n : Fin 256) : EReal :=
  if (n : ℕ) < 128 then h.1 (ix3 g k ⟨(n : ℕ) % 128, Nat.mod_lt _ (by decide)⟩) else h.2 (ix3 g k ⟨(n : ℕ) % 128, Nat.mod_lt _ (by decide)⟩)

/-- The gradient of the readout. -/
def readGrad (h : Chunks × Chunks) (dy : FVec Ideal S8192x1024 .f32) (i : S64x256x256.Idx) : EReal :=
  ∑ k : Fin 512, stateOf h (i 0) ⟨16 + (k : ℕ), by omega⟩ (i 1) * rowOf dy (i 0) k (i 2)

/-- The gradient of the decays, a lane's real or imaginary part. -/
def decayGrad (h : Chunks × Chunks) (dr di : Chunks) (i : S64x256.Idx) : EReal :=
  let n : Fin 128 := ⟨(i 1 : ℕ) % 128, Nat.mod_lt _ (by decide)⟩
  if (i 1 : ℕ) < 128 then ∑ k : Fin 528, (h.1 (ix3 (i 0) k n) * dr (ix3 (i 0) k n) + h.2 (ix3 (i 0) k n) * di (ix3 (i 0) k n))
  else ∑ k : Fin 528, (h.1 (ix3 (i 0) k n) * di (ix3 (i 0) k n) - h.2 (ix3 (i 0) k n) * dr (ix3 (i 0) k n))

end Cert.Kernel10Ideal.Opg
-- ==== Proof.OpgHost.lean ====
/-
What the kernel's program hands to its call: the chunks' rows, the gradients at the states and the states, two groups to a row.
-/
module

public import proofs.«01_k».proof.Proof.OpgPairs
public import proofs.«01_k».proof.Proof.Gen.Kernel10Ideal.Frame

@[expose] public section

set_option maxRecDepth 16384

noncomputable section

open Idealize.ShloMosaic Idealize.ShloMosaic.TcCoe Idealize.SL.Sem

namespace Cert.Kernel10Ideal.Opg

open Cert.Kernel10Ideal Cert.Kernel10Ideal.Gen

theorem last296 (W : Valuation τ sig (Elt Ideal)) : StableHlo.after ((hostOps0 (F := Ideal)).drop 331) W main_v296 = allRows (W main_arg1) (W main_arg0) := by
  sl_kernel_rfl

theorem last340 (W : Valuation τ sig (Elt Ideal)) : StableHlo.after ((hostOps0 (F := Ideal)).drop 331) W main_v340 = gradRows (W main_arg5) := by
  sl_kernel_rfl

theorem last301 (W : Valuation τ sig (Elt Ideal)) : StableHlo.after ((hostOps0 (F := Ideal)).drop 331) W main_v301 = pair0 (W main_arg6) := by
  sl_kernel_rfl

theorem last306 (W : Valuation τ sig (Elt Ideal)) : StableHlo.after ((hostOps0 (F := Ideal)).drop 331) W main_v306 = pair0 (W main_arg7) := by
  sl_kernel_rfl

theorem last311 (W : Valuation τ sig (Elt Ideal)) : StableHlo.after ((hostOps0 (F := Ideal)).drop 331) W main_v311 = pair1 (W main_arg6) := by
  sl_kernel_rfl

theorem last316 (W : Valuation τ sig (Elt Ideal)) : StableHlo.after ((hostOps0 (F := Ideal)).drop 331) W main_v316 = pair1 (W main_arg7) := by
  sl_kernel_rfl

theorem last321 (W : Valuation τ sig (Elt Ideal)) : StableHlo.after ((hostOps0 (F := Ideal)).drop 331) W main_v321 = pair0 (W main_v272) := by
  sl_kernel_rfl

theorem last326 (W : Valuation τ sig (Elt Ideal)) : StableHlo.after ((hostOps0 (F := Ideal)).drop 331) W main_v326 = pair0 (W main_v288) := by
  sl_kernel_rfl

theorem last331 (W : Valuation τ sig (Elt Ideal)) : StableHlo.after ((hostOps0 (F := Ideal)).drop 331) W main_v331 = pair1 (W main_v272) := by
  sl_kernel_rfl

theorem last336 (W : Valuation τ sig (Elt Ideal)) : StableHlo.after ((hostOps0 (F := Ideal)).drop 331) W main_v336 = pair1 (W main_v288) := by
  sl_kernel_rfl

theorem kept0 (W : Valuation τ sig (Elt Ideal)) : upTo 331 W main_arg0 = W main_arg0 := by
  sl_kernel_rfl

theorem kept1 (W : Valuation τ sig (Elt Ideal)) : upTo 331 W main_arg1 = W main_arg1 := by
  sl_kernel_rfl

theorem kept5 (W : Valuation τ sig (Elt Ideal)) : upTo 331 W main_arg5 = W main_arg5 := by
  sl_kernel_rfl

theorem kept6 (W : Valuation τ sig (Elt Ideal)) : upTo 331 W main_arg6 = W main_arg6 := by
  sl_kernel_rfl

theorem kept7 (W : Valuation τ sig (Elt Ideal)) : upTo 331 W main_arg7 = W main_arg7 := by
  sl_kernel_rfl

theorem shift272 (W : Valuation τ sig (Elt Ideal)) : StableHlo.after (part 297 4) W main_v259 = shifted (W main_v252) := by
  sl_kernel_rfl

theorem turn272 (W : Valuation τ sig (Elt Ideal)) : StableHlo.after (part 301 13) W main_v272 = flat (W main_v259) := by
  sl_kernel_rfl

theorem shift288 (W : Valuation τ sig (Elt Ideal)) : StableHlo.after (part 314 4) W main_v275 = shifted (W main_v256) := by
  sl_kernel_rfl

theorem turn288 (W : Valuation τ sig (Elt Ideal)) : StableHlo.after (part 318 13) W main_v288 = flat (W main_v275) := by
  sl_kernel_rfl

theorem keep272 (W : Valuation τ sig (Elt Ideal)) : StableHlo.after (part 314 17) W main_v272 = W main_v272 := by
  sl_kernel_rfl

theorem keep256 (W : Valuation τ sig (Elt Ideal)) : StableHlo.after (part 297 17) W main_v256 = W main_v256 := by
  sl_kernel_rfl

theorem at272 (W : Valuation τ sig (Elt Ideal)) :
    upTo 331 W main_v272 = byChunk (joined (own (W main_arg2) (W main_arg3) (W main_arg4))).xr := by
  have e1 : upTo 331 W = StableHlo.after (part 314 17) (upTo 314 W) := upTo_add 314 17 W
  have e2 : upTo 314 W = StableHlo.after (part 301 13) (upTo 301 W) := upTo_add 301 13 W
  have e3 : upTo 301 W = StableHlo.after (part 297 4) (upTo 297 W) := upTo_add 297 4 W
  have h := congrArg (fun q : Stretch => flat (shifted q.xr)) (scanned W)
  generalize upTo 331 W = A at e1 ⊢
  generalize upTo 314 W = B at e1 e2
  generalize upTo 301 W = C at e2 e3
  generalize upTo 297 W = D at e3 h
  subst e1 e2 e3
  generalize joined _ = J at h ⊢
  exact (keep272 _).trans ((turn272 _).trans ((congrArg flat (shift272 _)).trans h))

theorem at288 (W : Valuation τ sig (Elt Ideal)) :
    upTo 331 W main_v288 = byChunk (joined (own (W main_arg2) (W main_arg3) (W main_arg4))).xi := by
  have e1 : upTo 331 W = StableHlo.after (part 318 13) (upTo 318 W) := upTo_add 318 13 W
  have e2 : upTo 318 W = StableHlo.after (part 314 4) (upTo 314 W) := upTo_add 314 4 W
  have e3 : upTo 314 W = StableHlo.after (part 297 17) (upTo 297 W) := upTo_add 297 17 W
  have h := congrArg (fun q : Stretch => flat (shifted q.xi)) (scanned W)
  generalize upTo 331 W = A at e1 ⊢
  generalize upTo 318 W = B at e1 e2
  generalize upTo 314 W = C at e2 e3
  generalize upTo 297 W = D at e3 h
  subst e1 e2 e3
  generalize joined _ = J at h ⊢
  exact (turn288 _).trans ((congrArg flat ((shift288 _).trans (congrArg shifted (keep256 _)))).trans h)

variable (m : (ℓ : Loc nD τ sig) → Buf (Elt Ideal) ℓ)

/-- The host's values at the start. -/
abbrev W0 (c : Dev nD) : Valuation τ sig (Elt Ideal) := fun b => m (c, b)

abbrev U (c : Dev nD) : FVec Ideal S8192x1024 .f32 := m ((c : Thread nD τ).loc main_arg0)

abbrev Uc (c : Dev nD) : FVec Ideal S256x1024 .f32 := m ((c : Thread nD τ).loc main_arg1)

abbrev Dy (c : Dev nD) : FVec Ideal S8192x1024 .f32 := m ((c : Thread nD τ).loc main_arg5)

abbrev Dr (c : Dev nD) : Chunks := m ((c : Thread nD τ).loc main_arg6)

abbrev Di (c : Dev nD) : Chunks := m ((c : Thread nD τ).loc main_arg7)

/-- The states before every chunk, real and imaginary parts. -/
abbrev H (c : Dev nD) : Chunks × Chunks :=
  before (m ((c : Thread nD τ).loc main_arg2)) (m ((c : Thread nD τ).loc main_arg3)) (m ((c : Thread nD τ).loc main_arg4))

theorem rest (c : Dev nD) (b : Ref sig .tc) :
    V m c b = StableHlo.after ((hostOps0 (F := Ideal)).drop 331) (upTo 331 (W0 m c)) b := by
  show StableHlo.after hostOps0 (W0 m c) b = _
  rw [upTo_rest 331]

theorem entry296 (c : Dev nD) : V m c main_v296 = allRows (Uc m c) (U m c) := by
  rw [rest, last296 (upTo 331 (W0 m c)), kept1 (W0 m c), kept0 (W0 m c)]

theorem entry340 (c : Dev nD) : V m c main_v340 = gradRows (Dy m c) := by
  rw [rest, last340 (upTo 331 (W0 m c)), kept5 (W0 m c)]

theorem entry301 (c : Dev nD) : V m c main_v301 = pair0 (Dr m c) := by
  rw [rest, last301 (upTo 331 (W0 m c)), kept6 (W0 m c)]

theorem entry306 (c : Dev nD) : V m c main_v306 = pair0 (Di m c) := by
  rw [rest, last306 (upTo 331 (W0 m c)), kept7 (W0 m c)]

theorem entry311 (c : Dev nD) : V m c main_v311 = pair1 (Dr m c) := by
  rw [rest, last311 (upTo 331 (W0 m c)), kept6 (W0 m c)]

theorem entry316 (c : Dev nD) : V m c main_v316 = pair1 (Di m c) := by
  rw [rest, last316 (upTo 331 (W0 m c)), kept7 (W0 m c)]

theorem entry321 (c : Dev nD) : V m c main_v321 = pair0 (H m c).1 := by
  rw [rest, last321 (upTo 331 (W0 m c)), at272 (W0 m c)]
  rfl

theorem entry326 (c : Dev nD) : V m c main_v326 = pair0 (H m c).2 := by
  rw [rest, last326 (upTo 331 (W0 m c)), at288 (W0 m c)]
  rfl

theorem entry331 (c : Dev nD) : V m c main_v331 = pair1 (H m c).1 := by
  rw [rest, last331 (upTo 331 (W0 m c)), at272 (W0 m c)]
  rfl

theorem entry336 (c : Dev nD) : V m c main_v336 = pair1 (H m c).2 := by
  rw [rest, last336 (upTo 331 (W0 m c)), at288 (W0 m c)]
  rfl

end Cert.Kernel10Ideal.Opg
-- ==== Proof.OpgTiles.lean ====
/-
What a grid point stores for one group, entry by entry, from the tiles it loads.
-/
module

public import proofs.«01_k».proof.Proof.OpgHost
public import Idealize.ShloMosaic.Lib.Pipeline.ValueKit
public import Idealize.ShloMosaic.Lib.WholeRead

@[expose] public section

set_option maxRecDepth 16384

noncomputable section

open Idealize.ShloMosaic Idealize.ShloMosaic.TcCoe Idealize.SL.Sem
open Idealize.ShloMosaic.Pipeline (Dat)

namespace Cert.Kernel10Ideal.Opg

open Cert.Kernel10Ideal Cert.Kernel10Ideal.Gen

theorem dt_pay (A B : FVec Ideal S1x512x256 .bf16) (x : S1x256x256.Idx) :
    k0_pay4 (F := Ideal) A B x = ∑ k : Fin 512, B (ix3 0 k (x 1)) * A (ix3 0 k (x 2)) := by
  pointwise [k0_pay4, k0_pay3]
  try rfl

/-- Four arrays side by side. -/
def side (P : Fin 4 → FVec Ideal S512x128 .f32) : FVec Ideal S512x512 .f32 :=
  concatenate S512x512 1 (List.ofFn fun n : Fin 4 => (⟨S512x128, P n⟩ : (s : Shape) × (s.Idx → EReal)))
    concatenates_S512x128_S512x128_S512x128_S512x128_S512x512_d1

theorem side_at (P : Fin 4 → FVec Ideal S512x128 .f32) (k : Fin 512) (q : Fin 512) (b : Fin 4) (l : Fin 128) (h : (q : ℕ) = 128 * (b : ℕ) + l) :
    side P (ix2 k q) = P b (ix2 k l) := by
  have hl := l.isLt
  refine concatenate_ofFn_apply (t := S512x512) (s₁ := S512x128) (1 : Fin 2) P _ rfl 128 rfl (ix2 k q : S512x512.Idx) b (by show (q : ℕ) / 128 = (b : ℕ); omega)
    (ix2 k l : S512x128.Idx) (by show (l : ℕ) = (q : ℕ) % 128; omega) ?_
  intro a ha
  fin_cases a
  · rfl
  · exact absurd rfl ha

/-- Four arrays one above the other. -/
def stack (P : Fin 4 → FVec Ideal S64x256 .f32) : FVec Ideal S256x256 .f32 :=
  concatenate S256x256 0 (List.ofFn fun n : Fin 4 => (⟨S64x256, P n⟩ : (s : Shape) × (s.Idx → EReal)))
    concatenates_S64x256_S64x256_S64x256_S64x256_S256x256_d0

theorem stack_at (P : Fin 4 → FVec Ideal S64x256 .f32) (n : Fin 256) (o : Fin 256) (b : Fin 4) (l : Fin 64) (h : (n : ℕ) = 64 * (b : ℕ) + l) :
    stack P (ix2 n o) = P b (ix2 l o) := by
  have hl := l.isLt
  refine concatenate_ofFn_apply (t := S256x256) (s₁ := S64x256) (0 : Fin 2) P _ rfl 64 rfl (ix2 n o : S256x256.Idx) b (by show (n : ℕ) / 64 = (b : ℕ); omega)
    (ix2 l o : S64x256.Idx) (by show (l : ℕ) = (n : ℕ) % 64; omega) ?_
  intro a ha
  fin_cases a
  · exact absurd rfl ha
  · rfl

/-- The states side by side times the gradient's rows. -/
def prod (A : FVec Ideal S1x512x256 .bf16) (P : Fin 4 → FVec Ideal S512x128 .f32) : FVec Ideal S512x256 .f32 :=
  matmul dot_S512x512_S512x256_S512x256_0_0_1_1_n_n none (truncf .bf16 (side P) bitsLt_bf16_f32) (shapeCast S512x256 A shapeCasts_S1x512x256_S512x256)
    (constant (F := Ideal) S512x256 .f32 0x00000000#32)

theorem prod_at (A : FVec Ideal S1x512x256 .bf16) (P : Fin 4 → FVec Ideal S512x128 .f32) (q : Fin 512) (o : Fin 256) (b : Fin 4) (l : Fin 128)
    (h : (q : ℕ) = 128 * (b : ℕ) + l) : prod A P (ix2 q o) = ∑ k : Fin 512, P b (ix2 k l) * A (ix3 0 k o) := by
  have hs := fun k => side_at P k q b l h
  unfold prod
  generalize side P = S at hs ⊢
  pointwise
  exact Finset.sum_congr rfl fun k _ => congrArg (· * A (ix3 0 k o)) (hs k)

/-- The rows of a product the groups of one half take. -/
def half0 (X : FVec Ideal S512x256 .f32) : Fin 4 → FVec Ideal S64x256 .f32 :=
  ![extractStridedSlice S64x256 ![0, 0] X slices_S512x256_o0_0_S64x256, extractStridedSlice S64x256 ![256, 0] X slices_S512x256_o256_0_S64x256,
    extractStridedSlice S64x256 ![128, 0] X slices_S512x256_o128_0_S64x256, extractStridedSlice S64x256 ![384, 0] X slices_S512x256_o384_0_S64x256]

/-- The rows the groups of the other half take. -/
def half1 (X : FVec Ideal S512x256 .f32) : Fin 4 → FVec Ideal S64x256 .f32 :=
  ![extractStridedSlice S64x256 ![64, 0] X slices_S512x256_o64_0_S64x256, extractStridedSlice S64x256 ![320, 0] X slices_S512x256_o320_0_S64x256,
    extractStridedSlice S64x256 ![192, 0] X slices_S512x256_o192_0_S64x256, extractStridedSlice S64x256 ![448, 0] X slices_S512x256_o448_0_S64x256]

/-- The array a block of rows is of. -/
def which : Fin 4 → Fin 4 := ![0, 2, 1, 3]

theorem half0_at (X : FVec Ideal S512x256 .f32) (b : Fin 4) (l : Fin 64) (o : Fin 256) (q : Fin 512) (h : (q : ℕ) = 128 * (which b : ℕ) + l) :
    half0 X b (ix2 l o) = X (ix2 q o) := by
  fin_cases b
  all_goals
    change (q : ℕ) = _ at h
    simp only [which] at h
    unfold half0
    pointwise
    refine congrArg X (funext fun a => Fin.ext ?_)
    fin_cases a
    · simp at h ⊢ <;> omega
    · simp

theorem half1_at (X : FVec Ideal S512x256 .f32) (b : Fin 4) (l : Fin 64) (o : Fin 256) (q : Fin 512) (h : (q : ℕ) = 128 * (which b : ℕ) + (64 + l)) :
    half1 X b (ix2 l o) = X (ix2 q o) := by
  fin_cases b
  all_goals
    change (q : ℕ) = _ at h
    simp only [which] at h
    unfold half1
    pointwise
    refine congrArg X (funext fun a => Fin.ext ?_)
    fin_cases a
    · simp at h ⊢ <;> omega
    · simp

/-- A tile of states without its leading axis. -/
abbrev flat1 (T : FVec Ideal S1x512x128 .f32) : FVec Ideal S512x128 .f32 := shapeCast S512x128 T shapeCasts_S1x512x128_S512x128

theorem flat1_at (T : FVec Ideal S1x512x128 .f32) (k : Fin 512) (l : Fin 128) : flat1 T (ix2 k l) = T (ix3 0 k l) := by
  unfold flat1
  pointwise

theorem dc_pay (w : BitVec 32) (j : ℕ) (hw : Scalar.cmpi .eq w 0#32 = if j = 0 then 1#1 else 0#1) (hj : j < 2)
    (A : FVec Ideal S1x512x256 .bf16) (P : Fin 4 → FVec Ideal S1x512x128 .f32) (x : S1x256x256.Idx) (b : Fin 4) (l : Fin 128)
    (h : (x 1 : ℕ) = 64 * (b : ℕ) + (x 1 : ℕ) % 64) (hl : (l : ℕ) = 64 * j + (x 1 : ℕ) % 64) :
    k0_pay9 (F := Ideal) w (k0_pay3 A) (k0_pay5 (P 0)) (k0_pay6 (P 1)) (k0_pay7 (P 2)) (k0_pay8 (P 3)) x
      = ∑ k : Fin 512, P (which b) (ix3 0 k l) * A (ix3 0 k (x 2)) := by
  have hb := (which b).isLt
  have hx : (x 1 : ℕ) < 256 := (x 1).isLt
  have hx2 : (x 1 : ℕ) % 64 < 64 := Nat.mod_lt _ (by decide)
  refine Eq.trans (b := Scalar.select (Scalar.cmpi .eq w 0#32) (stack (half0 (prod A fun n => flat1 (P n)))) (stack (half1 (prod A fun n => flat1 (P n))))
    (ix2 (x 1) (x 2) : S256x256.Idx)) ?_ ?_
  · refine Eq.trans (b := shapeCast S1x256x256 (Scalar.select (Scalar.cmpi .eq w 0#32) (stack (half0 (prod A fun n => flat1 (P n)))) (stack (half1 (prod A fun n => flat1 (P n))))) shapeCasts_S256x256_S1x256x256 x) ?_ ?_
    · sl_kernel_rfl
    · generalize Scalar.select _ _ _ = Z
      pointwise
  · have key : ∀ q : Fin 512, (q : ℕ) = 128 * (which b : ℕ) + l → prod A (fun n => flat1 (P n)) (ix2 q (x 2))
        = ∑ k : Fin 512, P (which b) (ix3 0 k l) * A (ix3 0 k (x 2)) := fun q hq =>
      (prod_at A _ q (x 2) (which b) l hq).trans (Finset.sum_congr rfl fun k _ => congrArg (· * A (ix3 0 k (x 2))) (flat1_at _ k l))
    rw [hw]
    by_cases hj0 : j = 0
    · rw [if_pos hj0]
      refine (stack_at _ (x 1) (x 2) b ⟨(x 1 : ℕ) % 64, hx2⟩ h).trans ?_
      refine (half0_at _ b _ (x 2) ⟨128 * (which b : ℕ) + l, by omega⟩ (by show _ = 128 * (which b : ℕ) + (x 1 : ℕ) % 64; simp only; omega)).trans (key _ rfl)
    · rw [if_neg hj0]
      refine (stack_at _ (x 1) (x 2) b ⟨(x 1 : ℕ) % 64, hx2⟩ h).trans ?_
      refine (half1_at _ b _ (x 2) ⟨128 * (which b : ℕ) + l, by omega⟩ (by show _ = 128 * (which b : ℕ) + (64 + (x 1 : ℕ) % 64); simp only; omega)).trans (key _ rfl)

end Cert.Kernel10Ideal.Opg
-- ==== Proof.OpgRow.lean ====
/-
One group's gradient of the decays at a grid point, lane by lane.
-/
module

public import proofs.«01_k».proof.Proof.OpgHost
public import Idealize.ShloMosaic.Lib.Pipeline.ValueKit
public import Idealize.ShloMosaic.Lib.WholeRead

@[expose] public section

set_option maxRecDepth 16384

noncomputable section

open Idealize.ShloMosaic Idealize.ShloMosaic.TcCoe Idealize.SL.Sem
open Idealize.ShloMosaic.Pipeline (Dat)

namespace Cert.Kernel10Ideal.Opg

open Cert.Kernel10Ideal Cert.Kernel10Ideal.Gen

/-- A sum over the chunks of two products. -/
abbrev both (a b c d : FVec Ideal S1x528x128 .f32) (l : Fin 128) : EReal :=
  ∑ k : Fin 528, (a (ix3 0 k l) * b (ix3 0 k l) + c (ix3 0 k l) * d (ix3 0 k l))

/-- A sum over the chunks of a product less another. -/
abbrev less (a b c d : FVec Ideal S1x528x128 .f32) (l : Fin 128) : EReal :=
  ∑ k : Fin 528, (a (ix3 0 k l) * b (ix3 0 k l) - c (ix3 0 k l) * d (ix3 0 k l))

/-- A group's row. -/
abbrev row (w : BitVec 32) (fr fi br bi sfr sfi sbr sbi : FVec Ideal S1x528x128 .f32) : FVec Ideal S1x256 .f32 :=
  k0_pay17 (F := Ideal) k0_pay2 w (k0_pay10 fr) (k0_pay11 fi) (k0_pay12 br) (k0_pay13 bi) (k0_pay14 sfr) (k0_pay15 sfi) (k0_pay16 sbr) sbi

/-- Two rows of lanes put together: the lane of the one or the other that belongs to the group. -/
def join (w : BitVec 32) (f b : FVec Ideal S128 .f32) : FVec Ideal S1x128 .f32 :=
  Scalar.select (Scalar.cmpi .eq w 0#32)
    (select k0_pay2 (shapeCast S1x128 f shapeCasts_S128_S1x128) (dynamicRotate 1 64#32 none (shapeCast S1x128 b shapeCasts_S128_S1x128) rotates_S1x128_d1))
    (select k0_pay2 (dynamicRotate 1 64#32 none (shapeCast S1x128 f shapeCasts_S128_S1x128) rotates_S1x128_d1) (shapeCast S1x128 b shapeCasts_S128_S1x128))

/-- A tile's lanes summed over the chunks. -/
def lanes (X : FVec Ideal S528x128 .f32) : FVec Ideal S128 .f32 :=
  multiReduction .add [0] S128 X 0x00000000#32 reduces_S528x128_S128 (.inl rfl) rfl

theorem lanes_at (X : FVec Ideal S528x128 .f32) (l : Fin 128) : lanes X (ix1 l) = ∑ k : Fin 528, X (ix2 k l) := by
  pointwise [lanes]
  try rfl

abbrev fl (T : FVec Ideal S1x528x128 .f32) : FVec Ideal S528x128 .f32 := shapeCast S528x128 T shapeCasts_S1x528x128_S528x128

theorem fl_at (T : FVec Ideal S1x528x128 .f32) (k : Fin 528) (l : Fin 128) : fl T (ix2 k l) = T (ix3 0 k l) := by
  unfold fl
  pointwise

theorem row_eq (w : BitVec 32) (fr fi br bi sfr sfi sbr sbi : FVec Ideal S1x528x128 .f32) :
    row w fr fi br bi sfr sfi sbr sbi = concatenate S1x256 1
      [⟨S1x128, join w (lanes (addf (mulf (fl fr) (fl sfr)) (mulf (fl fi) (fl sfi)))) (lanes (addf (mulf (fl br) (fl sbr)) (mulf (fl bi) (fl sbi))))⟩,
       ⟨S1x128, join w (lanes (subf (mulf (fl fr) (fl sfi)) (mulf (fl fi) (fl sfr)))) (lanes (subf (mulf (fl br) (fl sbi)) (mulf (fl bi) (fl sbr))))⟩]
      concatenates_S1x128_S1x128_S1x256_d1 := by
  sl_kernel_rfl

theorem mask_at (x : S1x128.Idx) : k0_pay2 x = if (x 1 : ℕ) < 64 then 1#1 else 0#1 := by
  revert x
  have : ∀ l : Fin 128, k0_pay2 (ix2 0 l : S1x128.Idx) = if (l : ℕ) < 64 then 1#1 else 0#1 := by decide +kernel
  intro x
  refine Eq.trans (congrArg k0_pay2 (funext fun a => ?_)) (this (x 1))
  fin_cases a
  · exact Fin.ext (by have : (x 0 : ℕ) < 1 := (x 0).isLt; show (x 0 : ℕ) = 0; omega)
  · rfl

theorem join_at (w : BitVec 32) (j : ℕ) (hw : Scalar.cmpi .eq w 0#32 = if j = 0 then 1#1 else 0#1) (hj : j < 2) (f b : FVec Ideal S128 .f32)
    (x : S1x128.Idx) (q : Fin 128) (hq : (q : ℕ) = 64 * j + (x 1 : ℕ) % 64) :
    join w f b x = if (x 1 : ℕ) < 64 then f (ix1 q) else b (ix1 q) := by
  have hx : (x 1 : ℕ) < 128 := (x 1).isLt
  have hm := mask_at
  unfold join
  rw [hw]
  generalize k0_pay2 = M at hm ⊢
  by_cases hj0 : j = 0
  · rw [if_pos hj0]
    pointwise [hm]
    by_cases h : (x 1 : ℕ) < 64
    · rw [if_pos h, if_pos h]
      exact congrArg (fun l => f (ix1 l)) (Fin.ext (by show (x 1 : ℕ) = q; omega))
    · rw [if_neg h, if_neg h]
      exact congrArg (fun l => b (ix1 l)) (Fin.ext (by show ((x 1 : ℕ) + 128 - 64) % 128 = q; omega))
  · rw [if_neg hj0]
    pointwise [hm]
    by_cases h : (x 1 : ℕ) < 64
    · rw [if_pos h, if_pos h]
      exact congrArg (fun l => f (ix1 l)) (Fin.ext (by show ((x 1 : ℕ) + 128 - 64) % 128 = q; omega))
    · rw [if_neg h, if_neg h]
      exact congrArg (fun l => b (ix1 l)) (Fin.ext (by show (x 1 : ℕ) = q; omega))

theorem both_at (a b c d : FVec Ideal S1x528x128 .f32) (l : Fin 128) : lanes (addf (mulf (fl a) (fl b)) (mulf (fl c) (fl d))) (ix1 l) = both a b c d l :=
  (lanes_at _ l).trans (Finset.sum_congr rfl fun k _ =>
    congrArg₂ (· + ·) (congrArg₂ (· * ·) (fl_at a k l) (fl_at b k l)) (congrArg₂ (· * ·) (fl_at c k l) (fl_at d k l)))

theorem less_at (a b c d : FVec Ideal S1x528x128 .f32) (l : Fin 128) : lanes (subf (mulf (fl a) (fl b)) (mulf (fl c) (fl d))) (ix1 l) = less a b c d l :=
  (lanes_at _ l).trans (Finset.sum_congr rfl fun k _ =>
    congrArg₂ (· - ·) (congrArg₂ (· * ·) (fl_at a k l) (fl_at b k l)) (congrArg₂ (· * ·) (fl_at c k l) (fl_at d k l)))

/-- A row's entry: the group's own lane of the one direction or the other. -/
theorem row_at (w : BitVec 32) (j : ℕ) (hw : Scalar.cmpi .eq w 0#32 = if j = 0 then 1#1 else 0#1) (hj : j < 2)
    (fr fi br bi sfr sfi sbr sbi : FVec Ideal S1x528x128 .f32) (y : S1x256.Idx) (q : Fin 128) (hq : (q : ℕ) = 64 * j + (y 1 : ℕ) % 64) :
    row w fr fi br bi sfr sfi sbr sbi y = if (y 1 : ℕ) < 128 then (if (y 1 : ℕ) % 128 < 64 then both fr sfr fi sfi q else both br sbr bi sbi q)
      else (if (y 1 : ℕ) % 128 < 64 then less fr sfi fi sfr q else less br sbi bi sbr q) := by
  have hy : (y 1 : ℕ) < 256 := (y 1).isLt
  rw [row_eq]
  have h1 := join_at w j hw hj (lanes (addf (mulf (fl fr) (fl sfr)) (mulf (fl fi) (fl sfi)))) (lanes (addf (mulf (fl br) (fl sbr)) (mulf (fl bi) (fl sbi))))
  have h2 := join_at w j hw hj (lanes (subf (mulf (fl fr) (fl sfi)) (mulf (fl fi) (fl sfr)))) (lanes (subf (mulf (fl br) (fl sbi)) (mulf (fl bi) (fl sbr))))
  simp only [both_at, less_at] at h1 h2
  generalize join w _ _ = X at h1 ⊢
  generalize join w (lanes (subf _ _)) _ = Y at h2 ⊢
  pointwise
  by_cases c : (y 1 : ℕ) < 128
  · rw [dif_pos c, if_pos c]
    have hm : (y 1 : ℕ) % 128 = (y 1 : ℕ) := Nat.mod_eq_of_lt c
    rw [hm]
    exact h1 (ix2 0 ⟨(y 1 : ℕ), c⟩) q hq
  · rw [dif_neg c, if_neg c]
    have hm : (y 1 : ℕ) % 128 = (y 1 : ℕ) - 128 := by omega
    rw [hm]
    exact h2 (ix2 0 ⟨(y 1 : ℕ) - 128, by omega⟩) q (by show (q : ℕ) = 64 * j + ((y 1 : ℕ) - 128) % 64; omega)

end Cert.Kernel10Ideal.Opg
-- ==== Proof.OpgHolds.lean ====
/-
What a grid point's tiles hold of the arrays, and so what it stores for every group.
-/
module

public import proofs.«01_k».proof.Proof.OpgHost
public import proofs.«01_k».proof.Proof.OpgTiles
public import proofs.«01_k».proof.Proof.OpgRow
public import proofs.«01_k».proof.Proof.OpgSums
public import Idealize.ShloMosaic.Lib.Pipeline.ValueKit
public import Idealize.ShloMosaic.Lib.WholeRead

@[expose] public section

set_option maxRecDepth 16384

noncomputable section

open Idealize.ShloMosaic Idealize.ShloMosaic.TcCoe Idealize.SL.Sem
open Idealize.ShloMosaic.Pipeline (Dat)

namespace Cert.Kernel10Ideal.Opg

open Cert.Kernel10Ideal Cert.Kernel10Ideal.Gen

open Cert.Kernel10Ideal.Gen

variable (m : (ℓ : Loc nD τ sig) → Buf (Elt Ideal) ℓ) (c : Dev nD)

theorem idx : ∀ t : Fin cfg0.N, win0_0.index t = ![t.val, 0, 0] ∧ win0_1.index t = ![t.val, 0, 0] ∧ win0_2.index t = ![t.val / 2, 0, 0]
    ∧ win0_3.index t = ![t.val / 2, 0, 0] ∧ win0_4.index t = ![t.val / 2, 0, 0] ∧ win0_5.index t = ![t.val / 2, 0, 0]
    ∧ win0_6.index t = ![t.val / 2, 0, 0] ∧ win0_7.index t = ![t.val / 2, 0, 0] ∧ win0_8.index t = ![t.val / 2, 0, 0] ∧ win0_9.index t = ![t.val / 2, 0, 0]
    ∧ win0_10.index t = ![t.val, 0, 0] ∧ win0_11.index t = ![t.val, 0, 0] ∧ win0_12.index t = ![t.val, 0] :=
  (by decide +kernel : ∀ t : Fin grid0.N, _)

theorem N_lt (t : Fin cfg0.N) : t.val < 8 := lt_of_lt_of_eq t.isLt (by decide +kernel)

/-- Which half of a pair of grid points a point is. -/
def halfOf (i : grid0.Coords) : BitVec 32 :=
  (Scalar.select (Scalar.andi (Scalar.xori (Scalar.cmpi .slt (Scalar.remsi (BitVec.ofNat 32 (i 0).val) (Scalar.select (Scalar.cmpi .eq 2#32 0#32) 1#32 2#32)) 0#32) (Scalar.cmpi .slt (Scalar.select (Scalar.cmpi .eq 2#32 0#32) 1#32 2#32) 0#32)) (Scalar.cmpi .ne (Scalar.remsi (BitVec.ofNat 32 (i 0).val) (Scalar.select (Scalar.cmpi .eq 2#32 0#32) 1#32 2#32)) 0#32)) (Scalar.addi (Scalar.remsi (BitVec.ofNat 32 (i 0).val) (Scalar.select (Scalar.cmpi .eq 2#32 0#32) 1#32 2#32)) (Scalar.select (Scalar.cmpi .eq 2#32 0#32) 1#32 2#32)) (Scalar.remsi (BitVec.ofNat 32 (i 0).val) (Scalar.select (Scalar.cmpi .eq 2#32 0#32) 1#32 2#32)))

theorem halfOf_eq : ∀ t : Fin cfg0.N, Scalar.cmpi .eq (halfOf (grid0.coords t)) 0#32 = if t.val % 2 = 0 then 1#1 else 0#1 :=
  (by decide +kernel : ∀ t : Fin grid0.N, _)

/-- A group of a grid point. -/
abbrev grp (t : Fin cfg0.N) (g : Fin 8) : Fin 64 := ⟨8 * t.val + (g : ℕ), by have := N_lt t; omega⟩

/-- The tile holds the lanes of one direction of the point's groups, in the half the point works on. -/
def Holds (X : Chunks) (d : ℕ) (t : Fin cfg0.N) (T : FVec Ideal S8x528x128 .f32) : Prop :=
  ∀ (g : Fin 8) (k : Fin 528) (l n : Fin 128), (l : ℕ) / 64 = t.val % 2 → (n : ℕ) = 64 * d + (l : ℕ) % 64 → T (ix3 g k l) = X (ix3 (grp t g) k n)

/-- The slab holds the rows of the point's groups. -/
def HoldsRows (u : FVec Ideal S8192x1024 .f32) (t : Fin cfg0.N) (T : Fin 512 → Fin 2048 → EReal) : Prop :=
  ∀ (g : Fin 8) (k : Fin 512) (p : Fin 2048) (q : Fin 256), (p : ℕ) = 256 * (g : ℕ) + q → T k p = rowOf u (grp t g) k q

theorem holds_pair0 (X : Chunks) (t : Fin cfg0.N) (T : FVec Ideal S8x528x128 .f32)
    (h : ∀ (g : Fin 8) (k : Fin 528) (l : Fin 128), T (ix3 g k l) = pair0 X (ix3 ⟨8 * (t.val / 2) + (g : ℕ), by have := N_lt t; omega⟩ k l)) : Holds X 0 t T :=
  fun g k l n hl hn => (h g k l).trans (pair0_at X _ (grp t g) k n (by
    have := N_lt t
    show 8 * t.val + (g : ℕ) = 16 * ((8 * (t.val / 2) + (g : ℕ)) / 8) + 8 * ((l : ℕ) / 64) + (8 * (t.val / 2) + (g : ℕ)) % 8; omega) rfl
    (by show (n : ℕ) = (l : ℕ) % 64; omega))

theorem holds_pair1 (X : Chunks) (t : Fin cfg0.N) (T : FVec Ideal S8x528x128 .f32)
    (h : ∀ (g : Fin 8) (k : Fin 528) (l : Fin 128), T (ix3 g k l) = pair1 X (ix3 ⟨8 * (t.val / 2) + (g : ℕ), by have := N_lt t; omega⟩ k l)) : Holds X 1 t T :=
  fun g k l n hl hn => (h g k l).trans (pair1_at X _ (grp t g) k n (by
    have := N_lt t
    show 8 * t.val + (g : ℕ) = 16 * ((8 * (t.val / 2) + (g : ℕ)) / 8) + 8 * ((l : ℕ) / 64) + (8 * (t.val / 2) + (g : ℕ)) % 8; omega) rfl
    (by show (n : ℕ) = 64 + (l : ℕ) % 64; omega))

end Cert.Kernel10Ideal.Opg
-- ==== Proof.OpgPieces.lean ====
/-
The pieces a grid point stores, from what its tiles hold.
-/
module

public import proofs.«01_k».proof.Proof.OpgHolds
public import proofs.«01_k».proof.Proof.OpgTiles
public import proofs.«01_k».proof.Proof.OpgRow
public import proofs.«01_k».proof.Proof.OpgSums
public import Idealize.ShloMosaic.Lib.Pipeline.ValueKit
public import Idealize.ShloMosaic.Lib.WholeRead

@[expose] public section

set_option maxRecDepth 16384

noncomputable section

open Idealize.ShloMosaic Idealize.ShloMosaic.TcCoe Idealize.SL.Sem
open Idealize.ShloMosaic.Pipeline (Dat)

namespace Cert.Kernel10Ideal.Opg

open Cert.Kernel10Ideal Cert.Kernel10Ideal.Gen

open Cert.Kernel10Ideal.Gen

/-- The gradient's rows of a group, as loaded. -/
abbrev cut (Y : Vec Ideal S1x512x2048 .bf16) (o : ℕ) (h : ∀ a, (![0, 0, o] : Fin 3 → ℕ) a + S1x512x256.size a ≤ S1x512x2048.size a) : FVec Ideal S1x512x256 .bf16 :=
  View.ld Y (Rect.unit (s := S1x512x2048) ![0, 0, o] S1x512x256.size h)

/-- The sequence's rows of a group, as loaded: those past the context's. -/
abbrev cutU (X : Vec Ideal S1x528x2048 .bf16) (o : ℕ) (h : ∀ a, (![0, 16, o] : Fin 3 → ℕ) a + S1x512x256.size a ≤ S1x528x2048.size a) : FVec Ideal S1x512x256 .bf16 :=
  View.ld X (Rect.unit (s := S1x528x2048) ![0, 16, o] S1x512x256.size h)

/-- A group's states past the context's chunks, as loaded. -/
abbrev met (T : Vec Ideal S8x528x128 .f32) (g : ℕ) (h : ∀ a, (![g, 16, 0] : Fin 3 → ℕ) a + S1x512x128.size a ≤ S8x528x128.size a) : FVec Ideal S1x512x128 .f32 :=
  View.ld T (Rect.unit (s := S8x528x128) ![g, 16, 0] S1x512x128.size h)

/-- A group's tile, as loaded. -/
abbrev all (T : Vec Ideal S8x528x128 .f32) (g : ℕ) (h : ∀ a, (![g, 0, 0] : Fin 3 → ℕ) a + S1x528x128.size a ≤ S8x528x128.size a) : FVec Ideal S1x528x128 .f32 :=
  View.ld T (Rect.unit (s := S8x528x128) ![g, 0, 0] S1x528x128.size h)

theorem cut_at (Y : Vec Ideal S1x512x2048 .bf16) (o : ℕ) (h) (k : Fin 512) (q : Fin 256) (p : Fin 2048) (hp : (p : ℕ) = o + q) :
    cut Y o h (ix3 0 k q) = Y (ix3 0 k p) := by
  refine View.ld_unit_apply_of Y _ _ h _ (ix3 0 k p : S1x512x2048.Idx) fun a => ?_
  fin_cases a
  · rfl
  · show (k : ℕ) = 0 + (k : ℕ); omega
  · exact hp

theorem cutU_at (Y : Vec Ideal S1x528x2048 .bf16) (o : ℕ) (h) (k : Fin 512) (q : Fin 256) (p : Fin 2048) (hp : (p : ℕ) = o + q) :
    cutU Y o h (ix3 0 k q) = Y (ix3 0 ⟨16 + (k : ℕ), by omega⟩ p) := by
  refine View.ld_unit_apply_of Y _ _ h _ (ix3 0 ⟨16 + (k : ℕ), by omega⟩ p : S1x528x2048.Idx) fun a => ?_
  fin_cases a
  · rfl
  · rfl
  · exact hp

theorem met_at (T : Vec Ideal S8x528x128 .f32) (g : ℕ) (h) (g' : Fin 8) (hg : g = g') (k : Fin 512) (l : Fin 128) :
    met T g h (ix3 0 k l) = T (ix3 g' ⟨16 + (k : ℕ), by omega⟩ l) := by
  subst hg
  refine View.ld_unit_apply_of T _ _ h _ (ix3 g' ⟨16 + (k : ℕ), by omega⟩ l : S8x528x128.Idx) fun a => ?_
  fin_cases a
  · rfl
  · rfl
  · show (l : ℕ) = 0 + (l : ℕ); omega

theorem all_at (T : Vec Ideal S8x528x128 .f32) (g : ℕ) (h) (g' : Fin 8) (hg : g = g') (k : Fin 528) (l : Fin 128) :
    all T g h (ix3 0 k l) = T (ix3 g' k l) := by
  subst hg
  refine View.ld_unit_apply_of T _ _ h _ (ix3 g' k l : S8x528x128.Idx) fun a => ?_
  fin_cases a
  · rfl
  · show (k : ℕ) = 0 + (k : ℕ); omega
  · show (l : ℕ) = 0 + (l : ℕ); omega

variable {u dy : FVec Ideal S8192x1024 .f32} {hh : Chunks × Chunks} {dr di : Chunks} {t : Fin cfg0.N}
  {X : Vec Ideal S1x528x2048 .bf16} {Y : Vec Ideal S1x512x2048 .bf16} {T2 T3 T4 T5 T6 T7 T8 T9 : Vec Ideal S8x528x128 .f32}

theorem coords3 (j : S64x256x256.Idx) (g : Fin 64) (a b : Fin 256) (h0 : (j 0 : ℕ) = g) (h1 : (j 1 : ℕ) = a) (h2 : (j 2 : ℕ) = b) : j = ix3 g a b :=
  funext fun d => by
    fin_cases d
    · exact Fin.ext h0
    · exact Fin.ext h1
    · exact Fin.ext h2

theorem near_piece (hX : HoldsRows u t fun k p => X (ix3 0 ⟨16 + (k : ℕ), by omega⟩ p)) (hY : HoldsRows dy t fun k p => Y (ix3 0 k p)) (g : Fin 8) (o : ℕ)
    (ho : o = 256 * (g : ℕ)) (iY iX) (x : S1x256x256.Idx) (j : S64x256x256.Idx) (j0 : (j 0 : ℕ) = 8 * t.val + g) (j1 : (j 1 : ℕ) = x 1) (j2 : (j 2 : ℕ) = x 2) :
    k0_pay4 (F := Ideal) (cut Y o iY) (cutU X o iX) x = nearGrad u dy j := by
  have hx1 : (x 1 : ℕ) < 256 := (x 1).isLt
  have hx2 : (x 2 : ℕ) < 256 := (x 2).isLt
  rw [coords3 j (grp t g) (x 1) (x 2) j0 j1 j2]
  refine (dt_pay _ _ x).trans (Finset.sum_congr rfl fun k _ => congrArg₂ (· * ·) ?_ ?_)
  · exact (cutU_at X o iX k (x 1) ⟨o + (x 1 : ℕ), by omega⟩ rfl).trans (hX g k _ (x 1) (by show o + (x 1 : ℕ) = _; omega))
  · exact (cut_at Y o iY k (x 2) ⟨o + (x 2 : ℕ), by omega⟩ rfl).trans (hY g k _ (x 2) (by show o + (x 2 : ℕ) = _; omega))

theorem read_piece (hY : HoldsRows dy t fun k p => Y (ix3 0 k p)) (h6 : Holds hh.1 0 t T6) (h7 : Holds hh.2 0 t T7) (h8 : Holds hh.1 1 t T8) (h9 : Holds hh.2 1 t T9)
    (g : Fin 8) (o g' : ℕ) (ho : o = 256 * (g : ℕ)) (hg : g' = g) (iY i6 i7 i8 i9) (x : S1x256x256.Idx) (j : S64x256x256.Idx)
    (j0 : (j 0 : ℕ) = 8 * t.val + g) (j1 : (j 1 : ℕ) = x 1) (j2 : (j 2 : ℕ) = x 2) :
    k0_pay9 (F := Ideal) (halfOf (grid0.coords t)) (k0_pay3 (cut Y o iY)) (k0_pay5 (met T6 g' i6)) (k0_pay6 (met T7 g' i7)) (k0_pay7 (met T8 g' i8))
      (k0_pay8 (met T9 g' i9)) x = readGrad hh dy j := by
  have hx1 : (x 1 : ℕ) < 256 := (x 1).isLt
  have hx2 : (x 2 : ℕ) < 256 := (x 2).isLt
  have hlt : 64 * (t.val % 2) + (x 1 : ℕ) % 64 < 128 := by omega
  rw [coords3 j (grp t g) (x 1) (x 2) j0 j1 j2]
  obtain ⟨b, hb⟩ : ∃ b : Fin 4, (b : ℕ) = (x 1 : ℕ) / 64 := ⟨⟨(x 1 : ℕ) / 64, by omega⟩, rfl⟩
  refine (dc_pay _ (t.val % 2) (halfOf_eq t) (by omega) (cut Y o iY) ![met T6 g' i6, met T7 g' i7, met T8 g' i8, met T9 g' i9] x b ⟨_, hlt⟩ (by omega) rfl).trans
    (Finset.sum_congr rfl fun k _ => congrArg₂ (· * ·) ?_ ?_)
  · show _ = stateOf hh (grp t g) ⟨16 + (k : ℕ), by omega⟩ (x 1)
    unfold stateOf
    fin_cases b
    · rw [if_pos (by change 0 = _ at hb; omega)]
      exact (met_at T6 g' i6 g hg k _).trans (h6 g _ _ _ (by show (64 * (t.val % 2) + (x 1 : ℕ) % 64) / 64 = _; omega)
        (by change 0 = _ at hb; show (x 1 : ℕ) % 128 = 64 * 0 + (64 * (t.val % 2) + (x 1 : ℕ) % 64) % 64; omega))
    · rw [if_pos (by change 1 = _ at hb; omega)]
      exact (met_at T8 g' i8 g hg k _).trans (h8 g _ _ _ (by show (64 * (t.val % 2) + (x 1 : ℕ) % 64) / 64 = _; omega)
        (by change 1 = _ at hb; show (x 1 : ℕ) % 128 = 64 * 1 + (64 * (t.val % 2) + (x 1 : ℕ) % 64) % 64; omega))
    · rw [if_neg (by change 2 = _ at hb; omega)]
      exact (met_at T7 g' i7 g hg k _).trans (h7 g _ _ _ (by show (64 * (t.val % 2) + (x 1 : ℕ) % 64) / 64 = _; omega)
        (by change 2 = _ at hb; show (x 1 : ℕ) % 128 = 64 * 0 + (64 * (t.val % 2) + (x 1 : ℕ) % 64) % 64; omega))
    · rw [if_neg (by change 3 = _ at hb; omega)]
      exact (met_at T9 g' i9 g hg k _).trans (h9 g _ _ _ (by show (64 * (t.val % 2) + (x 1 : ℕ) % 64) / 64 = _; omega)
        (by change 3 = _ at hb; show (x 1 : ℕ) % 128 = 64 * 1 + (64 * (t.val % 2) + (x 1 : ℕ) % 64) % 64; omega))
  · exact (cut_at Y o iY k (x 2) ⟨o + (x 2 : ℕ), by omega⟩ rfl).trans (hY g k _ (x 2) (by show o + (x 2 : ℕ) = _; omega))

theorem inAll (g : Fin 8) : ∀ a, (![(g : ℕ), 0, 0] : Fin 3 → ℕ) a + S1x528x128.size a ≤ S8x528x128.size a := by
  intro a
  fin_cases a
  · show (g : ℕ) + 1 ≤ 8; omega
  · show 0 + 528 ≤ 528; omega
  · show 0 + 128 ≤ 128; omega

/-- The eight groups' rows of a point. -/
def rows (w : BitVec 32) (T2 T3 T4 T5 T6 T7 T8 T9 : Vec Ideal S8x528x128 .f32) : FVec Ideal S8x256 .f32 :=
  concatenate S8x256 0 (List.ofFn fun g : Fin 8 => (⟨S1x256, row w (all T6 g (inAll g)) (all T7 g (inAll g)) (all T8 g (inAll g)) (all T9 g (inAll g))
    (all T2 g (inAll g)) (all T3 g (inAll g)) (all T4 g (inAll g)) (all T5 g (inAll g))⟩ : (s : Shape) × (s.Idx → EReal)))
    concatenates_S1x256_S1x256_S1x256_S1x256_S1x256_S1x256_S1x256_S1x256_S8x256_d0

theorem rows_at (h2 : Holds dr 0 t T2) (h3 : Holds di 0 t T3) (h4 : Holds dr 1 t T4) (h5 : Holds di 1 t T5)
    (h6 : Holds hh.1 0 t T6) (h7 : Holds hh.2 0 t T7) (h8 : Holds hh.1 1 t T8) (h9 : Holds hh.2 1 t T9) (x : S8x256.Idx) (j : S64x256.Idx)
    (j0 : (j 0 : ℕ) = 8 * t.val + x 0) (j1 : (j 1 : ℕ) = x 1) : rows (halfOf (grid0.coords t)) T2 T3 T4 T5 T6 T7 T8 T9 x = decayGrad hh dr di j := by
  have hx0 : (x 0 : ℕ) < 8 := (x 0).isLt
  have hx1 : (x 1 : ℕ) < 256 := (x 1).isLt
  obtain rfl : j = ix2 (grp t (x 0)) (x 1) := funext fun d => by
    fin_cases d
    · exact Fin.ext j0
    · exact Fin.ext j1
  obtain ⟨g, hg⟩ : ∃ g : Fin 8, g = x 0 := ⟨_, rfl⟩
  have hlt : 64 * (t.val % 2) + (x 1 : ℕ) % 64 < 128 := by omega
  refine Eq.trans (b := row (halfOf (grid0.coords t)) (all T6 g (inAll g)) (all T7 g (inAll g)) (all T8 g (inAll g)) (all T9 g (inAll g))
    (all T2 g (inAll g)) (all T3 g (inAll g)) (all T4 g (inAll g)) (all T5 g (inAll g)) (ix2 0 (x 1) : S1x256.Idx)) ?_ ?_
  · refine concatenate_ofFn_apply (t := S8x256) (s₁ := S1x256) (0 : Fin 2) _ _ rfl 1 rfl x g (by subst hg; show (x 0 : ℕ) / 1 = (x 0 : ℕ); omega)
      (ix2 0 (x 1) : S1x256.Idx) (by show 0 = (x 0 : ℕ) % 1; omega) ?_
    intro a ha
    fin_cases a
    · exact absurd rfl ha
    · rfl
  · have read : ∀ {Z : Chunks} {d : ℕ} {T : Vec Ideal S8x528x128 .f32}, Holds Z d t T → (x 1 : ℕ) % 128 / 64 = d → ∀ k : Fin 528,
        all T g (inAll g) (ix3 0 k ⟨_, hlt⟩) = Z (ix3 (grp t (x 0)) k ⟨(x 1 : ℕ) % 128, Nat.mod_lt _ (by decide)⟩) := fun {Z d T} hT hd k => by
      refine (all_at T g (inAll g) g rfl k _).trans ((hT g k _ ⟨(x 1 : ℕ) % 128, Nat.mod_lt _ (by decide)⟩ ?_ ?_).trans (by rw [hg]))
      · show (64 * (t.val % 2) + (x 1 : ℕ) % 64) / 64 = _; omega
      · show (x 1 : ℕ) % 128 = 64 * d + (64 * (t.val % 2) + (x 1 : ℕ) % 64) % 64; omega
    refine (row_at _ (t.val % 2) (halfOf_eq t) (by omega) _ _ _ _ _ _ _ _ (ix2 0 (x 1) : S1x256.Idx) ⟨_, hlt⟩ rfl).trans ?_
    show (if (x 1 : ℕ) < 128 then (if (x 1 : ℕ) % 128 < 64 then _ else _) else (if (x 1 : ℕ) % 128 < 64 then _ else _)) = if (x 1 : ℕ) < 128 then _ else _
    by_cases ha : (x 1 : ℕ) < 128
    · rw [if_pos ha, if_pos ha]
      by_cases hb : (x 1 : ℕ) % 128 < 64
      · rw [if_pos hb]
        exact Finset.sum_congr rfl fun k _ => congrArg₂ (· + ·) (congrArg₂ (· * ·) (read h6 (by omega) k) (read h2 (by omega) k))
          (congrArg₂ (· * ·) (read h7 (by omega) k) (read h3 (by omega) k))
      · rw [if_neg hb]
        exact Finset.sum_congr rfl fun k _ => congrArg₂ (· + ·) (congrArg₂ (· * ·) (read h8 (by omega) k) (read h4 (by omega) k))
          (congrArg₂ (· * ·) (read h9 (by omega) k) (read h5 (by omega) k))
    · rw [if_neg ha, if_neg ha]
      by_cases hb : (x 1 : ℕ) % 128 < 64
      · rw [if_pos hb]
        exact Finset.sum_congr rfl fun k _ => congrArg₂ (· - ·) (congrArg₂ (· * ·) (read h6 (by omega) k) (read h3 (by omega) k))
          (congrArg₂ (· * ·) (read h7 (by omega) k) (read h2 (by omega) k))
      · rw [if_neg hb]
        exact Finset.sum_congr rfl fun k _ => congrArg₂ (· - ·) (congrArg₂ (· * ·) (read h8 (by omega) k) (read h5 (by omega) k))
          (congrArg₂ (· * ·) (read h9 (by omega) k) (read h4 (by omega) k))

end Cert.Kernel10Ideal.Opg
-- ==== Proof.OpgBlocks.lean ====
/-
What a grid point's tiles hold of the arrays.
-/
module

public import proofs.«01_k».proof.Proof.OpgHost
public import proofs.«01_k».proof.Proof.OpgTiles
public import proofs.«01_k».proof.Proof.OpgRow
public import proofs.«01_k».proof.Proof.OpgSums
public import proofs.«01_k».proof.Proof.OpgHolds
public import Idealize.ShloMosaic.Lib.Pipeline.ValueKit
public import Idealize.ShloMosaic.Lib.WholeRead

@[expose] public section

set_option maxRecDepth 16384

noncomputable section

open Idealize.ShloMosaic Idealize.ShloMosaic.TcCoe Idealize.SL.Sem
open Idealize.ShloMosaic.Pipeline (Dat)

namespace Cert.Kernel10Ideal.Opg

open Cert.Kernel10Ideal Cert.Kernel10Ideal.Gen

open Cert.Kernel10Ideal.Gen

variable (m : (ℓ : Loc nD τ sig) → Buf (Elt Ideal) ℓ) (c : Dev nD)

theorem read2 (t : Fin cfg0.N) (A : FVec Ideal S32x528x128 .f32) (g : Fin 8) (k : Fin 528) (l : Fin 128) :
    ((cfg0.win 2).blk t).view.read (Elt Ideal) A (ix3 g k l) = A (ix3 ⟨8 * (t.val / 2) + (g : ℕ), by have := N_lt t; omega⟩ k l) := by
  blk_point [idx t]

theorem holds2 (t : Fin cfg0.N) : Holds (Dr m c) 0 t (iblk m c 2 t) :=
  holds_pair0 _ t _ fun g k l => (read2 t _ g k l).trans (congrFun (entry301 m c) _)

theorem read3 (t : Fin cfg0.N) (A : FVec Ideal S32x528x128 .f32) (g : Fin 8) (k : Fin 528) (l : Fin 128) :
    ((cfg0.win 3).blk t).view.read (Elt Ideal) A (ix3 g k l) = A (ix3 ⟨8 * (t.val / 2) + (g : ℕ), by have := N_lt t; omega⟩ k l) := by
  blk_point [idx t]

theorem holds3 (t : Fin cfg0.N) : Holds (Di m c) 0 t (iblk m c 3 t) :=
  holds_pair0 _ t _ fun g k l => (read3 t _ g k l).trans (congrFun (entry306 m c) _)

theorem read4 (t : Fin cfg0.N) (A : FVec Ideal S32x528x128 .f32) (g : Fin 8) (k : Fin 528) (l : Fin 128) :
    ((cfg0.win 4).blk t).view.read (Elt Ideal) A (ix3 g k l) = A (ix3 ⟨8 * (t.val / 2) + (g : ℕ), by have := N_lt t; omega⟩ k l) := by
  blk_point [idx t]

theorem holds4 (t : Fin cfg0.N) : Holds (Dr m c) 1 t (iblk m c 4 t) :=
  holds_pair1 _ t _ fun g k l => (read4 t _ g k l).trans (congrFun (entry311 m c) _)

theorem read5 (t : Fin cfg0.N) (A : FVec Ideal S32x528x128 .f32) (g : Fin 8) (k : Fin 528) (l : Fin 128) :
    ((cfg0.win 5).blk t).view.read (Elt Ideal) A (ix3 g k l) = A (ix3 ⟨8 * (t.val / 2) + (g : ℕ), by have := N_lt t; omega⟩ k l) := by
  blk_point [idx t]

theorem holds5 (t : Fin cfg0.N) : Holds (Di m c) 1 t (iblk m c 5 t) :=
  holds_pair1 _ t _ fun g k l => (read5 t _ g k l).trans (congrFun (entry316 m c) _)

theorem read6 (t : Fin cfg0.N) (A : FVec Ideal S32x528x128 .f32) (g : Fin 8) (k : Fin 528) (l : Fin 128) :
    ((cfg0.win 6).blk t).view.read (Elt Ideal) A (ix3 g k l) = A (ix3 ⟨8 * (t.val / 2) + (g : ℕ), by have := N_lt t; omega⟩ k l) := by
  blk_point [idx t]

theorem holds6 (t : Fin cfg0.N) : Holds ((H m c).1) 0 t (iblk m c 6 t) :=
  holds_pair0 _ t _ fun g k l => (read6 t _ g k l).trans (congrFun (entry321 m c) _)

theorem read7 (t : Fin cfg0.N) (A : FVec Ideal S32x528x128 .f32) (g : Fin 8) (k : Fin 528) (l : Fin 128) :
    ((cfg0.win 7).blk t).view.read (Elt Ideal) A (ix3 g k l) = A (ix3 ⟨8 * (t.val / 2) + (g : ℕ), by have := N_lt t; omega⟩ k l) := by
  blk_point [idx t]

theorem holds7 (t : Fin cfg0.N) : Holds ((H m c).2) 0 t (iblk m c 7 t) :=
  holds_pair0 _ t _ fun g k l => (read7 t _ g k l).trans (congrFun (entry326 m c) _)

theorem read8 (t : Fin cfg0.N) (A : FVec Ideal S32x528x128 .f32) (g : Fin 8) (k : Fin 528) (l : Fin 128) :
    ((cfg0.win 8).blk t).view.read (Elt Ideal) A (ix3 g k l) = A (ix3 ⟨8 * (t.val / 2) + (g : ℕ), by have := N_lt t; omega⟩ k l) := by
  blk_point [idx t]

theorem holds8 (t : Fin cfg0.N) : Holds ((H m c).1) 1 t (iblk m c 8 t) :=
  holds_pair1 _ t _ fun g k l => (read8 t _ g k l).trans (congrFun (entry331 m c) _)

theorem read9 (t : Fin cfg0.N) (A : FVec Ideal S32x528x128 .f32) (g : Fin 8) (k : Fin 528) (l : Fin 128) :
    ((cfg0.win 9).blk t).view.read (Elt Ideal) A (ix3 g k l) = A (ix3 ⟨8 * (t.val / 2) + (g : ℕ), by have := N_lt t; omega⟩ k l) := by
  blk_point [idx t]

theorem holds9 (t : Fin cfg0.N) : Holds ((H m c).2) 1 t (iblk m c 9 t) :=
  holds_pair1 _ t _ fun g k l => (read9 t _ g k l).trans (congrFun (entry336 m c) _)

theorem read1 (t : Fin cfg0.N) (A : FVec Ideal S8x512x2048 .bf16) (k : Fin 512) (p : Fin 2048) :
    ((cfg0.win 1).blk t).view.read (Elt Ideal) A (ix3 0 k p) = A (ix3 ⟨t.val, N_lt t⟩ k p) := by
  blk_point [idx t]

theorem read0 (t : Fin cfg0.N) (A : FVec Ideal S8x528x2048 .bf16) (k : Fin 528) (p : Fin 2048) :
    ((cfg0.win 0).blk t).view.read (Elt Ideal) A (ix3 0 k p) = A (ix3 ⟨t.val, N_lt t⟩ k p) := by
  blk_point [idx t]

theorem rowsY (t : Fin cfg0.N) : HoldsRows (Dy m c) t fun k p => (iblk m c 1 t : Vec Ideal S1x512x2048 .bf16) (ix3 0 k p) := fun g k p q hp =>
  ((read1 t _ k p).trans (congrFun (entry340 m c) _)).trans (gradRows_at _ _ _ _
    (by have := q.isLt; show 16 * (k : ℕ) + (q : ℕ) / 16 = 16 * (k : ℕ) + (p : ℕ) % 256 / 16; omega)
    (by have := q.isLt; show 16 * (8 * t.val + (g : ℕ)) + (q : ℕ) % 16 = 128 * t.val + 16 * ((p : ℕ) / 256) + (p : ℕ) % 16; omega))

theorem rowsU (t : Fin cfg0.N) : HoldsRows (U m c) t fun k p => (iblk m c 0 t : Vec Ideal S1x528x2048 .bf16) (ix3 0 ⟨16 + (k : ℕ), by omega⟩ p) := fun g k p q hp =>
  ((read0 t _ _ p).trans (congrFun (entry296 m c) _)).trans (allRows_at _ _ _ _ _ (by show 16 ≤ 16 + (k : ℕ); omega)
    (by have := q.isLt; show 16 * (k : ℕ) + (q : ℕ) / 16 = 16 * (16 + (k : ℕ) - 16) + (p : ℕ) % 256 / 16; omega)
    (by have := q.isLt; show 16 * (8 * t.val + (g : ℕ)) + (q : ℕ) % 16 = 128 * t.val + 16 * ((p : ℕ) / 256) + (p : ℕ) % 16; omega))

end Cert.Kernel10Ideal.Opg
-- ==== Proof.OpgOut.lean ====
/-
What a grid point leaves in its three blocks.
-/
module

public import proofs.«01_k».proof.Proof.OpgHost
public import proofs.«01_k».proof.Proof.OpgTiles
public import proofs.«01_k».proof.Proof.OpgRow
public import proofs.«01_k».proof.Proof.OpgPieces
public import Idealize.ShloMosaic.Lib.Pipeline.ValueKit
public import Idealize.ShloMosaic.Lib.WholeRead

@[expose] public section

set_option maxRecDepth 16384

noncomputable section

open Idealize.ShloMosaic Idealize.ShloMosaic.TcCoe Idealize.SL.Sem
open Idealize.ShloMosaic.Pipeline (Dat)

namespace Cert.Kernel10Ideal.Opg

open Cert.Kernel10Ideal Cert.Kernel10Ideal.Gen

open Cert.Kernel10Ideal.Gen

variable {u dy : FVec Ideal S8192x1024 .f32} {hh : Chunks × Chunks} {dr di : Chunks} {t : Fin cfg0.N}
  {X : Vec Ideal S1x528x2048 .bf16} {Y : Vec Ideal S1x512x2048 .bf16} {T2 T3 T4 T5 T6 T7 T8 T9 : Vec Ideal S8x528x128 .f32}

set_option maxHeartbeats 1600000 in
theorem near_block (hX : HoldsRows u t fun k p => X (ix3 0 ⟨16 + (k : ℕ), by omega⟩ p)) (hY : HoldsRows dy t fun k p => Y (ix3 0 k p))
    (y : S8x256x256.Idx) (j : S64x256x256.Idx) (j0 : (j 0 : ℕ) = 8 * t.val + y 0) (j1 : (j 1 : ℕ) = y 1) (j2 : (j 2 : ℕ) = y 2) :
    out0_10 (F := Ideal) (grid0.coords t) X Y T2 T3 T4 T5 T6 T7 T8 T9 y = nearGrad u dy j := by
  unfold out0_10
  canon_tiles x h using View.cover_of_tiledBy _ ![1, 256, 256] (by sl_kernel_rfl) _
  case piece0 => exact near_piece hX hY 7 1792 rfl _ _ x j (by show _ = 8 * t.val + 7; omega) (by omega) (by omega)
  case piece1 => exact near_piece hX hY 6 1536 rfl _ _ x j (by show _ = 8 * t.val + 6; omega) (by omega) (by omega)
  case piece2 => exact near_piece hX hY 5 1280 rfl _ _ x j (by show _ = 8 * t.val + 5; omega) (by omega) (by omega)
  case piece3 => exact near_piece hX hY 4 1024 rfl _ _ x j (by show _ = 8 * t.val + 4; omega) (by omega) (by omega)
  case piece4 => exact near_piece hX hY 3 768 rfl _ _ x j (by show _ = 8 * t.val + 3; omega) (by omega) (by omega)
  case piece5 => exact near_piece hX hY 2 512 rfl _ _ x j (by show _ = 8 * t.val + 2; omega) (by omega) (by omega)
  case piece6 => exact near_piece hX hY 1 256 rfl _ _ x j (by show _ = 8 * t.val + 1; omega) (by omega) (by omega)
  case piece7 => exact near_piece hX hY 0 0 rfl _ _ x j (by show _ = 8 * t.val + 0; omega) (by omega) (by omega)

set_option maxHeartbeats 1600000 in
theorem read_block (hY : HoldsRows dy t fun k p => Y (ix3 0 k p)) (h6 : Holds hh.1 0 t T6) (h7 : Holds hh.2 0 t T7) (h8 : Holds hh.1 1 t T8) (h9 : Holds hh.2 1 t T9)
    (y : S8x256x256.Idx) (j : S64x256x256.Idx) (j0 : (j 0 : ℕ) = 8 * t.val + y 0) (j1 : (j 1 : ℕ) = y 1) (j2 : (j 2 : ℕ) = y 2) :
    out0_11 (F := Ideal) (grid0.coords t) X Y T2 T3 T4 T5 T6 T7 T8 T9 y = readGrad hh dy j := by
  unfold out0_11
  canon_tiles x h using View.cover_of_tiledBy _ ![1, 256, 256] (by sl_kernel_rfl) _
  case piece0 => exact read_piece hY h6 h7 h8 h9 7 1792 7 rfl rfl _ _ _ _ _ x j (by show _ = 8 * t.val + 7; omega) (by omega) (by omega)
  case piece1 => exact read_piece hY h6 h7 h8 h9 6 1536 6 rfl rfl _ _ _ _ _ x j (by show _ = 8 * t.val + 6; omega) (by omega) (by omega)
  case piece2 => exact read_piece hY h6 h7 h8 h9 5 1280 5 rfl rfl _ _ _ _ _ x j (by show _ = 8 * t.val + 5; omega) (by omega) (by omega)
  case piece3 => exact read_piece hY h6 h7 h8 h9 4 1024 4 rfl rfl _ _ _ _ _ x j (by show _ = 8 * t.val + 4; omega) (by omega) (by omega)
  case piece4 => exact read_piece hY h6 h7 h8 h9 3 768 3 rfl rfl _ _ _ _ _ x j (by show _ = 8 * t.val + 3; omega) (by omega) (by omega)
  case piece5 => exact read_piece hY h6 h7 h8 h9 2 512 2 rfl rfl _ _ _ _ _ x j (by show _ = 8 * t.val + 2; omega) (by omega) (by omega)
  case piece6 => exact read_piece hY h6 h7 h8 h9 1 256 1 rfl rfl _ _ _ _ _ x j (by show _ = 8 * t.val + 1; omega) (by omega) (by omega)
  case piece7 => exact read_piece hY h6 h7 h8 h9 0 0 0 rfl rfl _ _ _ _ _ x j (by show _ = 8 * t.val + 0; omega) (by omega) (by omega)

theorem decay_out (i : grid0.Coords) : out0_12 (F := Ideal) i X Y T2 T3 T4 T5 T6 T7 T8 T9 = View.canon [⟨r0_40, rows (halfOf i) T2 T3 T4 T5 T6 T7 T8 T9⟩] := by
  sl_kernel_rfl

theorem decay_block (h2 : Holds dr 0 t T2) (h3 : Holds di 0 t T3) (h4 : Holds dr 1 t T4) (h5 : Holds di 1 t T5)
    (h6 : Holds hh.1 0 t T6) (h7 : Holds hh.2 0 t T7) (h8 : Holds hh.1 1 t T8) (h9 : Holds hh.2 1 t T9) (y : S8x256.Idx) (j : S64x256.Idx)
    (j0 : (j 0 : ℕ) = 8 * t.val + y 0) (j1 : (j 1 : ℕ) = y 1) : out0_12 (F := Ideal) (grid0.coords t) X Y T2 T3 T4 T5 T6 T7 T8 T9 y = decayGrad hh dr di j := by
  rw [decay_out]
  canon_tiles x h using View.cover_of_tiledBy _ ![8, 256] (by sl_kernel_rfl) _
  all_goals exact rows_at h2 h3 h4 h5 h6 h7 h8 h9 x j (by omega) (by omega)

end Cert.Kernel10Ideal.Opg
-- ==== Proof.OpgRef.lean ====
/-
The reference's states and results: the states at the start of every chunk joined by doubling, and the three gradients as functions of the arguments.
-/
module

public import proofs.«01_k».proof.Proof.OpgStates
public import proofs.«01_k».proof.Proof.OpgPairs
public import proofs.«01_k».proof.Proof.Gen.Reference10Ideal.Run

@[expose] public section

set_option maxRecDepth 16384

noncomputable section

open Idealize.ShloMosaic Idealize.ShloMosaic.TcCoe Idealize.SL.Sem

namespace Cert.Reference10Ideal.Opg

open Cert.Reference10Ideal Cert.Reference10Ideal.Gen Cert.Reference10Ideal.Value
open Cert.Kernel10Ideal.Opg (Stretch Chunks own on joined byChunk before)

variable (V0 : Valuation τ sig (Elt Ideal))

theorem start : (⟨res_main_v32 V0, res_main_v36 V0, res_main_v14 V0, res_main_v28 V0⟩ : Stretch) = own (V0 main_arg2) (V0 main_arg3) (V0 main_arg4) := rfl

theorem level0 : (⟨res_main_v47 V0, res_main_v50 V0, res_main_v54 V0, res_main_v58 V0⟩ : Stretch)
    = on 1 527 Cert.Kernel10Ideal.Gen.slices_S528x64x2x64_S527x64x2x64_0_0_0_0 Cert.Kernel10Ideal.Gen.pads_S527x64x2x64_S528x64x2x64_100_000_000_000 ⟨res_main_v32 V0, res_main_v36 V0, res_main_v14 V0, res_main_v28 V0⟩ := rfl

theorem level1 : (⟨res_main_v69 V0, res_main_v72 V0, res_main_v76 V0, res_main_v80 V0⟩ : Stretch)
    = on 2 526 Cert.Kernel10Ideal.Gen.slices_S528x64x2x64_S526x64x2x64_0_0_0_0 Cert.Kernel10Ideal.Gen.pads_S526x64x2x64_S528x64x2x64_200_000_000_000 ⟨res_main_v47 V0, res_main_v50 V0, res_main_v54 V0, res_main_v58 V0⟩ := rfl

theorem level2 : (⟨res_main_v91 V0, res_main_v94 V0, res_main_v98 V0, res_main_v102 V0⟩ : Stretch)
    = on 4 524 Cert.Kernel10Ideal.Gen.slices_S528x64x2x64_S524x64x2x64_0_0_0_0 Cert.Kernel10Ideal.Gen.pads_S524x64x2x64_S528x64x2x64_400_000_000_000 ⟨res_main_v69 V0, res_main_v72 V0, res_main_v76 V0, res_main_v80 V0⟩ := rfl

theorem level3 : (⟨res_main_v113 V0, res_main_v116 V0, res_main_v120 V0, res_main_v124 V0⟩ : Stretch)
    = on 8 520 Cert.Kernel10Ideal.Gen.slices_S528x64x2x64_S520x64x2x64_0_0_0_0 Cert.Kernel10Ideal.Gen.pads_S520x64x2x64_S528x64x2x64_800_000_000_000 ⟨res_main_v91 V0, res_main_v94 V0, res_main_v98 V0, res_main_v102 V0⟩ := rfl

theorem level4 : (⟨res_main_v135 V0, res_main_v138 V0, res_main_v142 V0, res_main_v146 V0⟩ : Stretch)
    = on 16 512 Cert.Kernel10Ideal.Gen.slices_S528x64x2x64_S512x64x2x64_0_0_0_0 Cert.Kernel10Ideal.Gen.pads_S512x64x2x64_S528x64x2x64_1600_000_000_000 ⟨res_main_v113 V0, res_main_v116 V0, res_main_v120 V0, res_main_v124 V0⟩ := rfl

theorem level5 : (⟨res_main_v157 V0, res_main_v160 V0, res_main_v164 V0, res_main_v168 V0⟩ : Stretch)
    = on 32 496 Cert.Kernel10Ideal.Gen.slices_S528x64x2x64_S496x64x2x64_0_0_0_0 Cert.Kernel10Ideal.Gen.pads_S496x64x2x64_S528x64x2x64_3200_000_000_000 ⟨res_main_v135 V0, res_main_v138 V0, res_main_v142 V0, res_main_v146 V0⟩ := rfl

theorem level6 : (⟨res_main_v179 V0, res_main_v182 V0, res_main_v186 V0, res_main_v190 V0⟩ : Stretch)
    = on 64 464 Cert.Kernel10Ideal.Gen.slices_S528x64x2x64_S464x64x2x64_0_0_0_0 Cert.Kernel10Ideal.Gen.pads_S464x64x2x64_S528x64x2x64_6400_000_000_000 ⟨res_main_v157 V0, res_main_v160 V0, res_main_v164 V0, res_main_v168 V0⟩ := rfl

theorem level7 : (⟨res_main_v201 V0, res_main_v204 V0, res_main_v208 V0, res_main_v212 V0⟩ : Stretch)
    = on 128 400 Cert.Kernel10Ideal.Gen.slices_S528x64x2x64_S400x64x2x64_0_0_0_0 Cert.Kernel10Ideal.Gen.pads_S400x64x2x64_S528x64x2x64_12800_000_000_000 ⟨res_main_v179 V0, res_main_v182 V0, res_main_v186 V0, res_main_v190 V0⟩ := rfl

theorem level8 : (⟨res_main_v223 V0, res_main_v226 V0, res_main_v230 V0, res_main_v234 V0⟩ : Stretch)
    = on 256 272 Cert.Kernel10Ideal.Gen.slices_S528x64x2x64_S272x64x2x64_0_0_0_0 Cert.Kernel10Ideal.Gen.pads_S272x64x2x64_S528x64x2x64_25600_000_000_000 ⟨res_main_v201 V0, res_main_v204 V0, res_main_v208 V0, res_main_v212 V0⟩ := rfl

/-- The last joining. -/
abbrev ended : Stretch :=
  on 512 16 Cert.Kernel10Ideal.Gen.slices_S528x64x2x64_S16x64x2x64_0_0_0_0 Cert.Kernel10Ideal.Gen.pads_S16x64x2x64_S528x64x2x64_51200_000_000_000 ⟨res_main_v223 V0, res_main_v226 V0, res_main_v230 V0, res_main_v234 V0⟩

theorem ended_eq : ended V0 = joined (own (V0 main_arg2) (V0 main_arg3) (V0 main_arg4)) := by
  unfold ended joined
  rw [level8, level7, level6, level5, level4, level3, level2, level1, level0, start]

theorem real_eq : res_main_v272 V0 = byChunk (ended V0).xr := rfl

theorem imag_eq : res_main_v288 V0 = byChunk (ended V0).xi := rfl

theorem states_eq : res_main_v272 V0 = (before (V0 main_arg2) (V0 main_arg3) (V0 main_arg4)).1
    ∧ res_main_v288 V0 = (before (V0 main_arg2) (V0 main_arg3) (V0 main_arg4)).2 :=
  ⟨(real_eq V0).trans (congrArg (fun q : Stretch => byChunk q.xr) (ended_eq V0)),
   (imag_eq V0).trans (congrArg (fun q : Stretch => byChunk q.xi) (ended_eq V0))⟩

end Cert.Reference10Ideal.Opg
-- ==== Proof.OpgRefVal.lean ====
/-
The reference's three results, entry by entry.
-/
module

public import proofs.«01_k».proof.Proof.OpgRef
public import proofs.«01_k».proof.Proof.OpgSums

@[expose] public section

set_option maxRecDepth 16384

noncomputable section

open Idealize.ShloMosaic Idealize.ShloMosaic.TcCoe Idealize.SL.Sem

namespace Cert.Reference10Ideal.Opg

open Cert.Reference10Ideal Cert.Reference10Ideal.Gen Cert.Reference10Ideal.Value
open Cert.Kernel10Ideal.Opg (Chunks rowOf nearGrad stateOf readGrad decayGrad)

/-- The rows of every group, chunk by chunk. -/
def rowsOf (u : FVec Ideal S8192x1024 .f32) : FVec Ideal S64x512x256 .f32 :=
  shapeCast S64x512x256 (transpose S64x512x16x16 [2, 0, 1, 3] (shapeCast S512x16x64x16 u shapeCasts_S8192x1024_S512x16x64x16)
    transposes_S512x16x64x16_S64x512x16x16_2_0_1_3) shapeCasts_S64x512x16x16_S64x512x256

theorem rowsOf_at (u : FVec Ideal S8192x1024 .f32) (g : Fin 64) (k : Fin 512) (r : Fin 256) : rowsOf u (ix3 g k r) = rowOf u g k r := by
  have hg := g.isLt
  have hk := k.isLt
  have hr := r.isLt
  pointwise [rowsOf, rowOf]
  refine congrArg u (funext fun a => Fin.ext ?_)
  fin_cases a
  · show _ = 16 * (k : ℕ) + (r : ℕ) / 16; simp <;> omega
  · show _ = 16 * (g : ℕ) + (r : ℕ) % 16; simp <;> omega

/-- The products of the gradient's rows and another array, summed over the chunks, the other array's lanes first. -/
def outerOf (Y X : FVec Ideal S64x512x256 .f32) : FVec Ideal S64x256x256 .f32 :=
  transpose S64x256x256 [0, 2, 1] (Host.dotGeneral dot_S64x512x256_S64x512x256_S64x256x256_1_1_2_2_0_0 none Y X) transposes_S64x256x256_S64x256x256_0_2_1

theorem outerOf_at (Y X : FVec Ideal S64x512x256 .f32) (i : S64x256x256.Idx) :
    outerOf Y X i = ∑ k : Fin 512, Y (ix3 (i 0) k (i 2)) * X (ix3 (i 0) k (i 1)) := by
  pointwise [outerOf]
  try rfl

/-- The states a chunk's readout meets. -/
def metOf (h : Chunks × Chunks) : FVec Ideal S64x512x256 .f32 :=
  extractStridedSlice S64x512x256 ![0, 16, 0] (concatenate S64x528x256 2 [⟨S64x528x128, h.1⟩, ⟨S64x528x128, h.2⟩]
    concatenates_S64x528x128_S64x528x128_S64x528x256_d2) slices_S64x528x256_S64x512x256_0_16_0

theorem metOf_at (h : Chunks × Chunks) (g : Fin 64) (k : Fin 512) (n : Fin 256) : metOf h (ix3 g k n) = stateOf h g ⟨16 + (k : ℕ), by omega⟩ n := by
  obtain ⟨h1, h2⟩ := h
  have hn := n.isLt
  pointwise [metOf, stateOf]
  by_cases c : (n : ℕ) < 128
  · rw [dif_pos c, if_pos c]
    exact congrArg (fun l => h1 (ix3 g _ l)) (Fin.ext (Nat.mod_eq_of_lt c).symm)
  · rw [dif_neg c, if_neg c]
    exact congrArg (fun l => h2 (ix3 g _ l)) (Fin.ext (by show (n : ℕ) - 128 = (n : ℕ) % 128; omega))

theorem near_eq (u dy : FVec Ideal S8192x1024 .f32) (i : S64x256x256.Idx) : outerOf (rowsOf dy) (rowsOf u) i = nearGrad u dy i :=
  (outerOf_at _ _ i).trans (Finset.sum_congr rfl fun k _ => (congrArg₂ (· * ·) (rowsOf_at dy (i 0) k (i 2)) (rowsOf_at u (i 0) k (i 1))).trans (mul_comm _ _))

theorem read_eq (h : Chunks × Chunks) (dy : FVec Ideal S8192x1024 .f32) (i : S64x256x256.Idx) : outerOf (rowsOf dy) (metOf h) i = readGrad h dy i :=
  (outerOf_at _ _ i).trans (Finset.sum_congr rfl fun k _ => (congrArg₂ (· * ·) (rowsOf_at dy (i 0) k (i 2)) (metOf_at h (i 0) k (i 1))).trans (mul_comm _ _))

/-- A product summed over the chunks. -/
def overChunks (x : Chunks) : FVec Ideal S64x128 .f32 :=
  Host.reduceAdd x (constant S_ .f32 0x00000000#32) reducesTo_S64x528x128_S64x128_d1 h_S_

theorem overChunks_at (x : Chunks) (g : Fin 64) (n : Fin 128) : overChunks x (ix2 g n) = ∑ k : Fin 528, x (ix3 g k n) := by
  pointwise [overChunks]

/-- Two such sums added. -/
def twoSums (x y : Chunks) : FVec Ideal S64x128 .f32 :=
  Host.reduceAdd (addf (shapeCast S64x1x128 (overChunks x) shapeCasts_S64x128_S64x1x128) (shapeCast S64x1x128 (overChunks y) shapeCasts_S64x128_S64x1x128))
    (constant S_ .f32 0x00000000#32) reducesTo_S64x1x128_S64x128_d1 h_S_

theorem twoSums_at (x y : Chunks) (g : Fin 64) (n : Fin 128) : twoSums x y (ix2 g n) = ∑ k : Fin 528, (x (ix3 g k n) + y (ix3 g k n)) := by
  have hx := overChunks_at x g n
  have hy := overChunks_at y g n
  rw [Finset.sum_add_distrib, ← hx, ← hy]
  unfold twoSums
  generalize overChunks x = a
  generalize overChunks y = b
  pointwise
  exact Fin.sum_univ_one (M := EReal) _

/-- The gradient of the decays. -/
def decayOf (h : Chunks × Chunks) (dr di : Chunks) : FVec Ideal S64x256 .f32 :=
  addf (pad S64x256 ![0, 128] ![0, 0] ![0, 0] (twoSums (mulf (shapeCast S64x528x128 di shapeCasts_S64x528x128_S64x528x128) h.1) (mulf (Host.negf dr) h.2))
      (constant S_ .f32 0x00000000#32) pads_S64x128_S64x256_000_12800 h_S_)
    (pad S64x256 ![0, 0] ![0, 128] ![0, 0] (twoSums (mulf (shapeCast S64x528x128 di shapeCasts_S64x528x128_S64x528x128) h.2)
      (mulf (shapeCast S64x528x128 dr shapeCasts_S64x528x128_S64x528x128) h.1)) (constant S_ .f32 0x00000000#32) pads_S64x128_S64x256_000_01280 h_S_)

theorem decay_eq (h : Chunks × Chunks) (dr di : Chunks) (i : S64x256.Idx) : decayOf h dr di i = decayGrad h dr di i := by
  obtain ⟨h1, h2⟩ := h
  have hX := twoSums_at (mulf (shapeCast S64x528x128 di shapeCasts_S64x528x128_S64x528x128) h1) (mulf (Host.negf dr) h2)
  have hY := twoSums_at (mulf (shapeCast S64x528x128 di shapeCasts_S64x528x128_S64x528x128) h2) (mulf (shapeCast S64x528x128 dr shapeCasts_S64x528x128_S64x528x128) h1)
  unfold decayOf
  generalize twoSums _ (mulf (Host.negf dr) _) = X at hX ⊢
  generalize twoSums _ (mulf _ _) = Y at hY ⊢
  pointwise at hX
  pointwise at hY
  pointwise [decayGrad]
  have hi1 : (i 1 : ℕ) < 256 := (i 1).isLt
  by_cases c : (i 1 : ℕ) < 128
  · have hn : (⟨(i 1 : ℕ) % 128, Nat.mod_lt _ (by decide)⟩ : Fin 128) = ⟨(i 1 : ℕ), c⟩ := Fin.ext (Nat.mod_eq_of_lt c)
    rw [dif_neg (by omega), dif_pos c, if_pos c, hn, zero_add]
    refine (hY (i 0) ⟨(i 1 : ℕ), c⟩).trans (Finset.sum_congr rfl fun k _ => ?_)
    rw [add_comm, mul_comm, mul_comm (di _)]
  · have hn : (⟨(i 1 : ℕ) % 128, Nat.mod_lt _ (by decide)⟩ : Fin 128) = ⟨(i 1 : ℕ) - 128, by omega⟩ := Fin.ext (by show (i 1 : ℕ) % 128 = (i 1 : ℕ) - 128; omega)
    rw [dif_pos (by omega), dif_neg c, if_neg c, hn, add_zero]
    refine (hX (i 0) ⟨(i 1 : ℕ) - 128, by omega⟩).trans (Finset.sum_congr rfl fun k _ => ?_)
    rw [EReal.neg_mul, mul_comm, mul_comm (dr _), sub_eq_add_neg]

end Cert.Reference10Ideal.Opg
-- ==== Proof.OpgRefRun.lean ====
/-
The reference leaves the three gradients.
-/
module

public import proofs.«01_k».proof.Proof.OpgRefVal
public import Idealize.ShloMosaic.Lib.Pipeline.ValueKit

@[expose] public section

set_option maxRecDepth 16384

noncomputable section

open Idealize.ShloMosaic Idealize.ShloMosaic.TcCoe Idealize.SL.Sem Idealize.ShloMosaic.StableHlo

namespace Cert.Reference10Ideal.Opg

open Cert.Reference10Ideal Cert.Reference10Ideal.Value Cert.Kernel10Ideal.Opg

variable (m' : (ℓ : Loc nD τ sig) → Buf (Elt Ideal) ℓ) (c : Dev nD)

/-- The states, from the launch's arguments. -/
theorem met_eq : res_main_v272 (launchContents m' c) = (before (m' ((c.tc : Thread nD τ).loc main_arg2)) (m' ((c.tc : Thread nD τ).loc main_arg3)) (m' ((c.tc : Thread nD τ).loc main_arg4))).1
    ∧ res_main_v288 (launchContents m' c) = (before (m' ((c.tc : Thread nD τ).loc main_arg2)) (m' ((c.tc : Thread nD τ).loc main_arg3)) (m' ((c.tc : Thread nD τ).loc main_arg4))).2 := states_eq (launchContents m' c)

/-- The reference leaves the three gradients. -/
theorem run_grads (ρ : Dev nD → PrngReg) : θ_run defs (onTc (τ := τ) (main (F := Ideal))) ⟨m', fun _ => 0, ρ⟩ fun r => ∀ c : Dev nD,
    r.2.mem ((c.tc : Thread nD τ).loc main_v301) = nearGrad (m' ((c.tc : Thread nD τ).loc main_arg0)) (m' ((c.tc : Thread nD τ).loc main_arg5))
    ∧ r.2.mem ((c.tc : Thread nD τ).loc main_v299) = readGrad (before (m' ((c.tc : Thread nD τ).loc main_arg2)) (m' ((c.tc : Thread nD τ).loc main_arg3)) (m' ((c.tc : Thread nD τ).loc main_arg4))) (m' ((c.tc : Thread nD τ).loc main_arg5))
    ∧ r.2.mem ((c.tc : Thread nD τ).loc main_v324) = decayGrad (before (m' ((c.tc : Thread nD τ).loc main_arg2)) (m' ((c.tc : Thread nD τ).loc main_arg3)) (m' ((c.tc : Thread nD τ).loc main_arg4))) (m' ((c.tc : Thread nD τ).loc main_arg6)) (m' ((c.tc : Thread nD τ).loc main_arg7))
    ∧ r.2.mem ((c.tc : Thread nD τ).loc main_arg0) = m' ((c.tc : Thread nD τ).loc main_arg0)
    ∧ r.2.mem ((c.tc : Thread nD τ).loc main_arg1) = m' ((c.tc : Thread nD τ).loc main_arg1)
    ∧ r.2.mem ((c.tc : Thread nD τ).loc main_arg2) = m' ((c.tc : Thread nD τ).loc main_arg2)
    ∧ r.2.mem ((c.tc : Thread nD τ).loc main_arg3) = m' ((c.tc : Thread nD τ).loc main_arg3)
    ∧ r.2.mem ((c.tc : Thread nD τ).loc main_arg4) = m' ((c.tc : Thread nD τ).loc main_arg4)
    ∧ r.2.mem ((c.tc : Thread nD τ).loc main_arg5) = m' ((c.tc : Thread nD τ).loc main_arg5)
    ∧ r.2.mem ((c.tc : Thread nD τ).loc main_arg6) = m' ((c.tc : Thread nD τ).loc main_arg6)
    ∧ r.2.mem ((c.tc : Thread nD τ).loc main_arg7) = m' ((c.tc : Thread nD τ).loc main_arg7) := by
  refine (θ_run _ _ _).mono (fun _ h c => ⟨(h c).1.trans ?_, (h c).2.1.trans ?_, (h c).2.2.1.trans ?_, (h c).2.2.2⟩) (Value.run (F := Ideal) m' ρ)
  · exact Eq.trans (b := outerOf (rowsOf (m' ((c.tc : Thread nD τ).loc main_arg5))) (rowsOf (m' ((c.tc : Thread nD τ).loc main_arg0)))) rfl (funext (near_eq _ _))
  · obtain ⟨h1, h2⟩ := met_eq m' c
    generalize res_main_v272 (launchContents m' c) = A at h1 ⊢
    generalize res_main_v288 (launchContents m' c) = B at h2 ⊢
    rw [show before (m' ((c.tc : Thread nD τ).loc main_arg2)) (m' ((c.tc : Thread nD τ).loc main_arg3)) (m' ((c.tc : Thread nD τ).loc main_arg4)) = (A, B) from Prod.ext h1.symm h2.symm]
    exact Eq.trans (b := outerOf (rowsOf (m' ((c.tc : Thread nD τ).loc main_arg5))) (metOf (A, B))) rfl (funext (read_eq (A, B) _))
  · obtain ⟨h1, h2⟩ := met_eq m' c
    generalize res_main_v272 (launchContents m' c) = A at h1 ⊢
    generalize res_main_v288 (launchContents m' c) = B at h2 ⊢
    rw [show before (m' ((c.tc : Thread nD τ).loc main_arg2)) (m' ((c.tc : Thread nD τ).loc main_arg3)) (m' ((c.tc : Thread nD τ).loc main_arg4)) = (A, B) from Prod.ext h1.symm h2.symm]
    exact Eq.trans (b := decayOf (A, B) (m' ((c.tc : Thread nD τ).loc main_arg6)) (m' ((c.tc : Thread nD τ).loc main_arg7))) rfl (funext (decay_eq (A, B) _ _))

end Cert.Reference10Ideal.Opg
-- ==== Proof.OpgValue.lean ====
/-
The kernel's three arrays are the gradients, and so are the reference's.
-/
module

public import proofs.«01_k».proof.Proof.OpgHost
public import proofs.«01_k».proof.Proof.OpgTiles
public import proofs.«01_k».proof.Proof.OpgRow
public import proofs.«01_k».proof.Proof.OpgOut
public import proofs.«01_k».proof.Proof.OpgBlocks
public import proofs.«01_k».proof.Proof.OpgRefRun
public import proofs.«01_k».proof.Proof.Gen.Kernel10Ideal.Value
public import proofs.«01_k».proof.Defs
public import Idealize.ShloMosaic.Lib.Pipeline.ValueKit
public import Idealize.ShloMosaic.Lib.WholeRead

@[expose] public section

set_option maxRecDepth 16384

noncomputable section

open Idealize.ShloMosaic Idealize.ShloMosaic.TcCoe Idealize.SL.Sem
open Idealize.ShloMosaic.Pipeline (Dat)

namespace Cert.Kernel10Ideal.Opg

open Cert.Kernel10Ideal Cert.Kernel10Ideal.Gen

open Cert.Kernel10Ideal.Gen

variable (m : (ℓ : Loc nD τ sig) → Buf (Elt Ideal) ℓ) (c : Dev nD)

set_option maxHeartbeats 800000 in
theorem final10 : (dats m 0 c).arrAt 10 (cfgs 0).N = nearGrad (U m c) (Dy m c) := by
  refine (dats m 0 c).arrAt_eq_of_covers 10 _ (by decide +kernel) fun t hf y => ?_
  have e0 : (((cfg0.win 10).blk t).view.emb y 0).val = 8 * t.val + (y 0).val := by blk_simp; rw [(idx t).2.2.2.2.2.2.2.2.2.2.1]; show t.val * 8 + (y 0).val = _; omega
  have e1 : (((cfg0.win 10).blk t).view.emb y 1).val = (y 1).val := by blk_simp; rw [(idx t).2.2.2.2.2.2.2.2.2.2.1]; show 0 * 256 + (y 1).val = _; omega
  have e2 : (((cfg0.win 10).blk t).view.emb y 2).val = (y 2).val := by blk_simp; rw [(idx t).2.2.2.2.2.2.2.2.2.2.1]; show 0 * 256 + (y 2).val = _; omega
  blk_simp
  rw [after0_10]
  exact near_block (rowsU m c t) (rowsY m c t) y _ e0 e1 e2

set_option maxHeartbeats 800000 in
theorem final11 : (dats m 0 c).arrAt 11 (cfgs 0).N = readGrad (H m c) (Dy m c) := by
  refine (dats m 0 c).arrAt_eq_of_covers 11 _ (by decide +kernel) fun t hf y => ?_
  have e0 : (((cfg0.win 11).blk t).view.emb y 0).val = 8 * t.val + (y 0).val := by blk_simp; rw [(idx t).2.2.2.2.2.2.2.2.2.2.2.1]; show t.val * 8 + (y 0).val = _; omega
  have e1 : (((cfg0.win 11).blk t).view.emb y 1).val = (y 1).val := by blk_simp; rw [(idx t).2.2.2.2.2.2.2.2.2.2.2.1]; show 0 * 256 + (y 1).val = _; omega
  have e2 : (((cfg0.win 11).blk t).view.emb y 2).val = (y 2).val := by blk_simp; rw [(idx t).2.2.2.2.2.2.2.2.2.2.2.1]; show 0 * 256 + (y 2).val = _; omega
  blk_simp
  rw [after0_11]
  exact read_block (rowsY m c t) (holds6 m c t) (holds7 m c t) (holds8 m c t) (holds9 m c t) y _ e0 e1 e2

set_option maxHeartbeats 800000 in
theorem final12 : (dats m 0 c).arrAt 12 (cfgs 0).N = decayGrad (H m c) (Dr m c) (Di m c) := by
  refine (dats m 0 c).arrAt_eq_of_covers 12 _ (by decide +kernel) fun t hf y => ?_
  have e0 : (((cfg0.win 12).blk t).view.emb y 0).val = 8 * t.val + (y 0).val := by blk_simp; rw [(idx t).2.2.2.2.2.2.2.2.2.2.2.2]; show t.val * 8 + (y 0).val = _; omega
  have e1 : (((cfg0.win 12).blk t).view.emb y 1).val = (y 1).val := by blk_simp; rw [(idx t).2.2.2.2.2.2.2.2.2.2.2.2]; show 0 * 256 + (y 1).val = _; omega
  blk_simp
  rw [after0_12]
  exact decay_block (holds2 m c t) (holds3 m c t) (holds4 m c t) (holds5 m c t) (holds6 m c t) (holds7 m c t) (holds8 m c t) (holds9 m c t) y _ e0 e1

end Cert.Kernel10Ideal.Opg

namespace Cert.Proof

/-- The reference runs to its end with its arguments unchanged. -/
theorem frame_ref_opg : Cert.quiescent_Reference10Ideal := fun m ρ _ =>
  (θ_run Cert.Reference10Ideal.defs _ _).mono
    (fun r h => ⟨fun c => (h c).2.2.2, sem_eq_zero_of_no_sems (by decide) r.2⟩)
    (Cert.Reference10Ideal.Value.run (F := Ideal) m ρ)

set_option maxHeartbeats 1600000 in
/-- The three gradients the kernel leaves are the reference's. -/
theorem algebraic_opg : Cert.algebraic_Kernel10Ideal_Reference10Ideal := by
  intro m ρ m' ρ' hpre hagree
  refine ⟨_, _, _, Cert.Kernel10Ideal.Value.run_blocks m ρ, ?_⟩
  refine (θ_run _ _ _).mono (fun _ h c => ⟨(h c).1.trans ?_, (h c).2.1.trans ?_, (h c).2.2.1.trans ?_, (h c).2.2.2⟩)
    (Cert.Reference10Ideal.Opg.run_grads m' ρ')
  all_goals obtain ⟨a0, a1, a2, a3, a4, a5, a6, a7⟩ := hagree c
  · rw [a0, a5]
    exact (Cert.Kernel10Ideal.Opg.final10 m c).symm
  · rw [a2, a3, a4, a5]
    exact (Cert.Kernel10Ideal.Opg.final11 m c).symm
  · rw [a2, a3, a4, a6, a7]
    exact (Cert.Kernel10Ideal.Opg.final12 m c).symm

end Cert.Proof
-- ==== Proof.lean ====
module

public import proofs.«01_k».proof.Defs
public import proofs.«01_k».proof.Proof.CtxValue
public import proofs.«01_k».proof.Proof.Gen.Kernel
public import proofs.«01_k».proof.Proof.Gen.KernelIdeal
public import proofs.«01_k».proof.Proof.Gen.ReferenceIdeal
public import proofs.«01_k».proof.Proof.Gen.KernelIdeal.Value
public import proofs.«01_k».proof.Proof.Gen.ReferenceIdeal.Run
public import proofs.«01_k».proof.Proof.Gen.Kernel.Frame
public import proofs.«01_k».proof.Proof.ScanTrip
public import proofs.«01_k».proof.Proof.ScanBody
public import proofs.«01_k».proof.Proof.ScanRun
public import proofs.«01_k».proof.Proof.ScanFrames
public import proofs.«01_k».proof.Proof.ScanRefRun
public import proofs.«01_k».proof.Proof.ScanRef
public import proofs.«01_k».proof.Proof.ScanStep
public import proofs.«01_k».proof.Proof.ScanValue
public import proofs.«01_k».proof.Proof.Gen.Kernel2
public import proofs.«01_k».proof.Proof.Gen.Kernel2Ideal
public import proofs.«01_k».proof.Proof.Gen.Reference2Ideal
public import proofs.«01_k».proof.Proof.Gen.Reference2Ideal.Run
public import proofs.«01_k».proof.Proof.Gen.Reference2Ideal.Step
public import proofs.«01_k».proof.Proof.DstValue
public import proofs.«01_k».proof.Proof.Gen.Kernel11
public import proofs.«01_k».proof.Proof.Gen.Kernel11Ideal
public import proofs.«01_k».proof.Proof.Gen.Reference11Ideal
public import proofs.«01_k».proof.Proof.Gen.Kernel11Ideal.Value
public import proofs.«01_k».proof.Proof.Gen.Reference11Ideal.Run
public import proofs.«01_k».proof.Proof.Gen.Kernel11.Frame
public import proofs.«01_k».proof.Proof.DuRun
public import proofs.«01_k».proof.Proof.DuFrame
public import proofs.«01_k».proof.Proof.DuPieces
public import proofs.«01_k».proof.Proof.DuValue
public import proofs.«01_k».proof.Proof.DuRef
public import proofs.«01_k».proof.Proof.Gen.Kernel9
public import proofs.«01_k».proof.Proof.Gen.Kernel9Ideal
public import proofs.«01_k».proof.Proof.Gen.Reference9Ideal
public import proofs.«01_k».proof.Proof.Gen.Reference9Ideal.Run
public import proofs.«01_k».proof.Proof.Finite
public import proofs.«01_k».proof.Proof.ModValue
public import proofs.«01_k».proof.Proof.Gen.Kernel8
public import proofs.«01_k».proof.Proof.Gen.Kernel8Ideal
public import proofs.«01_k».proof.Proof.Gen.Reference8Ideal
public import proofs.«01_k».proof.Proof.Gen.Kernel8Ideal.Value
public import proofs.«01_k».proof.Proof.Gen.Reference8Ideal.Run
public import proofs.«01_k».proof.Proof.Gen.Kernel8.Frame
public import proofs.«01_k».proof.Proof.Norm
public import proofs.«01_k».proof.Proof.InValue
public import proofs.«01_k».proof.Proof.Gen.Kernel7
public import proofs.«01_k».proof.Proof.Gen.Kernel7Ideal
public import proofs.«01_k».proof.Proof.Gen.Reference7Ideal
public import proofs.«01_k».proof.Proof.Gen.Kernel7Ideal.Value
public import proofs.«01_k».proof.Proof.Gen.Reference7Ideal.Run
public import proofs.«01_k».proof.Proof.Gen.Kernel7.Frame
public import proofs.«01_k».proof.Proof.Gelu
public import proofs.«01_k».proof.Proof.GluRef
public import proofs.«01_k».proof.Proof.GluValue
public import proofs.«01_k».proof.Proof.Gen.Kernel5
public import proofs.«01_k».proof.Proof.Gen.Kernel5Ideal
public import proofs.«01_k».proof.Proof.Gen.Reference5Ideal
public import proofs.«01_k».proof.Proof.Gen.Kernel5Ideal.Value
public import proofs.«01_k».proof.Proof.Gen.Reference5Ideal.Value
public import proofs.«01_k».proof.Proof.Gen.Kernel5.Frame
public import proofs.«01_k».proof.Proof.StValue
public import proofs.«01_k».proof.Proof.Gen.Kernel12
public import proofs.«01_k».proof.Proof.Gen.Kernel12Ideal
public import proofs.«01_k».proof.Proof.Gen.Reference12Ideal
public import proofs.«01_k».proof.Proof.Gen.Kernel12Ideal.Value
public import proofs.«01_k».proof.Proof.Gen.Reference12Ideal.Run
public import proofs.«01_k».proof.Proof.Gen.Kernel12.Frame
public import proofs.«01_k».proof.Proof.OutRun
public import proofs.«01_k».proof.Proof.OutFrame
public import proofs.«01_k».proof.Proof.OutValue
public import proofs.«01_k».proof.Proof.Gen.Kernel13
public import proofs.«01_k».proof.Proof.Gen.Kernel13Ideal
public import proofs.«01_k».proof.Proof.Gen.Reference13Ideal
public import proofs.«01_k».proof.Proof.Gen.Reference13Ideal.Run
public import proofs.«01_k».proof.Proof.GateRef
public import proofs.«01_k».proof.Proof.GateValue
public import proofs.«01_k».proof.Proof.Gen.Kernel4
public import proofs.«01_k».proof.Proof.Gen.Kernel4Ideal
public import proofs.«01_k».proof.Proof.Gen.Reference4Ideal
public import proofs.«01_k».proof.Proof.Gen.Kernel4Ideal.Value
public import proofs.«01_k».proof.Proof.Gen.Reference4Ideal.Run
public import proofs.«01_k».proof.Proof.Gen.Kernel4.Frame
public import proofs.«01_k».proof.Proof.MergeRef
public import proofs.«01_k».proof.Proof.MergeValue
public import proofs.«01_k».proof.Proof.Gen.Kernel6
public import proofs.«01_k».proof.Proof.Gen.Kernel6Ideal
public import proofs.«01_k».proof.Proof.Gen.Reference6Ideal
public import proofs.«01_k».proof.Proof.Gen.Kernel6Ideal.Value
public import proofs.«01_k».proof.Proof.Gen.Reference6Ideal.Run
public import proofs.«01_k».proof.Proof.Gen.Kernel6.Frame
public import proofs.«01_k».proof.Proof.Hidden
public import proofs.«01_k».proof.Proof.InpValue
public import proofs.«01_k».proof.Proof.Gen.Kernel14
public import proofs.«01_k».proof.Proof.Gen.Kernel14Ideal
public import proofs.«01_k».proof.Proof.Gen.Reference14Ideal
public import proofs.«01_k».proof.Proof.Gen.Kernel14Ideal.Value
public import proofs.«01_k».proof.Proof.Gen.Reference14Ideal.Run
public import proofs.«01_k».proof.Proof.Gen.Kernel14.Frame
public import proofs.«01_k».proof.Proof.IncValue
public import proofs.«01_k».proof.Proof.Gen.Kernel15
public import proofs.«01_k».proof.Proof.Gen.Kernel15Ideal
public import proofs.«01_k».proof.Proof.Gen.Reference15Ideal
public import proofs.«01_k».proof.Proof.Gen.Kernel15Ideal.Value
public import proofs.«01_k».proof.Proof.Gen.Reference15Ideal.Run
public import proofs.«01_k».proof.Proof.Gen.Kernel15.Frame
public import proofs.«01_k».proof.Proof.ModfValue
public import proofs.«01_k».proof.Proof.Gen.Kernel16
public import proofs.«01_k».proof.Proof.Gen.Kernel16Ideal
public import proofs.«01_k».proof.Proof.Gen.Reference16Ideal
public import proofs.«01_k».proof.Proof.Gen.Kernel16Ideal.Value
public import proofs.«01_k».proof.Proof.Gen.Reference16Ideal.Run
public import proofs.«01_k».proof.Proof.Gen.Kernel16.Frame
public import proofs.«01_k».proof.Proof.OpgStates
public import proofs.«01_k».proof.Proof.OpgPairs
public import proofs.«01_k».proof.Proof.OpgSums
public import proofs.«01_k».proof.Proof.OpgHost
public import proofs.«01_k».proof.Proof.OpgTiles
public import proofs.«01_k».proof.Proof.OpgRow
public import proofs.«01_k».proof.Proof.OpgHolds
public import proofs.«01_k».proof.Proof.OpgPieces
public import proofs.«01_k».proof.Proof.OpgBlocks
public import proofs.«01_k».proof.Proof.OpgOut
public import proofs.«01_k».proof.Proof.OpgRef
public import proofs.«01_k».proof.Proof.OpgRefVal
public import proofs.«01_k».proof.Proof.OpgRefRun
public import proofs.«01_k».proof.Proof.OpgValue
public import proofs.«01_k».proof.Proof.Gen.Kernel10
public import proofs.«01_k».proof.Proof.Gen.Kernel10Ideal
public import proofs.«01_k».proof.Proof.Gen.Reference10Ideal
public import proofs.«01_k».proof.Proof.Gen.Kernel10Ideal.Value
public import proofs.«01_k».proof.Proof.Gen.Reference10Ideal.Run
public import proofs.«01_k».proof.Proof.Gen.Kernel10.Frame
public import proofs.«01_k».proof.Proof.Gen.Pre_tame
public import proofs.«01_k».proof.Proof.Gen.Pre_plain
public import proofs.«01_k».proof.Proof.Gen.Pre_smooth
public import proofs.«01_k».proof.Proof.Gen.Pre_gated
public import proofs.«01_k».proof.Proof.Gen.Pre_settled
public import Idealize.ShloMosaic.Adequacy
public import Idealize.ShloMosaic.Init

@[expose] public section

noncomputable section

namespace Cert.Proof

open Idealize.ShloMosaic Idealize.SL.Sem

theorem claim : Cert.Claim := ⟨Cert.Kernel.Gen.facts, Cert.KernelIdeal.Gen.facts, Cert.ReferenceIdeal.Gen.facts, Cert.Kernel2.Gen.facts, Cert.Kernel2Ideal.Gen.facts, Cert.Reference2Ideal.Gen.facts, Cert.Kernel11.Gen.facts, Cert.Kernel11Ideal.Gen.facts, Cert.Reference11Ideal.Gen.facts, Cert.Kernel9.Gen.facts, Cert.Kernel9Ideal.Gen.facts, Cert.Reference9Ideal.Gen.facts, Cert.Kernel8.Gen.facts, Cert.Kernel8Ideal.Gen.facts, Cert.Reference8Ideal.Gen.facts, Cert.Kernel7.Gen.facts, Cert.Kernel7Ideal.Gen.facts, Cert.Reference7Ideal.Gen.facts, Cert.Kernel5.Gen.facts, Cert.Kernel5Ideal.Gen.facts, Cert.Reference5Ideal.Gen.facts, Cert.Kernel12.Gen.facts, Cert.Kernel12Ideal.Gen.facts, Cert.Reference12Ideal.Gen.facts, Cert.Kernel13.Gen.facts, Cert.Kernel13Ideal.Gen.facts, Cert.Reference13Ideal.Gen.facts, Cert.Kernel4.Gen.facts, Cert.Kernel4Ideal.Gen.facts, Cert.Reference4Ideal.Gen.facts, Cert.Kernel6.Gen.facts, Cert.Kernel6Ideal.Gen.facts, Cert.Reference6Ideal.Gen.facts, Cert.Kernel14.Gen.facts, Cert.Kernel14Ideal.Gen.facts, Cert.Reference14Ideal.Gen.facts, Cert.Kernel15.Gen.facts, Cert.Kernel15Ideal.Gen.facts, Cert.Reference15Ideal.Gen.facts, Cert.Kernel16.Gen.facts, Cert.Kernel16Ideal.Gen.facts, Cert.Reference16Ideal.Gen.facts, Cert.Kernel10.Gen.facts, Cert.Kernel10Ideal.Gen.facts, Cert.Reference10Ideal.Gen.facts, Cert.Pre_tame.Gen.facts, Cert.Pre_plain.Gen.facts, Cert.Pre_smooth.Gen.facts, Cert.Pre_gated.Gen.facts, Cert.Pre_settled.Gen.facts,
  fun m ρ _ => Cert.Kernel.Gen.frame m ρ,
  fun m ρ _ => Cert.KernelIdeal.Gen.frame m ρ,
  frame_ref_ctx,
  frame_scan,
  frame_scan_ideal,
  frame_ref_scan,
  fun m ρ _ => Cert.Kernel11.Gen.frame m ρ,
  fun m ρ _ => Cert.Kernel11Ideal.Gen.frame m ρ,
  frame_ref_dst,
  frame_bits_du,
  frame_du,
  frame_ref_du,
  fun m ρ _ => Cert.Kernel8.Gen.frame m ρ,
  fun m ρ _ => Cert.Kernel8Ideal.Gen.frame m ρ,
  fun m ρ _ => Cert.Kernel8Ideal.Gen.frame m ρ,
  frame_ref_mod,
  fun m ρ _ => frame_ref_mod m ρ trivial,
  fun m ρ _ => Cert.Kernel7.Gen.frame m ρ,
  fun m ρ _ => Cert.Kernel7Ideal.Gen.frame m ρ,
  fun m ρ _ => Cert.Kernel7Ideal.Gen.frame m ρ,
  frame_ref_in,
  fun m ρ _ => frame_ref_in m ρ trivial,
  fun m ρ _ => Cert.Kernel5.Gen.frame m ρ,
  fun m ρ _ => Cert.Kernel5Ideal.Gen.frame m ρ,
  fun m ρ _ => Cert.Kernel5Ideal.Gen.frame m ρ,
  fun m ρ _ => Cert.Reference5Ideal.Gen.frame m ρ,
  fun m ρ _ => Cert.Reference5Ideal.Gen.frame m ρ,
  fun m ρ _ => Cert.Kernel12.Gen.frame m ρ,
  fun m ρ _ => Cert.Kernel12Ideal.Gen.frame m ρ,
  frame_ref_st,
  frame_bits_out,
  frame_out,
  frame_ref_out,
  fun m ρ _ => Cert.Kernel4.Gen.frame m ρ,
  fun m ρ _ => Cert.Kernel4Ideal.Gen.frame m ρ,
  fun m ρ _ => Cert.Kernel4Ideal.Gen.frame m ρ,
  frame_ref_ob,
  fun m ρ _ => frame_ref_ob m ρ trivial,
  fun m ρ _ => Cert.Kernel6.Gen.frame m ρ,
  fun m ρ _ => Cert.Kernel6Ideal.Gen.frame m ρ,
  fun m ρ _ => Cert.Kernel6Ideal.Gen.frame m ρ,
  frame_ref_mg,
  fun m ρ _ => frame_ref_mg m ρ trivial,
  fun m ρ _ => Cert.Kernel14.Gen.frame m ρ,
  fun m ρ _ => Cert.Kernel14Ideal.Gen.frame m ρ,
  frame_ref_inp,
  fun m ρ _ => Cert.Kernel15.Gen.frame m ρ,
  fun m ρ _ => Cert.Kernel15Ideal.Gen.frame m ρ,
  frame_ref_inc,
  fun m ρ _ => Cert.Kernel16.Gen.frame m ρ,
  fun m ρ _ => Cert.Kernel16Ideal.Gen.frame m ρ,
  frame_ref_modf,
  fun m ρ _ => Cert.Kernel10.Gen.frame m ρ,
  fun m ρ _ => Cert.Kernel10Ideal.Gen.frame m ρ,
  frame_ref_opg,
  trivial,
  algebraic_ctx,
  trivial,
  algebraic_scan,
  trivial,
  algebraic_dst,
  trivial,
  algebraic_du,
  trivial,
  algebraic_mod,
  trivial,
  algebraic_in,
  ⟨IdealRules.named_const.statement _ _ _ _ _ rfl, IdealRules.named_const.statement _ _ _ _ _ rfl⟩,
  algebraic_glu,
  trivial,
  algebraic_st,
  trivial,
  algebraic_out,
  trivial,
  algebraic_ob,
  trivial,
  algebraic_mg,
  trivial,
  algebraic_inp,
  trivial,
  algebraic_inc,
  trivial,
  algebraic_modf,
  trivial,
  algebraic_opg⟩

end Cert.Proof

end
